-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_conv_norm_finite [hPre_conv_norm_finite : Cert.Pre_conv_norm_finite.Facts] (m : (ℓ : Loc Cert.KernelIdeal.nD Cert.KernelIdeal.τ Cert.KernelIdeal.sig) → Buf (Elt Ideal) ℓ) : Prop :=
  ∀ c : Dev Cert.KernelIdeal.nD,
    (Cert.Pre_conv_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_conv_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_conv_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_conv_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_conv_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_conv_norm_finite [hPre_conv_norm_finite : Cert.Pre_conv_norm_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_conv_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_conv_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_conv_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_conv_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_conv_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_s5_read_finite [hPre_s5_read_finite : Cert.Pre_s5_read_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_s5_read_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_s5_read_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_s5_read_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_s5_read_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_s5_read_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_s5_read_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_s5_read_finite [hPre_s5_read_finite : Cert.Pre_s5_read_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_s5_read_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_s5_read_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_s5_read_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_s5_read_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_s5_read_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_s5_read_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_ffn_act_finite [hPre_ffn_act_finite : Cert.Pre_ffn_act_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ffn_act_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_ffn_act_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_ffn_act_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_ffn_act_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_ffn_act_finite [hPre_ffn_act_finite : Cert.Pre_ffn_act_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ffn_act_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_ffn_act_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_ffn_act_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_ffn_act_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_conv_taps_finite [hPre_conv_taps_finite : Cert.Pre_conv_taps_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_conv_taps_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_conv_taps_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_conv_taps_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_conv_taps_finite [hPre_conv_taps_finite : Cert.Pre_conv_taps_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_conv_taps_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_conv_taps_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_conv_taps_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ffn_in_finite [hPre_ffn_in_finite : Cert.Pre_ffn_in_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ffn_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_ffn_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_ffn_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_ffn_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_ffn_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_ffn_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.1 = (fun _ => 1#1)
    ∧ (Cert.Pre_ffn_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ffn_in_finite [hPre_ffn_in_finite : Cert.Pre_ffn_in_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ffn_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_ffn_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_ffn_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_ffn_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_ffn_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_ffn_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.1 = (fun _ => 1#1)
    ∧ (Cert.Pre_ffn_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_mix_in_finite [hPre_mix_in_finite : Cert.Pre_mix_in_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_mix_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_mix_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_mix_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_mix_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_mix_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 = (fun _ => 1#1)
    ∧ (Cert.Pre_mix_in_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_mix_in_finite [hPre_mix_in_finite : Cert.Pre_mix_in_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_mix_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_mix_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_mix_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_mix_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_mix_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.1 = (fun _ => 1#1)
    ∧ (Cert.Pre_mix_in_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_norm_loss_finite [hPre_norm_loss_finite : Cert.Pre_norm_loss_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_norm_loss_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_norm_loss_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_norm_loss_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_norm_loss_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_norm_loss_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_norm_loss_finite [hPre_norm_loss_finite : Cert.Pre_norm_loss_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_norm_loss_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_norm_loss_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_norm_loss_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_norm_loss_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_norm_loss_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_mix_project_finite [hPre_mix_project_finite : Cert.Pre_mix_project_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_mix_project_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 = (fun _ => 1#1)
    ∧ (Cert.Pre_mix_project_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.1 = (fun _ => 1#1)
    ∧ (Cert.Pre_mix_project_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.1 = (fun _ => 1#1)
    ∧ (Cert.Pre_mix_project_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.1 = (fun _ => 1#1)
    ∧ (Cert.Pre_mix_project_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_mix_project_finite [hPre_mix_project_finite : Cert.Pre_mix_project_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_mix_project_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).1 = (fun _ => 1#1)
    ∧ (Cert.Pre_mix_project_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.1 = (fun _ => 1#1)
    ∧ (Cert.Pre_mix_project_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.1 = (fun _ => 1#1)
    ∧ (Cert.Pre_mix_project_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.1 = (fun _ => 1#1)
    ∧ (Cert.Pre_mix_project_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))).2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_s5_gate_finite [hPre_s5_gate_finite : Cert.Pre_s5_gate_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_s5_gate_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_s5_gate_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_s5_gate_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_s5_gate_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_s5_gate_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_s5_gate_finite [hPre_s5_gate_finite : Cert.Pre_s5_gate_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_s5_gate_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_s5_gate_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_s5_gate_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_s5_gate_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_s5_gate_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_mix_out_up_finite [hPre_mix_out_up_finite : Cert.Pre_mix_out_up_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_mix_out_up_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).1 = (fun _ => 1#1)
    ∧ (Cert.Pre_mix_out_up_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.1 = (fun _ => 1#1)
    ∧ (Cert.Pre_mix_out_up_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.1 = (fun _ => 1#1)
    ∧ (Cert.Pre_mix_out_up_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.1 = (fun _ => 1#1)
    ∧ (Cert.Pre_mix_out_up_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.1 = (fun _ => 1#1)
    ∧ (Cert.Pre_mix_out_up_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.2.1 = (fun _ => 1#1)
    ∧ (Cert.Pre_mix_out_up_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_mix_out_up_finite [hPre_mix_out_up_finite : Cert.Pre_mix_out_up_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_mix_out_up_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).1 = (fun _ => 1#1)
    ∧ (Cert.Pre_mix_out_up_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.1 = (fun _ => 1#1)
    ∧ (Cert.Pre_mix_out_up_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.1 = (fun _ => 1#1)
    ∧ (Cert.Pre_mix_out_up_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.1 = (fun _ => 1#1)
    ∧ (Cert.Pre_mix_out_up_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.1 = (fun _ => 1#1)
    ∧ (Cert.Pre_mix_out_up_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.2.1 = (fun _ => 1#1)
    ∧ (Cert.Pre_mix_out_up_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2.2.2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_conv_module_finite [hPre_conv_module_finite : Cert.Pre_conv_module_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_conv_module_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_conv_module_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_conv_module_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.1 = (fun _ => 1#1)
    ∧ (Cert.Pre_conv_module_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2.1 = (fun _ => 1#1)
    ∧ (Cert.Pre_conv_module_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_conv_module_finite [hPre_conv_module_finite : Cert.Pre_conv_module_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_conv_module_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_conv_module_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_conv_module_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.1 = (fun _ => 1#1)
    ∧ (Cert.Pre_conv_module_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2.1 = (fun _ => 1#1)
    ∧ (Cert.Pre_conv_module_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_norm_up_finite [hPre_norm_up_finite : Cert.Pre_norm_up_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_norm_up_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_norm_up_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_norm_up_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.1 = (fun _ => 1#1)
    ∧ (Cert.Pre_norm_up_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_norm_up_finite [hPre_norm_up_finite : Cert.Pre_norm_up_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_norm_up_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_norm_up_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_norm_up_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.1 = (fun _ => 1#1)
    ∧ (Cert.Pre_norm_up_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_conv_norm_finite [hKernelIdeal : Cert.KernelIdeal.Facts] [hPre_conv_norm_finite : Cert.Pre_conv_norm_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conv_norm_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_conv_norm_finite [hReferenceIdeal : Cert.ReferenceIdeal.Facts] [hPre_conv_norm_finite : Cert.Pre_conv_norm_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_conv_norm_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_s5_read_finite [hKernel2Ideal : Cert.Kernel2Ideal.Facts] [hPre_s5_read_finite : Cert.Pre_s5_read_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_s5_read_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_s5_read_finite [hReference2Ideal : Cert.Reference2Ideal.Facts] [hPre_s5_read_finite : Cert.Pre_s5_read_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_s5_read_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_ffn_act_finite [hKernel3Ideal : Cert.Kernel3Ideal.Facts] [hPre_ffn_act_finite : Cert.Pre_ffn_act_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_ffn_act_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_ffn_act_finite [hReference3Ideal : Cert.Reference3Ideal.Facts] [hPre_ffn_act_finite : Cert.Pre_ffn_act_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_ffn_act_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_conv_taps_finite [hKernel4Ideal : Cert.Kernel4Ideal.Facts] [hPre_conv_taps_finite : Cert.Pre_conv_taps_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_conv_taps_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_conv_taps_finite [hReference4Ideal : Cert.Reference4Ideal.Facts] [hPre_conv_taps_finite : Cert.Pre_conv_taps_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_conv_taps_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_ffn_in_finite [hKernel5Ideal : Cert.Kernel5Ideal.Facts] [hPre_ffn_in_finite : Cert.Pre_ffn_in_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ffn_in_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_ffn_in_finite [hReference5Ideal : Cert.Reference5Ideal.Facts] [hPre_ffn_in_finite : Cert.Pre_ffn_in_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ffn_in_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_mix_in_finite [hKernel6Ideal : Cert.Kernel6Ideal.Facts] [hPre_mix_in_finite : Cert.Pre_mix_in_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_mix_in_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_mix_in_finite [hReference6Ideal : Cert.Reference6Ideal.Facts] [hPre_mix_in_finite : Cert.Pre_mix_in_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_mix_in_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_norm_loss_finite [hKernel7Ideal : Cert.Kernel7Ideal.Facts] [hPre_norm_loss_finite : Cert.Pre_norm_loss_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_norm_loss_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_norm_loss_finite [hReference7Ideal : Cert.Reference7Ideal.Facts] [hPre_norm_loss_finite : Cert.Pre_norm_loss_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_norm_loss_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_mix_project_finite [hKernel10Ideal : Cert.Kernel10Ideal.Facts] [hPre_mix_project_finite : Cert.Pre_mix_project_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_mix_project_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_mix_project_finite [hReference10Ideal : Cert.Reference10Ideal.Facts] [hPre_mix_project_finite : Cert.Pre_mix_project_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_mix_project_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_s5_gate_finite [hKernel11Ideal : Cert.Kernel11Ideal.Facts] [hPre_s5_gate_finite : Cert.Pre_s5_gate_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_s5_gate_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_s5_gate_finite [hReference11Ideal : Cert.Reference11Ideal.Facts] [hPre_s5_gate_finite : Cert.Pre_s5_gate_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_s5_gate_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_mix_out_up_finite [hKernel12Ideal : Cert.Kernel12Ideal.Facts] [hPre_mix_out_up_finite : Cert.Pre_mix_out_up_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_mix_out_up_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_mix_out_up_finite [hReference12Ideal : Cert.Reference12Ideal.Facts] [hPre_mix_out_up_finite : Cert.Pre_mix_out_up_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_mix_out_up_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_conv_module_finite [hKernel13Ideal : Cert.Kernel13Ideal.Facts] [hPre_conv_module_finite : Cert.Pre_conv_module_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_conv_module_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_conv_module_finite [hReference13Ideal : Cert.Reference13Ideal.Facts] [hPre_conv_module_finite : Cert.Pre_conv_module_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_conv_module_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_norm_up_finite [hKernel15Ideal : Cert.Kernel15Ideal.Facts] [hPre_norm_up_finite : Cert.Pre_norm_up_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_norm_up_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_norm_up_finite [hReference15Ideal : Cert.Reference15Ideal.Facts] [hPre_norm_up_finite : Cert.Pre_norm_up_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_norm_up_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_conv_norm_finite [hKernelIdeal : Cert.KernelIdeal.Facts] [hReferenceIdeal : Cert.ReferenceIdeal.Facts] [hPre_conv_norm_finite : Cert.Pre_conv_norm_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_conv_norm_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_s5_read_finite [hKernel2Ideal : Cert.Kernel2Ideal.Facts] [hReference2Ideal : Cert.Reference2Ideal.Facts] [hPre_s5_read_finite : Cert.Pre_s5_read_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_s5_read_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v14)) (v1 : (c : Dev Cert.Kernel2Ideal.nD) → Buf (Elt Ideal) ((c.tc : Thread Cert.Kernel2Ideal.nD Cert.Kernel2Ideal.τ).loc Cert.Kernel2Ideal.main_v17)) (v2 : (c : Dev Cert.Kernel2Ideal.nD) → Buf (Elt Ideal) ((c.tc : Thread Cert.Kernel2Ideal.nD Cert.Kernel2Ideal.τ).loc Cert.Kernel2Ideal.main_v19)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_v17) = v1 c
          ∧ r.2.mem ((c.tc : Thread Cert.Kernel2Ideal.nD Cert.Kernel2Ideal.τ).loc Cert.Kernel2Ideal.main_v19) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v21) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v62) = v2 c
          ∧ r.2.mem ((c.tc : Thread Cert.Reference2Ideal.nD Cert.Reference2Ideal.τ).loc Cert.Reference2Ideal.main_v43) = v3 c
          ∧ r.2.mem ((c.tc : Thread Cert.Reference2Ideal.nD Cert.Reference2Ideal.τ).loc Cert.Reference2Ideal.main_v41) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_ffn_act_finite [hKernel3Ideal : Cert.Kernel3Ideal.Facts] [hReference3Ideal : Cert.Reference3Ideal.Facts] [hPre_ffn_act_finite : Cert.Pre_ffn_act_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_ffn_act_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10)) (v1 : (c : Dev Cert.Kernel3Ideal.nD) → Buf (Elt Ideal) ((c.tc : Thread Cert.Kernel3Ideal.nD Cert.Kernel3Ideal.τ).loc Cert.Kernel3Ideal.main_v11)) (v2 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_v11) = v1 c
          ∧ r.2.mem ((c.tc : Thread Cert.Kernel3Ideal.nD Cert.Kernel3Ideal.τ).loc Cert.Kernel3Ideal.main_v12) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_v12) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_conv_taps_finite [hKernel4Ideal : Cert.Kernel4Ideal.Facts] [hReference4Ideal : Cert.Reference4Ideal.Facts] [hPre_conv_taps_finite : Cert.Pre_conv_taps_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_conv_taps_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v581) = v0 c
          ∧ r.2.mem ((c.tc : Thread Cert.Reference4Ideal.nD Cert.Reference4Ideal.τ).loc Cert.Reference4Ideal.main_v573) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_ffn_in_finite [hKernel5Ideal : Cert.Kernel5Ideal.Facts] [hReference5Ideal : Cert.Reference5Ideal.Facts] [hPre_ffn_in_finite : Cert.Pre_ffn_in_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ffn_in_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_mix_in_finite [hKernel6Ideal : Cert.Kernel6Ideal.Facts] [hReference6Ideal : Cert.Reference6Ideal.Facts] [hPre_mix_in_finite : Cert.Pre_mix_in_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_mix_in_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v3)) (v3 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v3) = v2 c
          ∧ r.2.mem ((c.tc : Thread Cert.Kernel6Ideal.nD Cert.Kernel6Ideal.τ).loc Cert.Kernel6Ideal.main_v4) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v0) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_norm_loss_finite [hKernel7Ideal : Cert.Kernel7Ideal.Facts] [hReference7Ideal : Cert.Reference7Ideal.Facts] [hPre_norm_loss_finite : Cert.Pre_norm_loss_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_norm_loss_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_v36) = v1 c
          ∧ r.2.mem ((c.tc : Thread Cert.Reference7Ideal.nD Cert.Reference7Ideal.τ).loc Cert.Reference7Ideal.main_v27) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v6)) (v3 : (c : Dev Cert.Kernel9Ideal.nD) → Buf (Elt Ideal) ((c.tc : Thread Cert.Kernel9Ideal.nD Cert.Kernel9Ideal.τ).loc Cert.Kernel9Ideal.main_v7)) (v4 : (c : Dev Cert.Kernel9Ideal.nD) → Buf (Elt Ideal) ((c.tc : Thread Cert.Kernel9Ideal.nD Cert.Kernel9Ideal.τ).loc Cert.Kernel9Ideal.main_v8)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v6) = v2 c
          ∧ r.2.mem ((c.tc : Thread Cert.Kernel9Ideal.nD Cert.Kernel9Ideal.τ).loc Cert.Kernel9Ideal.main_v7) = v3 c
          ∧ r.2.mem ((c.tc : Thread Cert.Kernel9Ideal.nD Cert.Kernel9Ideal.τ).loc Cert.Kernel9Ideal.main_v8) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v136) = v0 c
          ∧ r.2.mem ((c.tc : Thread Cert.Reference9Ideal.nD Cert.Reference9Ideal.τ).loc Cert.Reference9Ideal.main_v128) = v1 c
          ∧ r.2.mem ((c.tc : Thread Cert.Reference9Ideal.nD Cert.Reference9Ideal.τ).loc Cert.Reference9Ideal.main_v138) = v2 c
          ∧ r.2.mem ((c.tc : Thread Cert.Reference9Ideal.nD Cert.Reference9Ideal.τ).loc Cert.Reference9Ideal.main_v69) = v3 c
          ∧ r.2.mem ((c.tc : Thread Cert.Reference9Ideal.nD Cert.Reference9Ideal.τ).loc Cert.Reference9Ideal.main_v62) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def preserves_Kernel10_Kernel10Ideal : Prop :=
  True

def algebraic_Kernel10Ideal_Reference10Ideal_pre_mix_project_finite [hKernel10Ideal : Cert.Kernel10Ideal.Facts] [hReference10Ideal : Cert.Reference10Ideal.Facts] [hPre_mix_project_finite : Cert.Pre_mix_project_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_mix_project_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v5)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v5) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_v17) = v2 c
          ∧ r.2.mem ((c.tc : Thread Cert.Reference10Ideal.nD Cert.Reference10Ideal.τ).loc Cert.Reference10Ideal.main_v18) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_s5_gate_finite [hKernel11Ideal : Cert.Kernel11Ideal.Facts] [hReference11Ideal : Cert.Reference11Ideal.Facts] [hPre_s5_gate_finite : Cert.Pre_s5_gate_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_s5_gate_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v11)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v11) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_mix_out_up_finite [hKernel12Ideal : Cert.Kernel12Ideal.Facts] [hReference12Ideal : Cert.Reference12Ideal.Facts] [hPre_mix_out_up_finite : Cert.Pre_mix_out_up_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_mix_out_up_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v8)) (v1 : (c : Dev Cert.Kernel12Ideal.nD) → Buf (Elt Ideal) ((c.tc : Thread Cert.Kernel12Ideal.nD Cert.Kernel12Ideal.τ).loc Cert.Kernel12Ideal.main_v9)) (v2 : (c : Dev Cert.Kernel12Ideal.nD) → Buf (Elt Ideal) ((c.tc : Thread Cert.Kernel12Ideal.nD Cert.Kernel12Ideal.τ).loc Cert.Kernel12Ideal.main_v10)) (v3 : (c : Dev Cert.Kernel12Ideal.nD) → Buf (Elt Ideal) ((c.tc : Thread Cert.Kernel12Ideal.nD Cert.Kernel12Ideal.τ).loc Cert.Kernel12Ideal.main_v11)) (v4 : (c : Dev Cert.Kernel12Ideal.nD) → Buf (Elt Ideal) ((c.tc : Thread Cert.Kernel12Ideal.nD Cert.Kernel12Ideal.τ).loc Cert.Kernel12Ideal.main_v7_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_v9) = v1 c
          ∧ r.2.mem ((c.tc : Thread Cert.Kernel12Ideal.nD Cert.Kernel12Ideal.τ).loc Cert.Kernel12Ideal.main_v10) = v2 c
          ∧ r.2.mem ((c.tc : Thread Cert.Kernel12Ideal.nD Cert.Kernel12Ideal.τ).loc Cert.Kernel12Ideal.main_v11) = v3 c
          ∧ r.2.mem ((c.tc : Thread Cert.Kernel12Ideal.nD Cert.Kernel12Ideal.τ).loc Cert.Kernel12Ideal.main_v7_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_v20) = v2 c
          ∧ r.2.mem ((c.tc : Thread Cert.Reference12Ideal.nD Cert.Reference12Ideal.τ).loc Cert.Reference12Ideal.main_v24) = v3 c
          ∧ r.2.mem ((c.tc : Thread Cert.Reference12Ideal.nD Cert.Reference12Ideal.τ).loc Cert.Reference12Ideal.main_v2) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal_pre_conv_module_finite [hKernel13Ideal : Cert.Kernel13Ideal.Facts] [hReference13Ideal : Cert.Reference13Ideal.Facts] [hPre_conv_module_finite : Cert.Pre_conv_module_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_conv_module_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v13)) (v1 : (c : Dev Cert.Kernel13Ideal.nD) → Buf (Elt Ideal) ((c.tc : Thread Cert.Kernel13Ideal.nD Cert.Kernel13Ideal.τ).loc Cert.Kernel13Ideal.main_v12_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v13) = v0 c
          ∧ r.2.mem ((c.tc : Thread Cert.Kernel13Ideal.nD Cert.Kernel13Ideal.τ).loc Cert.Kernel13Ideal.main_v12_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v255) = v0 c
          ∧ r.2.mem ((c.tc : Thread Cert.Reference13Ideal.nD Cert.Reference13Ideal.τ).loc Cert.Reference13Ideal.main_v257) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v4)) (v3 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v4) = v2 c
          ∧ r.2.mem ((c.tc : Thread Cert.Kernel14Ideal.nD Cert.Kernel14Ideal.τ).loc Cert.Kernel14Ideal.main_v5) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v12) = v1 c
          ∧ r.2.mem ((c.tc : Thread Cert.Reference14Ideal.nD Cert.Reference14Ideal.τ).loc Cert.Reference14Ideal.main_v32) = v2 c
          ∧ r.2.mem ((c.tc : Thread Cert.Reference14Ideal.nD Cert.Reference14Ideal.τ).loc Cert.Reference14Ideal.main_v37) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_norm_up_finite [hKernel15Ideal : Cert.Kernel15Ideal.Facts] [hReference15Ideal : Cert.Reference15Ideal.Facts] [hPre_norm_up_finite : Cert.Pre_norm_up_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_norm_up_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5)) (v1 : (c : Dev Cert.Kernel15Ideal.nD) → Buf (Elt Ideal) ((c.tc : Thread Cert.Kernel15Ideal.nD Cert.Kernel15Ideal.τ).loc Cert.Kernel15Ideal.main_v6)) (v2 : (c : Dev Cert.Kernel15Ideal.nD) → Buf (Elt Ideal) ((c.tc : Thread Cert.Kernel15Ideal.nD Cert.Kernel15Ideal.τ).loc Cert.Kernel15Ideal.main_v7)) (v3 : (c : Dev Cert.Kernel15Ideal.nD) → Buf (Elt Ideal) ((c.tc : Thread Cert.Kernel15Ideal.nD Cert.Kernel15Ideal.τ).loc Cert.Kernel15Ideal.main_v8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_v6) = v1 c
          ∧ r.2.mem ((c.tc : Thread Cert.Kernel15Ideal.nD Cert.Kernel15Ideal.τ).loc Cert.Kernel15Ideal.main_v7) = v2 c
          ∧ r.2.mem ((c.tc : Thread Cert.Kernel15Ideal.nD Cert.Kernel15Ideal.τ).loc Cert.Kernel15Ideal.main_v8) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_v19) = v1 c
          ∧ r.2.mem ((c.tc : Thread Cert.Reference15Ideal.nD Cert.Reference15Ideal.τ).loc Cert.Reference15Ideal.main_v17) = v2 c
          ∧ r.2.mem ((c.tc : Thread Cert.Reference15Ideal.nD Cert.Reference15Ideal.τ).loc Cert.Reference15Ideal.main_v21) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v3) = v1 c
          ∧ r.2.mem ((c.tc : Thread Cert.Reference17Ideal.nD Cert.Reference17Ideal.τ).loc Cert.Reference17Ideal.main_arg0) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hKernel20 : Cert.Kernel20.Facts) (hKernel20Ideal : Cert.Kernel20Ideal.Facts) (hReference20Ideal : Cert.Reference20Ideal.Facts) (hPre_conv_norm_finite : Cert.Pre_conv_norm_finite.Facts) (hPre_s5_read_finite : Cert.Pre_s5_read_finite.Facts) (hPre_ffn_act_finite : Cert.Pre_ffn_act_finite.Facts) (hPre_conv_taps_finite : Cert.Pre_conv_taps_finite.Facts) (hPre_ffn_in_finite : Cert.Pre_ffn_in_finite.Facts) (hPre_mix_in_finite : Cert.Pre_mix_in_finite.Facts) (hPre_norm_loss_finite : Cert.Pre_norm_loss_finite.Facts) (hPre_mix_project_finite : Cert.Pre_mix_project_finite.Facts) (hPre_s5_gate_finite : Cert.Pre_s5_gate_finite.Facts) (hPre_mix_out_up_finite : Cert.Pre_mix_out_up_finite.Facts) (hPre_conv_module_finite : Cert.Pre_conv_module_finite.Facts) (hPre_norm_up_finite : Cert.Pre_norm_up_finite.Facts),
    quiescent_Kernel (hKernel := hKernel)
    ∧ quiescent_KernelIdeal (hKernelIdeal := hKernelIdeal)
    ∧ quiescent_KernelIdeal_pre_conv_norm_finite (hKernelIdeal := hKernelIdeal) (hPre_conv_norm_finite := hPre_conv_norm_finite)
    ∧ quiescent_ReferenceIdeal (hReferenceIdeal := hReferenceIdeal)
    ∧ quiescent_ReferenceIdeal_pre_conv_norm_finite (hReferenceIdeal := hReferenceIdeal) (hPre_conv_norm_finite := hPre_conv_norm_finite)
    ∧ quiescent_Kernel2 (hKernel2 := hKernel2)
    ∧ quiescent_Kernel2Ideal (hKernel2Ideal := hKernel2Ideal)
    ∧ quiescent_Kernel2Ideal_pre_s5_read_finite (hKernel2Ideal := hKernel2Ideal) (hPre_s5_read_finite := hPre_s5_read_finite)
    ∧ quiescent_Reference2Ideal (hReference2Ideal := hReference2Ideal)
    ∧ quiescent_Reference2Ideal_pre_s5_read_finite (hReference2Ideal := hReference2Ideal) (hPre_s5_read_finite := hPre_s5_read_finite)
    ∧ quiescent_Kernel3 (hKernel3 := hKernel3)
    ∧ quiescent_Kernel3Ideal (hKernel3Ideal := hKernel3Ideal)
    ∧ quiescent_Kernel3Ideal_pre_ffn_act_finite (hKernel3Ideal := hKernel3Ideal) (hPre_ffn_act_finite := hPre_ffn_act_finite)
    ∧ quiescent_Reference3Ideal (hReference3Ideal := hReference3Ideal)
    ∧ quiescent_Reference3Ideal_pre_ffn_act_finite (hReference3Ideal := hReference3Ideal) (hPre_ffn_act_finite := hPre_ffn_act_finite)
    ∧ quiescent_Kernel4 (hKernel4 := hKernel4)
    ∧ quiescent_Kernel4Ideal (hKernel4Ideal := hKernel4Ideal)
    ∧ quiescent_Kernel4Ideal_pre_conv_taps_finite (hKernel4Ideal := hKernel4Ideal) (hPre_conv_taps_finite := hPre_conv_taps_finite)
    ∧ quiescent_Reference4Ideal (hReference4Ideal := hReference4Ideal)
    ∧ quiescent_Reference4Ideal_pre_conv_taps_finite (hReference4Ideal := hReference4Ideal) (hPre_conv_taps_finite := hPre_conv_taps_finite)
    ∧ quiescent_Kernel5 (hKernel5 := hKernel5)
    ∧ quiescent_Kernel5Ideal (hKernel5Ideal := hKernel5Ideal)
    ∧ quiescent_Kernel5Ideal_pre_ffn_in_finite (hKernel5Ideal := hKernel5Ideal) (hPre_ffn_in_finite := hPre_ffn_in_finite)
    ∧ quiescent_Reference5Ideal (hReference5Ideal := hReference5Ideal)
    ∧ quiescent_Reference5Ideal_pre_ffn_in_finite (hReference5Ideal := hReference5Ideal) (hPre_ffn_in_finite := hPre_ffn_in_finite)
    ∧ quiescent_Kernel6 (hKernel6 := hKernel6)
    ∧ quiescent_Kernel6Ideal (hKernel6Ideal := hKernel6Ideal)
    ∧ quiescent_Kernel6Ideal_pre_mix_in_finite (hKernel6Ideal := hKernel6Ideal) (hPre_mix_in_finite := hPre_mix_in_finite)
    ∧ quiescent_Reference6Ideal (hReference6Ideal := hReference6Ideal)
    ∧ quiescent_Reference6Ideal_pre_mix_in_finite (hReference6Ideal := hReference6Ideal) (hPre_mix_in_finite := hPre_mix_in_finite)
    ∧ quiescent_Kernel7 (hKernel7 := hKernel7)
    ∧ quiescent_Kernel7Ideal (hKernel7Ideal := hKernel7Ideal)
    ∧ quiescent_Kernel7Ideal_pre_norm_loss_finite (hKernel7Ideal := hKernel7Ideal) (hPre_norm_loss_finite := hPre_norm_loss_finite)
    ∧ quiescent_Reference7Ideal (hReference7Ideal := hReference7Ideal)
    ∧ quiescent_Reference7Ideal_pre_norm_loss_finite (hReference7Ideal := hReference7Ideal) (hPre_norm_loss_finite := hPre_norm_loss_finite)
    ∧ quiescent_Kernel8 (hKernel8 := hKernel8)
    ∧ quiescent_Kernel8Ideal (hKernel8Ideal := hKernel8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_mix_project_finite (hKernel10Ideal := hKernel10Ideal) (hPre_mix_project_finite := hPre_mix_project_finite)
    ∧ quiescent_Reference10Ideal (hReference10Ideal := hReference10Ideal)
    ∧ quiescent_Reference10Ideal_pre_mix_project_finite (hReference10Ideal := hReference10Ideal) (hPre_mix_project_finite := hPre_mix_project_finite)
    ∧ quiescent_Kernel11 (hKernel11 := hKernel11)
    ∧ quiescent_Kernel11Ideal (hKernel11Ideal := hKernel11Ideal)
    ∧ quiescent_Kernel11Ideal_pre_s5_gate_finite (hKernel11Ideal := hKernel11Ideal) (hPre_s5_gate_finite := hPre_s5_gate_finite)
    ∧ quiescent_Reference11Ideal (hReference11Ideal := hReference11Ideal)
    ∧ quiescent_Reference11Ideal_pre_s5_gate_finite (hReference11Ideal := hReference11Ideal) (hPre_s5_gate_finite := hPre_s5_gate_finite)
    ∧ quiescent_Kernel12 (hKernel12 := hKernel12)
    ∧ quiescent_Kernel12Ideal (hKernel12Ideal := hKernel12Ideal)
    ∧ quiescent_Kernel12Ideal_pre_mix_out_up_finite (hKernel12Ideal := hKernel12Ideal) (hPre_mix_out_up_finite := hPre_mix_out_up_finite)
    ∧ quiescent_Reference12Ideal (hReference12Ideal := hReference12Ideal)
    ∧ quiescent_Reference12Ideal_pre_mix_out_up_finite (hReference12Ideal := hReference12Ideal) (hPre_mix_out_up_finite := hPre_mix_out_up_finite)
    ∧ quiescent_Kernel13 (hKernel13 := hKernel13)
    ∧ quiescent_Kernel13Ideal (hKernel13Ideal := hKernel13Ideal)
    ∧ quiescent_Kernel13Ideal_pre_conv_module_finite (hKernel13Ideal := hKernel13Ideal) (hPre_conv_module_finite := hPre_conv_module_finite)
    ∧ quiescent_Reference13Ideal (hReference13Ideal := hReference13Ideal)
    ∧ quiescent_Reference13Ideal_pre_conv_module_finite (hReference13Ideal := hReference13Ideal) (hPre_conv_module_finite := hPre_conv_module_finite)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_norm_up_finite (hKernel15Ideal := hKernel15Ideal) (hPre_norm_up_finite := hPre_norm_up_finite)
    ∧ quiescent_Reference15Ideal (hReference15Ideal := hReference15Ideal)
    ∧ quiescent_Reference15Ideal_pre_norm_up_finite (hReference15Ideal := hReference15Ideal) (hPre_norm_up_finite := hPre_norm_up_finite)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_conv_norm_finite (hKernelIdeal := hKernelIdeal) (hReferenceIdeal := hReferenceIdeal) (hPre_conv_norm_finite := hPre_conv_norm_finite)
    ∧ preserves_Kernel2_Kernel2Ideal
    ∧ algebraic_Kernel2Ideal_Reference2Ideal_pre_s5_read_finite (hKernel2Ideal := hKernel2Ideal) (hReference2Ideal := hReference2Ideal) (hPre_s5_read_finite := hPre_s5_read_finite)
    ∧ preserves_Kernel3_Kernel3Ideal
    ∧ algebraic_Kernel3Ideal_Reference3Ideal_pre_ffn_act_finite (hKernel3Ideal := hKernel3Ideal) (hReference3Ideal := hReference3Ideal) (hPre_ffn_act_finite := hPre_ffn_act_finite)
    ∧ preserves_Kernel4_Kernel4Ideal
    ∧ algebraic_Kernel4Ideal_Reference4Ideal_pre_conv_taps_finite (hKernel4Ideal := hKernel4Ideal) (hReference4Ideal := hReference4Ideal) (hPre_conv_taps_finite := hPre_conv_taps_finite)
    ∧ preserves_Kernel5_Kernel5Ideal
    ∧ algebraic_Kernel5Ideal_Reference5Ideal_pre_ffn_in_finite (hKernel5Ideal := hKernel5Ideal) (hReference5Ideal := hReference5Ideal) (hPre_ffn_in_finite := hPre_ffn_in_finite)
    ∧ preserves_Kernel6_Kernel6Ideal
    ∧ algebraic_Kernel6Ideal_Reference6Ideal_pre_mix_in_finite (hKernel6Ideal := hKernel6Ideal) (hReference6Ideal := hReference6Ideal) (hPre_mix_in_finite := hPre_mix_in_finite)
    ∧ preserves_Kernel7_Kernel7Ideal
    ∧ algebraic_Kernel7Ideal_Reference7Ideal_pre_norm_loss_finite (hKernel7Ideal := hKernel7Ideal) (hReference7Ideal := hReference7Ideal) (hPre_norm_loss_finite := hPre_norm_loss_finite)
    ∧ preserves_Kernel8_Kernel8Ideal
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_mix_project_finite (hKernel10Ideal := hKernel10Ideal) (hReference10Ideal := hReference10Ideal) (hPre_mix_project_finite := hPre_mix_project_finite)
    ∧ preserves_Kernel11_Kernel11Ideal
    ∧ algebraic_Kernel11Ideal_Reference11Ideal_pre_s5_gate_finite (hKernel11Ideal := hKernel11Ideal) (hReference11Ideal := hReference11Ideal) (hPre_s5_gate_finite := hPre_s5_gate_finite)
    ∧ preserves_Kernel12_Kernel12Ideal
    ∧ algebraic_Kernel12Ideal_Reference12Ideal_pre_mix_out_up_finite (hKernel12Ideal := hKernel12Ideal) (hReference12Ideal := hReference12Ideal) (hPre_mix_out_up_finite := hPre_mix_out_up_finite)
    ∧ preserves_Kernel13_Kernel13Ideal
    ∧ algebraic_Kernel13Ideal_Reference13Ideal_pre_conv_module_finite (hKernel13Ideal := hKernel13Ideal) (hReference13Ideal := hReference13Ideal) (hPre_conv_module_finite := hPre_conv_module_finite)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_norm_up_finite (hKernel15Ideal := hKernel15Ideal) (hReference15Ideal := hReference15Ideal) (hPre_norm_up_finite := hPre_norm_up_finite)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ preserves_Kernel20_Kernel20Ideal
    ∧ algebraic_Kernel20Ideal_Reference20Ideal (hKernel20Ideal := hKernel20Ideal) (hReference20Ideal := hReference20Ideal)
-- ==== Pre_conv_module_finite.lean ====
abbrev S4096x1024 : Shape := ⟨2, ![4096, 1024]⟩
abbrev S31x512 : Shape := ⟨2, ![31, 512]⟩
abbrev S1x512 : Shape := ⟨2, ![1, 512]⟩
abbrev S_ : Shape := ⟨0, ![]⟩

class Facts : Prop where
  bcast_S_S4096x1024 : S_.BroadcastsInDim S4096x1024 (![] : Fin 0 → Fin S4096x1024.rank)
  bcast_S_S31x512 : S_.BroadcastsInDim S31x512 (![] : Fin 0 → Fin S31x512.rank)
  bcast_S_S1x512 : S_.BroadcastsInDim S1x512 (![] : Fin 0 → Fin S1x512.rank)

variable [Facts]

def fn {F : FTy → Type} [FloatOps F] (main_arg0 : FVec F S4096x1024 .f32) (main_arg1 : FVec F S31x512 .f32) (main_arg2 : FVec F S1x512 .f32) (main_arg3 : FVec F S1x512 .f32) (main_arg4 : FVec F S1x512 .f32) : IVec S4096x1024 1 × IVec S31x512 1 × IVec S1x512 1 × IVec S1x512 1 × IVec S1x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S31x512 .f32 := Host.absf main_arg1
  let main_cst_0 : FVec F S_ .f32 := constant S_ .f32 0x7F800000#32
  let main_v4 : FVec F S31x512 .f32 := broadcastInDim S31x512 ![] bcast_S_S31x512 main_cst_0
  let main_v5 : IVec S31x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  (main_v2, main_v5, main_v8, main_v11, main_v14)
-- ==== Pre_conv_norm_finite.lean ====
abbrev S4096x512 : Shape := ⟨2, ![4096, 512]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)

variable [Facts]

def fn {F : FTy → Type} [FloatOps F] (main_arg0 : FVec F S4096x512 .f32) (main_arg1 : FVec F S4096x512 .f32) (main_arg2 : FVec F S1x512 .f32) (main_arg3 : FVec F S1x512 .f32) (main_arg4 : FVec F S1x512 .f32) : IVec S4096x512 1 × IVec S4096x512 1 × IVec S1x512 1 × IVec S1x512 1 × IVec S1x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  (main_v2, main_v5, main_v8, main_v11, main_v14)
-- ==== Pre_conv_taps_finite.lean ====
abbrev S4096x512 : Shape := ⟨2, ![4096, 512]⟩
abbrev S4096x1024 : Shape := ⟨2, ![4096, 1024]⟩
abbrev S31x512 : Shape := ⟨2, ![31, 512]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)
  bcast_S_S31x512 : S_.BroadcastsInDim S31x512 (![] : Fin 0 → Fin S31x512.rank)

variable [Facts]

def fn {F : FTy → Type} [FloatOps F] (main_arg0 : FVec F S4096x512 .f32) (main_arg1 : FVec F S4096x1024 .f32) (main_arg2 : FVec F S31x512 .f32) : IVec S4096x512 1 × IVec S4096x1024 1 × IVec S31x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S31x512 .f32 := Host.absf main_arg2
  let main_cst_1 : FVec F S_ .f32 := constant S_ .f32 0x7F800000#32
  let main_v7 : FVec F S31x512 .f32 := broadcastInDim S31x512 ![] bcast_S_S31x512 main_cst_1
  let main_v8 : IVec S31x512 1 := cmpf .olt main_v6 main_v7
  (main_v2, main_v5, main_v8)
-- ==== Pre_ffn_act_finite.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x2816 .f32) (main_arg2 : FVec F S4096x2816 .f32) (main_arg3 : FVec F S2816x1024 .f32) : IVec S4096x1024 1 × IVec S4096x2816 1 × IVec S4096x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S4096x2816 .f32 := Host.absf main_arg2
  let main_cst_1 : FVec F S_ .f32 := constant S_ .f32 0x7F800000#32
  let main_v7 : FVec F S4096x2816 .f32 := broadcastInDim S4096x2816 ![] bcast_S_S4096x2816 main_cst_1
  let main_v8 : IVec S4096x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Pre_ffn_in_finite.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S4096x2816 : S_.BroadcastsInDim S4096x2816 (![] : Fin 0 → Fin S4096x2816.rank)
  bcast_S_S1024x2816 : S_.BroadcastsInDim S1024x2816 (![] : Fin 0 → Fin S1024x2816.rank)

variable [Facts]

def fn_part1 {F : FTy → Type} [FloatOps F] (main_arg6 : FVec F S1024x2816 .f32) (main_v2 : IVec S4096x1024 1) (main_v5 : IVec S4096x1024 1) (main_v8 : IVec S1x1024 1) (main_v11 : IVec S4096x2816 1) (main_v14 : IVec S4096x2816 1) (main_v17 : IVec S1024x2816 1) : IVec S4096x1024 1 × IVec S4096x1024 1 × IVec S1x1024 1 × IVec S4096x2816 1 × IVec S4096x2816 1 × IVec S1024x2816 1 × IVec S1024x2816 1 :=
  let main_v18 : FVec F S1024x2816 .f32 := Host.absf main_arg6
  let main_cst_5 : FVec F S_ .f32 := constant S_ .f32 0x7F800000#32
  let main_v19 : FVec F S1024x2816 .f32 := broadcastInDim S1024x2816 ![] bcast_S_S1024x2816 main_cst_5
  let main_v20 : IVec S1024x2816 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1x1024 .f32) (main_arg3 : FVec F S4096x2816 .f32) (main_arg4 : FVec F S4096x2816 .f32) (main_arg5 : FVec F S1024x2816 .f32) (main_arg6 : FVec F S1024x2816 .f32) : IVec S4096x1024 1 × IVec S4096x1024 1 × IVec S1x1024 1 × IVec S4096x2816 1 × IVec S4096x2816 1 × IVec S1024x2816 1 × IVec S1024x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x2816 .f32 := Host.absf main_arg3
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  let main_v12 : FVec F S4096x2816 .f32 := Host.absf main_arg4
  let main_cst_3 : FVec F S_ .f32 := constant S_ .f32 0x7F800000#32
  let main_v13 : FVec F S4096x2816 .f32 := broadcastInDim S4096x2816 ![] bcast_S_S4096x2816 main_cst_3
  let main_v14 : IVec S4096x2816 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  fn_part1 (F := F) main_arg6 main_v2 main_v5 main_v8 main_v11 main_v14 main_v17
-- ==== Pre_mix_in_finite.lean ====
abbrev S4096x1024 : Shape := ⟨2, ![4096, 1024]⟩
abbrev S1x1024 : Shape := ⟨2, ![1, 1024]⟩
abbrev S4096x512 : Shape := ⟨2, ![4096, 512]⟩
abbrev S1024x1536 : Shape := ⟨2, ![1024, 1536]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S4096x512 : S_.BroadcastsInDim S4096x512 (![] : Fin 0 → Fin S4096x512.rank)
  bcast_S_S1024x1536 : S_.BroadcastsInDim S1024x1536 (![] : Fin 0 → Fin S1024x1536.rank)

variable [Facts]

def fn {F : FTy → Type} [FloatOps F] (main_arg0 : FVec F S4096x1024 .f32) (main_arg1 : FVec F S4096x1024 .f32) (main_arg2 : FVec F S1x1024 .f32) (main_arg3 : FVec F S4096x512 .f32) (main_arg4 : FVec F S4096x1024 .f32) (main_arg5 : FVec F S1024x1536 .f32) : IVec S4096x1024 1 × IVec S4096x1024 1 × IVec S1x1024 1 × IVec S4096x512 1 × IVec S4096x1024 1 × IVec S1024x1536 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1024x1536 .f32 := Host.absf main_arg5
  let main_cst_4 : FVec F S_ .f32 := constant S_ .f32 0x7F800000#32
  let main_v16 : FVec F S1024x1536 .f32 := broadcastInDim S1024x1536 ![] bcast_S_S1024x1536 main_cst_4
  let main_v17 : IVec S1024x1536 1 := cmpf .olt main_v15 main_v16
  (main_v2, main_v5, main_v8, main_v11, main_v14, main_v17)
-- ==== Pre_mix_out_up_finite.lean ====
abbrev S4096x1024 : Shape := ⟨2, ![4096, 1024]⟩
abbrev S1x1024 : Shape := ⟨2, ![1, 1024]⟩
abbrev S1024x2816 : Shape := ⟨2, ![1024, 2816]⟩
abbrev S4096x512 : Shape := ⟨2, ![4096, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S4096x512 : S_.BroadcastsInDim S4096x512 (![] : Fin 0 → Fin S4096x512.rank)
  bcast_S_S1024x1024 : S_.BroadcastsInDim S1024x1024 (![] : Fin 0 → Fin S1024x1024.rank)

variable [Facts]

def fn_part1 {F : FTy → Type} [FloatOps F] (main_arg6 : FVec F S1024x1024 .f32) (main_v2 : IVec S4096x1024 1) (main_v5 : IVec S1x1024 1) (main_v8 : IVec S1024x2816 1) (main_v11 : IVec S1024x2816 1) (main_v14 : IVec S4096x512 1) (main_v17 : IVec S4096x512 1) : IVec S4096x1024 1 × IVec S1x1024 1 × IVec S1024x2816 1 × IVec S1024x2816 1 × IVec S4096x512 1 × IVec S4096x512 1 × IVec S1024x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  (main_v2, main_v5, main_v8, main_v11, main_v14, main_v17, main_v20)

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S4096x512 .f32) (main_arg5 : FVec F S4096x512 .f32) (main_arg6 : FVec F S1024x1024 .f32) : IVec S4096x1024 1 × IVec S1x1024 1 × IVec S1024x2816 1 × IVec S1024x2816 1 × IVec S4096x512 1 × IVec S4096x512 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x512 .f32 := Host.absf main_arg5
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  fn_part1 (F := F) main_arg6 main_v2 main_v5 main_v8 main_v11 main_v14 main_v17
-- ==== Pre_mix_project_finite.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S1024x1536 : Shape := ⟨2, ![1024, 1536]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S1x1024 : S_.BroadcastsInDim S1x1024 (![] : Fin 0 → Fin S1x1024.rank)
  bcast_S_S1024x1536 : S_.BroadcastsInDim S1024x1536 (![] : Fin 0 → Fin S1024x1536.rank)

variable [Facts]

def fn {F : FTy → Type} [FloatOps F] (main_arg0 : FVec F S4096x1024 .f32) (main_arg1 : FVec F S4096x2816 .f32) (main_arg2 : FVec F S2816x1024 .f32) (main_arg3 : FVec F S1x1024 .f32) (main_arg4 : FVec F S1024x1536 .f32) : IVec S4096x1024 1 × IVec S4096x2816 1 × IVec S2816x1024 1 × IVec S1x1024 1 × IVec S1024x1536 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x1536 .f32 := Host.absf main_arg4
  let main_cst_3 : FVec F S_ .f32 := constant S_ .f32 0x7F800000#32
  let main_v13 : FVec F S1024x1536 .f32 := broadcastInDim S1024x1536 ![] bcast_S_S1024x1536 main_cst_3
  let main_v14 : IVec S1024x1536 1 := cmpf .olt main_v12 main_v13
  (main_v2, main_v5, main_v8, main_v11, main_v14)
-- ==== Pre_norm_loss_finite.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x2816 .f32) (main_arg2 : FVec F S2816x1024 .f32) (main_arg3 : FVec F S4096x1024 .f32) (main_arg4 : FVec F S1x1024 .f32) : IVec S4096x1024 1 × IVec S4096x2816 1 × IVec S2816x1024 1 × IVec S4096x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_norm_up_finite.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)

variable [Facts]

def fn {F : FTy → Type} [FloatOps F] (main_arg0 : FVec F S4096x1024 .f32) (main_arg1 : FVec F S1x1024 .f32) (main_arg2 : FVec F S1024x2816 .f32) (main_arg3 : FVec F S1024x2816 .f32) : IVec S4096x1024 1 × IVec S1x1024 1 × IVec S1024x2816 1 × IVec S1024x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  (main_v2, main_v5, main_v8, main_v11)
-- ==== Pre_s5_gate_finite.lean ====
abbrev S4096x512 : Shape := ⟨2, ![4096, 512]⟩
abbrev S1x512 : Shape := ⟨2, ![1, 512]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)
  bcast_S_S512x512 : S_.BroadcastsInDim S512x512 (![] : Fin 0 → Fin S512x512.rank)

variable [Facts]

def fn {F : FTy → Type} [FloatOps F] (main_arg0 : FVec F S4096x512 .f32) (main_arg1 : FVec F S4096x512 .f32) (main_arg2 : FVec F S1x512 .f32) (main_arg3 : FVec F S512x512 .f32) (main_arg4 : FVec F S1x512 .f32) : IVec S4096x512 1 × IVec S4096x512 1 × IVec S1x512 1 × IVec S512x512 1 × IVec S1x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  (main_v2, main_v5, main_v8, main_v11, main_v14)
-- ==== Pre_s5_read_finite.lean ====
abbrev S4096x512 : Shape := ⟨2, ![4096, 512]⟩
abbrev S1x512 : Shape := ⟨2, ![1, 512]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  bcast_S_S1x512 : S_.BroadcastsInDim S1x512 (![] : Fin 0 → Fin S1x512.rank)
  bcast_S_S512x512 : S_.BroadcastsInDim S512x512 (![] : Fin 0 → Fin S512x512.rank)

variable [Facts]

def fn {F : FTy → Type} [FloatOps F] (main_arg0 : FVec F S4096x512 .f32) (main_arg1 : FVec F S4096x512 .f32) (main_arg2 : FVec F S4096x512 .f32) (main_arg3 : FVec F S1x512 .f32) (main_arg4 : FVec F S512x512 .f32) (main_arg5 : FVec F S1x512 .f32) : IVec S4096x512 1 × IVec S4096x512 1 × IVec S4096x512 1 × IVec S1x512 1 × IVec S512x512 1 × IVec S1x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S512x512 .f32 := Host.absf main_arg4
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Kernel.lean ====
abbrev S4096x512 : Shape := ⟨2, ![4096, 512]⟩
abbrev S1x512 : Shape := ⟨2, ![1, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S8x512 : Shape := ⟨2, ![8, 512]⟩
abbrev S64x8x512 : Shape := ⟨3, ![64, 8, 512]⟩

abbrev nBuf : Space → Nat
  | .hbm => 49
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S8x512, .f32⟩
  | .hbm, ⟨38, _⟩ => ⟨S8x512, .f32⟩
  | .hbm, ⟨39, _⟩ => ⟨S8x512, .f32⟩
  | .hbm, ⟨40, _⟩ => ⟨S_, .f32⟩
  | .hbm, ⟨41, _⟩ => ⟨S512, .f32⟩
  | .hbm, ⟨42, _⟩ => ⟨S1x512, .f32⟩
  | .hbm, ⟨43, _⟩ => ⟨S_, .f32⟩
  | .hbm, ⟨44, _⟩ => ⟨S512, .f32⟩
  | .hbm, ⟨45, _⟩ => ⟨S1x512, .f32⟩
  | .hbm, ⟨46, _⟩ => ⟨S_, .f32⟩
  | .hbm, ⟨47, _⟩ => ⟨S512, .f32⟩
  | .hbm, ⟨48, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13_0 : Ref sig .tc := ⟨.hbm, 36, rfl⟩
abbrev main_v13_1 : Ref sig .tc := ⟨.hbm, 37, rfl⟩
abbrev main_v13_2 : Ref sig .tc := ⟨.hbm, 38, rfl⟩
abbrev main_v13_3 : Ref sig .tc := ⟨.hbm, 39, rfl⟩
abbrev main_cst_0 : Ref sig .tc := ⟨.hbm, 40, rfl⟩
abbrev main_v14 : Ref sig .tc := ⟨.hbm, 41, rfl⟩
abbrev main_v15 : Ref sig .tc := ⟨.hbm, 42, rfl⟩
abbrev main_cst_1 : Ref sig .tc := ⟨.hbm, 43, rfl⟩
abbrev main_v16 : Ref sig .tc := ⟨.hbm, 44, rfl⟩
abbrev main_v17 : Ref sig .tc := ⟨.hbm, 45, rfl⟩
abbrev main_cst_2 : Ref sig .tc := ⟨.hbm, 46, rfl⟩
abbrev main_v18 : Ref sig .tc := ⟨.hbm, 47, rfl⟩
abbrev main_v19 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x512 : Shape := ⟨2, ![4096, 512]⟩
abbrev S1x512 : Shape := ⟨2, ![1, 512]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S512 : Shape := ⟨1, ![512]⟩

abbrev nBuf : Space → Nat
  | .hbm => 105
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x8x64, .f32⟩
  | .hbm, ⟨8, _⟩ => ⟨S_, .f32⟩
  | .hbm, ⟨9, _⟩ => ⟨S4096x8, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S4096x8x64, .f32⟩
  | .hbm, ⟨15, _⟩ => ⟨S4096x8x64, .f32⟩
  | .hbm, ⟨16, _⟩ => ⟨S4096x8x64, .f32⟩
  | .hbm, ⟨17, _⟩ => ⟨S_, .f32⟩
  | .hbm, ⟨18, _⟩ => ⟨S4096x8x64, .f32⟩
  | .hbm, ⟨19, _⟩ => ⟨S4096x8x64, .f32⟩
  | .hbm, ⟨20, _⟩ => ⟨S_, .f32⟩
  | .hbm, ⟨21, _⟩ => ⟨S4096x8, .f32⟩
  | .hbm, ⟨22, _⟩ => ⟨S4096x8x1, .f32⟩
  | .hbm, ⟨23, _⟩ => ⟨S_, .f32⟩
  | .hbm, ⟨24, _⟩ => ⟨S4096x8x1, .f32⟩
  | .hbm, ⟨25, _⟩ => ⟨S4096x8x1, .f32⟩
  | .hbm, ⟨26, _⟩ => ⟨S4096x8x64, .f32⟩
  | .hbm, ⟨27, _⟩ => ⟨S4096x8x64, .f32⟩
  | .hbm, ⟨28, _⟩ => ⟨S_, .f32⟩
  | .hbm, ⟨29, _⟩ => ⟨S4096x8x1, .f32⟩
  | .hbm, ⟨30, _⟩ => ⟨S4096x8x1, .f32⟩
  | .hbm, ⟨31, _⟩ => ⟨S4096x8x1, .f32⟩
  | .hbm, ⟨32, _⟩ => ⟨S4096x8x1, .f32⟩
  | .hbm, ⟨33, _⟩ => ⟨S_, .f32⟩
  | .hbm, ⟨34, _⟩ => ⟨S4096x8x1, .f32⟩
  | .hbm, ⟨35, _⟩ => ⟨S4096x8x1, .f32⟩
  | .hbm, ⟨36, _⟩ => ⟨S4096x8x64, .f32⟩
  | .hbm, ⟨37, _⟩ => ⟨S4096x8x64, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S4096x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S4096x512, .f32⟩
  | .hbm, ⟨68, _⟩ => ⟨S4096x512, .f32⟩
  | .hbm, ⟨69, _⟩ => ⟨S4096x8x64, .f32⟩
  | .hbm, ⟨70, _⟩ => ⟨S4096x8x64, .f32⟩
  | .hbm, ⟨71, _⟩ => ⟨S_, .f32⟩
  | .hbm, ⟨72, _⟩ => ⟨S4096x8, .f32⟩
  | .hbm, ⟨73, _⟩ => ⟨S4096x8x1, .f32⟩
  | .hbm, ⟨74, _⟩ => ⟨S4096x8x64, .f32⟩
  | .hbm, ⟨75, _⟩ => ⟨S4096x8x64, .f32⟩
  | .hbm, ⟨76, _⟩ => ⟨S4096x8x1, .f32⟩
  | .hbm, ⟨77, _⟩ => ⟨S4096x8x64, .f32⟩
  | .hbm, ⟨78, _⟩ => ⟨S_, .f32⟩
  | .hbm, ⟨79, _⟩ => ⟨S4096x8, .f32⟩
  | .hbm, ⟨80, _⟩ => ⟨S4096x8x1, .f32⟩
  | .hbm, ⟨81, _⟩ => ⟨S_, .f32⟩
  | .hbm, ⟨82, _⟩ => ⟨S4096x8x1, .f32⟩
  | .hbm, ⟨83, _⟩ => ⟨S4096x8x1, .f32⟩
  | .hbm, ⟨84, _⟩ => ⟨S_, .f32⟩
  | .hbm, ⟨85, _⟩ => ⟨S4096x8, .f32⟩
  | .hbm, ⟨86, _⟩ => ⟨S4096x8x64, .f32⟩
  | .hbm, ⟨87, _⟩ => ⟨S4096x8x64, .f32⟩
  | .hbm, ⟨88, _⟩ => ⟨S4096x8x64, .f32⟩
  | .hbm, ⟨89, _⟩ => ⟨S_, .f32⟩
  | .hbm, ⟨90, _⟩ => ⟨S4096x8, .f32⟩
  | .hbm, ⟨91, _⟩ => ⟨S4096x8x1, .f32⟩
  | .hbm, ⟨92, _⟩ => ⟨S4096x8x64, .f32⟩
  | .hbm, ⟨93, _⟩ => ⟨S4096x8x1, .f32⟩
  | .hbm, ⟨94, _⟩ => ⟨S_, .f32⟩
  | .hbm, ⟨95, _⟩ => ⟨S4096x8x1, .f32⟩
  | .hbm, ⟨96, _⟩ => ⟨S4096x8x1, .f32⟩
  | .hbm, ⟨97, _⟩ => ⟨S_, .f32⟩
  | .hbm, ⟨98, _⟩ => ⟨S4096x8, .f32⟩
  | .hbm, ⟨99, _⟩ => ⟨S4096x8x64, .f32⟩
  | .hbm, ⟨100, _⟩ => ⟨S4096x8x64, .f32⟩
  | .hbm, ⟨101, _⟩ => ⟨S4096x512, .f32⟩
  | .hbm, ⟨102, _⟩ => ⟨S_, .f32⟩
  | .hbm, ⟨103, _⟩ => ⟨S512, .f32⟩
  | .hbm, ⟨104, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v31_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v31_1 : Ref sig .tc := ⟨.hbm, 54, rfl⟩
abbrev main_v31_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩

abbrev nD : Nat := 1
abbrev τ : Topo := Topo.v7x

variable {F : FTy → Type} [FloatOps F]
-- ==== Kernel2.lean ====
abbrev S4096x512 : Shape := ⟨2, ![4096, 512]⟩
abbrev S1x512 : Shape := ⟨2, ![1, 512]⟩
abbrev S512x512 : Shape := ⟨2, ![512, 512]⟩
abbrev S8x512x512 : Shape := ⟨3, ![8, 512, 512]⟩
abbrev S512x8x512 : Shape := ⟨3, ![512, 8, 512]⟩
abbrev S8x512 : Shape := ⟨2, ![8, 512]⟩
abbrev S64x8x512 : Shape := ⟨3, ![64, 8, 512]⟩
abbrev S_ : Shape := ⟨0, ![]⟩
abbrev S512 : Shape := ⟨1, ![512]⟩

abbrev nBuf : Space → Nat
  | .hbm => 34
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S8x512x512, .f32⟩
  | .hbm, ⟨7, _⟩ => ⟨S512x8x512, .f32⟩
  | .hbm, ⟨8, _⟩ => ⟨S4096x512, .f32⟩
  | .hbm, ⟨9, _⟩ => ⟨S8x512x512, .f32⟩
  | .hbm, ⟨10, _⟩ => ⟨S512x8x512, .f32⟩
  | .hbm, ⟨11, _⟩ => ⟨S4096x512, .f32⟩
  | .hbm, ⟨12, _⟩ => ⟨S8x512x512, .f32⟩
  | .hbm, ⟨13, _⟩ => ⟨S512x8x512, .f32⟩
  | .hbm, ⟨14, _⟩ => ⟨S4096x512, .f32⟩
  | .hbm, ⟨15, _⟩ => ⟨S512x512, .bf16⟩
  | .hbm, ⟨16, _⟩ => ⟨S4096x512, .bf16⟩
  | .hbm, ⟨17, _⟩ => ⟨S4096x512, .f32⟩
  | .hbm, ⟨18, _⟩ => ⟨S8x512, .f32⟩
  | .hbm, ⟨19, _⟩ => ⟨S512x512, .f32⟩
  | .hbm, ⟨20, _⟩ => ⟨S8x512, .f32⟩
  | .hbm, ⟨21, _⟩ => ⟨S512x8x512, .bf16⟩
  | .hbm, ⟨22, _⟩ => ⟨S8x512x512, .bf16⟩
  | .hbm, ⟨23, _⟩ => ⟨S4096x512, .bf16⟩
  | .hbm, ⟨24, _⟩ => ⟨S4096x512, .f32⟩
  | .hbm, ⟨25, _⟩ => ⟨S512x8x512, .f32⟩
  | .hbm, ⟨26, _⟩ => ⟨S8x512x512, .f32⟩
  | .hbm, ⟨27, _⟩ => ⟨S4096x512, .f32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S_, .f32⟩
  | .hbm, ⟨32, _⟩ => ⟨S512, .f32⟩
  | .hbm, ⟨33, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S8x512, .f32⟩
  | .local _ .vmem, ⟨14, _⟩ => ⟨S512x512, .f32⟩
  | .local _ .vmem, ⟨15, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x512 : Shape := ⟨2, ![4096, 512]⟩
abbrev S1x512 : Shape := ⟨2, ![1, 512]⟩
abbrev S512x512 : Shape := ⟨2, ![512, 512]⟩
abbrev S_ : Shape := ⟨0, ![]⟩
abbrev S512 : Shape := ⟨1, ![512]⟩

abbrev nBuf : Space → Nat
  | .hbm => 84
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S512x512, .f32⟩
  | .hbm, ⟨60, _⟩ => ⟨S512x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S_, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S_, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S4096x512, .f32⟩
  | .hbm, ⟨81, _⟩ => ⟨S_, .f32⟩
  | .hbm, ⟨82, _⟩ => ⟨S512, .f32⟩
  | .hbm, ⟨83, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S512x1024 : Shape := ⟨2, ![512, 1024]⟩
abbrev S512x2816 : Shape := ⟨2, ![512, 2816]⟩
abbrev S3x512x2816 : Shape := ⟨3, ![3, 512, 2816]⟩
abbrev S2x3 : Shape := ⟨2, ![2, 3]⟩
abbrev S1x1 : Shape := ⟨2, ![1, 1]⟩
abbrev S1x512x2816 : Shape := ⟨3, ![1, 512, 2816]⟩
abbrev S768x1024 : Shape := ⟨2, ![768, 1024]⟩
abbrev S512x768 : Shape := ⟨2, ![512, 768]⟩
abbrev S1x512x768 : Shape := ⟨3, ![1, 512, 768]⟩
abbrev S512x512 : Shape := ⟨2, ![512, 512]⟩
abbrev S1x512x512 : Shape := ⟨3, ![1, 512, 512]⟩

abbrev nBuf : Space → Nat
  | .hbm => 35
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S2816x1024, .bf16⟩
  | .hbm, ⟨27, _⟩ => ⟨S4096x2816, .bf16⟩
  | .hbm, ⟨28, _⟩ => ⟨S4096x2816, .bf16⟩
  | .hbm, ⟨29, _⟩ => ⟨S4096x2816, .bf16⟩
  | .hbm, ⟨30, _⟩ => ⟨S4096x2816, .bf16⟩
  | .hbm, ⟨31, _⟩ => ⟨S4096x1024, .bf16⟩
  | .hbm, ⟨32, _⟩ => ⟨S4096x2816, .f32⟩
  | .hbm, ⟨33, _⟩ => ⟨S4096x2816, .f32⟩
  | .hbm, ⟨34, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x1024, .bf16⟩
  | .local _ .vmem, ⟨8, _⟩ => ⟨S512x1024, .bf16⟩
  | .local _ .vmem, ⟨9, _⟩ => ⟨S3x512x2816, .bf16⟩
  | .local _ .vmem, ⟨10, _⟩ => ⟨S3x512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_58 : BitVec 32 := 0#32
  c0_i32_58
def k0_mult2 : BitVec 32 :=
  let c512_i32_71 : BitVec 32 := 512#32
  c512_i32_71
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let arg0 : BitVec 32 := BitVec.ofNat 32 (i 0).val
  let c2_i32 : BitVec 32 := 2#32
  let v3 : BitVec 32 := Scalar.addi arg0 c2_i32
  let c512_i32_64 : BitVec 32 := 512#32
  let v112 : BitVec 32 := Scalar.muli v3 c512_i32_64
  v112
def k0_off1 (i : grid0.Coords) : Fin 2 → Nat :=
  let c0_i32_65 : BitVec 32 := 0#32
  let arg0 : BitVec 32 := BitVec.ofNat 32 (i 0).val
  let c2_i32 : BitVec 32 := 2#32
  let v3 : BitVec 32 := Scalar.addi arg0 c2_i32
  let c3_i32_58 : BitVec 32 := 3#32
  let c0_i32_59 : BitVec 32 := 0#32
  let v102 : BitVec 1 := Scalar.cmpi .eq c3_i32_58 c0_i32_59
  let c1_i32_60 : BitVec 32 := 1#32
  let v103 : BitVec 32 := Scalar.select v102 c1_i32_60 c3_i32_58
  let v104 : BitVec 32 := Scalar.remsi v3 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  ![0, v111.toNat]
def k0_off2 (i : grid0.Coords) : Fin 3 → Nat :=
  let arg0 : BitVec 32 := BitVec.ofNat 32 (i 0).val
  let c2_i32 : BitVec 32 := 2#32
  let v3 : BitVec 32 := Scalar.addi arg0 c2_i32
  let c3_i32_58 : BitVec 32 := 3#32
  let c0_i32_59 : BitVec 32 := 0#32
  let v102 : BitVec 1 := Scalar.cmpi .eq c3_i32_58 c0_i32_59
  let c1_i32_60 : BitVec 32 := 1#32
  let v103 : BitVec 32 := Scalar.select v102 c1_i32_60 c3_i32_58
  let v104 : BitVec 32 := Scalar.remsi v3 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  let c0_i32_66 : BitVec 32 := 0#32
  let c0_i32_67 : BitVec 32 := 0#32
  ![v111.toNat, 0, 0]
def k0_off3 (i : grid0.Coords) : Fin 2 → Nat :=
  let arg0 : BitVec 32 := BitVec.ofNat 32 (i 0).val
  let c2_i32 : BitVec 32 := 2#32
  let v3 : BitVec 32 := Scalar.addi arg0 c2_i32
  let c512_i32_64 : BitVec 32 := 512#32
  let v112 : BitVec 32 := Scalar.muli v3 c512_i32_64
  let v113 : BitVec 32 := v112
  let c0_i32_68 : BitVec 32 := 0#32
  ![v113.toNat, 0]
def k0_off4 (i : grid0.Coords) : Fin 2 → Nat :=
  let c1_i32_69 : BitVec 32 := 1#32
  let arg0 : BitVec 32 := BitVec.ofNat 32 (i 0).val
  let c2_i32 : BitVec 32 := 2#32
  let v3 : BitVec 32 := Scalar.addi arg0 c2_i32
  let c3_i32_58 : BitVec 32 := 3#32
  let c0_i32_59 : BitVec 32 := 0#32
  let v102 : BitVec 1 := Scalar.cmpi .eq c3_i32_58 c0_i32_59
  let c1_i32_60 : BitVec 32 := 1#32
  let v103 : BitVec 32 := Scalar.select v102 c1_i32_60 c3_i32_58
  let v104 : BitVec 32 := Scalar.remsi v3 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  ![1, v111.toNat]
def k0_mult4 (i : grid0.Coords) : BitVec 32 :=
  let arg0 : BitVec 32 := BitVec.ofNat 32 (i 0).val
  let c512_i32 : BitVec 32 := 512#32
  let v17 : BitVec 32 := Scalar.muli arg0 c512_i32
  v17
def k0_off5 (i : grid0.Coords) : Fin 2 → Nat :=
  let c0_i32_6 : BitVec 32 := 0#32
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![0, v16.toNat]
def k0_off6 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_7 : BitVec 32 := 0#32
  let c0_i32_8 : BitVec 32 := 0#32
  ![v16.toNat, 0, 0]
def k0_off7 (i : grid0.Coords) : Fin 2 → Nat :=
  let arg0 : BitVec 32 := BitVec.ofNat 32 (i 0).val
  let c512_i32 : BitVec 32 := 512#32
  let v17 : BitVec 32 := Scalar.muli arg0 c512_i32
  let v18 : BitVec 32 := v17
  let c0_i32_9 : BitVec 32 := 0#32
  ![v18.toNat, 0]
def k0_off8 (i : grid0.Coords) : Fin 2 → Nat :=
  let c1_i32_10 : BitVec 32 := 1#32
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![1, v16.toNat]
def k0_off9 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v37 : Index := Scalar.indexCast v16
  let c0_20 : Index := 0#32
  let c0_21 : Index := 0#32
  ![v37.toNat, 0, 0]
def k0_off10 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v54 : Index := Scalar.indexCast v16
  let c0_30 : Index := 0#32
  let c768_31 : Index := 768#32
  ![v54.toNat, 0, 768]
def k0_off11 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v71 : Index := Scalar.indexCast v16
  let c0_40 : Index := 0#32
  let c1536_41 : Index := 1536#32
  ![v71.toNat, 0, 1536]
def k0_off12 (i : grid0.Coords) : Fin 3 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v88 : Index := Scalar.indexCast v16
  let c0_50 : Index := 0#32
  let c2304_51 : Index := 2304#32
  ![v88.toNat, 0, 2304]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x1024, .f32⟩
  | .hbm, ⟨34, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩

abbrev nD : Nat := 1
abbrev τ : Topo := Topo.v7x

variable {F : FTy → Type} [FloatOps F]
-- ==== Kernel4.lean ====
abbrev S4096x512 : Shape := ⟨2, ![4096, 512]⟩
abbrev S4096x1024 : Shape := ⟨2, ![4096, 1024]⟩
abbrev S31x512 : Shape := ⟨2, ![31, 512]⟩
abbrev S_ : Shape := ⟨0, ![]⟩
abbrev S32x512 : Shape := ⟨2, ![32, 512]⟩
abbrev S32x8x512 : Shape := ⟨3, ![32, 8, 512]⟩
abbrev S512x512 : Shape := ⟨2, ![512, 512]⟩
abbrev S512x1024 : Shape := ⟨2, ![512, 1024]⟩
abbrev S552x512 : Shape := ⟨2, ![552, 512]⟩
abbrev S8x544x512 : Shape := ⟨3, ![8, 544, 512]⟩
abbrev S8x512 : Shape := ⟨2, ![8, 512]⟩
abbrev S544x512 : Shape := ⟨2, ![544, 512]⟩
abbrev S1x544x512 : Shape := ⟨3, ![1, 544, 512]⟩
abbrev S1x512 : Shape := ⟨2, ![1, 512]⟩
abbrev S1x32x512 : Shape := ⟨3, ![1, 32, 512]⟩
abbrev S1x8x512 : Shape := ⟨3, ![1, 8, 512]⟩

abbrev nBuf : Space → Nat
  | .hbm => 11
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S31x512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S4096x1024, .f32⟩
  | .hbm, ⟨7, _⟩ => ⟨S32x8x512, .f32⟩
  | .hbm, ⟨8, _⟩ => ⟨S_, .f32⟩
  | .hbm, ⟨9, _⟩ => ⟨S32x512, .f32⟩
  | .hbm, ⟨10, _⟩ => ⟨S31x512, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x1024, .f32⟩
  | .local _ .vmem, ⟨5, _⟩ => ⟨S512x1024, .f32⟩
  | .local _ .vmem, ⟨6, _⟩ => ⟨S32x512, .f32⟩
  | .local _ .vmem, ⟨7, _⟩ => ⟨S512x1024, .f32⟩
  | .local _ .vmem, ⟨8, _⟩ => ⟨S512x1024, .f32⟩
  | .local _ .vmem, ⟨9, _⟩ => ⟨S32x8x512, .f32⟩
  | .local _ .vmem, ⟨10, _⟩ => ⟨S552x512, .f32⟩
  | .local _ .vmem, ⟨11, _⟩ => ⟨S8x544x512, .f32⟩
  | .local _ .vmem, ⟨12, _⟩ => ⟨S512x512, .f32⟩
  | .local _ .vmem, ⟨13, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S4096x512 : Shape := ⟨2, ![4096, 512]⟩
abbrev S4096x1024 : Shape := ⟨2, ![4096, 1024]⟩
abbrev S31x512 : Shape := ⟨2, ![31, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S512 : Shape := ⟨1, ![512]⟩

abbrev nBuf : Space → Nat
  | .hbm => 717
  | .vmem => 0
  | .smem => 0
  | _ => 0

abbrev hbmTy0_0 (i : Nat) : BufTy := match i % 128 with
  | 0 => ⟨S4096x512, .f32⟩
  | 1 => ⟨S4096x1024, .f32⟩
  | 2 => ⟨S31x512, .f32⟩
  | 3 => ⟨S4096x512, .f32⟩
  | 4 => ⟨S4096x512, .f32⟩
  | 5 => ⟨S4096x512, .f32⟩
  | 6 => ⟨S4096x512, .f32⟩
  | 7 => ⟨S_, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S4096x512, .f32⟩
  | 18 => ⟨S_, .f32⟩
  | 19 => ⟨S30x512, .f32⟩
  | 20 => ⟨S4126x512, .f32⟩
  | 21 => ⟨S_, .f32⟩
  | 22 => ⟨S30x512, .f32⟩
  | 23 => ⟨S1x512, .f32⟩
  | 24 => ⟨S512, .f32⟩
  | 25 => ⟨S4096x512, .f32⟩
  | 26 => ⟨S1x512, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S1x512, .f32⟩
  | 33 => ⟨S512, .f32⟩
  | 34 => ⟨S4096x512, .f32⟩
  | 35 => ⟨S1x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S4096x512, .f32⟩
  | 49 => ⟨S1x512, .f32⟩
  | 50 => ⟨S4096x512, .f32⟩
  | 51 => ⟨S4096x512, .f32⟩
  | 52 => ⟨S4096x512, .f32⟩
  | 53 => ⟨S1x512, .f32⟩
  | 54 => ⟨S512, .f32⟩
  | 55 => ⟨S4096x512, .f32⟩
  | 56 => ⟨S1x512, .f32⟩
  | 57 => ⟨S4096x512, .f32⟩
  | 58 => ⟨S4096x512, .f32⟩
  | 59 => ⟨S4096x512, .f32⟩
  | 60 => ⟨S1x512, .f32⟩
  | 61 => ⟨S512, .f32⟩
  | 62 => ⟨S4096x512, .f32⟩
  | 63 => ⟨S1x512, .f32⟩
  | 64 => ⟨S4096x512, .f32⟩
  | 65 => ⟨S4096x512, .f32⟩
  | 66 => ⟨S4096x512, .f32⟩
  | 67 => ⟨S1x512, .f32⟩
  | 68 => ⟨S512, .f32⟩
  | 69 => ⟨S4096x512, .f32⟩
  | 70 => ⟨S1x512, .f32⟩
  | 71 => ⟨S4096x512, .f32⟩
  | 72 => ⟨S4096x512, .f32⟩
  | 73 => ⟨S4096x512, .f32⟩
  | 74 => ⟨S1x512, .f32⟩
  | 75 => ⟨S512, .f32⟩
  | 76 => ⟨S4096x512, .f32⟩
  | 77 => ⟨S1x512, .f32⟩
  | 78 => ⟨S4096x512, .f32⟩
  | 79 => ⟨S4096x512, .f32⟩
  | 80 => ⟨S4096x512, .f32⟩
  | 81 => ⟨S1x512, .f32⟩
  | 82 => ⟨S512, .f32⟩
  | 83 => ⟨S4096x512, .f32⟩
  | 84 => ⟨S1x512, .f32⟩
  | 85 => ⟨S4096x512, .f32⟩
  | 86 => ⟨S4096x512, .f32⟩
  | 87 => ⟨S4096x512, .f32⟩
  | 88 => ⟨S1x512, .f32⟩
  | 89 => ⟨S512, .f32⟩
  | 90 => ⟨S4096x512, .f32⟩
  | 91 => ⟨S1x512, .f32⟩
  | 92 => ⟨S4096x512, .f32⟩
  | 93 => ⟨S4096x512, .f32⟩
  | 94 => ⟨S4096x512, .f32⟩
  | 95 => ⟨S1x512, .f32⟩
  | 96 => ⟨S512, .f32⟩
  | 97 => ⟨S4096x512, .f32⟩
  | 98 => ⟨S1x512, .f32⟩
  | 99 => ⟨S4096x512, .f32⟩
  | 100 => ⟨S4096x512, .f32⟩
  | 101 => ⟨S4096x512, .f32⟩
  | 102 => ⟨S1x512, .f32⟩
  | 103 => ⟨S512, .f32⟩
  | 104 => ⟨S4096x512, .f32⟩
  | 105 => ⟨S1x512, .f32⟩
  | 106 => ⟨S4096x512, .f32⟩
  | 107 => ⟨S4096x512, .f32⟩
  | 108 => ⟨S4096x512, .f32⟩
  | 109 => ⟨S1x512, .f32⟩
  | 110 => ⟨S512, .f32⟩
  | 111 => ⟨S4096x512, .f32⟩
  | 112 => ⟨S1x512, .f32⟩
  | 113 => ⟨S4096x512, .f32⟩
  | 114 => ⟨S4096x512, .f32⟩
  | 115 => ⟨S4096x512, .f32⟩
  | 116 => ⟨S1x512, .f32⟩
  | 117 => ⟨S512, .f32⟩
  | 118 => ⟨S4096x512, .f32⟩
  | 119 => ⟨S1x512, .f32⟩
  | 120 => ⟨S4096x512, .f32⟩
  | 121 => ⟨S4096x512, .f32⟩
  | 122 => ⟨S4096x512, .f32⟩
  | 123 => ⟨S1x512, .f32⟩
  | 124 => ⟨S512, .f32⟩
  | 125 => ⟨S4096x512, .f32⟩
  | 126 => ⟨S1x512, .f32⟩
  | 127 => ⟨S4096x512, .f32⟩
  | _ => ⟨S4096x512, .f32⟩

abbrev hbmTy0_1 (i : Nat) : BufTy := match i % 128 with
  | 0 => ⟨S4096x512, .f32⟩
  | 1 => ⟨S4096x512, .f32⟩
  | 2 => ⟨S1x512, .f32⟩
  | 3 => ⟨S512, .f32⟩
  | 4 => ⟨S4096x512, .f32⟩
  | 5 => ⟨S1x512, .f32⟩
  | 6 => ⟨S4096x512, .f32⟩
  | 7 => ⟨S4096x512, .f32⟩
  | 8 => ⟨S4096x512, .f32⟩
  | 9 => ⟨S1x512, .f32⟩
  | 10 => ⟨S512, .f32⟩
  | 11 => ⟨S4096x512, .f32⟩
  | 12 => ⟨S1x512, .f32⟩
  | 13 => ⟨S4096x512, .f32⟩
  | 14 => ⟨S4096x512, .f32⟩
  | 15 => ⟨S4096x512, .f32⟩
  | 16 => ⟨S1x512, .f32⟩
  | 17 => ⟨S512, .f32⟩
  | 18 => ⟨S4096x512, .f32⟩
  | 19 => ⟨S1x512, .f32⟩
  | 20 => ⟨S4096x512, .f32⟩
  | 21 => ⟨S4096x512, .f32⟩
  | 22 => ⟨S4096x512, .f32⟩
  | 23 => ⟨S1x512, .f32⟩
  | 24 => ⟨S512, .f32⟩
  | 25 => ⟨S4096x512, .f32⟩
  | 26 => ⟨S1x512, .f32⟩
  | 27 => ⟨S4096x512, .f32⟩
  | 28 => ⟨S4096x512, .f32⟩
  | 29 => ⟨S4096x512, .f32⟩
  | 30 => ⟨S1x512, .f32⟩
  | 31 => ⟨S512, .f32⟩
  | 32 => ⟨S4096x512, .f32⟩
  | 33 => ⟨S1x512, .f32⟩
  | 34 => ⟨S4096x512, .f32⟩
  | 35 => ⟨S4096x512, .f32⟩
  | 36 => ⟨S4096x512, .f32⟩
  | 37 => ⟨S1x512, .f32⟩
  | 38 => ⟨S512, .f32⟩
  | 39 => ⟨S4096x512, .f32⟩
  | 40 => ⟨S1x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S4096x512, .f32⟩
  | 47 => ⟨S1x512, .f32⟩
  | 48 => ⟨S4096x512, .f32⟩
  | 49 => ⟨S4096x512, .f32⟩
  | 50 => ⟨S4096x512, .f32⟩
  | 51 => ⟨S1x512, .f32⟩
  | 52 => ⟨S512, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S4096x512, .f32⟩
  | 61 => ⟨S1x512, .f32⟩
  | 62 => ⟨S4096x512, .f32⟩
  | 63 => ⟨S4096x512, .f32⟩
  | 64 => ⟨S4096x512, .f32⟩
  | 65 => ⟨S1x512, .f32⟩
  | 66 => ⟨S512, .f32⟩
  | 67 => ⟨S4096x512, .f32⟩
  | 68 => ⟨S1x512, .f32⟩
  | 69 => ⟨S4096x512, .f32⟩
  | 70 => ⟨S4096x512, .f32⟩
  | 71 => ⟨S4096x512, .f32⟩
  | 72 => ⟨S1x512, .f32⟩
  | 73 => ⟨S512, .f32⟩
  | 74 => ⟨S4096x512, .f32⟩
  | 75 => ⟨S1x512, .f32⟩
  | 76 => ⟨S4096x512, .f32⟩
  | 77 => ⟨S4096x512, .f32⟩
  | 78 => ⟨S4096x512, .f32⟩
  | 79 => ⟨S1x512, .f32⟩
  | 80 => ⟨S512, .f32⟩
  | 81 => ⟨S4096x512, .f32⟩
  | 82 => ⟨S1x512, .f32⟩
  | 83 => ⟨S4096x512, .f32⟩
  | 84 => ⟨S4096x512, .f32⟩
  | 85 => ⟨S4096x512, .f32⟩
  | 86 => ⟨S1x512, .f32⟩
  | 87 => ⟨S512, .f32⟩
  | 88 => ⟨S4096x512, .f32⟩
  | 89 => ⟨S1x512, .f32⟩
  | 90 => ⟨S4096x512, .f32⟩
  | 91 => ⟨S4096x512, .f32⟩
  | 92 => ⟨S4096x512, .f32⟩
  | 93 => ⟨S1x512, .f32⟩
  | 94 => ⟨S512, .f32⟩
  | 95 => ⟨S4096x512, .f32⟩
  | 96 => ⟨S1x512, .f32⟩
  | 97 => ⟨S4096x512, .f32⟩
  | 98 => ⟨S4096x512, .f32⟩
  | 99 => ⟨S4096x512, .f32⟩
  | 100 => ⟨S1x512, .f32⟩
  | 101 => ⟨S512, .f32⟩
  | 102 => ⟨S4096x512, .f32⟩
  | 103 => ⟨S1x512, .f32⟩
  | 104 => ⟨S4096x512, .f32⟩
  | 105 => ⟨S4096x512, .f32⟩
  | 106 => ⟨S4096x512, .f32⟩
  | 107 => ⟨S1x512, .f32⟩
  | 108 => ⟨S512, .f32⟩
  | 109 => ⟨S4096x512, .f32⟩
  | 110 => ⟨S1x512, .f32⟩
  | 111 => ⟨S4096x512, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S4096x512, .f32⟩
  | 118 => ⟨S4096x512, .f32⟩
  | 119 => ⟨S_, .f32⟩
  | 120 => ⟨S512, .f32⟩
  | 121 => ⟨S1x512, .f32⟩
  | 122 => ⟨S_, .f32⟩
  | 123 => ⟨S512, .f32⟩
  | 124 => ⟨S_, .f32⟩
  | 125 => ⟨S4126x512, .f32⟩
  | 126 => ⟨S1x512, .f32⟩
  | 127 => ⟨S_, .f32⟩
  | _ => ⟨S4096x512, .f32⟩

abbrev hbmTy0_2 (i : Nat) : BufTy := match i % 128 with
  | 0 => ⟨S31x512, .f32⟩
  | 1 => ⟨S4096x512, .f32⟩
  | 2 => ⟨S4096x512, .f32⟩
  | 3 => ⟨S4096x512, .f32⟩
  | 4 => ⟨S_, .f32⟩
  | 5 => ⟨S512, .f32⟩
  | 6 => ⟨S1x512, .f32⟩
  | 7 => ⟨S_, .f32⟩
  | 8 => ⟨S512, .f32⟩
  | 9 => ⟨S_, .f32⟩
  | 10 => ⟨S4126x512, .f32⟩
  | 11 => ⟨S4126x512, .f32⟩
  | 12 => ⟨S1x512, .f32⟩
  | 13 => ⟨S_, .f32⟩
  | 14 => ⟨S31x512, .f32⟩
  | 15 => ⟨S31x512, .f32⟩
  | 16 => ⟨S4096x512, .f32⟩
  | 17 => ⟨S4096x512, .f32⟩
  | 18 => ⟨S4096x512, .f32⟩
  | 19 => ⟨S_, .f32⟩
  | 20 => ⟨S512, .f32⟩
  | 21 => ⟨S1x512, .f32⟩
  | 22 => ⟨S_, .f32⟩
  | 23 => ⟨S512, .f32⟩
  | 24 => ⟨S_, .f32⟩
  | 25 => ⟨S4126x512, .f32⟩
  | 26 => ⟨S4126x512, .f32⟩
  | 27 => ⟨S1x512, .f32⟩
  | 28 => ⟨S_, .f32⟩
  | 29 => ⟨S31x512, .f32⟩
  | 30 => ⟨S31x512, .f32⟩
  | 31 => ⟨S4096x512, .f32⟩
  | 32 => ⟨S4096x512, .f32⟩
  | 33 => ⟨S4096x512, .f32⟩
  | 34 => ⟨S_, .f32⟩
  | 35 => ⟨S512, .f32⟩
  | 36 => ⟨S1x512, .f32⟩
  | 37 => ⟨S_, .f32⟩
  | 38 => ⟨S512, .f32⟩
  | 39 => ⟨S_, .f32⟩
  | 40 => ⟨S4126x512, .f32⟩
  | 41 => ⟨S4126x512, .f32⟩
  | 42 => ⟨S1x512, .f32⟩
  | 43 => ⟨S_, .f32⟩
  | 44 => ⟨S31x512, .f32⟩
  | 45 => ⟨S31x512, .f32⟩
  | 46 => ⟨S4096x512, .f32⟩
  | 47 => ⟨S4096x512, .f32⟩
  | 48 => ⟨S4096x512, .f32⟩
  | 49 => ⟨S_, .f32⟩
  | 50 => ⟨S512, .f32⟩
  | 51 => ⟨S1x512, .f32⟩
  | 52 => ⟨S_, .f32⟩
  | 53 => ⟨S512, .f32⟩
  | 54 => ⟨S_, .f32⟩
  | 55 => ⟨S4126x512, .f32⟩
  | 56 => ⟨S4126x512, .f32⟩
  | 57 => ⟨S1x512, .f32⟩
  | 58 => ⟨S_, .f32⟩
  | 59 => ⟨S31x512, .f32⟩
  | 60 => ⟨S31x512, .f32⟩
  | 61 => ⟨S4096x512, .f32⟩
  | 62 => ⟨S4096x512, .f32⟩
  | 63 => ⟨S4096x512, .f32⟩
  | 64 => ⟨S_, .f32⟩
  | 65 => ⟨S512, .f32⟩
  | 66 => ⟨S1x512, .f32⟩
  | 67 => ⟨S_, .f32⟩
  | 68 => ⟨S512, .f32⟩
  | 69 => ⟨S_, .f32⟩
  | 70 => ⟨S4126x512, .f32⟩
  | 71 => ⟨S4126x512, .f32⟩
  | 72 => ⟨S1x512, .f32⟩
  | 73 => ⟨S_, .f32⟩
  | 74 => ⟨S31x512, .f32⟩
  | 75 => ⟨S31x512, .f32⟩
  | 76 => ⟨S4096x512, .f32⟩
  | 77 => ⟨S4096x512, .f32⟩
  | 78 => ⟨S4096x512, .f32⟩
  | 79 => ⟨S_, .f32⟩
  | 80 => ⟨S512, .f32⟩
  | 81 => ⟨S1x512, .f32⟩
  | 82 => ⟨S_, .f32⟩
  | 83 => ⟨S512, .f32⟩
  | 84 => ⟨S_, .f32⟩
  | 85 => ⟨S4126x512, .f32⟩
  | 86 => ⟨S4126x512, .f32⟩
  | 87 => ⟨S1x512, .f32⟩
  | 88 => ⟨S_, .f32⟩
  | 89 => ⟨S31x512, .f32⟩
  | 90 => ⟨S31x512, .f32⟩
  | 91 => ⟨S4096x512, .f32⟩
  | 92 => ⟨S4096x512, .f32⟩
  | 93 => ⟨S4096x512, .f32⟩
  | 94 => ⟨S_, .f32⟩
  | 95 => ⟨S512, .f32⟩
  | 96 => ⟨S1x512, .f32⟩
  | 97 => ⟨S_, .f32⟩
  | 98 => ⟨S512, .f32⟩
  | 99 => ⟨S_, .f32⟩
  | 100 => ⟨S4126x512, .f32⟩
  | 101 => ⟨S4126x512, .f32⟩
  | 102 => ⟨S1x512, .f32⟩
  | 103 => ⟨S_, .f32⟩
  | 104 => ⟨S31x512, .f32⟩
  | 105 => ⟨S31x512, .f32⟩
  | 106 => ⟨S4096x512, .f32⟩
  | 107 => ⟨S4096x512, .f32⟩
  | 108 => ⟨S4096x512, .f32⟩
  | 109 => ⟨S_, .f32⟩
  | 110 => ⟨S512, .f32⟩
  | 111 => ⟨S1x512, .f32⟩
  | 112 => ⟨S_, .f32⟩
  | 113 => ⟨S512, .f32⟩
  | 114 => ⟨S_, .f32⟩
  | 115 => ⟨S4126x512, .f32⟩
  | 116 => ⟨S4126x512, .f32⟩
  | 117 => ⟨S1x512, .f32⟩
  | 118 => ⟨S_, .f32⟩
  | 119 => ⟨S31x512, .f32⟩
  | 120 => ⟨S31x512, .f32⟩
  | 121 => ⟨S4096x512, .f32⟩
  | 122 => ⟨S4096x512, .f32⟩
  | 123 => ⟨S4096x512, .f32⟩
  | 124 => ⟨S_, .f32⟩
  | 125 => ⟨S512, .f32⟩
  | 126 => ⟨S1x512, .f32⟩
  | 127 => ⟨S_, .f32⟩
  | _ => ⟨S4096x512, .f32⟩

abbrev hbmTy0_3 (i : Nat) : BufTy := match i % 128 with
  | 0 => ⟨S512, .f32⟩
  | 1 => ⟨S_, .f32⟩
  | 2 => ⟨S4126x512, .f32⟩
  | 3 => ⟨S4126x512, .f32⟩
  | 4 => ⟨S1x512, .f32⟩
  | 5 => ⟨S_, .f32⟩
  | 6 => ⟨S31x512, .f32⟩
  | 7 => ⟨S31x512, .f32⟩
  | 8 => ⟨S4096x512, .f32⟩
  | 9 => ⟨S4096x512, .f32⟩
  | 10 => ⟨S4096x512, .f32⟩
  | 11 => ⟨S_, .f32⟩
  | 12 => ⟨S512, .f32⟩
  | 13 => ⟨S1x512, .f32⟩
  | 14 => ⟨S_, .f32⟩
  | 15 => ⟨S512, .f32⟩
  | 16 => ⟨S_, .f32⟩
  | 17 => ⟨S4126x512, .f32⟩
  | 18 => ⟨S4126x512, .f32⟩
  | 19 => ⟨S1x512, .f32⟩
  | 20 => ⟨S_, .f32⟩
  | 21 => ⟨S31x512, .f32⟩
  | 22 => ⟨S31x512, .f32⟩
  | 23 => ⟨S4096x512, .f32⟩
  | 24 => ⟨S4096x512, .f32⟩
  | 25 => ⟨S4096x512, .f32⟩
  | 26 => ⟨S_, .f32⟩
  | 27 => ⟨S512, .f32⟩
  | 28 => ⟨S1x512, .f32⟩
  | 29 => ⟨S_, .f32⟩
  | 30 => ⟨S512, .f32⟩
  | 31 => ⟨S_, .f32⟩
  | 32 => ⟨S4126x512, .f32⟩
  | 33 => ⟨S4126x512, .f32⟩
  | 34 => ⟨S1x512, .f32⟩
  | 35 => ⟨S_, .f32⟩
  | 36 => ⟨S31x512, .f32⟩
  | 37 => ⟨S31x512, .f32⟩
  | 38 => ⟨S4096x512, .f32⟩
  | 39 => ⟨S4096x512, .f32⟩
  | 40 => ⟨S4096x512, .f32⟩
  | 41 => ⟨S_, .f32⟩
  | 42 => ⟨S512, .f32⟩
  | 43 => ⟨S1x512, .f32⟩
  | 44 => ⟨S_, .f32⟩
  | 45 => ⟨S512, .f32⟩
  | 46 => ⟨S_, .f32⟩
  | 47 => ⟨S4126x512, .f32⟩
  | 48 => ⟨S4126x512, .f32⟩
  | 49 => ⟨S1x512, .f32⟩
  | 50 => ⟨S_, .f32⟩
  | 51 => ⟨S31x512, .f32⟩
  | 52 => ⟨S31x512, .f32⟩
  | 53 => ⟨S4096x512, .f32⟩
  | 54 => ⟨S4096x512, .f32⟩
  | 55 => ⟨S4096x512, .f32⟩
  | 56 => ⟨S_, .f32⟩
  | 57 => ⟨S512, .f32⟩
  | 58 => ⟨S1x512, .f32⟩
  | 59 => ⟨S_, .f32⟩
  | 60 => ⟨S512, .f32⟩
  | 61 => ⟨S_, .f32⟩
  | 62 => ⟨S4126x512, .f32⟩
  | 63 => ⟨S4126x512, .f32⟩
  | 64 => ⟨S1x512, .f32⟩
  | 65 => ⟨S_, .f32⟩
  | 66 => ⟨S31x512, .f32⟩
  | 67 => ⟨S31x512, .f32⟩
  | 68 => ⟨S4096x512, .f32⟩
  | 69 => ⟨S4096x512, .f32⟩
  | 70 => ⟨S4096x512, .f32⟩
  | 71 => ⟨S_, .f32⟩
  | 72 => ⟨S512, .f32⟩
  | 73 => ⟨S1x512, .f32⟩
  | 74 => ⟨S_, .f32⟩
  | 75 => ⟨S512, .f32⟩
  | 76 => ⟨S_, .f32⟩
  | 77 => ⟨S4126x512, .f32⟩
  | 78 => ⟨S4126x512, .f32⟩
  | 79 => ⟨S1x512, .f32⟩
  | 80 => ⟨S_, .f32⟩
  | 81 => ⟨S31x512, .f32⟩
  | 82 => ⟨S31x512, .f32⟩
  | 83 => ⟨S4096x512, .f32⟩
  | 84 => ⟨S4096x512, .f32⟩
  | 85 => ⟨S4096x512, .f32⟩
  | 86 => ⟨S_, .f32⟩
  | 87 => ⟨S512, .f32⟩
  | 88 => ⟨S1x512, .f32⟩
  | 89 => ⟨S_, .f32⟩
  | 90 => ⟨S512, .f32⟩
  | 91 => ⟨S_, .f32⟩
  | 92 => ⟨S4126x512, .f32⟩
  | 93 => ⟨S4126x512, .f32⟩
  | 94 => ⟨S1x512, .f32⟩
  | 95 => ⟨S_, .f32⟩
  | 96 => ⟨S31x512, .f32⟩
  | 97 => ⟨S31x512, .f32⟩
  | 98 => ⟨S4096x512, .f32⟩
  | 99 => ⟨S4096x512, .f32⟩
  | 100 => ⟨S4096x512, .f32⟩
  | 101 => ⟨S_, .f32⟩
  | 102 => ⟨S512, .f32⟩
  | 103 => ⟨S1x512, .f32⟩
  | 104 => ⟨S_, .f32⟩
  | 105 => ⟨S512, .f32⟩
  | 106 => ⟨S_, .f32⟩
  | 107 => ⟨S4126x512, .f32⟩
  | 108 => ⟨S4126x512, .f32⟩
  | 109 => ⟨S1x512, .f32⟩
  | 110 => ⟨S_, .f32⟩
  | 111 => ⟨S31x512, .f32⟩
  | 112 => ⟨S31x512, .f32⟩
  | 113 => ⟨S4096x512, .f32⟩
  | 114 => ⟨S4096x512, .f32⟩
  | 115 => ⟨S4096x512, .f32⟩
  | 116 => ⟨S_, .f32⟩
  | 117 => ⟨S512, .f32⟩
  | 118 => ⟨S1x512, .f32⟩
  | 119 => ⟨S_, .f32⟩
  | 120 => ⟨S512, .f32⟩
  | 121 => ⟨S_, .f32⟩
  | 122 => ⟨S4126x512, .f32⟩
  | 123 => ⟨S4126x512, .f32⟩
  | 124 => ⟨S1x512, .f32⟩
  | 125 => ⟨S_, .f32⟩
  | 126 => ⟨S31x512, .f32⟩
  | 127 => ⟨S31x512, .f32⟩
  | _ => ⟨S4096x512, .f32⟩

abbrev hbmTy0_4 (i : Nat) : BufTy := match i % 128 with
  | 0 => ⟨S4096x512, .f32⟩
  | 1 => ⟨S4096x512, .f32⟩
  | 2 => ⟨S4096x512, .f32⟩
  | 3 => ⟨S_, .f32⟩
  | 4 => ⟨S512, .f32⟩
  | 5 => ⟨S1x512, .f32⟩
  | 6 => ⟨S_, .f32⟩
  | 7 => ⟨S512, .f32⟩
  | 8 => ⟨S_, .f32⟩
  | 9 => ⟨S4126x512, .f32⟩
  | 10 => ⟨S4126x512, .f32⟩
  | 11 => ⟨S1x512, .f32⟩
  | 12 => ⟨S_, .f32⟩
  | 13 => ⟨S31x512, .f32⟩
  | 14 => ⟨S31x512, .f32⟩
  | 15 => ⟨S4096x512, .f32⟩
  | 16 => ⟨S4096x512, .f32⟩
  | 17 => ⟨S4096x512, .f32⟩
  | 18 => ⟨S_, .f32⟩
  | 19 => ⟨S512, .f32⟩
  | 20 => ⟨S1x512, .f32⟩
  | 21 => ⟨S_, .f32⟩
  | 22 => ⟨S512, .f32⟩
  | 23 => ⟨S_, .f32⟩
  | 24 => ⟨S4126x512, .f32⟩
  | 25 => ⟨S4126x512, .f32⟩
  | 26 => ⟨S1x512, .f32⟩
  | 27 => ⟨S_, .f32⟩
  | 28 => ⟨S31x512, .f32⟩
  | 29 => ⟨S31x512, .f32⟩
  | 30 => ⟨S4096x512, .f32⟩
  | 31 => ⟨S4096x512, .f32⟩
  | 32 => ⟨S4096x512, .f32⟩
  | 33 => ⟨S_, .f32⟩
  | 34 => ⟨S512, .f32⟩
  | 35 => ⟨S1x512, .f32⟩
  | 36 => ⟨S_, .f32⟩
  | 37 => ⟨S512, .f32⟩
  | 38 => ⟨S_, .f32⟩
  | 39 => ⟨S4126x512, .f32⟩
  | 40 => ⟨S4126x512, .f32⟩
  | 41 => ⟨S1x512, .f32⟩
  | 42 => ⟨S_, .f32⟩
  | 43 => ⟨S31x512, .f32⟩
  | 44 => ⟨S31x512, .f32⟩
  | 45 => ⟨S4096x512, .f32⟩
  | 46 => ⟨S4096x512, .f32⟩
  | 47 => ⟨S4096x512, .f32⟩
  | 48 => ⟨S_, .f32⟩
  | 49 => ⟨S512, .f32⟩
  | 50 => ⟨S1x512, .f32⟩
  | 51 => ⟨S_, .f32⟩
  | 52 => ⟨S512, .f32⟩
  | 53 => ⟨S_, .f32⟩
  | 54 => ⟨S4126x512, .f32⟩
  | 55 => ⟨S4126x512, .f32⟩
  | 56 => ⟨S1x512, .f32⟩
  | 57 => ⟨S_, .f32⟩
  | 58 => ⟨S31x512, .f32⟩
  | 59 => ⟨S31x512, .f32⟩
  | 60 => ⟨S4096x512, .f32⟩
  | 61 => ⟨S4096x512, .f32⟩
  | 62 => ⟨S4096x512, .f32⟩
  | 63 => ⟨S_, .f32⟩
  | 64 => ⟨S512, .f32⟩
  | 65 => ⟨S1x512, .f32⟩
  | 66 => ⟨S_, .f32⟩
  | 67 => ⟨S512, .f32⟩
  | 68 => ⟨S_, .f32⟩
  | 69 => ⟨S4126x512, .f32⟩
  | 70 => ⟨S4126x512, .f32⟩
  | 71 => ⟨S1x512, .f32⟩
  | 72 => ⟨S_, .f32⟩
  | 73 => ⟨S31x512, .f32⟩
  | 74 => ⟨S31x512, .f32⟩
  | 75 => ⟨S4096x512, .f32⟩
  | 76 => ⟨S4096x512, .f32⟩
  | 77 => ⟨S4096x512, .f32⟩
  | 78 => ⟨S_, .f32⟩
  | 79 => ⟨S512, .f32⟩
  | 80 => ⟨S1x512, .f32⟩
  | 81 => ⟨S_, .f32⟩
  | 82 => ⟨S512, .f32⟩
  | 83 => ⟨S_, .f32⟩
  | 84 => ⟨S4126x512, .f32⟩
  | 85 => ⟨S4126x512, .f32⟩
  | 86 => ⟨S1x512, .f32⟩
  | 87 => ⟨S_, .f32⟩
  | 88 => ⟨S31x512, .f32⟩
  | 89 => ⟨S31x512, .f32⟩
  | 90 => ⟨S4096x512, .f32⟩
  | 91 => ⟨S4096x512, .f32⟩
  | 92 => ⟨S4096x512, .f32⟩
  | 93 => ⟨S_, .f32⟩
  | 94 => ⟨S512, .f32⟩
  | 95 => ⟨S1x512, .f32⟩
  | 96 => ⟨S_, .f32⟩
  | 97 => ⟨S512, .f32⟩
  | 98 => ⟨S_, .f32⟩
  | 99 => ⟨S4126x512, .f32⟩
  | 100 => ⟨S4126x512, .f32⟩
  | 101 => ⟨S1x512, .f32⟩
  | 102 => ⟨S_, .f32⟩
  | 103 => ⟨S31x512, .f32⟩
  | 104 => ⟨S31x512, .f32⟩
  | 105 => ⟨S4096x512, .f32⟩
  | 106 => ⟨S4096x512, .f32⟩
  | 107 => ⟨S4096x512, .f32⟩
  | 108 => ⟨S_, .f32⟩
  | 109 => ⟨S512, .f32⟩
  | 110 => ⟨S1x512, .f32⟩
  | 111 => ⟨S_, .f32⟩
  | 112 => ⟨S512, .f32⟩
  | 113 => ⟨S_, .f32⟩
  | 114 => ⟨S4126x512, .f32⟩
  | 115 => ⟨S4126x512, .f32⟩
  | 116 => ⟨S1x512, .f32⟩
  | 117 => ⟨S_, .f32⟩
  | 118 => ⟨S31x512, .f32⟩
  | 119 => ⟨S31x512, .f32⟩
  | 120 => ⟨S4096x512, .f32⟩
  | 121 => ⟨S4096x512, .f32⟩
  | 122 => ⟨S4096x512, .f32⟩
  | 123 => ⟨S_, .f32⟩
  | 124 => ⟨S512, .f32⟩
  | 125 => ⟨S1x512, .f32⟩
  | 126 => ⟨S_, .f32⟩
  | 127 => ⟨S512, .f32⟩
  | _ => ⟨S4096x512, .f32⟩

abbrev hbmTy0_5 (i : Nat) : BufTy := match i % 128 with
  | 0 => ⟨S_, .f32⟩
  | 1 => ⟨S4126x512, .f32⟩
  | 2 => ⟨S4126x512, .f32⟩
  | 3 => ⟨S1x512, .f32⟩
  | 4 => ⟨S_, .f32⟩
  | 5 => ⟨S31x512, .f32⟩
  | 6 => ⟨S31x512, .f32⟩
  | 7 => ⟨S4096x512, .f32⟩
  | 8 => ⟨S4096x512, .f32⟩
  | 9 => ⟨S4096x512, .f32⟩
  | 10 => ⟨S_, .f32⟩
  | 11 => ⟨S512, .f32⟩
  | 12 => ⟨S1x512, .f32⟩
  | 13 => ⟨S_, .f32⟩
  | 14 => ⟨S512, .f32⟩
  | 15 => ⟨S_, .f32⟩
  | 16 => ⟨S4126x512, .f32⟩
  | 17 => ⟨S4126x512, .f32⟩
  | 18 => ⟨S1x512, .f32⟩
  | 19 => ⟨S_, .f32⟩
  | 20 => ⟨S31x512, .f32⟩
  | 21 => ⟨S31x512, .f32⟩
  | 22 => ⟨S4096x512, .f32⟩
  | 23 => ⟨S4096x512, .f32⟩
  | 24 => ⟨S4096x512, .f32⟩
  | 25 => ⟨S_, .f32⟩
  | 26 => ⟨S512, .f32⟩
  | 27 => ⟨S1x512, .f32⟩
  | 28 => ⟨S_, .f32⟩
  | 29 => ⟨S512, .f32⟩
  | 30 => ⟨S_, .f32⟩
  | 31 => ⟨S4126x512, .f32⟩
  | 32 => ⟨S4126x512, .f32⟩
  | 33 => ⟨S1x512, .f32⟩
  | 34 => ⟨S_, .f32⟩
  | 35 => ⟨S31x512, .f32⟩
  | 36 => ⟨S31x512, .f32⟩
  | 37 => ⟨S4096x512, .f32⟩
  | 38 => ⟨S4096x512, .f32⟩
  | 39 => ⟨S4096x512, .f32⟩
  | 40 => ⟨S_, .f32⟩
  | 41 => ⟨S512, .f32⟩
  | 42 => ⟨S1x512, .f32⟩
  | 43 => ⟨S_, .f32⟩
  | 44 => ⟨S512, .f32⟩
  | 45 => ⟨S_, .f32⟩
  | 46 => ⟨S4126x512, .f32⟩
  | 47 => ⟨S4126x512, .f32⟩
  | 48 => ⟨S1x512, .f32⟩
  | 49 => ⟨S_, .f32⟩
  | 50 => ⟨S31x512, .f32⟩
  | 51 => ⟨S31x512, .f32⟩
  | 52 => ⟨S4096x512, .f32⟩
  | 53 => ⟨S4096x512, .f32⟩
  | 54 => ⟨S4096x512, .f32⟩
  | 55 => ⟨S_, .f32⟩
  | 56 => ⟨S512, .f32⟩
  | 57 => ⟨S1x512, .f32⟩
  | 58 => ⟨S_, .f32⟩
  | 59 => ⟨S512, .f32⟩
  | 60 => ⟨S_, .f32⟩
  | 61 => ⟨S4126x512, .f32⟩
  | 62 => ⟨S4126x512, .f32⟩
  | 63 => ⟨S1x512, .f32⟩
  | 64 => ⟨S_, .f32⟩
  | 65 => ⟨S31x512, .f32⟩
  | 66 => ⟨S31x512, .f32⟩
  | 67 => ⟨S30x512, .f32⟩
  | 68 => ⟨S4096x512, .f32⟩
  | 69 => ⟨S4096x512, .f32⟩
  | 70 => ⟨S4096x512, .f32⟩
  | 71 => ⟨S4096x512, .f32⟩
  | 72 => ⟨S_, .f32⟩
  | 73 => ⟨S4096x1024, .f32⟩
  | 74 => ⟨S_, .f32⟩
  | 75 => ⟨S4096x1024, .f32⟩
  | 76 => ⟨S4096x1024, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_cst_5 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_cst_7 : Ref sig .tc := ⟨.hbm, 252, rfl⟩
abbrev main_v241 : Ref sig .tc := ⟨.hbm, 253, rfl⟩
abbrev main_v242 : Ref sig .tc := ⟨.hbm, 254, rfl⟩
abbrev main_cst_8 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_cst_9 : Ref sig .tc := ⟨.hbm, 260, rfl⟩
abbrev main_v247 : Ref sig .tc := ⟨.hbm, 261, rfl⟩
abbrev main_v248 : Ref sig .tc := ⟨.hbm, 262, rfl⟩
abbrev main_cst_10 : Ref sig .tc := ⟨.hbm, 263, rfl⟩
abbrev main_v249 : Ref sig .tc := ⟨.hbm, 264, rfl⟩
abbrev main_cst_11 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_cst_12 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_13 : Ref sig .tc := ⟨.hbm, 275, rfl⟩
abbrev main_v258 : Ref sig .tc := ⟨.hbm, 276, rfl⟩
abbrev main_v259 : Ref sig .tc := ⟨.hbm, 277, rfl⟩
abbrev main_cst_14 : Ref sig .tc := ⟨.hbm, 278, rfl⟩
abbrev main_v260 : Ref sig .tc := ⟨.hbm, 279, rfl⟩
abbrev main_cst_15 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_cst_16 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_cst_17 : Ref sig .tc := ⟨.hbm, 290, rfl⟩
abbrev main_v269 : Ref sig .tc := ⟨.hbm, 291, rfl⟩
abbrev main_v270 : Ref sig .tc := ⟨.hbm, 292, rfl⟩
abbrev main_cst_18 : Ref sig .tc := ⟨.hbm, 293, rfl⟩
abbrev main_v271 : Ref sig .tc := ⟨.hbm, 294, rfl⟩
abbrev main_cst_19 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_cst_20 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_cst_21 : Ref sig .tc := ⟨.hbm, 305, rfl⟩
abbrev main_v280 : Ref sig .tc := ⟨.hbm, 306, rfl⟩
abbrev main_v281 : Ref sig .tc := ⟨.hbm, 307, rfl⟩
abbrev main_cst_22 : Ref sig .tc := ⟨.hbm, 308, rfl⟩
abbrev main_v282 : Ref sig .tc := ⟨.hbm, 309, rfl⟩
abbrev main_cst_23 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_cst_24 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_cst_25 : Ref sig .tc := ⟨.hbm, 320, rfl⟩
abbrev main_v291 : Ref sig .tc := ⟨.hbm, 321, rfl⟩
abbrev main_v292 : Ref sig .tc := ⟨.hbm, 322, rfl⟩
abbrev main_cst_26 : Ref sig .tc := ⟨.hbm, 323, rfl⟩
abbrev main_v293 : Ref sig .tc := ⟨.hbm, 324, rfl⟩
abbrev main_cst_27 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_cst_28 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_cst_29 : Ref sig .tc := ⟨.hbm, 335, rfl⟩
abbrev main_v302 : Ref sig .tc := ⟨.hbm, 336, rfl⟩
abbrev main_v303 : Ref sig .tc := ⟨.hbm, 337, rfl⟩
abbrev main_cst_30 : Ref sig .tc := ⟨.hbm, 338, rfl⟩
abbrev main_v304 : Ref sig .tc := ⟨.hbm, 339, rfl⟩
abbrev main_cst_31 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_cst_32 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_cst_33 : Ref sig .tc := ⟨.hbm, 350, rfl⟩
abbrev main_v313 : Ref sig .tc := ⟨.hbm, 351, rfl⟩
abbrev main_v314 : Ref sig .tc := ⟨.hbm, 352, rfl⟩
abbrev main_cst_34 : Ref sig .tc := ⟨.hbm, 353, rfl⟩
abbrev main_v315 : Ref sig .tc := ⟨.hbm, 354, rfl⟩
abbrev main_cst_35 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_cst_36 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_cst_37 : Ref sig .tc := ⟨.hbm, 365, rfl⟩
abbrev main_v324 : Ref sig .tc := ⟨.hbm, 366, rfl⟩
abbrev main_v325 : Ref sig .tc := ⟨.hbm, 367, rfl⟩
abbrev main_cst_38 : Ref sig .tc := ⟨.hbm, 368, rfl⟩
abbrev main_v326 : Ref sig .tc := ⟨.hbm, 369, rfl⟩
abbrev main_cst_39 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_cst_40 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_cst_41 : Ref sig .tc := ⟨.hbm, 380, rfl⟩
abbrev main_v335 : Ref sig .tc := ⟨.hbm, 381, rfl⟩
abbrev main_v336 : Ref sig .tc := ⟨.hbm, 382, rfl⟩
abbrev main_cst_42 : Ref sig .tc := ⟨.hbm, 383, rfl⟩
abbrev main_v337 : Ref sig .tc := ⟨.hbm, 384, rfl⟩
abbrev main_cst_43 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_cst_44 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_cst_45 : Ref sig .tc := ⟨.hbm, 395, rfl⟩
abbrev main_v346 : Ref sig .tc := ⟨.hbm, 396, rfl⟩
abbrev main_v347 : Ref sig .tc := ⟨.hbm, 397, rfl⟩
abbrev main_cst_46 : Ref sig .tc := ⟨.hbm, 398, rfl⟩
abbrev main_v348 : Ref sig .tc := ⟨.hbm, 399, rfl⟩
abbrev main_cst_47 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_cst_48 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_cst_49 : Ref sig .tc := ⟨.hbm, 410, rfl⟩
abbrev main_v357 : Ref sig .tc := ⟨.hbm, 411, rfl⟩
abbrev main_v358 : Ref sig .tc := ⟨.hbm, 412, rfl⟩
abbrev main_cst_50 : Ref sig .tc := ⟨.hbm, 413, rfl⟩
abbrev main_v359 : Ref sig .tc := ⟨.hbm, 414, rfl⟩
abbrev main_cst_51 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_cst_52 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_cst_53 : Ref sig .tc := ⟨.hbm, 425, rfl⟩
abbrev main_v368 : Ref sig .tc := ⟨.hbm, 426, rfl⟩
abbrev main_v369 : Ref sig .tc := ⟨.hbm, 427, rfl⟩
abbrev main_cst_54 : Ref sig .tc := ⟨.hbm, 428, rfl⟩
abbrev main_v370 : Ref sig .tc := ⟨.hbm, 429, rfl⟩
abbrev main_cst_55 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_cst_56 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_cst_57 : Ref sig .tc := ⟨.hbm, 440, rfl⟩
abbrev main_v379 : Ref sig .tc := ⟨.hbm, 441, rfl⟩
abbrev main_v380 : Ref sig .tc := ⟨.hbm, 442, rfl⟩
abbrev main_cst_58 : Ref sig .tc := ⟨.hbm, 443, rfl⟩
abbrev main_v381 : Ref sig .tc := ⟨.hbm, 444, rfl⟩
abbrev main_cst_59 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_60 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_cst_61 : Ref sig .tc := ⟨.hbm, 455, rfl⟩
abbrev main_v390 : Ref sig .tc := ⟨.hbm, 456, rfl⟩
abbrev main_v391 : Ref sig .tc := ⟨.hbm, 457, rfl⟩
abbrev main_cst_62 : Ref sig .tc := ⟨.hbm, 458, rfl⟩
abbrev main_v392 : Ref sig .tc := ⟨.hbm, 459, rfl⟩
abbrev main_cst_63 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_cst_64 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_cst_65 : Ref sig .tc := ⟨.hbm, 470, rfl⟩
abbrev main_v401 : Ref sig .tc := ⟨.hbm, 471, rfl⟩
abbrev main_v402 : Ref sig .tc := ⟨.hbm, 472, rfl⟩
abbrev main_cst_66 : Ref sig .tc := ⟨.hbm, 473, rfl⟩
abbrev main_v403 : Ref sig .tc := ⟨.hbm, 474, rfl⟩
abbrev main_cst_67 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_cst_68 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_cst_69 : Ref sig .tc := ⟨.hbm, 485, rfl⟩
abbrev main_v412 : Ref sig .tc := ⟨.hbm, 486, rfl⟩
abbrev main_v413 : Ref sig .tc := ⟨.hbm, 487, rfl⟩
abbrev main_cst_70 : Ref sig .tc := ⟨.hbm, 488, rfl⟩
abbrev main_v414 : Ref sig .tc := ⟨.hbm, 489, rfl⟩
abbrev main_cst_71 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_cst_72 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_cst_73 : Ref sig .tc := ⟨.hbm, 500, rfl⟩
abbrev main_v423 : Ref sig .tc := ⟨.hbm, 501, rfl⟩
abbrev main_v424 : Ref sig .tc := ⟨.hbm, 502, rfl⟩
abbrev main_cst_74 : Ref sig .tc := ⟨.hbm, 503, rfl⟩
abbrev main_v425 : Ref sig .tc := ⟨.hbm, 504, rfl⟩
abbrev main_cst_75 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_cst_76 : Ref sig .tc := ⟨.hbm, 509, rfl⟩
abbrev main_v429 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_cst_77 : Ref sig .tc := ⟨.hbm, 515, rfl⟩
abbrev main_v434 : Ref sig .tc := ⟨.hbm, 516, rfl⟩
abbrev main_v435 : Ref sig .tc := ⟨.hbm, 517, rfl⟩
abbrev main_cst_78 : Ref sig .tc := ⟨.hbm, 518, rfl⟩
abbrev main_v436 : Ref sig .tc := ⟨.hbm, 519, rfl⟩
abbrev main_cst_79 : Ref sig .tc := ⟨.hbm, 520, rfl⟩
abbrev main_v437 : Ref sig .tc := ⟨.hbm, 521, rfl⟩
abbrev main_v438 : Ref sig .tc := ⟨.hbm, 522, rfl⟩
abbrev main_v439 : Ref sig .tc := ⟨.hbm, 523, rfl⟩
abbrev main_cst_80 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_cst_81 : Ref sig .tc := ⟨.hbm, 530, rfl⟩
abbrev main_v445 : Ref sig .tc := ⟨.hbm, 531, rfl⟩
abbrev main_v446 : Ref sig .tc := ⟨.hbm, 532, rfl⟩
abbrev main_cst_82 : Ref sig .tc := ⟨.hbm, 533, rfl⟩
abbrev main_v447 : Ref sig .tc := ⟨.hbm, 534, rfl⟩
abbrev main_cst_83 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_cst_84 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_cst_85 : Ref sig .tc := ⟨.hbm, 545, rfl⟩
abbrev main_v456 : Ref sig .tc := ⟨.hbm, 546, rfl⟩
abbrev main_v457 : Ref sig .tc := ⟨.hbm, 547, rfl⟩
abbrev main_cst_86 : Ref sig .tc := ⟨.hbm, 548, rfl⟩
abbrev main_v458 : Ref sig .tc := ⟨.hbm, 549, rfl⟩
abbrev main_cst_87 : Ref sig .tc := ⟨.hbm, 550, rfl⟩
abbrev main_v459 : Ref sig .tc := ⟨.hbm, 551, rfl⟩
abbrev main_v460 : Ref sig .tc := ⟨.hbm, 552, rfl⟩
abbrev main_v461 : Ref sig .tc := ⟨.hbm, 553, rfl⟩
abbrev main_cst_88 : Ref sig .tc := ⟨.hbm, 554, rfl⟩
abbrev main_v462 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_cst_89 : Ref sig .tc := ⟨.hbm, 560, rfl⟩
abbrev main_v467 : Ref sig .tc := ⟨.hbm, 561, rfl⟩
abbrev main_v468 : Ref sig .tc := ⟨.hbm, 562, rfl⟩
abbrev main_cst_90 : Ref sig .tc := ⟨.hbm, 563, rfl⟩
abbrev main_v469 : Ref sig .tc := ⟨.hbm, 564, rfl⟩
abbrev main_cst_91 : Ref sig .tc := ⟨.hbm, 565, rfl⟩
abbrev main_v470 : Ref sig .tc := ⟨.hbm, 566, rfl⟩
abbrev main_v471 : Ref sig .tc := ⟨.hbm, 567, rfl⟩
abbrev main_v472 : Ref sig .tc := ⟨.hbm, 568, rfl⟩
abbrev main_cst_92 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_cst_93 : Ref sig .tc := ⟨.hbm, 575, rfl⟩
abbrev main_v478 : Ref sig .tc := ⟨.hbm, 576, rfl⟩
abbrev main_v479 : Ref sig .tc := ⟨.hbm, 577, rfl⟩
abbrev main_cst_94 : Ref sig .tc := ⟨.hbm, 578, rfl⟩
abbrev main_v480 : Ref sig .tc := ⟨.hbm, 579, rfl⟩
abbrev main_cst_95 : Ref sig .tc := ⟨.hbm, 580, rfl⟩
abbrev main_v481 : Ref sig .tc := ⟨.hbm, 581, rfl⟩
abbrev main_v482 : Ref sig .tc := ⟨.hbm, 582, rfl⟩
abbrev main_v483 : Ref sig .tc := ⟨.hbm, 583, rfl⟩
abbrev main_cst_96 : Ref sig .tc := ⟨.hbm, 584, rfl⟩
abbrev main_v484 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_cst_97 : Ref sig .tc := ⟨.hbm, 590, rfl⟩
abbrev main_v489 : Ref sig .tc := ⟨.hbm, 591, rfl⟩
abbrev main_v490 : Ref sig .tc := ⟨.hbm, 592, rfl⟩
abbrev main_cst_98 : Ref sig .tc := ⟨.hbm, 593, rfl⟩
abbrev main_v491 : Ref sig .tc := ⟨.hbm, 594, rfl⟩
abbrev main_cst_99 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_cst_100 : Ref sig .tc := ⟨.hbm, 599, rfl⟩
abbrev main_v495 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_cst_101 : Ref sig .tc := ⟨.hbm, 605, rfl⟩
abbrev main_v500 : Ref sig .tc := ⟨.hbm, 606, rfl⟩
abbrev main_v501 : Ref sig .tc := ⟨.hbm, 607, rfl⟩
abbrev main_cst_102 : Ref sig .tc := ⟨.hbm, 608, rfl⟩
abbrev main_v502 : Ref sig .tc := ⟨.hbm, 609, rfl⟩
abbrev main_cst_103 : Ref sig .tc := ⟨.hbm, 610, rfl⟩
abbrev main_v503 : Ref sig .tc := ⟨.hbm, 611, rfl⟩
abbrev main_v504 : Ref sig .tc := ⟨.hbm, 612, rfl⟩
abbrev main_v505 : Ref sig .tc := ⟨.hbm, 613, rfl⟩
abbrev main_cst_104 : Ref sig .tc := ⟨.hbm, 614, rfl⟩
abbrev main_v506 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_v510 : Ref sig .tc := ⟨.hbm, 619, rfl⟩
abbrev main_cst_105 : Ref sig .tc := ⟨.hbm, 620, rfl⟩
abbrev main_v511 : Ref sig .tc := ⟨.hbm, 621, rfl⟩
abbrev main_v512 : Ref sig .tc := ⟨.hbm, 622, rfl⟩
abbrev main_cst_106 : Ref sig .tc := ⟨.hbm, 623, rfl⟩
abbrev main_v513 : Ref sig .tc := ⟨.hbm, 624, rfl⟩
abbrev main_cst_107 : Ref sig .tc := ⟨.hbm, 625, rfl⟩
abbrev main_v514 : Ref sig .tc := ⟨.hbm, 626, rfl⟩
abbrev main_v515 : Ref sig .tc := ⟨.hbm, 627, rfl⟩
abbrev main_v516 : Ref sig .tc := ⟨.hbm, 628, rfl⟩
abbrev main_cst_108 : Ref sig .tc := ⟨.hbm, 629, rfl⟩
abbrev main_v517 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_v521 : Ref sig .tc := ⟨.hbm, 634, rfl⟩
abbrev main_cst_109 : Ref sig .tc := ⟨.hbm, 635, rfl⟩
abbrev main_v522 : Ref sig .tc := ⟨.hbm, 636, rfl⟩
abbrev main_v523 : Ref sig .tc := ⟨.hbm, 637, rfl⟩
abbrev main_cst_110 : Ref sig .tc := ⟨.hbm, 638, rfl⟩
abbrev main_v524 : Ref sig .tc := ⟨.hbm, 639, rfl⟩
abbrev main_cst_111 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_cst_112 : Ref sig .tc := ⟨.hbm, 644, rfl⟩
abbrev main_v528 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_cst_113 : Ref sig .tc := ⟨.hbm, 650, rfl⟩
abbrev main_v533 : Ref sig .tc := ⟨.hbm, 651, rfl⟩
abbrev main_v534 : Ref sig .tc := ⟨.hbm, 652, rfl⟩
abbrev main_cst_114 : Ref sig .tc := ⟨.hbm, 653, rfl⟩
abbrev main_v535 : Ref sig .tc := ⟨.hbm, 654, rfl⟩
abbrev main_cst_115 : Ref sig .tc := ⟨.hbm, 655, rfl⟩
abbrev main_v536 : Ref sig .tc := ⟨.hbm, 656, rfl⟩
abbrev main_v537 : Ref sig .tc := ⟨.hbm, 657, rfl⟩
abbrev main_v538 : Ref sig .tc := ⟨.hbm, 658, rfl⟩
abbrev main_cst_116 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_cst_117 : Ref sig .tc := ⟨.hbm, 665, rfl⟩
abbrev main_v544 : Ref sig .tc := ⟨.hbm, 666, rfl⟩
abbrev main_v545 : Ref sig .tc := ⟨.hbm, 667, rfl⟩
abbrev main_cst_118 : Ref sig .tc := ⟨.hbm, 668, rfl⟩
abbrev main_v546 : Ref sig .tc := ⟨.hbm, 669, rfl⟩
abbrev main_cst_119 : Ref sig .tc := ⟨.hbm, 670, rfl⟩
abbrev main_v547 : Ref sig .tc := ⟨.hbm, 671, rfl⟩
abbrev main_v548 : Ref sig .tc := ⟨.hbm, 672, rfl⟩
abbrev main_v549 : Ref sig .tc := ⟨.hbm, 673, rfl⟩
abbrev main_cst_120 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_cst_121 : Ref sig .tc := ⟨.hbm, 680, rfl⟩
abbrev main_v555 : Ref sig .tc := ⟨.hbm, 681, rfl⟩
abbrev main_v556 : Ref sig .tc := ⟨.hbm, 682, rfl⟩
abbrev main_cst_122 : Ref sig .tc := ⟨.hbm, 683, rfl⟩
abbrev main_v557 : Ref sig .tc := ⟨.hbm, 684, rfl⟩
abbrev main_cst_123 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_cst_124 : Ref sig .tc := ⟨.hbm, 689, rfl⟩
abbrev main_v561 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_cst_125 : Ref sig .tc := ⟨.hbm, 695, rfl⟩
abbrev main_v566 : Ref sig .tc := ⟨.hbm, 696, rfl⟩
abbrev main_v567 : Ref sig .tc := ⟨.hbm, 697, rfl⟩
abbrev main_cst_126 : Ref sig .tc := ⟨.hbm, 698, rfl⟩
abbrev main_v568 : Ref sig .tc := ⟨.hbm, 699, rfl⟩
abbrev main_cst_127 : Ref sig .tc := ⟨.hbm, 700, rfl⟩
abbrev main_v569 : Ref sig .tc := ⟨.hbm, 701, rfl⟩
abbrev main_v570 : Ref sig .tc := ⟨.hbm, 702, rfl⟩
abbrev main_v571 : Ref sig .tc := ⟨.hbm, 703, rfl⟩
abbrev main_cst_128 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_cst_129 : Ref sig .tc := ⟨.hbm, 712, rfl⟩
abbrev main_v579 : Ref sig .tc := ⟨.hbm, 713, rfl⟩
abbrev main_cst_130 : Ref sig .tc := ⟨.hbm, 714, rfl⟩
abbrev main_v580 : Ref sig .tc := ⟨.hbm, 715, rfl⟩
abbrev main_v581 : Ref sig .tc := ⟨.hbm, 716, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1024x2816, .f32⟩
  | .hbm, ⟨6, _⟩ => ⟨S1024x2816, .f32⟩
  | .hbm, ⟨7, _⟩ => ⟨S4096x2816, .bf16⟩
  | .hbm, ⟨8, _⟩ => ⟨S4096x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S4096x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1024x2816, .f32⟩
  | .hbm, ⟨6, _⟩ => ⟨S1024x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S4096x512 : Shape := ⟨2, ![4096, 512]⟩
abbrev S1024x1536 : Shape := ⟨2, ![1024, 1536]⟩
abbrev S1536x1024 : Shape := ⟨2, ![1536, 1024]⟩
abbrev S4096x1536 : Shape := ⟨2, ![4096, 1536]⟩
abbrev S512x1024 : Shape := ⟨2, ![512, 1024]⟩
abbrev S512x512 : Shape := ⟨2, ![512, 512]⟩
abbrev S512x1536 : Shape := ⟨2, ![512, 1536]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x512, .f32⟩
  | .hbm, ⟨4, _⟩ => ⟨S4096x1024, .f32⟩
  | .hbm, ⟨5, _⟩ => ⟨S1024x1536, .f32⟩
  | .hbm, ⟨6, _⟩ => ⟨S1536x1024, .f32⟩
  | .hbm, ⟨7, _⟩ => ⟨S1536x1024, .bf16⟩
  | .hbm, ⟨8, _⟩ => ⟨S4096x1024, .f32⟩
  | .hbm, ⟨9, _⟩ => ⟨S1x1024, .f32⟩
  | .hbm, ⟨10, _⟩ => ⟨S4096x1536, .bf16⟩
  | .hbm, ⟨11, _⟩ => ⟨S4096x1024, .bf16⟩
  | .hbm, ⟨12, _⟩ => ⟨S4096x1536, .f32⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .f32⟩
  | .local _ .vmem, ⟨6, _⟩ => ⟨S512x512, .f32⟩
  | .local _ .vmem, ⟨7, _⟩ => ⟨S512x1024, .f32⟩
  | .local _ .vmem, ⟨8, _⟩ => ⟨S512x1024, .f32⟩
  | .local _ .vmem, ⟨9, _⟩ => ⟨S1536x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1536, .bf16⟩
  | .local _ .vmem, ⟨14, _⟩ => ⟨S512x1536, .bf16⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S4096x1024 : Shape := ⟨2, ![4096, 1024]⟩
abbrev S1x1024 : Shape := ⟨2, ![1, 1024]⟩
abbrev S4096x512 : Shape := ⟨2, ![4096, 512]⟩
abbrev S1024x1536 : Shape := ⟨2, ![1024, 1536]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x512, .f32⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1536, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel7.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1x1024, .f32⟩
  | .hbm, ⟨5, _⟩ => ⟨S4096x2816, .bf16⟩
  | .hbm, ⟨6, _⟩ => ⟨S2816x1024, .bf16⟩
  | .hbm, ⟨7, _⟩ => ⟨S4096x1024, .f32⟩
  | .hbm, ⟨8, _⟩ => ⟨S1x1024, .f32⟩
  | .hbm, ⟨9, _⟩ => ⟨S8x1024, .f32⟩
  | .hbm, ⟨10, _⟩ => ⟨S_, .f32⟩
  | .hbm, ⟨11, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_cst : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference7Ideal.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_cst_9 : Ref sig .tc := ⟨.hbm, 43, rfl⟩
abbrev main_cst_10 : Ref sig .tc := ⟨.hbm, 44, rfl⟩
abbrev main_v28 : Ref sig .tc := ⟨.hbm, 45, rfl⟩
abbrev main_v29 : Ref sig .tc := ⟨.hbm, 46, rfl⟩
abbrev main_cst_11 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel8.lean ====
abbrev S4096x512 : Shape := ⟨2, ![4096, 512]⟩
abbrev S4096x2048 : Shape := ⟨2, ![4096, 2048]⟩
abbrev S1x2048 : Shape := ⟨2, ![1, 2048]⟩
abbrev S512x2048 : Shape := ⟨2, ![512, 2048]⟩
abbrev S8x2048 : Shape := ⟨2, ![8, 2048]⟩
abbrev S512x512 : Shape := ⟨2, ![512, 512]⟩
abbrev S1024x128 : Shape := ⟨2, ![1024, 128]⟩
abbrev S1024x512 : Shape := ⟨2, ![1024, 512]⟩
abbrev S16x512 : Shape := ⟨2, ![16, 512]⟩
abbrev S1x512 : Shape := ⟨2, ![1, 512]⟩
abbrev S128x512 : Shape := ⟨2, ![128, 512]⟩
abbrev S8x512 : Shape := ⟨2, ![8, 512]⟩
abbrev S512x8x512 : Shape := ⟨3, ![512, 8, 512]⟩
abbrev S128x8x512 : Shape := ⟨3, ![128, 8, 512]⟩
abbrev S1x8x512 : Shape := ⟨3, ![1, 8, 512]⟩

abbrev nBuf : Space → Nat
  | .hbm => 19
  | .vmem => 50
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x2048, .bf16⟩
  | .hbm, ⟨4, _⟩ => ⟨S4096x2048, .bf16⟩
  | .hbm, ⟨5, _⟩ => ⟨S1x2048, .f32⟩
  | .hbm, ⟨6, _⟩ => ⟨S1x2048, .f32⟩
  | .hbm, ⟨7, _⟩ => ⟨S512x2048, .bf16⟩
  | .hbm, ⟨8, _⟩ => ⟨S512x2048, .bf16⟩
  | .hbm, ⟨9, _⟩ => ⟨S512x2048, .bf16⟩
  | .hbm, ⟨10, _⟩ => ⟨S512x2048, .bf16⟩
  | .hbm, ⟨11, _⟩ => ⟨S1x2048, .f32⟩
  | .hbm, ⟨12, _⟩ => ⟨S4096x512, .f32⟩
  | .hbm, ⟨13, _⟩ => ⟨S8x2048, .f32⟩
  | .hbm, ⟨14, _⟩ => ⟨S8x2048, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .local _ .vmem, ⟨0, _⟩ => ⟨S1024x128, .bf16⟩
  | .local _ .vmem, ⟨1, _⟩ => ⟨S1024x128, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S128x512, .bf16⟩
  | .local _ .vmem, ⟨27, _⟩ => ⟨S128x512, .bf16⟩
  | .local _ .vmem, ⟨28, _⟩ => ⟨S128x512, .bf16⟩
  | .local _ .vmem, ⟨29, _⟩ => ⟨S128x512, .bf16⟩
  | .local _ .vmem, ⟨30, _⟩ => ⟨S1024x128, .f32⟩
  | .local _ .vmem, ⟨31, _⟩ => ⟨S1024x128, .f32⟩
  | .local _ .vmem, ⟨32, _⟩ => ⟨S8x512, .f32⟩
  | .local _ .vmem, ⟨33, _⟩ => ⟨S8x512, .f32⟩
  | .local _ .vmem, ⟨34, _⟩ => ⟨S8x512, .f32⟩
  | .local _ .vmem, ⟨35, _⟩ => ⟨S8x512, .f32⟩
  | .local _ .vmem, ⟨36, _⟩ => ⟨S128x512, .f32⟩
  | .local _ .vmem, ⟨37, _⟩ => ⟨S128x512, .f32⟩
  | .local _ .vmem, ⟨38, _⟩ => ⟨S128x512, .f32⟩
  | .local _ .vmem, ⟨39, _⟩ => ⟨S128x512, .f32⟩
  | .local _ .vmem, ⟨40, _⟩ => ⟨S128x512, .f32⟩
  | .local _ .vmem, ⟨41, _⟩ => ⟨S128x512, .f32⟩
  | .local _ .vmem, ⟨42, _⟩ => ⟨S128x512, .f32⟩
  | .local _ .vmem, ⟨43, _⟩ => ⟨S128x512, .f32⟩
  | .local _ .vmem, ⟨44, _⟩ => ⟨S8x512, .f32⟩
  | .local _ .vmem, ⟨45, _⟩ => ⟨S8x512, .f32⟩
  | .local _ .vmem, ⟨46, _⟩ => ⟨S512x8x512, .f32⟩
  | .local _ .vmem, ⟨47, _⟩ => ⟨S512x8x512, .f32⟩
  | .local _ .vmem, ⟨48, _⟩ => ⟨S128x8x512, .f32⟩
  | .local _ .vmem, ⟨49, _⟩ => ⟨S128x8x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c4_i32 : BitVec 32 := 4#32
  let v10 : BitVec 1 := Scalar.cmpi .slt arg1 c4_i32
  let v11 : BitVec 32 := Scalar.extui v10
  let c0_i32_4 : BitVec 32 := 0#32
  let v12 : BitVec 1 := Scalar.cmpi .ne v11 c0_i32_4
  v12

def k0_off1 (i : grid0.Coords) : Fin 3 → Nat :=
  let c3_i32_8 : BitVec 32 := 3#32
  let arg1 : BitVec 32 := BitVec.ofNat 32 (i 1).val
  let v19 : BitVec 32 := Scalar.subi c3_i32_8 arg1
  let c128_i32 : BitVec 32 := 128#32
  let v20 : BitVec 32 := Scalar.muli v19 c128_i32
  let v25 : Index := Scalar.indexCast v20
  let c0_13 : Index := 0#32
  let c0_14 : Index := 0#32
  ![v25.toNat, 0, 0]
def k0_off2 (i : grid0.Coords) (c0_i32_25 : BitVec 32) : Fin 3 → Nat :=
  let c3_i32_8 : BitVec 32 := 3#32
  let arg1 : BitVec 32 := BitVec.ofNat 32 (i 1).val
  let v19 : BitVec 32 := Scalar.subi c3_i32_8 arg1
  let c128_i32 : BitVec 32 := 128#32
  let v20 : BitVec 32 := Scalar.muli v19 c128_i32
  let c128_i32_26 : BitVec 32 := 128#32
  let v40 : BitVec 32 := Scalar.addi v20 c128_i32_26
  let c1_i32 : BitVec 32 := 1#32
  let v41 : BitVec 32 := Scalar.subi v40 c1_i32
  let v42 : BitVec 32 := Scalar.subi v41 c0_i32_25
  let v49 : Index := Scalar.indexCast v42
  let c0_27 : Index := 0#32
  let c0_28 : Index := 0#32
  ![v49.toNat, 0, 0]
def k0_cond4 (i : grid0.Coords) : BitVec 1 :=
  let arg1 : BitVec 32 := BitVec.ofNat 32 (i 1).val
  let c4_i32_6 : BitVec 32 := 4#32
  let v16 : BitVec 1 := Scalar.cmpi .sge arg1 c4_i32_6
  let v17 : BitVec 32 := Scalar.extui v16
  let c0_i32_7 : BitVec 32 := 0#32
  let v18 : BitVec 1 := Scalar.cmpi .ne v17 c0_i32_7
  v18

def k0_off3 (i : grid0.Coords) (c0_i32_26 : BitVec 32) : Fin 3 → Nat :=
  let c7_i32 : BitVec 32 := 7#32
  let arg1 : BitVec 32 := BitVec.ofNat 32 (i 1).val
  let v19 : BitVec 32 := Scalar.subi c7_i32 arg1
  let c128_i32 : BitVec 32 := 128#32
  let v20 : BitVec 32 := Scalar.muli v19 c128_i32
  let c127_i32 : BitVec 32 := 127#32
  let v39 : BitVec 32 := Scalar.subi c127_i32 c0_i32_26
  let v46 : BitVec 32 := Scalar.addi v20 v39
  let v47 : Index := Scalar.indexCast v46
  let c0_27 : Index := 0#32
  let c0_28 : Index := 0#32
  ![v47.toNat, 0, 0]
def k0_off4 (c0_i32_26 : BitVec 32) : Fin 3 → Nat :=
  let c127_i32 : BitVec 32 := 127#32
  let v39 : BitVec 32 := Scalar.subi c127_i32 c0_i32_26
  let c1_i32 : BitVec 32 := 1#32
  let v66 : BitVec 32 := Scalar.subi v39 c1_i32
  let v67 : Index := Scalar.indexCast v66
  let c0_35 : Index := 0#32
  let c0_36 : Index := 0#32
  ![v67.toNat, 0, 0]
def k0_off5 (i : grid0.Coords) : Fin 3 → Nat :=
  let c7_i32 : BitVec 32 := 7#32
  let arg1 : BitVec 32 := BitVec.ofNat 32 (i 1).val
  let v19 : BitVec 32 := Scalar.subi c7_i32 arg1
  let c128_i32 : BitVec 32 := 128#32
  let v20 : BitVec 32 := Scalar.muli v19 c128_i32
  let v5506 : Index := Scalar.indexCast v20
  let c0_1935 : Index := 0#32
  let c0_1936 : Index := 0#32
  ![v5506.toNat, 0, 0]
def k0_off6 (i : grid0.Coords) : Fin 3 → Nat :=
  let c7_i32 : BitVec 32 := 7#32
  let arg1 : BitVec 32 := BitVec.ofNat 32 (i 1).val
  let v19 : BitVec 32 := Scalar.subi c7_i32 arg1
  let c128_i32 : BitVec 32 := 128#32
  let v20 : BitVec 32 := Scalar.muli v19 c128_i32
  let v5565 : Index := Scalar.indexCast v20
  let c0_1966 : Index := 0#32
  let c0_1967 : Index := 0#32
  ![v5565.toNat, 0, 0]
def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c3_i32 : BitVec 32 := 3#32
  let v1 : BitVec 32 := Scalar.subi c3_i32 arg1
  let c7_i32 : BitVec 32 := 7#32
  let v2 : BitVec 32 := Scalar.subi c7_i32 arg1
  let v3 : BitVec 32 := Scalar.select v0 v1 v2
  let c0_i32 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.minsi v0 c3_i32
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.minsi v0 c3_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.minsi v0 c3_i32
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.minsi v0 c3_i32
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.minsi v0 c3_i32
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.minsi v0 c3_i32
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg0.toNat]

def cc0_transform_7 (i : grid0.Coords) : Fin 2 → Nat :=
  let arg0 : BitVec 32 := BitVec.ofNat 32 (i 0).val
  let arg1 : BitVec 32 := BitVec.ofNat 32 (i 1).val
  let c255_i32 : BitVec 32 := 255#32
  let c0_i32 : BitVec 32 := 0#32
  ![c255_i32.toNat, arg0.toNat]

def cc0_transform_8 (i : grid0.Coords) : Fin 2 → Nat :=
  let arg0 : BitVec 32 := BitVec.ofNat 32 (i 0).val
  let arg1 : BitVec 32 := BitVec.ofNat 32 (i 1).val
  let c255_i32 : BitVec 32 := 255#32
  let c0_i32 : BitVec 32 := 0#32
  ![c255_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_15 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c3_i32 : BitVec 32 := 3#32
  let v1 : BitVec 32 := Scalar.minsi v0 c3_i32
  let c0_i32 : BitVec 32 := 0#32
  ![v1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S128x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S128x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== Kernel9.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S32x1x64 : Shape := ⟨3, ![32, 1, 64]⟩

abbrev nBuf : Space → Nat
  | .hbm => 22
  | .vmem => 14
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x1, .f32⟩
  | .hbm, ⟨10, _⟩ => ⟨S32x16x64, .f32⟩
  | .hbm, ⟨11, _⟩ => ⟨S32x16x64, .f32⟩
  | .hbm, ⟨12, _⟩ => ⟨S32x16x64, .f32⟩
  | .hbm, ⟨13, _⟩ => ⟨S32x16x64, .f32⟩
  | .hbm, ⟨14, _⟩ => ⟨S32x64, .f32⟩
  | .hbm, ⟨15, _⟩ => ⟨S32x64, .f32⟩
  | .hbm, ⟨16, _⟩ => ⟨S32x1, .f32⟩
  | .hbm, ⟨17, _⟩ => ⟨S32x16x64, .f32⟩
  | .hbm, ⟨18, _⟩ => ⟨S32x16x64, .f32⟩
  | .hbm, ⟨19, _⟩ => ⟨S32, .f32⟩
  | .hbm, ⟨20, _⟩ => ⟨S32x64x16, .f32⟩
  | .hbm, ⟨21, _⟩ => ⟨S32x64x16, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S32x16x64, .f32⟩
  | .local _ .vmem, ⟨13, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference9Ideal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩

abbrev nBuf : Space → Nat
  | .hbm => 161
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S_, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64x1, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S_, .f32⟩
  | 45 => ⟨S32x64, .f32⟩
  | 46 => ⟨S32x64, .f32⟩
  | 47 => ⟨S32x64x1, .f32⟩
  | 48 => ⟨S32x64x16, .f32⟩
  | 49 => ⟨S32x64x16, .f32⟩
  | 50 => ⟨S32x64x16, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S_, .f32⟩
  | 64 => ⟨S32x64, .f32⟩
  | 65 => ⟨S32x64x1, .f32⟩
  | 66 => ⟨S32x64x16, .f32⟩
  | 67 => ⟨S32x64x16, .f32⟩
  | 68 => ⟨S32x64x16, .f32⟩
  | 69 => ⟨S_, .f32⟩
  | 70 => ⟨S32x64, .f32⟩
  | 71 => ⟨S32x64x1, .f32⟩
  | 72 => ⟨S32x64x16, .f32⟩
  | 73 => ⟨S32x64x16, .f32⟩
  | 74 => ⟨S32x64x16, .f32⟩
  | 75 => ⟨S32x64x16, .f32⟩
  | 76 => ⟨S32x64x16, .f32⟩
  | 77 => ⟨S32x64x16, .f32⟩
  | 78 => ⟨S_, .f32⟩
  | 79 => ⟨S32x64, .f32⟩
  | 80 => ⟨S32x64x1, .f32⟩
  | 81 => ⟨S32x64x1, .f32⟩
  | 82 => ⟨S32x64x16, .f32⟩
  | 83 => ⟨S32x64x16, .f32⟩
  | 84 => ⟨S32x64x16, .f32⟩
  | 85 => ⟨S32x64x16, .f32⟩
  | 86 => ⟨S_, .f32⟩
  | 87 => ⟨S32x64, .f32⟩
  | 88 => ⟨S32x64x1, .f32⟩
  | 89 => ⟨S32x64x1, .f32⟩
  | 90 => ⟨S_, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S_, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S_, .f32⟩
  | 3 => ⟨S32, .f32⟩
  | 4 => ⟨S32x1, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S_, .f32⟩
  | 15 => ⟨S32, .f32⟩
  | 16 => ⟨S32x1, .f32⟩
  | 17 => ⟨S32x1, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S_, .f32⟩
  | 24 => ⟨S32, .f32⟩
  | 25 => ⟨S32x1, .f32⟩
  | 26 => ⟨S32x1, .f32⟩
  | 27 => ⟨S32x64, .f32⟩
  | 28 => ⟨S32x64, .f32⟩
  | 29 => ⟨S32x64, .f32⟩
  | 30 => ⟨S_, .f32⟩
  | 31 => ⟨S32, .f32⟩
  | 32 => ⟨S32, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_2 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_6 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_7 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_cst_8 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_9 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_cst_10 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_cst_11 : Ref sig .tc := ⟨.hbm, 158, rfl⟩
abbrev main_v137 : Ref sig .tc := ⟨.hbm, 159, rfl⟩
abbrev main_v138 : Ref sig .tc := ⟨.hbm, 160, rfl⟩

abbrev nD : Nat := 1
abbrev τ : Topo := Topo.v7x

variable {F : FTy → Type} [FloatOps F]
-- ==== Kernel10.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S1024x1536 : Shape := ⟨2, ![1024, 1536]⟩
abbrev S1536x1024 : Shape := ⟨2, ![1536, 1024]⟩
abbrev S4096x512 : Shape := ⟨2, ![4096, 512]⟩
abbrev S512x1024 : Shape := ⟨2, ![512, 1024]⟩
abbrev S512x2816 : Shape := ⟨2, ![512, 2816]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1x1024, .f32⟩
  | .hbm, ⟨4, _⟩ => ⟨S1024x1536, .f32⟩
  | .hbm, ⟨5, _⟩ => ⟨S4096x2816, .bf16⟩
  | .hbm, ⟨6, _⟩ => ⟨S2816x1024, .bf16⟩
  | .hbm, ⟨7, _⟩ => ⟨S1536x1024, .f32⟩
  | .hbm, ⟨8, _⟩ => ⟨S1536x1024, .bf16⟩
  | .hbm, ⟨9, _⟩ => ⟨S4096x1024, .f32⟩
  | .hbm, ⟨10, _⟩ => ⟨S4096x1024, .bf16⟩
  | .hbm, ⟨11, _⟩ => ⟨S4096x512, .f32⟩
  | .hbm, ⟨12, _⟩ => ⟨S4096x1024, .f32⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S1536x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x512, .f32⟩
  | .local _ .vmem, ⟨12, _⟩ => ⟨S512x512, .f32⟩
  | .local _ .vmem, ⟨13, _⟩ => ⟨S512x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S4096x512 : Shape := ⟨2, ![4096, 512]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1x1024, .f32⟩
  | .hbm, ⟨4, _⟩ => ⟨S1024x1536, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x512, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel11.lean ====
abbrev S4096x512 : Shape := ⟨2, ![4096, 512]⟩
abbrev S1x512 : Shape := ⟨2, ![1, 512]⟩
abbrev S512x512 : Shape := ⟨2, ![512, 512]⟩
abbrev S8x512x512 : Shape := ⟨3, ![8, 512, 512]⟩
abbrev S512x8x512 : Shape := ⟨3, ![512, 8, 512]⟩

abbrev nBuf : Space → Nat
  | .hbm => 17
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S8x512x512, .f32⟩
  | .hbm, ⟨6, _⟩ => ⟨S512x8x512, .f32⟩
  | .hbm, ⟨7, _⟩ => ⟨S4096x512, .f32⟩
  | .hbm, ⟨8, _⟩ => ⟨S8x512x512, .f32⟩
  | .hbm, ⟨9, _⟩ => ⟨S512x8x512, .f32⟩
  | .hbm, ⟨10, _⟩ => ⟨S4096x512, .f32⟩
  | .hbm, ⟨11, _⟩ => ⟨S512x512, .bf16⟩
  | .hbm, ⟨12, _⟩ => ⟨S4096x512, .bf16⟩
  | .hbm, ⟨13, _⟩ => ⟨S512x8x512, .bf16⟩
  | .hbm, ⟨14, _⟩ => ⟨S8x512x512, .bf16⟩
  | .hbm, ⟨15, _⟩ => ⟨S4096x512, .bf16⟩
  | .hbm, ⟨16, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S4096x512 : Shape := ⟨2, ![4096, 512]⟩
abbrev S1x512 : Shape := ⟨2, ![1, 512]⟩
abbrev S512x512 : Shape := ⟨2, ![512, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x2816 : Shape := ⟨2, ![1024, 2816]⟩
abbrev S4096x512 : Shape := ⟨2, ![4096, 512]⟩
abbrev S1024x1024 : Shape := ⟨2, ![1024, 1024]⟩
abbrev S2816x1024 : Shape := ⟨2, ![2816, 1024]⟩
abbrev S4096x2816 : Shape := ⟨2, ![4096, 2816]⟩
abbrev S512x1024 : Shape := ⟨2, ![512, 1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩

abbrev nBuf : Space → Nat
  | .hbm => 23
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x512, .f32⟩
  | .hbm, ⟨5, _⟩ => ⟨S4096x512, .f32⟩
  | .hbm, ⟨6, _⟩ => ⟨S1024x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x512, .bf16⟩
  | .hbm, ⟨12, _⟩ => ⟨S4096x512, .bf16⟩
  | .hbm, ⟨13, _⟩ => ⟨S1024x1024, .bf16⟩
  | .hbm, ⟨14, _⟩ => ⟨S4096x1024, .bf16⟩
  | .hbm, ⟨15, _⟩ => ⟨S4096x2816, .bf16⟩
  | .hbm, ⟨16, _⟩ => ⟨S4096x2816, .bf16⟩
  | .hbm, ⟨17, _⟩ => ⟨S4096x2816, .bf16⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference12Ideal.lean ====
abbrev S4096x1024 : Shape := ⟨2, ![4096, 1024]⟩
abbrev S1x1024 : Shape := ⟨2, ![1, 1024]⟩
abbrev S1024x2816 : Shape := ⟨2, ![1024, 2816]⟩
abbrev S4096x512 : Shape := ⟨2, ![4096, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x512, .f32⟩
  | .hbm, ⟨5, _⟩ => ⟨S4096x512, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v23 : Ref sig .tc := ⟨.hbm, 57, rfl⟩
abbrev main_v24 : Ref sig .tc := ⟨.hbm, 58, rfl⟩

abbrev nD : Nat := 1
abbrev τ : Topo := Topo.v7x

variable {F : FTy → Type} [FloatOps F]
-- ==== Kernel13.lean ====
abbrev S4096x1024 : Shape := ⟨2, ![4096, 1024]⟩
abbrev S31x512 : Shape := ⟨2, ![31, 512]⟩
abbrev S1x512 : Shape := ⟨2, ![1, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S32x512 : Shape := ⟨2, ![32, 512]⟩
abbrev S4096x512 : Shape := ⟨2, ![4096, 512]⟩
abbrev S512x1024 : Shape := ⟨2, ![512, 1024]⟩
abbrev S32x1024 : Shape := ⟨2, ![32, 1024]⟩
abbrev S552x512 : Shape := ⟨2, ![552, 512]⟩
abbrev S8x544x512 : Shape := ⟨3, ![8, 544, 512]⟩
abbrev S8x512 : Shape := ⟨2, ![8, 512]⟩
abbrev S544x512 : Shape := ⟨2, ![544, 512]⟩
abbrev S1x544x512 : Shape := ⟨3, ![1, 544, 512]⟩
abbrev S1x32x512 : Shape := ⟨3, ![1, 32, 512]⟩

abbrev nBuf : Space → Nat
  | .hbm => 40
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S_, .i32⟩
  | .hbm, ⟨35, _⟩ => ⟨S_, .f32⟩
  | .hbm, ⟨36, _⟩ => ⟨S32x512, .f32⟩
  | .hbm, ⟨37, _⟩ => ⟨S4096x512, .bf16⟩
  | .hbm, ⟨38, _⟩ => ⟨S4096x512, .f32⟩
  | .hbm, ⟨39, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S552x512, .f32⟩
  | .local _ .vmem, ⟨14, _⟩ => ⟨S8x544x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_v11 : Ref sig .tc := ⟨.hbm, 36, rfl⟩
abbrev main_v12_0 : Ref sig .tc := ⟨.hbm, 37, rfl⟩
abbrev main_v12_1 : Ref sig .tc := ⟨.hbm, 38, rfl⟩
abbrev main_v13 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4096x1024 : Shape := ⟨2, ![4096, 1024]⟩
abbrev S31x512 : Shape := ⟨2, ![31, 512]⟩
abbrev S1x512 : Shape := ⟨2, ![1, 512]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S512 : Shape := ⟨1, ![512]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 280
  | .vmem => 0
  | .smem => 0
  | _ => 0

abbrev hbmTy0_0 (i : Nat) : BufTy := match i % 128 with
  | 0 => ⟨S4096x1024, .f32⟩
  | 1 => ⟨S31x512, .f32⟩
  | 2 => ⟨S1x512, .f32⟩
  | 3 => ⟨S1x512, .f32⟩
  | 4 => ⟨S1x512, .f32⟩
  | 5 => ⟨S4096x512, .f32⟩
  | 6 => ⟨S4096x512, .f32⟩
  | 7 => ⟨S4096x512, .f32⟩
  | 8 => ⟨S4096x512, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S4096x512, .f32⟩
  | 16 => ⟨S_, .f32⟩
  | 17 => ⟨S30x512, .f32⟩
  | 18 => ⟨S4126x512, .f32⟩
  | 19 => ⟨S1x512, .f32⟩
  | 20 => ⟨S512, .f32⟩
  | 21 => ⟨S4096x512, .f32⟩
  | 22 => ⟨S1x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S1x512, .f32⟩
  | 29 => ⟨S512, .f32⟩
  | 30 => ⟨S4096x512, .f32⟩
  | 31 => ⟨S1x512, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S4096x512, .f32⟩
  | 38 => ⟨S1x512, .f32⟩
  | 39 => ⟨S4096x512, .f32⟩
  | 40 => ⟨S4096x512, .f32⟩
  | 41 => ⟨S4096x512, .f32⟩
  | 42 => ⟨S1x512, .f32⟩
  | 43 => ⟨S512, .f32⟩
  | 44 => ⟨S4096x512, .f32⟩
  | 45 => ⟨S1x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S4096x512, .f32⟩
  | 59 => ⟨S1x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S4096x512, .f32⟩
  | 66 => ⟨S1x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S4096x512, .f32⟩
  | 73 => ⟨S1x512, .f32⟩
  | 74 => ⟨S4096x512, .f32⟩
  | 75 => ⟨S4096x512, .f32⟩
  | 76 => ⟨S4096x512, .f32⟩
  | 77 => ⟨S1x512, .f32⟩
  | 78 => ⟨S512, .f32⟩
  | 79 => ⟨S4096x512, .f32⟩
  | 80 => ⟨S1x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S4096x512, .f32⟩
  | 87 => ⟨S1x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S4096x512, .f32⟩
  | 94 => ⟨S1x512, .f32⟩
  | 95 => ⟨S4096x512, .f32⟩
  | 96 => ⟨S4096x512, .f32⟩
  | 97 => ⟨S4096x512, .f32⟩
  | 98 => ⟨S1x512, .f32⟩
  | 99 => ⟨S512, .f32⟩
  | 100 => ⟨S4096x512, .f32⟩
  | 101 => ⟨S1x512, .f32⟩
  | 102 => ⟨S4096x512, .f32⟩
  | 103 => ⟨S4096x512, .f32⟩
  | 104 => ⟨S4096x512, .f32⟩
  | 105 => ⟨S1x512, .f32⟩
  | 106 => ⟨S512, .f32⟩
  | 107 => ⟨S4096x512, .f32⟩
  | 108 => ⟨S1x512, .f32⟩
  | 109 => ⟨S4096x512, .f32⟩
  | 110 => ⟨S4096x512, .f32⟩
  | 111 => ⟨S4096x512, .f32⟩
  | 112 => ⟨S1x512, .f32⟩
  | 113 => ⟨S512, .f32⟩
  | 114 => ⟨S4096x512, .f32⟩
  | 115 => ⟨S1x512, .f32⟩
  | 116 => ⟨S4096x512, .f32⟩
  | 117 => ⟨S4096x512, .f32⟩
  | 118 => ⟨S4096x512, .f32⟩
  | 119 => ⟨S1x512, .f32⟩
  | 120 => ⟨S512, .f32⟩
  | 121 => ⟨S4096x512, .f32⟩
  | 122 => ⟨S1x512, .f32⟩
  | 123 => ⟨S4096x512, .f32⟩
  | 124 => ⟨S4096x512, .f32⟩
  | 125 => ⟨S4096x512, .f32⟩
  | 126 => ⟨S1x512, .f32⟩
  | 127 => ⟨S512, .f32⟩
  | _ => ⟨S4096x1024, .f32⟩

abbrev hbmTy0_1 (i : Nat) : BufTy := match i % 128 with
  | 0 => ⟨S4096x512, .f32⟩
  | 1 => ⟨S1x512, .f32⟩
  | 2 => ⟨S4096x512, .f32⟩
  | 3 => ⟨S4096x512, .f32⟩
  | 4 => ⟨S4096x512, .f32⟩
  | 5 => ⟨S1x512, .f32⟩
  | 6 => ⟨S512, .f32⟩
  | 7 => ⟨S4096x512, .f32⟩
  | 8 => ⟨S1x512, .f32⟩
  | 9 => ⟨S4096x512, .f32⟩
  | 10 => ⟨S4096x512, .f32⟩
  | 11 => ⟨S4096x512, .f32⟩
  | 12 => ⟨S1x512, .f32⟩
  | 13 => ⟨S512, .f32⟩
  | 14 => ⟨S4096x512, .f32⟩
  | 15 => ⟨S1x512, .f32⟩
  | 16 => ⟨S4096x512, .f32⟩
  | 17 => ⟨S4096x512, .f32⟩
  | 18 => ⟨S4096x512, .f32⟩
  | 19 => ⟨S1x512, .f32⟩
  | 20 => ⟨S512, .f32⟩
  | 21 => ⟨S4096x512, .f32⟩
  | 22 => ⟨S1x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S4096x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S1x512, .f32⟩
  | 90 => ⟨S512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S4096x8x64, .f32⟩
  | 113 => ⟨S_, .f32⟩
  | 114 => ⟨S4096x8, .f32⟩
  | 115 => ⟨S4096x8x1, .f32⟩
  | 116 => ⟨S_, .f32⟩
  | 117 => ⟨S4096x8x1, .f32⟩
  | 118 => ⟨S4096x8x1, .f32⟩
  | 119 => ⟨S4096x8x64, .f32⟩
  | 120 => ⟨S4096x8x64, .f32⟩
  | 121 => ⟨S4096x8x64, .f32⟩
  | 122 => ⟨S_, .f32⟩
  | 123 => ⟨S4096x8, .f32⟩
  | 124 => ⟨S4096x8x1, .f32⟩
  | 125 => ⟨S_, .f32⟩
  | 126 => ⟨S4096x8x1, .f32⟩
  | 127 => ⟨S4096x8x1, .f32⟩
  | _ => ⟨S4096x1024, .f32⟩

abbrev hbmTy0_2 (i : Nat) : BufTy := match i % 128 with
  | 0 => ⟨S4096x8x64, .f32⟩
  | 1 => ⟨S4096x8x64, .f32⟩
  | 2 => ⟨S_, .f32⟩
  | 3 => ⟨S4096x8x1, .f32⟩
  | 4 => ⟨S4096x8x1, .f32⟩
  | 5 => ⟨S4096x8x1, .f32⟩
  | 6 => ⟨S4096x8x64, .f32⟩
  | 7 => ⟨S4096x8x64, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S4096x512, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_cst_3 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_5 : Ref sig .tc := ⟨.hbm, 250, rfl⟩
abbrev main_v239 : Ref sig .tc := ⟨.hbm, 251, rfl⟩
abbrev main_v240 : Ref sig .tc := ⟨.hbm, 252, rfl⟩
abbrev main_cst_6 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_cst_7 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩

abbrev nD : Nat := 1
abbrev τ : Topo := Topo.v7x

variable {F : FTy → Type} [FloatOps F]
-- ==== Kernel14.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S32x1x64 : Shape := ⟨3, ![32, 1, 64]⟩

abbrev nBuf : Space → Nat
  | .hbm => 14
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1, .f32⟩
  | .hbm, ⟨6, _⟩ => ⟨S32x16x64, .f32⟩
  | .hbm, ⟨7, _⟩ => ⟨S32x16x64, .f32⟩
  | .hbm, ⟨8, _⟩ => ⟨S32x64, .f32⟩
  | .hbm, ⟨9, _⟩ => ⟨S32x64, .f32⟩
  | .hbm, ⟨10, _⟩ => ⟨S32x16x64, .f32⟩
  | .hbm, ⟨11, _⟩ => ⟨S32x16x64, .f32⟩
  | .hbm, ⟨12, _⟩ => ⟨S32x64x16, .f32⟩
  | .hbm, ⟨13, _⟩ => ⟨S32x64x16, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference14Ideal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩

abbrev nBuf : Space → Nat
  | .hbm => 44
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64x1, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64x1, .f32⟩
  | .hbm, ⟨34, _⟩ => ⟨S32x64x16, .f32⟩
  | .hbm, ⟨35, _⟩ => ⟨S32x64x16, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x16, .f32⟩
  | .hbm, ⟨43, _⟩ => ⟨S32x64x16, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x1024, .bf16⟩
  | .hbm, ⟨9, _⟩ => ⟨S4096x2816, .bf16⟩
  | .hbm, ⟨10, _⟩ => ⟨S4096x2816, .bf16⟩
  | .hbm, ⟨11, _⟩ => ⟨S4096x2816, .bf16⟩
  | .hbm, ⟨12, _⟩ => ⟨S4096x1024, .f32⟩
  | .hbm, ⟨13, _⟩ => ⟨S4096x2816, .f32⟩
  | .hbm, ⟨14, _⟩ => ⟨S4096x2816, .f32⟩
  | .hbm, ⟨15, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_v14_2 : Ref sig .tc := ⟨.hbm, 28, rfl⟩
abbrev main_call0_cst_1 : Ref sig .tc := ⟨.hbm, 29, rfl⟩
abbrev main_call0_v6 : Ref sig .tc := ⟨.hbm, 30, rfl⟩
abbrev main_call0_v7 : Ref sig .tc := ⟨.hbm, 31, rfl⟩
abbrev main_v14_1 : Ref sig .tc := ⟨.hbm, 32, rfl⟩
abbrev main_v14_0 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v19 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Kernel16.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .hbm, ⟨5, _⟩ => ⟨S2816x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x4096, .f32⟩
  | .hbm, ⟨3, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x512, .f32⟩
  | .hbm, ⟨4, _⟩ => ⟨S4096x512, .f32⟩
  | .hbm, ⟨5, _⟩ => ⟨S4096x1024, .bf16⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S4096x1024 : Shape := ⟨2, ![4096, 1024]⟩
abbrev S1024x1024 : Shape := ⟨2, ![1024, 1024]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x512, .f32⟩
  | .hbm, ⟨5, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .bf16⟩
  | .hbm, ⟨4, _⟩ => ⟨S4096x512, .bf16⟩
  | .hbm, ⟨5, _⟩ => ⟨S4096x1024, .bf16⟩
  | .hbm, ⟨6, _⟩ => ⟨S1024x1024, .bf16⟩
  | .hbm, ⟨7, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S4096x512 : Shape := ⟨2, ![4096, 512]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S1024x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S4096x512 : Shape := ⟨2, ![4096, 512]⟩
abbrev S1x2048 : Shape := ⟨2, ![1, 2048]⟩
abbrev S512x2048 : Shape := ⟨2, ![512, 2048]⟩
abbrev S4096x2048 : Shape := ⟨2, ![4096, 2048]⟩
abbrev S1024x128 : Shape := ⟨2, ![1024, 128]⟩
abbrev S1x512 : Shape := ⟨2, ![1, 512]⟩
abbrev S128x512 : Shape := ⟨2, ![128, 512]⟩
abbrev S1024x512 : Shape := ⟨2, ![1024, 512]⟩
abbrev S8x512 : Shape := ⟨2, ![8, 512]⟩
abbrev S512x8x512 : Shape := ⟨3, ![512, 8, 512]⟩
abbrev S128x8x512 : Shape := ⟨3, ![128, 8, 512]⟩
abbrev S1x8x512 : Shape := ⟨3, ![1, 8, 512]⟩

abbrev nBuf : Space → Nat
  | .hbm => 10
  | .vmem => 24
  | .smem => 0
  | _ => 0

abbrev bufTy : (tb : Table) → Fin (tcTables nBuf tb) → BufTy
  | .hbm, ⟨0, _⟩ => ⟨S4096x512, .f32⟩
  | .hbm, ⟨1, _⟩ => ⟨S1x2048, .f32⟩
  | .hbm, ⟨2, _⟩ => ⟨S1x2048, .f32⟩
  | .hbm, ⟨3, _⟩ => ⟨S512x2048, .bf16⟩
  | .hbm, ⟨4, _⟩ => ⟨S512x2048, .bf16⟩
  | .hbm, ⟨5, _⟩ => ⟨S512x2048, .bf16⟩
  | .hbm, ⟨6, _⟩ => ⟨S512x2048, .bf16⟩
  | .hbm, ⟨7, _⟩ => ⟨S4096x2048, .bf16⟩
  | .hbm, ⟨8, _⟩ => ⟨S4096x2048, .bf16⟩
  | .hbm, ⟨9, _⟩ => ⟨S4096x512, .f32⟩
  | .local _ .vmem, ⟨0, _⟩ => ⟨S1024x128, .f32⟩
  | .local _ .vmem, ⟨1, _⟩ => ⟨S1024x128, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x128, .f32⟩
  | .local _ .vmem, ⟨19, _⟩ => ⟨S1024x128, .f32⟩
  | .local _ .vmem, ⟨20, _⟩ => ⟨S8x512, .f32⟩
  | .local _ .vmem, ⟨21, _⟩ => ⟨S8x512, .f32⟩
  | .local _ .vmem, ⟨22, _⟩ => ⟨S512x8x512, .f32⟩
  | .local _ .vmem, ⟨23, _⟩ => ⟨S512x8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c4_i32 : BitVec 32 := 4#32
  let v9 : BitVec 1 := Scalar.cmpi .slt arg1 c4_i32
  let v10 : BitVec 32 := Scalar.extui v9
  let c0_i32_4 : BitVec 32 := 0#32
  let v11 : BitVec 1 := Scalar.cmpi .ne v10 c0_i32_4
  v11

def k0_off1 (i : grid0.Coords) : Fin 3 → Nat :=
  let arg1 : BitVec 32 := BitVec.ofNat 32 (i 1).val
  let c128_i32 : BitVec 32 := 128#32
  let v18 : BitVec 32 := Scalar.muli arg1 c128_i32
  let v24 : Index := Scalar.indexCast v18
  let c0_12 : Index := 0#32
  let c0_13 : Index := 0#32
  ![v24.toNat, 0, 0]
def k0_off2 (i : grid0.Coords) (c0_i32_23 : BitVec 32) : Fin 3 → Nat :=
  let arg1 : BitVec 32 := BitVec.ofNat 32 (i 1).val
  let c128_i32 : BitVec 32 := 128#32
  let v18 : BitVec 32 := Scalar.muli arg1 c128_i32
  let v43 : BitVec 32 := Scalar.addi v18 c0_i32_23
  let v44 : Index := Scalar.indexCast v43
  let c0_24 : Index := 0#32
  let c0_25 : Index := 0#32
  ![v44.toNat, 0, 0]
def k0_cond4 (i : grid0.Coords) : BitVec 1 :=
  let arg1 : BitVec 32 := BitVec.ofNat 32 (i 1).val
  let c4_i32_6 : BitVec 32 := 4#32
  let v15 : BitVec 1 := Scalar.cmpi .sge arg1 c4_i32_6
  let v16 : BitVec 32 := Scalar.extui v15
  let c0_i32_7 : BitVec 32 := 0#32
  let v17 : BitVec 1 := Scalar.cmpi .ne v16 c0_i32_7
  v17

def k0_off3 (i : grid0.Coords) (c0_i32_13 : BitVec 32) : Fin 3 → Nat :=
  let arg1 : BitVec 32 := BitVec.ofNat 32 (i 1).val
  let c4_i32_8 : BitVec 32 := 4#32
  let v18 : BitVec 32 := Scalar.subi arg1 c4_i32_8
  let c128_i32 : BitVec 32 := 128#32
  let v19 : BitVec 32 := Scalar.muli v18 c128_i32
  let v28 : BitVec 32 := Scalar.addi v19 c0_i32_13
  let v29 : Index := Scalar.indexCast v28
  let c0_14 : Index := 0#32
  let c0_15 : Index := 0#32
  ![v29.toNat, 0, 0]
def k0_off4 (i : grid0.Coords) : Fin 3 → Nat :=
  let arg1 : BitVec 32 := BitVec.ofNat 32 (i 1).val
  let c4_i32_8 : BitVec 32 := 4#32
  let v18 : BitVec 32 := Scalar.subi arg1 c4_i32_8
  let c128_i32 : BitVec 32 := 128#32
  let v19 : BitVec 32 := Scalar.muli v18 c128_i32
  let v3356 : Index := Scalar.indexCast v19
  let c0_1045 : Index := 0#32
  let c0_1046 : Index := 0#32
  ![v3356.toNat, 0, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel20.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S8x1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference20Ideal.lean ====
abbrev S1x1024 : Shape := ⟨2, ![1, 1024]⟩
abbrev S8x1x1024 : Shape := ⟨3, ![8, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Reals.lean ====
/-
  Arrays of real numbers under the operations of the printed programs, read over the extended reals.

  `re f` is the array whose element at an index is the real number `f` gives there. Each lemma says that an operation
  on such arrays gives such an array again, and of which real function: an elementwise operation acts on the functions'
  values, an operation that moves elements composes the function with the move, a sum is the sum of the reals. The
  modules of the single calls evaluate both of their programs to real functions with these, and compare those.
-/
module

public import Idealize.ShloMosaic.Lib.Pipeline.Value
public import Idealize.ShloMosaic.PureOps.Ideal.Laws
public import Idealize.ShloMosaic.Lib.ValueIdx
public import Idealize.ShloMosaic.Lib.MatmulPlain
public import Mathlib.Tactic.NormNum
public import Mathlib.Tactic.Positivity

@[expose] public section

noncomputable section

namespace Cert.Reals

open Idealize.ShloMosaic Idealize.ShloMosaic.ValueIdx
open scoped BigOperators

variable {s t : Shape} {φ ψ : FTy}

/-- The array of the real numbers `f`. -/
def re (f : s.Idx → ℝ) : s.Idx → EReal := fun i => ((f i : ℝ) : EReal)

theorem re_apply (f : s.Idx → ℝ) (i : s.Idx) : re f i = ((f i : ℝ) : EReal) := rfl

/-- The coordinates of a rank-2 index, at their literal ranges. -/
abbrev ax0 {m n : ℕ} (i : (⟨2, ![m, n]⟩ : Shape).Idx) : Fin m := i 0
abbrev ax1 {m n : ℕ} (i : (⟨2, ![m, n]⟩ : Shape).Idx) : Fin n := i 1
/-- The coordinates of a rank-3 index, at their literal ranges. -/
abbrev bx0 {m n l : ℕ} (i : (⟨3, ![m, n, l]⟩ : Shape).Idx) : Fin m := i 0
abbrev bx1 {m n l : ℕ} (i : (⟨3, ![m, n, l]⟩ : Shape).Idx) : Fin n := i 1
abbrev bx2 {m n l : ℕ} (i : (⟨3, ![m, n, l]⟩ : Shape).Idx) : Fin l := i 2

/-- The matrix of the real numbers `f`. -/
abbrev re2 {m n : ℕ} (f : Fin m → Fin n → ℝ) : (⟨2, ![m, n]⟩ : Shape).Idx → EReal := re fun i => f (ax0 i) (ax1 i)

/-- The one-row matrix of the real numbers `f`. -/
abbrev row {n : ℕ} (f : Fin n → ℝ) : (⟨2, ![1, n]⟩ : Shape).Idx → EReal := re fun i => f (ax1 i)

theorem re_congr {f g : s.Idx → ℝ} (h : ∀ i, f i = g i) : re f = re g := by
  funext i; rw [re_apply, re_apply, h]

/-- The extended-real sum of reals is their real sum. -/
theorem coe_sum {ι : Type*} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- A sum from zero whose terms are reals is their real sum. -/
theorem zero_add_sum {ι : Type*} [Fintype ι] {f : ι → EReal} {g : ι → ℝ} {a : EReal} (ha : a = ((0 : ℝ) : EReal))
    (h : ∀ i, f i = ((g i : ℝ) : EReal)) : a + ∑ i, f i = ((∑ i, g i : ℝ) : EReal) := by
  rw [ha, EReal.coe_zero, zero_add, Finset.sum_congr rfl fun i _ => h i, coe_sum]

/-! ## Finiteness -/

/-- An extended real whose absolute value is below the top is a real number. -/
theorem exists_real_of_abs {a : EReal} (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-! ## Constants -/

theorem ofBits_inf : FloatOps.ofBits (F := Ideal) .f32 0x7F800000#32 = ⊤ := by
  simp [Ideal.ofBits_def, Ideal.ofBits, Ideal.ieee, -EReal.coe_mul]

theorem ofBits_zero : FloatOps.ofBits (F := Ideal) .f32 0x00000000#32 = ((0 : ℝ) : EReal) := by
  simp [Ideal.ofBits_def, Ideal.ofBits, Ideal.ieee, -EReal.coe_mul]

theorem ofBits_one : FloatOps.ofBits (F := Ideal) .f32 0x3F800000#32 = ((1 : ℝ) : EReal) := by
  simp [Ideal.ofBits_def, Ideal.ofBits, Ideal.ieee, -EReal.coe_mul]; norm_num

/-- The float nearest `1e-6`, as a real number. -/
def eps : ℝ := 8796093 / 2 ^ 43

theorem eps_pos : 0 < eps := by unfold eps; positivity

theorem ofBits_eps : FloatOps.ofBits (F := Ideal) .f32 0x358637BD#32 = ((eps : ℝ) : EReal) := by
  simp [Ideal.ofBits_def, Ideal.ofBits, Ideal.ieee, -EReal.coe_mul, eps]; norm_num

theorem ofBits_two : FloatOps.ofBits (F := Ideal) .f32 0x40000000#32 = ((2 : ℝ) : EReal) := by
  simp [Ideal.ofBits_def, Ideal.ofBits, Ideal.ieee, -EReal.coe_mul]; norm_num

theorem ofBits_64 : FloatOps.ofBits (F := Ideal) .f32 0x42800000#32 = ((64 : ℝ) : EReal) := by
  simp [Ideal.ofBits_def, Ideal.ofBits, Ideal.ieee, -EReal.coe_mul]; norm_num

theorem ofBits_neg_half : FloatOps.ofBits (F := Ideal) .f32 0xBF000000#32 = ((-(1 / 2) : ℝ) : EReal) := by
  simp [Ideal.ofBits_def, Ideal.ofBits, Ideal.ieee, -EReal.coe_mul]; norm_num

/-! ## The scalar operations at real numbers -/

section Scalars

variable (a b : ℝ)

theorem add_re : FloatOps.addf (F := Ideal) (φ := φ) (a : EReal) (b : EReal) = ((a + b : ℝ) : EReal) := (EReal.coe_add a b).symm
theorem sub_re : FloatOps.subf (F := Ideal) (φ := φ) (a : EReal) (b : EReal) = ((a - b : ℝ) : EReal) := (EReal.coe_sub a b).symm
theorem mul_re : FloatOps.mulf (F := Ideal) (φ := φ) (a : EReal) (b : EReal) = ((a * b : ℝ) : EReal) := (EReal.coe_mul a b).symm
theorem neg_re : FloatOps.negf (F := Ideal) (φ := φ) (a : EReal) = ((-a : ℝ) : EReal) := (EReal.coe_neg a).symm
theorem hostNeg_re : FloatOps.hostNegf (F := Ideal) (φ := φ) (a : EReal) = ((-a : ℝ) : EReal) := (EReal.coe_neg a).symm

variable {b}

theorem idealDiv_re (h : b ≠ 0) : Ideal.div (a : EReal) (b : EReal) = ((a / b : ℝ) : EReal) := by
  rw [Ideal.div_coe h, ← EReal.coe_mul, mul_one_div]
theorem div_re (h : b ≠ 0) : FloatOps.divf (F := Ideal) (φ := φ) (a : EReal) (b : EReal) = ((a / b : ℝ) : EReal) := idealDiv_re a h
theorem hostDiv_re (h : b ≠ 0) : FloatOps.hostDivf (F := Ideal) (φ := φ) (a : EReal) (b : EReal) = ((a / b : ℝ) : EReal) :=
  idealDiv_re a h

theorem hostExp_re : FloatOps.hostUnary (F := Ideal) (φ := φ) .exp (a : EReal) = ((Real.exp a : ℝ) : EReal) := rfl
theorem exp_re : FloatOps.exp (F := Ideal) (φ := φ) (a : EReal) = ((Real.exp a : ℝ) : EReal) := rfl

variable {a}

theorem idealRsqrt_re (h : 0 < a) : Ideal.rsqrt (a : EReal) = (((√a)⁻¹ : ℝ) : EReal) := by
  rw [Ideal.rsqrt_coe, if_neg h.le.not_gt, if_neg h.ne']
theorem rsqrt_re (h : 0 < a) : FloatOps.rsqrt (F := Ideal) (φ := φ) (a : EReal) = (((√a)⁻¹ : ℝ) : EReal) := idealRsqrt_re h
theorem hostRsqrt_re (h : 0 < a) : FloatOps.hostUnary (F := Ideal) (φ := φ) .rsqrt (a : EReal) = (((√a)⁻¹ : ℝ) : EReal) :=
  idealRsqrt_re h

end Scalars

/-! ## The operations on whole arrays of real numbers -/

section Arrays

variable (f g : s.Idx → ℝ)

theorem addf_re : addf (F := Ideal) (φ := φ) (re f) (re g) = re fun i => f i + g i := funext fun _ => add_re _ _
theorem subf_re : subf (F := Ideal) (φ := φ) (re f) (re g) = re fun i => f i - g i := funext fun _ => sub_re _ _
theorem mulf_re : mulf (F := Ideal) (φ := φ) (re f) (re g) = re fun i => f i * g i := funext fun _ => mul_re _ _
theorem expf_re : exp (F := Ideal) (φ := φ) (re f) = re fun i => Real.exp (f i) := rfl
theorem truncf_re (h : ψ.bits < φ.bits) : truncf (F := Ideal) ψ (re f) h = re f := rfl
theorem extf_re (h : φ.bits < ψ.bits) : extf (F := Ideal) ψ (re f) h = re f := rfl
theorem shapeCast_re (h : s.ShapeCasts t) : shapeCast t (re f) h = re (shapeCast t f h) := rfl
theorem broadcastTo_re (h : s.Broadcasts t) : broadcastTo t (re f) h = re (broadcastTo t f h) := rfl
theorem broadcast_zero : broadcast s (Scalar.ofBits (F := Ideal) .f32 0x00000000#32) = re fun _ => 0 :=
  congrArg (broadcast s) ofBits_zero
theorem broadcast_one : broadcast s (Scalar.ofBits (F := Ideal) .f32 0x3F800000#32) = re fun _ => 1 :=
  congrArg (broadcast s) ofBits_one
theorem broadcast_eps : broadcast s (Scalar.ofBits (F := Ideal) .f32 0x358637BD#32) = re fun _ => eps :=
  congrArg (broadcast s) ofBits_eps

variable {g}

theorem divf_re (h : ∀ i, g i ≠ 0) : divf (F := Ideal) (φ := φ) (re f) (re g) = re fun i => f i / g i :=
  funext fun i => div_re _ (h i)

variable {f}

theorem rsqrtf_re (h : ∀ i, 0 < f i) : rsqrt (F := Ideal) (φ := φ) (re f) = re fun i => (√(f i))⁻¹ :=
  funext fun i => rsqrt_re (h i)

variable (f)

/-- A sum over one axis. -/
theorem sumf_re {a : Fin s.rank} (h : s.Reduces [a] t) (hφ : FKind.Formats .f32) (hacc : (0x00000000#32 : BitVec 32) = 0x00000000#32) :
    multiReduction (F := Ideal) (φ := .f32) .add [a] t (re f) (0x00000000#32 : BitVec 32) h hφ hacc
      = re fun j => ∑ k : Fin (s.size a), f (h.lift j k) :=
  funext fun j => (Ideal.multiReduction_add_single _ _ _ _ _ j).trans (coe_sum _ _)

/-- A vector reshaped into one row. -/
theorem shapeCast_toRow {n : ℕ} (f : (⟨1, ![n]⟩ : Shape).Idx → ℝ) (h : (⟨1, ![n]⟩ : Shape).ShapeCasts ⟨2, ![1, n]⟩) :
    shapeCast ⟨2, ![1, n]⟩ (re f) h = row fun c => f (ix1 c) := by
  rw [shapeCast_re]
  refine re_congr fun i => ?_
  rw [shapeCast_apply _ _ i (ix1 (ax1 i)) ?_]
  rw [Shape.rowMajor_val_one, Shape.rowMajor_val_two]
  have h0 : (i 0).val < 1 := (i 0).isLt
  show (i 1).val = (i 0).val * n + (i 1).val
  rw [Nat.lt_one_iff.mp h0]; omega

/-- A sum over the rows of a matrix, kept as one row. -/
theorem sumRows_re {m n : ℕ} (f : Fin m → Fin n → ℝ) (h : (⟨2, ![m, n]⟩ : Shape).Reduces [0] ⟨1, ![n]⟩) (hφ : FKind.Formats .f32)
    (hacc : (0x00000000#32 : BitVec 32) = 0x00000000#32) (h' : (⟨1, ![n]⟩ : Shape).ShapeCasts ⟨2, ![1, n]⟩) :
    shapeCast ⟨2, ![1, n]⟩ (multiReduction (F := Ideal) (φ := .f32) .add [0] ⟨1, ![n]⟩ (re2 f) (0x00000000#32 : BitVec 32) h hφ hacc) h'
      = row fun c => ∑ r, f r c := by
  rw [sumf_re, shapeCast_toRow]
  exact re_congr fun i => Finset.sum_congr rfl fun k _ => rfl

/-- A plain product of two matrices into zeros. -/
theorem matmul_re {M K N : ℕ} (f : (⟨2, ![M, K]⟩ : Shape).Idx → ℝ) (g : (⟨2, ![K, N]⟩ : Shape).Idx → ℝ) {φ₁ φ₂ : FTy}
    (d : DotDims ⟨2, ![M, K]⟩ ⟨2, ![K, N]⟩ ⟨2, ![M, N]⟩) (hd : d = DotDims.plain M K N) (prec : Option ContractPrecision) :
    matmul (F := Ideal) (φ₁ := φ₁) (φ₂ := φ₂) d prec (re f) (re g) (constant _ .f32 0x00000000#32)
      = re fun i => ∑ k : Fin K, f (ix2 (ax0 i) k) * g (ix2 k (ax1 i)) := by
  subst hd
  funext i
  obtain ⟨r, c, rfl⟩ : ∃ r c, i = ix2 r c := ⟨_, _, eq_ix2 i⟩
  refine (Ideal.matmul_plain_apply _ _ _ _ r c).trans (zero_add_sum ofBits_zero fun k => ?_)
  exact (EReal.coe_mul _ _).symm

end Arrays

end Cert.Reals
-- ==== Proof.NormMath.lean ====
/-
  The head-wise layer norm followed by a silu, and its gradient, for one row of 512 channels in 8 heads of 64: the real
  functions that both programs of the convolution norm's backward call compute, and the one identity between the two
  ways they are written.
-/
module

public import proofs.«01_k».proof.Proof.Reals
public import Mathlib.Tactic.FieldSimp
public import Mathlib.Tactic.Ring
public import Mathlib.Tactic.LinearCombination

@[expose] public section

noncomputable section

namespace Cert.ConvNorm

open scoped BigOperators
open Cert.Reals

/-- Channel `j` of head `h`. -/
def hd (h : Fin 8) (j : Fin 64) : Fin 512 := ⟨h.val * 64 + j.val, by omega⟩

/-- The head of a channel. -/
def hq (c : Fin 512) : Fin 8 := ⟨c.val / 64, by omega⟩

/-- The place of a channel in its head. -/
def hr (c : Fin 512) : Fin 64 := ⟨c.val % 64, by omega⟩

theorem hd_hq (c : Fin 512) : hd (hq c) (hr c) = c := by
  apply Fin.ext; show c.val / 64 * 64 + c.val % 64 = c.val; omega

theorem hq_hd (h : Fin 8) (j : Fin 64) : hq (hd h j) = h := by
  apply Fin.ext; show (h.val * 64 + j.val) / 64 = h.val; omega

theorem hr_hd (h : Fin 8) (j : Fin 64) : hr (hd h j) = j := by
  apply Fin.ext; show (h.val * 64 + j.val) % 64 = j.val; omega

/-- A channel is a head and a place in it. -/
def heads : Fin 8 × Fin 64 ≃ Fin 512 where
  toFun p := hd p.1 p.2
  invFun c := (hq c, hr c)
  left_inv p := Prod.ext (hq_hd _ _) (hr_hd _ _)
  right_inv c := hd_hq c

/-- The mean over head `h`. -/
def mean (x : Fin 512 → ℝ) (h : Fin 8) : ℝ := (∑ j, x (hd h j)) / 64

/-- The entry of the averaging matrix: `1/64` within a head, zero between heads. -/
def avg (k c : Fin 512) : ℝ := if k.val / 64 = c.val / 64 then 1 / 64 else 0

/-- The product with the averaging matrix is the mean over the channel's head. -/
theorem sum_avg (x : Fin 512 → ℝ) (c : Fin 512) : ∑ k, x k * avg k c = mean x (hq c) := by
  rw [← heads.sum_comp, Fintype.sum_prod_type, Finset.sum_eq_single (hq c)]
  · rw [mean, Finset.sum_div]
    refine Finset.sum_congr rfl fun j _ => ?_
    have e : (heads (hq c, j)).val / 64 = c.val / 64 := congrArg Fin.val (hq_hd (hq c) j)
    rw [avg, if_pos e]; show x (hd _ _) * _ = _; ring
  · intro h _ hne
    refine Finset.sum_eq_zero fun j _ => ?_
    have e : ¬ (heads (h, j)).val / 64 = c.val / 64 := fun e => hne (by
      have := hq_hd h j
      rw [← this]; exact Fin.ext e)
    rw [avg, if_neg e, mul_zero]
  · intro h; exact absurd (Finset.mem_univ _) h

/-- The centred row. -/
def xc (x : Fin 512 → ℝ) (c : Fin 512) : ℝ := x c - mean x (hq c)
/-- The variance over a head, the small constant added. -/
def ve (x : Fin 512 → ℝ) (h : Fin 8) : ℝ := mean (fun c => xc x c * xc x c) h + eps
/-- The reciprocal standard deviation. -/
def rs (x : Fin 512 → ℝ) (h : Fin 8) : ℝ := (√(ve x h))⁻¹
/-- The normed row. -/
def xh (x : Fin 512 → ℝ) (c : Fin 512) : ℝ := xc x c * rs x (hq c)
/-- What the silu is taken of. -/
def pre (x g b : Fin 512 → ℝ) (c : Fin 512) : ℝ := xh x c * g c + b c
/-- The gradient before the silu, `d` the gradient behind it. -/
def da (d x g b : Fin 512 → ℝ) (c : Fin 512) : ℝ :=
  d c * (1 / (1 + Real.exp (-pre x g b c)))
    + pre x g b c * d c * (1 / (1 + Real.exp (-pre x g b c)) * (1 - 1 / (1 + Real.exp (-pre x g b c))))
/-- The gradient of the normed row. -/
def dx (d x g b : Fin 512 → ℝ) (c : Fin 512) : ℝ := da d x g b c * g c
/-- The gradient of the row. -/
def dz (d x g b : Fin 512 → ℝ) (c : Fin 512) : ℝ :=
  rs x (hq c) * (dx d x g b c - mean (dx d x g b) (hq c) - xh x c * mean (fun k => dx d x g b k * xh x k) (hq c))

theorem ve_pos (x : Fin 512 → ℝ) (h : Fin 8) : 0 < ve x h := by
  have : 0 ≤ mean (fun c => xc x c * xc x c) h := div_nonneg (Finset.sum_nonneg fun _ _ => mul_self_nonneg _) (by norm_num)
  exact add_pos_of_nonneg_of_pos this eps_pos

theorem one_add_exp_pos (t : ℝ) : 0 < 1 + Real.exp t := by positivity

/-- The centred row sums to zero over each head. -/
theorem sum_xc (x : Fin 512 → ℝ) (h : Fin 8) : ∑ j, xc x (hd h j) = 0 := by
  simp only [xc, hq_hd, Finset.sum_sub_distrib, Finset.sum_const, Finset.card_univ, Fintype.card_fin, nsmul_eq_mul, mean]
  push_cast; ring

/-- The gradient through the mean and the variance, as differentiation in reverse writes it, is the closed form `dz`. -/
theorem dz_eq (d x g b : Fin 512 → ℝ) (h : Fin 8) (j : Fin 64) :
    (dx d x g b (hd h j) * rs x h
        + (∑ k, xc x (hd h k) * dx d x g b (hd h k)) * (-(1 / 2) * (rs x h / ve x h)) / 64 * (2 * xc x (hd h j)))
      + ((∑ k, -(dx d x g b (hd h k) * rs x h))
          + ∑ k, -((∑ k, xc x (hd h k) * dx d x g b (hd h k)) * (-(1 / 2) * (rs x h / ve x h)) / 64 * (2 * xc x (hd h k)))) / 64
      = dz d x g b (hd h j) := by
  have hv := ve_pos x h
  have h1 : rs x h / ve x h = rs x h * rs x h * rs x h := by
    rw [rs, div_eq_mul_inv]
    conv_lhs => rw [← Real.mul_self_sqrt hv.le, Real.sqrt_mul_self (Real.sqrt_nonneg _)]
    rw [mul_inv]; ring
  have h2 : (∑ k, -((∑ k, xc x (hd h k) * dx d x g b (hd h k)) * (-(1 / 2) * (rs x h / ve x h)) / 64 * (2 * xc x (hd h k)))) = 0 := by
    rw [Finset.sum_neg_distrib, ← Finset.mul_sum, ← Finset.mul_sum, sum_xc]; ring
  have h3 : (∑ k, -(dx d x g b (hd h k) * rs x h)) = -((∑ k, dx d x g b (hd h k)) * rs x h) := by
    rw [Finset.sum_neg_distrib, Finset.sum_mul]
  have h4 : (∑ k, dx d x g b (hd h k) * (xc x (hd h k) * rs x h)) = (∑ k, xc x (hd h k) * dx d x g b (hd h k)) * rs x h := by
    rw [Finset.sum_mul]; exact Finset.sum_congr rfl fun k _ => by ring
  rw [h2, h3, h1]
  simp only [dz, mean, xh, hq_hd, h4]
  ring

/-- The derivative of the silu as the kernel writes it, through the exponential. -/
theorem da_eq (d x g b : Fin 512 → ℝ) (c : Fin 512) :
    d c * (1 / (1 + Real.exp (0 - pre x g b c)))
      + (0 - (0 - pre x g b c * d c * (1 / ((1 + Real.exp (0 - pre x g b c)) * (1 + Real.exp (0 - pre x g b c)))) * 1)
          * Real.exp (0 - pre x g b c)) = da d x g b c := by
  have h := one_add_exp_pos (-pre x g b c)
  rw [da, zero_sub]
  field_simp
  ring

end Cert.ConvNorm
-- ==== Proof.NormKernel.lean ====
/-
  The convolution norm's backward kernel on blocks of real numbers: what each of its payloads computes of a block of 512
  rows, as the real functions of `NormMath`.
-/
module

public import proofs.«01_k».proof.Proof.NormMath
public import proofs.«01_k».proof.Proof.Gen.KernelIdeal.Frame

@[expose] public section

noncomputable section

namespace Cert.ConvNorm.Kernel

open Idealize.ShloMosaic Idealize.ShloMosaic.ValueIdx
open Cert.KernelIdeal Cert.KernelIdeal.Gen Cert.Reals
open scoped BigOperators

variable (D X : Fin 512 → Fin 512 → ℝ) (g b : Fin 512 → ℝ)

/-- The kernel's one form of product. -/
theorem mm_re (f g : S512x512.Idx → ℝ) :
    matmul (F := Ideal) (φ₁ := .bf16) (φ₂ := .bf16) dot_S512x512_S512x512_S512x512_1_0_0_1_n_n none (re f) (re g) (constant S512x512 .f32 0x00000000#32)
      = re fun i => ∑ k : Fin 512, f (ix2 (ax0 i) k) * g (ix2 k (ax1 i)) :=
  matmul_re (M := 512) (K := 512) (N := 512) f g _ rfl none

theorem pay4_re : k0_pay4 (F := Ideal) (re2 avg) = re2 avg := by
  unfold k0_pay4; dsimp only; rw [shapeCast_self]

theorem pay5_re : k0_pay5 (F := Ideal) (re2 avg) (re2 X) = re2 fun r c => xc (X r) c := by
  unfold k0_pay5; dsimp only
  rw [shapeCast_self, pay4_re, truncf_re, mm_re, subf_re]
  refine re_congr fun i => ?_
  exact congrArg (X (ax0 i) (ax1 i) - ·) (sum_avg (X (ax0 i)) (ax1 i))

theorem pay6_re : k0_pay6 (F := Ideal) (re2 avg) (re2 X) = re2 fun r c => rs (X r) (hq c) := by
  unfold k0_pay6; dsimp only
  rw [pay5_re, mulf_re, pay4_re, truncf_re, mm_re, broadcast_eps, addf_re]
  have e : ∀ i : S512x512.Idx, (∑ k, xc (X (ax0 i)) k * xc (X (ax0 i)) k * avg k (ax1 i)) + eps = ve (X (ax0 i)) (hq (ax1 i)) :=
    fun i => by rw [sum_avg fun k => xc (X (ax0 i)) k * xc (X (ax0 i)) k, ve]
  rw [rsqrtf_re fun i => lt_of_lt_of_eq (ve_pos _ _) (e i).symm]
  exact re_congr fun i => congrArg (fun t => (√t)⁻¹) (e i)

theorem pay7_re : k0_pay7 (F := Ideal) (re2 avg) (re2 X) = re2 fun r c => xh (X r) c := by
  unfold k0_pay7; dsimp only
  rw [pay5_re, pay6_re, mulf_re]; rfl

theorem bcast_row (f : Fin 512 → ℝ) :
    broadcastTo S512x512 (row f) broadcasts_S1x512_S512x512 = re2 fun _ c => f c := by
  rw [broadcastTo_re]
  exact re_congr fun i => congrArg f (Fin.ext rfl)

theorem pay8_re : k0_pay8 (F := Ideal) (re2 avg) (re2 X) (row g) (row b) = re2 fun r c => pre (X r) g b c := by
  unfold k0_pay8; dsimp only
  rw [pay7_re, bcast_row, bcast_row, mulf_re, addf_re]; rfl

theorem pay9_re : k0_pay9 (F := Ideal) (re2 avg) (re2 X) (row g) (row b) = re2 fun r c => Real.exp (0 - pre (X r) g b c) := by
  unfold k0_pay9; dsimp only
  rw [pay8_re, broadcast_zero, subf_re, expf_re]

theorem pay10_re : k0_pay10 (F := Ideal) (re2 avg) (re2 X) (row g) (row b) = re2 fun r c => 1 + Real.exp (0 - pre (X r) g b c) := by
  unfold k0_pay10; dsimp only
  rw [pay9_re, broadcast_one, addf_re]

theorem pay11_re : k0_pay11 (F := Ideal) (re2 avg) (re2 X) (row g) (row b) (re2 D)
    = re2 fun r c => D r c * (1 / (1 + Real.exp (0 - pre (X r) g b c))) := by
  unfold k0_pay11; dsimp only
  rw [pay10_re, broadcast_one, divf_re _ fun i => (one_add_exp_pos _).ne', mulf_re]

theorem pay12_re : k0_pay12 (F := Ideal) (re2 avg) (re2 X) (row g) (row b) (re2 D)
    = re2 fun r c => pre (X r) g b c * D r c * (1 / ((1 + Real.exp (0 - pre (X r) g b c)) * (1 + Real.exp (0 - pre (X r) g b c)))) := by
  unfold k0_pay12; dsimp only
  rw [pay10_re, pay8_re, broadcast_one, mulf_re, mulf_re,
    divf_re _ fun i => (mul_pos (one_add_exp_pos _) (one_add_exp_pos _)).ne', mulf_re]

/-- The gradient before the silu. -/
abbrev p14 (x3 : Vec Ideal S512x512 .bf16) (x5 : Vec Ideal S512x512 .f32) (x17 x18 : Vec Ideal S1x512 .f32) (x33 : Vec Ideal S512x512 .f32) :=
  k0_pay14 (F := Ideal) (k0_pay9 x3 x5 x17 x18) (k0_pay11 x3 x5 x17 x18 x33) (k0_pay12 x3 x5 x17 x18 x33) k0_pay13

theorem pay14_re : p14 (re2 avg) (re2 X) (row g) (row b) (re2 D) = re2 fun r c => da (D r) (X r) g b c := by
  unfold p14 k0_pay14 k0_pay13; dsimp only
  rw [pay9_re, pay11_re, pay12_re, broadcast_one, broadcast_zero, mulf_re, subf_re, mulf_re, subf_re, addf_re]
  exact re_congr fun i => da_eq (D (ax0 i)) (X (ax0 i)) g b (ax1 i)

/-- The gradient of the rows. -/
abbrev p15 (x3 : Vec Ideal S512x512 .bf16) (x5 : Vec Ideal S512x512 .f32) (x17 x18 : Vec Ideal S1x512 .f32) (x33 : Vec Ideal S512x512 .f32) :=
  k0_pay15 (F := Ideal) (k0_pay4 x3) (k0_pay6 x3 x5) (k0_pay7 x3 x5) x17 (k0_pay9 x3 x5 x17 x18) (k0_pay11 x3 x5 x17 x18 x33)
    (k0_pay12 x3 x5 x17 x18 x33) k0_pay13

theorem pay15_re : p15 (re2 avg) (re2 X) (row g) (row b) (re2 D) = re2 fun r c => dz (D r) (X r) g b c := by
  unfold p15 k0_pay15; dsimp only
  have h := pay14_re D X g b
  unfold p14 at h
  rw [h, bcast_row, pay4_re, pay6_re, pay7_re, mulf_re, truncf_re, mm_re, subf_re, mulf_re, truncf_re,
    mm_re, mulf_re, subf_re, mulf_re]
  refine re_congr fun i => ?_
  show _ = dz _ _ _ _ _
  rw [dz, ← sum_avg, ← sum_avg]; rfl

theorem pay16_re (o : Vec Ideal S1x512 .f32) : k0_pay16 (F := Ideal) (k0_pay7 (re2 avg) (re2 X)) (k0_pay9 (re2 avg) (re2 X) (row g) (row b))
      (k0_pay11 (re2 avg) (re2 X) (row g) (row b) (re2 D)) (k0_pay12 (re2 avg) (re2 X) (row g) (row b) (re2 D)) k0_pay13 o
    = addf (φ := .f32) o (row fun c => ∑ r, xh (X r) c * da (D r) (X r) g b c) := by
  unfold k0_pay16; dsimp only
  have h := pay14_re D X g b
  unfold p14 at h
  rw [h, pay7_re, mulf_re, shapeCast_self, sumRows_re fun r c => xh (X r) c * da (D r) (X r) g b c]

theorem pay17_re (o : Vec Ideal S1x512 .f32) : k0_pay17 (F := Ideal) (k0_pay9 (re2 avg) (re2 X) (row g) (row b))
      (k0_pay11 (re2 avg) (re2 X) (row g) (row b) (re2 D)) (k0_pay12 (re2 avg) (re2 X) (row g) (row b) (re2 D)) k0_pay13 o
    = addf (φ := .f32) o (row fun c => ∑ r, da (D r) (X r) g b c) := by
  unfold k0_pay17; dsimp only
  have h := pay14_re D X g b
  unfold p14 at h
  rw [h, shapeCast_self, sumRows_re]

/-- Row `q` of the `j`-th group of eight rows. -/
def grp (j : Fin 64) (q : Fin 8) : Fin 512 := ⟨j.val * 8 + q.val, by omega⟩

theorem pay18_re (o : Vec Ideal S8x512 .f32) : k0_pay18 (F := Ideal) (k0_pay4 (re2 avg)) (k0_pay6 (re2 avg) (re2 X)) (k0_pay7 (re2 avg) (re2 X)) (row g)
      (k0_pay9 (re2 avg) (re2 X) (row g) (row b))
      (k0_pay11 (re2 avg) (re2 X) (row g) (row b) (re2 D)) (k0_pay12 (re2 avg) (re2 X) (row g) (row b) (re2 D)) k0_pay13 o
    = addf (φ := .f32) o (re2 fun q c => ∑ j, dz (D (grp j q)) (X (grp j q)) g b c) := by
  unfold k0_pay18; dsimp only
  have h := pay15_re D X g b
  unfold p15 at h
  rw [h, shapeCast_self, shapeCast_re, sumf_re _ reduces_S64x8x512_S8x512]
  refine congrArg (addf (F := Ideal) (φ := .f32) o) ?_
  refine re_congr fun i => Finset.sum_congr rfl fun k _ => ?_
  refine (shapeCast_apply _ _ _ (ix2 (grp k (ax0 i)) (ax1 i)) ?_).trans rfl
  rw [Shape.rowMajor_val_two, Shape.rowMajor_val_three]; rfl

end Cert.ConvNorm.Kernel
-- ==== Proof.RowStore.lean ====
/-
  A buffer of `m` rows whose first row alone is stored: what it reads as afterwards, and what a load of its first row gives.
-/
module

public import proofs.«01_k».proof.Proof.Reals
public import Idealize.ShloMosaic.Lib.Pipeline.ValueKit

@[expose] public section

noncomputable section

namespace Cert.Reals

open Idealize.ShloMosaic hiding ix2
open Idealize.ShloMosaic.ValueIdx

section RowStore

theorem zero2 : (![0, 0] : Fin 2 → ℕ) = fun _ => 0 := by decide

variable {m n : ℕ} {Val : EltTy → Type} {e : EltTy} [∀ e, Nonempty (Val e)]
  (inb : ∀ a, (![0, 0] : Fin 2 → ℕ) a + (![1, n] : Fin 2 → ℕ) a ≤ (⟨2, ![m, n]⟩ : Shape).size a)
  (inb' : ∀ a, (![0, 0] : Fin 2 → ℕ) a + (⟨2, ![m, n]⟩ : Shape).size a ≤ (⟨2, ![m, n]⟩ : Shape).size a)

/-- The first row of `w`, the rest of `z`. -/
def overRow {α : Type} (w : (⟨2, ![1, n]⟩ : Shape).Idx → α) (z : (⟨2, ![m, n]⟩ : Shape).Idx → α) : (⟨2, ![m, n]⟩ : Shape).Idx → α :=
  fun y => if (ax0 y).val = 0 then w (ix2 0 (ax1 y)) else z y

theorem row_emb (y : (⟨2, ![m, n]⟩ : Shape).Idx) (h : (ax0 y).val = 0) :
    (Rect.unit (s := ⟨2, ![m, n]⟩) ![0, 0] ![1, n] inb).emb (ix2 0 (ax1 y) : (⟨2, ![1, n]⟩ : Shape).Idx) = y := by
  funext a; apply Fin.ext
  rw [Rect.emb_apply]
  fin_cases a
  · exact h.symm
  · show 0 + 1 * (y 1).val = (y 1).val; omega

theorem row_not_mem (y : (⟨2, ![m, n]⟩ : Shape).Idx) (h : (ax0 y).val ≠ 0) :
    y ∉ (Rect.unit (s := ⟨2, ![m, n]⟩) ![0, 0] ![1, n] inb).set := by
  rw [Rect.mem_set_unit]
  intro hy
  have : (ax0 y).val < 0 + 1 := (hy 0).2
  omega

/-- A store of the first row over a store of the whole buffer. -/
theorem canon_overRow (w : (⟨2, ![1, n]⟩ : Shape).Idx → Val e) (z : (⟨2, ![m, n]⟩ : Shape).Idx → Val e) :
    View.canon [(⟨Rect.unit ![0, 0] ![1, n] inb, w⟩ : View.Piece Val ⟨2, ![m, n]⟩ e), ⟨Rect.unit ![0, 0] ![m, n] inb', z⟩] = overRow w z := by
  funext y
  unfold overRow
  split
  · next h =>
    conv_lhs => rw [← row_emb inb y h]
    exact View.canon_cons_emb _ _ _ _
  · next h =>
    rw [View.canon_cons_of_not_mem]
    swap; · exact row_not_mem inb y h
    exact congrFun (View.canon_cons_unit_zero (S := ⟨2, ![m, n]⟩) zero2 inb' z []) y

/-- A store of the first row into a buffer. -/
theorem read_overRow {sig : RefSig} {κ : Kind} {sp : Space} (v : View sig κ sp ⟨2, ![m, n]⟩ e) (f : v.ty.Contents Val)
    (w : (⟨2, ![1, n]⟩ : Shape).Idx → Val e) :
    v.read Val (v.writes Val f [(⟨Rect.unit ![0, 0] ![1, n] inb, w⟩ : View.Piece Val ⟨2, ![m, n]⟩ e)]) = overRow w (v.read Val f) := by
  funext y
  unfold overRow
  split
  · next h =>
    conv_lhs => rw [← row_emb inb y h]
    exact View.read_writes_cons_emb _ _ _ _ _ _
  · next h =>
    have hy' : y ∉ Finset.univ.map (Rect.unit (s := ⟨2, ![m, n]⟩) ![0, 0] ![1, n] inb).emb := by
      rw [Rect.map_emb_univ]; exact row_not_mem inb y h
    rw [View.writes_cons, View.read_slice_write_of_not_mem _ _ _ _ hy', View.writes_nil]

/-- A load of the first row. -/
theorem ld_row (X : (⟨2, ![m, n]⟩ : Shape).Idx → Val e) (hm : 0 < m) :
    View.ld X (Rect.unit ![0, 0] ![1, n] inb) = fun x => X (ix2 ⟨0, hm⟩ (ax1 x)) := by
  funext x
  refine View.ld_unit_apply_of X _ _ _ x _ fun a => ?_
  fin_cases a
  · have : (x 0).val < 1 := (x 0).isLt
    show 0 = 0 + (x 0).val; omega
  · show (x 1).val = 0 + (x 1).val; omega

/-- A load of the first row after a store of the whole buffer. -/
theorem readCov_row {sig : RefSig} {κ : Kind} {sp : Space} (v : View sig κ sp ⟨2, ![m, n]⟩ e) (z : (⟨2, ![m, n]⟩ : Shape).Idx → Val e) (hm : 0 < m) :
    v.readCov [(⟨Rect.unit ![0, 0] ![m, n] inb', z⟩ : View.Piece Val ⟨2, ![m, n]⟩ e)] (Rect.unit ![0, 0] ![1, n] inb).toLoadRect
      = fun x => z (ix2 ⟨0, hm⟩ (ax1 x)) := by
  rw [View.readCov_eq_canon_ld, View.canon_cons_unit_zero (S := ⟨2, ![m, n]⟩) zero2 inb' z [], ld_row inb z hm]
  intro y
  refine ⟨_, List.mem_singleton_self _, ?_⟩
  show y ∈ (Rect.unit (s := ⟨2, ![m, n]⟩) ![0, 0] ![m, n] inb').set
  rw [Rect.mem_set_unit]
  intro a
  fin_cases a
  · exact ⟨Nat.zero_le _, (y 0).isLt.trans_le (Nat.le_add_left _ _)⟩
  · exact ⟨Nat.zero_le _, (y 1).isLt.trans_le (Nat.le_add_left _ _)⟩

/-- Adding a row of reals into the first row of a buffer adds, at every element, that row's real or zero. -/
theorem overRow_addf (X : (⟨2, ![m, n]⟩ : Shape).Idx → EReal) (f : Fin n → ℝ) (hm : 0 < m) :
    overRow (addf (F := Ideal) (φ := .f32) (fun x => X (ix2 ⟨0, hm⟩ (ax1 x))) (row f)) X
      = fun y => X y + re2 (fun q c => if (q : Fin m).val = 0 then f c else 0) y := by
  funext y
  unfold overRow
  split
  · next h =>
    have e : (ix2 ⟨0, hm⟩ (ax1 y) : (⟨2, ![m, n]⟩ : Shape).Idx) = y := by
      funext a; apply Fin.ext
      fin_cases a
      · exact h.symm
      · rfl
    show X (ix2 ⟨0, hm⟩ (ax1 y)) + ((f (ax1 y) : ℝ) : EReal) = X y + ((if (ax0 y).val = 0 then f (ax1 y) else 0 : ℝ) : EReal)
    rw [e, if_pos h]
  · next h =>
    show X y = X y + ((if (ax0 y).val = 0 then f (ax1 y) else 0 : ℝ) : EReal)
    rw [if_neg h, EReal.coe_zero, add_zero]

end RowStore

end Cert.Reals
-- ==== Proof.NormRun.lean ====
/-
  The convolution norm's backward kernel over its eight blocks of 512 rows: the input blocks each point reads, and what
  its four output buffers hold after each point.
-/
module

public import proofs.«01_k».proof.Proof.NormKernel
public import proofs.«01_k».proof.Proof.RowStore

@[expose] public section

noncomputable section

namespace Cert.ConvNorm.Kernel

open Idealize.ShloMosaic hiding ix2
open Idealize.ShloMosaic.ValueIdx
open Cert.KernelIdeal Cert.KernelIdeal.Gen Cert.Reals
open scoped BigOperators

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (D Z : Fin 4096 → Fin 512 → ℝ) (g b : Fin 512 → ℝ)

/-- The region's input arrays are these reals. -/
structure Inputs : Prop where
  d : V m c main_arg0 = re2 D
  z : V m c main_v12 = re2 Z
  g : V m c main_arg3 = row g
  b : V m c main_arg4 = row b
  a : V m c main_v10 = re2 avg

variable {m c D Z g b} (hin : Inputs m c D Z g b)
include hin

theorem iblk0 (t : Fin cfg0.N) : iblk m c 0 t = re2 fun r => D (brow t r) := by
  have e : ∀ t : Fin cfg0.N, win0_0.index t = ![t.val, 0] := (by decide +kernel : ∀ t : Fin grid0.N, _)
  funext i
  unfold iblk; rw [View.read_apply]
  refine (congrFun hin.d _).trans ?_
  refine congrArg₂ (fun p q => ((D p q : ℝ) : EReal)) (Fin.ext ?_) (Fin.ext ?_) <;> dsimp only [ax0, ax1, brow] <;> blk_simp [e] <;> rfl

theorem iblk1 (t : Fin cfg0.N) : iblk m c 1 t = re2 fun r => Z (brow t r) := by
  have e : ∀ t : Fin cfg0.N, win0_1.index t = ![t.val, 0] := (by decide +kernel : ∀ t : Fin grid0.N, _)
  funext i
  unfold iblk; rw [View.read_apply]
  refine (congrFun hin.z _).trans ?_
  refine congrArg₂ (fun p q => ((Z p q : ℝ) : EReal)) (Fin.ext ?_) (Fin.ext ?_) <;> dsimp only [ax0, ax1, brow] <;> blk_simp [e] <;> rfl

theorem iblk2 (t : Fin cfg0.N) : iblk m c 2 t = row g := by
  have e : ∀ t : Fin cfg0.N, win0_2.index t = ![0, 0] := (by decide +kernel : ∀ t : Fin grid0.N, _)
  funext i
  unfold iblk; rw [View.read_apply]
  refine (congrFun hin.g _).trans ?_
  refine congrArg (fun p => ((g p : ℝ) : EReal)) (Fin.ext ?_) <;> dsimp only [ax0, ax1] <;> blk_simp [e] <;> rfl

theorem iblk3 (t : Fin cfg0.N) : iblk m c 3 t = row b := by
  have e : ∀ t : Fin cfg0.N, win0_3.index t = ![0, 0] := (by decide +kernel : ∀ t : Fin grid0.N, _)
  funext i
  unfold iblk; rw [View.read_apply]
  refine (congrFun hin.b _).trans ?_
  refine congrArg (fun p => ((b p : ℝ) : EReal)) (Fin.ext ?_) <;> dsimp only [ax0, ax1] <;> blk_simp [e] <;> rfl

theorem iblk4 (t : Fin cfg0.N) : iblk m c 4 t = re2 avg := by
  have e : ∀ t : Fin cfg0.N, win0_4.index t = ![0, 0] := (by decide +kernel : ∀ t : Fin grid0.N, _)
  funext i
  unfold iblk; rw [View.read_apply]
  refine (congrFun hin.a _).trans ?_
  refine congrArg₂ (fun p q => ((avg p q : ℝ) : EReal)) (Fin.ext ?_) (Fin.ext ?_) <;> dsimp only [ax0, ax1] <;> blk_simp [e] <;> rfl

/-- The gradient of the rows: each point leaves its own block's. -/
theorem out5 (t : Fin cfg0.N) : (outsAt0 m c t.val t.isLt).1 = re2 fun r => dz (D (brow t r)) (Z (brow t r)) g b := by
  by_cases h : t.val % 8 = 0
  · rw [outsAt0_A m c t h]; frame_out
    rw [iblk0 hin, iblk1 hin, iblk2 hin, iblk3 hin, iblk4 hin]; exact pay15_re _ _ _ _
  · rw [outsAt0_B m c t h]; frame_out
    rw [iblk0 hin, iblk1 hin, iblk2 hin, iblk3 hin, iblk4 hin]; exact pay15_re _ _ _ _

omit hin in
theorem zero_pay1 : k0_pay1 (F := Ideal) = fun _ => 0 := by
  unfold k0_pay1; dsimp only; rw [broadcast_zero]; exact funext fun _ => EReal.coe_zero
omit hin in
theorem zero_pay2 : k0_pay2 (F := Ideal) = fun _ => 0 := by
  unfold k0_pay2; dsimp only; rw [broadcast_zero]; exact funext fun _ => EReal.coe_zero
omit hin in
theorem zero_pay3 : k0_pay3 (F := Ideal) = fun _ => 0 := by
  unfold k0_pay3; dsimp only; rw [broadcast_zero]; exact funext fun _ => EReal.coe_zero

/-- One block's share of the scale's gradient, in the first row. -/
def term6 (D Z : Fin 4096 → Fin 512 → ℝ) (g b : Fin 512 → ℝ) (t : Fin cfg0.N) : S8x512.Idx → EReal :=
  re2 fun q c => if q.val = 0 then ∑ r, xh (Z (brow t r)) c * da (D (brow t r)) (Z (brow t r)) g b c else 0

/-- One block's share of the offset's gradient, in the first row. -/
def term7 (D Z : Fin 4096 → Fin 512 → ℝ) (g b : Fin 512 → ℝ) (t : Fin cfg0.N) : S8x512.Idx → EReal :=
  re2 fun q c => if q.val = 0 then ∑ r, da (D (brow t r)) (Z (brow t r)) g b c else 0

/-- One block's share of the bias's gradient, by the row's place in its group of eight. -/
def term8 (D Z : Fin 4096 → Fin 512 → ℝ) (g b : Fin 512 → ℝ) (t : Fin cfg0.N) : S8x512.Idx → EReal :=
  re2 fun q c => ∑ j, dz (D (brow t (grp j q))) (Z (brow t (grp j q))) g b c

/-- The scale's gradient after the last point. -/
theorem out6 (t : Fin cfg0.N) (ht : t.val + 1 = cfg0.N) (i : S8x512.Idx) : (outsAt0 m c t.val t.isLt).2.1 i = 0 + ∑ p, term6 D Z g b p i :=
  Pipeline.eq_sum_fin_of_reset_step_apply_last (fun n h => (outsAt0 m c n h).2.1) 8 (fun _ => 0) (term6 D Z g b)
    (fun t h i => by
      rw [outsAt0_A m c t h]; frame_out
      rw [iblk0 hin, iblk1 hin, iblk2 hin, iblk3 hin, iblk4 hin, pay16_re, readCov_row _ _ _ _ (by decide)]
      rw [canon_overRow, overRow_addf, zero_pay1]; rfl)
    (fun t h i => by
      rw [outsAt0_B m c t h]; frame_out
      rw [iblk0 hin, iblk1 hin, iblk2 hin, iblk3 hin, iblk4 hin, pay16_re, ld_row _ _ (by decide)]
      rw [read_overRow, Memref.IsWhole.read_unread, overRow_addf]; rfl)
    (by decide) t ht i

/-- The offset's gradient after the last point. -/
theorem out7 (t : Fin cfg0.N) (ht : t.val + 1 = cfg0.N) (i : S8x512.Idx) : (outsAt0 m c t.val t.isLt).2.2.1 i = 0 + ∑ p, term7 D Z g b p i :=
  Pipeline.eq_sum_fin_of_reset_step_apply_last (fun n h => (outsAt0 m c n h).2.2.1) 8 (fun _ => 0) (term7 D Z g b)
    (fun t h i => by
      rw [outsAt0_A m c t h]; frame_out
      rw [iblk0 hin, iblk1 hin, iblk2 hin, iblk3 hin, iblk4 hin, pay17_re, readCov_row _ _ _ _ (by decide)]
      rw [canon_overRow, overRow_addf, zero_pay2]; rfl)
    (fun t h i => by
      rw [outsAt0_B m c t h]; frame_out
      rw [iblk0 hin, iblk1 hin, iblk2 hin, iblk3 hin, iblk4 hin, pay17_re, ld_row _ _ (by decide)]
      rw [read_overRow, Memref.IsWhole.read_unread, overRow_addf]; rfl)
    (by decide) t ht i

/-- The bias's gradient after the last point. -/
theorem out8 (t : Fin cfg0.N) (ht : t.val + 1 = cfg0.N) (i : S8x512.Idx) : (outsAt0 m c t.val t.isLt).2.2.2 i = 0 + ∑ p, term8 D Z g b p i :=
  Pipeline.eq_sum_fin_of_reset_step_apply_last (fun n h => (outsAt0 m c n h).2.2.2) 8 (fun _ => 0) (term8 D Z g b)
    (fun t h i => by
      rw [outsAt0_A m c t h]; frame_out
      rw [iblk0 hin, iblk1 hin, iblk2 hin, iblk3 hin, iblk4 hin, pay18_re, zero_pay3]; rfl)
    (fun t h i => by
      rw [outsAt0_B m c t h]; frame_out
      rw [iblk0 hin, iblk1 hin, iblk2 hin, iblk3 hin, iblk4 hin, pay18_re]; rfl)
    (by decide) t ht i

/-! ## The output arrays -/

omit hin in
/-- A row by its block and its place there. -/
theorem sum_rows (f : Fin 4096 → ℝ) : ∑ t : Fin cfg0.N, ∑ r, f (brow t r) = ∑ r, f r :=
  Fin.sum_mul_add_fin 8 512 f

omit hin in
/-- A row by its block, its group of eight and its place there. -/
theorem sum_groups (f : Fin 4096 → ℝ) : ∑ q, ∑ t : Fin cfg0.N, ∑ j, f (brow t (grp j q)) = ∑ r, f r := by
  rw [Finset.sum_comm, ← sum_rows]
  refine Finset.sum_congr rfl fun t _ => ?_
  rw [Finset.sum_comm]
  exact Fin.sum_mul_add_fin 64 8 fun r => f (brow t r)

theorem arr5 : (dats m 0 c).arrAt 5 cfg0.N = re2 fun r => dz (D r) (Z r) g b := by
  have e : ∀ t : Fin cfg0.N, win0_5.index t = ![t.val, 0] := (by decide +kernel : ∀ t : Fin grid0.N, _)
  refine (dats m 0 c).arrAt_eq_of_covers 5 _ (by decide +kernel) fun t _ y => ?_
  blk_simp
  rw [after0_5, out5 hin]
  refine congrArg₂ (fun p q => ((dz (D p) (Z p) g b q : ℝ) : EReal)) (Fin.ext ?_) (Fin.ext ?_) <;> dsimp only [ax0, ax1, brow] <;> blk_simp [e] <;> rfl

omit hin in
/-- Every block's share in the first row, summed over the blocks. -/
theorem sum_row0 (f : Fin 4096 → Fin 512 → ℝ) (i : S8x512.Idx) :
    0 + ∑ p : Fin cfg0.N, re2 (fun (q : Fin 8) c => if q.val = 0 then ∑ r, f (brow p r) c else 0) i
      = re2 (fun (q : Fin 8) c => if q.val = 0 then ∑ r, f r c else 0) i := by
  refine (zero_add_sum EReal.coe_zero.symm fun p => rfl).trans ?_
  refine congrArg Real.toEReal ?_
  show ∑ p, (if (ax0 i).val = 0 then ∑ r, f (brow p r) (ax1 i) else 0) = if (ax0 i).val = 0 then ∑ r, f r (ax1 i) else 0
  by_cases h : (ax0 i).val = 0
  · simp only [if_pos h]; exact sum_rows fun r => f r (ax1 i)
  · simp only [if_neg h]; exact Finset.sum_const_zero

theorem arr6 : (dats m 0 c).arrAt 6 cfg0.N = re2 fun q c => if q.val = 0 then ∑ r, xh (Z r) c * da (D r) (Z r) g b c else 0 := by
  refine (dats m 0 c).arrAt_eq_of_after_last 6 ⟨7, by decide⟩ (by decide +kernel) _ fun j => ?_
  blk_simp
  exact (congrFun (after0_6 m c ⟨7, by decide⟩) _).trans ((out6 hin ⟨7, by decide⟩ rfl _).trans (sum_row0 (fun r c => xh (Z r) c * da (D r) (Z r) g b c) j))

theorem arr7 : (dats m 0 c).arrAt 7 cfg0.N = re2 fun q c => if q.val = 0 then ∑ r, da (D r) (Z r) g b c else 0 := by
  refine (dats m 0 c).arrAt_eq_of_after_last 7 ⟨7, by decide⟩ (by decide +kernel) _ fun j => ?_
  blk_simp
  exact (congrFun (after0_7 m c ⟨7, by decide⟩) _).trans ((out7 hin ⟨7, by decide⟩ rfl _).trans (sum_row0 (fun r c => da (D r) (Z r) g b c) j))

theorem arr8 : (dats m 0 c).arrAt 8 cfg0.N
    = re2 fun q c => ∑ t : Fin cfg0.N, ∑ j, dz (D (brow t (grp j q))) (Z (brow t (grp j q))) g b c := by
  refine (dats m 0 c).arrAt_eq_of_after_last 8 ⟨7, by decide⟩ (by decide +kernel) _ fun j => ?_
  blk_simp
  exact (congrFun (after0_8 m c ⟨7, by decide⟩) _).trans ((out8 hin ⟨7, by decide⟩ rfl _).trans
    (zero_add_sum EReal.coe_zero.symm fun p => rfl))

end Cert.ConvNorm.Kernel
-- ==== Proof.NormReference.lean ====
/-
  The reference of the convolution norm's backward call over the real numbers: what each stage of the differentiated
  layer norm holds, up to its four results.
-/
module

public import proofs.«01_k».proof.Proof.NormMath
public import proofs.«01_k».proof.Proof.Gen.ReferenceIdeal.Read

@[expose] public section

noncomputable section

namespace Cert.ConvNorm.Reference

open Idealize.ShloMosaic Idealize.ShloMosaic.ValueIdx
open Cert.ReferenceIdeal Cert.ReferenceIdeal.Read Cert.Reals Cert.ConvNorm
open scoped BigOperators

variable (D X : Fin 4096 → Fin 512 → ℝ) (bd g b : Fin 512 → ℝ)

/-- The rows the norm is taken of: the convolution's output with its bias. -/
def z (r : Fin 4096) (c : Fin 512) : ℝ := X r c + bd c

/-- An axis of extent one at the end of an index is dropped by a reshape. -/
theorem dropLast (i : S4096x8x1.Idx) : idx_main_v43 i = ix2 (bx0 i) (bx1 i) := by
  have h0 : (i 0).val < 4096 := (i 0).isLt
  have h1 : (i 1).val < 8 := (i 1).isLt
  have h2 : (i 2).val < 1 := (i 2).isLt
  funext a
  match a with
  | ⟨0, _⟩ => exact Fin.ext (show (((i 0).val * 8 + (i 1).val) * 1 + (i 2).val) / 8 = (i 0).val by omega)
  | ⟨1, _⟩ => exact Fin.ext (show (((i 0).val * 8 + (i 1).val) * 1 + (i 2).val) % 8 = (i 1).val by omega)

/-- An axis of extent one at the head of an index is dropped by a reshape. -/
theorem dropFirst (i : S1x512.Idx) : idx_main_v34 i = ix1 (ax1 i) := by
  have h0 : (i 0).val < 1 := (i 0).isLt
  funext a
  match a with
  | ⟨0, _⟩ => exact Fin.ext (show (i 0).val * 512 + (i 1).val = (i 1).val by omega)

theorem v2_re (i : S4096x8x64.Idx) :
    val_main_v2 (F := Ideal) (re2 X) (row bd) i = ((z X bd (bx0 i) (hd (bx1 i) (bx2 i)) : ℝ) : EReal) := by
  rw [val_main_v2_apply, val_main_v1_apply, val_main_v0_apply]
  have h0 := (i 0).isLt
  have h1 : (i 1).val < 8 := (i 1).isLt
  have h2 : (i 2).val < 64 := (i 2).isLt
  have e : idx_main_v2 i = ix2 (bx0 i) (hd (bx1 i) (bx2 i)) := by
    funext a
    match a with
    | ⟨0, _⟩ => exact Fin.ext (show (((i 0).val * 8 + (i 1).val) * 64 + (i 2).val) / 512 = (i 0).val by omega)
    | ⟨1, _⟩ => exact Fin.ext (show (((i 0).val * 8 + (i 1).val) * 64 + (i 2).val) % 512 = (i 1).val * 64 + (i 2).val by omega)
  rw [e]
  exact add_re _ _

theorem v6_re (i : S4096x8x1.Idx) :
    val_main_v6 (F := Ideal) (re2 X) (row bd) i = ((mean (z X bd (bx0 i)) (bx1 i) : ℝ) : EReal) := by
  rw [val_main_v6_apply, val_main_v4_apply, val_main_v5_apply, val_main_v3_apply, val_main_cst_apply, zero_add_sum ofBits_zero fun k => v2_re X bd _,
    val_main_cst_0_apply]
  rw [ofBits_64, hostDiv_re _ (b := 64) (by norm_num)]; rfl

theorem v8_re (i : S4096x8x64.Idx) :
    val_main_v8 (F := Ideal) (re2 X) (row bd) i = ((xc (z X bd (bx0 i)) (hd (bx1 i) (bx2 i)) : ℝ) : EReal) := by
  rw [val_main_v8_apply, val_main_v7_apply, v2_re, v6_re, xc, hq_hd]
  exact sub_re _ _

theorem v17_re (i : S4096x8x64.Idx) :
    val_main_v17 (F := Ideal) (re2 X) (row bd) i = ((xc (z X bd (bx0 i)) (hd (bx1 i) (bx2 i)) : ℝ) : EReal) := v8_re X bd i

theorem v19_re (i : S4096x8x1.Idx) :
    val_main_v19 (F := Ideal) (re2 X) (row bd) i = ((ve (z X bd (bx0 i)) (bx1 i) : ℝ) : EReal) := by
  rw [val_main_v19_apply, val_main_v15_apply, val_main_v13_apply, val_main_v14_apply, val_main_v18_apply, val_main_v12_apply,
    val_main_cst_2_apply, zero_add_sum ofBits_zero fun k => (by rw [val_main_v9_apply, v8_re]; exact mul_re _ _), val_main_cst_3_apply, val_main_cst_4_apply]
  refine (congrArg₂ _ ((congrArg _ ofBits_64).trans (hostDiv_re _ (b := 64) (by norm_num))) ofBits_eps).trans (add_re _ _)

theorem v20_re (i : S4096x8x1.Idx) :
    val_main_v20 (F := Ideal) (re2 X) (row bd) i = ((rs (z X bd (bx0 i)) (bx1 i) : ℝ) : EReal) := by
  rw [val_main_v20_apply, v19_re]
  exact hostRsqrt_re (ve_pos _ _)

theorem v23_re (i : S4096x8x1.Idx) : val_main_v23 (F := Ideal) (re2 X) (row bd) i
    = ((-(1 / 2) * (rs (z X bd (bx0 i)) (bx1 i) / ve (z X bd (bx0 i)) (bx1 i)) : ℝ) : EReal) := by
  rw [val_main_v23_apply, val_main_v22_apply, val_main_cst_5_apply, val_main_v21_apply, v20_re, v19_re, hostDiv_re _ (ve_pos _ _).ne']
  exact (congrArg (FloatOps.mulf · _) ofBits_neg_half).trans (mul_re _ _)

theorem v26_re (i : S4096x512.Idx) :
    val_main_v26 (F := Ideal) (re2 X) (row bd) i = ((xh (z X bd (ax0 i)) (ax1 i) : ℝ) : EReal) := by
  have h1 : (i 1).val < 512 := (i 1).isLt
  have h0 : (i 0).val < 4096 := (i 0).isLt
  have e : idx_main_v26 i = ix3 (ax0 i) (hq (ax1 i)) (hr (ax1 i)) := by
    funext a
    match a with
    | ⟨0, _⟩ => exact Fin.ext (show ((i 0).val * 512 + (i 1).val) / 512 = (i 0).val by omega)
    | ⟨1, _⟩ => exact Fin.ext (show (((i 0).val * 512 + (i 1).val) / 64) % 8 = (i 1).val / 64 by omega)
    | ⟨2, _⟩ => exact Fin.ext (show ((i 0).val * 512 + (i 1).val) % 64 = (i 1).val % 64 by omega)
  rw [val_main_v26_apply, val_main_v25_apply, val_main_v24_apply, v17_re, v20_re, e]
  refine (mul_re _ _).trans ?_
  exact congrArg (fun c => ((xc (z X bd (ax0 i)) c * rs (z X bd (ax0 i)) (hq (ax1 i)) : ℝ) : EReal)) (hd_hq (ax1 i))

theorem v30_re (i : S4096x512.Idx) :
    val_main_v30 (F := Ideal) (re2 X) (row bd) (row g) (row b) i = ((pre (z X bd (ax0 i)) g b (ax1 i) : ℝ) : EReal) := by
  rw [val_main_v30_apply, val_main_v28_apply, val_main_v27_apply, val_main_v29_apply, v26_re]
  exact (congrArg (FloatOps.addf · _) (mul_re _ _)).trans (add_re _ _)

theorem v31_2_re (i : S4096x512.Idx) : val_main_v31_2 (F := Ideal) (re2 X) (row bd) (row g) (row b) i
    = ((1 / (1 + Real.exp (-pre (z X bd (ax0 i)) g b (ax1 i))) : ℝ) : EReal) := by
  rw [val_main_v31_2_apply, val_main_call0_v4_apply, val_main_call0_v3_apply, val_main_call0_v2_apply, val_main_call0_v1_apply,
    val_main_call0_v0_apply, v30_re, hostNeg_re, hostExp_re]
  exact (congrArg₂ _ ofBits_one ((congrArg (FloatOps.addf · _) ofBits_one).trans (add_re _ _))).trans
    (hostDiv_re _ (one_add_exp_pos _).ne')

theorem v32_re (i : S4096x512.Idx) : val_main_v32 (F := Ideal) (re2 D) (re2 X) (row bd) (row g) (row b) i
    = ((da (D (ax0 i)) (z X bd (ax0 i)) g b (ax1 i) : ℝ) : EReal) := by
  rw [val_main_v32_apply, val_main_call1_v1_apply, val_main_call1_v2_apply, val_main_call1_v0_apply, val_main_v31_1_apply,
    val_main_call0_v7_apply, val_main_call0_v6_apply, v31_2_re, v30_re]
  rw [show val_main_call0_cst_1 (F := Ideal) (idx_main_call0_v6 i) = _ from ofBits_one, sub_re, mul_re]
  exact (congrArg₂ _ (mul_re _ _) ((congrArg (FloatOps.mulf · _) (mul_re _ _)).trans (mul_re _ _))).trans (add_re _ _)

theorem v34_re (i : S1x512.Idx) : val_main_v34 (F := Ideal) (re2 D) (re2 X) (row bd) (row g) (row b) i
    = ((∑ r, da (D r) (z X bd r) g b (ax1 i) : ℝ) : EReal) := by
  rw [val_main_v34_apply, show idx_main_v34 i = _ from dropFirst i, val_main_v33_apply, val_main_cst_6_apply]
  exact zero_add_sum ofBits_zero fun k => v32_re D X bd g b (idx_main_v33 (ix1 (ax1 i)) k)

theorem v37_re (i : S1x512.Idx) : val_main_v37 (F := Ideal) (re2 D) (re2 X) (row bd) (row g) (row b) i
    = ((∑ r, xh (z X bd r) (ax1 i) * da (D r) (z X bd r) g b (ax1 i) : ℝ) : EReal) := by
  rw [val_main_v37_apply, show idx_main_v37 i = _ from dropFirst i, val_main_v36_apply, val_main_cst_7_apply]
  refine zero_add_sum ofBits_zero fun k => ?_
  rw [val_main_v35_apply, v26_re, v32_re, mul_re]
  rfl

theorem v40_re (i : S4096x8x64.Idx) : val_main_v40 (F := Ideal) (re2 D) (re2 X) (row bd) (row g) (row b) i
    = ((dx (D (bx0 i)) (z X bd (bx0 i)) g b (hd (bx1 i) (bx2 i)) : ℝ) : EReal) := by
  have h0 := (i 0).isLt
  have h1 : (i 1).val < 8 := (i 1).isLt
  have h2 : (i 2).val < 64 := (i 2).isLt
  have e : idx_main_v40 i = ix2 (bx0 i) (hd (bx1 i) (bx2 i)) := by
    funext a
    match a with
    | ⟨0, _⟩ => exact Fin.ext (show (((i 0).val * 8 + (i 1).val) * 64 + (i 2).val) / 512 = (i 0).val by omega)
    | ⟨1, _⟩ => exact Fin.ext (show (((i 0).val * 8 + (i 1).val) * 64 + (i 2).val) % 512 = (i 1).val * 64 + (i 2).val by omega)
  rw [val_main_v40_apply, val_main_v39_apply, val_main_v38_apply, v32_re, e]
  exact mul_re _ _

theorem v45_re (i : S4096x8x64.Idx) : val_main_v45 (F := Ideal) (re2 D) (re2 X) (row bd) (row g) (row b) i
    = ((dx (D (bx0 i)) (z X bd (bx0 i)) g b (hd (bx1 i) (bx2 i)) * rs (z X bd (bx0 i)) (bx1 i) : ℝ) : EReal) := by
  rw [val_main_v45_apply, val_main_v44_apply, v40_re, v20_re]
  exact mul_re _ _

theorem v51_re (i : S4096x8x1.Idx) : val_main_v51 (F := Ideal) (re2 D) (re2 X) (row bd) (row g) (row b) i
    = (((∑ k, xc (z X bd (bx0 i)) (hd (bx1 i) k) * dx (D (bx0 i)) (z X bd (bx0 i)) g b (hd (bx1 i) k))
        * (-(1 / 2) * (rs (z X bd (bx0 i)) (bx1 i) / ve (z X bd (bx0 i)) (bx1 i))) / 64 : ℝ) : EReal) := by
  rw [val_main_v51_apply, val_main_v50_apply, val_main_cst_10_apply, val_main_v46_apply, val_main_v43_apply, dropLast, val_main_v42_apply,
    val_main_cst_8_apply, zero_add_sum ofBits_zero fun k => (by rw [val_main_v41_apply, v17_re, v40_re]; exact mul_re _ _), v23_re, mul_re]
  rw [ofBits_64, hostDiv_re _ (b := 64) (by norm_num)]; rfl

theorem v54_re (i : S4096x8x64.Idx) : val_main_v54 (F := Ideal) (re2 D) (re2 X) (row bd) (row g) (row b) i
    = (((∑ k, xc (z X bd (bx0 i)) (hd (bx1 i) k) * dx (D (bx0 i)) (z X bd (bx0 i)) g b (hd (bx1 i) k))
        * (-(1 / 2) * (rs (z X bd (bx0 i)) (bx1 i) / ve (z X bd (bx0 i)) (bx1 i))) / 64 * (2 * xc (z X bd (bx0 i)) (hd (bx1 i) (bx2 i))) : ℝ) : EReal) := by
  rw [val_main_v54_apply, val_main_v53_apply, val_main_v52_apply, val_main_cst_11_apply, zero_add_sum ofBits_zero fun k => v51_re D X bd g b (idx_main_v52 (idx_main_v53 i) k),
    val_main_v11_apply, val_main_v10_apply, v8_re, show val_main_cst_1 (F := Ideal) (idx_main_v10 i) = _ from ofBits_two, mul_re, mul_re,
    Fin.sum_univ_one]
  rfl

theorem v64_re (i : S4096x8x64.Idx) : val_main_v64 (F := Ideal) (re2 D) (re2 X) (row bd) (row g) (row b) i
    = ((dz (D (bx0 i)) (z X bd (bx0 i)) g b (hd (bx1 i) (bx2 i)) : ℝ) : EReal) := by
  have h61 (k : S4096x8x1.Idx) : val_main_v61 (F := Ideal) (re2 D) (re2 X) (row bd) (row g) (row b) k
      = ((((∑ j, -(dx (D (bx0 k)) (z X bd (bx0 k)) g b (hd (bx1 k) j) * rs (z X bd (bx0 k)) (bx1 k)))
          + ∑ j, -((∑ l, xc (z X bd (bx0 k)) (hd (bx1 k) l) * dx (D (bx0 k)) (z X bd (bx0 k)) g b (hd (bx1 k) l))
              * (-(1 / 2) * (rs (z X bd (bx0 k)) (bx1 k) / ve (z X bd (bx0 k)) (bx1 k))) / 64
              * (2 * xc (z X bd (bx0 k)) (hd (bx1 k) j)))) / 64 : ℝ) : EReal) := by
    rw [val_main_v61_apply, val_main_v60_apply, val_main_v59_apply, val_main_v49_apply, val_main_v57_apply, show idx_main_v49 k = _ from dropLast k,
      show idx_main_v57 k = _ from dropLast k, val_main_v48_apply, val_main_v56_apply,
      val_main_cst_9_apply, val_main_cst_12_apply, val_main_cst_13_apply,
      zero_add_sum ofBits_zero fun j => (by rw [val_main_v47_apply, v45_re]; exact hostNeg_re _),
      zero_add_sum ofBits_zero fun j => (by rw [val_main_v55_apply, v54_re]; exact hostNeg_re _), add_re]
    rw [ofBits_64, hostDiv_re _ (b := 64) (by norm_num)]; rfl
  rw [val_main_v64_apply, val_main_v58_apply, val_main_v63_apply, val_main_v62_apply, val_main_cst_14_apply, zero_add_sum ofBits_zero fun k => h61 (idx_main_v62 (idx_main_v63 i) k),
    v45_re, v54_re, add_re, add_re, Fin.sum_univ_one]
  exact congrArg _ (dz_eq (D (bx0 i)) (z X bd (bx0 i)) g b (bx1 i) (bx2 i))

theorem v65_re (i : S4096x512.Idx) : val_main_v65 (F := Ideal) (re2 D) (re2 X) (row bd) (row g) (row b) i
    = ((dz (D (ax0 i)) (z X bd (ax0 i)) g b (ax1 i) : ℝ) : EReal) := by
  have h1 : (i 1).val < 512 := (i 1).isLt
  have h0 : (i 0).val < 4096 := (i 0).isLt
  have e : idx_main_v65 i = ix3 (ax0 i) (hq (ax1 i)) (hr (ax1 i)) := by
    funext a
    match a with
    | ⟨0, _⟩ => exact Fin.ext (show ((i 0).val * 512 + (i 1).val) / 512 = (i 0).val by omega)
    | ⟨1, _⟩ => exact Fin.ext (show (((i 0).val * 512 + (i 1).val) / 64) % 8 = (i 1).val / 64 by omega)
    | ⟨2, _⟩ => exact Fin.ext (show ((i 0).val * 512 + (i 1).val) % 64 = (i 1).val % 64 by omega)
  rw [val_main_v65_apply, v64_re, e]
  exact congrArg (fun c => ((dz (D (ax0 i)) (z X bd (ax0 i)) g b c : ℝ) : EReal)) (hd_hq (ax1 i))

theorem v67_re (i : S1x512.Idx) : val_main_v67 (F := Ideal) (re2 D) (re2 X) (row bd) (row g) (row b) i
    = ((∑ r, dz (D r) (z X bd r) g b (ax1 i) : ℝ) : EReal) := by
  rw [val_main_v67_apply, show idx_main_v67 i = _ from dropFirst i, val_main_v66_apply, val_main_cst_15_apply]
  exact zero_add_sum ofBits_zero fun k => v65_re D X bd g b (idx_main_v66 (ix1 (ax1 i)) k)

end Cert.ConvNorm.Reference
-- ==== Proof.NormEntry.lean ====
module

public import proofs.«01_k».proof.Proof.NormRun
public import proofs.«01_k».proof.Proof.NormReference

@[expose] public section

namespace Cert.ConvNorm.Kernel

open Idealize.ShloMosaic hiding ix1 ix2
open Idealize.ShloMosaic.ValueIdx
open Cert.KernelIdeal Cert.KernelIdeal.Gen Cert.Reals Cert.ConvNorm

variable (m : (ℓ : Loc nD τ sig) → Buf (Elt Ideal) ℓ) (c : Dev nD)

theorem entry_z (X : Fin 4096 → Fin 512 → ℝ) (bd : Fin 512 → ℝ) (hX : m ((c.tc : Thread nD τ).loc main_arg1) = re2 X)
    (hb : m ((c.tc : Thread nD τ).loc main_arg2) = row bd) : V m c main_v12 = re2 (Reference.z X bd) := by
  unfold V V0 hostOps0 hostOps0_1 hostOps0_2
  simp only [List.flatten_cons, List.flatten_nil, List.cons_append, List.nil_append, List.append_nil]
  after_results
  refine (congrArg₂ (fun x y => addf (F := Ideal) (φ := .f32) x (broadcastInDim S4096x512 ![0, 1] bcast_S1x512_S4096x512_0_1 y)) hX hb).trans ?_
  exact funext fun i => add_re _ _

/-- The number of the head a column belongs to, as the host computes it: the column over 64, rounded down. -/
def headWord : IVec S512 32 :=
  let c64 : IVec S512 32 := broadcastInDim S512 ![] bcast_S_S512 (constantI S_ 32 64#32)
  select (andi (cmpi .ne (signi (iotaInDim S512 32 0)) (broadcastInDim S512 ![] bcast_S_S512 (signi (constantI S_ 32 64#32))))
      (cmpi .ne (Host.remsi (iotaInDim S512 32 0) c64) (broadcastInDim S512 ![] bcast_S_S512 (constantI S_ 32 0#32))))
    (subi (Host.divsi (iotaInDim S512 32 0) c64) (broadcastInDim S512 ![] bcast_S_S512 (constantI S_ 32 1#32)))
    (Host.divsi (iotaInDim S512 32 0) c64)

theorem headWord_apply : ∀ k : Fin 512, headWord (ix1 k) = BitVec.ofNat 32 (k.val / 64) := by decide +kernel

theorem sameHead (a b : Fin 512) : ((IntOp.cmpi .eq (headWord (ix1 a)) (headWord (ix1 b))).toNat : ℝ)
    = if a.val / 64 = b.val / 64 then 1 else 0 := by
  rw [headWord_apply, headWord_apply]
  have ha := a.isLt
  have hb := b.isLt
  by_cases h : a.val / 64 = b.val / 64
  · rw [if_pos h, h]; simp [IntOp.cmpi]
  · have h' : (BitVec.ofNat 32 (a.val / 64) == BitVec.ofNat 32 (b.val / 64)) = false := by
      rw [beq_eq_false_iff_ne]
      intro e
      have := congrArg BitVec.toNat e
      rw [BitVec.toNat_ofNat, BitVec.toNat_ofNat] at this
      omega
    rw [if_neg h]; simp [IntOp.cmpi, h']

/-- The averaging matrix as the host computes it: a sixty-fourth where row and column are in one head, zero elsewhere. -/
theorem host_avg : truncf (F := Ideal) .bf16 (Host.divf (uitofp .f32 (cmpi .eq
      (broadcastInDim S512x512 ![0, 1] bcast_S512x1_S512x512_0_1 (broadcastInDim S512x1 ![0] bcast_S512_S512x1_0 headWord))
      (broadcastInDim S512x512 ![0, 1] bcast_S1x512_S512x512_0_1 (broadcastInDim S1x512 ![1] bcast_S512_S1x512_1 headWord))))
    (broadcastInDim S512x512 ![] bcast_S_S512x512 (constant S_ .f32 0x42800000#32))) bitsLt_bf16_f32 = re2 avg := by
  have e0 : broadcastInDim S512x512 ![0, 1] bcast_S512x1_S512x512_0_1 (broadcastInDim S512x1 ![0] bcast_S512_S512x1_0 headWord)
      = fun i => headWord (ix1 (ax0 i)) :=
    funext fun i => congrArg headWord (funext fun a => by obtain rfl : a = 0 := Subsingleton.elim _ _; rfl)
  have e1 : broadcastInDim S512x512 ![0, 1] bcast_S1x512_S512x512_0_1 (broadcastInDim S1x512 ![1] bcast_S512_S1x512_1 headWord)
      = fun i => headWord (ix1 (ax1 i)) :=
    funext fun i => congrArg headWord (funext fun a => by obtain rfl : a = 0 := Subsingleton.elim _ _; rfl)
  rw [e0, e1]
  funext i
  show FloatOps.hostDivf (F := Ideal) (φ := .f32) (((IntOp.cmpi .eq (headWord _) (headWord _)).toNat : ℝ) : EReal)
    (FloatOps.ofBits (F := Ideal) .f32 0x42800000#32) = _
  rw [sameHead (ax0 i) (ax1 i), ofBits_64, hostDiv_re _ (by norm_num)]
  refine congrArg Real.toEReal ?_
  show _ = avg (ax0 i) (ax1 i)
  unfold avg
  split <;> norm_num

/-- The averaging matrix of the host. -/
theorem entry_avg : V m c main_v10 = re2 avg := by
  unfold V V0 hostOps0 hostOps0_1 hostOps0_2
  simp only [List.flatten_cons, List.flatten_nil, List.cons_append, List.nil_append, List.append_nil]
  after_results
  exact host_avg

end Cert.ConvNorm.Kernel
-- ==== Proof.HostReals.lean ====
/-
  Real readings of the host operations that surround a kernel: sums over rows.
-/
module

public import proofs.«01_k».proof.Proof.Reals

@[expose] public section

namespace Cert.Reals

open Idealize.ShloMosaic
open Idealize.ShloMosaic.ValueIdx
open scoped BigOperators

/-- A matrix whose every element is less than infinity in magnitude is a matrix of reals. -/
theorem exists_re2 {m n : ℕ} (x : (⟨2, ![m, n]⟩ : Shape).Idx → EReal)
    (hb : (⟨0, ![]⟩ : Shape).BroadcastsInDim ⟨2, ![m, n]⟩ (![] : Fin 0 → Fin 2))
    (h : cmpf .olt (Host.absf (F := Ideal) (φ := .f32) x)
        (broadcastInDim ⟨2, ![m, n]⟩ ![] hb (constant (F := Ideal) ⟨0, ![]⟩ .f32 0x7F800000#32)) = fun _ => 1#1) :
    ∃ f : Fin m → Fin n → ℝ, x = re2 f := by
  have hx : ∀ i, ∃ r : ℝ, x i = (r : EReal) := fun i => by
    have e := congrFun h i
    refine exists_real_of_abs (Eq.trans ?_ e)
    rw [← ofBits_inf]
    rfl
  choose f hf using hx
  refine ⟨fun r c => f (ix2 r c), funext fun i => (hf i).trans ?_⟩
  exact congrArg (fun j => ((f j : ℝ) : EReal)) (eq_ix2 i)

/-- The same of an array of one row. -/
theorem exists_row {n : ℕ} (x : (⟨2, ![1, n]⟩ : Shape).Idx → EReal)
    (hb : (⟨0, ![]⟩ : Shape).BroadcastsInDim ⟨2, ![1, n]⟩ (![] : Fin 0 → Fin 2))
    (h : cmpf .olt (Host.absf (F := Ideal) (φ := .f32) x)
        (broadcastInDim ⟨2, ![1, n]⟩ ![] hb (constant (F := Ideal) ⟨0, ![]⟩ .f32 0x7F800000#32)) = fun _ => 1#1) :
    ∃ f : Fin n → ℝ, x = row f := by
  obtain ⟨f, rfl⟩ := exists_re2 x hb h
  exact ⟨f 0, re_congr fun i => by rw [show ax0 i = 0 from Subsingleton.elim _ _]⟩

/-- A host sum over the rows of a real matrix, kept as one row. -/
theorem hostSumRows_re {m n : ℕ} (f : Fin m → Fin n → ℝ) (h : (⟨2, ![m, n]⟩ : Shape).ReducesTo [0] ⟨1, ![n]⟩)
    (hr : (⟨2, ![m, n]⟩ : Shape).Reduces [0] ⟨1, ![n]⟩) (hu : 0 < (⟨0, ![]⟩ : Shape).numel)
    (hb : (⟨1, ![n]⟩ : Shape).BroadcastsInDim ⟨2, ![1, n]⟩ (![1] : Fin 1 → Fin 2)) :
    broadcastInDim ⟨2, ![1, n]⟩ ![1] hb
        (Host.reduceAdd (F := Ideal) (φ := .f32) (re2 f) (constant (F := Ideal) ⟨0, ![]⟩ .f32 0x00000000#32) h hu)
      = row fun c => ∑ r, f r c := by
  funext i
  obtain ⟨r, c, rfl⟩ : ∃ r c, i = ix2 r c := ⟨_, _, eq_ix2 i⟩
  rw [broadcastInDim_apply _ hb _ _ (ix1 c) fun a => ?_]
  · simp only [Host.reduceAdd, Ideal.hostReduceAdd_def]
    rw [Ideal.hostReduceAdd_single h hr]
    exact zero_add_sum ofBits_zero fun k => rfl
  · obtain rfl : a = 0 := Subsingleton.elim _ _
    show c.val = if n = 1 then 0 else c.val
    split
    · have := c.isLt; omega
    · rfl

end Cert.Reals
-- ==== Proof.NormClaim.lean ====
/-
  The convolution norm's backward call: the kernel's four results are the reference's, on finite arguments.
-/
module

public import proofs.«01_k».proof.Defs
public import proofs.«01_k».proof.Proof.NormEntry
public import proofs.«01_k».proof.Proof.HostReals
public import proofs.«01_k».proof.Proof.Gen.Pre_conv_norm_finite

@[expose] public section

noncomputable section

namespace Cert.ConvNorm

open Idealize.ShloMosaic hiding ix1 ix2
open Idealize.ShloMosaic.ValueIdx
open Idealize.SL.Sem Cert.Reals

section Tail

open Cert.KernelIdeal Cert.KernelIdeal.Gen

variable {m : (ℓ : Loc nD τ sig) → Buf (Elt Ideal) ℓ} {c : Dev nD} {f : Fin 8 → Fin 512 → ℝ}

/-- The host's sum over the eight rows of the bias gradient's buffer. -/
theorem tail15 (h : (dats m 0 c).arrAt 8 cfg0.N = re2 f) :
    Pipeline.afterTail₀ cfgs (dats m) 0 (V0 m) [hostOps1] c main_v15 = row fun k => ∑ q, f q k := by
  have e : Pipeline.withArrays (cfgs 0).spec c (V0 m c) (fun w => (dats m 0 c).arrAt w (cfgs 0).N) (Proc.devRef .tc main_v13_3) = re2 f :=
    (Pipeline.withArrays_arr spec0 winFacts0.arr_inj c (V0 m c) (fun w => (dats m 0 c).arrAt w (cfgs 0).N) 8).trans h
  unfold Pipeline.afterTail₀ hostOps1
  simp only [List.flatten_cons, List.flatten_nil, List.cons_append, List.nil_append, List.append_nil]
  after_results
  rw [e]
  exact hostSumRows_re f _ (by decide) _ _

/-- The host's sum over the eight rows of the scale gradient's buffer. -/
theorem tail17 (h : (dats m 0 c).arrAt 6 cfg0.N = re2 f) :
    Pipeline.afterTail₀ cfgs (dats m) 0 (V0 m) [hostOps1] c main_v17 = row fun k => ∑ q, f q k := by
  have e : Pipeline.withArrays (cfgs 0).spec c (V0 m c) (fun w => (dats m 0 c).arrAt w (cfgs 0).N) (Proc.devRef .tc main_v13_1) = re2 f :=
    (Pipeline.withArrays_arr spec0 winFacts0.arr_inj c (V0 m c) (fun w => (dats m 0 c).arrAt w (cfgs 0).N) 6).trans h
  unfold Pipeline.afterTail₀ hostOps1
  simp only [List.flatten_cons, List.flatten_nil, List.cons_append, List.nil_append, List.append_nil]
  after_results
  rw [e]
  exact hostSumRows_re f _ (by decide) _ _

/-- The host's sum over the eight rows of the shift gradient's buffer. -/
theorem tail19 (h : (dats m 0 c).arrAt 7 cfg0.N = re2 f) :
    Pipeline.afterTail₀ cfgs (dats m) 0 (V0 m) [hostOps1] c main_v19 = row fun k => ∑ q, f q k := by
  have e : Pipeline.withArrays (cfgs 0).spec c (V0 m c) (fun w => (dats m 0 c).arrAt w (cfgs 0).N) (Proc.devRef .tc main_v13_2) = re2 f :=
    (Pipeline.withArrays_arr spec0 winFacts0.arr_inj c (V0 m c) (fun w => (dats m 0 c).arrAt w (cfgs 0).N) 7).trans h
  unfold Pipeline.afterTail₀ hostOps1
  simp only [List.flatten_cons, List.flatten_nil, List.cons_append, List.nil_append, List.append_nil]
  after_results
  rw [e]
  exact hostSumRows_re f _ (by decide) _ _

end Tail

/-- The arguments of every device are reals. -/
structure Args (m : (ℓ : Loc KernelIdeal.nD KernelIdeal.τ KernelIdeal.sig) → Buf (Elt Ideal) ℓ)
    (D X : Dev KernelIdeal.nD → Fin 4096 → Fin 512 → ℝ) (bd g b : Dev KernelIdeal.nD → Fin 512 → ℝ) : Prop where
  d (c : Dev KernelIdeal.nD) : m ((c.tc : Thread KernelIdeal.nD KernelIdeal.τ).loc KernelIdeal.main_arg0) = re2 (D c)
  x (c : Dev KernelIdeal.nD) : m ((c.tc : Thread KernelIdeal.nD KernelIdeal.τ).loc KernelIdeal.main_arg1) = re2 (X c)
  bd (c : Dev KernelIdeal.nD) : m ((c.tc : Thread KernelIdeal.nD KernelIdeal.τ).loc KernelIdeal.main_arg2) = row (bd c)
  g (c : Dev KernelIdeal.nD) : m ((c.tc : Thread KernelIdeal.nD KernelIdeal.τ).loc KernelIdeal.main_arg3) = row (g c)
  b (c : Dev KernelIdeal.nD) : m ((c.tc : Thread KernelIdeal.nD KernelIdeal.τ).loc KernelIdeal.main_arg4) = row (b c)

theorem exists_args (m : (ℓ : Loc KernelIdeal.nD KernelIdeal.τ KernelIdeal.sig) → Buf (Elt Ideal) ℓ)
    (h : Pre_KernelIdeal_conv_norm_finite m) : ∃ D X bd g b, Args m D X bd g b := by
  choose D hD using fun c : Dev KernelIdeal.nD => exists_re2 (m ((c.tc : Thread KernelIdeal.nD KernelIdeal.τ).loc KernelIdeal.main_arg0)) _ (h c).1
  choose X hX using fun c : Dev KernelIdeal.nD => exists_re2 (m ((c.tc : Thread KernelIdeal.nD KernelIdeal.τ).loc KernelIdeal.main_arg1)) _ (h c).2.1
  choose bd hbd using fun c : Dev KernelIdeal.nD => exists_row (m ((c.tc : Thread KernelIdeal.nD KernelIdeal.τ).loc KernelIdeal.main_arg2)) _ (h c).2.2.1
  choose g hg using fun c : Dev KernelIdeal.nD => exists_row (m ((c.tc : Thread KernelIdeal.nD KernelIdeal.τ).loc KernelIdeal.main_arg3)) _ (h c).2.2.2.1
  choose b hb using fun c : Dev KernelIdeal.nD => exists_row (m ((c.tc : Thread KernelIdeal.nD KernelIdeal.τ).loc KernelIdeal.main_arg4)) _ (h c).2.2.2.2
  exact ⟨D, X, bd, g, b, ⟨hD, hX, hbd, hg, hb⟩⟩

section Results

variable (D X : Fin 4096 → Fin 512 → ℝ) (bd g b : Fin 512 → ℝ)

/-- The gradient of the rows. -/
abbrev dzc : (⟨2, ![4096, 512]⟩ : Shape).Idx → EReal := re2 fun r k => dz (D r) (Reference.z X bd r) g b k
/-- The gradient of the convolution's bias. -/
abbrev dbias : (⟨2, ![1, 512]⟩ : Shape).Idx → EReal := row fun k => ∑ r, dz (D r) (Reference.z X bd r) g b k
/-- The gradient of the norm's scale. -/
abbrev dscale : (⟨2, ![1, 512]⟩ : Shape).Idx → EReal :=
  row fun k => ∑ r, xh (Reference.z X bd r) k * da (D r) (Reference.z X bd r) g b k
/-- The gradient of the norm's shift. -/
abbrev dshift : (⟨2, ![1, 512]⟩ : Shape).Idx → EReal := row fun k => ∑ r, da (D r) (Reference.z X bd r) g b k

end Results

section Kernel

open Cert.KernelIdeal Cert.KernelIdeal.Gen

variable {m : (ℓ : Loc nD τ sig) → Buf (Elt Ideal) ℓ} {D X : Dev nD → Fin 4096 → Fin 512 → ℝ} {bd g b : Dev nD → Fin 512 → ℝ}

theorem inputs (h : Args m D X bd g b) (c : Dev nD) : Kernel.Inputs m c (D c) (Reference.z (X c) (bd c)) (g c) (b c) :=
  ⟨(V_main_arg0 m c).trans (h.d c), Kernel.entry_z m c (X c) (bd c) (h.x c) (h.bd c), (V_main_arg3 m c).trans (h.g c),
    (V_main_arg4 m c).trans (h.b c), Kernel.entry_avg m c⟩

/-- A sum over eight rows of which only the first is not zero. -/
theorem sum_row0 (f : Fin 512 → ℝ) (k : Fin 512) : ∑ q : Fin 8, (if q.val = 0 then f k else 0) = f k := by
  rw [Fin.sum_univ_succ]; simp

theorem results (h : Args m D X bd g b) (c : Dev nD) :
    (dats m 0 c).arrAt 5 cfg0.N = dzc (D c) (X c) (bd c) (g c) (b c)
    ∧ Pipeline.afterTail₀ cfgs (dats m) 0 (V0 m) [hostOps1] c main_v15 = dbias (D c) (X c) (bd c) (g c) (b c)
    ∧ Pipeline.afterTail₀ cfgs (dats m) 0 (V0 m) [hostOps1] c main_v17 = dscale (D c) (X c) (bd c) (g c) (b c)
    ∧ Pipeline.afterTail₀ cfgs (dats m) 0 (V0 m) [hostOps1] c main_v19 = dshift (D c) (X c) (bd c) (g c) (b c) := by
  have hin := inputs h c
  refine ⟨Kernel.arr5 hin, (tail15 (Kernel.arr8 hin)).trans ?_, (tail17 (Kernel.arr6 hin)).trans ?_, (tail19 (Kernel.arr7 hin)).trans ?_⟩
  · exact re_congr fun i => Kernel.sum_groups fun r => dz (D c r) (Reference.z (X c) (bd c) r) (g c) (b c) (ax1 i)
  · exact re_congr fun i => sum_row0 (fun k => ∑ r, xh (Reference.z (X c) (bd c) r) k * da (D c r) (Reference.z (X c) (bd c) r) (g c) (b c) k) (ax1 i)
  · exact re_congr fun i => sum_row0 (fun k => ∑ r, da (D c r) (Reference.z (X c) (bd c) r) (g c) (b c) k) (ax1 i)

end Kernel

/-- The reference leaves its arguments alone, and declares no semaphore. -/
theorem reference_frame : Cert.quiescent_ReferenceIdeal := fun m ρ _ =>
  (θ_run Cert.ReferenceIdeal.defs _ _).mono
    (fun r h => ⟨fun c => (h c).2.2.2.2, sem_eq_zero_of_no_sems (by decide) r.2⟩) (ReferenceIdeal.Value.run (F := Ideal) m ρ)

theorem algebraic : Cert.algebraic_KernelIdeal_ReferenceIdeal_pre_conv_norm_finite := by
  intro m g m' g' hpre hagree
  obtain ⟨D, X, bd, ga, b, h⟩ := exists_args m hpre
  refine ⟨fun c => dzc (D c) (X c) (bd c) (ga c) (b c), fun c => dbias (D c) (X c) (bd c) (ga c) (b c),
    fun c => dscale (D c) (X c) (bd c) (ga c) (b c), fun c => dshift (D c) (X c) (bd c) (ga c) (b c), ?_, ?_⟩
  · refine θ_run_mono (θ_run_and (KernelIdeal.Gen.run_main m g) (KernelIdeal.Gen.unchanged m g)) ?_
    rintro r ⟨hr, hu⟩ c
    obtain ⟨h0, h1, h2, h3⟩ := results h c
    exact ⟨(hr.out_eq c 5).trans h0, (hr.rest_eq c _ (by decide)).trans h1, (hr.rest_eq c _ (by decide)).trans h2,
      (hr.rest_eq c _ (by decide)).trans h3, hu c⟩
  · refine θ_run_mono (ReferenceIdeal.Value.run (F := Ideal) m' g') ?_
    intro r hr c
    obtain ⟨h0, h1, h2, h3, hu⟩ := hr c
    obtain ⟨e0, e1, e2, e3, e4⟩ := hagree c
    rw [h.d c] at e0
    rw [h.x c] at e1
    rw [h.bd c] at e2
    rw [h.g c] at e3
    rw [h.b c] at e4
    refine ⟨h0.trans ?_, h1.trans ?_, h2.trans ?_, h3.trans ?_, hu⟩
    · rw [ReferenceIdeal.Read.val_main_v65_eq, e0, e1, e2, e3, e4]
      exact funext fun i => Reference.v65_re (D c) (X c) (bd c) (ga c) (b c) i
    · rw [ReferenceIdeal.Read.val_main_v67_eq, e0, e1, e2, e3, e4]
      exact funext fun i => Reference.v67_re (D c) (X c) (bd c) (ga c) (b c) i
    · rw [ReferenceIdeal.Read.val_main_v37_eq, e0, e1, e2, e3, e4]
      exact funext fun i => Reference.v37_re (D c) (X c) (bd c) (ga c) (b c) i
    · rw [ReferenceIdeal.Read.val_main_v34_eq, e0, e1, e2, e3, e4]
      exact funext fun i => Reference.v34_re (D c) (X c) (bd c) (ga c) (b c) i

end Cert.ConvNorm
-- ==== Proof.Products.lean ====
/-
  Products of matrices of real numbers, as a kernel and as the host compute them: with neither operand, the left or the
  right transposed, each one is the matrix of the sums over the contracted coordinate.
-/
module

public import proofs.«01_k».proof.Proof.Reals
public import Idealize.ShloMosaic.Lib.Pointwise.Contract

@[expose] public section

noncomputable section

namespace Cert.Reals

open Idealize.ShloMosaic hiding ix1 ix2
open Idealize.ShloMosaic.ValueIdx
open scoped BigOperators

section One

variable {sl sr so : Shape} {φ₁ φ₂ : FTy} (f : sl.Idx → ℝ) (g : sr.Idx → ℝ) (d : DotDims sl sr so) {a : Fin sl.rank}
  (hc : d.lhsContracting = [a]) {K : ℕ} (hK : sl.size a = K) (L : so.Idx → Fin K → sl.Idx) (R : so.Idx → Fin K → sr.Idx)
  (hL : ∀ j k, d.lhsIdx j (d.contrIdx₁ hc hK k) = L j k) (hR : ∀ j k, d.rhsIdx j (d.contrIdx₁ hc hK k) = R j k)

include hL hR

/-- A product contracting one axis, summed over that axis. -/
theorem contraction_re (j : so.Idx) : (∑ q : d.contr.Idx, re f (d.lhsIdx j q) * re g (d.rhsIdx j q))
    = ((∑ k, f (L j k) * g (R j k) : ℝ) : EReal) := by
  rw [d.sum_contr₁ hc hK, ← coe_sum]
  exact Finset.sum_congr rfl fun k _ => by rw [hL, hR]; exact (EReal.coe_mul _ _).symm

theorem matmul_one (prec : Option ContractPrecision) :
    matmul (F := Ideal) (φ₁ := φ₁) (φ₂ := φ₂) d prec (re f) (re g) (constant so .f32 0x00000000#32)
      = re fun j => ∑ k, f (L j k) * g (R j k) := by
  funext j
  refine (Ideal.matmul_apply d prec _ _ _ j).trans ?_
  rw [contraction_re f g d hc hK L R hL hR]
  exact (congrArg (· + _) (ofBits_zero.trans EReal.coe_zero)).trans (zero_add _)

theorem dot_one (prec : Option ContractPrecision) :
    Host.dotGeneral (F := Ideal) (φ₁ := φ₁) (φ₂ := φ₂) d prec (re f) (re g) = re fun j => ∑ k, f (L j k) * g (R j k) := by
  funext j
  simp only [Host.dotGeneral]
  rw [Ideal.dotGeneral_apply]
  exact contraction_re f g d hc hK L R hL hR j

end One

section Forms

variable {M K N : ℕ} {φ₁ φ₂ : FTy} (prec : Option ContractPrecision)

/-- The dimension numbers of a product of two matrices, of the left transposed, of the right transposed. -/
abbrev dotNN (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩
abbrev dotTN (w : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], w⟩
abbrev dotNT (w : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], w⟩

theorem matmulNN (f : Fin M → Fin K → ℝ) (g : Fin K → Fin N → ℝ) (w) :
    matmul (F := Ideal) (φ₁ := φ₁) (φ₂ := φ₂) (dotNN w) prec (re2 f) (re2 g) (constant _ .f32 0x00000000#32)
      = re2 fun r c => ∑ k, f r k * g k c :=
  matmul_one _ _ (dotNN w) (a := 1) rfl rfl (fun j k => ix2 (j 0) k) (fun j k => ix2 k (j 1))
    (fun _ _ => funext fun a => by fin_cases a <;> rfl) (fun _ _ => funext fun a => by fin_cases a <;> rfl) prec
theorem matmulTN (f : Fin K → Fin M → ℝ) (g : Fin K → Fin N → ℝ) (w) :
    matmul (F := Ideal) (φ₁ := φ₁) (φ₂ := φ₂) (dotTN w) prec (re2 f) (re2 g) (constant _ .f32 0x00000000#32)
      = re2 fun r c => ∑ k, f k r * g k c :=
  matmul_one _ _ (dotTN w) (a := 0) rfl rfl (fun j k => ix2 k (j 0)) (fun j k => ix2 k (j 1))
    (fun _ _ => funext fun a => by fin_cases a <;> rfl) (fun _ _ => funext fun a => by fin_cases a <;> rfl) prec
theorem matmulNT (f : Fin M → Fin K → ℝ) (g : Fin N → Fin K → ℝ) (w) :
    matmul (F := Ideal) (φ₁ := φ₁) (φ₂ := φ₂) (dotNT w) prec (re2 f) (re2 g) (constant _ .f32 0x00000000#32)
      = re2 fun r c => ∑ k, f r k * g c k :=
  matmul_one _ _ (dotNT w) (a := 1) rfl rfl (fun j k => ix2 (j 0) k) (fun j k => ix2 (j 1) k)
    (fun _ _ => funext fun a => by fin_cases a <;> rfl) (fun _ _ => funext fun a => by fin_cases a <;> rfl) prec
theorem hostNN (f : Fin M → Fin K → ℝ) (g : Fin K → Fin N → ℝ) (w) :
    Host.dotGeneral (F := Ideal) (φ₁ := φ₁) (φ₂ := φ₂) (dotNN w) prec (re2 f) (re2 g) = re2 fun r c => ∑ k, f r k * g k c :=
  dot_one _ _ (dotNN w) (a := 1) rfl rfl (fun j k => ix2 (j 0) k) (fun j k => ix2 k (j 1))
    (fun _ _ => funext fun a => by fin_cases a <;> rfl) (fun _ _ => funext fun a => by fin_cases a <;> rfl) prec
theorem hostTN (f : Fin K → Fin M → ℝ) (g : Fin K → Fin N → ℝ) (w) :
    Host.dotGeneral (F := Ideal) (φ₁ := φ₁) (φ₂ := φ₂) (dotTN w) prec (re2 f) (re2 g) = re2 fun r c => ∑ k, f k r * g k c :=
  dot_one _ _ (dotTN w) (a := 0) rfl rfl (fun j k => ix2 k (j 0)) (fun j k => ix2 k (j 1))
    (fun _ _ => funext fun a => by fin_cases a <;> rfl) (fun _ _ => funext fun a => by fin_cases a <;> rfl) prec
theorem hostNT (f : Fin M → Fin K → ℝ) (g : Fin N → Fin K → ℝ) (w) :
    Host.dotGeneral (F := Ideal) (φ₁ := φ₁) (φ₂ := φ₂) (dotNT w) prec (re2 f) (re2 g) = re2 fun r c => ∑ k, f r k * g c k :=
  dot_one _ _ (dotNT w) (a := 1) rfl rfl (fun j k => ix2 (j 0) k) (fun j k => ix2 (j 1) k)
    (fun _ _ => funext fun a => by fin_cases a <;> rfl) (fun _ _ => funext fun a => by fin_cases a <;> rfl) prec

end Forms

end Cert.Reals
-- ==== Proof.Matrices.lean ====
/-
  Matrices of real numbers under the operations of the printed programs, each stated in the form in which a program of
  many operations is evaluated by rewriting: of the entry at a row and a column.
-/
module

public import proofs.«01_k».proof.Proof.Products

@[expose] public section

noncomputable section

namespace Cert.Reals

open Idealize.ShloMosaic hiding ix1 ix2
open Idealize.ShloMosaic.ValueIdx
open scoped BigOperators

/-- The logistic function. -/
def sg (x : ℝ) : ℝ := 1 / (1 + Real.exp (-x))

variable {m n l : ℕ} {φ ψ : FTy} (f g : Fin m → Fin n → ℝ) (v : Fin n → ℝ)

theorem re2_congr {f g : Fin m → Fin n → ℝ} (h : ∀ r c, f r c = g r c) : re2 f = re2 g := re_congr fun _ => h _ _
theorem row_congr {f g : Fin n → ℝ} (h : ∀ c, f c = g c) : row f = row g := re_congr fun _ => h _

theorem add2 : addf (F := Ideal) (φ := φ) (re2 f) (re2 g) = re2 fun r c => f r c + g r c := addf_re _ _
theorem sub2 : subf (F := Ideal) (φ := φ) (re2 f) (re2 g) = re2 fun r c => f r c - g r c := subf_re _ _
theorem mul2 : mulf (F := Ideal) (φ := φ) (re2 f) (re2 g) = re2 fun r c => f r c * g r c := mulf_re _ _
theorem exp2 : exp (F := Ideal) (φ := φ) (re2 f) = re2 fun r c => Real.exp (f r c) := rfl
theorem tanh2 : tanh (F := Ideal) (φ := φ) (re2 f) = re2 fun r c => Real.tanh (f r c) := rfl
theorem trunc2 (h : ψ.bits < φ.bits) : truncf (F := Ideal) ψ (re2 f) h = re2 f := rfl
theorem ext2 (h : φ.bits < ψ.bits) : extf (F := Ideal) ψ (re2 f) h = re2 f := rfl
theorem hostNeg2 : Host.negf (F := Ideal) (φ := φ) (re2 f) = re2 fun r c => -f r c := rfl
theorem hostExp2 : Host.exp (F := Ideal) (φ := φ) (re2 f) = re2 fun r c => Real.exp (f r c) := rfl
theorem hostTanh2 : Host.tanh (F := Ideal) (φ := φ) (re2 f) = re2 fun r c => Real.tanh (f r c) := rfl

variable {g}
theorem div2 (h : ∀ r c, g r c ≠ 0) : divf (F := Ideal) (φ := φ) (re2 f) (re2 g) = re2 fun r c => f r c / g r c :=
  divf_re _ fun _ => h _ _
theorem hostDiv2 (h : ∀ r c, g r c ≠ 0) : Host.divf (F := Ideal) (φ := φ) (re2 f) (re2 g) = re2 fun r c => f r c / g r c :=
  funext fun _ => hostDiv_re _ (h _ _)
variable (g)

theorem sg_ne (x : ℝ) : 1 + Real.exp x ≠ 0 := (add_pos one_pos (Real.exp_pos x)).ne'

/-- The logistic function as a kernel and as the host compute it. -/
theorem sg2 : divf (F := Ideal) (φ := φ) (re2 (m := m) (n := n) fun _ _ => 1) (re2 fun r c => 1 + Real.exp (0 - f r c)) = re2 fun r c => sg (f r c) := by
  rw [div2 _ fun _ _ => sg_ne _]
  exact re2_congr fun r c => by rw [sg, zero_sub]
theorem hostSg2 : Host.divf (F := Ideal) (φ := φ) (re2 (m := m) (n := n) fun _ _ => 1) (re2 fun r c => 1 + Real.exp (-f r c)) = re2 fun r c => sg (f r c) :=
  hostDiv2 _ fun _ _ => sg_ne _

/-- A matrix of one constant, as a kernel and as the host write it. -/
theorem const2 {w : BitVec 32} {x : ℝ} (h : FloatOps.ofBits (F := Ideal) .f32 w = (x : EReal)) :
    broadcast ⟨2, ![m, n]⟩ (Scalar.ofBits (F := Ideal) .f32 w) = re2 fun _ _ => x := congrArg (broadcast _) h
theorem hostConst2 {w : BitVec 32} {x : ℝ} (h : FloatOps.ofBits (F := Ideal) .f32 w = (x : EReal))
    (hb : (⟨0, ![]⟩ : Shape).BroadcastsInDim ⟨2, ![m, n]⟩ (![] : Fin 0 → Fin 2)) :
    broadcastInDim ⟨2, ![m, n]⟩ ![] hb (constant (F := Ideal) ⟨0, ![]⟩ .f32 w) = re2 fun _ _ => x := funext fun _ => h

/-- One row repeated, as a kernel and as the host do it. -/
theorem bcast2 (h : (⟨2, ![1, n]⟩ : Shape).Broadcasts ⟨2, ![m, n]⟩) : broadcastTo ⟨2, ![m, n]⟩ (row v) h = re2 fun _ c => v c := by
  funext i
  refine (broadcastTo_apply _ h i (ix2 0 (ax1 i)) fun a => ?_).trans rfl
  match a with
  | 0 => rfl
  | 1 =>
    show (ax1 i).val = if n = 1 then 0 else (ax1 i).val
    have : (ax1 i).val < n := (ax1 i).isLt
    split <;> omega
theorem hostBcast2 (h : (⟨2, ![1, n]⟩ : Shape).BroadcastsInDim ⟨2, ![m, n]⟩ (![0, 1] : Fin 2 → Fin 2)) :
    broadcastInDim ⟨2, ![m, n]⟩ ![0, 1] h (row v) = re2 fun _ c => v c := by
  funext i
  refine (broadcastInDim_apply _ h _ i (ix2 0 (ax1 i)) fun a => ?_).trans rfl
  match a with
  | 0 => rfl
  | 1 =>
    show (ax1 i).val = if n = 1 then 0 else (ax1 i).val
    have : (ax1 i).val < n := (ax1 i).isLt
    split <;> omega

/-- The host's sum over the rows, reshaped into one row. -/
theorem hostSum2 (h : (⟨2, ![m, n]⟩ : Shape).ReducesTo [0] ⟨1, ![n]⟩) (hr : (⟨2, ![m, n]⟩ : Shape).Reduces [0] ⟨1, ![n]⟩)
    (hu : 0 < (⟨0, ![]⟩ : Shape).numel) (hc : (⟨1, ![n]⟩ : Shape).ShapeCasts ⟨2, ![1, n]⟩) :
    shapeCast ⟨2, ![1, n]⟩ (Host.reduceAdd (F := Ideal) (φ := .f32) (re2 f) (constant (F := Ideal) ⟨0, ![]⟩ .f32 0x00000000#32) h hu) hc
      = row fun c => ∑ r, f r c := by
  have e : Host.reduceAdd (F := Ideal) (φ := .f32) (re2 f) (constant (F := Ideal) ⟨0, ![]⟩ .f32 0x00000000#32) h hu
      = re fun i : (⟨1, ![n]⟩ : Shape).Idx => ∑ r, f r (i 0) := by
    funext i
    simp only [Host.reduceAdd, Ideal.hostReduceAdd_def]
    rw [Ideal.hostReduceAdd_single h hr]
    exact zero_add_sum ofBits_zero fun k => rfl
  rw [e]
  exact shapeCast_toRow (fun i : (⟨1, ![n]⟩ : Shape).Idx => ∑ r, f r (i 0)) hc

/-- The host's transpose. -/
theorem transpose2 (h : (⟨2, ![m, n]⟩ : Shape).Transposes [1, 0] ⟨2, ![n, m]⟩) : transpose ⟨2, ![n, m]⟩ [1, 0] (re2 f) h = re2 fun r c => f c r := by
  funext i
  refine (transpose_apply _ _ h i (ix2 (ax1 i) (ax0 i)) fun b => ?_).trans rfl
  match b with
  | 0 => rfl
  | 1 => rfl

theorem group_lt {k : ℕ} (hk : l * m = k) (j : Fin l) (q : Fin m) : j.val * m + q.val < k :=
  calc j.val * m + q.val < (j.val + 1) * m := by rw [Nat.succ_mul]; exact Nat.add_lt_add_left q.isLt _
    _ ≤ k := hk ▸ Nat.mul_le_mul_right m j.isLt

/-- Rows summed by their place in a group of `m` rows, the rows of `l` such groups laid one group after the other. -/
theorem rows8 {k : ℕ} (f : Fin k → Fin n → ℝ) (hk : l * m = k) (hs : (⟨2, ![k, n]⟩ : Shape).ShapeCasts ⟨3, ![l, m, n]⟩)
    (h : (⟨3, ![l, m, n]⟩ : Shape).Reduces [0] ⟨2, ![m, n]⟩) (hφ : FKind.Formats .f32) (hacc : (0x00000000#32 : BitVec 32) = 0x00000000#32) :
    multiReduction (F := Ideal) (φ := .f32) .add [0] ⟨2, ![m, n]⟩ (shapeCast ⟨3, ![l, m, n]⟩ (re2 f) hs) (0x00000000#32 : BitVec 32) h hφ hacc
      = re2 fun q c => ∑ j : Fin l, f ⟨j.val * m + q.val, group_lt hk j q⟩ c := by
  rw [shapeCast_re, sumf_re]
  refine re_congr fun i => Finset.sum_congr rfl fun j _ => ?_
  refine (shapeCast_apply _ _ _ (ix2 ⟨j.val * m + (ax0 i).val, group_lt hk (j : Fin l) (ax0 i)⟩ (ax1 i)) ?_).trans rfl
  rw [Shape.rowMajor_val_two, Shape.rowMajor_val_three]; rfl

end Cert.Reals
-- ==== Proof.ReadMath.lean ====
/-
  The read-out of the S5 mixer and its gradient as functions of one row of real numbers: the gelu of the recurrence's row
  plus the skip, gated by the logistic of its own product with the gate's weights.
-/
module

public import proofs.«01_k».proof.Proof.Matrices

@[expose] public section

noncomputable section

namespace Cert.Read

open Idealize.ShloMosaic Cert.Reals
open scoped BigOperators

/-- The float nearest the square root of two over pi, and the one nearest `0.044715`, as real numbers. -/
def gk : ℝ := 13386282 / 2 ^ 24
def gc : ℝ := 12003091 / 2 ^ 28

theorem ofBits_gk : FloatOps.ofBits (F := Ideal) .f32 0x3F4C422A#32 = ((gk : ℝ) : EReal) := by
  simp [Ideal.ofBits_def, Ideal.ofBits, Ideal.ieee, -EReal.coe_mul, gk]; norm_num
theorem ofBits_gc : FloatOps.ofBits (F := Ideal) .f32 0x3D372713#32 = ((gc : ℝ) : EReal) := by
  simp [Ideal.ofBits_def, Ideal.ofBits, Ideal.ieee, -EReal.coe_mul, gc]; norm_num
theorem ofBits_half : FloatOps.ofBits (F := Ideal) .f32 0x3F000000#32 = ((1 / 2 : ℝ) : EReal) := by
  simp [Ideal.ofBits_def, Ideal.ofBits, Ideal.ieee, -EReal.coe_mul]; norm_num
theorem ofBits_three : FloatOps.ofBits (F := Ideal) .f32 0x40400000#32 = ((3 : ℝ) : EReal) := by
  simp [Ideal.ofBits_def, Ideal.ofBits, Ideal.ieee, -EReal.coe_mul]; norm_num

/-- The hyperbolic tangent inside the gelu. -/
def th (x : ℝ) : ℝ := Real.tanh (gk * (x + gc * x ^ 3))
def gelu (x : ℝ) : ℝ := 1 / 2 * x * (1 + th x)
/-- The derivative of the gelu. -/
def dgelu (x : ℝ) : ℝ := 1 / 2 * (1 + th x) + 1 / 2 * x * ((1 + th x) * (1 - th x)) * gk * (1 + 3 * gc * x ^ 2)

variable (D y u d : Fin 512 → ℝ) (W : Fin 512 → Fin 512 → ℝ) (b : Fin 512 → ℝ)

/-- The recurrence's row plus the skip. -/
def pre (c : Fin 512) : ℝ := y c + d c * u c
def ge (c : Fin 512) : ℝ := gelu (pre y u d c)
/-- The gate. -/
def gate (c : Fin 512) : ℝ := sg ((∑ k, ge y u d k * W k c) + b c)
/-- The gradient before the logistic. -/
def dz (c : Fin 512) : ℝ := D c * ge y u d c * gate y u d W b c * (1 - gate y u d W b c)
/-- The gradient of the gelu. -/
def dge (c : Fin 512) : ℝ := D c * gate y u d W b c + ∑ k, dz D y u d W b k * W c k
/-- The gradient of the recurrence's row. -/
def dpre (c : Fin 512) : ℝ := dge D y u d W b c * dgelu (pre y u d c)

end Cert.Read
-- ==== Proof.ReadKernel.lean ====
/-
  The S5 read-out's backward kernel on a block of 512 rows of real numbers: its payloads as the real functions of
  `ReadMath`.
-/
module

public import proofs.«01_k».proof.Proof.ReadMath
public import proofs.«01_k».proof.Proof.Gen.Kernel2Ideal.Frame

@[expose] public section

noncomputable section

namespace Cert.Read.Kernel

open Idealize.ShloMosaic hiding ix1 ix2
open Idealize.ShloMosaic.ValueIdx
open Cert.Kernel2Ideal Cert.Kernel2Ideal.Gen Cert.Reals
open scoped BigOperators

variable (D Y U : Fin 512 → Fin 512 → ℝ) (d : Fin 512 → ℝ) (W : Fin 512 → Fin 512 → ℝ) (b : Fin 512 → ℝ)

/-- The kernel's products. -/
theorem nn (f g : Fin 512 → Fin 512 → ℝ) : matmul (F := Ideal) (φ₁ := .bf16) (φ₂ := .bf16) dot_S512x512_S512x512_S512x512_1_0_0_1_n_n none
    (re2 f) (re2 g) (constant S512x512 .f32 0x00000000#32) = re2 fun r c => ∑ k, f r k * g k c := matmulNN none _ _ _
theorem tn (f g : Fin 512 → Fin 512 → ℝ) : matmul (F := Ideal) (φ₁ := .bf16) (φ₂ := .bf16) dot_S512x512_S512x512_S512x512_0_0_1_1_n_n none
    (re2 f) (re2 g) (constant S512x512 .f32 0x00000000#32) = re2 fun r c => ∑ k, f k r * g k c := matmulTN none _ _ _
theorem nt (f g : Fin 512 → Fin 512 → ℝ) : matmul (F := Ideal) (φ₁ := .bf16) (φ₂ := .bf16) dot_S512x512_S512x512_S512x512_1_1_0_0_n_n none
    (re2 f) (re2 g) (constant S512x512 .f32 0x00000000#32) = re2 fun r c => ∑ k, f r k * g c k := matmulNT none _ _ _
theorem bcast_re (v : Fin 512 → ℝ) : broadcastTo S512x512 (row v) broadcasts_S1x512_S512x512 = re2 fun _ c => v c := bcast2 v _

theorem pay8_re : k0_pay8 (F := Ideal) (re2 D) = re2 D := by unfold k0_pay8; dsimp only; rw [shapeCast_self]

theorem pay9_re : k0_pay9 (F := Ideal) (re2 U) (row d) (re2 Y) = re2 fun r c => pre (Y r) (U r) d c := by
  unfold k0_pay9 k0_pay7; dsimp only
  rw [shapeCast_self, shapeCast_self, bcast_re, mul2, add2]; rfl

theorem pay10_re : k0_pay10 (F := Ideal) (re2 U) (row d) (re2 Y) = re2 fun r c => 1 / 2 * pre (Y r) (U r) d c := by
  unfold k0_pay10; dsimp only
  rw [pay9_re, const2 ofBits_half, mul2]

theorem pay11_re : k0_pay11 (F := Ideal) (re2 U) (row d) (re2 Y) = re2 fun r c => gc * pre (Y r) (U r) d c := by
  unfold k0_pay11; dsimp only
  rw [pay9_re, const2 ofBits_gc, mul2]

theorem pay12_re : k0_pay12 (F := Ideal) (re2 U) (row d) (re2 Y) = re2 fun r c => gc * pre (Y r) (U r) d c * pre (Y r) (U r) d c := by
  unfold k0_pay12; dsimp only
  rw [pay9_re, pay11_re, mul2]

theorem pay13_re : k0_pay13 (F := Ideal) (re2 U) (row d) (re2 Y) = re2 fun r c => th (pre (Y r) (U r) d c) := by
  unfold k0_pay13; dsimp only
  rw [pay9_re, pay12_re, const2 ofBits_gk, mul2, add2, mul2, tanh2]
  exact re2_congr fun r c => by rw [th]; ring_nf

theorem pay14_re : k0_pay14 (F := Ideal) (re2 U) (row d) (re2 Y)
    = re2 fun r c => (1 + th (pre (Y r) (U r) d c)) * (1 - th (pre (Y r) (U r) d c)) := by
  unfold k0_pay14; dsimp only
  rw [pay13_re, const2 ofBits_one, add2, sub2, mul2]

theorem pay15_re : k0_pay15 (F := Ideal) (re2 U) (row d) (re2 Y) = re2 fun r c => 1 + th (pre (Y r) (U r) d c) := by
  unfold k0_pay15; dsimp only
  rw [pay13_re, const2 ofBits_one, add2]

theorem pay16_re : k0_pay16 (F := Ideal) (re2 U) (row d) (re2 Y) = re2 fun r c => ge (Y r) (U r) d c := by
  unfold k0_pay16; dsimp only
  rw [pay10_re, pay15_re, mul2]; rfl

theorem pay17_re : k0_pay17 (F := Ideal) (re2 U) (row d) (re2 Y) = re2 fun r c => ge (Y r) (U r) d c := pay16_re Y U d

theorem pay18_re : k0_pay18 (F := Ideal) (re2 U) (row d) (re2 Y) (re2 W) = re2 fun r c => ∑ k, ge (Y r) (U r) d k * W k c := by
  unfold k0_pay18; dsimp only
  rw [shapeCast_self, pay17_re, nn]

theorem pay19_re : k0_pay19 (F := Ideal) (row b) = re2 (m := 512) fun _ c => b c := bcast_re b

theorem pay20_re : k0_pay20 (F := Ideal) (re2 fun r c => ∑ k, ge (Y r) (U r) d k * W k c) (re2 fun _ c => b c)
    = re2 fun r c => gate (Y r) (U r) d W b c := by
  unfold k0_pay20; dsimp only
  rw [add2, const2 ofBits_zero, sub2, exp2, const2 ofBits_one, add2, sg2]; rfl

theorem pay21_re : k0_pay21 (F := Ideal) (re2 D) (re2 fun r c => ge (Y r) (U r) d c) (re2 fun r c => ∑ k, ge (Y r) (U r) d k * W k c)
    (re2 fun _ c => b c) = re2 fun r c => dz (D r) (Y r) (U r) d W b c := by
  unfold k0_pay21; dsimp only
  rw [pay20_re, mul2, mul2, const2 ofBits_one, sub2, mul2]; rfl

theorem pay22_re : k0_pay22 (F := Ideal) (re2 D) (re2 fun r c => ge (Y r) (U r) d c) (re2 fun r c => ∑ k, ge (Y r) (U r) d k * W k c)
    (re2 fun _ c => b c) = re2 fun r c => dz (D r) (Y r) (U r) d W b c := pay21_re D Y U d W b

/-- The gradient of the recurrence's rows, before it is rounded. -/
abbrev p23 (x3 : Vec Ideal S512x512 .f32) (x5 : Vec Ideal S1x512 .f32) (x6 x8 : Vec Ideal S512x512 .f32) (x32 : Vec Ideal S512x512 .bf16)
    (x35 : Vec Ideal S1x512 .f32) :=
  k0_pay23 (F := Ideal) (k0_pay8 x6) (k0_pay9 x3 x5 x8) (k0_pay10 x3 x5 x8) (k0_pay11 x3 x5 x8) (k0_pay12 x3 x5 x8) (k0_pay14 x3 x5 x8)
    (k0_pay15 x3 x5 x8) (k0_pay16 x3 x5 x8) (k0_pay18 x3 x5 x8 x32) (k0_pay19 x35) x32

theorem pay23_re : p23 (re2 U) (row d) (re2 D) (re2 Y) (re2 W) (row b) = re2 fun r c => dpre (D r) (Y r) (U r) d W b c := by
  unfold p23 k0_pay23; dsimp only
  rw [pay8_re, pay9_re, pay10_re, pay11_re, pay12_re, pay14_re, pay15_re, pay16_re, pay18_re, pay19_re, pay20_re, pay22_re, shapeCast_self, nt]
  simp only [mul2, add2, const2 ofBits_gk, const2 ofBits_gc, const2 ofBits_half]
  refine re2_congr fun r c => ?_
  show _ = dge (D r) (Y r) (U r) d W b c * dgelu (pre (Y r) (U r) d c)
  rw [dge, dgelu]; ring

/-- Row `q` of the `j`-th group of eight rows. -/
def grp (j : Fin 64) (q : Fin 8) : Fin 512 := ⟨j.val * 8 + q.val, by omega⟩

theorem pay1_re (f : Fin 512 → Fin 512 → ℝ) (o : Vec Ideal S8x512 .f32) : k0_pay1 (F := Ideal) (k0_pay7 (re2 U)) (re2 f) o
    = addf (φ := .f32) o (re2 fun q c => ∑ j, f (grp j q) c * U (grp j q) c) := by
  unfold k0_pay1 k0_pay7; dsimp only
  rw [shapeCast_self, shapeCast_self, mul2, rows8 _ rfl]; rfl

theorem pay2_re (f : Fin 512 → Fin 512 → ℝ) (o : Vec Ideal S8x512 .f32) : k0_pay2 (F := Ideal) (re2 f) o
    = addf (φ := .f32) o (re2 fun q c => ∑ j, f (grp j q) c) := by
  unfold k0_pay2; dsimp only
  rw [shapeCast_self, rows8 _ rfl]; rfl

theorem pay3_re (f g : Fin 512 → Fin 512 → ℝ) (o : Vec Ideal S512x512 .f32) : k0_pay3 (F := Ideal) (re2 f) (re2 g) o
    = addf (φ := .f32) o (re2 fun k c => ∑ r, f r k * g r c) := by
  unfold k0_pay3; dsimp only
  rw [shapeCast_self, tn]

/-- The gradient of the mixer's input. -/
theorem pay25_re : k0_pay25 (F := Ideal) (row d) (k0_pay8 (re2 D)) (k0_pay9 (re2 U) (row d) (re2 Y)) (k0_pay10 (re2 U) (row d) (re2 Y)) (k0_pay11 (re2 U) (row d) (re2 Y)) (k0_pay12 (re2 U) (row d) (re2 Y)) (k0_pay14 (re2 U) (row d) (re2 Y))
    (k0_pay15 (re2 U) (row d) (re2 Y)) (k0_pay16 (re2 U) (row d) (re2 Y)) (k0_pay18 (re2 U) (row d) (re2 Y) (re2 W)) (k0_pay19 (row b)) (re2 W)
    = re2 fun r c => d c * dpre (D r) (Y r) (U r) d W b c := by
  unfold k0_pay25; dsimp only
  rw [show k0_pay23 (F := Ideal) (k0_pay8 (re2 D)) (k0_pay9 (re2 U) (row d) (re2 Y)) (k0_pay10 (re2 U) (row d) (re2 Y)) (k0_pay11 (re2 U) (row d) (re2 Y)) (k0_pay12 (re2 U) (row d) (re2 Y)) (k0_pay14 (re2 U) (row d) (re2 Y))
    (k0_pay15 (re2 U) (row d) (re2 Y)) (k0_pay16 (re2 U) (row d) (re2 Y)) (k0_pay18 (re2 U) (row d) (re2 Y) (re2 W)) (k0_pay19 (row b)) (re2 W) = _ from pay23_re D Y U d W b, bcast_re, mul2]

/-- What one block adds to the skip's gradient. -/
theorem step8 (o : Vec Ideal S8x512 .f32) : k0_pay1 (F := Ideal) (k0_pay7 (re2 U)) (k0_pay23 (k0_pay8 (re2 D)) (k0_pay9 (re2 U) (row d) (re2 Y)) (k0_pay10 (re2 U) (row d) (re2 Y)) (k0_pay11 (re2 U) (row d) (re2 Y)) (k0_pay12 (re2 U) (row d) (re2 Y)) (k0_pay14 (re2 U) (row d) (re2 Y))
    (k0_pay15 (re2 U) (row d) (re2 Y)) (k0_pay16 (re2 U) (row d) (re2 Y)) (k0_pay18 (re2 U) (row d) (re2 Y) (re2 W)) (k0_pay19 (row b)) (re2 W)) o
    = addf (φ := .f32) o (re2 fun q c => ∑ j, dpre (D (grp j q)) (Y (grp j q)) (U (grp j q)) d W b c * U (grp j q) c) := by
  rw [show k0_pay23 (F := Ideal) (k0_pay8 (re2 D)) (k0_pay9 (re2 U) (row d) (re2 Y)) (k0_pay10 (re2 U) (row d) (re2 Y)) (k0_pay11 (re2 U) (row d) (re2 Y)) (k0_pay12 (re2 U) (row d) (re2 Y)) (k0_pay14 (re2 U) (row d) (re2 Y))
    (k0_pay15 (re2 U) (row d) (re2 Y)) (k0_pay16 (re2 U) (row d) (re2 Y)) (k0_pay18 (re2 U) (row d) (re2 Y) (re2 W)) (k0_pay19 (row b)) (re2 W) = _ from pay23_re D Y U d W b, pay1_re]

/-- What one block adds to the gate's weights' gradient. -/
theorem step9 (o : Vec Ideal S512x512 .f32) : k0_pay3 (F := Ideal) (k0_pay17 (re2 U) (row d) (re2 Y))
      (k0_pay22 (k0_pay8 (re2 D)) (k0_pay16 (re2 U) (row d) (re2 Y)) (k0_pay18 (re2 U) (row d) (re2 Y) (re2 W)) (k0_pay19 (row b))) o
    = addf (φ := .f32) o (re2 fun k c => ∑ r, ge (Y r) (U r) d k * dz (D r) (Y r) (U r) d W b c) := by
  rw [pay8_re, pay16_re, pay17_re, pay18_re, pay19_re, pay22_re, pay3_re]

/-- What one block adds to the gate's shift's gradient. -/
theorem step10 (o : Vec Ideal S8x512 .f32) : k0_pay2 (F := Ideal)
      (k0_pay21 (k0_pay8 (re2 D)) (k0_pay16 (re2 U) (row d) (re2 Y)) (k0_pay18 (re2 U) (row d) (re2 Y) (re2 W)) (k0_pay19 (row b))) o
    = addf (φ := .f32) o (re2 fun q c => ∑ j, dz (D (grp j q)) (Y (grp j q)) (U (grp j q)) d W b c) := by
  rw [pay8_re, pay16_re, pay18_re, pay19_re, pay21_re, pay2_re]

end Cert.Read.Kernel
-- ==== Proof.ReadRun.lean ====
/-
  The S5 read-out's backward kernel over its eight blocks of 512 rows: the input blocks each point reads, and what its
  five output arrays hold at the end.
-/
module

public import proofs.«01_k».proof.Proof.ReadKernel
public import proofs.«01_k».proof.Proof.RowStore

@[expose] public section

noncomputable section

namespace Cert.Read.Kernel

open Idealize.ShloMosaic hiding ix1 ix2
open Idealize.ShloMosaic.ValueIdx
open Cert.Kernel2Ideal Cert.Kernel2Ideal.Gen Cert.Reals
open scoped BigOperators

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (D Y U : Fin 4096 → Fin 512 → ℝ) (d : Fin 512 → ℝ)
  (W : Fin 512 → Fin 512 → ℝ) (b : Fin 512 → ℝ)

/-- The region's input arrays are these reals. -/
structure Inputs : Prop where
  hD : V m c main_v2 = re2 D
  hY : V m c main_v5 = re2 Y
  hU : V m c main_v8 = re2 U
  hd : V m c main_arg3 = row d
  hW : V m c main_v9 = re2 W
  hb : V m c main_arg5 = row b

variable {m c D Y U d W b} (hin : Inputs m c D Y U d W b)
include hin

theorem iblk0 (t : Fin cfg0.N) : iblk m c 0 t = re2 fun r => D (brow t r) := by
  have e : ∀ t : Fin cfg0.N, win0_0.index t = ![t.val, 0] := (by decide +kernel : ∀ t : Fin grid0.N, _)
  funext i
  unfold iblk; rw [View.read_apply]
  refine (congrFun hin.hD _).trans ?_
  refine congrArg₂ (fun p q => ((D p q : ℝ) : EReal)) (Fin.ext ?_) (Fin.ext ?_) <;> dsimp only [ax0, ax1, brow] <;> blk_simp [e] <;> rfl

theorem iblk1 (t : Fin cfg0.N) : iblk m c 1 t = re2 fun r => Y (brow t r) := by
  have e : ∀ t : Fin cfg0.N, win0_1.index t = ![t.val, 0] := (by decide +kernel : ∀ t : Fin grid0.N, _)
  funext i
  unfold iblk; rw [View.read_apply]
  refine (congrFun hin.hY _).trans ?_
  refine congrArg₂ (fun p q => ((Y p q : ℝ) : EReal)) (Fin.ext ?_) (Fin.ext ?_) <;> dsimp only [ax0, ax1, brow] <;> blk_simp [e] <;> rfl

theorem iblk2 (t : Fin cfg0.N) : iblk m c 2 t = re2 fun r => U (brow t r) := by
  have e : ∀ t : Fin cfg0.N, win0_2.index t = ![t.val, 0] := (by decide +kernel : ∀ t : Fin grid0.N, _)
  funext i
  unfold iblk; rw [View.read_apply]
  refine (congrFun hin.hU _).trans ?_
  refine congrArg₂ (fun p q => ((U p q : ℝ) : EReal)) (Fin.ext ?_) (Fin.ext ?_) <;> dsimp only [ax0, ax1, brow] <;> blk_simp [e] <;> rfl

theorem iblk3 (t : Fin cfg0.N) : iblk m c 3 t = row d := by
  have e : ∀ t : Fin cfg0.N, win0_3.index t = ![0, 0] := (by decide +kernel : ∀ t : Fin grid0.N, _)
  funext i
  unfold iblk; rw [View.read_apply]
  refine (congrFun hin.hd _).trans ?_
  refine congrArg (fun p => ((d p : ℝ) : EReal)) (Fin.ext ?_) <;> dsimp only [ax0, ax1] <;> blk_simp [e] <;> rfl

theorem iblk5 (t : Fin cfg0.N) : iblk m c 5 t = row b := by
  have e : ∀ t : Fin cfg0.N, win0_5.index t = ![0, 0] := (by decide +kernel : ∀ t : Fin grid0.N, _)
  funext i
  unfold iblk; rw [View.read_apply]
  refine (congrFun hin.hb _).trans ?_
  refine congrArg (fun p => ((b p : ℝ) : EReal)) (Fin.ext ?_) <;> dsimp only [ax0, ax1] <;> blk_simp [e] <;> rfl

theorem iblk4 (t : Fin cfg0.N) : iblk m c 4 t = re2 W := by
  have e : ∀ t : Fin cfg0.N, win0_4.index t = ![0, 0] := (by decide +kernel : ∀ t : Fin grid0.N, _)
  funext i
  unfold iblk; rw [View.read_apply]
  refine (congrFun hin.hW _).trans ?_
  refine congrArg₂ (fun p q => ((W p q : ℝ) : EReal)) (Fin.ext ?_) (Fin.ext ?_) <;> dsimp only [ax0, ax1] <;> blk_simp [e] <;> rfl

/-- The gradient of the recurrence's rows: each point leaves its own block's. -/
theorem out6 (t : Fin cfg0.N) : (outsAt0 m c t.val t.isLt).1
    = re2 fun r => dpre (D (brow t r)) (Y (brow t r)) (U (brow t r)) d W b := by
  by_cases h : t.val % 8 = 0
  · rw [outsAt0_A m c t h]; frame_out
    rw [iblk0 hin, iblk1 hin, iblk2 hin, iblk3 hin, iblk4 hin, iblk5 hin]
    exact pay23_re _ _ _ _ _ _
  · rw [outsAt0_B m c t h]; frame_out
    rw [iblk0 hin, iblk1 hin, iblk2 hin, iblk3 hin, iblk4 hin, iblk5 hin]
    exact pay23_re _ _ _ _ _ _

/-- The gradient of the mixer's input: each point leaves its own block's. -/
theorem out7 (t : Fin cfg0.N) : (outsAt0 m c t.val t.isLt).2.1
    = re2 fun r k => d k * dpre (D (brow t r)) (Y (brow t r)) (U (brow t r)) d W b k := by
  by_cases h : t.val % 8 = 0
  · rw [outsAt0_A m c t h]; frame_out
    rw [iblk0 hin, iblk1 hin, iblk2 hin, iblk3 hin, iblk4 hin, iblk5 hin]
    exact pay25_re _ _ _ _ _ _
  · rw [outsAt0_B m c t h]; frame_out
    rw [iblk0 hin, iblk1 hin, iblk2 hin, iblk3 hin, iblk4 hin, iblk5 hin]
    exact pay25_re _ _ _ _ _ _

omit hin in
theorem zero8 : k0_pay4 (F := Ideal) = fun _ => 0 := by
  unfold k0_pay4; dsimp only; rw [broadcast_zero]; exact funext fun _ => EReal.coe_zero
omit hin in
theorem zero512 : k0_pay5 (F := Ideal) = fun _ => 0 := by
  unfold k0_pay5; dsimp only; rw [broadcast_zero]; exact funext fun _ => EReal.coe_zero

variable (D Y U d W b) in
/-- One block's share of the skip's gradient, by the row's place in its group of eight. -/
def term8 (t : Fin cfg0.N) : S8x512.Idx → EReal :=
  re2 fun q c => ∑ j, dpre (D (brow t (grp j q))) (Y (brow t (grp j q))) (U (brow t (grp j q))) d W b c * U (brow t (grp j q)) c

variable (D Y U d W b) in
/-- One block's share of the gate's weights' gradient. -/
def term9 (t : Fin cfg0.N) : S512x512.Idx → EReal :=
  re2 fun k c => ∑ r, ge (Y (brow t r)) (U (brow t r)) d k * dz (D (brow t r)) (Y (brow t r)) (U (brow t r)) d W b c

variable (D Y U d W b) in
/-- One block's share of the gate's shift's gradient, by the row's place in its group of eight. -/
def term10 (t : Fin cfg0.N) : S8x512.Idx → EReal :=
  re2 fun q c => ∑ j, dz (D (brow t (grp j q))) (Y (brow t (grp j q))) (U (brow t (grp j q))) d W b c

/-- The skip's gradient after the last point. -/
theorem out8 (t : Fin cfg0.N) (ht : t.val + 1 = cfg0.N) (i : S8x512.Idx) :
    (outsAt0 m c t.val t.isLt).2.2.1 i = 0 + ∑ p, term8 D Y U d W b p i :=
  Pipeline.eq_sum_fin_of_reset_step_apply_last (fun n h => (outsAt0 m c n h).2.2.1) 8 (fun _ => 0) (term8 D Y U d W b)
    (fun t h i => by
      rw [outsAt0_A m c t h]; frame_out
      rw [iblk0 hin, iblk1 hin, iblk2 hin, iblk3 hin, iblk4 hin, iblk5 hin, step8, zero8]; rfl)
    (fun t h i => by
      rw [outsAt0_B m c t h]; frame_out
      rw [iblk0 hin, iblk1 hin, iblk2 hin, iblk3 hin, iblk4 hin, iblk5 hin, step8]; rfl)
    (by decide) t ht i

/-- The gate's weights' gradient after the last point. -/
theorem out9 (t : Fin cfg0.N) (ht : t.val + 1 = cfg0.N) (i : S512x512.Idx) :
    (outsAt0 m c t.val t.isLt).2.2.2.1 i = 0 + ∑ p, term9 D Y U d W b p i :=
  Pipeline.eq_sum_fin_of_reset_step_apply_last (fun n h => (outsAt0 m c n h).2.2.2.1) 8 (fun _ => 0) (term9 D Y U d W b)
    (fun t h i => by
      rw [outsAt0_A m c t h]; frame_out
      rw [iblk0 hin, iblk1 hin, iblk2 hin, iblk3 hin, iblk4 hin, iblk5 hin, step9, zero512]; rfl)
    (fun t h i => by
      rw [outsAt0_B m c t h]; frame_out
      rw [iblk0 hin, iblk1 hin, iblk2 hin, iblk3 hin, iblk4 hin, iblk5 hin, step9]; rfl)
    (by decide) t ht i

/-- The gate's shift's gradient after the last point. -/
theorem out10 (t : Fin cfg0.N) (ht : t.val + 1 = cfg0.N) (i : S8x512.Idx) :
    (outsAt0 m c t.val t.isLt).2.2.2.2 i = 0 + ∑ p, term10 D Y U d W b p i :=
  Pipeline.eq_sum_fin_of_reset_step_apply_last (fun n h => (outsAt0 m c n h).2.2.2.2) 8 (fun _ => 0) (term10 D Y U d W b)
    (fun t h i => by
      rw [outsAt0_A m c t h]; frame_out
      rw [iblk0 hin, iblk1 hin, iblk2 hin, iblk3 hin, iblk4 hin, iblk5 hin, step10, show k0_pay6 (F := Ideal) = k0_pay4 from rfl, zero8]; rfl)
    (fun t h i => by
      rw [outsAt0_B m c t h]; frame_out
      rw [iblk0 hin, iblk1 hin, iblk2 hin, iblk3 hin, iblk4 hin, iblk5 hin, step10]; rfl)
    (by decide) t ht i

/-! ## The output arrays -/

omit hin in
/-- A row by its block and its place there. -/
theorem sum_rows (f : Fin 4096 → ℝ) : ∑ t : Fin cfg0.N, ∑ r, f (brow t r) = ∑ r, f r :=
  Fin.sum_mul_add_fin 8 512 f

omit hin in
/-- A row by its block, its group of eight and its place there. -/
theorem sum_groups (f : Fin 4096 → ℝ) : ∑ q, ∑ t : Fin cfg0.N, ∑ j, f (brow t (grp j q)) = ∑ r, f r := by
  rw [Finset.sum_comm, ← sum_rows]
  refine Finset.sum_congr rfl fun t _ => ?_
  rw [Finset.sum_comm]
  exact Fin.sum_mul_add_fin 64 8 fun r => f (brow t r)

theorem arr6 : (dats m 0 c).arrAt 6 cfg0.N = re2 fun r => dpre (D r) (Y r) (U r) d W b := by
  have e : ∀ t : Fin cfg0.N, win0_6.index t = ![t.val, 0] := (by decide +kernel : ∀ t : Fin grid0.N, _)
  refine (dats m 0 c).arrAt_eq_of_covers 6 _ (by decide +kernel) fun t _ y => ?_
  blk_simp
  rw [after0_6, out6 hin]
  refine congrArg₂ (fun p q => ((dpre (D p) (Y p) (U p) d W b q : ℝ) : EReal)) (Fin.ext ?_) (Fin.ext ?_) <;> dsimp only [ax0, ax1, brow] <;> blk_simp [e] <;> rfl

theorem arr7 : (dats m 0 c).arrAt 7 cfg0.N = re2 fun r k => d k * dpre (D r) (Y r) (U r) d W b k := by
  have e : ∀ t : Fin cfg0.N, win0_7.index t = ![t.val, 0] := (by decide +kernel : ∀ t : Fin grid0.N, _)
  refine (dats m 0 c).arrAt_eq_of_covers 7 _ (by decide +kernel) fun t _ y => ?_
  blk_simp
  rw [after0_7, out7 hin]
  refine congrArg₂ (fun p q => ((d q * dpre (D p) (Y p) (U p) d W b q : ℝ) : EReal)) (Fin.ext ?_) (Fin.ext ?_) <;> dsimp only [ax0, ax1, brow] <;> blk_simp [e] <;> rfl

theorem arr8 : (dats m 0 c).arrAt 8 cfg0.N
    = re2 fun q c => ∑ t : Fin cfg0.N, ∑ j, dpre (D (brow t (grp j q))) (Y (brow t (grp j q))) (U (brow t (grp j q))) d W b c * U (brow t (grp j q)) c := by
  refine (dats m 0 c).arrAt_eq_of_after_last 8 ⟨7, by decide⟩ (by decide +kernel) _ fun j => ?_
  blk_simp
  exact (congrFun (after0_8 m c ⟨7, by decide⟩) _).trans ((out8 hin ⟨7, by decide⟩ rfl _).trans
    ((zero_add_sum EReal.coe_zero.symm fun p => rfl)))

theorem arr10 : (dats m 0 c).arrAt 10 cfg0.N
    = re2 fun q c => ∑ t : Fin cfg0.N, ∑ j, dz (D (brow t (grp j q))) (Y (brow t (grp j q))) (U (brow t (grp j q))) d W b c := by
  refine (dats m 0 c).arrAt_eq_of_after_last 10 ⟨7, by decide⟩ (by decide +kernel) _ fun j => ?_
  blk_simp
  exact (congrFun (after0_10 m c ⟨7, by decide⟩) _).trans ((out10 hin ⟨7, by decide⟩ rfl _).trans
    ((zero_add_sum EReal.coe_zero.symm fun p => rfl)))

theorem arr9 : (dats m 0 c).arrAt 9 cfg0.N
    = re2 fun k c => ∑ r, ge (Y r) (U r) d k * dz (D r) (Y r) (U r) d W b c := by
  refine (dats m 0 c).arrAt_eq_of_after_last 9 ⟨7, by decide⟩ (by decide +kernel) _ fun j => ?_
  blk_simp
  exact (congrFun (after0_9 m c ⟨7, by decide⟩) _).trans ((out9 hin ⟨7, by decide⟩ rfl _).trans
    ((zero_add_sum EReal.coe_zero.symm fun p => rfl).trans (congrArg Real.toEReal (sum_rows fun r => ge (Y r) (U r) d (ax0 j) * dz (D r) (Y r) (U r) d W b (ax1 j)))))

end Cert.Read.Kernel
-- ==== Proof.Segments.lean ====
/-
  The order of the sequence in eight segments of 512 rows, side by side: row `r` of that order is row `r / 8` of segment
  `r % 8`. The host's two reshapes and transpose to that order and back, on matrices of real numbers.
-/
module

public import proofs.«01_k».proof.Proof.Matrices

@[expose] public section

noncomputable section

namespace Cert.Reals

open Idealize.ShloMosaic hiding ix1 ix2 ix3
open Idealize.ShloMosaic.ValueIdx
open scoped BigOperators

/-- The row of the sequence that is row `r` of the order of segments, and the inverse. -/
def seg (r : Fin 4096) : Fin 4096 := ⟨r.val % 8 * 512 + r.val / 8, by omega⟩
def unseg (r : Fin 4096) : Fin 4096 := ⟨r.val % 512 * 8 + r.val / 512, by omega⟩

theorem seg_unseg (r : Fin 4096) : seg (unseg r) = r := Fin.ext (by show (r.val % 512 * 8 + r.val / 512) % 8 * 512 + (r.val % 512 * 8 + r.val / 512) / 8 = r.val; omega)
theorem unseg_seg (r : Fin 4096) : unseg (seg r) = r := Fin.ext (by show (r.val % 8 * 512 + r.val / 8) % 512 * 8 + (r.val % 8 * 512 + r.val / 8) / 512 = r.val; omega)

/-- A sum over the rows is the sum over the rows in the order of segments. -/
theorem sum_seg (f : Fin 4096 → ℝ) : ∑ r, f (seg r) = ∑ r, f r :=
  Equiv.sum_comp ⟨seg, unseg, unseg_seg, seg_unseg⟩ f

/-- A matrix reshaped to `a` groups of `b` rows, the groups and the rows exchanged, and reshaped back. -/
theorem regroup {a b n : ℕ} (f : Fin 4096 → Fin n → ℝ) (hab : a * b = 4096) (ρ : Fin 4096 → Fin 4096)
    (hρ : ∀ r, (ρ r).val = r.val % a * b + r.val / a) (h1 : (⟨2, ![4096, n]⟩ : Shape).ShapeCasts ⟨3, ![a, b, n]⟩)
    (h2 : (⟨3, ![a, b, n]⟩ : Shape).Transposes [1, 0, 2] ⟨3, ![b, a, n]⟩) (h3 : (⟨3, ![b, a, n]⟩ : Shape).ShapeCasts ⟨2, ![4096, n]⟩) :
    shapeCast ⟨2, ![4096, n]⟩ (transpose ⟨3, ![b, a, n]⟩ [1, 0, 2] (shapeCast ⟨3, ![a, b, n]⟩ (re2 f) h1) h2) h3 = re2 fun r => f (ρ r) := by
  funext i
  have ha : 0 < a := Nat.pos_of_ne_zero fun h => by subst h; omega
  have hr : (ax0 i).val < 4096 := (ax0 i).isLt
  have hq : (ax0 i).val / a < b := by rw [Nat.div_lt_iff_lt_mul ha, Nat.mul_comm, hab]; exact hr
  have hs : (ax0 i).val % a < a := Nat.mod_lt _ ha
  refine (shapeCast_apply _ h3 i (ix3 ⟨(ax0 i).val / a, hq⟩ ⟨(ax0 i).val % a, hs⟩ (ax1 i)) ?_).trans ?_
  · rw [Shape.rowMajor_val_two, Shape.rowMajor_val_three]
    show ((ax0 i).val / a * a + (ax0 i).val % a) * n + (ax1 i).val = (ax0 i).val * n + (ax1 i).val
    rw [Nat.div_add_mod']
  refine (transpose_apply _ _ h2 _ (ix3 ⟨(ax0 i).val % a, hs⟩ ⟨(ax0 i).val / a, hq⟩ (ax1 i)) fun k => ?_).trans ?_
  · match k with
    | 0 => rfl
    | 1 => rfl
    | 2 => rfl
  refine (shapeCast_apply _ h1 _ (ix2 (ρ (ax0 i)) (ax1 i)) ?_).trans rfl
  rw [Shape.rowMajor_val_two, Shape.rowMajor_val_three]
  show (ρ (ax0 i)).val * n + (ax1 i).val = ((ax0 i).val % a * b + (ax0 i).val / a) * n + (ax1 i).val
  rw [hρ]

end Cert.Reals
-- ==== Proof.ReadEntry.lean ====
/-
  The S5 read-out's backward call: the region's input arrays, as the host prepares them, and the host's results.
-/
module

public import proofs.«01_k».proof.Proof.ReadRun
public import proofs.«01_k».proof.Proof.Segments
public import proofs.«01_k».proof.Proof.HostReals

@[expose] public section

noncomputable section

namespace Cert.Read.Kernel

open Idealize.ShloMosaic hiding ix1 ix2
open Idealize.ShloMosaic.ValueIdx
open Cert.Kernel2Ideal Cert.Kernel2Ideal.Gen Cert.Reals

section Entry

variable (m : (ℓ : Loc nD τ sig) → Buf (Elt Ideal) ℓ) (c : Dev nD) (f : Fin 4096 → Fin 512 → ℝ)

theorem entry_d (h : m ((c.tc : Thread nD τ).loc main_arg0) = re2 f) : V m c main_v2 = re2 fun r => f (seg r) := by
  unfold V V0 hostOps0
  simp only [List.flatten_cons, List.flatten_nil, List.cons_append, List.nil_append, List.append_nil]
  after_results
  refine Eq.trans ?_ (regroup (a := 8) (b := 512) f rfl seg (fun _ => rfl) shapeCasts_S4096x512_S8x512x512 transposes_S8x512x512_S512x8x512_1_0_2 shapeCasts_S512x8x512_S4096x512)
  rw [← h]; rfl

theorem entry_y (h : m ((c.tc : Thread nD τ).loc main_arg1) = re2 f) : V m c main_v5 = re2 fun r => f (seg r) := by
  unfold V V0 hostOps0
  simp only [List.flatten_cons, List.flatten_nil, List.cons_append, List.nil_append, List.append_nil]
  after_results
  refine Eq.trans ?_ (regroup (a := 8) (b := 512) f rfl seg (fun _ => rfl) shapeCasts_S4096x512_S8x512x512 transposes_S8x512x512_S512x8x512_1_0_2 shapeCasts_S512x8x512_S4096x512)
  rw [← h]; rfl

theorem entry_u (h : m ((c.tc : Thread nD τ).loc main_arg2) = re2 f) : V m c main_v8 = re2 fun r => f (seg r) := by
  unfold V V0 hostOps0
  simp only [List.flatten_cons, List.flatten_nil, List.cons_append, List.nil_append, List.append_nil]
  after_results
  refine Eq.trans ?_ (regroup (a := 8) (b := 512) f rfl seg (fun _ => rfl) shapeCasts_S4096x512_S8x512x512 transposes_S8x512x512_S512x8x512_1_0_2 shapeCasts_S512x8x512_S4096x512)
  rw [← h]; rfl

theorem entry_w (W : Fin 512 → Fin 512 → ℝ) (h : m ((c.tc : Thread nD τ).loc main_arg4) = re2 W) : V m c main_v9 = re2 W := by
  unfold V V0 hostOps0
  simp only [List.flatten_cons, List.flatten_nil, List.cons_append, List.nil_append, List.append_nil]
  after_results
  rw [← h]; rfl

end Entry

section Tail

variable {m : (ℓ : Loc nD τ sig) → Buf (Elt Ideal) ℓ} {c : Dev nD}

/-- The host's return of the recurrence's gradient to the sequence's order. -/
theorem tail14 {f : Fin 4096 → Fin 512 → ℝ} (h : (dats m 0 c).arrAt 6 cfg0.N = re2 f) :
    Pipeline.afterTail₀ cfgs (dats m) 0 (V0 m) [hostOps1] c main_v14 = re2 fun r => f (unseg r) := by
  have e : Pipeline.withArrays (cfgs 0).spec c (V0 m c) (fun w => (dats m 0 c).arrAt w (cfgs 0).N) (Proc.devRef .tc main_v10_0) = re2 f :=
    (Pipeline.withArrays_arr spec0 winFacts0.arr_inj c (V0 m c) (fun w => (dats m 0 c).arrAt w (cfgs 0).N) 6).trans h
  unfold Pipeline.afterTail₀ hostOps1
  simp only [List.flatten_cons, List.flatten_nil, List.cons_append, List.nil_append, List.append_nil]
  after_results
  rw [e]
  exact regroup (a := 512) (b := 8) f rfl unseg (fun _ => rfl) _ _ _

/-- The host's return of the input's gradient to the sequence's order. -/
theorem tail17 {f : Fin 4096 → Fin 512 → ℝ} (h : (dats m 0 c).arrAt 7 cfg0.N = re2 f) :
    Pipeline.afterTail₀ cfgs (dats m) 0 (V0 m) [hostOps1] c main_v17 = re2 fun r => f (unseg r) := by
  have e : Pipeline.withArrays (cfgs 0).spec c (V0 m c) (fun w => (dats m 0 c).arrAt w (cfgs 0).N) (Proc.devRef .tc main_v10_1) = re2 f :=
    (Pipeline.withArrays_arr spec0 winFacts0.arr_inj c (V0 m c) (fun w => (dats m 0 c).arrAt w (cfgs 0).N) 7).trans h
  unfold Pipeline.afterTail₀ hostOps1
  simp only [List.flatten_cons, List.flatten_nil, List.cons_append, List.nil_append, List.append_nil]
  after_results
  rw [e]
  exact regroup (a := 512) (b := 8) f rfl unseg (fun _ => rfl) _ _ _

variable {f : Fin 8 → Fin 512 → ℝ}

/-- The host's sum over the eight rows of the skip's gradient. -/
theorem tail19 (h : (dats m 0 c).arrAt 8 cfg0.N = re2 f) :
    Pipeline.afterTail₀ cfgs (dats m) 0 (V0 m) [hostOps1] c main_v19 = row fun k => ∑ q, f q k := by
  have e : Pipeline.withArrays (cfgs 0).spec c (V0 m c) (fun w => (dats m 0 c).arrAt w (cfgs 0).N) (Proc.devRef .tc main_v10_2) = re2 f :=
    (Pipeline.withArrays_arr spec0 winFacts0.arr_inj c (V0 m c) (fun w => (dats m 0 c).arrAt w (cfgs 0).N) 8).trans h
  unfold Pipeline.afterTail₀ hostOps1
  simp only [List.flatten_cons, List.flatten_nil, List.cons_append, List.nil_append, List.append_nil]
  after_results
  rw [e]
  exact hostSumRows_re f _ (by decide) _ _

/-- The host's sum over the eight rows of the gate's shift's gradient. -/
theorem tail21 (h : (dats m 0 c).arrAt 10 cfg0.N = re2 f) :
    Pipeline.afterTail₀ cfgs (dats m) 0 (V0 m) [hostOps1] c main_v21 = row fun k => ∑ q, f q k := by
  have e : Pipeline.withArrays (cfgs 0).spec c (V0 m c) (fun w => (dats m 0 c).arrAt w (cfgs 0).N) (Proc.devRef .tc main_v10_4) = re2 f :=
    (Pipeline.withArrays_arr spec0 winFacts0.arr_inj c (V0 m c) (fun w => (dats m 0 c).arrAt w (cfgs 0).N) 10).trans h
  unfold Pipeline.afterTail₀ hostOps1
  simp only [List.flatten_cons, List.flatten_nil, List.cons_append, List.nil_append, List.append_nil]
  after_results
  rw [e]
  exact hostSumRows_re f _ (by decide) _ _

end Tail

end Cert.Read.Kernel
-- ==== Proof.ReadReference.lean ====
/-
  The S5 read-out's reference on arrays of real numbers: its five results as the real functions of `ReadMath`.
-/
module

public import proofs.«01_k».proof.Proof.ReadMath
public import proofs.«01_k».proof.Proof.Gen.Reference2Ideal.Read

@[expose] public section

noncomputable section

namespace Cert.Read.Reference

open Idealize.ShloMosaic hiding ix1 ix2
open Idealize.ShloMosaic.ValueIdx
open Cert.Reference2Ideal Cert.Reference2Ideal.Read Cert.Reals
open scoped BigOperators

variable (D Y U : Fin 4096 → Fin 512 → ℝ) (d : Fin 512 → ℝ) (W : Fin 512 → Fin 512 → ℝ) (b : Fin 512 → ℝ)

theorem v0_re : val_main_v0 (F := Ideal) (row d) = re2 fun _ c => d c := hostBcast2 d _
theorem v25_re : val_main_v25 (F := Ideal) (row b) = re2 fun _ c => b c := hostBcast2 b _
theorem v58_re : val_main_v58 (F := Ideal) (row d) = re2 fun _ c => d c := hostBcast2 d _

theorem v2_re : val_main_v2 (F := Ideal) (re2 Y) (re2 U) (row d) = re2 fun r c => pre (Y r) (U r) d c := by
  simp only [val_main_v2, val_main_v1, v0_re, mul2, add2]; rfl

theorem v13_re : val_main_v13 (F := Ideal) (re2 Y) (re2 U) (row d) = re2 fun r c => th (pre (Y r) (U r) d c) := by
  simp only [val_main_v13, val_main_v12, val_main_v11, val_main_v10, val_main_v9, val_main_v8, val_main_v4, val_main_v3, val_main_cst_0,
    val_main_cst_1, v2_re, hostConst2 ofBits_gk, hostConst2 ofBits_gc, mul2, add2, hostTanh2]
  exact re2_congr fun r c => by rw [th, pow_succ, pow_two]

theorem v23_re : val_main_v23 (F := Ideal) (re2 Y) (re2 U) (row d) = re2 fun r c => ge (Y r) (U r) d c := by
  simp only [val_main_v23, val_main_v22, val_main_v21, val_main_v20, val_main_v19, val_main_cst_5, val_main_cst_4, v2_re, v13_re,
    hostConst2 ofBits_half, hostConst2 ofBits_one, mul2, add2]
  exact re2_congr fun r c => by rw [ge, gelu]; ring

theorem v32_re : val_main_v32 (F := Ideal) (re2 Y) (re2 U) (row d) (re2 W) (row b) = re2 fun r c => gate (Y r) (U r) d W b c := by
  simp only [val_main_v32, val_main_v31, val_main_v30, val_main_v29, val_main_v28, val_main_v27, val_main_v26, v25_re, val_main_v24,
    val_main_cst_6, val_main_cst_7, v23_re, hostConst2 ofBits_one]
  rw [show Host.dotGeneral (F := Ideal) dot_S4096x512_S512x512_S4096x512_1_0_0_1_n_n none (re2 fun r c => ge (Y r) (U r) d c) (re2 W) = _ from hostNN none _ _ _]
  simp only [add2, hostNeg2, hostExp2, hostSg2]; rfl

theorem v39_re : val_main_v39 (F := Ideal) (re2 D) (re2 Y) (re2 U) (row d) (re2 W) (row b) = re2 fun r c => dz (D r) (Y r) (U r) d W b c := by
  simp only [val_main_v39, val_main_v37, val_main_v35, val_main_v34, val_main_v33, val_main_cst_8, v23_re, v32_re, hostConst2 ofBits_one, mul2, sub2]
  exact re2_congr fun r c => by rw [dz]; ring

theorem v45_re : val_main_v45 (F := Ideal) (re2 D) (re2 Y) (re2 U) (row d) (re2 W) (row b) = re2 fun r c => dge (D r) (Y r) (U r) d W b c := by
  simp only [val_main_v45, val_main_v44, val_main_v38, v39_re, v32_re, mul2]
  rw [show Host.dotGeneral (F := Ideal) dot_S4096x512_S512x512_S4096x512_1_1_0_0_n_n none (re2 fun r c => dz (D r) (Y r) (U r) d W b c) (re2 W) = _ from hostNT none _ _ _, add2]
  rfl

/-- The gradient of the recurrence's rows. -/
theorem v57_re : val_main_v57 (F := Ideal) (re2 D) (re2 Y) (re2 U) (row d) (re2 W) (row b) = re2 fun r c => dpre (D r) (Y r) (U r) d W b c := by
  simp only [val_main_v57, val_main_v56, val_main_v55, val_main_v54, val_main_v53, val_main_v52, val_main_v51, val_main_v50, val_main_v49,
    val_main_v48, val_main_v47, val_main_v46, val_main_v22, val_main_v21, val_main_v20, val_main_v19, val_main_v18, val_main_v17, val_main_v16,
    val_main_v15, val_main_v14, val_main_v7, val_main_v6, val_main_v5, val_main_cst, val_main_cst_2, val_main_cst_3, val_main_cst_4,
    val_main_cst_5, val_main_cst_10, val_main_cst_11, val_main_cst_12, v2_re, v13_re, v45_re,
    hostConst2 ofBits_half, hostConst2 ofBits_one, hostConst2 ofBits_three, hostConst2 ofBits_gk, hostConst2 ofBits_gc, mul2, add2, sub2]
  exact re2_congr fun r c => by rw [dpre, dgelu]; ring

/-- The gradient of the mixer's input. -/
theorem v59_re : val_main_v59 (F := Ideal) (re2 D) (re2 Y) (re2 U) (row d) (re2 W) (row b)
    = re2 fun r c => d c * dpre (D r) (Y r) (U r) d W b c := by
  simp only [val_main_v59, v58_re, v57_re, mul2]

/-- The gradient of the skip's weights. -/
theorem v62_re : val_main_v62 (F := Ideal) (re2 D) (re2 Y) (re2 U) (row d) (re2 W) (row b)
    = row fun c => ∑ r, dpre (D r) (Y r) (U r) d W b c * U r c := by
  simp only [val_main_v62, val_main_v61, val_main_v60, val_main_cst_13, v57_re, mul2]
  exact hostSum2 _ _ (by decide) _ _

/-- The gradient of the gate's weights. -/
theorem v43_re : val_main_v43 (F := Ideal) (re2 D) (re2 Y) (re2 U) (row d) (re2 W) (row b)
    = re2 fun k c => ∑ r, dz (D r) (Y r) (U r) d W b c * ge (Y r) (U r) d k := by
  simp only [val_main_v43, val_main_v42, v39_re, v23_re]
  rw [show Host.dotGeneral (F := Ideal) dot_S4096x512_S4096x512_S512x512_0_0_1_1_n_n none (re2 fun r c => dz (D r) (Y r) (U r) d W b c)
    (re2 fun r c => ge (Y r) (U r) d c) = _ from hostTN none _ _ _]
  exact transpose2 _ _

/-- The gradient of the gate's shift. -/
theorem v41_re : val_main_v41 (F := Ideal) (re2 D) (re2 Y) (re2 U) (row d) (re2 W) (row b)
    = row fun c => ∑ r, dz (D r) (Y r) (U r) d W b c := by
  simp only [val_main_v41, val_main_v40, val_main_cst_9, v39_re]
  exact hostSum2 _ _ (by decide) _ _

end Cert.Read.Reference
-- ==== Proof.ReadClaim.lean ====
/-
  The S5 read-out's backward call: the kernel's five results are the reference's, on finite arguments.
-/
module

public import proofs.«01_k».proof.Defs
public import proofs.«01_k».proof.Proof.ReadEntry
public import proofs.«01_k».proof.Proof.ReadReference
public import proofs.«01_k».proof.Proof.Gen.Pre_s5_read_finite

@[expose] public section

noncomputable section

namespace Cert.Read

open Idealize.ShloMosaic hiding ix1 ix2
open Idealize.ShloMosaic.ValueIdx
open Idealize.SL.Sem Cert.Reals

section Kernel

open Cert.Kernel2Ideal Cert.Kernel2Ideal.Gen

variable (m : (ℓ : Loc nD τ sig) → Buf (Elt Ideal) ℓ)

/-- The arguments of every device are reals. -/
structure Args (D Y U : Dev nD → Fin 4096 → Fin 512 → ℝ) (d : Dev nD → Fin 512 → ℝ) (W : Dev nD → Fin 512 → Fin 512 → ℝ)
    (b : Dev nD → Fin 512 → ℝ) : Prop where
  a0 (c : Dev nD) : m ((c.tc : Thread nD τ).loc main_arg0) = re2 (D c)
  a1 (c : Dev nD) : m ((c.tc : Thread nD τ).loc main_arg1) = re2 (Y c)
  a2 (c : Dev nD) : m ((c.tc : Thread nD τ).loc main_arg2) = re2 (U c)
  a3 (c : Dev nD) : m ((c.tc : Thread nD τ).loc main_arg3) = row (d c)
  a4 (c : Dev nD) : m ((c.tc : Thread nD τ).loc main_arg4) = re2 (W c)
  a5 (c : Dev nD) : m ((c.tc : Thread nD τ).loc main_arg5) = row (b c)

theorem exists_args (h : Pre_Kernel2Ideal_s5_read_finite m) : ∃ D Y U d W b, Args m D Y U d W b := by
  choose D hD using fun c : Dev nD => exists_re2 (m ((c.tc : Thread nD τ).loc main_arg0)) _ (h c).1
  choose Y hY using fun c : Dev nD => exists_re2 (m ((c.tc : Thread nD τ).loc main_arg1)) _ (h c).2.1
  choose U hU using fun c : Dev nD => exists_re2 (m ((c.tc : Thread nD τ).loc main_arg2)) _ (h c).2.2.1
  choose d hd using fun c : Dev nD => exists_row (m ((c.tc : Thread nD τ).loc main_arg3)) _ (h c).2.2.2.1
  choose W hW using fun c : Dev nD => exists_re2 (m ((c.tc : Thread nD τ).loc main_arg4)) _ (h c).2.2.2.2.1
  choose b hb using fun c : Dev nD => exists_row (m ((c.tc : Thread nD τ).loc main_arg5)) _ (h c).2.2.2.2.2
  exact ⟨D, Y, U, d, W, b, ⟨hD, hY, hU, hd, hW, hb⟩⟩

variable {m} {D Y U : Dev nD → Fin 4096 → Fin 512 → ℝ} {d : Dev nD → Fin 512 → ℝ} {W : Dev nD → Fin 512 → Fin 512 → ℝ} {b : Dev nD → Fin 512 → ℝ}

/-- The region reads the rows in the order of segments. -/
theorem inputs (h : Args m D Y U d W b) (c : Dev nD) :
    Kernel.Inputs m c (fun r => D c (seg r)) (fun r => Y c (seg r)) (fun r => U c (seg r)) (d c) (W c) (b c) :=
  ⟨Kernel.entry_d m c _ (h.a0 c), Kernel.entry_y m c _ (h.a1 c), Kernel.entry_u m c _ (h.a2 c), (V_main_arg3 m c).trans (h.a3 c),
    Kernel.entry_w m c _ (h.a4 c), (V_main_arg5 m c).trans (h.a5 c)⟩

theorem results (h : Args m D Y U d W b) (c : Dev nD) :
    Pipeline.afterTail₀ cfgs (dats m) 0 (V0 m) [hostOps1] c main_v14 = (re2 fun r k => dpre (D c r) (Y c r) (U c r) (d c) (W c) (b c) k)
    ∧ Pipeline.afterTail₀ cfgs (dats m) 0 (V0 m) [hostOps1] c main_v17 = (re2 fun r k => d c k * dpre (D c r) (Y c r) (U c r) (d c) (W c) (b c) k)
    ∧ Pipeline.afterTail₀ cfgs (dats m) 0 (V0 m) [hostOps1] c main_v19 = (row fun k => ∑ r, dpre (D c r) (Y c r) (U c r) (d c) (W c) (b c) k * U c r k)
    ∧ (dats m 0 c).arrAt 9 cfg0.N = (re2 fun j k => ∑ r, dz (D c r) (Y c r) (U c r) (d c) (W c) (b c) k * ge (Y c r) (U c r) (d c) j)
    ∧ Pipeline.afterTail₀ cfgs (dats m) 0 (V0 m) [hostOps1] c main_v21 = (row fun k => ∑ r, dz (D c r) (Y c r) (U c r) (d c) (W c) (b c) k) := by
  have hin := inputs h c
  refine ⟨(Kernel.tail14 (Kernel.arr6 hin)).trans ?_, (Kernel.tail17 (Kernel.arr7 hin)).trans ?_, (Kernel.tail19 (Kernel.arr8 hin)).trans ?_,
    (Kernel.arr9 hin).trans ?_, (Kernel.tail21 (Kernel.arr10 hin)).trans ?_⟩
  · exact re2_congr fun r k => by rw [seg_unseg]
  · exact re2_congr fun r k => by rw [seg_unseg]
  · exact row_congr fun k => (Kernel.sum_groups fun r => dpre (D c (seg r)) (Y c (seg r)) (U c (seg r)) (d c) (W c) (b c) k * U c (seg r) k).trans
      (sum_seg fun r => dpre (D c r) (Y c r) (U c r) (d c) (W c) (b c) k * U c r k)
  · exact re2_congr fun j k => (sum_seg fun r => ge (Y c r) (U c r) (d c) j * dz (D c r) (Y c r) (U c r) (d c) (W c) (b c) k).trans
      (Finset.sum_congr rfl fun r _ => mul_comm _ _)
  · exact row_congr fun k => (Kernel.sum_groups fun r => dz (D c (seg r)) (Y c (seg r)) (U c (seg r)) (d c) (W c) (b c) k).trans
      (sum_seg fun r => dz (D c r) (Y c r) (U c r) (d c) (W c) (b c) k)

end Kernel

/-- The reference leaves its arguments alone, and declares no semaphore. -/
theorem reference_frame : Cert.quiescent_Reference2Ideal := fun m ρ _ =>
  (θ_run Cert.Reference2Ideal.defs _ _).mono
    (fun r h => ⟨fun c => (h c).2.2.2.2.2, sem_eq_zero_of_no_sems (by decide) r.2⟩) (Reference2Ideal.Value.run (F := Ideal) m ρ)

theorem algebraic : Cert.algebraic_Kernel2Ideal_Reference2Ideal_pre_s5_read_finite := by
  intro m g m' g' hpre hagree
  obtain ⟨D, Y, U, d, W, b, h⟩ := exists_args m hpre
  refine ⟨fun c => re2 fun r k => dpre (D c r) (Y c r) (U c r) (d c) (W c) (b c) k,
    fun c => re2 fun r k => d c k * dpre (D c r) (Y c r) (U c r) (d c) (W c) (b c) k,
    fun c => row fun k => ∑ r, dpre (D c r) (Y c r) (U c r) (d c) (W c) (b c) k * U c r k,
    fun c => re2 fun j k => ∑ r, dz (D c r) (Y c r) (U c r) (d c) (W c) (b c) k * ge (Y c r) (U c r) (d c) j,
    fun c => row fun k => ∑ r, dz (D c r) (Y c r) (U c r) (d c) (W c) (b c) k, ?_, ?_⟩
  · refine θ_run_mono (θ_run_and (Kernel2Ideal.Gen.run_main m g) (Kernel2Ideal.Gen.unchanged m g)) ?_
    rintro r ⟨hr, hu⟩ c
    obtain ⟨h0, h1, h2, h3, h4⟩ := results h c
    exact ⟨(hr.rest_eq c _ (by decide)).trans h0, (hr.rest_eq c _ (by decide)).trans h1, (hr.rest_eq c _ (by decide)).trans h2,
      (hr.out_eq c 9).trans h3, (hr.rest_eq c _ (by decide)).trans h4, hu c⟩
  · refine θ_run_mono (Reference2Ideal.Value.run (F := Ideal) m' g') ?_
    intro r hr c
    obtain ⟨h0, h1, h2, h3, h4, hu⟩ := hr c
    obtain ⟨e0, e1, e2, e3, e4, e5⟩ := hagree c
    rw [h.a0 c] at e0
    rw [h.a1 c] at e1
    rw [h.a2 c] at e2
    rw [h.a3 c] at e3
    rw [h.a4 c] at e4
    rw [h.a5 c] at e5
    refine ⟨h0.trans ?_, h1.trans ?_, h2.trans ?_, h3.trans ?_, h4.trans ?_, hu⟩
    · rw [Reference2Ideal.Read.val_main_v57_eq, e0, e1, e2, e3, e4, e5]
      exact Reference.v57_re _ _ _ _ _ _
    · rw [Reference2Ideal.Read.val_main_v59_eq, e0, e1, e2, e3, e4, e5]
      exact Reference.v59_re _ _ _ _ _ _
    · rw [Reference2Ideal.Read.val_main_v62_eq, e0, e1, e2, e3, e4, e5]
      exact Reference.v62_re _ _ _ _ _ _
    · rw [Reference2Ideal.Read.val_main_v43_eq, e0, e1, e2, e3, e4, e5]
      exact Reference.v43_re _ _ _ _ _ _
    · rw [Reference2Ideal.Read.val_main_v41_eq, e0, e1, e2, e3, e4, e5]
      exact Reference.v41_re _ _ _ _ _ _

end Cert.Read
-- ==== Proof.ActMath.lean ====
/-
  The feed-forward gate's backward call in real numbers: the gate is `silu gate * up`, the block adds half of its product
  with the output matrix.
-/
module

public import proofs.«01_k».proof.Proof.ReadMath

@[expose] public section

noncomputable section

namespace Cert.Act

open Idealize.ShloMosaic Cert.Reals
open scoped BigOperators

/-- The derivatives of `silu gate * up` in `gate` and in `up`. -/
def dg (g u : ℝ) : ℝ := u * (sg g + g * sg g * (1 - sg g))
def du (g : ℝ) : ℝ := g * sg g

variable {n k : ℕ} (D : Fin k → ℝ) (W : Fin n → Fin k → ℝ)

/-- The gradient of the gated row, from half the gradient of the block's output. -/
def da (c : Fin n) : ℝ := ∑ j, 1 / 2 * D j * W c j

end Cert.Act
-- ==== Proof.ActFrame.lean ====
/-
  The frame of the gated unit's backward kernel.  The kernel copies its two arrays of saved derivatives itself, each
  through a ring of three slots two blocks ahead.  A point of the grid is of one of three kinds: the first starts the
  first three copies, the middle ones wait for one block and start another, the last two only wait.  What a point does
  to the rings is stated for one ring and used for both; what it does to the staged blocks is stated for all three kinds.
-/
module

public import proofs.«01_k».proof.Proof.Gen.Kernel3Ideal.Frame.RunC
public import Idealize.ShloMosaic.Lib.Claim

@[expose] public section

set_option maxRecDepth 16384

noncomputable section

namespace Cert.Act.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

/-- The propositions of this kernel's heap. -/
abbrev P (F : FTy → Type) [FloatOps F] : Type := sProp (MT nD τ sig Unit (Elt F) ℕ (Pipeline.UD sig nD τ) ℕ)

/-! ## One ring at a point of each kind -/

section Rings

variable {C : Fin 3 → Type _} (cell : Fin 3 → P F) (slot : (s : Fin 3) → C s → P F) (flight : (s : Fin 3) → Fin 8 → C s → P F)

/-- The ring before step `k`: untouched before the first. -/
def ring (k : ℕ) : P F :=
  if k = 0 then Ring.At₀ cell slot (fun _ : Fin 8 => iprop(emp)) else Ring.At 2 cell slot (fun _ : Fin 8 => iprop(emp)) flight k

theorem ring_first (k : ℕ) (h : k = 0) : ring cell slot flight k
    ⊢ iprop(Ring.free cell slot (Ring.sl 3 k) ∗ Ring.free cell slot (Ring.sl 3 (k + 1)) ∗ Ring.free cell slot (Ring.sl 3 (k + 2))) := by
  unfold ring
  rw [if_pos h, Ring.At₀_eq3' _ _ _ k h (by decide)]
  iintro ⟨-, H⟩; iexact H

theorem ring_second (k : ℕ) (h : k = 0) :
    iprop(Ring.inflight flight (Ring.sl 3 (k + 1)) (Ring.bk 8 (k + 1)) ∗ Ring.inflight flight (Ring.sl 3 (k + 2)) (Ring.bk 8 (k + 2)) ∗ Ring.free cell slot (Ring.sl 3 k))
      ⊢ ring cell slot flight (k + 1) := by
  unfold ring
  rw [if_neg (by omega), Ring.At3_one' _ _ _ _ k h (by decide)]
  exact Ring.with_homes (Idealize.SL.BI.Entails.refl _)

theorem ring_here (k : ℕ) (h : k ≠ 0) (hB : k + 2 < 8) : ring cell slot flight k
    ⊢ iprop(Ring.inflight flight (Ring.sl 3 k) (Ring.bk 8 k) ∗ Ring.inflight flight (Ring.sl 3 (k + 1)) (Ring.bk 8 (k + 1)) ∗ Ring.free cell slot (Ring.sl 3 (k + 2))) := by
  unfold ring
  rw [if_neg h, Ring.At3_here _ _ _ _ k hB]
  iintro ⟨-, H⟩; iexact H

theorem ring_next (k : ℕ) (hB : k + 2 < 8) :
    iprop(Ring.inflight flight (Ring.sl 3 (k + 1)) (Ring.bk 8 (k + 1)) ∗ Ring.inflight flight (Ring.sl 3 (k + 2)) (Ring.bk 8 (k + 2)) ∗ Ring.free cell slot (Ring.sl 3 k))
      ⊢ ring cell slot flight (k + 1) := by
  unfold ring
  rw [if_neg (by omega), Ring.At3_next _ _ _ _ k hB, Ring.slotAt3_next0 _ _ _ k (by omega), Ring.slotAt3_next1 _ _ _ k hB]
  exact Ring.with_homes (Idealize.SL.BI.Entails.refl _)

theorem ring_here_tail (k : ℕ) (h : k ≠ 0) (hk : k < 8) : ring cell slot flight k
    ⊢ iprop(Ring.inflight flight (Ring.sl 3 k) (Ring.bk 8 k) ∗ Ring.slotAt 2 cell slot flight k 1 ∗ Ring.free cell slot (Ring.sl 3 (k + 2))) := by
  unfold ring
  rw [if_neg h, Ring.At3_here_tail _ _ _ _ k hk]
  iintro ⟨-, H⟩; iexact H

theorem ring_next_tail (k : ℕ) (hB : 8 ≤ k + 2) (hk : k < 8) :
    iprop(Ring.slotAt 2 cell slot flight k 1 ∗ Ring.free cell slot (Ring.sl 3 (k + 2)) ∗ Ring.free cell slot (Ring.sl 3 k))
      ⊢ ring cell slot flight (k + 1) := by
  unfold ring
  rw [if_neg (by omega), Ring.At3_next_tail _ _ _ _ k hB hk, Ring.slotAt3_tail_role]
  exact Ring.with_homes (Idealize.SL.BI.Entails.refl _)

end Rings

variable (m : (ℓ : Loc nD τ sig) → Buf (Elt F) ℓ) (ρ : Dev nD → PrngReg)

/-! ## What the points store -/

/-- The stores into the three outputs' blocks. -/
abbrev Stores (F : FTy → Type) [FloatOps F] : Type :=
  List (View.Piece (Elt F) S512x2816 .bf16) × List (View.Piece (Elt F) S512x2816 .bf16) × List (View.Piece (Elt F) S512x1024 .bf16)

/-- The run of the first point. -/
abbrev run_first (c : Dev nD) (t : Fin cfg0.N) (h0 : cond0_0 (grid0.coords t)) (h1 : cond0_1 (grid0.coords t)) :=
  kernelRun0_A c t (ms0_0 t) (hs0_0 t) (ms0_1 t) (hs0_1 t) (ms0_2 t) (hs0_2 t) (ms0_3 t) (hs0_3 t) (ms0_4 t) (hs0_4 t) h0 h1 (iblk m c 0 t) (iblk m c 1 t) (V m c main_v7) (V m c main_v8)

/-- The run of a middle point. -/
abbrev run_middle (c : Dev nD) (t : Fin cfg0.N) (h0 : ¬cond0_0 (grid0.coords t)) (h1 : cond0_1 (grid0.coords t)) :=
  kernelRun0_B c t (ms0_0 t) (hs0_0 t) (ms0_1 t) (hs0_1 t) (ms0_2 t) (hs0_2 t) (ms0_3 t) (hs0_3 t) (ms0_4 t) (hs0_4 t) h0 h1 (iblk m c 0 t) (iblk m c 1 t) (V m c main_v7) (V m c main_v8)

/-- The run of one of the last two points. -/
abbrev run_late (c : Dev nD) (t : Fin cfg0.N) (h0 : ¬cond0_0 (grid0.coords t)) (h1 : ¬cond0_1 (grid0.coords t)) :=
  kernelRun0_C c t (ms0_0 t) (hs0_0 t) (ms0_1 t) (hs0_1 t) (ms0_2 t) (hs0_2 t) (ms0_3 t) (hs0_3 t) (ms0_4 t) (hs0_4 t) h0 h1 (iblk m c 0 t) (iblk m c 1 t) (V m c main_v7) (V m c main_v8)

/-- What the point stores, by its kind. -/
def stores (c : Dev nD) (t : Fin cfg0.N) : Stores F :=
  if h0 : cond0_0 (grid0.coords t) then
    if h1 : cond0_1 (grid0.coords t) then
      let r := run_first m c t h0 h1
      (r.1, r.2.1, r.2.2.1)
    else ([], [], [])
  else
    if h1 : cond0_1 (grid0.coords t) then
      let r := run_middle m c t h0 h1
      (r.1, r.2.1, r.2.2.1)
    else
      let r := run_late m c t h0 h1
      (r.1, r.2.1, r.2.2.1)

theorem stores_first (c : Dev nD) (t : Fin cfg0.N) (h0 : cond0_0 (grid0.coords t)) (h1 : cond0_1 (grid0.coords t)) :
    stores m c t = ((run_first m c t h0 h1).1, (run_first m c t h0 h1).2.1, (run_first m c t h0 h1).2.2.1) := by
  unfold stores; rw [dif_pos h0, dif_pos h1]

theorem stores_middle (c : Dev nD) (t : Fin cfg0.N) (h0 : ¬cond0_0 (grid0.coords t)) (h1 : cond0_1 (grid0.coords t)) :
    stores m c t = ((run_middle m c t h0 h1).1, (run_middle m c t h0 h1).2.1, (run_middle m c t h0 h1).2.2.1) := by
  unfold stores; rw [dif_neg h0, dif_pos h1]

theorem stores_late (c : Dev nD) (t : Fin cfg0.N) (h0 : ¬cond0_0 (grid0.coords t)) (h1 : ¬cond0_1 (grid0.coords t)) :
    stores m c t = ((run_late m c t h0 h1).1, (run_late m c t h0 h1).2.1, (run_late m c t h0 h1).2.2.1) := by
  unfold stores; rw [dif_neg h0, dif_neg h1]

/-- The rings before step `k`, and the generator's register. -/
def Inv (c : Dev nD) (k : ℕ) : P F :=
  iprop((∃ r, prngReg c r) ∗ ring (cellP0_0 c) (slotW0_0 c (V m c main_v7)) (flightW0_0 c (V m c main_v7)) k
    ∗ ring (cellP0_1 c) (slotW0_1 c (V m c main_v8)) (flightW0_1 c (V m c main_v8)) k)

/-- The region's data: the inputs' blocks stay, the outputs' blocks end at what the point's stores leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => VO0_2.read (Elt F) (VO0_2.writes (Elt F) VO0_2.junk (stores m c t).1)
    | ⟨3, _⟩ => VO0_3.read (Elt F) (VO0_3.writes (Elt F) VO0_3.junk (stores m c t).2.1)
    | ⟨4, _⟩ => VO0_4.read (Elt F) (VO0_4.writes (Elt F) VO0_4.junk (stores m c t).2.2)
  Φ t := Inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = VO0_2.read (Elt F) (VO0_2.writes (Elt F) VO0_2.junk (stores m c t).1) := by dsimp only [dats]
theorem after3 (c : Dev nD) (t : Fin cfg0.N) :
    (dats m 0 c).after 3 t = VO0_3.read (Elt F) (VO0_3.writes (Elt F) VO0_3.junk (stores m c t).2.1) := by dsimp only [dats]
theorem after4 (c : Dev nD) (t : Fin cfg0.N) :
    (dats m 0 c).after 4 t = VO0_4.read (Elt F) (VO0_4.writes (Elt F) VO0_4.junk (stores m c t).2.2) := by dsimp only [dats]

/-! ## A point's body -/

/-- The staged blocks before the point. -/
abbrev Pre (c : Dev nD) (t : Fin cfg0.N) : P F :=
  iprop((∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- The staged blocks after it. -/
abbrev Post (c : Dev nD) (t : Fin cfg0.N) : P F :=
  iprop(owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- A run of the body: from the staged blocks and the six roles `Q` of the two rings' slots to the stores and the
    roles `Q'`. -/
abbrev Runs (c : Dev nD) (t : Fin cfg0.N) (L : Stores F) (Q Q' : Fin 6 → P F) : Prop :=
  ∀ (W : Waits sig Unit) (K : PUnit → P F),
    iprop(owns (c : Thread nD τ) (ms0_0 t) fullShare (iblk m c 0 t) ∗ owns (c : Thread nD τ) (ms0_1 t) fullShare (iblk m c 1 t)
        ∗ (∃ d, owns (c : Thread nD τ) (ms0_2 t) fullShare d) ∗ (∃ d, owns (c : Thread nD τ) (ms0_3 t) fullShare d) ∗ (∃ d, owns (c : Thread nD τ) (ms0_4 t) fullShare d)
        ∗ Q 0 ∗ Q 1 ∗ Q 2 ∗ Q 3 ∗ Q 4 ∗ Q 5 ∗ owes (c : Thread nD τ) 0 W
        ∗ (iprop(owns (c : Thread nD τ) (ms0_0 t) fullShare (iblk m c 0 t) ∗ owns (c : Thread nD τ) (ms0_1 t) fullShare (iblk m c 1 t)
            ∗ (∃ f, (ms0_2 t).view.loc (c : Thread nD τ) ↦[(ms0_2 t).view.set]{fullShare} (ms0_2 t).view.writes (Elt F) f L.1)
            ∗ (∃ f, (ms0_3 t).view.loc (c : Thread nD τ) ↦[(ms0_3 t).view.set]{fullShare} (ms0_3 t).view.writes (Elt F) f L.2.1)
            ∗ (∃ f, (ms0_4 t).view.loc (c : Thread nD τ) ↦[(ms0_4 t).view.set]{fullShare} (ms0_4 t).view.writes (Elt F) f L.2.2)
            ∗ Q' 0 ∗ Q' 1 ∗ Q' 2 ∗ Q' 3 ∗ Q' 4 ∗ Q' 5 ∗ (∃ W', owes (c : Thread nD τ) 0 W')) -∗ K ⟨⟩))
      ⊢ wp frame (wpE (defs₀ (F := F)) Variants.none c none) Set.univ (bodyAt0 t) K

/-- A list of stores covers its block. -/
abbrev Covers {S : Shape} {e : EltTy} (L : List (View.Piece (Elt F) S e)) : Prop := ∀ y, ∃ pc ∈ L, y ∈ pc.1.set

/-- The point's obligation. -/
abbrev Meets (c : Dev nD) (t : Fin cfg0.N) : Prop :=
  iprop((dats m 0 c).Φ t.castSucc ∗ (dats m 0 c).owesAt () t.castSucc ∗ Pre m c t)
    ⊢ wp frame (wpE (defs₀ (F := F)) Variants.none c none) Set.univ (bodyAt0 t)
        (fun _ => iprop((dats m 0 c).Φ t.succ ∗ (dats m 0 c).owesAt () t.succ ∗ Post m c t))

/-- A point whose body runs as `Runs` says, with stores that cover their blocks, meets its obligation. -/
theorem point (c : Dev nD) (t : Fin cfg0.N) (Q Q' : Fin 6 → P F)
    (run : Runs m c t (stores m c t) Q Q') (h2 : Covers (stores m c t).1) (h3 : Covers (stores m c t).2.1) (h4 : Covers (stores m c t).2.2)
    (i0 : ring (cellP0_0 c) (slotW0_0 c (V m c main_v7)) (flightW0_0 c (V m c main_v7)) t.val ⊢ iprop(Q 0 ∗ Q 1 ∗ Q 2))
    (i1 : ring (cellP0_1 c) (slotW0_1 c (V m c main_v8)) (flightW0_1 c (V m c main_v8)) t.val ⊢ iprop(Q 3 ∗ Q 4 ∗ Q 5))
    (o0 : iprop(Q' 0 ∗ Q' 1 ∗ Q' 2) ⊢ ring (cellP0_0 c) (slotW0_0 c (V m c main_v7)) (flightW0_0 c (V m c main_v7)) (t.val + 1))
    (o1 : iprop(Q' 3 ∗ Q' 4 ∗ Q' 5) ⊢ ring (cellP0_1 c) (slotW0_1 c (V m c main_v8)) (flightW0_1 c (V m c main_v8)) (t.val + 1)) :
    Meets m c t := by
  have b0 := before0_0_of m (dats m 0 c) (A_eq m c 0) (after0 m c) t
  have b1 := before0_1_of m (dats m 0 c) (A_eq m c 1) (after1 m c) t
  unfold Meets Pre Post
  simp only [b0, b1]
  rw [after0, after1, after2, after3, after4]
  rw [show (dats m 0 c).Φ t.castSucc = Inv m c t.val from rfl, show (dats m 0 c).Φ t.succ = Inv m c (t.val + 1) from rfl]
  unfold Dat.owesAt Pipeline.owesWithin
  rw [show (dats m 0 c).owed t.castSucc = 0 from rfl, show (dats m 0 c).owed t.succ = 0 from rfl]
  unfold Inv
  generalize (stores m c t) = L at *
  iintro ⟨⟨Hg, HA, HB⟩, ⟨%W, -, HW⟩, ⟨%d0, H0⟩, ⟨%d1, H1⟩, ⟨%d2, H2⟩, ⟨%d3, H3⟩, ⟨%d4, H4⟩⟩
  ihave HA' := i0 $$ HA
  ihave HB' := i1 $$ HB
  icases HA' with ⟨HA0, HA1, HA2⟩
  icases HB' with ⟨HB0, HB1, HB2⟩
  iapply (run W _)
  isplitl [H0]; · iexact H0
  isplitl [H1]; · iexact H1
  isplitl [H2]; · iexists _; iexact H2
  isplitl [H3]; · iexists _; iexact H3
  isplitl [H4]; · iexists _; iexact H4
  isplitl [HA0]; · iexact HA0
  isplitl [HA1]; · iexact HA1
  isplitl [HA2]; · iexact HA2
  isplitl [HB0]; · iexact HB0
  isplitl [HB1]; · iexact HB1
  isplitl [HB2]; · iexact HB2
  isplitl [HW]; · iexact HW
  iintro ⟨H0, H1, ⟨%e2, H2⟩, ⟨%e3, H3⟩, ⟨%e4, H4⟩, HA0, HA1, HA2, HB0, HB1, HB2, ⟨%W', HW'⟩⟩
  isplitl [Hg HA0 HA1 HA2 HB0 HB1 HB2]
  · isplitl [Hg]; · iexact Hg
    isplitl [HA0 HA1 HA2]
    · iapply o0
      isplitl [HA0]; · iexact HA0
      isplitl [HA1]; · iexact HA1
      iexact HA2
    iapply o1
    isplitl [HB0]; · iexact HB0
    isplitl [HB1]; · iexact HB1
    iexact HB2
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro; exact View.read_writes_of_cover _ _ _ _ _ h2
  isplitl [H3]
  · unfold owns; iexists _; isplitr
    swap; · iexact H3
    ipureintro; exact View.read_writes_of_cover _ _ _ _ _ h3
  unfold owns; iexists _; isplitr
  swap; · iexact H4
  ipureintro; exact View.read_writes_of_cover _ _ _ _ _ h4

/-- The first point. -/
theorem first (c : Dev nD) (t : Fin cfg0.N) (h0 : cond0_0 (grid0.coords t)) (h1 : cond0_1 (grid0.coords t)) : Meets m c t := by
  have e : t.val = 0 := (rstep0_0_A t h0 h1).1
  have es := stores_first m c t h0 h1
  refine point m c t ![_, _, _, _, _, _] ![_, _, _, _, _, _] (es ▸ (run_first m c t h0 h1).2.2.2) ?_ ?_ ?_
    (ring_first _ _ _ _ e) (ring_first _ _ _ _ e) (ring_second _ _ _ _ e) (ring_second _ _ _ _ e) <;> rw [es]
  · exact View.cover_of_tiledBy _ ![512, 256] (by sl_kernel_rfl)
  · exact View.cover_of_tiledBy _ ![512, 256] (by sl_kernel_rfl)
  · exact View.cover_of_tiledL _ S512x1024.size (by sl_kernel_rfl)

/-- A middle point. -/
theorem middle (c : Dev nD) (t : Fin cfg0.N) (h0 : ¬cond0_0 (grid0.coords t)) (h1 : cond0_1 (grid0.coords t)) : Meets m c t := by
  obtain ⟨h, hB, -⟩ := rstep0_0_B t h0 h1
  have e : t.val ≠ 0 := by omega
  have es := stores_middle m c t h0 h1
  refine point m c t ![_, _, _, _, _, _] ![_, _, _, _, _, _] (es ▸ (run_middle m c t h0 h1).2.2.2) ?_ ?_ ?_
    (ring_here _ _ _ _ e hB) (ring_here _ _ _ _ e hB) (ring_next _ _ _ _ hB) (ring_next _ _ _ _ hB) <;> rw [es]
  · exact View.cover_of_tiledBy _ ![512, 256] (by sl_kernel_rfl)
  · exact View.cover_of_tiledBy _ ![512, 256] (by sl_kernel_rfl)
  · exact View.cover_of_tiledL _ S512x1024.size (by sl_kernel_rfl)

/-- One of the last two points. -/
theorem late (c : Dev nD) (t : Fin cfg0.N) (h0 : ¬cond0_0 (grid0.coords t)) (h1 : ¬cond0_1 (grid0.coords t)) : Meets m c t := by
  obtain ⟨h, hB, hk, -⟩ := rstep0_0_C t h0 h1
  have e : t.val ≠ 0 := by omega
  have es := stores_late m c t h0 h1
  refine point m c t ![_, _, _, _, _, _] ![_, _, _, _, _, _] (es ▸ (run_late m c t h0 h1).2.2.2) ?_ ?_ ?_
    (ring_here_tail _ _ _ _ e hk) (ring_here_tail _ _ _ _ e hk) (ring_next_tail _ _ _ _ hB hk) (ring_next_tail _ _ _ _ hB hk) <;> rw [es]
  · exact View.cover_of_tiledBy _ ![512, 256] (by sl_kernel_rfl)
  · exact View.cover_of_tiledBy _ ![512, 256] (by sl_kernel_rfl)
  · exact View.cover_of_tiledL _ S512x1024.size (by sl_kernel_rfl)

theorem body (c : Dev nD) (t : Fin cfg0.N) : Meets m c t := by
  have hN : t.val < 8 := lt_of_lt_of_eq t.isLt N_0
  by_cases h0 : cond0_0 (grid0.coords t)
  · exact first m c t h0 ((hcond0_1 t).mpr (by have := (hcond0_0 t).mp h0; omega))
  · by_cases h1 : cond0_1 (grid0.coords t)
    · exact middle m c t h0 h1
    · exact late m c t h0 h1

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body m c t) rfl .rfl fun _ => .rfl

/-! ## The run -/

/-- What the launch hands the region gives the rings before the first point, -/
theorem enter (c : Dev nD) : Pipeline.ΦD osem0 spec0 H0 (V m) c ⊢ (dats m 0 c).Φ 0 := by
  rw [PhiD0_eq, show (dats m 0 c).Φ 0 = iprop((∃ r, prngReg c r) ∗ ringAt0_0 c (V m c main_v7) 0 ∗ ringAt0_1 c (V m c main_v8) 0) from rfl]
  iintro ⟨⟨HA, HB⟩, Hg, ⟨Q0, Q1, Q2, Q3, Q4, Q5⟩, ⟨XA, XB⟩⟩
  isplitl [Hg]; · iexact Hg
  isplitl [HA Q0 Q1 Q2 XA]
  · iapply (ring0_0_in (F := F) m c)
    isplitl [HA]; · iexact HA
    isplitl [Q0 Q1 Q2]
    · isplitl [Q0]; · iexact Q0
      isplitl [Q1]; · iexact Q1
      iexact Q2
    iexact XA
  iapply (ring0_1_in (F := F) m c)
  isplitl [HB]; · iexact HB
  isplitl [Q3 Q4 Q5]
  · isplitl [Q3]; · iexact Q3
    isplitl [Q4]; · iexact Q4
    iexact Q5
  iexact XB

/-- and the rings after the last point give it back. -/
theorem leave (c : Dev nD) : (dats m 0 c).Φ (Fin.last cfg0.N) ⊢ Pipeline.ΦD osem0 spec0 H0 (V m) c := by
  rw [PhiD0_eq, show (dats m 0 c).Φ (Fin.last cfg0.N) = iprop((∃ r, prngReg c r) ∗ ringAt0_0 c (V m c main_v7) grid0.N ∗ ringAt0_1 c (V m c main_v8) grid0.N) from rfl, N_0]
  iintro ⟨Hg, RA, RB⟩
  ihave YA := (ring0_0_out (F := F) m c) $$ RA
  ihave YB := (ring0_1_out (F := F) m c) $$ RB
  icases YA with ⟨HA, ⟨Q0, Q1, Q2⟩, XA⟩
  icases YB with ⟨HB, ⟨Q3, Q4, Q5⟩, XB⟩
  isplitl [HA HB]
  · isplitl [HA]; · iexact HA
    iexact HB
  isplitl [Hg]; · iexact Hg
  isplitl [Q0 Q1 Q2 Q3 Q4 Q5]
  · isplitl [Q0]; · iexact Q0
    isplitl [Q1]; · iexact Q1
    isplitl [Q2]; · iexact Q2
    isplitl [Q3]; · iexact Q3
    isplitl [Q4]; · iexact Q4
    iexact Q5
  isplitl [XA]; · iexact XA
  iexact XB

set_option backward.isDefEq.respectTransparency.types false in
set_option maxHeartbeats 800000 in
/-- Every run ends, with the arrays at what the points leave and every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := enter m) (hout := leave m)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The arguments end as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  frame_of m ρ (dats m) (A_eq m) (run m ρ)

/-- The frame, at any values of the floats. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0) :=
  θ_run_and (unchanged m ρ) ((θ_run defs _ _).mono (fun _ h => h.2) (run_quiescent m ρ))

end Cert.Act.Frame
-- ==== Proof.ActKernel.lean ====
/-
  The gated unit's backward kernel at the reals: what it reads of a ring's slot, and the values one block of 512 rows
  stores.
-/
module

public import proofs.«01_k».proof.Proof.ActMath
public import proofs.«01_k».proof.Proof.ActFrame
public import Idealize.ShloMosaic.Lib.Pipeline.ValueKit

@[expose] public section

noncomputable section

namespace Cert.Act.Kernel

open Idealize.ShloMosaic hiding ix1 ix2 ix3
open Idealize.ShloMosaic.ValueIdx
open Cert.Kernel3Ideal Cert.Kernel3Ideal.Gen Cert.Reals
open scoped BigOperators

/-- Column `c` of the `n` columns from column `o`. -/
def part {n : ℕ} (o : ℕ) (ho : o + n ≤ 2816) (c : Fin n) : Fin 2816 := ⟨o + c.val, by omega⟩

/-- Columns `o …` of slot `s`, read as a matrix, are those columns of what the slot was filled with. -/
theorem slot_read (M : Memref sig .tc .vmem S3x512x2816 .bf16) (s : ℕ) (f : M.view.ty.Contents (Elt Ideal)) (G : Fin 512 → Fin 2816 → ℝ)
    (hs : ∀ a, (![s, 0, 0] : Fin 3 → ℕ) a + S1x512x2816.size a ≤ S3x512x2816.size a) (hr)
    (hf : ((M.slice (Rect.unit (s := S3x512x2816) ![s, 0, 0] S1x512x2816.size hs) hr).squeeze S512x2816 squeezes_S1x512x2816_S512x2816).view.read (Elt Ideal) f
      = re2 G)
    {n : ℕ} (o : ℕ) (ho : o + n ≤ 2816) (off : Fin 3 → ℕ) (he : off = ![s, 0, o])
    (inb : ∀ a, off a + (![1, 512, n] : Fin 3 → ℕ) a ≤ S3x512x2816.size a)
    (hc : (⟨3, ![1, 512, n]⟩ : Shape).ShapeCasts ⟨2, ![512, n]⟩) :
    shapeCast ⟨2, ![512, n]⟩ (M.view.readAt (Elt Ideal) (Rect.unit (s := S3x512x2816) off ![1, 512, n] inb).toLoadRect f) hc
      = re2 fun r c => G r (part o ho c) := by
  subst he
  funext j
  have h := congrFun hf (ix2 (j 0) (part o ho (j 1)))
  rw [Memref.read_squeeze_slice (hc := (by decide : S1x512x2816.ShapeCasts S512x2816)), shapeCast_dropUnit_apply] at h
  rw [shapeCast_dropUnit_apply]
  refine Eq.trans ?_ h
  rw [View.readAt_apply, View.readAt_apply]
  refine congrArg _ (funext fun a => Fin.ext ?_)
  fin_cases a <;> simp [part]
  all_goals rfl

theorem nt768 (f : Fin 512 → Fin 1024 → ℝ) (g : Fin 768 → Fin 1024 → ℝ) :
    matmul (F := Ideal) (φ₁ := .bf16) (φ₂ := .bf16) dot_S512x1024_S768x1024_S512x768_1_1_0_0_n_n none
      (re2 f) (re2 g) (constant S512x768 .f32 0x00000000#32) = re2 fun r c => ∑ k, f r k * g c k := matmulNT none _ _ _
theorem nt512 (f : Fin 512 → Fin 1024 → ℝ) (g : Fin 512 → Fin 1024 → ℝ) :
    matmul (F := Ideal) (φ₁ := .bf16) (φ₂ := .bf16) dot_S512x1024_S512x1024_S512x512_1_1_0_0_n_n none
      (re2 f) (re2 g) (constant S512x512 .f32 0x00000000#32) = re2 fun r c => ∑ k, f r k * g c k := matmulNT none _ _ _

section Payloads

variable (D : Fin 512 → Fin 1024 → ℝ) (W : Fin 768 → Fin 1024 → ℝ) (W' : Fin 512 → Fin 1024 → ℝ)

theorem pay2_re : k0_pay2 (F := Ideal) (re2 D) = re2 fun r k => 1 / 2 * D r k := by
  unfold k0_pay2; dsimp only; exact (congrArg (mulf · _) (const2 Read.ofBits_half)).trans (mul2 _ _)

theorem pay32_re : k0_pay3 (F := Ideal) (k0_pay2 (re2 D)) = re2 fun r k => 1 / 2 * D r k := by
  rw [pay2_re]; unfold k0_pay3; dsimp only; rw [trunc2]

theorem pay4_re : k0_pay4 (F := Ideal) (k0_pay2 (re2 D)) (re2 W) = re2 fun r c => da (D r) W c := by
  unfold k0_pay4; dsimp only; rw [pay32_re, shapeCast_self, nt768]; rfl
theorem pay7_re : k0_pay7 (F := Ideal) (k0_pay2 (re2 D)) (re2 W) = re2 fun r c => da (D r) W c := pay4_re D W
theorem pay11_re : k0_pay11 (F := Ideal) (k0_pay3 (k0_pay2 (re2 D))) (re2 W) = re2 fun r c => da (D r) W c := pay4_re D W
theorem pay14_re : k0_pay14 (F := Ideal) (k0_pay3 (k0_pay2 (re2 D))) (re2 W') = re2 fun r c => da (D r) W' c := by
  unfold k0_pay14; dsimp only; rw [pay32_re, shapeCast_self, nt512]; rfl

variable {v : Vec Ideal S1x512x768 .bf16} {v' : Vec Ideal S1x512x512 .bf16} {G : Fin 512 → Fin 768 → ℝ} {G' : Fin 512 → Fin 512 → ℝ}
  (hv : shapeCast S512x768 v shapeCasts_S1x512x768_S512x768 = re2 G) (hv' : shapeCast S512x512 v' shapeCasts_S1x512x512_S512x512 = re2 G')

include hv in
theorem pay5_re : k0_pay5 (F := Ideal) (k0_pay2 (re2 D)) (re2 W) v = re2 fun r c => da (D r) W c * G r c := by
  unfold k0_pay5; dsimp only; rw [hv, pay4_re, ext2, mul2, trunc2]
include hv' in
theorem pay15_re : k0_pay15 (F := Ideal) (k0_pay3 (k0_pay2 (re2 D))) (re2 W') v' = re2 fun r c => da (D r) W' c * G' r c := by
  unfold k0_pay15; dsimp only; rw [hv', pay14_re, ext2, mul2, trunc2]

end Payloads

/-- Rows `o …` of the weights. -/
theorem ld_rows (W : Fin 2816 → Fin 1024 → ℝ) {n : ℕ} (o : ℕ) (ho : o + n ≤ 2816)
    (inb : ∀ a, (![o, 0] : Fin 2 → ℕ) a + (![n, 1024] : Fin 2 → ℕ) a ≤ S2816x1024.size a) :
    View.ld (Val := Elt Ideal) (e' := .bf16) (re2 W) (Rect.unit (s := S2816x1024) ![o, 0] ![n, 1024] inb) = re2 fun c k => W (part o ho c) k := by
  funext j
  refine congrArg₂ (fun p q => ((W p q : ℝ) : EReal)) (Fin.ext ?_) (Fin.ext ?_) <;> simp [part]
  all_goals rfl

/-- The four column blocks lie in the columns. -/
theorem le₀ : 0 + 768 ≤ 2816 := by omega
theorem le₁ : 768 + 768 ≤ 2816 := by omega
theorem le₂ : 1536 + 768 ≤ 2816 := by omega
theorem le₃ : 2304 + 512 ≤ 2816 := by omega

section Block

variable (D : Fin 512 → Fin 1024 → ℝ) (W : Fin 2816 → Fin 1024 → ℝ) (G : Fin 512 → Fin 2816 → ℝ)
  {v₀ v₁ v₂ : Vec Ideal S1x512x768 .bf16} {v₃ : Vec Ideal S1x512x512 .bf16}
  (h₀ : shapeCast S512x768 v₀ shapeCasts_S1x512x768_S512x768 = re2 fun r c => G r (part 0 le₀ c))
  (h₁ : shapeCast S512x768 v₁ shapeCasts_S1x512x768_S512x768 = re2 fun r c => G r (part 768 le₁ c))
  (h₂ : shapeCast S512x768 v₂ shapeCasts_S1x512x768_S512x768 = re2 fun r c => G r (part 1536 le₂ c))
  (h₃ : shapeCast S512x512 v₃ shapeCasts_S1x512x512_S512x512 = re2 fun r c => G r (part 2304 le₃ c))
include h₀ h₁ h₂ h₃

/-- The four column blocks stored of a result, put together. -/
theorem block_re (i₀ i₁ i₂ i₃ j₀ j₁ j₂ j₃) :
    View.canon (Val := Elt Ideal) (s := S512x2816) (e := .bf16)
      [⟨Rect.unit ![0, 2304] ![512, 512] i₃, k0_pay15 (F := Ideal) (k0_pay3 (k0_pay2 (re2 D))) (View.ld (Val := Elt Ideal) (e' := .bf16) (re2 W) (Rect.unit (s := S2816x1024) ![2304, 0] ![512, 1024] j₃)) v₃⟩,
       ⟨Rect.unit ![0, 1536] ![512, 768] i₂, k0_pay5 (F := Ideal) (k0_pay2 (re2 D)) (View.ld (Val := Elt Ideal) (e' := .bf16) (re2 W) (Rect.unit (s := S2816x1024) ![1536, 0] ![768, 1024] j₂)) v₂⟩,
       ⟨Rect.unit ![0, 768] ![512, 768] i₁, k0_pay5 (F := Ideal) (k0_pay2 (re2 D)) (View.ld (Val := Elt Ideal) (e' := .bf16) (re2 W) (Rect.unit (s := S2816x1024) ![768, 0] ![768, 1024] j₁)) v₁⟩,
       ⟨Rect.unit ![0, 0] ![512, 768] i₀, k0_pay5 (F := Ideal) (k0_pay2 (re2 D)) (View.ld (Val := Elt Ideal) (e' := .bf16) (re2 W) (Rect.unit (s := S2816x1024) ![0, 0] ![768, 1024] j₀)) v₀⟩]
      = re2 fun r c => da (D r) W c * G r c := by
  rw [ld_rows W 0 le₀, ld_rows W 768 le₁, ld_rows W 1536 le₂, ld_rows W 2304 le₃,
    pay5_re D _ h₀, pay5_re D _ h₁, pay5_re D _ h₂, pay15_re D _ h₃]
  funext y
  canon_tiles x h using (View.cover_of_tiledBy _ ![512, 256] (by sl_kernel_rfl) y)
  all_goals exact congrArg₂ (fun p q => ((da (D p) W q * G p q : ℝ) : EReal)) (Fin.ext h0.symm) (Fin.ext (by first | exact h1.symm | exact (Nat.zero_add _).trans h1.symm))

end Block

end Cert.Act.Kernel
-- ==== Proof.ActRun.lean ====
/-
  The gated unit's backward kernel over its eight blocks of 512 rows: what each point reads, and what its three output
  arrays hold at the end.
-/
module

public import proofs.«01_k».proof.Proof.ActKernel

@[expose] public section

noncomputable section

namespace Cert.Act.Kernel

open Idealize.ShloMosaic hiding ix1 ix2 ix3
open Idealize.ShloMosaic.ValueIdx
open Cert.Kernel3Ideal Cert.Kernel3Ideal.Gen Cert.Reals
open scoped BigOperators

/-- Row `r` of block `t`. -/
def brow (t : Fin cfg0.N) (r : Fin 512) : Fin 4096 :=
  ⟨t.val * 512 + r.val, by have h : t.val < 8 := t.isLt; omega⟩

theorem cond_of_first (t : Fin cfg0.N) (h0 : cond0_0 (grid0.coords t)) : cond0_1 (grid0.coords t) := by
  have hN : t.val < 8 := lt_of_lt_of_eq t.isLt N_0
  exact (hcond0_1 t).mpr (by have := (hcond0_0 t).mp h0; omega)

variable (m : (ℓ : Loc nD τ sig) → Buf (Elt Ideal) ℓ) (c : Dev nD) (D : Fin 4096 → Fin 1024 → ℝ) (W : Fin 2816 → Fin 1024 → ℝ)
  (A B : Fin 4096 → Fin 2816 → ℝ)

/-- The region's input arrays are these reals. -/
structure Inputs : Prop where
  hD : V m c main_arg0 = re2 D
  hW : V m c main_v6 = re2 W
  hA : V m c main_v7 = re2 A
  hB : V m c main_v8 = re2 B

variable {m c D W A B} (hin : Inputs m c D W A B)
include hin

theorem iblk0 (t : Fin cfg0.N) : iblk m c 0 t = re2 fun r => D (brow t r) := by
  have e : ∀ t : Fin cfg0.N, win0_0.index t = ![t.val, 0] := (by decide +kernel : ∀ t : Fin grid0.N, _)
  funext i
  unfold iblk; rw [View.read_apply]
  refine (congrFun hin.hD _).trans ?_
  refine congrArg₂ (fun p q => ((D p q : ℝ) : EReal)) (Fin.ext ?_) (Fin.ext ?_) <;> dsimp only [ax0, ax1, brow] <;> blk_simp [e] <;> rfl

theorem iblk1 (t : Fin cfg0.N) : iblk m c 1 t = re2 W := by
  have e : ∀ t : Fin cfg0.N, win0_1.index t = ![0, 0] := (by decide +kernel : ∀ t : Fin grid0.N, _)
  funext i
  unfold iblk; rw [View.read_apply]
  refine (congrFun hin.hW _).trans ?_
  refine congrArg₂ (fun p q => ((W p q : ℝ) : EReal)) (Fin.ext ?_) (Fin.ext ?_) <;> dsimp only [ax0, ax1] <;> blk_simp [e] <;> rfl

/-- The blocks the transfers bring: rows `512 t …` of the saved derivatives. -/
theorem src0 (t : Fin cfg0.N) : (srcB0_0 (Ring.bk 8 t.val)).view.read (Elt Ideal) (V m c main_v7) = re2 fun r => A (brow t r) := by
  have hb : (Ring.bk 8 t.val).val = t.val := Ring.bk_val t.isLt
  funext i
  refine (congrFun hin.hA ((srcB0_0 (Ring.bk 8 t.val)).view.emb i)).trans ?_
  refine congrArg₂ (fun p q => ((A p q : ℝ) : EReal)) (Fin.ext ?_) (Fin.ext ?_)
  · show 512 * (Ring.bk 8 t.val).val + 1 * (i 0).val = t.val * 512 + (i 0).val
    omega
  · show 0 + 1 * (i 1).val = (i 1).val
    omega
theorem src1 (t : Fin cfg0.N) : (srcB0_1 (Ring.bk 8 t.val)).view.read (Elt Ideal) (V m c main_v8) = re2 fun r => B (brow t r) := by
  have hb : (Ring.bk 8 t.val).val = t.val := Ring.bk_val t.isLt
  funext i
  refine (congrFun hin.hB ((srcB0_1 (Ring.bk 8 t.val)).view.emb i)).trans ?_
  refine congrArg₂ (fun p q => ((B p q : ℝ) : EReal)) (Fin.ext ?_) (Fin.ext ?_)
  · show 512 * (Ring.bk 8 t.val).val + 1 * (i 0).val = t.val * 512 + (i 0).val
    omega
  · show 0 + 1 * (i 1).val = (i 1).val
    omega

section Slots

variable (t : Fin cfg0.N) {n : ℕ} (o : ℕ) (ho : o + n ≤ 2816) (off : Fin 3 → ℕ) (he : off = ![(Ring.sl 3 t.val).val, 0, o])
  (inb : ∀ a, off a + (![1, 512, n] : Fin 3 → ℕ) a ≤ S3x512x2816.size a) (hc : (⟨3, ![1, 512, n]⟩ : Shape).ShapeCasts ⟨2, ![512, n]⟩)
include he

/-- Columns `o …` of the slot the point reads, in each ring. -/
theorem slot0 : shapeCast ⟨2, ![512, n]⟩ (View.readAt (Elt Ideal) (View.whole cc0_scratch0) (Rect.unit (s := S3x512x2816) off ![1, 512, n] inb).toLoadRect
      ((rslot0_0 (Ring.sl 3 t.val)).view.writes (Elt Ideal) (rslot0_0 (Ring.sl 3 t.val)).view.junk
        [⟨Rect.whole S512x2816, ReadAs.same.apply ((srcB0_0 (Ring.bk 8 t.val)).view.read (Elt Ideal) (V m c main_v7))⟩])) hc
      = re2 fun r k => A (brow t r) (part o ho k) :=
  slot_read scM0_0 _ _ (fun r => A (brow t r)) _ _ ((View.read_writes_whole (rslot0_0 (Ring.sl 3 t.val)).view _ _).trans (src0 hin t)) o ho off he inb hc
theorem slot1 : shapeCast ⟨2, ![512, n]⟩ (View.readAt (Elt Ideal) (View.whole cc0_scratch1) (Rect.unit (s := S3x512x2816) off ![1, 512, n] inb).toLoadRect
      ((rslot0_1 (Ring.sl 3 t.val)).view.writes (Elt Ideal) (rslot0_1 (Ring.sl 3 t.val)).view.junk
        [⟨Rect.whole S512x2816, ReadAs.same.apply ((srcB0_1 (Ring.bk 8 t.val)).view.read (Elt Ideal) (V m c main_v8))⟩])) hc
      = re2 fun r k => B (brow t r) (part o ho k) :=
  slot_read scM0_1 _ _ (fun r => B (brow t r)) _ _ ((View.read_writes_whole (rslot0_1 (Ring.sl 3 t.val)).view _ _).trans (src1 hin t)) o ho off he inb hc

end Slots

/-- The gradient of the gate: each point leaves its own block's. -/
theorem out2_first (t : Fin cfg0.N) (h0 : cond0_0 (grid0.coords t)) (h1 : cond0_1 (grid0.coords t)) :
    (Frame.dats m 0 c).after 2 t = re2 fun r k => da (D (brow t r)) W k * A (brow t r) k := by
  rw [Frame.after2, Frame.stores_first m c t h0 h1]; unfold Frame.run_first; dsimp only; frame_out
  rw [iblk0 hin, iblk1 hin]
  exact block_re _ _ _ (slot0 hin t 0 _ _ (coff0_0_13 t) _ _) (slot0 hin t 768 _ _ (coff0_0_14 t) _ _)
    (slot0 hin t 1536 _ _ (coff0_0_15 t) _ _) (slot0 hin t 2304 _ _ (coff0_0_16 t) _ _) _ _ _ _ _ _ _ _
theorem out2_middle (t : Fin cfg0.N) (h0 : ¬cond0_0 (grid0.coords t)) (h1 : cond0_1 (grid0.coords t)) :
    (Frame.dats m 0 c).after 2 t = re2 fun r k => da (D (brow t r)) W k * A (brow t r) k := by
  rw [Frame.after2, Frame.stores_middle m c t h0 h1]; unfold Frame.run_middle; dsimp only; frame_out
  rw [iblk0 hin, iblk1 hin]
  exact block_re _ _ _ (slot0 hin t 0 _ _ (coff0_0_13 t) _ _) (slot0 hin t 768 _ _ (coff0_0_14 t) _ _)
    (slot0 hin t 1536 _ _ (coff0_0_15 t) _ _) (slot0 hin t 2304 _ _ (coff0_0_16 t) _ _) _ _ _ _ _ _ _ _
theorem out2_late (t : Fin cfg0.N) (h0 : ¬cond0_0 (grid0.coords t)) (h1 : ¬cond0_1 (grid0.coords t)) :
    (Frame.dats m 0 c).after 2 t = re2 fun r k => da (D (brow t r)) W k * A (brow t r) k := by
  rw [Frame.after2, Frame.stores_late m c t h0 h1]; unfold Frame.run_late; dsimp only; frame_out
  rw [iblk0 hin, iblk1 hin]
  exact block_re _ _ _ (slot0 hin t 0 _ _ (coff0_0_13 t) _ _) (slot0 hin t 768 _ _ (coff0_0_14 t) _ _)
    (slot0 hin t 1536 _ _ (coff0_0_15 t) _ _) (slot0 hin t 2304 _ _ (coff0_0_16 t) _ _) _ _ _ _ _ _ _ _
theorem out2 (t : Fin cfg0.N) : (Frame.dats m 0 c).after 2 t = re2 fun r k => da (D (brow t r)) W k * A (brow t r) k := by
  by_cases h0 : cond0_0 (grid0.coords t)
  · exact out2_first hin t h0 (cond_of_first t h0)
  · by_cases h1 : cond0_1 (grid0.coords t)
    · exact out2_middle hin t h0 h1
    · exact out2_late hin t h0 h1

/-- The gradient of the other factor: each point leaves its own block's. -/
theorem out3_first (t : Fin cfg0.N) (h0 : cond0_0 (grid0.coords t)) (h1 : cond0_1 (grid0.coords t)) :
    (Frame.dats m 0 c).after 3 t = re2 fun r k => da (D (brow t r)) W k * B (brow t r) k := by
  rw [Frame.after3, Frame.stores_first m c t h0 h1]; unfold Frame.run_first; dsimp only; frame_out
  rw [iblk0 hin, iblk1 hin]
  exact block_re _ _ _ (slot1 hin t 0 _ _ (coff0_1_13 t) _ _) (slot1 hin t 768 _ _ (coff0_1_14 t) _ _)
    (slot1 hin t 1536 _ _ (coff0_1_15 t) _ _) (slot1 hin t 2304 _ _ (coff0_1_16 t) _ _) _ _ _ _ _ _ _ _
theorem out3_middle (t : Fin cfg0.N) (h0 : ¬cond0_0 (grid0.coords t)) (h1 : cond0_1 (grid0.coords t)) :
    (Frame.dats m 0 c).after 3 t = re2 fun r k => da (D (brow t r)) W k * B (brow t r) k := by
  rw [Frame.after3, Frame.stores_middle m c t h0 h1]; unfold Frame.run_middle; dsimp only; frame_out
  rw [iblk0 hin, iblk1 hin]
  exact block_re _ _ _ (slot1 hin t 0 _ _ (coff0_1_13 t) _ _) (slot1 hin t 768 _ _ (coff0_1_14 t) _ _)
    (slot1 hin t 1536 _ _ (coff0_1_15 t) _ _) (slot1 hin t 2304 _ _ (coff0_1_16 t) _ _) _ _ _ _ _ _ _ _
theorem out3_late (t : Fin cfg0.N) (h0 : ¬cond0_0 (grid0.coords t)) (h1 : ¬cond0_1 (grid0.coords t)) :
    (Frame.dats m 0 c).after 3 t = re2 fun r k => da (D (brow t r)) W k * B (brow t r) k := by
  rw [Frame.after3, Frame.stores_late m c t h0 h1]; unfold Frame.run_late; dsimp only; frame_out
  rw [iblk0 hin, iblk1 hin]
  exact block_re _ _ _ (slot1 hin t 0 _ _ (coff0_1_13 t) _ _) (slot1 hin t 768 _ _ (coff0_1_14 t) _ _)
    (slot1 hin t 1536 _ _ (coff0_1_15 t) _ _) (slot1 hin t 2304 _ _ (coff0_1_16 t) _ _) _ _ _ _ _ _ _ _
theorem out3 (t : Fin cfg0.N) : (Frame.dats m 0 c).after 3 t = re2 fun r k => da (D (brow t r)) W k * B (brow t r) k := by
  by_cases h0 : cond0_0 (grid0.coords t)
  · exact out3_first hin t h0 (cond_of_first t h0)
  · by_cases h1 : cond0_1 (grid0.coords t)
    · exact out3_middle hin t h0 h1
    · exact out3_late hin t h0 h1

/-- Half the gradient of the block's output: each point leaves its own block's. -/
theorem out4 (t : Fin cfg0.N) : (Frame.dats m 0 c).after 4 t = re2 fun r k => 1 / 2 * D (brow t r) k := by
  rw [Frame.after4]
  by_cases h0 : cond0_0 (grid0.coords t)
  · rw [Frame.stores_first m c t h0 (cond_of_first t h0)]; unfold Frame.run_first; dsimp only; frame_out
    rw [iblk0 hin]; exact pay32_re _
  · by_cases h1 : cond0_1 (grid0.coords t)
    · rw [Frame.stores_middle m c t h0 h1]; unfold Frame.run_middle; dsimp only; frame_out
      rw [iblk0 hin]; exact pay32_re _
    · rw [Frame.stores_late m c t h0 h1]; unfold Frame.run_late; dsimp only; frame_out
      rw [iblk0 hin]; exact pay32_re _

theorem arr2 : (Frame.dats m 0 c).arrAt 2 cfg0.N = re2 fun r k => da (D r) W k * A r k := by
  have e : ∀ t : Fin cfg0.N, win0_2.index t = ![t.val, 0] := (by decide +kernel : ∀ t : Fin grid0.N, _)
  refine (Frame.dats m 0 c).arrAt_eq_of_covers 2 _ (by decide +kernel) fun t _ y => ?_
  blk_simp
  rw [out2 hin]
  refine congrArg₂ (fun r k => ((da (D r) W k * A r k : ℝ) : EReal)) (Fin.ext ?_) (Fin.ext ?_) <;> dsimp only [ax0, ax1, brow] <;> blk_simp [e] <;> rfl

theorem arr3 : (Frame.dats m 0 c).arrAt 3 cfg0.N = re2 fun r k => da (D r) W k * B r k := by
  have e : ∀ t : Fin cfg0.N, win0_3.index t = ![t.val, 0] := (by decide +kernel : ∀ t : Fin grid0.N, _)
  refine (Frame.dats m 0 c).arrAt_eq_of_covers 3 _ (by decide +kernel) fun t _ y => ?_
  blk_simp
  rw [out3 hin]
  refine congrArg₂ (fun r k => ((da (D r) W k * B r k : ℝ) : EReal)) (Fin.ext ?_) (Fin.ext ?_) <;> dsimp only [ax0, ax1, brow] <;> blk_simp [e] <;> rfl

theorem arr4 : (Frame.dats m 0 c).arrAt 4 cfg0.N = re2 fun r k => 1 / 2 * D r k := by
  have e : ∀ t : Fin cfg0.N, win0_4.index t = ![t.val, 0] := (by decide +kernel : ∀ t : Fin grid0.N, _)
  refine (Frame.dats m 0 c).arrAt_eq_of_covers 4 _ (by decide +kernel) fun t _ y => ?_
  blk_simp
  rw [out4 hin]
  refine congrArg₂ (fun r k => ((1 / 2 * D r k : ℝ) : EReal)) (Fin.ext ?_) (Fin.ext ?_) <;> dsimp only [ax0, ax1, brow] <;> blk_simp [e] <;> rfl

end Cert.Act.Kernel
-- ==== Proof.ActEntry.lean ====
/-
  The gated unit's backward call: the region's input arrays, as the host prepares them, and the host's results.
-/
module

public import proofs.«01_k».proof.Proof.ActRun

@[expose] public section

noncomputable section

namespace Cert.Act.Kernel

open Idealize.ShloMosaic hiding ix1 ix2 ix3
open Idealize.ShloMosaic.ValueIdx
open Cert.Kernel3Ideal Cert.Kernel3Ideal.Gen Cert.Reals

section Entry

variable (m : (ℓ : Loc nD τ sig) → Buf (Elt Ideal) ℓ) (c : Dev nD) (G U : Fin 4096 → Fin 2816 → ℝ)

theorem entry_w (W : Fin 2816 → Fin 1024 → ℝ) (h : m ((c.tc : Thread nD τ).loc main_arg3) = re2 W) : V m c main_v6 = re2 W := by
  unfold V V0 hostOps0 hostOps0_1 hostOps0_2 hostOps0_3
  simp only [List.flatten_cons, List.flatten_nil, List.cons_append, List.nil_append, List.append_nil]
  after_results
  rw [← h]; rfl

theorem entry_a (hG : m ((c.tc : Thread nD τ).loc main_arg1) = re2 G) (hU : m ((c.tc : Thread nD τ).loc main_arg2) = re2 U) :
    V m c main_v7 = re2 fun r k => dg (G r k) (U r k) := by
  unfold V V0 hostOps0 hostOps0_1 hostOps0_2 hostOps0_3
  simp only [List.flatten_cons, List.flatten_nil, List.cons_append, List.nil_append, List.append_nil]
  after_results
  rw [hG, hU]
  have eG : (StableHlo.TRef.of main_arg1 hostOps0._proof_1 hostOps0._proof_2 hostOps0._proof_3).ofBuf (Val := Elt Ideal) (re2 G) = re2 G := rfl
  simp only [StableHlo.TRef.ofBuf_toBuf, eG, hostConst2 ofBits_one, hostNeg2, hostExp2, add2, hostSg2, sub2, mul2]
  refine Eq.trans (b := addf (F := Ideal) (φ := .f32) (mulf (re2 fun r c => 1 * U r c) (re2 fun r c => sg (G r c)))
    (mulf (mulf (re2 G) (re2 fun r c => 1 * U r c)) (re2 fun r c => sg (G r c) * (1 - sg (G r c))))) rfl ?_
  rw [mul2, mul2, mul2, add2]
  exact re2_congr fun r k => by rw [dg]; ring

theorem entry_b (hG : m ((c.tc : Thread nD τ).loc main_arg1) = re2 G) : V m c main_v8 = re2 fun r k => du (G r k) := by
  unfold V V0 hostOps0 hostOps0_1 hostOps0_2 hostOps0_3
  simp only [List.flatten_cons, List.flatten_nil, List.cons_append, List.nil_append, List.append_nil]
  after_results
  rw [hG]
  have eG : (StableHlo.TRef.of main_arg1 hostOps0._proof_1 hostOps0._proof_2 hostOps0._proof_3).ofBuf (Val := Elt Ideal) (re2 G) = re2 G := rfl
  simp only [StableHlo.TRef.ofBuf_toBuf, eG, hostConst2 ofBits_one, hostNeg2, hostExp2, add2, hostSg2, sub2, mul2]
  refine Eq.trans (b := mulf (F := Ideal) (φ := .f32) (re2 fun r c => G r c * sg (G r c)) (re2 fun _ _ => 1)) rfl ?_
  rw [mul2]
  exact re2_congr fun r k => by rw [du]; ring

end Entry

section Tail

variable {m : (ℓ : Loc nD τ sig) → Buf (Elt Ideal) ℓ} {c : Dev nD} {f : Fin 4096 → Fin 2816 → ℝ}

theorem tail10 (h : (Frame.dats m 0 c).arrAt 2 cfg0.N = re2 f) :
    Pipeline.afterTail₀ cfgs (Frame.dats m) 0 (V0 m) [hostOps1] c main_v10 = re2 f := by
  have e : Pipeline.withArrays (cfgs 0).spec c (V0 m c) (fun w => (Frame.dats m 0 c).arrAt w (cfgs 0).N) (Proc.devRef .tc main_v9_0) = re2 f :=
    (Pipeline.withArrays_arr spec0 winFacts0.arr_inj c (V0 m c) (fun w => (Frame.dats m 0 c).arrAt w (cfgs 0).N) 2).trans h
  unfold Pipeline.afterTail₀ hostOps1
  simp only [List.flatten_cons, List.flatten_nil, List.cons_append, List.nil_append, List.append_nil]
  after_results
  rw [e]; exact ext2 _ _

theorem tail11 (h : (Frame.dats m 0 c).arrAt 3 cfg0.N = re2 f) :
    Pipeline.afterTail₀ cfgs (Frame.dats m) 0 (V0 m) [hostOps1] c main_v11 = re2 f := by
  have e : Pipeline.withArrays (cfgs 0).spec c (V0 m c) (fun w => (Frame.dats m 0 c).arrAt w (cfgs 0).N) (Proc.devRef .tc main_v9_1) = re2 f :=
    (Pipeline.withArrays_arr spec0 winFacts0.arr_inj c (V0 m c) (fun w => (Frame.dats m 0 c).arrAt w (cfgs 0).N) 3).trans h
  unfold Pipeline.afterTail₀ hostOps1
  simp only [List.flatten_cons, List.flatten_nil, List.cons_append, List.nil_append, List.append_nil]
  after_results
  rw [e]; exact ext2 _ _

theorem tail12 {f : Fin 4096 → Fin 1024 → ℝ} (h : (Frame.dats m 0 c).arrAt 4 cfg0.N = re2 f) :
    Pipeline.afterTail₀ cfgs (Frame.dats m) 0 (V0 m) [hostOps1] c main_v12 = re2 f := by
  have e : Pipeline.withArrays (cfgs 0).spec c (V0 m c) (fun w => (Frame.dats m 0 c).arrAt w (cfgs 0).N) (Proc.devRef .tc main_v9_2) = re2 f :=
    (Pipeline.withArrays_arr spec0 winFacts0.arr_inj c (V0 m c) (fun w => (Frame.dats m 0 c).arrAt w (cfgs 0).N) 4).trans h
  unfold Pipeline.afterTail₀ hostOps1
  simp only [List.flatten_cons, List.flatten_nil, List.cons_append, List.nil_append, List.append_nil]
  after_results
  rw [e]; exact ext2 _ _

end Tail

end Cert.Act.Kernel
-- ==== Proof.ActReference.lean ====
/-
  The feed-forward gate's backward call: what the reference's host lines hold, on real arguments.
-/
module

public import proofs.«01_k».proof.Proof.ActMath
public import proofs.«01_k».proof.Proof.Gen.Reference3Ideal.Read

@[expose] public section

noncomputable section

namespace Cert.Act.Reference

open Idealize.ShloMosaic
open Idealize.ShloMosaic.ValueIdx
open Cert.Reference3Ideal Cert.Reference3Ideal.Read Cert.Reals
open scoped BigOperators

variable (D : Fin 4096 → Fin 1024 → ℝ) (G U : Fin 4096 → Fin 2816 → ℝ) (W : Fin 2816 → Fin 1024 → ℝ)

/-- The logistic of the gate, its product with one minus it, and the swish. -/
theorem sg_re : val_main_v0_2 (F := Ideal) (re2 G) = re2 fun r c => sg (G r c) := by
  simp only [val_main_v0_2, val_main_call0_v4, val_main_call0_v3, val_main_call0_v2, val_main_call0_v1, val_main_call0_v0, val_main_call0_cst,
    val_main_call0_cst_0, hostConst2 ofBits_one, hostNeg2, hostExp2, add2, hostSg2]

theorem dsg_re : val_main_v0_1 (F := Ideal) (re2 G) = re2 fun r c => sg (G r c) * (1 - sg (G r c)) := by
  simp only [val_main_v0_1, val_main_call0_v7, val_main_call0_v6, val_main_call0_cst_1, sg_re, hostConst2 ofBits_one, sub2, mul2]

theorem silu_re : val_main_v0_0 (F := Ideal) (re2 G) = re2 fun r c => G r c * sg (G r c) := by
  simp only [val_main_v0_0, sg_re, mul2]

theorem da_re : val_main_v7 (F := Ideal) (re2 D) (re2 W) = re2 fun r c => da (D r) W c := by
  simp only [val_main_v7, val_main_v6, val_main_v5, val_main_cst_0, hostConst2 Read.ofBits_half, mul2]
  exact hostNT none _ _ _

/-- The gradient of the gate, of the other factor, and half the gradient of the output. -/
theorem v10_re : val_main_v10 (F := Ideal) (re2 D) (re2 G) (re2 U) (re2 W) = re2 fun r c => da (D r) W c * dg (G r c) (U r c) := by
  simp only [val_main_v10, val_main_call1_v2, val_main_call1_v1, val_main_call1_v0, val_main_v9, sg_re, dsg_re, da_re, mul2, add2]
  exact re2_congr fun r c => by rw [dg]; ring

theorem v8_re : val_main_v8 (F := Ideal) (re2 D) (re2 G) (re2 W) = re2 fun r c => da (D r) W c * du (G r c) := by
  simp only [val_main_v8, silu_re, da_re, mul2]
  exact re2_congr fun r c => by rw [du]; ring

theorem v12_re : val_main_v12 (F := Ideal) (re2 D) = re2 fun r c => 1 / 2 * D r c := by
  simp only [val_main_v12, val_main_v11, val_main_cst_1, hostConst2 Read.ofBits_half, mul2]

end Cert.Act.Reference
-- ==== Proof.ActClaim.lean ====
/-
  The gated unit's backward call: the kernel's three results are the reference's, on finite arguments.
-/
module

public import proofs.«01_k».proof.Defs
public import proofs.«01_k».proof.Proof.HostReals
public import proofs.«01_k».proof.Proof.ActEntry
public import proofs.«01_k».proof.Proof.ActReference
public import proofs.«01_k».proof.Proof.Gen.Pre_ffn_act_finite
public import proofs.«01_k».proof.Proof.Gen.Kernel3

@[expose] public section

noncomputable section

namespace Cert.Act

open Idealize.ShloMosaic hiding ix1 ix2
open Idealize.ShloMosaic.ValueIdx
open Idealize.SL.Sem Cert.Reals

section Kernel

open Cert.Kernel3Ideal Cert.Kernel3Ideal.Gen

variable (m : (ℓ : Loc nD τ sig) → Buf (Elt Ideal) ℓ)

/-- The arguments of every device are reals. -/
structure Args (D : Dev nD → Fin 4096 → Fin 1024 → ℝ) (G U : Dev nD → Fin 4096 → Fin 2816 → ℝ) (W : Dev nD → Fin 2816 → Fin 1024 → ℝ) : Prop where
  a0 (c : Dev nD) : m ((c.tc : Thread nD τ).loc main_arg0) = re2 (D c)
  a1 (c : Dev nD) : m ((c.tc : Thread nD τ).loc main_arg1) = re2 (G c)
  a2 (c : Dev nD) : m ((c.tc : Thread nD τ).loc main_arg2) = re2 (U c)
  a3 (c : Dev nD) : m ((c.tc : Thread nD τ).loc main_arg3) = re2 (W c)

theorem exists_args (h : Pre_Kernel3Ideal_ffn_act_finite m) : ∃ D G U W, Args m D G U W := by
  choose D hD using fun c : Dev nD => exists_re2 (m ((c.tc : Thread nD τ).loc main_arg0)) _ (h c).1
  choose G hG using fun c : Dev nD => exists_re2 (m ((c.tc : Thread nD τ).loc main_arg1)) _ (h c).2.1
  choose U hU using fun c : Dev nD => exists_re2 (m ((c.tc : Thread nD τ).loc main_arg2)) _ (h c).2.2.1
  choose W hW using fun c : Dev nD => exists_re2 (m ((c.tc : Thread nD τ).loc main_arg3)) _ (h c).2.2.2
  exact ⟨D, G, U, W, ⟨hD, hG, hU, hW⟩⟩

variable {m} {D : Dev nD → Fin 4096 → Fin 1024 → ℝ} {G U : Dev nD → Fin 4096 → Fin 2816 → ℝ} {W : Dev nD → Fin 2816 → Fin 1024 → ℝ}

/-- The region reads the output's gradient, the weights, and the two derivatives of the gated row. -/
theorem inputs (h : Args m D G U W) (c : Dev nD) :
    Kernel.Inputs m c (D c) (W c) (fun r k => dg (G c r k) (U c r k)) (fun r k => du (G c r k)) :=
  ⟨(V_main_arg0 m c).trans (h.a0 c), Kernel.entry_w m c _ (h.a3 c), Kernel.entry_a m c _ _ (h.a1 c) (h.a2 c), Kernel.entry_b m c _ (h.a1 c)⟩

end Kernel

/-- The reference leaves its arguments alone, and declares no semaphore. -/
theorem reference_frame : Cert.quiescent_Reference3Ideal := fun m ρ _ =>
  (θ_run Cert.Reference3Ideal.defs _ _).mono
    (fun r h => ⟨fun c => (h c).2.2.2, sem_eq_zero_of_no_sems (by decide) r.2⟩) (Reference3Ideal.Value.run (F := Ideal) m ρ)

/-- The kernel's frame, at both printed forms. -/
theorem frame_kernel_ideal : Cert.quiescent_Kernel3Ideal := fun m ρ _ => Frame.frame m ρ
theorem frame_kernel : Cert.quiescent_Kernel3 := fun m ρ _ => Eq.mp (by sl_kernel_rfl) (Frame.frame (F := Bits) m ρ)

theorem algebraic : Cert.algebraic_Kernel3Ideal_Reference3Ideal_pre_ffn_act_finite := by
  intro m g m' g' hpre hagree
  obtain ⟨D, G, U, W, h⟩ := exists_args m hpre
  refine ⟨fun c => re2 fun r k => da (D c r) (W c) k * dg (G c r k) (U c r k), fun c => re2 fun r k => da (D c r) (W c) k * du (G c r k),
    fun c => re2 fun r k => 1 / 2 * D c r k, ?_, ?_⟩
  · refine θ_run_mono (θ_run_and (Frame.run m g) (Frame.unchanged m g)) ?_
    rintro r ⟨hr, hu⟩ c
    have hin := inputs h c
    exact ⟨(hr.rest_eq c _ (by decide)).trans (Kernel.tail10 (Kernel.arr2 hin)), (hr.rest_eq c _ (by decide)).trans (Kernel.tail11 (Kernel.arr3 hin)),
      (hr.rest_eq c _ (by decide)).trans (Kernel.tail12 (Kernel.arr4 hin)), hu c⟩
  · refine θ_run_mono (Reference3Ideal.Value.run (F := Ideal) m' g') ?_
    intro r hr c
    obtain ⟨h0, h1, h2, hu⟩ := hr c
    obtain ⟨e0, e1, e2, e3⟩ := hagree c
    rw [h.a0 c] at e0
    rw [h.a1 c] at e1
    rw [h.a2 c] at e2
    rw [h.a3 c] at e3
    refine ⟨h0.trans ?_, h1.trans ?_, h2.trans ?_, hu⟩
    · rw [Reference3Ideal.Read.val_main_v10_eq, e0, e1, e2, e3]
      exact Reference.v10_re _ _ _ _
    · rw [Reference3Ideal.Read.val_main_v8_eq, e0, e1, e3]
      exact Reference.v8_re _ _ _
    · rw [Reference3Ideal.Read.val_main_v12_eq, e0]
      exact Reference.v12_re _

end Cert.Act
-- ==== Proof.TapsSums.lean ====
/-
  What one point of the taps' kernel writes, with its thirty-one taps and sixty-four groups of rows gathered into two
  recursions: the sum over the taps of one block of rows, and the sum over the groups of rows of one tap.
-/
module

public import proofs.«01_k».proof.Proof.Gen.Kernel4Ideal.Frame

@[expose] public section

set_option maxRecDepth 16384

noncomputable section

namespace Cert.Taps

open Idealize.ShloMosaic Idealize.ShloMosaic.Tactic
open Cert.Kernel4Ideal Cert.Kernel4Ideal.Gen

/-! ## The boxes read and written -/

theorem tap_in (k : Fin 31) : ∀ a, (![k.val, 0] : Fin 2 → ℕ) a + S1x512.size a ≤ S32x512.size a := fun a => by
  have := k.isLt; fin_cases a; · show k.val + 1 ≤ 32; omega
  · show 0 + 512 ≤ 512; omega
theorem group_in (j : Fin 64) : ∀ a, (![8 * j.val, 0] : Fin 2 → ℕ) a + S8x512.size a ≤ S512x512.size a := fun a => by
  have := j.isLt; fin_cases a; · show 8 * j.val + 8 ≤ 512; omega
  · show 0 + 512 ≤ 512; omega
theorem rows_in (g : Fin 16) : ∀ a, (![32 * g.val, 0] : Fin 2 → ℕ) a + S32x512.size a ≤ S512x512.size a := fun a => by
  have := g.isLt; fin_cases a; · show 32 * g.val + 32 ≤ 512; omega
  · show 0 + 512 ≤ 512; omega
theorem window_in (m : ℕ) (r : ℕ) (k : Fin 31) (h : r + m ≤ 512) :
    ∀ a, (![(30 - k.val) % 8, r + 8 * ((30 - k.val) / 8), 0] : Fin 3 → ℕ) a + (⟨3, ![1, m, 512]⟩ : Shape).size a ≤ S8x544x512.size a := fun a => by
  fin_cases a
  · show (30 - k.val) % 8 + 1 ≤ 8; omega
  · show r + 8 * ((30 - k.val) / 8) + m ≤ 544; omega
  · show 0 + 512 ≤ 512; omega
theorem sum_in (k : Fin 31) : ∀ a, (![k.val, 0, 0] : Fin 3 → ℕ) a + S1x8x512.size a ≤ S32x8x512.size a := fun a => by
  have := k.isLt; fin_cases a; · show k.val + 1 ≤ 32; omega
  · show 0 + 8 ≤ 8; omega
  · show 0 + 512 ≤ 512; omega

abbrev tapBox (k : Fin 31) : Rect S32x512 := Rect.unit ![k.val, 0] S1x512.size (tap_in k)
abbrev groupBox (j : Fin 64) : Rect S512x512 := Rect.unit ![8 * j.val, 0] S8x512.size (group_in j)
abbrev rowsBox (g : Fin 16) : Rect S512x512 := Rect.unit ![32 * g.val, 0] S32x512.size (rows_in g)
theorem rows_le (g : Fin 16) : 32 * g.val + 32 ≤ 512 := by omega
theorem group_le (j : Fin 64) : 8 * j.val + 8 ≤ 512 := by omega
/-- The rows tap `k` meets from row `32 g`, or from row `8 j`, in the copy shifted by what is left over eight. -/
abbrev rowsWindow (g : Fin 16) (k : Fin 31) : Rect S8x544x512 :=
  Rect.unit ![(30 - k.val) % 8, 32 * g.val + 8 * ((30 - k.val) / 8), 0] S1x32x512.size (window_in 32 _ k (rows_le g))
abbrev groupWindow (j : Fin 64) (k : Fin 31) : Rect S8x544x512 :=
  Rect.unit ![(30 - k.val) % 8, 8 * j.val + 8 * ((30 - k.val) / 8), 0] S1x8x512.size (window_in 8 _ k (group_le j))
abbrev sumBox (k : Fin 31) : Rect S32x8x512 := Rect.unit ![k.val, 0, 0] S1x8x512.size (sum_in k)

variable {F : FTy → Type} [FloatOps F]

/-! ## The two recursions -/

/-- The first `n` taps' terms of one block of rows added to `a`: `w` a tap's row, `d` the rows it meets. -/
def tapSum (a : FVec F S32x512 .f32) (w : Fin 31 → Vec F S1x512 .f32) (d : Fin 31 → Vec F S1x32x512 .f32) : (n : ℕ) → n ≤ 31 → FVec F S32x512 .f32
  | 0, _ => a
  | n + 1, h => addf (tapSum a w d n (Nat.le_of_succ_le h))
      (mulf (broadcastTo S32x512 (shapeCast S1x512 (w ⟨n, h⟩) shapeCasts_S1x512_S1x512) broadcasts_S1x512_S32x512)
        (shapeCast S32x512 (d ⟨n, h⟩) shapeCasts_S1x32x512_S32x512))

/-- The first `n` groups' terms of one tap: `z` a group's rows, `d` the rows the tap meets. -/
def groupSum (z : Fin 64 → Vec F S8x512 .f32) (d : Fin 64 → Vec F S1x8x512 .f32) : (n : ℕ) → n ≤ 64 → FVec F S8x512 .f32
  | 0, _ => broadcast S8x512 (Scalar.ofBits .f32 0x00000000#32)
  | n + 1, h => addf (groupSum z d n (Nat.le_of_succ_le h))
      (mulf (z ⟨n, h⟩) (shapeCast S8x512 (d ⟨n, h⟩) shapeCasts_S1x8x512_S8x512))

/-- The pieces of sixteen blocks of rows, the first `n` of them. -/
def rowsPieces (f : Fin 16 → FVec F S32x512 .f32) : (n : ℕ) → n ≤ 16 → List (View.Piece (Elt F) S512x512 .f32)
  | 0, _ => []
  | n + 1, h => ⟨rowsBox ⟨n, h⟩, f ⟨n, h⟩⟩ :: rowsPieces f n (Nat.le_of_succ_le h)

/-- What is stored of tap `k` over `old`. -/
def sumOver (old : Vec F S1x8x512 .f32) (z : Fin 64 → Vec F S8x512 .f32) (d : Fin 64 → Vec F S1x8x512 .f32) : FVec F S1x8x512 .f32 :=
  shapeCast S1x8x512 (addf (shapeCast S8x512 old shapeCasts_S1x8x512_S8x512) (groupSum z d 64 le_rfl)) shapeCasts_S8x512_S1x8x512

/-- The pieces of the taps' gradient, the first `n` taps, over the pieces `L` written before; `old` reads what was there. -/
def sumPieces (L : List (View.Piece (Elt F) S32x8x512 .f32)) (old : List (View.Piece (Elt F) S32x8x512 .f32) → Fin 31 → Vec F S1x8x512 .f32)
    (z : Fin 64 → Vec F S8x512 .f32) (d : Fin 31 → Fin 64 → Vec F S1x8x512 .f32) : (n : ℕ) → n ≤ 31 → List (View.Piece (Elt F) S32x8x512 .f32)
  | 0, _ => L
  | n + 1, h =>
      ⟨sumBox ⟨n, h⟩, sumOver (old (sumPieces L old z d n (Nat.le_of_succ_le h)) ⟨n, h⟩) z (d ⟨n, h⟩)⟩
      :: sumPieces L old z d n (Nat.le_of_succ_le h)

/-- The pieces of the padded rows: the block, the rows after it, and eight rows of zeros. -/
def padPieces (i : grid0.Coords) (d : Vec F S512x512 .f32) (e : Vec F S32x512 .f32) : List (View.Piece (Elt F) S552x512 .f32) :=
  [⟨Rect.unit ![544, 0] S8x512.size inb_S552x512_S8x512_544_0, k0_pay10⟩, ⟨Rect.unit ![512, 0] S32x512.size inb_S552x512_S32x512_512_0, k0_pay9 i e⟩,
    ⟨Rect.unit ![0, 0] S512x512.size inb_S552x512_S512x512_0_0, k0_pay8 d⟩]

theorem shift_in (b : Fin 8) : ∀ a, (![b.val, 0] : Fin 2 → ℕ) a + S544x512.size a ≤ S552x512.size a := fun a => by
  have := b.isLt; fin_cases a; · show b.val + 544 ≤ 552; omega
  · show 0 + 512 ≤ 512; omega
theorem copy_in (b : Fin 8) : ∀ a, (![b.val, 0, 0] : Fin 3 → ℕ) a + S1x544x512.size a ≤ S8x544x512.size a := fun a => by
  have := b.isLt; fin_cases a; · show b.val + 1 ≤ 8; omega
  · show 0 + 544 ≤ 544; omega
  · show 0 + 512 ≤ 512; omega
/-- The rows from row `b` on, and the place of their copy. -/
abbrev shiftBox (b : Fin 8) : Rect S552x512 := Rect.unit ![b.val, 0] S544x512.size (shift_in b)
abbrev copyBox (b : Fin 8) : Rect S8x544x512 := Rect.unit ![b.val, 0, 0] S1x544x512.size (copy_in b)

/-- The pieces of the eight shifted copies, the first `n` of them. -/
def copyPieces (f : Fin 8 → Vec F S544x512 .f32) : (n : ℕ) → n ≤ 8 → List (View.Piece (Elt F) S8x544x512 .f32)
  | 0, _ => []
  | n + 1, h => ⟨copyBox ⟨n, h⟩, shapeCast S1x544x512 (f ⟨n, h⟩) shapeCasts_S544x512_S1x544x512⟩ :: copyPieces f n (Nat.le_of_succ_le h)

/-- The pieces of the gated values, and of the gradient of the values and gates. -/
def gatedPieces (v : Vec F S512x1024 .f32) : List (View.Piece (Elt F) S512x512 .f32) :=
  [⟨Rect.unit ![0, 0] S512x512.size inb_S512x512_S512x512_0_0, k0_pay7 v⟩]
def gradPieces (v : Vec F S512x1024 .f32) (dz : Vec F S512x512 .f32) : List (View.Piece (Elt F) S512x1024 .f32) :=
  [⟨Rect.unit ![0, 512] S512x512.size inb_S512x1024_S512x512_0_512, k0_pay4 v (k0_pay6 v) dz⟩,
    ⟨Rect.unit ![0, 0] S512x512.size inb_S512x1024_S512x512_0_0, k0_pay3 (k0_pay6 v) dz⟩]

/-! ## The run's pieces -/

variable (c : Dev nD) (i : grid0.Coords) (arg1 : Memref sig .tc .vmem S512x512 .f32) (harg1 : arg1.IsWhole)
  (arg2 : Memref sig .tc .vmem S32x512 .f32) (harg2 : arg2.IsWhole) (arg3 : Memref sig .tc .vmem S512x1024 .f32) (harg3 : arg3.IsWhole)
  (arg4 : Memref sig .tc .vmem S32x512 .f32) (harg4 : arg4.IsWhole) (arg5 : Memref sig .tc .vmem S512x1024 .f32) (harg5 : arg5.IsWhole)
  (arg6 : Memref sig .tc .vmem S32x8x512 .f32) (harg6 : arg6.IsWhole) (arg7 : Memref sig .tc .vmem S552x512 .f32) (harg7 : arg7.IsWhole)
  (arg8 : Memref sig .tc .vmem S8x544x512 .f32) (harg8 : arg8.IsWhole) (arg9 : Memref sig .tc .vmem S512x512 .f32) (harg9 : arg9.IsWhole)
  (arg10 : Memref sig .tc .vmem S512x512 .f32) (harg10 : arg10.IsWhole)
  (x0 : Vec F S512x512 .f32) (x1 : Vec F S32x512 .f32) (x2 : Vec F S512x1024 .f32) (x3 : Vec F S32x512 .f32) (xo5 : Vec F S32x8x512 .f32)

/-- What the kernel reads at a point: its blocks, the shifted copies, the gated values. -/
def pads : List (View.Piece (Elt F) S552x512 .f32) :=
  padPieces i (View.readAt (Elt F) arg1.view (Rect.unit ![0, 0] S512x512.size inb_S512x512_S512x512_0_0).toLoadRect (harg1.unread x0))
    (View.readAt (Elt F) arg2.view (Rect.unit ![0, 0] S32x512.size inb_S32x512_S32x512_0_0).toLoadRect (harg2.unread x1))
def copies : List (View.Piece (Elt F) S8x544x512 .f32) :=
  copyPieces (fun b => arg7.view.readCov (pads i arg1 harg1 arg2 harg2 x0 x1) (shiftBox b).toLoadRect) 8 le_rfl
def values : Vec F S512x1024 .f32 := (View.readAt (Elt F) arg3.view (Rect.unit ![0, 0] S512x1024.size inb_S512x1024_S512x1024_0_0).toLoadRect (harg3.unread x2))
def rows : List (View.Piece (Elt F) S512x512 .f32) :=
  rowsPieces (fun g => shapeCast S32x512
    (tapSum (addf (broadcast S32x512 (Scalar.ofBits .f32 0x00000000#32)) (broadcast S32x512 (Scalar.ofBits .f32 0x00000000#32)))
      (fun k => View.readAt (Elt F) arg4.view (tapBox k).toLoadRect (harg4.unread x3))
      (fun k => arg8.view.readCov (copies i arg1 harg1 arg2 harg2 arg7 x0 x1) (rowsWindow g k).toLoadRect) 31 le_rfl) shapeCasts_S32x512_S32x512) 16 le_rfl
def grads : List (View.Piece (Elt F) S512x1024 .f32) :=
  gradPieces (values arg3 harg3 x2) (arg9.view.readCov (rows i arg1 harg1 arg2 harg2 arg4 harg4 arg7 arg8 x0 x1 x3)
    (Rect.unit ![0, 0] S512x512.size inb_S512x512_S512x512_0_0).toLoadRect)
def sums (L : List (View.Piece (Elt F) S32x8x512 .f32)) (old : List (View.Piece (Elt F) S32x8x512 .f32) → Fin 31 → Vec F S1x8x512 .f32) :
    List (View.Piece (Elt F) S32x8x512 .f32) :=
  sumPieces L old (fun j => arg10.view.readCov (gatedPieces (values arg3 harg3 x2)) (groupBox j).toLoadRect)
    (fun k j => arg8.view.readCov (copies i arg1 harg1 arg2 harg2 arg7 x0 x1) (groupWindow j k).toLoadRect) 31 le_rfl

/-- The first point's pieces: the taps' gradient starts from zeros. -/
theorem grads_first (h : cond0_0 i) :
    (kernelRun0_A c i arg1 harg1 arg2 harg2 arg3 harg3 arg4 harg4 arg5 harg5 arg6 harg6 arg7 harg7 arg8 harg8 arg9 harg9 arg10 harg10 h x0 x1 x2 x3).1
      = grads i arg1 harg1 arg2 harg2 arg3 harg3 arg4 harg4 arg7 arg8 arg9 x0 x1 x2 x3 := by sl_kernel_rfl
theorem sums_first (h : cond0_0 i) :
    (kernelRun0_A c i arg1 harg1 arg2 harg2 arg3 harg3 arg4 harg4 arg5 harg5 arg6 harg6 arg7 harg7 arg8 harg8 arg9 harg9 arg10 harg10 h x0 x1 x2 x3).2.1
      = sums i arg1 harg1 arg2 harg2 arg3 harg3 arg7 arg8 arg10 x0 x1 x2
          [⟨Rect.unit ![0, 0, 0] S32x8x512.size inb_S32x8x512_S32x8x512_0_0_0, k0_pay5⟩] (fun L k => arg6.view.readCov L (sumBox k).toLoadRect) := by sl_kernel_rfl

/-- A later point's: it starts from what the point before left. -/
theorem grads_later (h : ¬cond0_0 i) :
    (kernelRun0_B c i arg1 harg1 arg2 harg2 arg3 harg3 arg4 harg4 arg5 harg5 arg6 harg6 arg7 harg7 arg8 harg8 arg9 harg9 arg10 harg10 h x0 x1 x2 x3 xo5).1
      = grads i arg1 harg1 arg2 harg2 arg3 harg3 arg4 harg4 arg7 arg8 arg9 x0 x1 x2 x3 := by sl_kernel_rfl
theorem sums_later (h : ¬cond0_0 i) :
    (kernelRun0_B c i arg1 harg1 arg2 harg2 arg3 harg3 arg4 harg4 arg5 harg5 arg6 harg6 arg7 harg7 arg8 harg8 arg9 harg9 arg10 harg10 h x0 x1 x2 x3 xo5).2.1
      = sums i arg1 harg1 arg2 harg2 arg3 harg3 arg7 arg8 arg10 x0 x1 x2
          [] (fun _ k => View.readAt (Elt F) arg6.view (sumBox k).toLoadRect (harg6.unread xo5)) := by sl_kernel_rfl

end Cert.Taps

end
-- ==== Proof.TapsMath.lean ====
/-
  The gradient of the gated depthwise convolution as functions of real numbers: a matrix continued by zeros below its
  last row, the gradient of the convolution's rows and of its taps, and the regrouping that makes the two readings of the
  taps' gradient the same sum.
-/
module

public import proofs.«01_k».proof.Proof.Matrices

@[expose] public section

noncomputable section

namespace Cert.Taps

open Cert.Reals
open scoped BigOperators

/-- A matrix with rows of zeros after its last one. -/
def ext {m n : ℕ} (f : Fin m → Fin n → ℝ) (r : ℕ) (c : Fin n) : ℝ := if h : r < m then f ⟨r, h⟩ c else 0

theorem ext_lt {m n : ℕ} (f : Fin m → Fin n → ℝ) {r : ℕ} (h : r < m) (c : Fin n) : ext f r c = f ⟨r, h⟩ c := dif_pos h
theorem ext_ge {m n : ℕ} (f : Fin m → Fin n → ℝ) {r : ℕ} (h : m ≤ r) (c : Fin n) : ext f r c = 0 := dif_neg (by omega)
theorem ext_val {m n : ℕ} (f : Fin m → Fin n → ℝ) (r : Fin m) (c : Fin n) : ext f r.val c = f r c := dif_pos r.isLt

/-- The two halves of the columns: the values and the gates. -/
def lo (c : Fin 512) : Fin 1024 := ⟨c.val, by omega⟩
def hi (c : Fin 512) : Fin 1024 := ⟨512 + c.val, by omega⟩

variable (D : Fin 4096 → Fin 512 → ℝ) (V : Fin 4096 → Fin 1024 → ℝ) (W : Fin 31 → Fin 512 → ℝ)

/-- The convolution's input. -/
def gated (t : Fin 4096) (c : Fin 512) : ℝ := V t (lo c) * sg (V t (hi c))

/-- The gradient of the convolution's input: every tap meets the row as many rows later as it lies before the last tap. -/
def dz (t : ℕ) (c : Fin 512) : ℝ := ∑ k ∈ Finset.range 31, ext W k c * ext D (t + (30 - k)) c

/-- The gradient of the values (`b = false`) and of the gates. -/
def dval (t : Fin 4096) (c : Fin 512) : ℝ := dz D W t.val c * sg (V t (hi c))
def dgate (t : Fin 4096) (c : Fin 512) : ℝ := dz D W t.val c * V t (lo c) * sg (V t (hi c)) * (1 - sg (V t (hi c)))

def dv (t : Fin 4096) (c : Fin 1024) : ℝ :=
  if h : c.val < 512 then dval D V W t ⟨c.val, h⟩ else dgate D V W t ⟨c.val - 512, by omega⟩

/-- The gradient of tap `k`. -/
def dw (k : ℕ) (c : Fin 512) : ℝ := ∑ t : Fin 4096, gated V t c * ext D (t.val + (30 - k)) c

/-- Both ways to pair rows `a` apart: the earlier row counted, or the later. -/
theorem shift_sum (f g : ℕ → ℝ) (n a : ℕ) (hf : ∀ t, n ≤ t → f t = 0) :
    ∑ t ∈ Finset.range n, f t * (if a ≤ t then g (t - a) else 0) = ∑ t ∈ Finset.range n, g t * f (t + a) := by
  have h1 : ∑ t ∈ Finset.range (n + a), f t * (if a ≤ t then g (t - a) else 0)
      = ∑ t ∈ Finset.range n, f t * (if a ≤ t then g (t - a) else 0) := by
    rw [Finset.sum_range_add, add_eq_left]
    exact Finset.sum_eq_zero fun t _ => by rw [hf (n + t) (by omega), zero_mul]
  rw [← h1, Nat.add_comm, Finset.sum_range_add]
  rw [Finset.sum_eq_zero (s := Finset.range a) fun t ht => by
    rw [if_neg (by have := Finset.mem_range.mp ht; omega), mul_zero], zero_add]
  exact Finset.sum_congr rfl fun t _ => by rw [if_pos (by omega), Nat.add_sub_cancel_left, Nat.add_comm a t, mul_comm]

/-- The convolution's own input continued by thirty rows of zeros before the first, row `r`. -/
def before (r : ℕ) (c : Fin 512) : ℝ := if 30 ≤ r then ext (gated V) (r - 30) c else 0

theorem dw_eq (k : ℕ) (hk : k < 31) (c : Fin 512) : ∑ t : Fin 4096, D t c * before V (t.val + k) c = dw D V k c := by
  rw [dw]
  have e1 : ∑ t : Fin 4096, D t c * before V (t.val + k) c
      = ∑ t ∈ Finset.range 4096, ext D t c * (if 30 - k ≤ t then ext (gated V) (t - (30 - k)) c else 0) := by
    rw [← Fin.sum_univ_eq_sum_range (fun t => ext D t c * (if 30 - k ≤ t then ext (gated V) (t - (30 - k)) c else 0)) 4096]
    refine Finset.sum_congr rfl fun t _ => ?_
    rw [ext_val, before]
    by_cases h : 30 ≤ t.val + k
    · rw [if_pos h, if_pos (by omega), show t.val + k - 30 = t.val - (30 - k) by omega]
    · rw [if_neg h, if_neg (by omega)]
  rw [e1, shift_sum (fun t => ext D t c) (fun t => ext (gated V) t c) 4096 (30 - k) fun t ht => ext_ge D ht c,
    ← Fin.sum_univ_eq_sum_range (fun t => ext (gated V) t c * ext D (t + (30 - k)) c) 4096]
  exact Finset.sum_congr rfl fun t _ => by rw [ext_val]

/-- Thirty-one terms added from the last one down. -/
def down (g : ℕ → ℝ) : ℕ → ℝ
  | 0 => g 30
  | n + 1 => down g n + g (29 - n)

theorem down_eq (g : ℕ → ℝ) : down g 30 = ∑ k ∈ Finset.range 31, g k := by
  have h : ∀ n, down g n = ∑ i ∈ Finset.range (n + 1), g (30 - i) := fun n => by
    induction n with
    | zero => rw [Finset.sum_range_one]; rfl
    | succ n ih => rw [Finset.sum_range_succ, ← ih, show 30 - (n + 1) = 29 - n by omega]; rfl
  rw [h, ← Finset.sum_range_reflect]
  exact Finset.sum_congr rfl fun i hi => by
    congr 1
    have := Finset.mem_range.mp hi
    omega

/-- Row `t` of the input's gradient, counted with the thirty rows before it. -/
theorem dz_eq (t : ℕ) (ht : t < 4096) (c : Fin 512) :
    ∑ k ∈ Finset.range 31, (if k ≤ t + 30 then ext (fun r c => ext W k c * D r c) (t + 30 - k) c else 0) = dz D W t c := by
  refine Finset.sum_congr rfl fun k hk => ?_
  have := Finset.mem_range.mp hk
  rw [if_pos (by omega), show t + 30 - k = t + (30 - k) by omega]
  unfold ext
  split <;> simp

/-- One row among rows of zeros, added over the taps, is the row of the tap. -/
theorem rows_eq (g : ℕ → Fin 512 → ℝ) (r : ℕ) (hr : r < 31) (c : Fin 512) :
    ∑ k ∈ Finset.range 31, (if k ≤ r then ext (m := 1) (fun _ c => g k c) (r - k) c else 0) = g r c := by
  rw [Finset.sum_eq_single r]
  · rw [if_pos le_rfl, Nat.sub_self]; exact ext_lt _ one_pos c
  · intro k _ hk
    by_cases h : k ≤ r
    · rw [if_pos h]; exact ext_ge _ (by omega) c
    · exact if_neg h
  · intro h; exact absurd (Finset.mem_range.mpr hr) h

end Cert.Taps

end
-- ==== Proof.Blocks.lean ====
/-
  Blocks of matrices of real numbers, matrices with zeros around them, and one matrix above another.
-/
module

public import proofs.«01_k».proof.Proof.TapsMath
public import proofs.«01_k».proof.Proof.HostReals
public import Idealize.ShloMosaic.Lib.KernelVsHost

@[expose] public section

set_option maxRecDepth 16384

noncomputable section

namespace Cert.Taps

open Idealize.ShloMosaic hiding ix1 ix2 eq_ix2
open Idealize.ShloMosaic.ValueIdx
open Cert.Reals
open scoped BigOperators

section Ops
variable {m n p q : ℕ} (f : Fin m → Fin n → ℝ)

/-- A block of a matrix. -/
theorem slice2 (a b : ℕ) (h : (⟨2, ![m, n]⟩ : Shape).Slices ![a, b] ⟨2, ![p, q]⟩) (ha : a + p ≤ m) (hb : b + q ≤ n) :
    extractStridedSlice ⟨2, ![p, q]⟩ ![a, b] (re2 f) h
      = re2 fun (r : Fin p) (c : Fin q) => f ⟨a + r.val, by omega⟩ ⟨b + c.val, by omega⟩ := by
  funext i
  exact (extractStridedSlice_apply _ _ h i (ix2 ⟨a + (ax0 i).val, lt_of_lt_of_le (Nat.add_lt_add_left (ax0 i).isLt a) ha⟩
    ⟨b + (ax1 i).val, lt_of_lt_of_le (Nat.add_lt_add_left (ax1 i).isLt b) hb⟩) fun x => match x with | 0 => rfl | 1 => rfl).trans rfl

theorem zero_at {u : Shape} (j : u.Idx) : constant (F := Ideal) u .f32 0x00000000#32 j = ((0 : ℝ) : EReal) := ofBits_zero

/-- Rows of zeros above and below a matrix. -/
theorem padRows2 (a b : ℕ) (h : (⟨2, ![m, n]⟩ : Shape).Pads (![a, 0] : Fin 2 → ℕ) ![b, 0] ![0, 0] ⟨2, ![p, n]⟩)
    (hu : 0 < (⟨0, ![]⟩ : Shape).numel) :
    pad ⟨2, ![p, n]⟩ (![a, 0] : Fin 2 → ℕ) ![b, 0] ![0, 0] (re2 f) (constant (F := Ideal) ⟨0, ![]⟩ .f32 0x00000000#32) h hu
      = re2 fun (r : Fin p) (c : Fin n) => if a ≤ r.val then ext f (r.val - a) c else 0 := by
  funext i
  obtain ⟨r, c, rfl⟩ : ∃ r c, i = ix2 r c := ⟨_, _, eq_ix2 i⟩
  by_cases hr : a ≤ r.val ∧ r.val - a < m
  · refine (pad_apply_of_inside _ _ _ _ _ h hu _ (ix2 ⟨r.val - a, hr.2⟩ c) fun x => ?_).trans ?_
    · match x with
      | 0 => show r.val = a + (r.val - a) * 1; omega
      | 1 => show c.val = 0 + c.val * 1; omega
    · show ((f ⟨r.val - a, hr.2⟩ c : ℝ) : EReal) = ((if a ≤ r.val then ext f (r.val - a) c else 0 : ℝ) : EReal)
      rw [if_pos hr.1, ext_lt f hr.2]
  · refine (pad_apply_of_not_inside _ _ _ _ _ h hu (ix2 r c) (0 : Fin 2) fun hx => hr ⟨hx.1, ?_⟩).trans ?_
    · have := hx.2.2
      exact lt_of_le_of_lt (le_of_eq (Nat.div_one _).symm) this
    · refine (zero_at _).trans ?_
      show ((0 : ℝ) : EReal) = ((if a ≤ r.val then ext f (r.val - a) c else 0 : ℝ) : EReal)
      by_cases ha : a ≤ r.val
      · rw [if_pos ha, ext_ge f (by omega)]
      · rw [if_neg ha]

/-- Columns of zeros on the left and on the right of a matrix. -/
theorem padCols2 (a b : ℕ) (h : (⟨2, ![m, n]⟩ : Shape).Pads (![0, a] : Fin 2 → ℕ) ![0, b] ![0, 0] ⟨2, ![m, q]⟩)
    (hu : 0 < (⟨0, ![]⟩ : Shape).numel) :
    pad ⟨2, ![m, q]⟩ (![0, a] : Fin 2 → ℕ) ![0, b] ![0, 0] (re2 f) (constant (F := Ideal) ⟨0, ![]⟩ .f32 0x00000000#32) h hu
      = re2 fun (r : Fin m) (c : Fin q) => if h : a ≤ c.val ∧ c.val - a < n then f r ⟨c.val - a, h.2⟩ else 0 := by
  funext i
  obtain ⟨r, c, rfl⟩ : ∃ r c, i = ix2 r c := ⟨_, _, eq_ix2 i⟩
  show _ = ((if h : a ≤ c.val ∧ c.val - a < n then f r ⟨c.val - a, h.2⟩ else 0 : ℝ) : EReal)
  by_cases hc : a ≤ c.val ∧ c.val - a < n
  · rw [dif_pos hc]
    refine (pad_apply_of_inside _ _ _ _ _ h hu _ (ix2 r ⟨c.val - a, hc.2⟩) fun x => ?_).trans rfl
    match x with
    | 0 => show r.val = 0 + r.val * 1; omega
    | 1 => show c.val = a + (c.val - a) * 1; omega
  · rw [dif_neg hc]
    refine (pad_apply_of_not_inside _ _ _ _ _ h hu (ix2 r c) (1 : Fin 2) fun hx => hc ⟨hx.1, ?_⟩).trans (zero_at _)
    exact lt_of_le_of_lt (le_of_eq (Nat.div_one _).symm) hx.2.2

/-- Two matrices one above the other. -/
theorem concat2 (g : Fin p → Fin n → ℝ) (h : Shape.Concatenates [(⟨2, ![m, n]⟩ : Shape), ⟨2, ![p, n]⟩] ⟨2, ![q, n]⟩ 0) (hq : q = m + p) :
    concatenate ⟨2, ![q, n]⟩ 0 [⟨⟨2, ![m, n]⟩, re2 f⟩, ⟨⟨2, ![p, n]⟩, re2 g⟩] h
      = re2 fun (r : Fin q) (c : Fin n) => if r.val < m then ext f r.val c else ext g (r.val - m) c := by
  funext i
  obtain ⟨r, c, rfl⟩ : ∃ r c, i = ix2 r c := ⟨_, _, eq_ix2 i⟩
  show _ = ((if r.val < m then ext f r.val c else ext g (r.val - m) c : ℝ) : EReal)
  by_cases hr : r.val < m
  · rw [if_pos hr, ext_lt f hr]
    exact (concatenate_pair_apply_left 0 _ _ h _ rfl (ix2 ⟨r.val, hr⟩ c) fun x => match x with | 0 => rfl | 1 => rfl).trans rfl
  · have hp : r.val - m < p := by have := r.isLt; omega
    rw [if_neg hr, ext_lt g hp]
    refine (concatenate_pair_apply_right 0 _ _ h _ rfl rfl (ix2 ⟨r.val - m, hp⟩ c) ?_ ?_).trans rfl
    · intro x hx
      match x with
      | 0 => exact absurd rfl hx
      | 1 => rfl
    · show r.val - m + m = r.val
      omega

end Ops

end Cert.Taps

end
-- ==== Proof.TapsPoint.lean ====
/-
  The taps' kernel on arrays of reals: what one point's sums, copies and writes hold.
-/
module

public import proofs.«01_k».proof.Proof.TapsSums
public import proofs.«01_k».proof.Proof.Blocks
public import Idealize.ShloMosaic.Lib.WritesUnit

@[expose] public section

set_option maxRecDepth 16384

noncomputable section

namespace Cert.Taps

open Idealize.ShloMosaic hiding ix1 ix2 ix3 eq_ix2 eq_ix3
open Idealize.ShloMosaic.ValueIdx
open Cert.Kernel4Ideal Cert.Kernel4Ideal.Gen Cert.Reals
open scoped BigOperators

/-- An array of three axes, its entry a function of the first two indices' numbers. -/
def re3 {a m n : ℕ} (g : ℕ → ℕ → Fin n → ℝ) : (⟨3, ![a, m, n]⟩ : Shape).Idx → EReal := fun i => ((g (i 0).val (i 1).val (i 2) : ℝ) : EReal)

theorem re3_congr {a m n : ℕ} {g g' : ℕ → ℕ → Fin n → ℝ} (h : ∀ k r c, k < a → r < m → g k r c = g' k r c) :
    re3 (a := a) (m := m) g = re3 g' := funext fun i => congrArg _ (h _ _ _ (i 0).isLt (i 1).isLt)

theorem down3 {m n : ℕ} (g : ℕ → ℕ → Fin n → ℝ) (h : (⟨3, ![1, m, n]⟩ : Shape).ShapeCasts ⟨2, ![m, n]⟩) :
    shapeCast ⟨2, ![m, n]⟩ (re3 (a := 1) (m := m) g) h = re2 fun r c => g 0 r.val c := by
  funext i
  exact (shapeCast_dropUnit_apply ![m, n] _ h i).trans rfl

theorem up3 {m n : ℕ} (f : ℕ → Fin n → ℝ) (h : (⟨2, ![m, n]⟩ : Shape).ShapeCasts ⟨3, ![1, m, n]⟩) :
    shapeCast ⟨3, ![1, m, n]⟩ (re2 fun (r : Fin m) c => f r.val c) h = re3 fun _ r c => f r c := by
  funext i
  exact (shapeCast_addUnit_apply ![m, n] _ h i).trans rfl

/-! ## The two recursions -/

theorem tapSum_re (A : Fin 512 → ℝ) (W : Fin 31 → Fin 512 → ℝ) (Q : ℕ → ℕ → Fin 512 → ℝ) (a : FVec Ideal S32x512 .f32)
    (w : Fin 31 → Vec Ideal S1x512 .f32) (d : Fin 31 → Vec Ideal S1x32x512 .f32) (ha : a = re2 fun _ c => A c)
    (hw : ∀ k, w k = row (W k)) (hd : ∀ k : Fin 31, d k = re3 fun _ r c => Q k.val r c) : (n : ℕ) → (h : n ≤ 31) →
    tapSum a w d n h = re2 fun r c => A c + ∑ k ∈ Finset.range n, ext W k c * Q k r.val c
  | 0, _ => by
    rw [tapSum, ha]
    exact re2_congr fun r c => by rw [Finset.range_zero, Finset.sum_empty, add_zero]
  | n + 1, h => by
    rw [tapSum, tapSum_re A W Q a w d ha hw hd n, hw, hd, shapeCast_self,
      show broadcastTo S32x512 (row (W ⟨n, h⟩)) broadcasts_S1x512_S32x512 = _ from bcast2 _ _,
      show shapeCast S32x512 (re3 _) shapeCasts_S1x32x512_S32x512 = _ from down3 _ _, mul2, add2]
    exact re2_congr fun r c => by rw [Finset.sum_range_succ, ext_lt W h, add_assoc]

theorem groupSum_re (Z Q : ℕ → ℕ → Fin 512 → ℝ) (z : Fin 64 → Vec Ideal S8x512 .f32) (d : Fin 64 → Vec Ideal S1x8x512 .f32)
    (hz : ∀ j : Fin 64, z j = re2 fun r c => Z j.val r.val c) (hd : ∀ j : Fin 64, d j = re3 fun _ r c => Q j.val r c) : (n : ℕ) → (h : n ≤ 64) →
    groupSum z d n h = re2 fun r c => ∑ j ∈ Finset.range n, Z j r.val c * Q j r.val c
  | 0, _ => by
    rw [groupSum, show broadcast S8x512 (Scalar.ofBits (F := Ideal) .f32 0x00000000#32) = _ from const2 ofBits_zero]
    exact re2_congr fun r c => by rw [Finset.range_zero, Finset.sum_empty]
  | n + 1, h => by
    rw [groupSum, groupSum_re Z Q z d hz hd n, hz, hd,
      show shapeCast S8x512 (re3 _) shapeCasts_S1x8x512_S8x512 = _ from down3 _ _, mul2, add2]
    exact re2_congr fun r c => by rw [Finset.sum_range_succ]

theorem sumOver_re (O : ℕ → Fin 512 → ℝ) (Z Q : ℕ → ℕ → Fin 512 → ℝ) (old : Vec Ideal S1x8x512 .f32) (z : Fin 64 → Vec Ideal S8x512 .f32)
    (d : Fin 64 → Vec Ideal S1x8x512 .f32) (ho : old = re3 fun _ r c => O r c)
    (hz : ∀ j : Fin 64, z j = re2 fun r c => Z j.val r.val c) (hd : ∀ j : Fin 64, d j = re3 fun _ r c => Q j.val r c) :
    sumOver old z d = re3 fun _ r c => O r c + ∑ j ∈ Finset.range 64, Z j r c * Q j r c := by
  rw [sumOver, groupSum_re Z Q z d hz hd, ho, show shapeCast S8x512 (re3 _) shapeCasts_S1x8x512_S8x512 = _ from down3 _ _, add2]
  exact up3 (fun r c => O r c + ∑ j ∈ Finset.range 64, Z j r c * Q j r c) _

/-! ## Reading written pieces -/

section Read
variable {sig : RefSig} {s : Shape} {e : EltTy} {sp : Space} {κ : Kind}

/-- Where the pieces all hold one function's values, a box they cover reads it. -/
theorem readCov_of_pieces (v : View sig κ sp s e) (L : List (View.Piece (Elt Ideal) s e)) (G : s.Idx → Elt Ideal e)
    (hL : ∀ p ∈ L, ∀ x : p.1.shape.Idx, p.2 x = G (p.1.emb x)) (B : Rect s) (hB : ∀ x, ∃ p ∈ L, B.emb x ∈ p.1.set) :
    v.readCov L B.toLoadRect = fun x => G (B.emb x) := by
  rw [View.readCov_eq_canon']
  exact funext fun x => View.canon_apply_of_pieces G L hL _ (hB x)

theorem mem_box {off size : Fin s.rank → ℕ} (inb : ∀ a, off a + size a ≤ s.size a) (y : s.Idx)
    (h : ∀ a, off a ≤ (y a).val ∧ (y a).val < off a + size a) : y ∈ (Rect.unit off size inb).set :=
  (Rect.unit off size inb).mem_set.mpr fun a => ⟨(y a).val - off a, by have := h a; show _ < size a; omega,
    by have := h a; show _ = off a + 1 * _; omega⟩

end Read

/-! ## What one point's buffers hold -/

section Point
variable (P : ℕ → Fin 512 → ℝ) {i : grid0.Coords} {d : Vec Ideal S512x512 .f32} {e : Vec Ideal S32x512 .f32}

theorem pads_hold (h0 : d = re2 fun r c => P r.val c) (h1 : k0_pay9 i e = re2 fun r c => P (512 + r.val) c) (h2 : ∀ r c, 544 ≤ r → P r c = 0) :
    ∀ p ∈ padPieces i d e, ∀ x : p.1.shape.Idx, p.2 x = ((P (p.1.emb x 0).val (p.1.emb x 1) : ℝ) : EReal) := by
  have h3 : k0_pay8 d = re2 fun r c => P r.val c := by unfold k0_pay8; dsimp only; rw [shapeCast_self, h0]
  have h4 : k0_pay10 (F := Ideal) = re2 (m := 8) (n := 512) fun _ _ => 0 := by
    unfold k0_pay10; dsimp only; rw [shapeCast_self]; exact const2 ofBits_zero
  intro p hp x
  simp only [padPieces, List.mem_cons, List.not_mem_nil, or_false] at hp
  obtain rfl | rfl | rfl := hp
  · refine (congrFun h4 x).trans (congrArg _ (h2 _ _ ?_).symm)
    show 544 ≤ 544 + 1 * (x 0).val
    omega
  · refine (congrFun h1 x).trans (congrArg _ (congrArg₂ P ?_ (Fin.ext ?_)))
    · show 512 + (x 0).val = 512 + 1 * (x 0).val; omega
    · show (x 1).val = 0 + 1 * (x 1).val; omega
  · refine (congrFun h3 x).trans (congrArg _ (congrArg₂ P ?_ (Fin.ext ?_)))
    · show (x 0).val = 0 + 1 * (x 0).val; omega
    · show (x 1).val = 0 + 1 * (x 1).val; omega

theorem pads_cover (y : S552x512.Idx) : ∃ p ∈ padPieces i d e, y ∈ p.1.set := by
  have h0 : (y 0).val < 552 := (y 0).isLt
  have h1 : (y 1).val < 512 := (y 1).isLt
  by_cases ha : (y 0).val < 512
  · refine ⟨_, List.mem_cons_of_mem _ (List.mem_cons_of_mem _ List.mem_cons_self), mem_box inb_S552x512_S512x512_0_0 y fun a => ?_⟩
    match a with
    | 0 => exact ⟨Nat.zero_le _, by show _ < 0 + 512; omega⟩
    | 1 => exact ⟨Nat.zero_le _, by show _ < 0 + 512; omega⟩
  · by_cases hb : (y 0).val < 544
    · refine ⟨_, List.mem_cons_of_mem _ List.mem_cons_self, mem_box inb_S552x512_S32x512_512_0 y fun a => ?_⟩
      match a with
      | 0 => exact ⟨by show 512 ≤ _; omega, by show _ < 512 + 32; omega⟩
      | 1 => exact ⟨Nat.zero_le _, by show _ < 0 + 512; omega⟩
    · refine ⟨_, List.mem_cons_self, mem_box inb_S552x512_S8x512_544_0 y fun a => ?_⟩
      match a with
      | 0 => exact ⟨by show 544 ≤ _; omega, by show _ < 544 + 8; omega⟩
      | 1 => exact ⟨Nat.zero_le _, by show _ < 0 + 512; omega⟩

theorem copies_hold (f : Fin 8 → Vec Ideal S544x512 .f32) (hf : ∀ b : Fin 8, f b = re2 fun r c => P (b.val + r.val) c) : (n : ℕ) → (h : n ≤ 8) →
    ∀ p ∈ copyPieces f n h, ∀ x : p.1.shape.Idx, p.2 x = ((P ((p.1.emb x 0).val + (p.1.emb x 1).val) (p.1.emb x 2) : ℝ) : EReal)
  | 0, _ => fun p hp => absurd hp List.not_mem_nil
  | n + 1, h => fun p hp x => by
    rw [copyPieces, List.mem_cons] at hp
    obtain rfl | hp := hp
    · show shapeCast S1x544x512 (f ⟨n, h⟩) _ x = _
      rw [hf]
      refine (congrFun (up3 (m := 544) (fun r c => P (n + r) c) shapeCasts_S544x512_S1x544x512) x).trans (congrArg _ (congrArg₂ P ?_ (Fin.ext ?_)))
      · have h0 : (x 0).val < 1 := (x 0).isLt
        show n + (x 1).val = (n + 1 * (x 0).val) + (0 + 1 * (x 1).val); omega
      · show (x 2).val = 0 + 1 * (x 2).val; omega
    · exact copies_hold f hf n _ p hp x

theorem copies_cover (f : Fin 8 → Vec Ideal S544x512 .f32) (y : S8x544x512.Idx) : (n : ℕ) → (h : n ≤ 8) → (y 0).val < n →
    ∃ p ∈ copyPieces f n h, y ∈ p.1.set
  | 0, _, hy => absurd hy (Nat.not_lt_zero _)
  | n + 1, h, hy => by
    by_cases hn : (y 0).val < n
    · obtain ⟨p, hp, hm⟩ := copies_cover f y n (Nat.le_of_succ_le h) hn
      exact ⟨p, List.mem_cons_of_mem _ hp, hm⟩
    · have h1 : (y 1).val < 544 := (y 1).isLt
      have h2 : (y 2).val < 512 := (y 2).isLt
      refine ⟨_, List.mem_cons_self, mem_box (copy_in ⟨n, h⟩) y fun a => ?_⟩
      match a with
      | 0 => exact ⟨by show n ≤ _; omega, by show _ < n + 1; omega⟩
      | 1 => exact ⟨Nat.zero_le _, by show _ < 0 + 544; omega⟩
      | 2 => exact ⟨Nat.zero_le _, by show _ < 0 + 512; omega⟩

section Rows
variable {f : Fin 16 → FVec Ideal S32x512 .f32}

theorem rows_hold (T : ℕ → Fin 512 → ℝ) (hf : ∀ g : Fin 16, f g = re2 fun r c => T (32 * g.val + r.val) c) : (n : ℕ) → (h : n ≤ 16) →
    ∀ p ∈ rowsPieces f n h, ∀ x : p.1.shape.Idx, p.2 x = ((T (p.1.emb x 0).val (p.1.emb x 1) : ℝ) : EReal)
  | 0, _ => fun p hp => absurd hp List.not_mem_nil
  | n + 1, h => fun p hp x => by
    rw [rowsPieces, List.mem_cons] at hp
    obtain rfl | hp := hp
    · show f ⟨n, h⟩ x = _
      rw [hf]
      refine congrArg _ (congrArg₂ T (?_ : 32 * n + (x 0).val = 32 * n + 1 * (x 0).val) (Fin.ext (?_ : (x 1).val = 0 + 1 * (x 1).val))) <;> omega
    · exact rows_hold T hf n _ p hp x

theorem rows_cover (y : S512x512.Idx) : (n : ℕ) → (h : n ≤ 16) → (y 0).val < 32 * n → ∃ p ∈ rowsPieces f n h, y ∈ p.1.set
  | 0, _, hy => absurd hy (Nat.not_lt_zero _)
  | n + 1, h, hy => by
    by_cases hn : (y 0).val < 32 * n
    · obtain ⟨p, hp, hm⟩ := rows_cover y n (Nat.le_of_succ_le h) hn
      exact ⟨p, List.mem_cons_of_mem _ hp, hm⟩
    · have h1 : (y 1).val < 512 := (y 1).isLt
      refine ⟨_, List.mem_cons_self, mem_box (rows_in ⟨n, h⟩) y fun a => ?_⟩
      match a with
      | 0 => exact ⟨by show 32 * n ≤ _; omega, by show _ < 32 * n + 32; omega⟩
      | 1 => exact ⟨Nat.zero_le _, by show _ < 0 + 512; omega⟩

end Rows

end Point

/-! ## The taps' sums written one after another -/

section Sums
variable {κ : Kind} {sp : Space} (v : View sig κ sp S32x8x512 .f32) (f : v.ty.Contents (Elt Ideal)) (L : List (View.Piece (Elt Ideal) S32x8x512 .f32))
  (old : List (View.Piece (Elt Ideal) S32x8x512 .f32) → Fin 31 → Vec Ideal S1x8x512 .f32)
  (z : Fin 64 → Vec Ideal S8x512 .f32) (d : Fin 31 → Fin 64 → Vec Ideal S1x8x512 .f32)

/-- A tap not yet reached reads what was there. -/
theorem sum_later (y : S32x8x512.Idx) : (n : ℕ) → (h : n ≤ 31) → n ≤ (y 0).val →
    v.read (Elt Ideal) (v.writes (Elt Ideal) f (sumPieces L old z d n h)) y = v.read (Elt Ideal) (v.writes (Elt Ideal) f L) y
  | 0, _, _ => rfl
  | n + 1, h, hy => (View.read_writes_cons_unit_of_not_mem v f _ _ _ y rfl 0 (Or.inr hy)).trans (sum_later y n _ (Nat.le_of_succ_le hy))

/-- A tap written reads its sum. -/
theorem sum_at (k : Fin 31) (y : S32x8x512.Idx) (hk : (y 0).val = k.val) : (n : ℕ) → (h : n ≤ 31) → k.val < n →
    v.read (Elt Ideal) (v.writes (Elt Ideal) f (sumPieces L old z d n h)) y
      = sumOver (old (sumPieces L old z d k.val k.isLt.le) k) z (d k) (ix3 0 (y 1) (y 2))
  | 0, _, hn => absurd hn (Nat.not_lt_zero _)
  | n + 1, h, hn => by
    by_cases e : k.val = n
    · subst e
      refine View.read_writes_cons_unit_of_mem v f _ _ _ y (ix3 0 (y 1) (y 2)) rfl fun a => ?_
      match a with
      | 0 => exact hk
      | 1 => exact (Nat.zero_add _).symm
      | 2 => exact (Nat.zero_add _).symm
    · refine (View.read_writes_cons_unit_of_not_mem v f _ _ _ y rfl 0 (Or.inl ?_)).trans (sum_at k y hk n _ (by omega))
      show (y 0).val < n
      omega

end Sums

end Cert.Taps

end
-- ==== Proof.TapsWrites.lean ====
/-
  The taps' kernel on arrays of reals: what one point writes, from the blocks it reads.
-/
module

public import proofs.«01_k».proof.Proof.TapsPoint
public import Idealize.ShloMosaic.Lib.Pipeline.ValueKit

@[expose] public section

set_option maxRecDepth 16384

noncomputable section

namespace Cert.Taps

open Idealize.ShloMosaic hiding ix1 ix2 ix3 eq_ix2 eq_ix3
open Idealize.ShloMosaic.ValueIdx
open Cert.Kernel4Ideal Cert.Kernel4Ideal.Gen Cert.Reals
open scoped BigOperators

/-! ## The payloads -/

section Payloads
variable (V : Fin 512 → Fin 1024 → ℝ)

theorem left_re : extractStridedSlice S512x512 ![0, 0] (re2 V) slices_S512x1024_o0_0_S512x512 = re2 fun r c => V r (lo c) :=
  (slice2 V 0 0 _ (by norm_num) (by norm_num)).trans (re2_congr fun r c => congrArg₂ V (Fin.ext (Nat.zero_add _)) (Fin.ext (Nat.zero_add _)))
theorem right_re : extractStridedSlice S512x512 ![0, 512] (re2 V) slices_S512x1024_o0_512_S512x512 = re2 fun r c => V r (hi c) :=
  (slice2 V 0 512 _ (by norm_num) (by norm_num)).trans (re2_congr fun r c => congrArg₂ V (Fin.ext (Nat.zero_add _)) rfl)

theorem pay6_re : k0_pay6 (F := Ideal) (re2 V) = re2 fun r c => sg (V r (hi c)) := by
  unfold k0_pay6; dsimp only
  rw [right_re, show broadcast S512x512 (Scalar.ofBits (F := Ideal) .f32 0x00000000#32) = _ from const2 ofBits_zero,
    show broadcast S512x512 (Scalar.ofBits (F := Ideal) .f32 0x3F800000#32) = _ from const2 ofBits_one, sub2, exp2, add2]
  exact sg2 _

/-- The block's gated values. -/
def gatedBlock (r : Fin 512) (c : Fin 512) : ℝ := V r (lo c) * sg (V r (hi c))

theorem pay7_re : k0_pay7 (F := Ideal) (re2 V) = re2 (gatedBlock V) := by
  unfold k0_pay7; dsimp only
  rw [pay6_re, left_re, mul2, shapeCast_self]; rfl

variable (Z : Fin 512 → Fin 512 → ℝ)

theorem pay3_re : k0_pay3 (F := Ideal) (k0_pay6 (re2 V)) (re2 Z) = re2 fun r c => Z r c * sg (V r (hi c)) := by
  unfold k0_pay3; dsimp only
  rw [pay6_re, mul2]

theorem pay4_re : k0_pay4 (F := Ideal) (re2 V) (k0_pay6 (re2 V)) (re2 Z)
    = re2 fun r c => Z r c * V r (lo c) * sg (V r (hi c)) * (1 - sg (V r (hi c))) := by
  unfold k0_pay4; dsimp only
  rw [pay6_re, left_re, show broadcast S512x512 (Scalar.ofBits (F := Ideal) .f32 0x3F800000#32) = _ from const2 ofBits_one, mul2, mul2, sub2, mul2]

end Payloads

/-- The taps' sum over the rows from row `r` of the block on. -/
def tapsAt (P : ℕ → Fin 512 → ℝ) (W : Fin 31 → Fin 512 → ℝ) (r : ℕ) (c : Fin 512) : ℝ := ∑ k ∈ Finset.range 31, ext W k c * P (r + (30 - k)) c

/-! ## The reads -/

section Reads
variable (i : grid0.Coords) (arg1 : Memref sig .tc .vmem S512x512 .f32) (harg1 : arg1.IsWhole)
  (arg2 : Memref sig .tc .vmem S32x512 .f32) (harg2 : arg2.IsWhole) (arg3 : Memref sig .tc .vmem S512x1024 .f32) (harg3 : arg3.IsWhole)
  (arg4 : Memref sig .tc .vmem S32x512 .f32) (harg4 : arg4.IsWhole)
  (arg6 : Memref sig .tc .vmem S32x8x512 .f32) (harg6 : arg6.IsWhole) (arg7 : Memref sig .tc .vmem S552x512 .f32)
  (arg8 : Memref sig .tc .vmem S8x544x512 .f32) (arg9 : Memref sig .tc .vmem S512x512 .f32) (arg10 : Memref sig .tc .vmem S512x512 .f32)
  (x0 : Vec Ideal S512x512 .f32) (x1 : Vec Ideal S32x512 .f32) (x2 : Vec Ideal S512x1024 .f32) (x3 : Vec Ideal S32x512 .f32)

/-- The blocks a point reads are these reals. -/
structure Blocks (P : ℕ → Fin 512 → ℝ) (V : Fin 512 → Fin 1024 → ℝ) (W : Fin 31 → Fin 512 → ℝ) : Prop where
  h0 : x0 = re2 fun r c => P r.val c
  h1 : k0_pay9 i x1 = re2 fun r c => P (512 + r.val) c
  hP : ∀ r c, 544 ≤ r → P r c = 0
  h2 : x2 = re2 V
  h3 : x3 = re2 fun r c => ext W r.val c

variable {i x0 x1 x2 x3} {P : ℕ → Fin 512 → ℝ} {V : Fin 512 → Fin 1024 → ℝ} {W : Fin 31 → Fin 512 → ℝ} (hb : Blocks i x0 x1 x2 x3 P V W)
include hb

theorem values_re : values arg3 harg3 x2 = re2 V := by
  rw [values, View.readAt_eq_ld, harg3.read_unread, View.ld_unit_lit' _ _ (by decide), hb.h2]

theorem tap_re (k : Fin 31) : View.readAt (Elt Ideal) arg4.view (tapBox k).toLoadRect (harg4.unread x3) = row (W k) := by
  rw [View.readAt_eq_ld, harg4.read_unread, hb.h3]
  funext x
  have hx : (x 0).val < 1 := (x 0).isLt
  refine (View.ld_unit_apply_of _ _ _ _ x (ix2 ⟨k.val, by omega⟩ (x 1)) fun a => ?_).trans (congrArg _ (ext_val W k _))
  match a with
  | 0 => show k.val = k.val + (x 0).val; omega
  | 1 => exact (Nat.zero_add _).symm

theorem pads_re (b : Fin 8) : arg7.view.readCov (pads i arg1 harg1 arg2 harg2 x0 x1) (shiftBox b).toLoadRect = re2 fun r c => P (b.val + r.val) c := by
  rw [pads, View.readAt_eq_ld, View.readAt_eq_ld, harg1.read_unread, harg2.read_unread, View.ld_unit_lit' _ _ (by decide), View.ld_unit_lit' _ _ (by decide),
    readCov_of_pieces _ _ (fun y => ((P (y 0).val (y 1) : ℝ) : EReal)) (pads_hold P hb.h0 hb.h1 hb.hP) _ fun x => pads_cover _]
  funext x
  refine congrArg _ (congrArg₂ P (?_ : b.val + 1 * (x 0).val = b.val + (x 0).val) (Fin.ext (?_ : 0 + 1 * (x 1).val = (x 1).val))) <;> omega

theorem copies_re (B : Rect S8x544x512) : arg8.view.readCov (copies i arg1 harg1 arg2 harg2 arg7 x0 x1) B.toLoadRect
    = fun x => ((P ((B.emb x 0).val + (B.emb x 1).val) (B.emb x 2) : ℝ) : EReal) := by
  rw [copies]
  exact readCov_of_pieces _ _ (fun y => ((P ((y 0).val + (y 1).val) (y 2) : ℝ) : EReal)) (copies_hold P _ (pads_re arg1 harg1 arg2 harg2 arg7 hb) 8 le_rfl) B fun x => copies_cover _ _ 8 le_rfl (B.emb x 0).isLt

theorem rowsWindow_re (g : Fin 16) (k : Fin 31) : arg8.view.readCov (copies i arg1 harg1 arg2 harg2 arg7 x0 x1) (rowsWindow g k).toLoadRect
    = re3 fun _ r c => P (32 * g.val + r + (30 - k.val)) c := by
  rw [copies_re arg1 harg1 arg2 harg2 arg7 arg8 hb]
  funext x
  have hx : (x 0).val < 1 := (x 0).isLt
  refine congrArg _ (congrArg₂ P (?_ : ((30 - k.val) % 8 + 1 * (x 0).val) + (32 * g.val + 8 * ((30 - k.val) / 8) + 1 * (x 1).val)
    = 32 * g.val + (x 1).val + (30 - k.val)) (Fin.ext (?_ : 0 + 1 * (x 2).val = (x 2).val))) <;> omega

theorem groupWindow_re (j : Fin 64) (k : Fin 31) : arg8.view.readCov (copies i arg1 harg1 arg2 harg2 arg7 x0 x1) (groupWindow j k).toLoadRect
    = re3 fun _ r c => P (8 * j.val + r + (30 - k.val)) c := by
  rw [copies_re arg1 harg1 arg2 harg2 arg7 arg8 hb]
  funext x
  have hx : (x 0).val < 1 := (x 0).isLt
  refine congrArg _ (congrArg₂ P (?_ : ((30 - k.val) % 8 + 1 * (x 0).val) + (8 * j.val + 8 * ((30 - k.val) / 8) + 1 * (x 1).val)
    = 8 * j.val + (x 1).val + (30 - k.val)) (Fin.ext (?_ : 0 + 1 * (x 2).val = (x 2).val))) <;> omega

theorem gated_re (j : Fin 64) : arg10.view.readCov (gatedPieces (values arg3 harg3 x2)) (groupBox j).toLoadRect
    = re2 fun r c => ext (gatedBlock V) (8 * j.val + r.val) c := by
  rw [values_re arg3 harg3 hb, gatedPieces, pay7_re, View.readCov_eq_canon', View.canon_cons_unit_lit' _ _ _ (by decide)]
  funext x
  have hx : (x 0).val < 8 := (x 0).isLt
  refine congrArg _ (Eq.trans ?_ (ext_lt (gatedBlock V) (show 8 * j.val + (x 0).val < 512 by omega) (x 1)).symm)
  refine congrArg₂ (gatedBlock V) (Fin.ext (?_ : 8 * j.val + 1 * (x 0).val = 8 * j.val + (x 0).val)) (Fin.ext (?_ : 0 + 1 * (x 1).val = (x 1).val)) <;> omega

/-- The gradient of the convolution's input over the block. -/
theorem rows_re : arg9.view.readCov (rows i arg1 harg1 arg2 harg2 arg4 harg4 arg7 arg8 x0 x1 x3)
      (Rect.unit ![0, 0] S512x512.size inb_S512x512_S512x512_0_0).toLoadRect
    = re2 fun r c => tapsAt P W r.val c := by
  refine (readCov_of_pieces _ _ (fun y => ((0 + tapsAt P W (y 0).val (y 1) : ℝ) : EReal)) (rows_hold (fun r c => 0 + tapsAt P W r c) (fun g => ?_) 16 le_rfl) _
    fun x => rows_cover _ 16 le_rfl (Fin.isLt _)).trans ?_
  · rw [shapeCast_self]
    exact tapSum_re (fun _ => 0) W (fun k r c => P (32 * g.val + r + (30 - k)) c) _ _ _
      ((congrArg₂ addf (const2 ofBits_zero) (const2 ofBits_zero)).trans ((add2 _ _).trans (re2_congr fun _ _ => add_zero 0)))
      (tap_re arg4 harg4 hb) (rowsWindow_re arg1 harg1 arg2 harg2 arg7 arg8 hb g) 31 le_rfl
  funext x
  refine congrArg _ ((zero_add _).trans (congrArg₂ (tapsAt P W) (?_ : 0 + 1 * (x 0).val = (x 0).val) (Fin.ext (?_ : 0 + 1 * (x 1).val = (x 1).val)))) <;> omega

/-! ## The writes -/

/-- The gradient of the values and gates over the block. -/
theorem grads_re {κ : Kind} {sp : Space} (v : View sig κ sp S512x1024 .f32) :
    v.read (Elt Ideal) (v.writes (Elt Ideal) v.junk (grads i arg1 harg1 arg2 harg2 arg3 harg3 arg4 harg4 arg7 arg8 arg9 x0 x1 x2 x3))
      = re2 fun r c => if h : c.val < 512 then tapsAt P W r.val ⟨c.val, h⟩ * sg (V r (hi ⟨c.val, h⟩))
          else tapsAt P W r.val ⟨c.val - 512, by omega⟩ * V r (lo ⟨c.val - 512, by omega⟩) * sg (V r (hi ⟨c.val - 512, by omega⟩))
            * (1 - sg (V r (hi ⟨c.val - 512, by omega⟩))) := by
  rw [grads, values_re arg3 harg3 hb, rows_re arg1 harg1 arg2 harg2 arg4 harg4 arg7 arg8 arg9 hb, gradPieces, pay3_re, pay4_re]
  funext y
  obtain ⟨r, c, rfl⟩ : ∃ r c, y = ix2 r c := ⟨_, _, eq_ix2 y⟩
  show _ = ((dite _ _ _ : ℝ) : EReal)
  by_cases hc : c.val < 512
  · rw [dif_pos hc]
    refine (View.read_writes_cons_unit_of_not_mem v _ _ _ _ _ rfl 1 (Or.inl hc)).trans ?_
    refine (View.read_writes_cons_unit_of_mem v _ _ _ _ _ (ix2 r ⟨c.val, hc⟩) rfl fun a => ?_).trans rfl
    match a with
    | 0 => exact (Nat.zero_add _).symm
    | 1 => exact (Nat.zero_add _).symm
  · rw [dif_neg hc]
    refine (View.read_writes_cons_unit_of_mem v _ _ _ _ _ (ix2 r ⟨c.val - 512, by omega⟩) rfl fun a => ?_).trans rfl
    match a with
    | 0 => exact (Nat.zero_add _).symm
    | 1 => show c.val = 512 + (c.val - 512); omega

/-- What a block adds to the gradient of tap `k`, from the rows that are `r` more than a multiple of eight. -/
def blockSum (P : ℕ → Fin 512 → ℝ) (V : Fin 512 → Fin 1024 → ℝ) (k r : ℕ) (c : Fin 512) : ℝ :=
  ∑ j ∈ Finset.range 64, ext (gatedBlock V) (8 * j + r) c * P (8 * j + r + (30 - k)) c

theorem sums_re {κ : Kind} {sp : Space} (v : View sig κ sp S32x8x512 .f32) (f : v.ty.Contents (Elt Ideal))
    (L : List (View.Piece (Elt Ideal) S32x8x512 .f32)) (old : List (View.Piece (Elt Ideal) S32x8x512 .f32) → Fin 31 → Vec Ideal S1x8x512 .f32)
    (O : ℕ → ℕ → Fin 512 → ℝ)
    (ho : ∀ (z : Fin 64 → Vec Ideal S8x512 .f32) (d : Fin 31 → Fin 64 → Vec Ideal S1x8x512 .f32) (k : Fin 31),
      old (sumPieces L old z d k.val k.isLt.le) k = re3 fun _ r c => O k.val r c)
    (y : S32x8x512.Idx) (hy : (y 0).val < 31) :
    v.read (Elt Ideal) (v.writes (Elt Ideal) f (sums i arg1 harg1 arg2 harg2 arg3 harg3 arg7 arg8 arg10 x0 x1 x2 L old)) y
      = ((O (y 0).val (y 1).val (y 2) + blockSum P V (y 0).val (y 1).val (y 2) : ℝ) : EReal) := by
  refine (sum_at v f L old _ _ ⟨(y 0).val, hy⟩ y rfl 31 le_rfl hy).trans ?_
  rw [sumOver_re (O (y 0).val) (fun j r c => ext (gatedBlock V) (8 * j + r) c) (fun j r c => P (8 * j + r + (30 - (y 0).val)) c) _ _ _
      (ho _ _ ⟨(y 0).val, hy⟩) (gated_re arg3 harg3 arg10 hb) fun j => groupWindow_re arg1 harg1 arg2 harg2 arg7 arg8 hb j ⟨(y 0).val, hy⟩]
  rfl

end Reads

/-- The first point starts each tap from zeros. -/
theorem old_first {κ : Kind} {sp : Space} (v : View sig κ sp S32x8x512 .f32) (z : Fin 64 → Vec Ideal S8x512 .f32)
    (d : Fin 31 → Fin 64 → Vec Ideal S1x8x512 .f32) (k : Fin 31) :
    v.readCov (sumPieces [⟨Rect.unit ![0, 0, 0] S32x8x512.size inb_S32x8x512_S32x8x512_0_0_0, k0_pay5⟩]
        (fun L k => v.readCov L (sumBox k).toLoadRect) z d k.val k.isLt.le) (sumBox k).toLoadRect = re3 fun _ _ _ => 0 := by
  funext x
  refine (sum_later v v.junk _ _ z d ((sumBox k).emb x) k.val k.isLt.le ?_).trans ?_
  · show k.val ≤ k.val + 1 * (x 0).val
    omega
  · exact (View.read_writes_cons_unit_of_mem v _ _ _ _ _ ((sumBox k).emb x) rfl fun a => by
      match a with
      | 0 | 1 | 2 => exact (Nat.zero_add _).symm).trans ofBits_zero

/-- A later one from what the point before left. -/
theorem old_later (m : Memref sig .tc .vmem S32x8x512 .f32) (hm : m.IsWhole) (x : Vec Ideal S32x8x512 .f32) (O : ℕ → ℕ → Fin 512 → ℝ)
    (hx : ∀ y : S32x8x512.Idx, (y 0).val < 31 → x y = ((O (y 0).val (y 1).val (y 2) : ℝ) : EReal)) (k : Fin 31) :
    View.readAt (Elt Ideal) m.view (sumBox k).toLoadRect (hm.unread x) = re3 fun _ r c => O k.val r c := by
  rw [View.readAt_eq_ld, hm.read_unread]
  funext y
  have hy : (y 0).val < 1 := (y 0).isLt
  refine (View.ld_unit_apply_of _ _ _ _ y (ix3 ⟨k.val, by omega⟩ (y 1) (y 2)) fun a => ?_).trans ((hx _ k.isLt).trans rfl)
  match a with
  | 0 => show k.val = k.val + (y 0).val; omega
  | 1 => exact (Nat.zero_add _).symm
  | 2 => exact (Nat.zero_add _).symm

end Cert.Taps

end
-- ==== Proof.TapsRun.lean ====
/-
  The taps' kernel over its eight blocks of 512 rows: the blocks each point reads, and what its two output arrays hold
  at the end.
-/
module

public import proofs.«01_k».proof.Proof.TapsWrites
public import proofs.«01_k».proof.Proof.HostReals

@[expose] public section

set_option maxRecDepth 16384

noncomputable section

namespace Cert.Taps.Kernel

open Idealize.ShloMosaic hiding ix1 ix2 ix3 eq_ix2 eq_ix3
open Idealize.ShloMosaic.ValueIdx
open Cert.Kernel4Ideal Cert.Kernel4Ideal.Gen Cert.Reals
open scoped BigOperators

/-- Row `r` of block `t`. -/
def brow (t : Fin cfg0.N) (r : Fin 512) : Fin 4096 :=
  ⟨t.val * 512 + r.val, by have h : t.val < 8 := t.isLt; omega⟩

/-- Only the last block's rows have none after them. -/
theorem last_block : ∀ t : Fin cfg0.N, Scalar.cmpi .slt (BitVec.ofNat 32 (grid0.coords t 0).val) 7#32 = if t.val < 7 then 1#1 else 0#1 :=
  (by decide +kernel : ∀ t : Fin grid0.N, _)

variable (m : (ℓ : Loc nD τ sig) → Buf (Elt Ideal) ℓ) (c : Dev nD) (D : Fin 4096 → Fin 512 → ℝ) (V : Fin 4096 → Fin 1024 → ℝ)
  (W : Fin 31 → Fin 512 → ℝ)

/-- The region's input arrays are these reals. -/
structure Inputs : Prop where
  hD : Gen.V m c main_arg0 = re2 D
  hV : Gen.V m c main_arg1 = re2 V
  hW : Gen.V m c main_v0 = re2 fun (r : Fin 32) c => ext W r.val c

/-- The rows from a block's first on, as the kernel copies them: the next block's first thirty-two after the block's own. -/
def fromBlock (t : ℕ) (r : ℕ) (c : Fin 512) : ℝ := if r < 544 then ext D (t * 512 + r) c else 0

variable {m c D V W} (hin : Inputs m c D V W)
include hin

theorem iblk0 (t : Fin cfg0.N) : iblk m c 0 t = re2 fun (r : Fin 512) c => fromBlock D t.val r.val c := by
  have e : ∀ t : Fin cfg0.N, win0_0.index t = ![t.val, 0] := (by decide +kernel : ∀ t : Fin grid0.N, _)
  have ht : t.val < 8 := t.isLt
  funext i
  have hi : (ax0 i).val < 512 := (ax0 i).isLt
  unfold iblk; rw [View.read_apply]
  refine (congrFun hin.hD _).trans ?_
  refine (?_ : _ = ((D (brow t (ax0 i)) (ax1 i) : ℝ) : EReal)).trans (congrArg Real.toEReal ?_)
  · refine congrArg₂ (fun p q => ((D p q : ℝ) : EReal)) (Fin.ext ?_) (Fin.ext ?_) <;> dsimp only [ax0, ax1, brow] <;> blk_simp [e] <;> rfl
  · show _ = fromBlock D t.val (ax0 i).val (ax1 i)
    rw [fromBlock, if_pos (by omega), ext_lt D (show t.val * 512 + (ax0 i).val < 4096 by omega)]; rfl

theorem iblk1 (t : Fin cfg0.N) : iblk m c 1 t = re2 fun (r : Fin 32) c => ext D (min ((t.val + 1) * 16) 127 * 32 + r.val) c := by
  have e : ∀ t : Fin cfg0.N, win0_1.index t = ![min ((t.val + 1) * 16) 127, 0] := (by decide +kernel : ∀ t : Fin grid0.N, _)
  have ht : t.val < 8 := t.isLt
  funext i
  have hi : (ax0 i).val < 32 := (ax0 i).isLt
  unfold iblk; rw [View.read_apply]
  refine (congrFun hin.hD _).trans ?_
  refine (?_ : _ = ((D ⟨min ((t.val + 1) * 16) 127 * 32 + (ax0 i).val, by omega⟩ (ax1 i) : ℝ) : EReal)).trans (congrArg Real.toEReal ?_)
  · refine congrArg₂ (fun p q => ((D p q : ℝ) : EReal)) (Fin.ext ?_) (Fin.ext ?_) <;> dsimp only [ax0, ax1] <;> blk_simp [e] <;> rfl
  · exact (ext_lt D _ _).symm

theorem iblk2 (t : Fin cfg0.N) : iblk m c 2 t = re2 fun r => V (brow t r) := by
  have e : ∀ t : Fin cfg0.N, win0_2.index t = ![t.val, 0] := (by decide +kernel : ∀ t : Fin grid0.N, _)
  funext i
  unfold iblk; rw [View.read_apply]
  refine (congrFun hin.hV _).trans ?_
  refine congrArg₂ (fun p q => ((V p q : ℝ) : EReal)) (Fin.ext ?_) (Fin.ext ?_) <;> dsimp only [ax0, ax1, brow] <;> blk_simp [e] <;> rfl

theorem iblk3 (t : Fin cfg0.N) : iblk m c 3 t = re2 fun (r : Fin 32) c => ext W r.val c := by
  have e : ∀ t : Fin cfg0.N, win0_3.index t = ![0, 0] := (by decide +kernel : ∀ t : Fin grid0.N, _)
  funext i
  unfold iblk; rw [View.read_apply]
  refine (congrFun hin.hW _).trans ?_
  refine congrArg₂ (fun (p : Fin 32) q => ((ext W p.val q : ℝ) : EReal)) (Fin.ext ?_) (Fin.ext ?_) <;> dsimp only [ax0, ax1] <;> blk_simp [e] <;> rfl

theorem blocks (t : Fin cfg0.N) :
    Blocks (grid0.coords t) (iblk m c 0 t) (iblk m c 1 t) (iblk m c 2 t) (iblk m c 3 t) (fromBlock D t.val) (fun r => V (brow t r)) W where
  h0 := iblk0 hin t
  h1 := by
    have ht : t.val < 8 := t.isLt
    unfold k0_pay9; dsimp only
    rw [iblk1 hin, last_block, shapeCast_self]
    by_cases h : t.val < 7
    · rw [if_pos h]
      refine (if_pos rfl : Scalar.select 1#1 _ _ = _).trans (re2_congr fun r c => ?_)
      rw [fromBlock, if_pos (by omega)]
      exact congrArg (fun a => ext D a c) (by omega)
    · rw [if_neg h]
      refine (if_neg (by decide) : Scalar.select 0#1 _ _ = _).trans ((const2 ofBits_zero).trans (re2_congr fun r c => ?_))
      rw [fromBlock, if_pos (by omega), ext_ge D (by omega)]
  hP := fun r c h => if_neg (by omega)
  h2 := iblk2 hin t
  h3 := iblk3 hin t

/-- Over a block, the taps' sum is the gradient of the convolution's input. -/
theorem tapsAt_eq (t : Fin cfg0.N) (r : Fin 512) (c : Fin 512) : tapsAt (fromBlock D t.val) W r.val c = dz D W (brow t r).val c :=
  Finset.sum_congr rfl fun k hk => by
    rw [fromBlock, if_pos (by have := r.isLt; omega)]
    exact congrArg (fun a => ext W k c * ext D a c) (show t.val * 512 + (r.val + (30 - k)) = t.val * 512 + r.val + (30 - k) by omega)

theorem out4 (t : Fin cfg0.N) : (outsAt0 m c t.val t.isLt).1 = re2 fun r c => dv D V W (brow t r) c := by
  have e : (re2 fun (r : Fin 512) (c : Fin 1024) => if h : c.val < 512 then tapsAt (fromBlock D t.val) W r.val ⟨c.val, h⟩ * sg (V (brow t r) (hi ⟨c.val, h⟩))
          else tapsAt (fromBlock D t.val) W r.val ⟨c.val - 512, by omega⟩ * V (brow t r) (lo ⟨c.val - 512, by omega⟩) * sg (V (brow t r) (hi ⟨c.val - 512, by omega⟩))
            * (1 - sg (V (brow t r) (hi ⟨c.val - 512, by omega⟩)))) = re2 fun r c => dv D V W (brow t r) c :=
    re2_congr fun r c => by simp only [tapsAt_eq hin]; rfl
  rw [← e]
  by_cases h : t.val % 8 = 0
  · rw [outsAt0_A m c t h]; dsimp only
    unfold out0_A_4
    rw [grads_first]
    exact grads_re _ _ _ _ _ _ _ _ _ _ _ (blocks hin t) _
  · rw [outsAt0_B m c t h]; dsimp only
    unfold out0_B_4
    rw [grads_later]
    exact grads_re _ _ _ _ _ _ _ _ _ _ _ (blocks hin t) _

/-- A row's share in tap `k`'s gradient. -/
def share (D : Fin 4096 → Fin 512 → ℝ) (V : Fin 4096 → Fin 1024 → ℝ) (k : ℕ) (c : Fin 512) (s : ℕ) : ℝ := ext (gated V) s c * ext D (s + (30 - k)) c

omit hin in
theorem blockSum_eq (t : Fin cfg0.N) (k q : ℕ) (hq : q < 8) (c : Fin 512) :
    blockSum (fromBlock D t.val) (fun r => V (brow t r)) k q c = ∑ j ∈ Finset.range 64, share D V k c (t.val * 512 + (8 * j + q)) := by
  have ht : t.val < 8 := t.isLt
  refine Finset.sum_congr rfl fun j hj => ?_
  have hj : j < 64 := Finset.mem_range.mp hj
  rw [share, fromBlock, if_pos (by omega), ext_lt _ (show 8 * j + q < 512 by omega), ext_lt (gated V) (show t.val * 512 + (8 * j + q) < 4096 by omega)]
  exact congrArg (fun a => gated V ⟨t.val * 512 + (8 * j + q), by omega⟩ c * ext D a c) (Nat.add_assoc _ _ _).symm

/-- After a point, the taps' gradients of the blocks so far. -/
theorem out5 (n : ℕ) (h : n < cfg0.N) (y : S32x8x512.Idx) (hy : (y 0).val < 31) : (outsAt0 m c n h).2 y
    = ((∑ t ∈ Finset.range (n + 1), ∑ j ∈ Finset.range 64, share D V (y 0).val (y 2) (t * 512 + (8 * j + (y 1).val)) : ℝ) : EReal) := by
  have h8 : n < 8 := h
  induction n generalizing y with
  | zero =>
    rw [outsAt0_A m c ⟨0, h⟩ rfl]; dsimp only
    unfold out0_A_5
    rw [sums_first]
    refine (sums_re _ _ _ _ _ _ _ _ _ (blocks hin ⟨0, h⟩) _ _ _ _ (fun _ _ _ => 0) (fun z d k => old_first _ z d k) y hy).trans ?_
    refine congrArg Real.toEReal ((zero_add _).trans ((blockSum_eq ⟨0, h⟩ _ _ (y 1).isLt _).trans ?_))
    exact (Finset.sum_range_one (fun t => ∑ j ∈ Finset.range 64, share D V (y 0).val (y 2) (t * 512 + (8 * j + (y 1).val)))).symm
  | succ n ih =>
    have h0 : ¬ (n + 1) % 8 = 0 := by omega
    rw [outsAt0_B m c ⟨n + 1, h⟩ h0]; dsimp only
    unfold out0_B_5
    rw [sums_later]
    refine (sums_re _ _ _ _ _ _ _ _ _ (blocks hin ⟨n + 1, h⟩) _ _ _ _
      (fun k q c => ∑ t ∈ Finset.range (n + 1), ∑ j ∈ Finset.range 64, share D V k c (t * 512 + (8 * j + q)))
      (fun z d k => old_later (ms0_5 ⟨n + 1, h⟩) (hs0_5 ⟨n + 1, h⟩) (outsAt0 m c n (Nat.lt_of_succ_lt h)).2
        (fun k q c => ∑ t ∈ Finset.range (n + 1), ∑ j ∈ Finset.range 64, share D V k c (t * 512 + (8 * j + q)))
        (fun y hy => ih (Nat.lt_of_succ_lt h) y hy (by omega)) k) y hy).trans ?_
    refine congrArg Real.toEReal ((congrArg (_ + ·) (blockSum_eq ⟨n + 1, h⟩ _ _ (y 1).isLt _)).trans ?_)
    exact (Finset.sum_range_succ (fun t => ∑ j ∈ Finset.range 64, share D V (y 0).val (y 2) (t * 512 + (8 * j + (y 1).val))) (n + 1)).symm

theorem arr4 : (dats m 0 c).arrAt 4 cfg0.N = re2 (dv D V W) := by
  have e : ∀ t : Fin cfg0.N, win0_4.index t = ![t.val, 0] := (by decide +kernel : ∀ t : Fin grid0.N, _)
  refine (dats m 0 c).arrAt_eq_of_covers 4 _ (by decide +kernel) fun t _ y => ?_
  blk_simp
  rw [after0_4, out4 hin]
  refine congrArg₂ (fun p q => ((dv D V W p q : ℝ) : EReal)) (Fin.ext ?_) (Fin.ext ?_) <;> dsimp only [ax0, ax1, brow] <;> blk_simp [e] <;> rfl

omit hin in
/-- The last point's block is the whole array of the taps' gradients. -/
theorem arr5 : (dats m 0 c).arrAt 5 cfg0.N = (outsAt0 m c 7 (by decide)).2 := by
  refine (dats m 0 c).arrAt_eq_of_after_last 5 ⟨7, by decide⟩ (by decide +kernel) _ fun j => ?_
  blk_simp
  exact (congrFun (after0_5 m c ⟨7, by decide⟩) _).trans (congrArg _ (funext fun a => Fin.ext (by
    match a with
    | 0 | 1 | 2 => blk_simp)))

omit hin in
/-- The rows of all blocks, by their place among eight. -/
theorem sum_groups (f : ℕ → ℝ) :
    ∑ q : Fin 8, ∑ t ∈ Finset.range 8, ∑ j ∈ Finset.range 64, f (t * 512 + (8 * j + q.val)) = ∑ s : Fin 4096, f s.val := by
  rw [Finset.sum_comm, ← Fin.sum_mul_add_fin 8 512 (fun s : Fin 4096 => f s.val), Finset.sum_range]
  refine Finset.sum_congr rfl fun t _ => ?_
  rw [Finset.sum_comm, Finset.sum_range]
  exact Fin.sum_mul_add_congr (L := 512) (S := 64) (n := 8) (f := fun r : Fin 512 => f (t.val * 512 + r.val))
    fun j q _ => congrArg f (by show t.val * 512 + (8 * j.val + q.val) = t.val * 512 + (j.val * 8 + q.val); omega)

omit hin in
/-- The eight partial sums of a tap's gradient together. -/
theorem sum_share (k : ℕ) (c : Fin 512) :
    ∑ q : Fin 8, ∑ t ∈ Finset.range 8, ∑ j ∈ Finset.range 64, share D V k c (t * 512 + (8 * j + q.val)) = dw D V k c :=
  (sum_groups (share D V k c)).trans (Finset.sum_congr rfl fun s _ => by rw [share, ext_val])

end Cert.Taps.Kernel

end
-- ==== Proof.TapsEntry.lean ====
/-
  The taps' kernel: the region's input arrays, as the host prepares them, and the host's sum of the taps' gradients.
-/
module

public import proofs.«01_k».proof.Proof.TapsRun

@[expose] public section

noncomputable section

namespace Cert.Taps.Kernel

open Idealize.ShloMosaic hiding ix1 ix2 ix3 eq_ix2 eq_ix3
open Idealize.ShloMosaic.ValueIdx
open Cert.Kernel4Ideal Cert.Kernel4Ideal.Gen Cert.Reals
open scoped BigOperators

variable {m : (ℓ : Loc nD τ sig) → Buf (Elt Ideal) ℓ} {c : Dev nD} {D : Fin 4096 → Fin 512 → ℝ} {V : Fin 4096 → Fin 1024 → ℝ}
  {W : Fin 31 → Fin 512 → ℝ}

theorem zero_word : sitofp (F := Ideal) .f32 (constantI S_ 32 0#32) = constant S_ .f32 0x00000000#32 := by
  funext i
  refine Eq.trans ?_ (zero_at i).symm
  show (((0#32 : BitVec 32).toInt : ℝ) : EReal) = _
  norm_num

/-- The host's row of zeros below the taps. -/
theorem entry_w (h : m ((c.tc : Thread nD τ).loc main_arg2) = re2 W) : Gen.V m c main_v0 = re2 fun (r : Fin 32) c => ext W r.val c := by
  unfold Gen.V V0 hostOps0 hostOps0_1
  simp only [List.flatten_cons, List.flatten_nil, List.cons_append, List.nil_append, List.append_nil]
  after_results
  refine Eq.trans ?_ ((padRows2 (m := 31) (p := 32) W 0 1 (by decide) h_S_).trans (re2_congr fun r c => if_pos (Nat.zero_le _)))
  rw [← h, ← zero_word]; rfl

theorem inputs (h0 : m ((c.tc : Thread nD τ).loc main_arg0) = re2 D) (h1 : m ((c.tc : Thread nD τ).loc main_arg1) = re2 V)
    (h2 : m ((c.tc : Thread nD τ).loc main_arg2) = re2 W) : Inputs m c D V W :=
  ⟨(V_main_arg0 m c).trans h0, (V_main_arg1 m c).trans h1, entry_w h2⟩

/-- The host's sum over the eight rows of every tap, and its first thirty-one. -/
theorem tail (hin : Inputs m c D V W) :
    Pipeline.afterTail₀ cfgs (dats m) 0 (V0 m) [hostOps1] c main_v3 = re2 fun (k : Fin 31) c => dw D V k.val c := by
  have e : Pipeline.withArrays (cfgs 0).spec c (V0 m c) (fun w => (dats m 0 c).arrAt w (cfgs 0).N) (Proc.devRef .tc main_v1_1)
      = (outsAt0 m c 7 (by decide)).2 :=
    (Pipeline.withArrays_arr_shared spec0 c (V0 m c) (fun w => (dats m 0 c).arrAt w (cfgs 0).N) (fun w w' hne he => by
      have hw : w = 0 ∨ w = 1 := by revert w w'; decide
      rcases hw with rfl | rfl
      · exact ((dats m 0 c).arrAt_in 0 rfl _).trans (A_eq m c 0)
      · exact ((dats m 0 c).arrAt_in 1 rfl _).trans (A_eq m c 1)) 5).trans arr5
  unfold Pipeline.afterTail₀ hostOps1
  simp only [List.flatten_cons, List.flatten_nil, List.cons_append, List.nil_append, List.append_nil]
  after_results
  rw [e]
  funext i
  have hi : (ax0 i).val < 31 := (ax0 i).isLt
  refine (extractStridedSlice_apply _ _ slices_S32x512_S31x512_0_0 i (ix2 ⟨(ax0 i).val, by omega⟩ (ax1 i)) fun a => by
    match a with
    | 0 | 1 => exact (Nat.zero_add _).symm).trans ?_
  simp only [Host.reduceAdd, Ideal.hostReduceAdd_def]
  rw [Ideal.hostReduceAdd_single _ (by decide : S32x8x512.Reduces [1] S32x512)]
  refine (zero_add_sum (ι := Fin 8) (g := fun q => ∑ t ∈ Finset.range 8, ∑ j ∈ Finset.range 64,
    share D V (ax0 i).val (ax1 i) (t * 512 + (8 * j + q.val))) ofBits_zero fun q => ?_).trans (congrArg Real.toEReal (sum_share _ _))
  exact out5 hin 7 (by decide) _ hi

end Cert.Taps.Kernel

end
-- ==== Proof.TapsReference.lean ====
/-
  The gated convolution's reference on arrays of real numbers: its two results as the real functions of `TapsMath`. The
  thirty-one taps' terms are first gathered into one recursion over the taps.
-/
module

public import proofs.«01_k».proof.Proof.Blocks
public import proofs.«01_k».proof.Proof.Gen.Reference4Ideal.Read
public import Idealize.ShloMosaic.Lib.Tactic

@[expose] public section

set_option maxRecDepth 16384

noncomputable section

namespace Cert.Taps.Reference

open Idealize.ShloMosaic hiding ix1 ix2 eq_ix2
open Idealize.ShloMosaic.ValueIdx
open Idealize.ShloMosaic.Tactic
open Cert.Reference4Ideal Cert.Reference4Ideal.Gen Cert.Reference4Ideal.Read Cert.Reals
open scoped BigOperators

/-! ## The recursion over the taps -/

theorem row_slices : ∀ k : Fin 31, S31x512.Slices ![k.val, 0] S1x512 := by decide
theorem window_slices : ∀ k : Fin 31, S4126x512.Slices ![k.val, 0] S4096x512 := by decide
theorem rows_pads : ∀ k : Fin 31, S4096x512.Pads (![k.val, 0] : Fin 2 → ℕ) ![30 - k.val, 0] ![0, 0] S4126x512 := by decide
theorem row_pads : ∀ k : Fin 31, S1x512.Pads (![k.val, 0] : Fin 2 → ℕ) ![30 - k.val, 0] ![0, 0] S31x512 := by decide

section Taps
variable (x0 : FVec Ideal S4096x512 .f32) (x1 : FVec Ideal S4096x1024 .f32) (x2 : FVec Ideal S31x512 .f32)

/-- What tap `k` adds to the gradient of the continued input. -/
def rowsOf (k : Fin 31) : FVec Ideal S4126x512 .f32 :=
  pad S4126x512 ![k.val, 0] ![30 - k.val, 0] ![0, 0]
    (mulf (broadcastInDim S4096x512 ![0, 1] bcast_S1x512_S4096x512_0_1
        (broadcastInDim S1x512 ![1] bcast_S512_S1x512_1
          (shapeCast S512 (extractStridedSlice S1x512 ![k.val, 0] x2 (row_slices k)) shapeCasts_S1x512_S512)))
      (shapeCast S4096x512 x0 shapeCasts_S4096x512_S4096x512))
    (constant S_ .f32 0x00000000#32) (rows_pads k) h_S_

/-- The row tap `k` adds to the gradient of the taps. -/
def rowOf (k : Fin 31) : FVec Ideal S31x512 .f32 :=
  pad S31x512 ![k.val, 0] ![30 - k.val, 0] ![0, 0]
    (broadcastInDim S1x512 ![1] bcast_S512_S1x512_1
      (Host.reduceAdd
        (shapeCast S1x512
          (Host.reduceAdd
            (mulf (shapeCast S4096x512 x0 shapeCasts_S4096x512_S4096x512)
              (extractStridedSlice S4096x512 ![k.val, 0] (val_main_v13 (F := Ideal) x1) (window_slices k)))
            (constant S_ .f32 0x00000000#32) reducesTo_S4096x512_S512_d0 h_S_)
          shapeCasts_S512_S1x512)
        (constant S_ .f32 0x00000000#32) reducesTo_S1x512_S512_d0 h_S_))
    (constant S_ .f32 0x00000000#32) (row_pads k) h_S_

/-- The terms of the taps added from the last tap down. -/
def added {s : Shape} (g : Fin 31 → FVec Ideal s .f32) : ℕ → FVec Ideal s .f32
  | 0 => g 30
  | n + 1 => addf (added g n) (g ⟨29 - n, by omega⟩)

theorem rows_added : val_main_v570 (F := Ideal) x0 x2 = added (rowsOf x0 x2) 30 := by sl_kernel_rfl
theorem row_added : val_main_v573 (F := Ideal) x0 x1 = added (rowOf x0 x1) 30 := by sl_kernel_rfl

end Taps

/-! ## On real arrays -/

theorem added_re {m n : ℕ} (g : Fin 31 → FVec Ideal ⟨2, ![m, n]⟩ .f32) (f : ℕ → Fin m → Fin n → ℝ)
    (h : ∀ k : Fin 31, g k = re2 (f k.val)) : added g 30 = re2 fun r c => ∑ k ∈ Finset.range 31, f k r c := by
  have e : ∀ l, added g l = re2 fun r c => down (fun k => f k r c) l := fun l => by
    induction l with
    | zero => exact h 30
    | succ l ih => rw [added, ih, h, add2]; rfl
  rw [e]
  exact re2_congr fun r c => down_eq _

variable (D : Fin 4096 → Fin 512 → ℝ) (V : Fin 4096 → Fin 1024 → ℝ) (W : Fin 31 → Fin 512 → ℝ)

/-- One row cut out, flattened and set up as a row again. -/
theorem row_again (v : Fin 512 → ℝ) :
    broadcastInDim S1x512 ![1] bcast_S512_S1x512_1 (shapeCast S512 (row v) shapeCasts_S1x512_S512) = row v := by
  funext i
  obtain ⟨r, c, rfl⟩ : ∃ r c, i = ix2 r c := ⟨_, _, eq_ix2 i⟩
  refine (broadcastInDim_apply _ _ _ _ (ix1 c) fun a => ?_).trans ?_
  · obtain rfl : a = 0 := Subsingleton.elim _ _
    rfl
  · refine (shapeCast_apply (row v) shapeCasts_S1x512_S512 (ix1 c) (ix2 0 c) ?_).trans rfl
    rw [Shape.rowMajor_val_two, Shape.rowMajor_val_one]
    show 0 * 512 + c.val = c.val
    omega

theorem rowsOf_re (k : Fin 31) : rowsOf (re2 D) (re2 W) k
    = re2 fun r c => if k.val ≤ r.val then ext (fun t c => ext W k.val c * D t c) (r.val - k.val) c else 0 := by
  rw [rowsOf, show extractStridedSlice S1x512 ![k.val, 0] (re2 W) (row_slices k) = row (W k) from
    (slice2 W k.val 0 (row_slices k) (by have := k.isLt; omega) (by norm_num)).trans
      (re_congr fun i => congrArg₂ W (Fin.ext (by have := (ax0 i).isLt; show k.val + (ax0 i).val = k.val; omega)) (Fin.ext (Nat.zero_add _))), row_again, shapeCast_self]
  rw [show broadcastInDim S4096x512 ![0, 1] bcast_S1x512_S4096x512_0_1 (row (W k)) = _ from hostBcast2 (W k) _, mul2]
  refine (padRows2 _ k.val (30 - k.val) (rows_pads k) h_S_).trans (re2_congr fun r c => ?_)
  rw [show W k = fun c => ext W k.val c from funext fun c => (ext_val W k c).symm]

/-- The input of the convolution behind thirty rows of zeros. -/
theorem v13_re : val_main_v13 (F := Ideal) (re2 V) = re2 fun r c => before V r.val c := by
  have e11 : val_main_v11 (F := Ideal) (re2 V) = re2 (gated V) := by
    simp only [val_main_v11, val_main_v7, val_main_v6, val_main_v5, val_main_v4, val_main_v3, val_main_v2, val_main_v1, val_main_v0,
      val_main_cst, val_main_cst_0, hostConst2 ofBits_one]
    rw [show extractStridedSlice S4096x512 ![0, 0] (re2 V) slices_S4096x1024_S4096x512_0_0 = _ from slice2 V 0 0 _ (by norm_num) (by norm_num),
      show extractStridedSlice S4096x512 ![0, 512] (re2 V) slices_S4096x1024_S4096x512_0_512 = _ from slice2 V 0 512 _ (by norm_num) (by norm_num)]
    simp only [hostNeg2, hostExp2, add2, hostSg2, mul2]
    exact re2_congr fun r c => by simp only [gated, lo, hi, Nat.zero_add]
  rw [val_main_v13, e11, show val_main_v12 (F := Ideal) = re2 fun _ _ => 0 from hostConst2 ofBits_zero _]
  refine (concat2 _ _ concatenates_S30x512_S4096x512_S4126x512_d0 rfl).trans (re2_congr fun r c => ?_)
  rw [before]
  by_cases h : r.val < 30
  · rw [if_pos h, if_neg (by omega), ext_lt _ h]
  · rw [if_neg h, if_pos (by omega)]

theorem rowOf_re (k : Fin 31) : rowOf (re2 D) (re2 V) k
    = re2 fun r c => if k.val ≤ r.val then ext (m := 1) (fun _ c => dw D V k.val c) (r.val - k.val) c else 0 := by
  rw [rowOf, shapeCast_self, v13_re, show extractStridedSlice S4096x512 ![k.val, 0] (re2 fun (r : Fin 4126) c => before V r.val c) (window_slices k) = _ from
    slice2 (fun (r : Fin 4126) c => before V r.val c) k.val 0 (window_slices k) (by have := k.isLt; omega) (by norm_num), mul2]
  rw [show shapeCast S1x512 (Host.reduceAdd (F := Ideal) (φ := .f32) (re2 _) _ reducesTo_S4096x512_S512_d0 h_S_) _ = _ from
    hostSum2 _ reducesTo_S4096x512_S512_d0 (by decide) h_S_ _]
  rw [show (row fun c => ∑ t : Fin 4096, D t c * before V (k.val + t.val) ⟨0 + c.val, by omega⟩)
    = re2 (m := 1) fun _ c => dw D V k.val c from re_congr fun i => by
      refine Eq.trans ?_ (dw_eq D V k.val k.isLt (ax1 i))
      exact Finset.sum_congr rfl fun t _ => by
        rw [Nat.add_comm k.val]; congr 2; exact Fin.ext (Nat.zero_add _)]
  rw [show broadcastInDim S1x512 ![1] bcast_S512_S1x512_1 (Host.reduceAdd (F := Ideal) (φ := .f32) (re2 _) _ reducesTo_S1x512_S512_d0 h_S_) = _ from
    hostSumRows_re _ reducesTo_S1x512_S512_d0 (by decide) h_S_ _]
  refine (padRows2 (m := 1) (fun _ c => ∑ _r : Fin 1, dw D V k.val c) k.val (30 - k.val) (row_pads k) h_S_).trans (re2_congr fun r c => ?_)
  simp only [Fin.sum_univ_one]

/-- The gradient of the taps. -/
theorem v573_re : val_main_v573 (F := Ideal) (re2 D) (re2 V) = re2 fun r c => dw D V r.val c := by
  rw [row_added, added_re (m := 31) _ (fun k r c => if k ≤ r.val then ext (m := 1) (fun _ c => dw D V k c) (r.val - k) c else 0) (rowOf_re D V)]
  exact re2_congr fun r c => rows_eq (fun k => dw D V k) r.val r.isLt c

/-- The gradient of the convolution's input. -/
theorem v575_re : val_main_v575 (F := Ideal) (re2 D) (re2 W) = re2 fun r c => dz D W r.val c := by
  rw [val_main_v575, rows_added, added_re (m := 4126) _ (fun k r c => if k ≤ r.val then ext (fun t c => ext W k c * D t c) (r.val - k) c else 0) (rowsOf_re D W)]
  refine (slice2 _ 30 0 slices_S4126x512_S4096x512_30_0 (by norm_num) (by norm_num)).trans (re2_congr fun r c => ?_)
  rw [← dz_eq D W r.val r.isLt]
  refine Finset.sum_congr rfl fun k _ => ?_
  show (if k ≤ 30 + r.val then ext (fun t c => ext W k c * D t c) (30 + r.val - k) ⟨0 + c.val, _⟩ else 0) = _
  rw [Nat.add_comm 30, show (⟨0 + c.val, by omega⟩ : Fin 512) = c from Fin.ext (Nat.zero_add _)]

/-- The gradient of the values and gates. -/
theorem v581_re : val_main_v581 (F := Ideal) (re2 D) (re2 V) (re2 W) = re2 (dv D V W) := by
  simp only [val_main_v581, val_main_v580, val_main_v579, val_main_v578, val_main_v577, val_main_v576, val_main_v10, val_main_v9, val_main_v8,
    val_main_cst_1, val_main_v7, val_main_v6, val_main_v5, val_main_v4, val_main_v3, val_main_v2, val_main_v1, val_main_v0,
    val_main_cst, val_main_cst_0, val_main_cst_129, val_main_cst_130, hostConst2 ofBits_one, v575_re]
  rw [show extractStridedSlice S4096x512 ![0, 0] (re2 V) slices_S4096x1024_S4096x512_0_0 = _ from slice2 V 0 0 _ (by norm_num) (by norm_num),
    show extractStridedSlice S4096x512 ![0, 512] (re2 V) slices_S4096x1024_S4096x512_0_512 = _ from slice2 V 0 512 _ (by norm_num) (by norm_num)]
  simp only [hostNeg2, hostExp2, add2, hostSg2, mul2, sub2]
  rw [show pad S4096x1024 ![0, 512] ![0, 0] ![0, 0] (re2 _) _ pads_S4096x512_S4096x1024_000_51200 h_S_ = _ from padCols2 _ 512 0 _ h_S_,
    show pad S4096x1024 ![0, 0] ![0, 512] ![0, 0] (re2 _) _ pads_S4096x512_S4096x1024_000_05120 h_S_ = _ from padCols2 _ 0 512 _ h_S_, add2]
  refine re2_congr fun r c => ?_
  have hc := c.isLt
  rw [dv]
  by_cases h : c.val < 512
  · rw [dif_neg (by omega), dif_pos ⟨Nat.zero_le _, by omega⟩, dif_pos h, dval]
    simp only [lo, hi, Nat.zero_add, Nat.sub_zero, zero_add]
  · rw [dif_pos ⟨by omega, by omega⟩, dif_neg (by omega), dif_neg h, dgate]
    simp only [lo, hi, Nat.zero_add]
    ring

end Cert.Taps.Reference

end
-- ==== Proof.TapsClaim.lean ====
/-
  The convolution's gate and taps backward: the kernel's two results are the reference's, on finite arguments.
-/
module

public import proofs.«01_k».proof.Defs
public import proofs.«01_k».proof.Proof.TapsEntry
public import proofs.«01_k».proof.Proof.TapsReference
public import proofs.«01_k».proof.Proof.Gen.Kernel4
public import proofs.«01_k».proof.Proof.Gen.Pre_conv_taps_finite
public import Idealize.ShloMosaic.Lib.Tactic

@[expose] public section

noncomputable section

namespace Cert.Taps

open Idealize.ShloMosaic hiding ix1 ix2
open Idealize.ShloMosaic.ValueIdx
open Idealize.SL.Sem Idealize.ShloMosaic.Tactic Cert.Reals

section Kernel

open Cert.Kernel4Ideal Cert.Kernel4Ideal.Gen

variable (m : (ℓ : Loc nD τ sig) → Buf (Elt Ideal) ℓ)

/-- The arguments of every device are reals. -/
structure Args (D : Dev nD → Fin 4096 → Fin 512 → ℝ) (V : Dev nD → Fin 4096 → Fin 1024 → ℝ) (W : Dev nD → Fin 31 → Fin 512 → ℝ) : Prop where
  a0 (c : Dev nD) : m ((c.tc : Thread nD τ).loc main_arg0) = re2 (D c)
  a1 (c : Dev nD) : m ((c.tc : Thread nD τ).loc main_arg1) = re2 (V c)
  a2 (c : Dev nD) : m ((c.tc : Thread nD τ).loc main_arg2) = re2 (W c)

theorem exists_args (h : Pre_Kernel4Ideal_conv_taps_finite m) : ∃ D V W, Args m D V W := by
  choose D hD using fun c : Dev nD => exists_re2 (m ((c.tc : Thread nD τ).loc main_arg0)) _ (h c).1
  choose V hV using fun c : Dev nD => exists_re2 (m ((c.tc : Thread nD τ).loc main_arg1)) _ (h c).2.1
  choose W hW using fun c : Dev nD => exists_re2 (m ((c.tc : Thread nD τ).loc main_arg2)) _ (h c).2.2
  exact ⟨D, V, W, ⟨hD, hV, hW⟩⟩

end Kernel

/-- The reference leaves its arguments alone, and declares no semaphore. -/
theorem reference_frame : Cert.quiescent_Reference4Ideal := fun m ρ _ =>
  (θ_run Cert.Reference4Ideal.defs _ _).mono
    (fun r h => ⟨fun c => (h c).2.2, sem_eq_zero_of_no_sems (by decide) r.2⟩) (Reference4Ideal.Value.run (F := Ideal) m ρ)

/-- The kernel's frame at the machine's floats: the printed form differs only in its name. -/
theorem frame_kernel : Cert.quiescent_Kernel4 := fun m ρ _ => Eq.mp (by sl_kernel_rfl) (Kernel4Ideal.Gen.frame (F := Bits) m ρ)

theorem algebraic : Cert.algebraic_Kernel4Ideal_Reference4Ideal_pre_conv_taps_finite := by
  intro m g m' g' hpre hagree
  obtain ⟨D, V, W, h⟩ := exists_args m hpre
  refine ⟨fun c => re2 (dv (D c) (V c) (W c)), fun c => re2 fun k j => dw (D c) (V c) k.val j, ?_, ?_⟩
  · refine θ_run_mono (θ_run_and (Kernel4Ideal.Gen.run_main m g) (Kernel4Ideal.Gen.unchanged m g)) ?_
    rintro r ⟨hr, hu⟩ c
    have hin := Kernel.inputs (h.a0 c) (h.a1 c) (h.a2 c)
    exact ⟨(hr.out_eq c 4).trans (Kernel.arr4 hin), (hr.rest_eq c _ (by decide)).trans (Kernel.tail hin), hu c⟩
  · refine θ_run_mono (Reference4Ideal.Value.run (F := Ideal) m' g') ?_
    intro r hr c
    obtain ⟨h0, h1, hu⟩ := hr c
    obtain ⟨e0, e1, e2⟩ := hagree c
    replace e0 : StableHlo.launchContents m' c (Proc.devRef .tc Reference4Ideal.main_arg0) = re2 (D c) := e0.trans (h.a0 c)
    replace e1 : StableHlo.launchContents m' c (Proc.devRef .tc Reference4Ideal.main_arg1) = re2 (V c) := e1.trans (h.a1 c)
    replace e2 : StableHlo.launchContents m' c (Proc.devRef .tc Reference4Ideal.main_arg2) = re2 (W c) := e2.trans (h.a2 c)
    refine ⟨h0.trans ?_, h1.trans ?_, hu⟩
    · rw [Reference4Ideal.Read.val_main_v581_eq, e0, e1, e2]
      exact Reference.v581_re _ _ _
    · rw [Reference4Ideal.Read.val_main_v573_eq, e0, e1]
      exact Reference.v573_re _ _

end Cert.Taps

end
-- ==== Proof.Rms.lean ====
/-
  The root-mean-square norm of rows of 1024 real numbers: its gradients as real functions, and the operations on vectors
  and columns that a program of it is made of.
-/
module

public import proofs.«01_k».proof.Proof.Matrices

@[expose] public section

noncomputable section

namespace Cert.Reals

open Idealize.ShloMosaic hiding ix1 ix2
open Idealize.ShloMosaic.ValueIdx
open scoped BigOperators

theorem ofBits_1024 : FloatOps.ofBits (F := Ideal) .f32 0x44800000#32 = ((1024 : ℝ) : EReal) := by
  simp [Ideal.ofBits_def, Ideal.ofBits, Ideal.ieee, -EReal.coe_mul]; norm_num

/-- The vector of the real numbers `f`. -/
abbrev vec {n : ℕ} (f : Fin n → ℝ) : (⟨1, ![n]⟩ : Shape).Idx → EReal := re fun i => f (i 0)

variable {m n : ℕ} {φ : FTy} (f : Fin m → Fin n → ℝ) (v : Fin m → ℝ) (w : Fin m → Fin 1 → ℝ)

/-- The sums of the rows, as a kernel and as the host take them. -/
theorem sumCols (h : (⟨2, ![m, n]⟩ : Shape).Reduces [1] ⟨1, ![m]⟩) (hφ : FKind.Formats .f32) (hacc : (0x00000000#32 : BitVec 32) = 0x00000000#32) :
    multiReduction (F := Ideal) (φ := .f32) .add [1] ⟨1, ![m]⟩ (re2 f) (0x00000000#32 : BitVec 32) h hφ hacc = vec fun r => ∑ c, f r c := by
  rw [sumf_re]
  exact re_congr fun i => Finset.sum_congr rfl fun k _ => rfl
theorem hostSumCols (h : (⟨2, ![m, n]⟩ : Shape).ReducesTo [1] ⟨1, ![m]⟩) (hr : (⟨2, ![m, n]⟩ : Shape).Reduces [1] ⟨1, ![m]⟩)
    (hu : 0 < (⟨0, ![]⟩ : Shape).numel) :
    Host.reduceAdd (F := Ideal) (φ := .f32) (re2 f) (constant (F := Ideal) ⟨0, ![]⟩ .f32 0x00000000#32) h hu = vec fun r => ∑ c, f r c := by
  funext i
  simp only [Host.reduceAdd, Ideal.hostReduceAdd_def]
  rw [Ideal.hostReduceAdd_single h hr]
  exact zero_add_sum ofBits_zero fun k => rfl

/-- A vector as one column. -/
theorem colCast (h : (⟨1, ![m]⟩ : Shape).ShapeCasts ⟨2, ![m, 1]⟩) : shapeCast ⟨2, ![m, 1]⟩ (vec v) h = re2 fun r _ => v r := by
  rw [shapeCast_re]
  refine re_congr fun i => ?_
  refine (shapeCast_apply _ _ i (ix1 (ax0 i)) ?_).trans rfl
  rw [Shape.rowMajor_val_one, Shape.rowMajor_val_two]
  have h1 : (i 1).val < 1 := (i 1).isLt
  show (i 0).val = (i 0).val * 1 + (i 1).val
  omega
/-- A vector repeated in every column. -/
theorem hostCols (h : (⟨1, ![m]⟩ : Shape).BroadcastsInDim ⟨2, ![m, n]⟩ (![0] : Fin 1 → Fin 2)) :
    broadcastInDim ⟨2, ![m, n]⟩ ![0] h (vec v) = re2 fun r _ => v r := by
  funext i
  refine (broadcastInDim_apply _ h _ i (ix1 (ax0 i)) fun a => ?_).trans rfl
  obtain rfl : a = 0 := Subsingleton.elim _ _
  show (ax0 i).val = if m = 1 then 0 else (ax0 i).val
  have : (ax0 i).val < m := (ax0 i).isLt
  split <;> omega

/-- One column repeated, as a kernel and as the host do it. -/
theorem bcastCol (h : (⟨2, ![m, 1]⟩ : Shape).Broadcasts ⟨2, ![m, n]⟩) : broadcastTo ⟨2, ![m, n]⟩ (re2 w) h = re2 fun r _ => w r 0 := by
  funext i
  refine (broadcastTo_apply _ h i (ix2 (ax0 i) 0) fun a => ?_).trans rfl
  match a with
  | 0 =>
    show (ax0 i).val = if m = 1 then 0 else (ax0 i).val
    have : (ax0 i).val < m := (ax0 i).isLt
    split <;> omega
  | 1 => rfl
theorem hostBcastCol (h : (⟨2, ![m, 1]⟩ : Shape).BroadcastsInDim ⟨2, ![m, n]⟩ (![0, 1] : Fin 2 → Fin 2)) :
    broadcastInDim ⟨2, ![m, n]⟩ ![0, 1] h (re2 w) = re2 fun r _ => w r 0 := by
  funext i
  refine (broadcastInDim_apply _ h _ i (ix2 (ax0 i) 0) fun a => ?_).trans rfl
  match a with
  | 0 =>
    show (ax0 i).val = if m = 1 then 0 else (ax0 i).val
    have : (ax0 i).val < m := (ax0 i).isLt
    split <;> omega
  | 1 => rfl

/-- A division by the length of a row. -/
theorem div1024 : divf (F := Ideal) (φ := φ) (re2 f) (re2 fun _ _ => 1024) = re2 fun r c => f r c / 1024 := div2 _ fun _ _ => by norm_num
theorem hostDiv1024 : Host.divf (F := Ideal) (φ := φ) (re2 f) (re2 fun _ _ => 1024) = re2 fun r c => f r c / 1024 := hostDiv2 _ fun _ _ => by norm_num

/-! ## The norm of one row -/

variable (d x g : Fin 1024 → ℝ)

/-- The mean square with its guard, and the reciprocal of its root. -/
def msq : ℝ := (∑ c, x c * x c) / 1024 + eps
def rms : ℝ := (√(msq x))⁻¹

theorem msq_pos : 0 < msq x :=
  add_pos_of_nonneg_of_pos (div_nonneg (Finset.sum_nonneg fun c _ => mul_self_nonneg _) (by norm_num)) eps_pos

/-- The factor of the row's own entries in the gradient: through the mean square. -/
def drms : ℝ := (∑ c, x c * (d c * g c)) * (-(1 / 2) * (rms x / msq x)) / 1024

/-- The gradient of a row of which the norm, scaled by `g`, has gradient `d`. -/
def dnorm (c : Fin 1024) : ℝ := d c * g c * rms x + x c * drms d x g + drms d x g * x c

variable (X : Fin m → Fin 1024 → ℝ)

theorem rsqrt_msq : rsqrt (F := Ideal) (φ := φ) (re2 fun (r : Fin m) (_ : Fin n) => msq (X r)) = re2 fun r _ => rms (X r) :=
  rsqrtf_re fun _ => msq_pos _
theorem hostRsqrt_msq : Host.rsqrt (F := Ideal) (φ := φ) (re2 fun (r : Fin m) (_ : Fin n) => msq (X r)) = re2 fun r _ => rms (X r) :=
  funext fun _ => hostRsqrt_re (msq_pos _)
theorem div_msq : divf (F := Ideal) (φ := φ) (re2 fun (r : Fin m) (_ : Fin n) => rms (X r)) (re2 fun r _ => msq (X r)) = re2 fun r _ => rms (X r) / msq (X r) :=
  div2 _ fun _ _ => (msq_pos _).ne'
theorem hostDiv_msq : Host.divf (F := Ideal) (φ := φ) (re2 fun (r : Fin m) (_ : Fin n) => rms (X r)) (re2 fun r _ => msq (X r)) = re2 fun r _ => rms (X r) / msq (X r) :=
  hostDiv2 _ fun _ _ => (msq_pos _).ne'

end Cert.Reals

end
-- ==== Proof.InReference.lean ====
/-
  The feed-forward input's backward call: what the reference's host lines hold, on real arguments.
-/
module

public import proofs.«01_k».proof.Proof.Rms
public import proofs.«01_k».proof.Proof.Gen.Reference5Ideal.Read

@[expose] public section

noncomputable section

namespace Cert.In

open Idealize.ShloMosaic hiding ix1 ix2
open Idealize.ShloMosaic.ValueIdx
open Cert.Reals
open scoped BigOperators

/-- One row of the gradient of the norm's output: through both of the products it feeds. -/
def dh (dg du : Fin 2816 → ℝ) (Wg Wu : Fin 1024 → Fin 2816 → ℝ) (c : Fin 1024) : ℝ := ∑ k, dg k * Wg c k + ∑ k, du k * Wu c k

namespace Reference

open Cert.Reference5Ideal Cert.Reference5Ideal.Read

variable (D X : Fin 4096 → Fin 1024 → ℝ) (g : Fin 1024 → ℝ) (G U : Fin 4096 → Fin 2816 → ℝ) (Wg Wu : Fin 1024 → Fin 2816 → ℝ)

theorem v6_re : val_main_v6 (F := Ideal) (re2 X) = re2 fun r _ => msq (X r) := by
  simp only [val_main_v6, val_main_v5, val_main_cst_1, val_main_v4, val_main_v3, val_main_cst_0, val_main_v2, val_main_v1, val_main_cst, val_main_v0,
    mul2, hostConst2 ofBits_eps, hostConst2 ofBits_1024]
  rw [hostSumCols _ _ (by decide), hostCols, hostDiv1024, add2]; rfl

theorem v7_re : val_main_v7 (F := Ideal) (re2 X) = re2 fun r _ => rms (X r) := by
  unfold val_main_v7; rw [v6_re, hostRsqrt_msq]

theorem v10_re : val_main_v10 (F := Ideal) (re2 X) = re2 fun r _ => -(1 / 2) * (rms (X r) / msq (X r)) := by
  simp only [val_main_v10, val_main_v9, val_main_cst_2, val_main_v8, v6_re, v7_re, hostConst2 ofBits_neg_half, hostDiv_msq, mul2]

theorem v12_re : val_main_v12 (F := Ideal) (re2 X) = re2 fun r c => X r c * rms (X r) := by
  unfold val_main_v12 val_main_v11; rw [v7_re, hostBcastCol, mul2]

theorem v19_re : val_main_v19 (F := Ideal) (re2 G) (re2 U) (re2 Wg) (re2 Wu) = re2 fun r => dh (G r) (U r) Wg Wu := by
  unfold val_main_v19 val_main_v18 val_main_v17
  rw [show Host.dotGeneral (F := Ideal) (φ₁ := .f32) (φ₂ := .f32) dot_S4096x2816_S1024x2816_S4096x1024_1_1_0_0_n_n none (re2 U) (re2 Wu) = _ from hostNT none _ _ _,
    show Host.dotGeneral (F := Ideal) (φ₁ := .f32) (φ₂ := .f32) dot_S4096x2816_S1024x2816_S4096x1024_1_1_0_0_n_n none (re2 G) (re2 Wg) = _ from hostNT none _ _ _, add2]
  exact re2_congr fun r c => add_comm _ _

theorem v22_re : val_main_v22 (F := Ideal) (re2 X) (re2 G) (re2 U) (re2 Wg) (re2 Wu)
    = row fun c => ∑ r, X r c * rms (X r) * dh (G r) (U r) Wg Wu c := by
  unfold val_main_v22 val_main_v21 val_main_v20 val_main_cst_3
  rw [v12_re, v19_re, mul2]
  exact hostSum2 _ _ (by decide) _ _

theorem v24_re : val_main_v24 (F := Ideal) (row g) (re2 G) (re2 U) (re2 Wg) (re2 Wu) = re2 fun r c => dh (G r) (U r) Wg Wu c * g c := by
  unfold val_main_v24 val_main_v23
  rw [v19_re, hostBcast2, mul2]

theorem v35_re : val_main_v35 (F := Ideal) (re2 X) (row g) (re2 G) (re2 U) (re2 Wg) (re2 Wu)
    = re2 fun r _ => drms (dh (G r) (U r) Wg Wu) (X r) g := by
  unfold val_main_v35 val_main_v34 val_main_v33 val_main_v32 val_main_v31 val_main_v27 val_main_v26 val_main_v25 val_main_cst_4 val_main_cst_5 val_main_cst_6
  rw [v24_re, v10_re, mul2, hostSumCols _ _ (by decide), colCast, mul2, hostConst2 ofBits_1024, hostDiv1024, hostSumCols _ _ (by decide), hostCols]
  exact re2_congr fun r c => (Fin.sum_univ_one _).trans rfl

theorem v39_re : val_main_v39 (F := Ideal) (re2 D) (re2 X) (row g) (re2 G) (re2 U) (re2 Wg) (re2 Wu)
    = re2 fun r c => D r c + dnorm (dh (G r) (U r) Wg Wu) (X r) g c := by
  unfold val_main_v39 val_main_v38 val_main_v37 val_main_v36 val_main_v30 val_main_v29 val_main_v28
  rw [v24_re, v35_re, v7_re, hostBcastCol, mul2, mul2, mul2, add2, add2, add2]
  exact re2_congr fun r c => by rw [dnorm]; ring

end Reference

end Cert.In

end
-- ==== Proof.InKernel.lean ====
/-
  The feed-forward input's backward kernel on blocks of real numbers: what each of its payloads computes of a block of 512
  rows.
-/
module

public import proofs.«01_k».proof.Proof.InReference
public import proofs.«01_k».proof.Proof.Gen.Kernel5Ideal.Frame

@[expose] public section

noncomputable section

namespace Cert.In.Kernel

open Idealize.ShloMosaic hiding ix1 ix2
open Idealize.ShloMosaic.ValueIdx
open Cert.Kernel5Ideal Cert.Kernel5Ideal.Gen Cert.Reals
open scoped BigOperators

variable (D X : Fin 512 → Fin 1024 → ℝ) (g : Fin 1024 → ℝ) (G U : Fin 512 → Fin 2816 → ℝ) (Wg Wu : Fin 1024 → Fin 2816 → ℝ)

/-- The weights as the kernel is handed them. -/
abbrev tr (W : Fin 1024 → Fin 2816 → ℝ) : (⟨2, ![2816, 1024]⟩ : Shape).Idx → EReal := re2 fun k c => W c k

theorem nn (f : Fin 512 → Fin 2816 → ℝ) (h : Fin 2816 → Fin 1024 → ℝ) :
    matmul (F := Ideal) (φ₁ := .bf16) (φ₂ := .bf16) dot_S512x2816_S2816x1024_S512x1024_1_0_0_1_n_n none
      (re2 f) (re2 h) (constant S512x1024 .f32 0x00000000#32) = re2 fun r c => ∑ k, f r k * h k c := matmulNN none _ _ _

theorem pay4_re : k0_pay4 (F := Ideal) (re2 G) (tr Wg) (re2 U) (tr Wu) = re2 fun r => dh (G r) (U r) Wg Wu := by
  unfold k0_pay4; dsimp only
  rw [shapeCast_self, shapeCast_self, shapeCast_self, shapeCast_self, nn, nn, add2]; rfl

theorem pay5_re : k0_pay5 (F := Ideal) (re2 X) = re2 fun r _ => msq (X r) := by
  unfold k0_pay5; dsimp only
  rw [mul2, sumCols, colCast, const2 ofBits_1024, const2 ofBits_eps, div1024, add2]; rfl

theorem pay6_re : k0_pay6 (F := Ideal) (re2 X) = re2 fun r _ => rms (X r) := by
  unfold k0_pay6; dsimp only
  rw [pay5_re, rsqrt_msq]

theorem pay7_re : k0_pay7 (F := Ideal) (re2 X) = re2 fun r _ => -(1 / 2) * (rms (X r) / msq (X r)) := by
  unfold k0_pay7; dsimp only
  rw [pay5_re, pay6_re, div_msq, const2 ofBits_neg_half, mul2]

theorem pay8_re : k0_pay8 (F := Ideal) (re2 G) (tr Wg) (re2 U) (tr Wu) (re2 X) = row fun c => ∑ r, X r c * rms (X r) * dh (G r) (U r) Wg Wu c := by
  unfold k0_pay8; dsimp only
  rw [pay4_re, pay6_re, bcastCol, mul2, mul2]
  exact sumRows_re _ _ _ _ _

theorem pay9_re : k0_pay9 (F := Ideal) (re2 G) (tr Wg) (re2 U) (tr Wu) (row g) = re2 fun r c => dh (G r) (U r) Wg Wu c * g c := by
  unfold k0_pay9; dsimp only
  rw [pay4_re, bcast2, mul2]

theorem pay10_re : k0_pay10 (F := Ideal) (re2 G) (tr Wg) (re2 U) (tr Wu) (re2 X) (row g)
    = vec fun r => ∑ c, X r c * (dh (G r) (U r) Wg Wu c * g c) := by
  unfold k0_pay10; dsimp only
  rw [pay9_re, mul2, sumCols]

/-- The gradient of the rows. -/
theorem pay1_re : k0_pay1 (F := Ideal) (re2 X) (k0_pay6 (re2 X)) (k0_pay7 (re2 X)) (k0_pay9 (re2 G) (tr Wg) (re2 U) (tr Wu) (row g))
      (k0_pay10 (re2 G) (tr Wg) (re2 U) (tr Wu) (re2 X) (row g)) (re2 D)
    = re2 fun r c => D r c + dnorm (dh (G r) (U r) Wg Wu) (X r) g c := by
  rw [pay6_re, pay7_re, pay9_re, pay10_re]
  unfold k0_pay1; dsimp only
  rw [colCast, bcastCol, mul2, mul2, const2 ofBits_1024, div1024, sumCols, colCast, bcastCol, mul2, mul2, add2, add2, add2]
  exact re2_congr fun r c => by rw [Fin.sum_univ_one, dnorm]; rfl

/-- What one block adds to the scale's gradient. -/
theorem pay2_re (o : Vec Ideal S1x1024 .f32) : k0_pay2 (F := Ideal) (k0_pay8 (re2 G) (tr Wg) (re2 U) (tr Wu) (re2 X)) o
    = addf (φ := .f32) o (row fun c => ∑ r, X r c * rms (X r) * dh (G r) (U r) Wg Wu c) := by
  unfold k0_pay2; dsimp only
  rw [shapeCast_self, pay8_re]

theorem pay3_re : k0_pay3 (F := Ideal) = fun _ => 0 := by
  unfold k0_pay3; dsimp only; rw [broadcast_zero]; exact funext fun _ => EReal.coe_zero

end Cert.In.Kernel

end
-- ==== Proof.InRun.lean ====
/-
  The feed-forward input's backward kernel over its eight blocks of 512 rows: the input blocks each point reads, what its
  two output buffers hold after each point, and what the arrays hold at the end.
-/
module

public import proofs.«01_k».proof.Proof.InKernel
public import Idealize.ShloMosaic.Lib.Pipeline.ValueKit

@[expose] public section

noncomputable section

namespace Cert.In.Kernel

open Idealize.ShloMosaic hiding ix1 ix2 ix3 eq_ix2 eq_ix3
open Idealize.ShloMosaic.ValueIdx
open Cert.Kernel5Ideal Cert.Kernel5Ideal.Gen Cert.Reals
open scoped BigOperators

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (D X : Fin 4096 → Fin 1024 → ℝ) (g : Fin 1024 → ℝ)
  (G U : Fin 4096 → Fin 2816 → ℝ) (Wg Wu : Fin 1024 → Fin 2816 → ℝ)

/-- The region's input arrays are these reals. -/
structure Inputs : Prop where
  hD : V m c main_arg0 = re2 D
  hX : V m c main_arg1 = re2 X
  hg : V m c main_arg2 = row g
  hG : V m c main_v0 = re2 G
  hU : V m c main_v1 = re2 U
  hWg : V m c main_v3 = tr Wg
  hWu : V m c main_v5 = tr Wu

variable {m c D X g G U Wg Wu}

/-- The region's input arrays, as the host prepares them. -/
theorem inputs (h0 : m ((c.tc : Thread nD τ).loc main_arg0) = re2 D) (h1 : m ((c.tc : Thread nD τ).loc main_arg1) = re2 X)
    (h2 : m ((c.tc : Thread nD τ).loc main_arg2) = row g) (h3 : m ((c.tc : Thread nD τ).loc main_arg3) = re2 G)
    (h4 : m ((c.tc : Thread nD τ).loc main_arg4) = re2 U) (h5 : m ((c.tc : Thread nD τ).loc main_arg5) = re2 Wg)
    (h6 : m ((c.tc : Thread nD τ).loc main_arg6) = re2 Wu) : Inputs m c D X g G U Wg Wu := by
  refine ⟨(V_main_arg0 m c).trans h0, (V_main_arg1 m c).trans h1, (V_main_arg2 m c).trans h2, ?_, ?_, ?_, ?_⟩ <;> unfold V hostOps0 <;>
    after_results
  · exact congrArg (truncf (F := Ideal) .bf16 · _) h3
  · exact congrArg (truncf (F := Ideal) .bf16 · _) h4
  · exact congrArg (truncf (F := Ideal) .bf16 · _) ((congrArg (transpose S2816x1024 [1, 0] · _) h5).trans (transpose2 Wg _))
  · exact congrArg (truncf (F := Ideal) .bf16 · _) ((congrArg (transpose S2816x1024 [1, 0] · _) h6).trans (transpose2 Wu _))

variable (hin : Inputs m c D X g G U Wg Wu)
include hin

theorem iblk0 (t : Fin cfg0.N) : iblk m c 0 t = re2 fun r => D (brow t r) := by
  have e : ∀ t : Fin cfg0.N, win0_0.index t = ![t.val, 0] := (by decide +kernel : ∀ t : Fin grid0.N, _)
  funext i
  unfold iblk; rw [View.read_apply]
  refine (congrFun hin.hD _).trans ?_
  refine congrArg₂ (fun p q => ((D p q : ℝ) : EReal)) (Fin.ext ?_) (Fin.ext ?_) <;> dsimp only [ax0, ax1, brow] <;> blk_simp [e] <;> rfl

theorem iblk1 (t : Fin cfg0.N) : iblk m c 1 t = re2 fun r => X (brow t r) := by
  have e : ∀ t : Fin cfg0.N, win0_1.index t = ![t.val, 0] := (by decide +kernel : ∀ t : Fin grid0.N, _)
  funext i
  unfold iblk; rw [View.read_apply]
  refine (congrFun hin.hX _).trans ?_
  refine congrArg₂ (fun p q => ((X p q : ℝ) : EReal)) (Fin.ext ?_) (Fin.ext ?_) <;> dsimp only [ax0, ax1, brow] <;> blk_simp [e] <;> rfl

theorem iblk2 (t : Fin cfg0.N) : iblk m c 2 t = row g := by
  have e : ∀ t : Fin cfg0.N, win0_2.index t = ![0, 0] := (by decide +kernel : ∀ t : Fin grid0.N, _)
  funext i
  unfold iblk; rw [View.read_apply]
  refine (congrFun hin.hg _).trans ?_
  refine congrArg (fun p => ((g p : ℝ) : EReal)) (Fin.ext ?_) <;> dsimp only [ax0, ax1] <;> blk_simp [e] <;> rfl

theorem iblk3 (t : Fin cfg0.N) : iblk m c 3 t = re2 fun r => G (brow t r) := by
  have e : ∀ t : Fin cfg0.N, win0_3.index t = ![t.val, 0] := (by decide +kernel : ∀ t : Fin grid0.N, _)
  funext i
  unfold iblk; rw [View.read_apply]
  refine (congrFun hin.hG _).trans ?_
  refine congrArg₂ (fun p q => ((G p q : ℝ) : EReal)) (Fin.ext ?_) (Fin.ext ?_) <;> dsimp only [ax0, ax1, brow] <;> blk_simp [e] <;> rfl

theorem iblk4 (t : Fin cfg0.N) : iblk m c 4 t = re2 fun r => U (brow t r) := by
  have e : ∀ t : Fin cfg0.N, win0_4.index t = ![t.val, 0] := (by decide +kernel : ∀ t : Fin grid0.N, _)
  funext i
  unfold iblk; rw [View.read_apply]
  refine (congrFun hin.hU _).trans ?_
  refine congrArg₂ (fun p q => ((U p q : ℝ) : EReal)) (Fin.ext ?_) (Fin.ext ?_) <;> dsimp only [ax0, ax1, brow] <;> blk_simp [e] <;> rfl

theorem iblk5 (t : Fin cfg0.N) : iblk m c 5 t = tr Wg := by
  have e : ∀ t : Fin cfg0.N, win0_5.index t = ![0, 0] := (by decide +kernel : ∀ t : Fin grid0.N, _)
  funext i
  unfold iblk; rw [View.read_apply]
  refine (congrFun hin.hWg _).trans ?_
  refine congrArg₂ (fun p q => ((Wg q p : ℝ) : EReal)) (Fin.ext ?_) (Fin.ext ?_) <;> dsimp only [ax0, ax1] <;> blk_simp [e] <;> rfl

theorem iblk6 (t : Fin cfg0.N) : iblk m c 6 t = tr Wu := by
  have e : ∀ t : Fin cfg0.N, win0_6.index t = ![0, 0] := (by decide +kernel : ∀ t : Fin grid0.N, _)
  funext i
  unfold iblk; rw [View.read_apply]
  refine (congrFun hin.hWu _).trans ?_
  refine congrArg₂ (fun p q => ((Wu q p : ℝ) : EReal)) (Fin.ext ?_) (Fin.ext ?_) <;> dsimp only [ax0, ax1] <;> blk_simp [e] <;> rfl

/-- The gradient of the rows: each point leaves its own block's. -/
theorem out7 (t : Fin cfg0.N) : (outsAt0 m c t.val t.isLt).1
    = re2 fun r k => D (brow t r) k + dnorm (dh (G (brow t r)) (U (brow t r)) Wg Wu) (X (brow t r)) g k := by
  by_cases h : t.val % 8 = 0
  · rw [outsAt0_A m c t h]; frame_out
    rw [iblk0 hin, iblk1 hin, iblk2 hin, iblk3 hin, iblk4 hin, iblk5 hin, iblk6 hin]; exact pay1_re _ _ _ _ _ _ _
  · rw [outsAt0_B m c t h]; frame_out
    rw [iblk0 hin, iblk1 hin, iblk2 hin, iblk3 hin, iblk4 hin, iblk5 hin, iblk6 hin]; exact pay1_re _ _ _ _ _ _ _

omit hin in
/-- One block's share of the scale's gradient. -/
def term (X : Fin 4096 → Fin 1024 → ℝ) (H : Fin 4096 → Fin 1024 → ℝ) (t : Fin cfg0.N) : S1x1024.Idx → EReal :=
  row fun k => ∑ r, X (brow t r) k * rms (X (brow t r)) * H (brow t r) k

/-- The scale's gradient after the last point. -/
theorem out8 (t : Fin cfg0.N) (ht : t.val + 1 = cfg0.N) (i : S1x1024.Idx) : (outsAt0 m c t.val t.isLt).2 i
    = 0 + ∑ p, term X (fun r => dh (G r) (U r) Wg Wu) p i :=
  Pipeline.eq_sum_fin_of_reset_step_apply_last (fun n h => (outsAt0 m c n h).2) 8 (fun _ => 0) (term X fun r => dh (G r) (U r) Wg Wu)
    (fun t h i => by
      rw [outsAt0_A m c t h]; frame_out
      rw [iblk1 hin, iblk3 hin, iblk4 hin, iblk5 hin, iblk6 hin, pay2_re, pay3_re]; rfl)
    (fun t h i => by
      rw [outsAt0_B m c t h]; frame_out
      rw [iblk1 hin, iblk3 hin, iblk4 hin, iblk5 hin, iblk6 hin, pay2_re]; rfl)
    (by decide) t ht i

theorem arr7 : (dats m 0 c).arrAt 7 cfg0.N = re2 fun r k => D r k + dnorm (dh (G r) (U r) Wg Wu) (X r) g k := by
  have e : ∀ t : Fin cfg0.N, win0_7.index t = ![t.val, 0] := (by decide +kernel : ∀ t : Fin grid0.N, _)
  refine (dats m 0 c).arrAt_eq_of_covers 7 _ (by decide +kernel) fun t _ y => ?_
  blk_simp
  rw [after0_7, out7 hin]
  refine congrArg₂ (fun p q => ((D p q + dnorm (dh (G p) (U p) Wg Wu) (X p) g q : ℝ) : EReal)) (Fin.ext ?_) (Fin.ext ?_) <;> dsimp only [ax0, ax1, brow] <;> blk_simp [e] <;> rfl

theorem arr8 : (dats m 0 c).arrAt 8 cfg0.N = row fun k => ∑ r, X r k * rms (X r) * dh (G r) (U r) Wg Wu k := by
  refine (dats m 0 c).arrAt_eq_of_after_last 8 ⟨7, by decide⟩ (by decide +kernel) _ fun j => ?_
  blk_simp
  refine (congrFun (after0_8 m c ⟨7, by decide⟩) _).trans ((out8 hin ⟨7, by decide⟩ rfl _).trans ?_)
  refine (zero_add_sum EReal.coe_zero.symm fun p => rfl).trans (congrArg Real.toEReal ?_)
  exact Fin.sum_mul_add_fin 8 512 fun r => X r (ax1 j) * rms (X r) * dh (G r) (U r) Wg Wu (ax1 j)

end Cert.In.Kernel

end
-- ==== Proof.InClaim.lean ====
/-
  The feed-forward input's backward call: the kernel's two results are the reference's, on finite arguments.
-/
module

public import proofs.«01_k».proof.Defs
public import proofs.«01_k».proof.Proof.InRun
public import proofs.«01_k».proof.Proof.HostReals
public import proofs.«01_k».proof.Proof.Gen.Kernel5
public import proofs.«01_k».proof.Proof.Gen.Pre_ffn_in_finite
public import Idealize.ShloMosaic.Lib.Tactic

@[expose] public section

noncomputable section

namespace Cert.In

open Idealize.ShloMosaic hiding ix1 ix2 ix3 eq_ix2 eq_ix3
open Idealize.ShloMosaic.ValueIdx
open Idealize.SL.Sem Idealize.ShloMosaic.Tactic Cert.Reals

section Kernel

open Cert.Kernel5Ideal Cert.Kernel5Ideal.Gen

variable (m : (ℓ : Loc nD τ sig) → Buf (Elt Ideal) ℓ)

/-- The arguments of every device are reals. -/
structure Args (D X : Dev nD → Fin 4096 → Fin 1024 → ℝ) (g : Dev nD → Fin 1024 → ℝ) (G U : Dev nD → Fin 4096 → Fin 2816 → ℝ)
    (Wg Wu : Dev nD → Fin 1024 → Fin 2816 → ℝ) : Prop where
  a0 (c : Dev nD) : m ((c.tc : Thread nD τ).loc main_arg0) = re2 (D c)
  a1 (c : Dev nD) : m ((c.tc : Thread nD τ).loc main_arg1) = re2 (X c)
  a2 (c : Dev nD) : m ((c.tc : Thread nD τ).loc main_arg2) = row (g c)
  a3 (c : Dev nD) : m ((c.tc : Thread nD τ).loc main_arg3) = re2 (G c)
  a4 (c : Dev nD) : m ((c.tc : Thread nD τ).loc main_arg4) = re2 (U c)
  a5 (c : Dev nD) : m ((c.tc : Thread nD τ).loc main_arg5) = re2 (Wg c)
  a6 (c : Dev nD) : m ((c.tc : Thread nD τ).loc main_arg6) = re2 (Wu c)

theorem exists_args (h : Pre_Kernel5Ideal_ffn_in_finite m) : ∃ D X g G U Wg Wu, Args m D X g G U Wg Wu := by
  choose D h0 using fun c : Dev nD => exists_re2 (m ((c.tc : Thread nD τ).loc main_arg0)) _ (h c).1
  choose X h1 using fun c : Dev nD => exists_re2 (m ((c.tc : Thread nD τ).loc main_arg1)) _ (h c).2.1
  choose g h2 using fun c : Dev nD => exists_row (m ((c.tc : Thread nD τ).loc main_arg2)) _ (h c).2.2.1
  choose G h3 using fun c : Dev nD => exists_re2 (m ((c.tc : Thread nD τ).loc main_arg3)) _ (h c).2.2.2.1
  choose U h4 using fun c : Dev nD => exists_re2 (m ((c.tc : Thread nD τ).loc main_arg4)) _ (h c).2.2.2.2.1
  choose Wg h5 using fun c : Dev nD => exists_re2 (m ((c.tc : Thread nD τ).loc main_arg5)) _ (h c).2.2.2.2.2.1
  choose Wu h6 using fun c : Dev nD => exists_re2 (m ((c.tc : Thread nD τ).loc main_arg6)) _ (h c).2.2.2.2.2.2
  exact ⟨D, X, g, G, U, Wg, Wu, ⟨h0, h1, h2, h3, h4, h5, h6⟩⟩

end Kernel

/-- The reference leaves its arguments alone, and declares no semaphore. -/
theorem reference_frame : Cert.quiescent_Reference5Ideal := fun m ρ _ =>
  (θ_run Cert.Reference5Ideal.defs _ _).mono
    (fun r h => ⟨fun c => (h c).2.2, sem_eq_zero_of_no_sems (by decide) r.2⟩) (Reference5Ideal.Value.run (F := Ideal) m ρ)

/-- The kernel's frame at the machine's floats: the printed form differs only in its name. -/
theorem frame_kernel : Cert.quiescent_Kernel5 := fun m ρ _ => Eq.mp (by sl_kernel_rfl) (Kernel5Ideal.Gen.frame (F := Bits) m ρ)

theorem algebraic : Cert.algebraic_Kernel5Ideal_Reference5Ideal_pre_ffn_in_finite := by
  intro m ρ m' ρ' hpre hagree
  obtain ⟨D, X, g, G, U, Wg, Wu, h⟩ := exists_args m hpre
  refine ⟨fun c => re2 fun r k => D c r k + dnorm (dh (G c r) (U c r) (Wg c) (Wu c)) (X c r) (g c) k,
    fun c => row fun k => ∑ r, X c r k * rms (X c r) * dh (G c r) (U c r) (Wg c) (Wu c) k, ?_, ?_⟩
  · refine θ_run_mono (θ_run_and (Kernel5Ideal.Gen.run_main m ρ) (Kernel5Ideal.Gen.unchanged m ρ)) ?_
    rintro r ⟨hr, hu⟩ c
    have hin := Kernel.inputs (h.a0 c) (h.a1 c) (h.a2 c) (h.a3 c) (h.a4 c) (h.a5 c) (h.a6 c)
    exact ⟨(hr.out_eq c 7).trans (Kernel.arr7 hin), (hr.out_eq c 8).trans (Kernel.arr8 hin), hu c⟩
  · refine θ_run_mono (Reference5Ideal.Value.run (F := Ideal) m' ρ') ?_
    intro r hr c
    obtain ⟨h0, h1, hu⟩ := hr c
    obtain ⟨e0, e1, e2, e3, e4, e5, e6⟩ := hagree c
    rw [h.a0 c] at e0
    rw [h.a1 c] at e1
    rw [h.a2 c] at e2
    rw [h.a3 c] at e3
    rw [h.a4 c] at e4
    rw [h.a5 c] at e5
    rw [h.a6 c] at e6
    refine ⟨h0.trans ?_, h1.trans ?_, hu⟩
    · rw [Reference5Ideal.Read.val_main_v39_eq, e0, e1, e2, e3, e4, e5, e6]
      exact Reference.v39_re _ _ _ _ _ _ _
    · rw [Reference5Ideal.Read.val_main_v22_eq, e1, e3, e4, e5, e6]
      exact Reference.v22_re _ _ _ _ _

end Cert.In

end
-- ==== Proof.MixReference.lean ====
/-
  The mixers' input backward call: what the reference's host lines hold, on real arguments.
-/
module

public import proofs.«01_k».proof.Proof.Rms
public import proofs.«01_k».proof.Proof.ReadMath
public import proofs.«01_k».proof.Proof.Gen.Reference6Ideal.Read
public import Idealize.ShloMosaic.Lib.KernelVsHost

@[expose] public section

noncomputable section

namespace Cert.Mix

open Idealize.ShloMosaic hiding ix1 ix2 eq_ix2
open Idealize.ShloMosaic.ValueIdx
open Cert.Reals
open scoped BigOperators

/-- One row beside another. -/
def join (a : Fin 512 → ℝ) (b : Fin 1024 → ℝ) (k : Fin 1536) : ℝ := if h : k.val < 512 then a ⟨k.val, h⟩ else b ⟨k.val - 512, by omega⟩

/-- Column `k` of the first 512. -/
abbrev fst (k : Fin 512) : Fin 1536 := ⟨k.val, by omega⟩
/-- Column `k` of the last 1024. -/
abbrev snd (k : Fin 1024) : Fin 1536 := ⟨512 + k.val, by omega⟩

variable (a : Fin 512 → ℝ) (b : Fin 1024 → ℝ)

theorem join_fst (k : Fin 512) : join a b (fst k) = a k := dif_pos k.isLt
theorem join_snd (k : Fin 1024) : join a b (snd k) = b k :=
  (dif_neg (by show ¬(512 + k.val < 512); omega)).trans (congrArg b (Fin.ext (by show 512 + k.val - 512 = k.val; omega)))

/-- One row of the gradient of the norm's output: through the product with the mixers' weights. -/
def dh (W : Fin 1024 → Fin 1536 → ℝ) (c : Fin 1024) : ℝ := ∑ k, join a b k * W c k

/-- The two parts of the row contracted apart. -/
theorem dh_parts (W : Fin 1024 → Fin 1536 → ℝ) (c : Fin 1024) :
    ∑ k, a k * W c (fst k) + ∑ k, b k * W c (snd k) = dh a b W c := by
  refine Eq.trans ?_ (Fin.sum_univ_add (a := 512) (b := 1024) fun k => join a b k * W c k).symm
  exact congrArg₂ (· + ·) (Finset.sum_congr rfl fun k _ => congrArg (· * W c (fst k)) (join_fst a b k).symm)
    (Finset.sum_congr rfl fun k _ => congrArg (· * W c (snd k)) (join_snd a b k).symm)

/-- Two matrices side by side. -/
theorem beside {m : ℕ} (f : Fin m → Fin 512 → ℝ) (g : Fin m → Fin 1024 → ℝ)
    (h : Shape.Concatenates [(⟨2, ![m, 512]⟩ : Shape), ⟨2, ![m, 1024]⟩] ⟨2, ![m, 1536]⟩ 1) :
    concatenate ⟨2, ![m, 1536]⟩ 1 [⟨⟨2, ![m, 512]⟩, re2 f⟩, ⟨⟨2, ![m, 1024]⟩, re2 g⟩] h = re2 fun r => join (f r) (g r) := by
  funext i
  obtain ⟨r, c, rfl⟩ : ∃ r c, i = ix2 r c := ⟨_, _, eq_ix2 i⟩
  show _ = ((join (f r) (g r) c : ℝ) : EReal)
  by_cases hc : c.val < 512
  · rw [show join (f r) (g r) c = f r ⟨c.val, hc⟩ from dif_pos hc]
    exact (concatenate_pair_apply_left 1 _ _ h _ rfl (ix2 r ⟨c.val, hc⟩) fun x => match x with | 0 => rfl | 1 => rfl).trans rfl
  · rw [show join (f r) (g r) c = g r ⟨c.val - 512, by omega⟩ from dif_neg hc]
    refine (concatenate_pair_apply_right 1 _ _ h _ rfl rfl (ix2 r ⟨c.val - 512, by omega⟩) ?_ ?_).trans rfl
    · intro x hx
      match x with
      | 0 => rfl
      | 1 => exact absurd rfl hx
    · show c.val - 512 + 512 = c.val
      omega

namespace Reference

open Cert.Reference6Ideal Cert.Reference6Ideal.Read

variable (D X : Fin 4096 → Fin 1024 → ℝ) (g : Fin 1024 → ℝ) (A : Fin 4096 → Fin 512 → ℝ) (B : Fin 4096 → Fin 1024 → ℝ)
  (W : Fin 1024 → Fin 1536 → ℝ)

theorem v0_re : val_main_v0 (F := Ideal) (re2 A) (re2 B) = re2 fun r => join (A r) (B r) := beside A B _

theorem v7_re : val_main_v7 (F := Ideal) (re2 X) = re2 fun r _ => msq (X r) := by
  simp only [val_main_v7, val_main_v6, val_main_cst_1, val_main_v5, val_main_v4, val_main_cst_0, val_main_v3, val_main_v2, val_main_cst, val_main_v1,
    mul2, hostConst2 ofBits_eps, hostConst2 ofBits_1024]
  rw [hostSumCols _ _ (by decide), hostCols, hostDiv1024, add2]; rfl

theorem v8_re : val_main_v8 (F := Ideal) (re2 X) = re2 fun r _ => rms (X r) := by
  unfold val_main_v8; rw [v7_re, hostRsqrt_msq]

theorem v11_re : val_main_v11 (F := Ideal) (re2 X) = re2 fun r _ => -(1 / 2) * (rms (X r) / msq (X r)) := by
  simp only [val_main_v11, val_main_v10, val_main_cst_2, val_main_v9, v7_re, v8_re, hostConst2 ofBits_neg_half, hostDiv_msq, mul2]

theorem v13_re : val_main_v13 (F := Ideal) (re2 X) = re2 fun r c => X r c * rms (X r) := by
  unfold val_main_v13 val_main_v12; rw [v8_re, hostBcastCol, mul2]

theorem v17_re : val_main_v17 (F := Ideal) (re2 A) (re2 B) (re2 W) = re2 fun r => dh (A r) (B r) W := by
  unfold val_main_v17
  rw [v0_re]
  exact hostNT none _ _ _

theorem v20_re : val_main_v20 (F := Ideal) (re2 X) (re2 A) (re2 B) (re2 W)
    = row fun c => ∑ r, X r c * rms (X r) * dh (A r) (B r) W c := by
  unfold val_main_v20 val_main_v19 val_main_v18 val_main_cst_3
  rw [v13_re, v17_re, mul2]
  exact hostSum2 _ _ (by decide) _ _

theorem v22_re : val_main_v22 (F := Ideal) (row g) (re2 A) (re2 B) (re2 W) = re2 fun r c => dh (A r) (B r) W c * g c := by
  unfold val_main_v22 val_main_v21
  rw [v17_re, hostBcast2, mul2]

theorem v33_re : val_main_v33 (F := Ideal) (re2 X) (row g) (re2 A) (re2 B) (re2 W)
    = re2 fun r _ => drms (dh (A r) (B r) W) (X r) g := by
  unfold val_main_v33 val_main_v32 val_main_v31 val_main_v30 val_main_v29 val_main_v25 val_main_v24 val_main_v23 val_main_cst_4 val_main_cst_5 val_main_cst_6
  rw [v22_re, v11_re, mul2, hostSumCols _ _ (by decide), colCast, mul2, hostConst2 ofBits_1024, hostDiv1024, hostSumCols _ _ (by decide), hostCols]
  exact re2_congr fun r c => (Fin.sum_univ_one _).trans rfl

theorem v37_re : val_main_v37 (F := Ideal) (re2 D) (re2 X) (row g) (re2 A) (re2 B) (re2 W)
    = re2 fun r c => D r c + dnorm (dh (A r) (B r) W) (X r) g c := by
  unfold val_main_v37 val_main_v36 val_main_v35 val_main_v34 val_main_v28 val_main_v27 val_main_v26
  rw [v22_re, v33_re, v8_re, hostBcastCol, mul2, mul2, mul2, add2, add2, add2]
  exact re2_congr fun r c => by rw [dnorm]; ring

theorem v39_re : val_main_v39 (F := Ideal) (re2 D) (re2 X) (row g) (re2 A) (re2 B) (re2 W)
    = re2 fun r c => 1 / 2 * (D r c + dnorm (dh (A r) (B r) W) (X r) g c) := by
  unfold val_main_v39 val_main_v38 val_main_cst_7
  rw [v37_re, hostConst2 Read.ofBits_half, mul2]

end Reference

end Cert.Mix

end
-- ==== Proof.MixKernel.lean ====
/-
  The mixers' input backward kernel on blocks of real numbers: what each of its payloads computes of a block of 512 rows.
-/
module

public import proofs.«01_k».proof.Proof.MixReference
public import proofs.«01_k».proof.Proof.Gen.Kernel6Ideal.Frame
public import Idealize.ShloMosaic.Lib.Pipeline.ValueKit

@[expose] public section

noncomputable section

namespace Cert.Mix.Kernel

open Idealize.ShloMosaic hiding ix1 ix2 eq_ix2
open Idealize.ShloMosaic.ValueIdx
open Idealize.ShloMosaic.Tactic
open Cert.Kernel6Ideal Cert.Kernel6Ideal.Gen Cert.Reals
open scoped BigOperators

variable (D X : Fin 512 → Fin 1024 → ℝ) (g : Fin 1024 → ℝ) (A : Fin 512 → Fin 512 → ℝ) (B : Fin 512 → Fin 1024 → ℝ)
  (W : Fin 1024 → Fin 1536 → ℝ)

/-- The weights as the kernel is handed them. -/
abbrev tr : (⟨2, ![1536, 1024]⟩ : Shape).Idx → EReal := re2 fun k c => W c k
/-- Their first 512 rows. -/
abbrev trFst : (⟨2, ![512, 1024]⟩ : Shape).Idx → EReal := re2 fun k c => W c (fst k)
/-- Their last 1024 rows. -/
abbrev trSnd : (⟨2, ![1024, 1024]⟩ : Shape).Idx → EReal := re2 fun k c => W c (snd k)

theorem ld_fst (inb : ∀ a, (![0, 0] : Fin 2 → ℕ) a + (![512, 1024] : Fin 2 → ℕ) a ≤ S1536x1024.size a) :
    View.ld (Val := Elt Ideal) (e' := .bf16) (tr W) (Rect.unit (s := S1536x1024) ![0, 0] ![512, 1024] inb) = trFst W := by
  funext j
  refine congrArg₂ (fun p q => ((W q p : ℝ) : EReal)) (Fin.ext ?_) (Fin.ext ?_) <;> simp
  all_goals rfl

theorem ld_snd (inb : ∀ a, (![512, 0] : Fin 2 → ℕ) a + (![1024, 1024] : Fin 2 → ℕ) a ≤ S1536x1024.size a) :
    View.ld (Val := Elt Ideal) (e' := .bf16) (tr W) (Rect.unit (s := S1536x1024) ![512, 0] ![1024, 1024] inb) = trSnd W := by
  funext j
  refine congrArg₂ (fun p q => ((W q p : ℝ) : EReal)) (Fin.ext ?_) (Fin.ext ?_) <;> simp
  all_goals rfl

theorem pay5_re : k0_pay5 (F := Ideal) (re2 A) = re2 A := rfl
theorem pay6_re : k0_pay6 (F := Ideal) (re2 B) = re2 B := rfl

theorem nn₁ (f : Fin 512 → Fin 512 → ℝ) (h : Fin 512 → Fin 1024 → ℝ) :
    matmul (F := Ideal) (φ₁ := .bf16) (φ₂ := .bf16) dot_S512x512_S512x1024_S512x1024_1_0_0_1_n_n none
      (re2 f) (re2 h) (constant S512x1024 .f32 0x00000000#32) = re2 fun r c => ∑ k, f r k * h k c := matmulNN none _ _ _
theorem nn₂ (f : Fin 512 → Fin 1024 → ℝ) (h : Fin 1024 → Fin 1024 → ℝ) :
    matmul (F := Ideal) (φ₁ := .bf16) (φ₂ := .bf16) dot_S512x1024_S1024x1024_S512x1024_1_0_0_1_n_n none
      (re2 f) (re2 h) (constant S512x1024 .f32 0x00000000#32) = re2 fun r c => ∑ k, f r k * h k c := matmulNN none _ _ _

theorem pay7_re : k0_pay7 (F := Ideal) (re2 A) (re2 B) (trFst W) (trSnd W) = re2 fun r => dh (A r) (B r) W := by
  unfold k0_pay7; dsimp only
  rw [pay5_re, pay6_re, shapeCast_self, shapeCast_self, nn₁, nn₂, add2]
  exact re2_congr fun r c => dh_parts _ _ W c

theorem pay8_re : k0_pay8 (F := Ideal) (re2 X) = re2 fun r _ => msq (X r) := by
  unfold k0_pay8; dsimp only
  rw [mul2, sumCols, colCast, const2 ofBits_1024, const2 ofBits_eps, div1024, add2]; rfl

theorem pay9_re : k0_pay9 (F := Ideal) (re2 X) = re2 fun r _ => rms (X r) := by
  unfold k0_pay9; dsimp only
  rw [pay8_re, rsqrt_msq]

theorem pay10_re : k0_pay10 (F := Ideal) (re2 X) = re2 fun r _ => -(1 / 2) * (rms (X r) / msq (X r)) := by
  unfold k0_pay10; dsimp only
  rw [pay8_re, pay9_re, div_msq, const2 ofBits_neg_half, mul2]

theorem pay11_re : k0_pay11 (F := Ideal) (re2 A) (re2 B) (trFst W) (trSnd W) (re2 X) = re2 fun r c => X r c * rms (X r) * dh (A r) (B r) W c := by
  unfold k0_pay11; dsimp only
  rw [pay7_re, pay9_re, bcastCol, mul2, mul2]

/-- The gradient of the rows. -/
theorem pay1_re : k0_pay1 (F := Ideal) (k0_pay7 (re2 A) (re2 B) (trFst W) (trSnd W)) (re2 X) (row g) (k0_pay9 (re2 X)) (k0_pay10 (re2 X)) (re2 D)
    = re2 fun r c => D r c + dnorm (dh (A r) (B r) W) (X r) g c := by
  rw [pay7_re, pay9_re, pay10_re]
  unfold k0_pay1; dsimp only
  rw [bcast2, mul2, mul2, sumCols, colCast, bcastCol, mul2, mul2, const2 ofBits_1024, div1024, sumCols, colCast, bcastCol, mul2, mul2, add2, add2, add2]
  exact re2_congr fun r c => by rw [Fin.sum_univ_one, dnorm]; rfl

/-- The half of it that the feed-forward part before takes. -/
theorem pay2_re : k0_pay2 (F := Ideal) (k0_pay7 (re2 A) (re2 B) (trFst W) (trSnd W)) (re2 X) (row g) (k0_pay9 (re2 X)) (k0_pay10 (re2 X)) (re2 D)
    = re2 fun r c => 1 / 2 * (D r c + dnorm (dh (A r) (B r) W) (X r) g c) := by
  unfold k0_pay2; dsimp only
  rw [pay1_re, const2 Read.ofBits_half, mul2, trunc2]

/-- What one block adds to the scale's gradient. -/
theorem pay3_re (o : Vec Ideal S1x1024 .f32) : k0_pay3 (F := Ideal) (k0_pay11 (re2 A) (re2 B) (trFst W) (trSnd W) (re2 X)) o
    = addf (φ := .f32) o (row fun c => ∑ r, X r c * rms (X r) * dh (A r) (B r) W c) := by
  unfold k0_pay3; dsimp only
  rw [shapeCast_self, pay11_re]
  exact congrArg (addf (F := Ideal) (φ := .f32) o) (sumRows_re _ _ _ _ _)

theorem pay4_re : k0_pay4 (F := Ideal) = fun _ => 0 := by
  unfold k0_pay4; dsimp only; rw [broadcast_zero]; exact funext fun _ => EReal.coe_zero

/-- The two column blocks stored of the joined gradient, put together. -/
theorem joined (i₀ i₁) :
    View.canon (Val := Elt Ideal) (s := S512x1536) (e := .bf16)
      [⟨Rect.unit ![0, 512] ![512, 1024] i₁, k0_pay6 (F := Ideal) (re2 B)⟩, ⟨Rect.unit ![0, 0] ![512, 512] i₀, k0_pay5 (F := Ideal) (re2 A)⟩]
      = re2 fun r => join (A r) (B r) := by
  rw [pay5_re, pay6_re]
  funext y
  refine View.canon_apply_of_pieces (Val := Elt Ideal) (S := S512x1536) (e := .bf16) (re2 fun r => join (A r) (B r)) _ (fun p hp => ?_) y (View.cover_of_tiledBy _ ![512, 512] (by sl_kernel_rfl) y)
  rcases List.mem_pair.mp hp with rfl | rfl
  · intro x
    refine congrArg Real.toEReal ((join_snd (A (ax0 x)) (B (ax0 x)) (ax1 x)).symm.trans ?_)
    refine congrArg₂ (fun p q => join (A p) (B p) q) (Fin.ext ?_) (Fin.ext ?_) <;> simp
    all_goals rfl
  · intro x
    refine congrArg Real.toEReal ((join_fst (A (ax0 x)) (B (ax0 x)) (ax1 x)).symm.trans ?_)
    refine congrArg₂ (fun p q => join (A p) (B p) q) (Fin.ext ?_) (Fin.ext ?_) <;> simp
    all_goals rfl

end Cert.Mix.Kernel

end
-- ==== Proof.MixRun.lean ====
/-
  The mixers' input backward kernel over its eight blocks of 512 rows: the input blocks each point reads, what its four
  output buffers hold after each point, and what the arrays hold at the end.
-/
module

public import proofs.«01_k».proof.Proof.MixKernel

@[expose] public section

noncomputable section

namespace Cert.Mix.Kernel

open Idealize.ShloMosaic hiding ix1 ix2 ix3 eq_ix2 eq_ix3
open Idealize.ShloMosaic.ValueIdx
open Cert.Kernel6Ideal Cert.Kernel6Ideal.Gen Cert.Reals
open scoped BigOperators

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (D X : Fin 4096 → Fin 1024 → ℝ) (g : Fin 1024 → ℝ)
  (A : Fin 4096 → Fin 512 → ℝ) (B : Fin 4096 → Fin 1024 → ℝ) (W : Fin 1024 → Fin 1536 → ℝ)

/-- The region's input arrays are these reals. -/
structure Inputs : Prop where
  hD : V m c main_arg0 = re2 D
  hX : V m c main_arg1 = re2 X
  hg : V m c main_arg2 = row g
  hA : V m c main_arg3 = re2 A
  hB : V m c main_arg4 = re2 B
  hW : V m c main_v1 = tr W

variable {m c D X g A B W}

/-- The region's input arrays, as the host prepares them. -/
theorem inputs (h0 : m ((c.tc : Thread nD τ).loc main_arg0) = re2 D) (h1 : m ((c.tc : Thread nD τ).loc main_arg1) = re2 X)
    (h2 : m ((c.tc : Thread nD τ).loc main_arg2) = row g) (h3 : m ((c.tc : Thread nD τ).loc main_arg3) = re2 A)
    (h4 : m ((c.tc : Thread nD τ).loc main_arg4) = re2 B) (h5 : m ((c.tc : Thread nD τ).loc main_arg5) = re2 W) : Inputs m c D X g A B W := by
  refine ⟨(V_main_arg0 m c).trans h0, (V_main_arg1 m c).trans h1, (V_main_arg2 m c).trans h2, (V_main_arg3 m c).trans h3, (V_main_arg4 m c).trans h4, ?_⟩
  unfold V V0 hostOps0
  simp only [List.flatten_cons, List.flatten_nil, List.cons_append, List.nil_append, List.append_nil]
  after_results
  exact congrArg (truncf (F := Ideal) .bf16 · _) ((congrArg (transpose S1536x1024 [1, 0] · _) h5).trans (transpose2 W _))

variable (hin : Inputs m c D X g A B W)
include hin

theorem iblk0 (t : Fin cfg0.N) : iblk m c 0 t = re2 fun r => D (brow t r) := by
  have e : ∀ t : Fin cfg0.N, win0_0.index t = ![t.val, 0] := (by decide +kernel : ∀ t : Fin grid0.N, _)
  funext i
  unfold iblk; rw [View.read_apply]
  refine (congrFun hin.hD _).trans ?_
  refine congrArg₂ (fun p q => ((D p q : ℝ) : EReal)) (Fin.ext ?_) (Fin.ext ?_) <;> dsimp only [ax0, ax1, brow] <;> blk_simp [e] <;> rfl

theorem iblk1 (t : Fin cfg0.N) : iblk m c 1 t = re2 fun r => X (brow t r) := by
  have e : ∀ t : Fin cfg0.N, win0_1.index t = ![t.val, 0] := (by decide +kernel : ∀ t : Fin grid0.N, _)
  funext i
  unfold iblk; rw [View.read_apply]
  refine (congrFun hin.hX _).trans ?_
  refine congrArg₂ (fun p q => ((X p q : ℝ) : EReal)) (Fin.ext ?_) (Fin.ext ?_) <;> dsimp only [ax0, ax1, brow] <;> blk_simp [e] <;> rfl

theorem iblk2 (t : Fin cfg0.N) : iblk m c 2 t = row g := by
  have e : ∀ t : Fin cfg0.N, win0_2.index t = ![0, 0] := (by decide +kernel : ∀ t : Fin grid0.N, _)
  funext i
  unfold iblk; rw [View.read_apply]
  refine (congrFun hin.hg _).trans ?_
  refine congrArg (fun p => ((g p : ℝ) : EReal)) (Fin.ext ?_) <;> dsimp only [ax0, ax1] <;> blk_simp [e] <;> rfl

theorem iblk3 (t : Fin cfg0.N) : iblk m c 3 t = re2 fun r => A (brow t r) := by
  have e : ∀ t : Fin cfg0.N, win0_3.index t = ![t.val, 0] := (by decide +kernel : ∀ t : Fin grid0.N, _)
  funext i
  unfold iblk; rw [View.read_apply]
  refine (congrFun hin.hA _).trans ?_
  refine congrArg₂ (fun p q => ((A p q : ℝ) : EReal)) (Fin.ext ?_) (Fin.ext ?_) <;> dsimp only [ax0, ax1, brow] <;> blk_simp [e] <;> rfl

theorem iblk4 (t : Fin cfg0.N) : iblk m c 4 t = re2 fun r => B (brow t r) := by
  have e : ∀ t : Fin cfg0.N, win0_4.index t = ![t.val, 0] := (by decide +kernel : ∀ t : Fin grid0.N, _)
  funext i
  unfold iblk; rw [View.read_apply]
  refine (congrFun hin.hB _).trans ?_
  refine congrArg₂ (fun p q => ((B p q : ℝ) : EReal)) (Fin.ext ?_) (Fin.ext ?_) <;> dsimp only [ax0, ax1, brow] <;> blk_simp [e] <;> rfl

theorem iblk5 (t : Fin cfg0.N) : iblk m c 5 t = tr W := by
  have e : ∀ t : Fin cfg0.N, win0_5.index t = ![0, 0] := (by decide +kernel : ∀ t : Fin grid0.N, _)
  funext i
  unfold iblk; rw [View.read_apply]
  refine (congrFun hin.hW _).trans ?_
  refine congrArg₂ (fun p q => ((W q p : ℝ) : EReal)) (Fin.ext ?_) (Fin.ext ?_) <;> dsimp only [ax0, ax1] <;> blk_simp [e] <;> rfl

/-- The gradient of the rows: each point leaves its own block's. -/
theorem out6 (t : Fin cfg0.N) : (outsAt0 m c t.val t.isLt).1
    = re2 fun r k => D (brow t r) k + dnorm (dh (A (brow t r)) (B (brow t r)) W) (X (brow t r)) g k := by
  by_cases h : t.val % 8 = 0
  · rw [outsAt0_A m c t h]; frame_out
    rw [iblk0 hin, iblk1 hin, iblk2 hin, iblk3 hin, iblk4 hin, iblk5 hin, ld_fst, ld_snd]; exact pay1_re _ _ _ _ _ _
  · rw [outsAt0_B m c t h]; frame_out
    rw [iblk0 hin, iblk1 hin, iblk2 hin, iblk3 hin, iblk4 hin, iblk5 hin, ld_fst, ld_snd]; exact pay1_re _ _ _ _ _ _

/-- The half of it. -/
theorem out9 (t : Fin cfg0.N) : (outsAt0 m c t.val t.isLt).2.2.2
    = re2 fun r k => 1 / 2 * (D (brow t r) k + dnorm (dh (A (brow t r)) (B (brow t r)) W) (X (brow t r)) g k) := by
  by_cases h : t.val % 8 = 0
  · rw [outsAt0_A m c t h]; frame_out
    rw [iblk0 hin, iblk1 hin, iblk2 hin, iblk3 hin, iblk4 hin, iblk5 hin, ld_fst, ld_snd]; exact pay2_re _ _ _ _ _ _
  · rw [outsAt0_B m c t h]; frame_out
    rw [iblk0 hin, iblk1 hin, iblk2 hin, iblk3 hin, iblk4 hin, iblk5 hin, ld_fst, ld_snd]; exact pay2_re _ _ _ _ _ _

/-- The joined gradient. -/
theorem out8 (t : Fin cfg0.N) : (outsAt0 m c t.val t.isLt).2.2.1 = re2 fun r => join (A (brow t r)) (B (brow t r)) := by
  by_cases h : t.val % 8 = 0
  · rw [outsAt0_A m c t h]; frame_out
    rw [iblk3 hin, iblk4 hin]; exact joined _ _ _ _
  · rw [outsAt0_B m c t h]; frame_out
    rw [iblk3 hin, iblk4 hin]; exact joined _ _ _ _

omit hin in
/-- One block's share of the scale's gradient. -/
def term (X : Fin 4096 → Fin 1024 → ℝ) (H : Fin 4096 → Fin 1024 → ℝ) (t : Fin cfg0.N) : S1x1024.Idx → EReal :=
  row fun k => ∑ r, X (brow t r) k * rms (X (brow t r)) * H (brow t r) k

/-- The scale's gradient after the last point. -/
theorem out7 (t : Fin cfg0.N) (ht : t.val + 1 = cfg0.N) (i : S1x1024.Idx) : (outsAt0 m c t.val t.isLt).2.1 i
    = 0 + ∑ p, term X (fun r => dh (A r) (B r) W) p i :=
  Pipeline.eq_sum_fin_of_reset_step_apply_last (fun n h => (outsAt0 m c n h).2.1) 8 (fun _ => 0) (term X fun r => dh (A r) (B r) W)
    (fun t h i => by
      rw [outsAt0_A m c t h]; frame_out
      rw [iblk1 hin, iblk3 hin, iblk4 hin, iblk5 hin, ld_fst, ld_snd, pay3_re, pay4_re]; rfl)
    (fun t h i => by
      rw [outsAt0_B m c t h]; frame_out
      rw [iblk1 hin, iblk3 hin, iblk4 hin, iblk5 hin, ld_fst, ld_snd, pay3_re]; rfl)
    (by decide) t ht i

theorem arr6 : (dats m 0 c).arrAt 6 cfg0.N = re2 fun r k => D r k + dnorm (dh (A r) (B r) W) (X r) g k := by
  have e : ∀ t : Fin cfg0.N, win0_6.index t = ![t.val, 0] := (by decide +kernel : ∀ t : Fin grid0.N, _)
  refine (dats m 0 c).arrAt_eq_of_covers 6 _ (by decide +kernel) fun t _ y => ?_
  blk_simp
  rw [after0_6, out6 hin]
  refine congrArg₂ (fun p q => ((D p q + dnorm (dh (A p) (B p) W) (X p) g q : ℝ) : EReal)) (Fin.ext ?_) (Fin.ext ?_) <;> dsimp only [ax0, ax1, brow] <;> blk_simp [e] <;> rfl

theorem arr7 : (dats m 0 c).arrAt 7 cfg0.N = row fun k => ∑ r, X r k * rms (X r) * dh (A r) (B r) W k := by
  refine (dats m 0 c).arrAt_eq_of_after_last 7 ⟨7, by decide⟩ (by decide +kernel) _ fun j => ?_
  blk_simp
  refine (congrFun (after0_7 m c ⟨7, by decide⟩) _).trans ((out7 hin ⟨7, by decide⟩ rfl _).trans ?_)
  refine (zero_add_sum EReal.coe_zero.symm fun p => rfl).trans (congrArg Real.toEReal ?_)
  exact Fin.sum_mul_add_fin 8 512 fun r => X r (ax1 j) * rms (X r) * dh (A r) (B r) W (ax1 j)

theorem arr8 : (dats m 0 c).arrAt 8 cfg0.N = re2 fun r => join (A r) (B r) := by
  have e : ∀ t : Fin cfg0.N, win0_8.index t = ![t.val, 0] := (by decide +kernel : ∀ t : Fin grid0.N, _)
  refine (dats m 0 c).arrAt_eq_of_covers 8 _ (by decide +kernel) fun t _ y => ?_
  blk_simp
  rw [after0_8, out8 hin]
  refine congrArg₂ (fun p q => ((join (A p) (B p) q : ℝ) : EReal)) (Fin.ext ?_) (Fin.ext ?_) <;> dsimp only [ax0, ax1, brow] <;> blk_simp [e] <;> rfl

theorem arr9 : (dats m 0 c).arrAt 9 cfg0.N = re2 fun r k => 1 / 2 * (D r k + dnorm (dh (A r) (B r) W) (X r) g k) := by
  have e : ∀ t : Fin cfg0.N, win0_9.index t = ![t.val, 0] := (by decide +kernel : ∀ t : Fin grid0.N, _)
  refine (dats m 0 c).arrAt_eq_of_covers 9 _ (by decide +kernel) fun t _ y => ?_
  blk_simp
  rw [after0_9, out9 hin]
  refine congrArg₂ (fun p q => ((1 / 2 * (D p q + dnorm (dh (A p) (B p) W) (X p) g q) : ℝ) : EReal)) (Fin.ext ?_) (Fin.ext ?_) <;> dsimp only [ax0, ax1, brow] <;> blk_simp [e] <;> rfl

/-- The host widens the joined gradient. -/
theorem tail3 : Pipeline.afterTail₀ cfgs (dats m) 0 (V0 m) [hostOps1] c main_v3 = re2 fun r => join (A r) (B r) := by
  have e : Pipeline.withArrays (cfgs 0).spec c (V0 m c) (fun w => (dats m 0 c).arrAt w (cfgs 0).N) (Proc.devRef .tc main_v2_2) = re2 fun r => join (A r) (B r) :=
    (Pipeline.withArrays_arr spec0 winFacts0.arr_inj c (V0 m c) (fun w => (dats m 0 c).arrAt w (cfgs 0).N) 8).trans (arr8 hin)
  unfold Pipeline.afterTail₀ hostOps1
  simp only [List.flatten_cons, List.flatten_nil, List.cons_append, List.nil_append, List.append_nil]
  after_results
  rw [e]; rfl

/-- The host widens the halved gradient. -/
theorem tail4 : Pipeline.afterTail₀ cfgs (dats m) 0 (V0 m) [hostOps1] c main_v4
    = re2 fun r k => 1 / 2 * (D r k + dnorm (dh (A r) (B r) W) (X r) g k) := by
  have e : Pipeline.withArrays (cfgs 0).spec c (V0 m c) (fun w => (dats m 0 c).arrAt w (cfgs 0).N) (Proc.devRef .tc main_v2_3)
      = re2 fun r k => 1 / 2 * (D r k + dnorm (dh (A r) (B r) W) (X r) g k) :=
    (Pipeline.withArrays_arr spec0 winFacts0.arr_inj c (V0 m c) (fun w => (dats m 0 c).arrAt w (cfgs 0).N) 9).trans (arr9 hin)
  unfold Pipeline.afterTail₀ hostOps1
  simp only [List.flatten_cons, List.flatten_nil, List.cons_append, List.nil_append, List.append_nil]
  after_results
  rw [e]; rfl

end Cert.Mix.Kernel

end
-- ==== Proof.MixClaim.lean ====
/-
  The mixers' input backward call: the kernel's four results are the reference's, on finite arguments.
-/
module

public import proofs.«01_k».proof.Defs
public import proofs.«01_k».proof.Proof.MixRun
public import proofs.«01_k».proof.Proof.HostReals
public import proofs.«01_k».proof.Proof.Gen.Kernel6
public import proofs.«01_k».proof.Proof.Gen.Pre_mix_in_finite
public import Idealize.ShloMosaic.Lib.Tactic

@[expose] public section

noncomputable section

namespace Cert.Mix

open Idealize.ShloMosaic hiding ix1 ix2 ix3 eq_ix2 eq_ix3
open Idealize.ShloMosaic.ValueIdx
open Idealize.SL.Sem Idealize.ShloMosaic.Tactic Cert.Reals

section Kernel

open Cert.Kernel6Ideal Cert.Kernel6Ideal.Gen

variable (m : (ℓ : Loc nD τ sig) → Buf (Elt Ideal) ℓ)

/-- The arguments of every device are reals. -/
structure Args (D X : Dev nD → Fin 4096 → Fin 1024 → ℝ) (g : Dev nD → Fin 1024 → ℝ) (A : Dev nD → Fin 4096 → Fin 512 → ℝ)
    (B : Dev nD → Fin 4096 → Fin 1024 → ℝ) (W : Dev nD → Fin 1024 → Fin 1536 → ℝ) : Prop where
  a0 (c : Dev nD) : m ((c.tc : Thread nD τ).loc main_arg0) = re2 (D c)
  a1 (c : Dev nD) : m ((c.tc : Thread nD τ).loc main_arg1) = re2 (X c)
  a2 (c : Dev nD) : m ((c.tc : Thread nD τ).loc main_arg2) = row (g c)
  a3 (c : Dev nD) : m ((c.tc : Thread nD τ).loc main_arg3) = re2 (A c)
  a4 (c : Dev nD) : m ((c.tc : Thread nD τ).loc main_arg4) = re2 (B c)
  a5 (c : Dev nD) : m ((c.tc : Thread nD τ).loc main_arg5) = re2 (W c)

theorem exists_args (h : Pre_Kernel6Ideal_mix_in_finite m) : ∃ D X g A B W, Args m D X g A B W := by
  choose D h0 using fun c : Dev nD => exists_re2 (m ((c.tc : Thread nD τ).loc main_arg0)) _ (h c).1
  choose X h1 using fun c : Dev nD => exists_re2 (m ((c.tc : Thread nD τ).loc main_arg1)) _ (h c).2.1
  choose g h2 using fun c : Dev nD => exists_row (m ((c.tc : Thread nD τ).loc main_arg2)) _ (h c).2.2.1
  choose A h3 using fun c : Dev nD => exists_re2 (m ((c.tc : Thread nD τ).loc main_arg3)) _ (h c).2.2.2.1
  choose B h4 using fun c : Dev nD => exists_re2 (m ((c.tc : Thread nD τ).loc main_arg4)) _ (h c).2.2.2.2.1
  choose W h5 using fun c : Dev nD => exists_re2 (m ((c.tc : Thread nD τ).loc main_arg5)) _ (h c).2.2.2.2.2
  exact ⟨D, X, g, A, B, W, ⟨h0, h1, h2, h3, h4, h5⟩⟩

end Kernel

/-- The reference leaves its arguments alone, and declares no semaphore. -/
theorem reference_frame : Cert.quiescent_Reference6Ideal := fun m ρ _ =>
  (θ_run Cert.Reference6Ideal.defs _ _).mono
    (fun r h => ⟨fun c => (h c).2.2.2.2, sem_eq_zero_of_no_sems (by decide) r.2⟩) (Reference6Ideal.Value.run (F := Ideal) m ρ)

/-- The kernel's frame at the machine's floats: the printed form differs only in its name. -/
theorem frame_kernel : Cert.quiescent_Kernel6 := fun m ρ _ => Eq.mp (by sl_kernel_rfl) (Kernel6Ideal.Gen.frame (F := Bits) m ρ)

theorem algebraic : Cert.algebraic_Kernel6Ideal_Reference6Ideal_pre_mix_in_finite := by
  intro m ρ m' ρ' hpre hagree
  obtain ⟨D, X, g, A, B, W, h⟩ := exists_args m hpre
  refine ⟨fun c => re2 fun r k => D c r k + dnorm (dh (A c r) (B c r) (W c)) (X c r) (g c) k,
    fun c => row fun k => ∑ r, X c r k * rms (X c r) * dh (A c r) (B c r) (W c) k, fun c => re2 fun r => join (A c r) (B c r),
    fun c => re2 fun r k => 1 / 2 * (D c r k + dnorm (dh (A c r) (B c r) (W c)) (X c r) (g c) k), ?_, ?_⟩
  · refine θ_run_mono (θ_run_and (Kernel6Ideal.Gen.run_main m ρ) (Kernel6Ideal.Gen.unchanged m ρ)) ?_
    rintro r ⟨hr, hu⟩ c
    have hin := Kernel.inputs (h.a0 c) (h.a1 c) (h.a2 c) (h.a3 c) (h.a4 c) (h.a5 c)
    exact ⟨(hr.out_eq c 6).trans (Kernel.arr6 hin), (hr.out_eq c 7).trans (Kernel.arr7 hin), (hr.rest_eq c _ (by decide)).trans (Kernel.tail3 hin),
      (hr.rest_eq c _ (by decide)).trans (Kernel.tail4 hin), hu c⟩
  · refine θ_run_mono (Reference6Ideal.Value.run (F := Ideal) m' ρ') ?_
    intro r hr c
    obtain ⟨h0, h1, h2, h3, hu⟩ := hr c
    obtain ⟨e0, e1, e2, e3, e4, e5⟩ := hagree c
    rw [h.a0 c] at e0
    rw [h.a1 c] at e1
    rw [h.a2 c] at e2
    rw [h.a3 c] at e3
    rw [h.a4 c] at e4
    rw [h.a5 c] at e5
    refine ⟨h0.trans ?_, h1.trans ?_, h2.trans ?_, h3.trans ?_, hu⟩
    · rw [Reference6Ideal.Read.val_main_v37_eq, e0, e1, e2, e3, e4, e5]
      exact Reference.v37_re _ _ _ _ _ _
    · rw [Reference6Ideal.Read.val_main_v20_eq, e1, e3, e4, e5]
      exact Reference.v20_re _ _ _ _
    · rw [Reference6Ideal.Read.val_main_v0_eq, e3, e4]
      exact Reference.v0_re _ _
    · rw [Reference6Ideal.Read.val_main_v39_eq, e0, e1, e2, e3, e4, e5]
      exact Reference.v39_re _ _ _ _ _ _

end Cert.Mix

end
-- ==== Proof.LossReference.lean ====
/-
  The final norm and loss of the step, with their gradient: the real functions, and what the reference's host lines hold
  on real arguments.
-/
module

public import proofs.«01_k».proof.Proof.Rms
public import proofs.«01_k».proof.Proof.ReadMath
public import proofs.«01_k».proof.Proof.Gen.Reference7Ideal.Read
public import Idealize.ShloMosaic.Lib.KernelVsHost

@[expose] public section

noncomputable section

namespace Cert.Loss

open Idealize.ShloMosaic hiding ix1 ix2 eq_ix2 sum_idx2
open Idealize.ShloMosaic.ValueIdx
open Cert.Reals
open scoped BigOperators

/-- Every entry of an array of real numbers summed, as the host does it. -/
theorem hostTotal1 {n : ℕ} (v : Fin n → ℝ) (h : (⟨1, ![n]⟩ : Shape).ReducesTo [0] ⟨0, ![]⟩) (hu : 0 < (⟨0, ![]⟩ : Shape).numel) :
    Host.reduceAdd (F := Ideal) (φ := .f32) (vec v) (constant (F := Ideal) ⟨0, ![]⟩ .f32 0x00000000#32) h hu = re fun _ => ∑ r, v r := by
  funext i
  simp only [Host.reduceAdd, Ideal.hostReduceAdd_def]
  refine (Ideal.hostReduceAdd_total h (fun b => b.elim0) _ _ i).trans ((zero_add_sum ofBits_zero fun k => rfl).trans (congrArg Real.toEReal ?_))
  exact sum_idx1 fun k : (⟨1, ![n]⟩ : Shape).Idx => v (k 0)
theorem hostTotal2 {m n : ℕ} (f : Fin m → Fin n → ℝ) (h : (⟨2, ![m, n]⟩ : Shape).ReducesTo [0, 1] ⟨0, ![]⟩) (hu : 0 < (⟨0, ![]⟩ : Shape).numel) :
    Host.reduceAdd (F := Ideal) (φ := .f32) (re2 f) (constant (F := Ideal) ⟨0, ![]⟩ .f32 0x00000000#32) h hu = re fun _ => ∑ r, ∑ c, f r c := by
  funext i
  simp only [Host.reduceAdd, Ideal.hostReduceAdd_def]
  refine (Ideal.hostReduceAdd_total h (fun b => b.elim0) _ _ i).trans ((zero_add_sum ofBits_zero fun k => rfl).trans (congrArg Real.toEReal ?_))
  exact ValueIdx.sum_idx2 fun k : (⟨2, ![m, n]⟩ : Shape).Idx => f (ax0 k) (ax1 k)

variable (x : Fin 1024 → ℝ) (a : Fin 2816 → ℝ) (W : Fin 2816 → Fin 1024 → ℝ) (t g : Fin 1024 → ℝ)

/-- One row entering the norm: half of the feed-forward part's output added to it. -/
def z (c : Fin 1024) : ℝ := x c + 1 / 2 * ∑ k, a k * W k c

/-- How far the normed row is from its target. -/
def err (c : Fin 1024) : ℝ := z x a W c * rms (z x a W) * g c - t c

/-- The gradient of the normed row. -/
def derr (c : Fin 1024) : ℝ := err x a W t g c * (1 / 1024)

/-- The gradient of the row itself. -/
def dz (c : Fin 1024) : ℝ := dnorm (derr x a W t g) (z x a W) g c

/-- One row's part in the scale's gradient. -/
def dg (c : Fin 1024) : ℝ := z x a W c * rms (z x a W) * derr x a W t g c

namespace Reference

open Cert.Reference7Ideal Cert.Reference7Ideal.Read

variable (X : Fin 4096 → Fin 1024 → ℝ) (A : Fin 4096 → Fin 2816 → ℝ) (T : Fin 4096 → Fin 1024 → ℝ)

theorem v3_re : val_main_v3 (F := Ideal) (re2 X) (re2 A) (re2 W) = re2 fun r => z (X r) (A r) W := by
  unfold val_main_v3 val_main_v2 val_main_v1 val_main_cst val_main_v0
  rw [show Host.dotGeneral (F := Ideal) (φ₁ := .f32) (φ₂ := .f32) dot_S4096x2816_S2816x1024_S4096x1024_1_0_0_1_n_n none (re2 A) (re2 W) = _
    from hostNN none _ _ _, hostConst2 Read.ofBits_half, mul2, add2]; rfl

theorem v10_re : val_main_v10 (F := Ideal) (re2 X) (re2 A) (re2 W) = re2 fun r _ => msq (z (X r) (A r) W) := by
  unfold val_main_v10 val_main_v9 val_main_cst_2 val_main_v8 val_main_v7 val_main_cst_1 val_main_v6 val_main_v5 val_main_cst_0 val_main_v4
  rw [v3_re, mul2, hostSumCols _ _ (by decide), hostCols, hostConst2 ofBits_1024, hostDiv1024, hostConst2 ofBits_eps, add2]; rfl

theorem v11_re : val_main_v11 (F := Ideal) (re2 X) (re2 A) (re2 W) = re2 fun r _ => rms (z (X r) (A r) W) := by
  unfold val_main_v11; rw [v10_re, hostRsqrt_msq]

theorem v14_re : val_main_v14 (F := Ideal) (re2 X) (re2 A) (re2 W)
    = re2 fun r _ => -(1 / 2) * (rms (z (X r) (A r) W) / msq (z (X r) (A r) W)) := by
  unfold val_main_v14 val_main_v13 val_main_cst_3 val_main_v12
  rw [v11_re, v10_re, hostDiv_msq, hostConst2 ofBits_neg_half, mul2]

theorem v16_re : val_main_v16 (F := Ideal) (re2 X) (re2 A) (re2 W) = re2 fun r c => z (X r) (A r) W c * rms (z (X r) (A r) W) := by
  unfold val_main_v16 val_main_v15; rw [v3_re, v11_re, hostBcastCol, mul2]

theorem v19_re : val_main_v19 (F := Ideal) (re2 X) (re2 A) (re2 W) (re2 T) (row g) = re2 fun r => err (X r) (A r) W (T r) g := by
  unfold val_main_v19 val_main_v18 val_main_v17
  rw [v16_re, hostBcast2, mul2, sub2]; rfl

theorem v25_re : val_main_v25 (F := Ideal) (re2 X) (re2 A) (re2 W) (re2 T) (row g)
    = vec fun r => (∑ c, err (X r) (A r) W (T r) g c * err (X r) (A r) W (T r) g c) / 1024 := by
  unfold val_main_v25 val_main_v23 val_main_cst_5 val_main_v20
  rw [v19_re, mul2, hostSumCols _ _ (by decide)]
  funext i
  refine (congrArg (FloatOps.hostDivf (F := Ideal) (φ := .f32) _) ofBits_1024).trans (hostDiv_re _ (by norm_num))

/-- The loss: half the mean square of the distances, over every row. -/
theorem v27_re : val_main_v27 (F := Ideal) (re2 X) (re2 A) (re2 W) (re2 T) (row g)
    = re fun _ => 1 / 2 * ∑ r, (∑ c, err (X r) (A r) W (T r) g c * err (X r) (A r) W (T r) g c) / 1024 := by
  unfold val_main_v27 val_main_v26 val_main_cst_7 val_main_cst_8
  rw [v25_re, hostTotal1, show constant (F := Ideal) S_ .f32 0x3F000000#32 = re fun _ => 1 / 2 from funext fun _ => Read.ofBits_half, mulf_re]

theorem v31_re : val_main_v31 (F := Ideal) = vec fun _ => 1 / 2 * 1 / 1024 := by
  funext i
  rw [val_main_v31_apply, val_main_v29_apply, val_main_v28_apply, val_main_cst_9_apply, val_main_cst_10_apply, val_main_v30_apply, val_main_cst_11_apply,
    Read.ofBits_half, ofBits_one, ofBits_1024]
  exact hostDiv_re (1 / 2 * 1) (by norm_num)

theorem v33_re : val_main_v33 (F := Ideal) (re2 X) (re2 A) (re2 W) (re2 T) (row g) = re2 fun r => derr (X r) (A r) W (T r) g := by
  unfold val_main_v33 val_main_v32 val_main_v22 val_main_v21 val_main_cst_4
  rw [v31_re, v19_re, hostCols, hostConst2 ofBits_two, mul2, mul2]
  exact re2_congr fun r c => by rw [derr]; ring

theorem v36_re : val_main_v36 (F := Ideal) (re2 X) (re2 A) (re2 W) (re2 T) (row g) = row fun c => ∑ r, dg (X r) (A r) W (T r) g c := by
  unfold val_main_v36 val_main_v35 val_main_v34 val_main_cst_12
  rw [v16_re, v33_re, mul2]
  exact hostSum2 _ _ (by decide) _ _

theorem v38_re : val_main_v38 (F := Ideal) (re2 X) (re2 A) (re2 W) (re2 T) (row g) = re2 fun r c => derr (X r) (A r) W (T r) g c * g c := by
  unfold val_main_v38 val_main_v37
  rw [v33_re, hostBcast2, mul2]

theorem v48_re : val_main_v48 (F := Ideal) (re2 X) (re2 A) (re2 W) (re2 T) (row g)
    = re2 fun r _ => drms (derr (X r) (A r) W (T r) g) (z (X r) (A r) W) g := by
  unfold val_main_v48 val_main_v47 val_main_cst_15 val_main_v46 val_main_v45 val_main_cst_14 val_main_v44 val_main_v41 val_main_v40 val_main_cst_13 val_main_v39
  rw [v3_re, v38_re, v14_re, mul2, hostSumCols _ _ (by decide), colCast, mul2, hostConst2 ofBits_1024, hostDiv1024, hostSumCols _ _ (by decide), hostCols]
  exact re2_congr fun r c => (Fin.sum_univ_one _).trans rfl

theorem v52_re : val_main_v52 (F := Ideal) (re2 X) (re2 A) (re2 W) (re2 T) (row g) = re2 fun r => dz (X r) (A r) W (T r) g := by
  unfold val_main_v52 val_main_v51 val_main_v50 val_main_v49 val_main_v43 val_main_v42
  rw [v3_re, v38_re, v48_re, v11_re, hostBcastCol, mul2, mul2, mul2, add2, add2]; rfl

end Reference

end Cert.Loss

end
-- ==== Proof.LossKernel.lean ====
/-
  The final norm and loss kernel on blocks of real numbers: what each of its payloads computes of a block of 512 rows.
-/
module

public import proofs.«01_k».proof.Proof.LossReference
public import proofs.«01_k».proof.Proof.Gen.Kernel7Ideal.Frame
public import Idealize.ShloMosaic.Lib.Pipeline.ValueKit

@[expose] public section

noncomputable section

namespace Cert.Loss.Kernel

open Idealize.ShloMosaic hiding ix1 ix2 eq_ix2
open Idealize.ShloMosaic.ValueIdx
open Cert.Kernel7Ideal Cert.Kernel7Ideal.Gen Cert.Reals
open scoped BigOperators

theorem ofBits_2048th : FloatOps.ofBits (F := Ideal) .f32 0x3A000000#32 = ((1 / 2048 : ℝ) : EReal) := by
  simp [Ideal.ofBits_def, Ideal.ofBits, Ideal.ieee, -EReal.coe_mul]; norm_num
theorem ofBits_1024th : FloatOps.ofBits (F := Ideal) .f32 0x3A800000#32 = ((1 / 1024 : ℝ) : EReal) := by
  simp [Ideal.ofBits_def, Ideal.ofBits, Ideal.ieee, -EReal.coe_mul]; norm_num

variable (X : Fin 512 → Fin 1024 → ℝ) (A : Fin 512 → Fin 2816 → ℝ) (W : Fin 2816 → Fin 1024 → ℝ) (T : Fin 512 → Fin 1024 → ℝ)
  (g : Fin 1024 → ℝ)

theorem nn (f : Fin 512 → Fin 2816 → ℝ) (h : Fin 2816 → Fin 1024 → ℝ) :
    matmul (F := Ideal) (φ₁ := .bf16) (φ₂ := .bf16) dot_S512x2816_S2816x1024_S512x1024_1_0_0_1_n_n none
      (re2 f) (re2 h) (constant S512x1024 .f32 0x00000000#32) = re2 fun r c => ∑ k, f r k * h k c := matmulNN none _ _ _

theorem pay3_re : k0_pay3 (F := Ideal) (re2 X) (re2 A) (re2 W) = re2 fun r => z (X r) (A r) W := by
  unfold k0_pay3; dsimp only
  rw [shapeCast_self, shapeCast_self, nn, const2 Read.ofBits_half, mul2, add2]; rfl

theorem pay4_re : k0_pay4 (F := Ideal) (re2 X) (re2 A) (re2 W) (row g) (re2 T) = re2 fun r => err (X r) (A r) W (T r) g := by
  unfold k0_pay4; dsimp only
  rw [pay3_re, mul2, sumCols, colCast, const2 ofBits_1024, const2 ofBits_eps, div1024, add2,
    show rsqrt (F := Ideal) (φ := .f32) (re2 fun (r : Fin 512) (_ : Fin 1) => (∑ c, z (X r) (A r) W c * z (X r) (A r) W c) / 1024 + eps) = _
      from rsqrt_msq fun r => z (X r) (A r) W, bcastCol, mul2, bcast2, mul2, sub2]; rfl

/-- Row `j * 8 + q` of the block. -/
abbrev grp (j : Fin 64) (q : Fin 8) : Fin 512 := ⟨j.val * 8 + q.val, by omega⟩

/-- What one block adds to the loss: its rows in groups of eight. -/
theorem pay5_re (o : Vec Ideal S8x1024 .f32) : k0_pay5 (F := Ideal) (re2 X) (re2 A) (re2 W) (row g) (re2 T) o
    = addf (φ := .f32) o (re2 fun q c => (∑ j, err (X (grp j q)) (A (grp j q)) W (T (grp j q)) g c * err (X (grp j q)) (A (grp j q)) W (T (grp j q)) g c) * (1 / 2048)) := by
  unfold k0_pay5; dsimp only
  rw [pay4_re, shapeCast_self, mul2, rows8 _ rfl, const2 ofBits_2048th, mul2]

theorem pay6_re : k0_pay6 (F := Ideal) (k0_pay4 (re2 X) (re2 A) (re2 W) (row g) (re2 T)) = re2 fun r => derr (X r) (A r) W (T r) g := by
  rw [pay4_re]
  unfold k0_pay6; dsimp only
  rw [const2 ofBits_1024th, mul2]; rfl

theorem pay7_re : k0_pay7 (F := Ideal) (k0_pay3 (re2 X) (re2 A) (re2 W)) = re2 fun r _ => msq (z (X r) (A r) W) := by
  rw [pay3_re]
  unfold k0_pay7; dsimp only
  rw [mul2, sumCols, colCast, const2 ofBits_1024, const2 ofBits_eps, div1024, add2]; rfl

theorem pay8_re : k0_pay8 (F := Ideal) (k0_pay3 (re2 X) (re2 A) (re2 W)) = re2 fun r _ => rms (z (X r) (A r) W) := by
  unfold k0_pay8; dsimp only
  rw [pay7_re, rsqrt_msq]

/-- The gradient of the rows. -/
theorem pay9_re : k0_pay9 (F := Ideal) (k0_pay3 (re2 X) (re2 A) (re2 W)) (row g) (k0_pay4 (re2 X) (re2 A) (re2 W) (row g) (re2 T))
    = re2 fun r => dz (X r) (A r) W (T r) g := by
  unfold k0_pay9; dsimp only
  rw [pay6_re, pay7_re, pay8_re, pay3_re, div_msq, const2 ofBits_neg_half, mul2, bcast2, mul2, mul2, sumCols, colCast, bcastCol, mul2, mul2,
    const2 ofBits_1024, div1024, sumCols, colCast, bcastCol, mul2, mul2, add2, add2]
  exact re2_congr fun r c => by rw [Fin.sum_univ_one, dz, dnorm]; rfl

/-- What one block adds to the scale's gradient. -/
theorem pay10_re (o : Vec Ideal S1x1024 .f32) :
    k0_pay10 (F := Ideal) (k0_pay3 (re2 X) (re2 A) (re2 W)) (k0_pay4 (re2 X) (re2 A) (re2 W) (row g) (re2 T)) o
      = addf (φ := .f32) o (row fun c => ∑ r, dg (X r) (A r) W (T r) g c) := by
  unfold k0_pay10; dsimp only
  rw [shapeCast_self, pay6_re, pay8_re, pay3_re, bcastCol, mul2, mul2]
  exact congrArg (addf (F := Ideal) (φ := .f32) o) (sumRows_re _ _ _ _ _)

theorem pay1_re : k0_pay1 (F := Ideal) = fun _ => 0 := by
  unfold k0_pay1; dsimp only; rw [broadcast_zero]; exact funext fun _ => EReal.coe_zero
theorem pay2_re : k0_pay2 (F := Ideal) = fun _ => 0 := by
  unfold k0_pay2; dsimp only; rw [broadcast_zero]; exact funext fun _ => EReal.coe_zero

end Cert.Loss.Kernel

end
-- ==== Proof.LossRun.lean ====
/-
  The final norm and loss kernel over its eight blocks of 512 rows: the input blocks each point reads, what its three output
  buffers hold after each point, what the arrays hold at the end, and the loss the host sums of the last.
-/
module

public import proofs.«01_k».proof.Proof.LossKernel

@[expose] public section

noncomputable section

namespace Cert.Loss.Kernel

open Idealize.ShloMosaic hiding ix1 ix2 ix3 eq_ix2 eq_ix3
open Idealize.ShloMosaic.ValueIdx
open Cert.Kernel7Ideal Cert.Kernel7Ideal.Gen Cert.Reals
open scoped BigOperators

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (X : Fin 4096 → Fin 1024 → ℝ) (A : Fin 4096 → Fin 2816 → ℝ)
  (W : Fin 2816 → Fin 1024 → ℝ) (T : Fin 4096 → Fin 1024 → ℝ) (g : Fin 1024 → ℝ)

/-- The region's input arrays are these reals. -/
structure Inputs : Prop where
  hX : V m c main_arg0 = re2 X
  hA : V m c main_v0 = re2 A
  hW : V m c main_v1 = re2 W
  hT : V m c main_arg3 = re2 T
  hg : V m c main_arg4 = row g

variable {m c X A W T g}

/-- The region's input arrays, as the host prepares them. -/
theorem inputs (h0 : m ((c.tc : Thread nD τ).loc main_arg0) = re2 X) (h1 : m ((c.tc : Thread nD τ).loc main_arg1) = re2 A)
    (h2 : m ((c.tc : Thread nD τ).loc main_arg2) = re2 W) (h3 : m ((c.tc : Thread nD τ).loc main_arg3) = re2 T)
    (h4 : m ((c.tc : Thread nD τ).loc main_arg4) = row g) : Inputs m c X A W T g := by
  refine ⟨(V_main_arg0 m c).trans h0, ?_, ?_, (V_main_arg3 m c).trans h3, (V_main_arg4 m c).trans h4⟩
  · unfold V V0 hostOps0
    simp only [List.flatten_cons, List.flatten_nil, List.cons_append, List.nil_append, List.append_nil]
    after_results
    exact congrArg (truncf (F := Ideal) .bf16 · _) h1
  · unfold V V0 hostOps0
    simp only [List.flatten_cons, List.flatten_nil, List.cons_append, List.nil_append, List.append_nil]
    after_results
    exact congrArg (truncf (F := Ideal) .bf16 · _) h2

variable (hin : Inputs m c X A W T g)
include hin

theorem iblk0 (t : Fin cfg0.N) : iblk m c 0 t = re2 fun r => X (brow t r) := by
  have e : ∀ t : Fin cfg0.N, win0_0.index t = ![t.val, 0] := (by decide +kernel : ∀ t : Fin grid0.N, _)
  funext i
  unfold iblk; rw [View.read_apply]
  refine (congrFun hin.hX _).trans ?_
  refine congrArg₂ (fun p q => ((X p q : ℝ) : EReal)) (Fin.ext ?_) (Fin.ext ?_) <;> dsimp only [ax0, ax1, brow] <;> blk_simp [e] <;> rfl

theorem iblk1 (t : Fin cfg0.N) : iblk m c 1 t = re2 fun r => A (brow t r) := by
  have e : ∀ t : Fin cfg0.N, win0_1.index t = ![t.val, 0] := (by decide +kernel : ∀ t : Fin grid0.N, _)
  funext i
  unfold iblk; rw [View.read_apply]
  refine (congrFun hin.hA _).trans ?_
  refine congrArg₂ (fun p q => ((A p q : ℝ) : EReal)) (Fin.ext ?_) (Fin.ext ?_) <;> dsimp only [ax0, ax1, brow] <;> blk_simp [e] <;> rfl

theorem iblk2 (t : Fin cfg0.N) : iblk m c 2 t = re2 W := by
  have e : ∀ t : Fin cfg0.N, win0_2.index t = ![0, 0] := (by decide +kernel : ∀ t : Fin grid0.N, _)
  funext i
  unfold iblk; rw [View.read_apply]
  refine (congrFun hin.hW _).trans ?_
  refine congrArg₂ (fun p q => ((W p q : ℝ) : EReal)) (Fin.ext ?_) (Fin.ext ?_) <;> dsimp only [ax0, ax1] <;> blk_simp [e] <;> rfl

theorem iblk3 (t : Fin cfg0.N) : iblk m c 3 t = re2 fun r => T (brow t r) := by
  have e : ∀ t : Fin cfg0.N, win0_3.index t = ![t.val, 0] := (by decide +kernel : ∀ t : Fin grid0.N, _)
  funext i
  unfold iblk; rw [View.read_apply]
  refine (congrFun hin.hT _).trans ?_
  refine congrArg₂ (fun p q => ((T p q : ℝ) : EReal)) (Fin.ext ?_) (Fin.ext ?_) <;> dsimp only [ax0, ax1, brow] <;> blk_simp [e] <;> rfl

theorem iblk4 (t : Fin cfg0.N) : iblk m c 4 t = row g := by
  have e : ∀ t : Fin cfg0.N, win0_4.index t = ![0, 0] := (by decide +kernel : ∀ t : Fin grid0.N, _)
  funext i
  unfold iblk; rw [View.read_apply]
  refine (congrFun hin.hg _).trans ?_
  refine congrArg (fun p => ((g p : ℝ) : EReal)) (Fin.ext ?_) <;> dsimp only [ax0, ax1] <;> blk_simp [e] <;> rfl

/-- The gradient of the rows: each point leaves its own block's. -/
theorem out5 (t : Fin cfg0.N) : (outsAt0 m c t.val t.isLt).1 = re2 fun r => dz (X (brow t r)) (A (brow t r)) W (T (brow t r)) g := by
  by_cases h : t.val % 8 = 0
  · rw [outsAt0_A m c t h]; frame_out
    rw [iblk0 hin, iblk1 hin, iblk2 hin, iblk3 hin, iblk4 hin]; exact pay9_re _ _ _ _ _
  · rw [outsAt0_B m c t h]; frame_out
    rw [iblk0 hin, iblk1 hin, iblk2 hin, iblk3 hin, iblk4 hin]; exact pay9_re _ _ _ _ _

omit hin in
/-- One block's share of the scale's gradient. -/
def term6 (X : Fin 4096 → Fin 1024 → ℝ) (A : Fin 4096 → Fin 2816 → ℝ) (W : Fin 2816 → Fin 1024 → ℝ) (T : Fin 4096 → Fin 1024 → ℝ) (g : Fin 1024 → ℝ)
    (t : Fin cfg0.N) : S1x1024.Idx → EReal := row fun k => ∑ r, dg (X (brow t r)) (A (brow t r)) W (T (brow t r)) g k

omit hin in
/-- The square of one distance. -/
def sq (X : Fin 4096 → Fin 1024 → ℝ) (A : Fin 4096 → Fin 2816 → ℝ) (W : Fin 2816 → Fin 1024 → ℝ) (T : Fin 4096 → Fin 1024 → ℝ) (g : Fin 1024 → ℝ)
    (r : Fin 4096) (k : Fin 1024) : ℝ := err (X r) (A r) W (T r) g k * err (X r) (A r) W (T r) g k

omit hin in
/-- One block's share of the loss. -/
def term7 (S : Fin 4096 → Fin 1024 → ℝ) (t : Fin cfg0.N) : S8x1024.Idx → EReal := re2 fun q k => (∑ j, S (brow t (grp j q)) k) * (1 / 2048)

/-- The scale's gradient after the last point. -/
theorem out6 (t : Fin cfg0.N) (ht : t.val + 1 = cfg0.N) (i : S1x1024.Idx) : (outsAt0 m c t.val t.isLt).2.1 i = 0 + ∑ p, term6 X A W T g p i :=
  Pipeline.eq_sum_fin_of_reset_step_apply_last (fun n h => (outsAt0 m c n h).2.1) 8 (fun _ => 0) (term6 X A W T g)
    (fun t h i => by
      rw [outsAt0_A m c t h]; frame_out
      rw [iblk0 hin, iblk1 hin, iblk2 hin, iblk3 hin, iblk4 hin, pay10_re, pay1_re]; rfl)
    (fun t h i => by
      rw [outsAt0_B m c t h]; frame_out
      rw [iblk0 hin, iblk1 hin, iblk2 hin, iblk3 hin, iblk4 hin, pay10_re]; rfl)
    (by decide) t ht i

/-- The loss's eight rows after the last point. -/
theorem out7 (t : Fin cfg0.N) (ht : t.val + 1 = cfg0.N) (i : S8x1024.Idx) : (outsAt0 m c t.val t.isLt).2.2 i = 0 + ∑ p, term7 (sq X A W T g) p i :=
  Pipeline.eq_sum_fin_of_reset_step_apply_last (fun n h => (outsAt0 m c n h).2.2) 8 (fun _ => 0) (term7 (sq X A W T g))
    (fun t h i => by
      rw [outsAt0_A m c t h]; frame_out
      rw [iblk0 hin, iblk1 hin, iblk2 hin, iblk3 hin, iblk4 hin, pay5_re, pay2_re]; rfl)
    (fun t h i => by
      rw [outsAt0_B m c t h]; frame_out
      rw [iblk0 hin, iblk1 hin, iblk2 hin, iblk3 hin, iblk4 hin, pay5_re]; rfl)
    (by decide) t ht i

theorem arr5 : (dats m 0 c).arrAt 5 cfg0.N = re2 fun r => dz (X r) (A r) W (T r) g := by
  have e : ∀ t : Fin cfg0.N, win0_5.index t = ![t.val, 0] := (by decide +kernel : ∀ t : Fin grid0.N, _)
  refine (dats m 0 c).arrAt_eq_of_covers 5 _ (by decide +kernel) fun t _ y => ?_
  blk_simp
  rw [after0_5, out5 hin]
  refine congrArg₂ (fun p q => ((dz (X p) (A p) W (T p) g q : ℝ) : EReal)) (Fin.ext ?_) (Fin.ext ?_) <;> dsimp only [ax0, ax1, brow] <;> blk_simp [e] <;> rfl

theorem arr6 : (dats m 0 c).arrAt 6 cfg0.N = row fun k => ∑ r, dg (X r) (A r) W (T r) g k := by
  refine (dats m 0 c).arrAt_eq_of_after_last 6 ⟨7, by decide⟩ (by decide +kernel) _ fun j => ?_
  blk_simp
  refine (congrFun (after0_6 m c ⟨7, by decide⟩) _).trans ((out6 hin ⟨7, by decide⟩ rfl _).trans ?_)
  refine (zero_add_sum EReal.coe_zero.symm fun p => rfl).trans (congrArg Real.toEReal ?_)
  exact Fin.sum_mul_add_fin 8 512 fun r => dg (X r) (A r) W (T r) g (ax1 j)

theorem arr7 : (dats m 0 c).arrAt 7 cfg0.N = re2 fun q k => ∑ t : Fin cfg0.N, (∑ j, sq X A W T g (brow t (grp j q)) k) * (1 / 2048) := by
  refine (dats m 0 c).arrAt_eq_of_after_last 7 ⟨7, by decide⟩ (by decide +kernel) _ fun j => ?_
  blk_simp
  exact (congrFun (after0_7 m c ⟨7, by decide⟩) _).trans ((out7 hin ⟨7, by decide⟩ rfl _).trans (zero_add_sum EReal.coe_zero.symm fun p => rfl))

omit hin in
/-- A row by its block, its group of eight and its place there. -/
theorem sum_groups (f : Fin 4096 → ℝ) : ∑ q, ∑ t : Fin cfg0.N, ∑ j, f (brow t (grp j q)) = ∑ r, f r := by
  rw [Finset.sum_comm]
  refine Eq.trans (Finset.sum_congr rfl fun t _ => ?_) (Fin.sum_mul_add_fin 8 512 f)
  rw [Finset.sum_comm]
  exact Fin.sum_mul_add_fin 64 8 fun r => f (brow t r)

omit hin in
/-- The shares put together: half the mean square of every row. -/
theorem sum_shares (S : Fin 4096 → Fin 1024 → ℝ) :
    ∑ q, ∑ k, ∑ t : Fin cfg0.N, (∑ j, S (brow t (grp j q)) k) * (1 / 2048) = 1 / 2 * ∑ r, (∑ k, S r k) / 1024 := by
  simp only [← Finset.sum_mul]
  rw [Finset.sum_comm, Finset.sum_congr rfl fun k _ => sum_groups fun r => S r k, Finset.sum_comm, ← Finset.sum_div]
  ring

/-- The host sums the loss's rows. -/
theorem tail3 : Pipeline.afterTail₀ cfgs (dats m) 0 (V0 m) [hostOps1] c main_v3 = re fun _ => 1 / 2 * ∑ r, (∑ k, sq X A W T g r k) / 1024 := by
  have e : Pipeline.withArrays (cfgs 0).spec c (V0 m c) (fun w => (dats m 0 c).arrAt w (cfgs 0).N) (Proc.devRef .tc main_v2_2) = _ :=
    (Pipeline.withArrays_arr spec0 winFacts0.arr_inj c (V0 m c) (fun w => (dats m 0 c).arrAt w (cfgs 0).N) 7).trans (arr7 hin)
  unfold Pipeline.afterTail₀ hostOps1
  simp only [List.flatten_cons, List.flatten_nil, List.cons_append, List.nil_append, List.append_nil]
  after_results
  rw [e]
  exact (hostTotal2 _ _ _).trans (re_congr fun _ => sum_shares _)

end Cert.Loss.Kernel

end
-- ==== Proof.LossClaim.lean ====
/-
  The final norm and loss call: the kernel's gradients and its loss are the reference's, on finite arguments.
-/
module

public import proofs.«01_k».proof.Defs
public import proofs.«01_k».proof.Proof.LossRun
public import proofs.«01_k».proof.Proof.HostReals
public import proofs.«01_k».proof.Proof.Gen.Kernel7
public import proofs.«01_k».proof.Proof.Gen.Pre_norm_loss_finite
public import Idealize.ShloMosaic.Lib.Tactic

@[expose] public section

noncomputable section

namespace Cert.Loss

open Idealize.ShloMosaic hiding ix1 ix2 ix3 eq_ix2 eq_ix3
open Idealize.ShloMosaic.ValueIdx
open Idealize.SL.Sem Idealize.ShloMosaic.Tactic Cert.Reals

section Kernel

open Cert.Kernel7Ideal Cert.Kernel7Ideal.Gen

variable (m : (ℓ : Loc nD τ sig) → Buf (Elt Ideal) ℓ)

/-- The arguments of every device are reals. -/
structure Args (X : Dev nD → Fin 4096 → Fin 1024 → ℝ) (A : Dev nD → Fin 4096 → Fin 2816 → ℝ) (W : Dev nD → Fin 2816 → Fin 1024 → ℝ)
    (T : Dev nD → Fin 4096 → Fin 1024 → ℝ) (g : Dev nD → Fin 1024 → ℝ) : Prop where
  a0 (c : Dev nD) : m ((c.tc : Thread nD τ).loc main_arg0) = re2 (X c)
  a1 (c : Dev nD) : m ((c.tc : Thread nD τ).loc main_arg1) = re2 (A c)
  a2 (c : Dev nD) : m ((c.tc : Thread nD τ).loc main_arg2) = re2 (W c)
  a3 (c : Dev nD) : m ((c.tc : Thread nD τ).loc main_arg3) = re2 (T c)
  a4 (c : Dev nD) : m ((c.tc : Thread nD τ).loc main_arg4) = row (g c)

theorem exists_args (h : Pre_Kernel7Ideal_norm_loss_finite m) : ∃ X A W T g, Args m X A W T g := by
  choose X h0 using fun c : Dev nD => exists_re2 (m ((c.tc : Thread nD τ).loc main_arg0)) _ (h c).1
  choose A h1 using fun c : Dev nD => exists_re2 (m ((c.tc : Thread nD τ).loc main_arg1)) _ (h c).2.1
  choose W h2 using fun c : Dev nD => exists_re2 (m ((c.tc : Thread nD τ).loc main_arg2)) _ (h c).2.2.1
  choose T h3 using fun c : Dev nD => exists_re2 (m ((c.tc : Thread nD τ).loc main_arg3)) _ (h c).2.2.2.1
  choose g h4 using fun c : Dev nD => exists_row (m ((c.tc : Thread nD τ).loc main_arg4)) _ (h c).2.2.2.2
  exact ⟨X, A, W, T, g, ⟨h0, h1, h2, h3, h4⟩⟩

end Kernel

/-- The reference leaves its arguments alone, and declares no semaphore. -/
theorem reference_frame : Cert.quiescent_Reference7Ideal := fun m ρ _ =>
  (θ_run Cert.Reference7Ideal.defs _ _).mono
    (fun r h => ⟨fun c => (h c).2.2.2, sem_eq_zero_of_no_sems (by decide) r.2⟩) (Reference7Ideal.Value.run (F := Ideal) m ρ)

/-- The kernel's frame at the machine's floats: the printed form differs only in its name. -/
theorem frame_kernel : Cert.quiescent_Kernel7 := fun m ρ _ => Eq.mp (by sl_kernel_rfl) (Kernel7Ideal.Gen.frame (F := Bits) m ρ)

theorem algebraic : Cert.algebraic_Kernel7Ideal_Reference7Ideal_pre_norm_loss_finite := by
  intro m ρ m' ρ' hpre hagree
  obtain ⟨X, A, W, T, g, h⟩ := exists_args m hpre
  refine ⟨fun c => re2 fun r => dz (X c r) (A c r) (W c) (T c r) (g c), fun c => row fun k => ∑ r, dg (X c r) (A c r) (W c) (T c r) (g c) k,
    fun c => re fun _ => 1 / 2 * ∑ r, (∑ k, Kernel.sq (X c) (A c) (W c) (T c) (g c) r k) / 1024, ?_, ?_⟩
  · refine θ_run_mono (θ_run_and (Kernel7Ideal.Gen.run_main m ρ) (Kernel7Ideal.Gen.unchanged m ρ)) ?_
    rintro r ⟨hr, hu⟩ c
    have hin := Kernel.inputs (h.a0 c) (h.a1 c) (h.a2 c) (h.a3 c) (h.a4 c)
    exact ⟨(hr.out_eq c 5).trans (Kernel.arr5 hin), (hr.out_eq c 6).trans (Kernel.arr6 hin), (hr.rest_eq c _ (by decide)).trans (Kernel.tail3 hin), hu c⟩
  · refine θ_run_mono (Reference7Ideal.Value.run (F := Ideal) m' ρ') ?_
    intro r hr c
    obtain ⟨h0, h1, h2, hu⟩ := hr c
    obtain ⟨e0, e1, e2, e3, e4⟩ := hagree c
    rw [h.a0 c] at e0
    rw [h.a1 c] at e1
    rw [h.a2 c] at e2
    rw [h.a3 c] at e3
    rw [h.a4 c] at e4
    refine ⟨h0.trans ?_, h1.trans ?_, h2.trans ?_, hu⟩
    · rw [Reference7Ideal.Read.val_main_v52_eq, e0, e1, e2, e3, e4]
      exact Reference.v52_re _ _ _ _ _
    · rw [Reference7Ideal.Read.val_main_v36_eq, e0, e1, e2, e3, e4]
      exact Reference.v36_re _ _ _ _ _
    · rw [Reference7Ideal.Read.val_main_v27_eq, e0, e1, e2, e3, e4]
      exact Reference.v27_re _ _ _ _ _

end Cert.Loss

end
-- ==== Proof.LoadsStores.lean ====
/-
  Programs that only load from and store to memrefs their thread holds whole.  Such a program runs from any contents of
  those memrefs and leaves them at some contents: stated once for a load, a store, a sequence and a conditional, so that
  a long program is met by following its text.
-/
module

public import Idealize.ShloMosaic.Lib.Pipeline.Frame
public import Idealize.ShloMosaic.Lib.Writes

@[expose] public section

noncomputable section

namespace Cert.LoadsStores

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels} {defs : Defs nD τ sig Val Λ}

local notation "𝕄" => MT nD τ sig Unit Val ℕ U ℕ

variable (c : Dev nD) (R : sProp (MT nD τ sig Unit Val ℕ U ℕ))

/-- What is held holds a memref's elements at some contents, and is held again with them at any. -/
def Holds {sp : Space} {s : Shape} {e : EltTy} (m : Memref sig .tc sp s e) : Prop :=
  R ⊢ iprop((∃ f, m.view.loc (c : Thread nD τ) ↦[m.view.set]{fullShare} f)
    ∗ ((∃ f, m.view.loc (c : Thread nD τ) ↦[m.view.set]{fullShare} f) -∗ R))

/-- A program runs from what is held, and leaves it held. -/
def Safe (defs : Defs nD τ sig Val Λ) {α : Type} (p : Prog (TpuEff nD τ sig Val Λ .tc) α) : Prop :=
  R ⊢ wp frame (wpE defs Variants.none (c : Thread nD τ) none) Set.univ p (fun _ => R)

variable {c R}

section Held

variable {A B : sProp (MT nD τ sig Unit Val ℕ U ℕ)}

theorem Holds.left {sp : Space} {s : Shape} {e : EltTy} {m : Memref sig .tc sp s e} (h : Holds c A m) : Holds c iprop(A ∗ B) m := by
  unfold Holds at h ⊢
  iintro ⟨HA, HB⟩
  ihave H := h $$ HA
  icases H with ⟨H, Hk⟩
  isplitl [H]; · iexact H
  iintro H
  isplitl [H Hk]
  · iapply Hk; iexact H
  iexact HB

theorem Holds.right {sp : Space} {s : Shape} {e : EltTy} {m : Memref sig .tc sp s e} (h : Holds c B m) : Holds c iprop(A ∗ B) m := by
  unfold Holds at h ⊢
  iintro ⟨HA, HB⟩
  ihave H := h $$ HB
  icases H with ⟨H, Hk⟩
  isplitl [H]; · iexact H
  iintro H
  isplitl [HA]; · iexact HA
  iapply Hk; iexact H

theorem Holds.staged {sp : Space} {s : Shape} {e : EltTy} {m : Memref sig .tc sp s e} :
    Holds (Val := Val) (U := U) c iprop(∃ X, owns (c : Thread nD τ) m fullShare X) m := by
  unfold Holds owns
  iintro ⟨%X, %f, -, H⟩
  isplitl [H]; · iexists f; iexact H
  iintro ⟨%f, H⟩
  iexists _, f
  isplitr
  swap; · iexact H
  ipureintro; rfl

theorem Holds.scratch {b : Ref sig .tc} :
    Holds (Val := Val) (U := U) c iprop(∃ f : Buf Val ((c : Thread nD τ).loc b), ((c : Thread nD τ).loc b) ↦{fullShare} f) (Memref.whole b) := by
  unfold Holds
  simp only [Memref.view_whole, View.set_whole]
  iintro H
  isplitl [H]; · iexact H
  iintro H; iexact H

end Held

theorem Safe.ret {α : Type} (a : α) : Safe c R defs (pure a : Prog (TpuEff nD τ sig Val Λ .tc) α) := by
  unfold Safe
  exact le_wp_ret _ _ _ a (fun _ => R)

theorem Safe.seq {α β : Type} {p : Prog (TpuEff nD τ sig Val Λ .tc) α} {k : α → Prog (TpuEff nD τ sig Val Λ .tc) β}
    (hp : Safe c R defs p) (hk : ∀ a, Safe c R defs (k a)) : Safe c R defs (p >>= k) := by
  unfold Safe
  rw [wp_bind]
  exact hp.trans (wp_mono _ _ _ hk)

theorem Safe.load {cs : CoreSpace} {s : Shape} {e : EltTy} {m : Memref sig .tc cs s e} {r : LoadRect s} {hl : m.view.LoadsAt r}
    (h : Holds c R m) : Safe c R defs (Prog.lift (.load m r hl)) := by
  unfold Safe
  refine BIBase.Entails.trans h ?_
  iintro ⟨⟨%f, H⟩, Hk⟩
  iapply (wp_load Variants.none (c : Thread nD τ) none Set.univ (m := m) (r := r) (S := m.view.set) (View.setOn_subset_set _ _)) $$ H
  iintro H
  iapply le_wp_ret
  iapply Hk
  iexists _; iexact H

theorem Safe.store {cs : CoreSpace} {s : Shape} {e : EltTy} {m : Memref sig .tc cs s e} {r : Rect s} {w : r.shape.Idx → Val e}
    {Mk : Finset r.shape.Idx} {hx : (m.access r).Stores Mk} {hm : Mk = Finset.univ ∨ ∀ a, r.stride a = 1}
    (h : Holds c R m) : Safe c R defs (Prog.lift (.store m r w Mk hx hm)) := by
  unfold Safe
  refine BIBase.Entails.trans h ?_
  iintro ⟨⟨%f, H⟩, Hk⟩
  iapply (wp_store Variants.none (c : Thread nD τ) none Set.univ (m := m) (r := r) (S := m.view.set) (Memref.setOn_access_subset m r Mk)) $$ H
  iintro H
  iapply le_wp_ret
  iapply Hk
  iexists _; iexact H

theorem Safe.dite {α : Type} {P : Prop} [Decidable P] {p : P → Prog (TpuEff nD τ sig Val Λ .tc) α} {q : ¬P → Prog (TpuEff nD τ sig Val Λ .tc) α}
    (hp : ∀ h, Safe c R defs (p h)) (hq : ∀ h, Safe c R defs (q h)) : Safe c R defs (if h : P then p h else q h) := by
  by_cases h : P
  · rw [dif_pos h]; exact hp h
  · rw [dif_neg h]; exact hq h

end Cert.LoadsStores

end
-- ==== Proof.RecurBody.lean ====
/-
  The body of the recurrence's backward kernel only loads from and stores to the blocks and scratch arrays it is handed:
  it runs from any contents of them.  Both passes over a segment are the same steps written out, cut in the printed
  parts; each theorem follows the text of one stretch of parts.
-/
module

public import proofs.«01_k».proof.Proof.LoadsStores
public import proofs.«01_k».proof.Proof.Gen.Kernel8Ideal.Skeleton

@[expose] public section

set_option maxRecDepth 65536
set_option maxHeartbeats 8000000

noncomputable section

namespace Cert.Recur

open Idealize.ShloMosaic Idealize.ShloMosaic.TcCoe
open Idealize.SL Idealize.SL.RA Idealize.SL.BI Idealize.SL.Sem
open Cert.Kernel8Ideal Cert.Kernel8Ideal.Gen Cert.LoadsStores

variable {F : FTy → Type} [FloatOps F] {U : Type} [URA U] {c : Dev nD} {R : sProp (MT nD τ sig Unit (Elt F) ℕ U ℕ)}
variable {i : grid0.Coords}
  {arg2 : Memref sig .tc .vmem S1024x128 .bf16} {harg2 : arg2.IsWhole}
  {arg3 : Memref sig .tc .vmem S1024x128 .f32} {harg3 : arg3.IsWhole}
  {arg4 : Memref sig .tc .vmem S1024x128 .f32} {harg4 : arg4.IsWhole}
  {arg5 : Memref sig .tc .vmem S1024x512 .bf16} {harg5 : arg5.IsWhole}
  {arg6 : Memref sig .tc .vmem S1024x512 .bf16} {harg6 : arg6.IsWhole}
  {arg7 : Memref sig .tc .vmem S16x512 .bf16} {harg7 : arg7.IsWhole}
  {arg8 : Memref sig .tc .vmem S16x512 .bf16} {harg8 : arg8.IsWhole}
  {arg9 : Memref sig .tc .vmem S16x512 .bf16} {harg9 : arg9.IsWhole}
  {arg10 : Memref sig .tc .vmem S16x512 .bf16} {harg10 : arg10.IsWhole}
  {arg11 : Memref sig .tc .vmem S1x512 .f32} {harg11 : arg11.IsWhole}
  {arg12 : Memref sig .tc .vmem S1x512 .f32} {harg12 : arg12.IsWhole}
  {arg13 : Memref sig .tc .vmem S128x512 .bf16} {harg13 : arg13.IsWhole}
  {arg14 : Memref sig .tc .vmem S128x512 .bf16} {harg14 : arg14.IsWhole}
  {arg15 : Memref sig .tc .vmem S128x512 .bf16} {harg15 : arg15.IsWhole}
  {arg16 : Memref sig .tc .vmem S128x512 .bf16} {harg16 : arg16.IsWhole}
  {arg17 : Memref sig .tc .vmem S1024x128 .f32} {harg17 : arg17.IsWhole}
  {arg18 : Memref sig .tc .vmem S8x512 .f32} {harg18 : arg18.IsWhole}
  {arg19 : Memref sig .tc .vmem S8x512 .f32} {harg19 : arg19.IsWhole}
  {arg20 : Memref sig .tc .vmem S128x512 .f32} {harg20 : arg20.IsWhole}
  {arg21 : Memref sig .tc .vmem S128x512 .f32} {harg21 : arg21.IsWhole}
  {arg22 : Memref sig .tc .vmem S128x512 .f32} {harg22 : arg22.IsWhole}
  {arg23 : Memref sig .tc .vmem S128x512 .f32} {harg23 : arg23.IsWhole}
  {arg24 : Memref sig .tc .vmem S8x512 .f32} {harg24 : arg24.IsWhole}
  {arg25 : Memref sig .tc .vmem S8x512 .f32} {harg25 : arg25.IsWhole}
  {arg26 : Memref sig .tc .vmem S512x8x512 .f32} {harg26 : arg26.IsWhole}
  {arg27 : Memref sig .tc .vmem S512x8x512 .f32} {harg27 : arg27.IsWhole}
  {arg28 : Memref sig .tc .vmem S128x8x512 .f32} {harg28 : arg28.IsWhole}
  {arg29 : Memref sig .tc .vmem S128x8x512 .f32} {harg29 : arg29.IsWhole}
variable
  (h2 : Holds c R arg2) (h3 : Holds c R arg3) (h4 : Holds c R arg4) (h5 : Holds c R arg5)
  (h6 : Holds c R arg6) (h7 : Holds c R arg7) (h8 : Holds c R arg8) (h9 : Holds c R arg9)
  (h10 : Holds c R arg10) (h11 : Holds c R arg11) (h12 : Holds c R arg12) (h13 : Holds c R arg13)
  (h14 : Holds c R arg14) (h15 : Holds c R arg15) (h16 : Holds c R arg16) (h17 : Holds c R arg17)
  (h18 : Holds c R arg18) (h19 : Holds c R arg19) (h20 : Holds c R arg20) (h21 : Holds c R arg21)
  (h22 : Holds c R arg22) (h23 : Holds c R arg23) (h24 : Holds c R arg24) (h25 : Holds c R arg25)
  (h26 : Holds c R arg26) (h27 : Holds c R arg27) (h28 : Holds c R arg28) (h29 : Holds c R arg29)
include h2 h3 h4 h5 h6 h7 h8 h9 h10 h11 h12 h13 h14 h15 h16 h17 h18 h19 h20 h21 h22 h23 h24 h25 h26 h27 h28 h29

/-- The second pass, its first third. -/
theorem second_first (a : BitVec 32) (v w) (h) :
    Safe c R (defs₀ (F := F)) (k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 a v w h) := by
  rw [k0_part189_eq_skeleton]
  unfold k0_part189_skel
  simp only [k0_part57_eq_skeleton, k0_part58_eq_skeleton, k0_part59_eq_skeleton, k0_part60_eq_skeleton, k0_part61_eq_skeleton,
    k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton,
    k0_part72_eq_skeleton, k0_part73_eq_skeleton, k0_part74_eq_skeleton, k0_part75_eq_skeleton, k0_part76_eq_skeleton,
    k0_part77_eq_skeleton, k0_part78_eq_skeleton, k0_part79_eq_skeleton, k0_part80_eq_skeleton, k0_part81_eq_skeleton,
    k0_part82_eq_skeleton, k0_part83_eq_skeleton, k0_part84_eq_skeleton, k0_part85_eq_skeleton, k0_part86_eq_skeleton,
    k0_part87_eq_skeleton, k0_part88_eq_skeleton, k0_part89_eq_skeleton, k0_part90_eq_skeleton, k0_part91_eq_skeleton,
    k0_part92_eq_skeleton, k0_part93_eq_skeleton, k0_part94_eq_skeleton, k0_part95_eq_skeleton, k0_part96_eq_skeleton,
    k0_part97_eq_skeleton, k0_part98_eq_skeleton, k0_part99_eq_skeleton, k0_part100_eq_skeleton, k0_part101_eq_skeleton]
  repeat' first
    | with_reducible refine Safe.seq ?_ fun _ => ?_
    | with_reducible refine Safe.load ?_
    | with_reducible refine Safe.store ?_
    | with_reducible exact Safe.ret _
    | refine Safe.seq ?_ fun _ => ?_
    | exact Safe.ret _
  all_goals assumption

/-- The second pass, its middle third. -/
theorem second_middle (v w) (h) (a) (x y) (b) (z u) :
    Safe c R (defs₀ (F := F)) (k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v w h a x y b z u) := by
  rw [k0_part190_eq_skeleton]
  unfold k0_part190_skel
  simp only [k0_part101_eq_skeleton, k0_part102_eq_skeleton, k0_part103_eq_skeleton, k0_part104_eq_skeleton, k0_part105_eq_skeleton,
    k0_part106_eq_skeleton, k0_part107_eq_skeleton, k0_part108_eq_skeleton, k0_part109_eq_skeleton, k0_part110_eq_skeleton,
    k0_part111_eq_skeleton, k0_part112_eq_skeleton, k0_part113_eq_skeleton, k0_part114_eq_skeleton, k0_part115_eq_skeleton,
    k0_part116_eq_skeleton, k0_part117_eq_skeleton, k0_part118_eq_skeleton, k0_part119_eq_skeleton, k0_part120_eq_skeleton,
    k0_part121_eq_skeleton, k0_part122_eq_skeleton, k0_part123_eq_skeleton, k0_part124_eq_skeleton, k0_part125_eq_skeleton,
    k0_part126_eq_skeleton, k0_part127_eq_skeleton, k0_part128_eq_skeleton, k0_part129_eq_skeleton, k0_part130_eq_skeleton,
    k0_part131_eq_skeleton, k0_part132_eq_skeleton, k0_part133_eq_skeleton, k0_part134_eq_skeleton, k0_part135_eq_skeleton,
    k0_part136_eq_skeleton, k0_part137_eq_skeleton, k0_part138_eq_skeleton, k0_part139_eq_skeleton, k0_part140_eq_skeleton,
    k0_part141_eq_skeleton, k0_part142_eq_skeleton, k0_part143_eq_skeleton, k0_part144_eq_skeleton, k0_part145_eq_skeleton]
  repeat' first
    | with_reducible refine Safe.seq ?_ fun _ => ?_
    | with_reducible refine Safe.load ?_
    | with_reducible refine Safe.store ?_
    | with_reducible exact Safe.ret _
    | refine Safe.seq ?_ fun _ => ?_
    | exact Safe.ret _
  all_goals assumption

/-- The second pass, its last third. -/
theorem second_last (v w) (h) (a b) (x y z) (d) (u r s) :
    Safe c R (defs₀ (F := F)) (k0_part191 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v w h a b x y z d u r s) := by
  rw [k0_part191_eq_skeleton]
  unfold k0_part191_skel
  simp only [k0_part145_eq_skeleton, k0_part146_eq_skeleton, k0_part147_eq_skeleton, k0_part148_eq_skeleton, k0_part149_eq_skeleton,
    k0_part150_eq_skeleton, k0_part151_eq_skeleton, k0_part152_eq_skeleton, k0_part153_eq_skeleton, k0_part154_eq_skeleton,
    k0_part155_eq_skeleton, k0_part156_eq_skeleton, k0_part157_eq_skeleton, k0_part158_eq_skeleton, k0_part159_eq_skeleton,
    k0_part160_eq_skeleton, k0_part161_eq_skeleton, k0_part162_eq_skeleton, k0_part163_eq_skeleton, k0_part164_eq_skeleton,
    k0_part165_eq_skeleton, k0_part166_eq_skeleton, k0_part167_eq_skeleton, k0_part168_eq_skeleton, k0_part169_eq_skeleton,
    k0_part170_eq_skeleton, k0_part171_eq_skeleton, k0_part172_eq_skeleton, k0_part173_eq_skeleton, k0_part174_eq_skeleton,
    k0_part175_eq_skeleton, k0_part176_eq_skeleton, k0_part177_eq_skeleton, k0_part178_eq_skeleton, k0_part179_eq_skeleton,
    k0_part180_eq_skeleton, k0_part181_eq_skeleton, k0_part182_eq_skeleton, k0_part183_eq_skeleton, k0_part184_eq_skeleton,
    k0_part185_eq_skeleton, k0_part186_eq_skeleton, k0_part187_eq_skeleton, k0_part188_eq_skeleton]
  repeat' first
    | with_reducible refine Safe.seq ?_ fun _ => ?_
    | with_reducible refine Safe.load ?_
    | with_reducible refine Safe.store ?_
    | with_reducible exact Safe.ret _
    | refine Safe.seq ?_ fun _ => ?_
    | exact Safe.ret _
  all_goals assumption

/-- The whole body. -/
theorem body : Safe c R (defs₀ (F := F)) (cc0_s5_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) := by
  rw [cc0_s5_backward_eq_skeleton]
  unfold cc0_s5_backward_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton,
    k0_part56_eq_skeleton]
  repeat' first
    | with_reducible refine Safe.seq ?_ fun _ => ?_
    | with_reducible refine Safe.load ?_
    | with_reducible refine Safe.store ?_
    | with_reducible exact Safe.ret _
    | with_reducible refine Safe.dite (fun _ => ?_) (fun _ => ?_)
    | with_reducible exact second_first h2 h3 h4 h5 h6 h7 h8 h9 h10 h11 h12 h13 h14 h15 h16 h17 h18 h19 h20 h21 h22 h23 h24 h25 h26 h27 h28 h29 _ _ _ _
    | with_reducible exact second_middle h2 h3 h4 h5 h6 h7 h8 h9 h10 h11 h12 h13 h14 h15 h16 h17 h18 h19 h20 h21 h22 h23 h24 h25 h26 h27 h28 h29 _ _ _ _ _ _ _ _ _
    | with_reducible exact second_last h2 h3 h4 h5 h6 h7 h8 h9 h10 h11 h12 h13 h14 h15 h16 h17 h18 h19 h20 h21 h22 h23 h24 h25 h26 h27 h28 h29 _ _ _ _ _ _ _ _ _ _ _ _
    | refine Safe.seq ?_ fun _ => ?_
    | exact Safe.ret _
  all_goals assumption

end Cert.Recur

end
-- ==== Proof.RecurFrame.lean ====
/-
  The frame of the recurrence's backward kernel.  Nothing is said of what its results hold, so every block is handed to
  the body, and taken back, at some contents, and so is every scratch array between two points.
-/
module

public import proofs.«01_k».proof.Proof.RecurBody
public import proofs.«01_k».proof.Proof.Gen.Kernel8Ideal.Frame
public import Idealize.ShloMosaic.Lib.Claim

@[expose] public section

set_option maxRecDepth 16384

noncomputable section

namespace Cert.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel8Ideal Cert.Kernel8Ideal.Gen Cert.LoadsStores

variable {F : FTy → Type} [FloatOps F] (m : (ℓ : Loc nD τ sig) → Buf (Elt F) ℓ) (ρ : Dev nD → PrngReg)

/-- Every window forgotten. -/
def forgets : Fin 22 → Bool := fun _ => true

/-- The arrays as the region finds them; nothing named of what the points leave. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- What a point is handed and hands back. -/
def Point (c : Dev nD) (t : Fin cfg0.N) : sProp (MT nD τ sig Unit (Elt F) ℕ (UR sig nD τ) ℕ) :=
  iprop(Pipeline.ΦA spec0 c ∗ (dats m 0 c).owesAt () t.castSucc
    ∗ bigSep Finset.univ fun w : Fin cfg0.W => iprop(∃ X, owns (c : Thread nD τ) ((cfg0.win w).stage (cfg0.slots t w)) fullShare X))

theorem point_body (c : Dev nD) (t : Fin cfg0.N) : Safe c (Point m c t) (defs₀ (F := F)) (bodyAt0 t) := by
  unfold Point Pipeline.ΦA
  rw [bigSep_W0, scopedRest0_eq]
  exact body
    (.right (.right (.left .staged)))
    (.right (.right (.right (.left .staged))))
    (.right (.right (.right (.right (.left .staged)))))
    (.right (.right (.right (.right (.right (.left .staged))))))
    (.right (.right (.right (.right (.right (.right (.left .staged)))))))
    (.right (.right (.right (.right (.right (.right (.right (.left .staged))))))))
    (.right (.right (.right (.right (.right (.right (.right (.right (.left .staged)))))))))
    (.right (.right (.right (.right (.right (.right (.right (.right (.right (.left .staged))))))))))
    (.right (.right (.right (.right (.right (.right (.right (.right (.right (.right (.left .staged)))))))))))
    (.right (.right (.right (.right (.right (.right (.right (.right (.right (.right (.right (.left .staged))))))))))))
    (.right (.right (.right (.right (.right (.right (.right (.right (.right (.right (.right (.right (.left .staged)))))))))))))
    (.right (.right (.right (.right (.right (.right (.right (.right (.right (.right (.right (.right (.right (.left .staged))))))))))))))
    (.right (.right (.right (.right (.right (.right (.right (.right (.right (.right (.right (.right (.right (.right (.left .staged)))))))))))))))
    (.right (.right (.right (.right (.right (.right (.right (.right (.right (.right (.right (.right (.right (.right (.right (.left .staged))))))))))))))))
    (.right (.right (.right (.right (.right (.right (.right (.right (.right (.right (.right (.right (.right (.right (.right (.right (.left .staged)))))))))))))))))
    (.right (.right (.right (.right (.right (.right (.right (.right (.right (.right (.right (.right (.right (.right (.right (.right (.right (.left .staged))))))))))))))))))
    (.right (.right (.right (.right (.right (.right (.right (.right (.right (.right (.right (.right (.right (.right (.right (.right (.right (.right (.left .staged)))))))))))))))))))
    (.right (.right (.right (.right (.right (.right (.right (.right (.right (.right (.right (.right (.right (.right (.right (.right (.right (.right (.right (.left .staged))))))))))))))))))))
    (.right (.right (.right (.right (.right (.right (.right (.right (.right (.right (.right (.right (.right (.right (.right (.right (.right (.right (.right (.right (.left .staged)))))))))))))))))))))
    (.right (.right (.right (.right (.right (.right (.right (.right (.right (.right (.right (.right (.right (.right (.right (.right (.right (.right (.right (.right (.right (.left .staged))))))))))))))))))))))
    (.right (.right (.right (.right (.right (.right (.right (.right (.right (.right (.right (.right (.right (.right (.right (.right (.right (.right (.right (.right (.right (.right (.left .staged)))))))))))))))))))))))
    (.right (.right (.right (.right (.right (.right (.right (.right (.right (.right (.right (.right (.right (.right (.right (.right (.right (.right (.right (.right (.right (.right (.right .staged)))))))))))))))))))))))
    (.left (.left (.left .scratch)))
    (.left (.left (.right (.left .scratch))))
    (.left (.left (.right (.right (.left .scratch)))))
    (.left (.left (.right (.right (.right (.left .scratch))))))
    (.left (.left (.right (.right (.right (.right (.left .scratch)))))))
    (.left (.left (.right (.right (.right (.right (.right .scratch)))))))

theorem obligation (c : Dev nD) : BodyObligation (dats (F := F) m 0 c) (defs₀ (F := F)) Variants.none () Set.univ forgets := fun t => by
  rw [show defs₀ (F := F) .tc cfg0.body (cfg0.bodyArgs t (cfg0.slots t)) = bodyAt0 t by unfold defs₀; rw [Defs.onTc_tc]]
  exact triple_restated (point_body m c t) rfl .rfl fun _ => .rfl

set_option backward.isDefEq.respectTransparency.types false in
/-- Every run ends, its arguments' arrays as the region found them and every counter at zero. -/
theorem run_quiescent : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (obligation m c).loose) (hq := fun _ _ _ => rfl) (howed := fun _ _ => rfl) (V := V m)
    (hmain := hmain m Variants.none) (hA := fun _ _ => rfl) (hΦ := fun _ _ => rfl)

/-- An input window's array ends as the region found it. -/
theorem input {r : PUnit × MemSt nD τ sig (Elt F)}
    (h : Pipeline.RDat.FramePost (cfgs 0) (fun c => (dats m 0 c).toRForget forgets) (V m) r) (c : Dev nD) (w : Fin cfg0.W)
    (hin : (cfg0.win w).isOut = false) : r.2.mem ((cfg0.spec w).arr.view.loc (c.tc : Thread nD τ)) = V m c (Pipeline.arrRef spec0 w) :=
  Pipeline.RDat.FramePost.arr_in h c w hin

/-- The arguments end as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  (θ_run defs _ _).mono (fun _ hr c => by
    have h := hr.1
    exact ⟨(input m h c 0 rfl).trans (V_main_arg0 m c),
      (input m h c 1 rfl).trans (V_main_arg1 m c),
      (input m h c 2 rfl).trans (V_main_arg2 m c),
      (input m h c 7 rfl).trans (V_main_arg3 m c),
      (input m h c 8 rfl).trans (V_main_arg4 m c),
      (input m h c 9 rfl).trans (V_main_arg5 m c),
      ((h c).2 main_arg6 (Pipeline.mem_restRefs_of main_arg6 (by decide) (by decide))).trans (V_main_arg6 m c),
      (input m h c 11 rfl).trans (V_main_arg7 m c),
      (input m h c 12 rfl).trans (V_main_arg8 m c),
      (input m h c 13 rfl).trans (V_main_arg9 m c),
      (input m h c 14 rfl).trans (V_main_arg10 m c)⟩) (run_quiescent m ρ)

/-- The frame, at any values of the floats. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10))
    ∧ r.2.sem = fun _ => 0) :=
  θ_run_and (unchanged m ρ) ((θ_run defs _ _).mono (fun _ h => h.2) (run_quiescent m ρ))

end Cert.Recur

end
-- ==== Proof.RecurClaim.lean ====
/-
  The frame of the recurrence's backward kernel at the machine's floats.
-/
module

public import proofs.«01_k».proof.Defs
public import proofs.«01_k».proof.Proof.RecurFrame
public import proofs.«01_k».proof.Proof.Gen.Kernel8
public import Idealize.ShloMosaic.Lib.Tactic

@[expose] public section

noncomputable section

namespace Cert.Recur

open Idealize.ShloMosaic Idealize.ShloMosaic.Tactic

/-- The printed form differs only in its name. -/
theorem frame_kernel : Cert.quiescent_Kernel8 := fun m ρ _ => Eq.mp (by sl_kernel_rfl) (Cert.Recur.frame (F := Bits) m ρ)

theorem frame_ideal : Cert.quiescent_Kernel8Ideal := fun m ρ _ => Cert.Recur.frame (F := Ideal) m ρ

end Cert.Recur

end
-- ==== Proof.ScanBody.lean ====
/-
  The body of the recurrence's forward kernel only loads from and stores to the blocks and scratch arrays it is handed: it
  runs from any contents of them.  Both passes over a block of rows are the same steps written out, cut in the printed
  parts; each theorem follows the text of one stretch of parts.
-/
module

public import proofs.«01_k».proof.Proof.LoadsStores
public import proofs.«01_k».proof.Proof.Gen.Kernel19Ideal.Skeleton

@[expose] public section

set_option maxRecDepth 65536
set_option maxHeartbeats 8000000

noncomputable section

namespace Cert.Scan

open Idealize.ShloMosaic Idealize.ShloMosaic.TcCoe
open Idealize.SL Idealize.SL.RA Idealize.SL.BI Idealize.SL.Sem
open Cert.Kernel19Ideal Cert.Kernel19Ideal.Gen Cert.LoadsStores

variable {F : FTy → Type} [FloatOps F] {U : Type} [URA U] {c : Dev nD} {R : sProp (MT nD τ sig Unit (Elt F) ℕ U ℕ)}
variable {i : grid0.Coords}
  {arg2 : Memref sig .tc .vmem S1024x128 .f32} {harg2 : arg2.IsWhole}
  {arg3 : Memref sig .tc .vmem S1x512 .f32} {harg3 : arg3.IsWhole}
  {arg4 : Memref sig .tc .vmem S1x512 .f32} {harg4 : arg4.IsWhole}
  {arg5 : Memref sig .tc .vmem S128x512 .bf16} {harg5 : arg5.IsWhole}
  {arg6 : Memref sig .tc .vmem S128x512 .bf16} {harg6 : arg6.IsWhole}
  {arg7 : Memref sig .tc .vmem S128x512 .bf16} {harg7 : arg7.IsWhole}
  {arg8 : Memref sig .tc .vmem S128x512 .bf16} {harg8 : arg8.IsWhole}
  {arg9 : Memref sig .tc .vmem S1024x512 .bf16} {harg9 : arg9.IsWhole}
  {arg10 : Memref sig .tc .vmem S1024x512 .bf16} {harg10 : arg10.IsWhole}
  {arg11 : Memref sig .tc .vmem S1024x128 .f32} {harg11 : arg11.IsWhole}
  {arg12 : Memref sig .tc .vmem S8x512 .f32} {harg12 : arg12.IsWhole}
  {arg13 : Memref sig .tc .vmem S8x512 .f32} {harg13 : arg13.IsWhole}
  {arg14 : Memref sig .tc .vmem S512x8x512 .f32} {harg14 : arg14.IsWhole}
  {arg15 : Memref sig .tc .vmem S512x8x512 .f32} {harg15 : arg15.IsWhole}
variable
  (h2 : Holds c R arg2) (h3 : Holds c R arg3) (h4 : Holds c R arg4) (h5 : Holds c R arg5) (h6 : Holds c R arg6)
  (h7 : Holds c R arg7) (h8 : Holds c R arg8) (h9 : Holds c R arg9) (h10 : Holds c R arg10) (h11 : Holds c R arg11)
  (h12 : Holds c R arg12) (h13 : Holds c R arg13) (h14 : Holds c R arg14) (h15 : Holds c R arg15)
include h2 h3 h4 h5 h6 h7 h8 h9 h10 h11 h12 h13 h14 h15

/-- The first pass. -/
theorem first (a : BitVec 32) (v w) (h) :
    Safe c R (defs₀ (F := F)) (k0_part46 i arg2 harg2 arg3 harg3 arg4 harg4 arg5 harg5 arg6 harg6 arg7 harg7 arg8 harg8 arg9 harg9 arg10 harg10 arg11 harg11 arg12 harg12 arg13 harg13 arg14 harg14 arg15 harg15 a v w h) := by
  rw [k0_part46_eq_skeleton]
  unfold k0_part46_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton]
  repeat' first
    | with_reducible refine Safe.seq ?_ fun _ => ?_
    | with_reducible refine Safe.load ?_
    | with_reducible refine Safe.store ?_
    | with_reducible exact Safe.ret _
    | refine Safe.seq ?_ fun _ => ?_
    | exact Safe.ret _
  all_goals assumption

/-- The second pass, its first half. -/
theorem second_first (a : BitVec 32) (v w) (h) :
    Safe c R (defs₀ (F := F)) (k0_part130 i arg2 harg2 arg3 harg3 arg4 harg4 arg5 harg5 arg6 harg6 arg7 harg7 arg8 harg8 arg9 harg9 arg10 harg10 arg11 harg11 arg12 harg12 arg13 harg13 arg14 harg14 arg15 harg15 a v w h) := by
  rw [k0_part130_eq_skeleton]
  unfold k0_part130_skel
  simp only [k0_part51_eq_skeleton, k0_part52_eq_skeleton, k0_part53_eq_skeleton, k0_part54_eq_skeleton, k0_part55_eq_skeleton,
    k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton,
    k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton,
    k0_part76_eq_skeleton, k0_part77_eq_skeleton, k0_part78_eq_skeleton, k0_part79_eq_skeleton, k0_part80_eq_skeleton,
    k0_part81_eq_skeleton, k0_part82_eq_skeleton, k0_part83_eq_skeleton, k0_part84_eq_skeleton, k0_part85_eq_skeleton,
    k0_part86_eq_skeleton, k0_part87_eq_skeleton, k0_part88_eq_skeleton, k0_part89_eq_skeleton, k0_part90_eq_skeleton,
    k0_part91_eq_skeleton, k0_part92_eq_skeleton, k0_part93_eq_skeleton, k0_part94_eq_skeleton, k0_part95_eq_skeleton,
    k0_part96_eq_skeleton, k0_part97_eq_skeleton, k0_part98_eq_skeleton, k0_part99_eq_skeleton, k0_part100_eq_skeleton,
    k0_part101_eq_skeleton, k0_part102_eq_skeleton, k0_part103_eq_skeleton, k0_part104_eq_skeleton, k0_part105_eq_skeleton,
    k0_part106_eq_skeleton, k0_part107_eq_skeleton, k0_part108_eq_skeleton, k0_part109_eq_skeleton, k0_part110_eq_skeleton]
  repeat' first
    | with_reducible refine Safe.seq ?_ fun _ => ?_
    | with_reducible refine Safe.load ?_
    | with_reducible refine Safe.store ?_
    | with_reducible exact Safe.ret _
    | refine Safe.seq ?_ fun _ => ?_
    | exact Safe.ret _
  all_goals assumption

/-- The second pass, its second half. -/
theorem second_last (v w) (h) (a : BitVec 32) (x y) (b : BitVec 32) :
    Safe c R (defs₀ (F := F)) (k0_part131 i arg2 harg2 arg3 harg3 arg4 harg4 arg5 harg5 arg6 harg6 arg7 harg7 arg8 harg8 arg9 harg9 arg10 harg10 arg11 harg11 arg12 harg12 arg13 harg13 arg14 harg14 arg15 harg15 v w h a x y b) := by
  rw [k0_part131_eq_skeleton]
  unfold k0_part131_skel
  simp only [k0_part111_eq_skeleton, k0_part112_eq_skeleton, k0_part113_eq_skeleton, k0_part114_eq_skeleton, k0_part115_eq_skeleton,
    k0_part116_eq_skeleton, k0_part117_eq_skeleton, k0_part118_eq_skeleton, k0_part119_eq_skeleton, k0_part120_eq_skeleton,
    k0_part121_eq_skeleton, k0_part122_eq_skeleton, k0_part123_eq_skeleton, k0_part124_eq_skeleton, k0_part125_eq_skeleton,
    k0_part126_eq_skeleton, k0_part127_eq_skeleton, k0_part128_eq_skeleton, k0_part129_eq_skeleton]
  repeat' first
    | with_reducible refine Safe.seq ?_ fun _ => ?_
    | with_reducible refine Safe.load ?_
    | with_reducible refine Safe.store ?_
    | with_reducible exact Safe.ret _
    | refine Safe.seq ?_ fun _ => ?_
    | exact Safe.ret _
  all_goals assumption

/-- The whole body. -/
theorem body : Safe c R (defs₀ (F := F)) (cc0_s5_forward i arg2 harg2 arg3 harg3 arg4 harg4 arg5 harg5 arg6 harg6 arg7 harg7 arg8 harg8 arg9 harg9 arg10 harg10 arg11 harg11 arg12 harg12 arg13 harg13 arg14 harg14 arg15 harg15) := by
  rw [cc0_s5_forward_eq_skeleton]
  unfold cc0_s5_forward_skel
  simp only [k0_part47_eq_skeleton, k0_part48_eq_skeleton, k0_part49_eq_skeleton, k0_part50_eq_skeleton]
  repeat' first
    | with_reducible refine Safe.seq ?_ fun _ => ?_
    | with_reducible refine Safe.load ?_
    | with_reducible refine Safe.store ?_
    | with_reducible exact Safe.ret _
    | with_reducible refine Safe.dite (fun _ => ?_) (fun _ => ?_)
    | with_reducible exact first h2 h3 h4 h5 h6 h7 h8 h9 h10 h11 h12 h13 h14 h15 _ _ _ _
    | with_reducible exact second_first h2 h3 h4 h5 h6 h7 h8 h9 h10 h11 h12 h13 h14 h15 _ _ _ _
    | with_reducible exact second_last h2 h3 h4 h5 h6 h7 h8 h9 h10 h11 h12 h13 h14 h15 _ _ _ _ _ _ _
    | refine Safe.seq ?_ fun _ => ?_
    | exact Safe.ret _
  all_goals assumption

end Cert.Scan

end
-- ==== Proof.ScanFrame.lean ====
/-
  The frame of the recurrence's forward kernel.  Nothing is said of what its results hold, so every block is handed to
  the body, and taken back, at some contents, and so is every scratch array between two points.
-/
module

public import proofs.«01_k».proof.Proof.ScanBody
public import proofs.«01_k».proof.Proof.Gen.Kernel19Ideal.Frame
public import Idealize.ShloMosaic.Lib.Claim

@[expose] public section

set_option maxRecDepth 16384

noncomputable section

namespace Cert.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel19Ideal Cert.Kernel19Ideal.Gen Cert.LoadsStores

variable {F : FTy → Type} [FloatOps F] (m : (ℓ : Loc nD τ sig) → Buf (Elt F) ℓ) (ρ : Dev nD → PrngReg)

/-- Every window forgotten. -/
def forgets : Fin 10 → Bool := fun _ => true

/-- The arrays as the region finds them; nothing named of what the points leave. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- What a point is handed and hands back. -/
def Point (c : Dev nD) (t : Fin cfg0.N) : sProp (MT nD τ sig Unit (Elt F) ℕ (UR sig nD τ) ℕ) :=
  iprop(Pipeline.ΦA spec0 c ∗ (dats m 0 c).owesAt () t.castSucc
    ∗ bigSep Finset.univ fun w : Fin cfg0.W => iprop(∃ X, owns (c : Thread nD τ) ((cfg0.win w).stage (cfg0.slots t w)) fullShare X))

theorem point_body (c : Dev nD) (t : Fin cfg0.N) : Safe c (Point m c t) (defs₀ (F := F)) (bodyAt0 t) := by
  unfold Point Pipeline.ΦA
  rw [bigSep_W0, scopedRest0_eq]
  exact body
    (.right (.right (.left .staged)))
    (.right (.right (.right (.left .staged))))
    (.right (.right (.right (.right (.left .staged)))))
    (.right (.right (.right (.right (.right (.left .staged))))))
    (.right (.right (.right (.right (.right (.right (.left .staged)))))))
    (.right (.right (.right (.right (.right (.right (.right (.left .staged))))))))
    (.right (.right (.right (.right (.right (.right (.right (.right (.left .staged)))))))))
    (.right (.right (.right (.right (.right (.right (.right (.right (.right (.left .staged))))))))))
    (.right (.right (.right (.right (.right (.right (.right (.right (.right (.right (.left .staged)))))))))))
    (.right (.right (.right (.right (.right (.right (.right (.right (.right (.right (.right .staged)))))))))))
    (.left (.left (.left .scratch)))
    (.left (.left (.right (.left .scratch))))
    (.left (.left (.right (.right (.left .scratch)))))
    (.left (.left (.right (.right (.right .scratch)))))

theorem obligation (c : Dev nD) : BodyObligation (dats (F := F) m 0 c) (defs₀ (F := F)) Variants.none () Set.univ forgets := fun t => by
  rw [show defs₀ (F := F) .tc cfg0.body (cfg0.bodyArgs t (cfg0.slots t)) = bodyAt0 t by unfold defs₀; rw [Defs.onTc_tc]]
  exact triple_restated (point_body m c t) rfl .rfl fun _ => .rfl

set_option backward.isDefEq.respectTransparency.types false in
/-- Every run ends, its arguments' arrays as the region found them and every counter at zero. -/
theorem run_quiescent : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (obligation m c).loose) (hshare := fun _ w => by fin_cases w <;> rfl) (howed := fun _ _ => rfl) (V := V m)
    (hmain := hmain m Variants.none) (hA := fun _ _ => rfl) (hΦ := fun _ _ => rfl)

/-- An input window's array ends as the region found it. -/
theorem input {r : PUnit × MemSt nD τ sig (Elt F)}
    (h : Pipeline.RDat.FramePost (cfgs 0) (fun c => (dats m 0 c).toRForget forgets) (V m) r) (c : Dev nD) (w : Fin cfg0.W)
    (hin : (cfg0.win w).isOut = false) : r.2.mem ((cfg0.spec w).arr.view.loc (c.tc : Thread nD τ)) = V m c (Pipeline.arrRef spec0 w) :=
  Pipeline.RDat.FramePost.arr_in h c w hin

/-- The arguments end as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ hr c => by
    have h := hr.1
    exact ⟨(input m h c 0 rfl).trans (V_main_arg0 m c),
      (input m h c 1 rfl).trans (V_main_arg1 m c),
      (input m h c 2 rfl).trans (V_main_arg2 m c),
      (input m h c 3 rfl).trans (V_main_arg3 m c),
      (input m h c 4 rfl).trans (V_main_arg4 m c),
      (input m h c 5 rfl).trans (V_main_arg5 m c),
      (input m h c 6 rfl).trans (V_main_arg6 m c)⟩) (run_quiescent m ρ)

/-- The frame, at any values of the floats. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  θ_run_and (unchanged m ρ) ((θ_run defs _ _).mono (fun _ h => h.2) (run_quiescent m ρ))

end Cert.Scan

end
-- ==== Proof.ScanClaim.lean ====
/-
  The frame of the recurrence's forward kernel at the machine's floats.
-/
module

public import proofs.«01_k».proof.Defs
public import proofs.«01_k».proof.Proof.ScanFrame
public import proofs.«01_k».proof.Proof.Gen.Kernel19
public import Idealize.ShloMosaic.Lib.Tactic

@[expose] public section

noncomputable section

namespace Cert.Scan

open Idealize.ShloMosaic Idealize.ShloMosaic.Tactic

/-- The printed form differs only in its name. -/
theorem frame_kernel : Cert.quiescent_Kernel19 := fun m ρ _ => Eq.mp (by sl_kernel_rfl) (Cert.Scan.frame (F := Bits) m ρ)

theorem frame_ideal : Cert.quiescent_Kernel19Ideal := fun m ρ _ => Cert.Scan.frame (F := Ideal) m ρ

end Cert.Scan

end
-- ==== Proof.UpdateClaim.lean ====
/-
  The optimiser's step of a weight that every device holds: the gradient is the sum of the eight devices' parts, and the
  weight moves by its two running means.  The kernel adds the parts one after the other; its four arrays are the reference's,
  of any arguments.
-/
module

public import proofs.«01_k».proof.Defs
public import proofs.«01_k».proof.Proof.Reals
public import proofs.«01_k».proof.Proof.Gen.Kernel20
public import proofs.«01_k».proof.Proof.Gen.Kernel20Ideal.Frame
public import proofs.«01_k».proof.Proof.Gen.Reference20Ideal.Read
public import Idealize.ShloMosaic.Lib.Pipeline.ValueKit
public import Idealize.ShloMosaic.Lib.Tactic

@[expose] public section

noncomputable section

namespace Cert.Update

open Idealize.ShloMosaic hiding ix1 ix2 ix3 eq_ix2 eq_ix3
open Idealize.ShloMosaic.ValueIdx
open Idealize.SL.Sem Idealize.ShloMosaic.Tactic
open Cert.Kernel20Ideal Cert.Kernel20Ideal.Gen Cert.Reference20Ideal.Read
open scoped BigOperators

/-- A row, and the devices' rows. -/
abbrev Row := S1x1024.Idx → EReal
abbrev Rows := S8x1x1024.Idx → EReal

/-- Device `k`'s row, loaded. -/
theorem part (p : Rows) (k : Fin 8) (o : ℕ) (ho : o = k.val)
    (inb : ∀ a, (![o, 0, 0] : Fin 3 → ℕ) a + S1x1x1024.size a ≤ S8x1x1024.size a) (hc : S1x1x1024.ShapeCasts S1x1024) (i : S1x1024.Idx) :
    shapeCast S1x1024 (View.ld (Val := Elt Ideal) (e' := .f32) p (Rect.unit (s := S8x1x1024) ![o, 0, 0] S1x1x1024.size inb)) hc i
      = p (idx_main_v0 i k) := by
  subst ho
  refine (shapeCast_apply _ _ _ (ix3 0 (i 0) (i 1)) ?_).trans ?_
  · rw [Shape.rowMajor_val_two, Shape.rowMajor_val_three]; simp
  · refine View.ld_unit_apply_of _ _ _ _ _ _ fun a => ?_
    match a with
    | 0 => rfl
    | 1 => exact (Nat.zero_add _).symm
    | 2 => exact (Nat.zero_add _).symm

/-- The parts one after the other are their sum. -/
theorem sum_eq (p : Rows) : k0_pay4 (F := Ideal) (View.ld p r0_0) (View.ld p r0_1) (View.ld p r0_2) (View.ld p r0_3)
    (View.ld p r0_4) (View.ld p r0_5) (View.ld p r0_6) (View.ld p r0_7) = val_main_v0 (F := Ideal) p := by
  funext i
  rw [val_main_v0_apply, show val_main_cst (F := Ideal) (Shape.Idx.first Cert.Reference20Ideal.Gen.h_S_) = 0 from Reals.ofBits_zero.trans EReal.coe_zero, zero_add]
  unfold k0_pay4; rw [Fin.sum_univ_eight]
  exact congrArg₂ (· + ·) (congrArg₂ (· + ·) (congrArg₂ (· + ·) (congrArg₂ (· + ·) (congrArg₂ (· + ·) (congrArg₂ (· + ·) (congrArg₂ (· + ·) (part p 0 0 rfl _ _ i) (part p 1 1 rfl _ _ i)) (part p 2 2 rfl _ _ i)) (part p 3 3 rfl _ _ i))
    (part p 4 4 rfl _ _ i)) (part p 5 5 rfl _ _ i)) (part p 6 6 rfl _ _ i)) (part p 7 7 rfl _ _ i)

theorem sum5 (p : Rows) (w m v : Row) : k0_pay5 (F := Ideal) p w m v = val_main_v0 (F := Ideal) p := sum_eq p

/-- The running means, of the gradient and of its square. -/
theorem first_eq (m : Row) (p : Rows) : k0_pay1 (F := Ideal) (val_main_v0 (F := Ideal) p) m = val_main_v5 (F := Ideal) m p := rfl
theorem second_eq (v : Row) (p : Rows) : k0_pay2 (F := Ideal) (val_main_v0 (F := Ideal) p) v = val_main_v11 (F := Ideal) v p := rfl

/-- The weight's change. -/
theorem step_eq (w m v : Row) (p : Rows) :
    k0_pay3 (F := Ideal) (val_main_v0 (F := Ideal) p) w m v = val_main_v24 (F := Ideal) w m v p := by
  unfold k0_pay3; dsimp only
  rw [first_eq, second_eq]; rfl

section Run

variable (m : (ℓ : Loc nD τ sig) → Buf (Elt Ideal) ℓ) (c : Dev nD)

/-- The device's arguments: the weight, its two running means, and the gradient's parts. -/
abbrev W : Row := m ((c.tc : Thread nD τ).loc main_arg0)
abbrev M : Row := m ((c.tc : Thread nD τ).loc main_arg1)
abbrev N : Row := m ((c.tc : Thread nD τ).loc main_arg2)
abbrev P : Rows := m ((c.tc : Thread nD τ).loc main_arg3)

/-- Each block is its array. -/
theorem iblk0 (t : Fin cfg0.N) : iblk m c 0 t = P m c := by
  have e : ∀ t : Fin cfg0.N, win0_0.index t = ![0, 0, 0] := (by decide +kernel : ∀ t : Fin grid0.N, _)
  funext j
  unfold iblk; rw [View.read_apply]
  refine (congrFun (V_main_arg3 m c) _).trans (congrArg (P m c) (funext fun k => Fin.ext ?_))
  match k with
  | ⟨0, _⟩ => blk_simp [e]; try rfl
  | ⟨1, _⟩ => blk_simp [e]; try rfl
  | ⟨2, _⟩ => blk_simp [e]; try rfl
theorem iblk1 (t : Fin cfg0.N) : iblk m c 1 t = W m c := by
  have e : ∀ t : Fin cfg0.N, win0_1.index t = ![0, 0] := (by decide +kernel : ∀ t : Fin grid0.N, _)
  funext j
  unfold iblk; rw [View.read_apply]
  refine (congrFun (V_main_arg0 m c) _).trans (congrArg (W m c) (funext fun k => Fin.ext ?_))
  match k with
  | ⟨0, _⟩ => blk_simp [e]; try rfl
  | ⟨1, _⟩ => blk_simp [e]; try rfl
theorem iblk2 (t : Fin cfg0.N) : iblk m c 2 t = M m c := by
  have e : ∀ t : Fin cfg0.N, win0_2.index t = ![0, 0] := (by decide +kernel : ∀ t : Fin grid0.N, _)
  funext j
  unfold iblk; rw [View.read_apply]
  refine (congrFun (V_main_arg1 m c) _).trans (congrArg (M m c) (funext fun k => Fin.ext ?_))
  match k with
  | ⟨0, _⟩ => blk_simp [e]; try rfl
  | ⟨1, _⟩ => blk_simp [e]; try rfl
theorem iblk3 (t : Fin cfg0.N) : iblk m c 3 t = N m c := by
  have e : ∀ t : Fin cfg0.N, win0_3.index t = ![0, 0] := (by decide +kernel : ∀ t : Fin grid0.N, _)
  funext j
  unfold iblk; rw [View.read_apply]
  refine (congrFun (V_main_arg2 m c) _).trans (congrArg (N m c) (funext fun k => Fin.ext ?_))
  match k with
  | ⟨0, _⟩ => blk_simp [e]; try rfl
  | ⟨1, _⟩ => blk_simp [e]; try rfl

/-- What the point leaves in each result's buffer. -/
theorem out4 (t : Fin cfg0.N) : (dats m 0 c).after 4 t = val_main_v0 (F := Ideal) (P m c) := by
  rw [after0_4, iblk0, iblk1, iblk2, iblk3]
  unfold out0_4
  frame_out
  exact sum_eq _
theorem out5 (t : Fin cfg0.N) : (dats m 0 c).after 5 t = val_main_v24 (F := Ideal) (W m c) (M m c) (N m c) (P m c) := by
  rw [after0_5, iblk0, iblk1, iblk2, iblk3]
  unfold out0_5
  frame_out
  rw [sum5]; exact step_eq _ _ _ _
theorem out6 (t : Fin cfg0.N) : (dats m 0 c).after 6 t = val_main_v5 (F := Ideal) (M m c) (P m c) := by
  rw [after0_6, iblk0, iblk1, iblk2, iblk3]
  unfold out0_6
  frame_out
  rw [sum5]; exact first_eq _ _
theorem out7 (t : Fin cfg0.N) : (dats m 0 c).after 7 t = val_main_v11 (F := Ideal) (N m c) (P m c) := by
  rw [after0_7, iblk0, iblk1, iblk2, iblk3]
  unfold out0_7
  frame_out
  rw [sum5]; exact second_eq _ _

/-- The arrays at the end. -/
theorem arr4 : (dats m 0 c).arrAt 4 cfg0.N = val_main_v0 (F := Ideal) (P m c) := by
  refine (dats m 0 c).arrAt_eq_of_after_last 4 ⟨0, by decide⟩ (by decide +kernel) _ fun j => ?_
  blk_simp
  exact congrFun (out4 m c ⟨0, by decide⟩) _
theorem arr5 : (dats m 0 c).arrAt 5 cfg0.N = val_main_v24 (F := Ideal) (W m c) (M m c) (N m c) (P m c) := by
  refine (dats m 0 c).arrAt_eq_of_after_last 5 ⟨0, by decide⟩ (by decide +kernel) _ fun j => ?_
  blk_simp
  exact congrFun (out5 m c ⟨0, by decide⟩) _
theorem arr6 : (dats m 0 c).arrAt 6 cfg0.N = val_main_v5 (F := Ideal) (M m c) (P m c) := by
  refine (dats m 0 c).arrAt_eq_of_after_last 6 ⟨0, by decide⟩ (by decide +kernel) _ fun j => ?_
  blk_simp
  exact congrFun (out6 m c ⟨0, by decide⟩) _
theorem arr7 : (dats m 0 c).arrAt 7 cfg0.N = val_main_v11 (F := Ideal) (N m c) (P m c) := by
  refine (dats m 0 c).arrAt_eq_of_after_last 7 ⟨0, by decide⟩ (by decide +kernel) _ fun j => ?_
  blk_simp
  exact congrFun (out7 m c ⟨0, by decide⟩) _

end Run

/-- The reference leaves its arguments alone, and declares no semaphore. -/
theorem reference_frame : Cert.quiescent_Reference20Ideal := fun m ρ _ =>
  (θ_run Cert.Reference20Ideal.defs _ _).mono
    (fun r h => ⟨fun c => (h c).2.2.2.2, sem_eq_zero_of_no_sems (by decide) r.2⟩) (Reference20Ideal.Value.run (F := Ideal) m ρ)

/-- The kernel's frame at the machine's floats: the printed form differs only in its name. -/
theorem frame_kernel : Cert.quiescent_Kernel20 := fun m ρ _ => Eq.mp (by sl_kernel_rfl) (Kernel20Ideal.Gen.frame (F := Bits) m ρ)

theorem algebraic : Cert.algebraic_Kernel20Ideal_Reference20Ideal := by
  intro m ρ m' ρ' _ hagree
  refine ⟨fun c => val_main_v0 (F := Ideal) (P m c), fun c => val_main_v24 (F := Ideal) (W m c) (M m c) (N m c) (P m c),
    fun c => val_main_v5 (F := Ideal) (M m c) (P m c), fun c => val_main_v11 (F := Ideal) (N m c) (P m c),
    θ_run_mono (θ_run_and (Kernel20Ideal.Gen.run_main m ρ) (Kernel20Ideal.Gen.unchanged m ρ)) ?_, ?_⟩
  · rintro r ⟨hr, hu⟩ c
    exact ⟨(hr.out_eq c 4).trans (arr4 m c), (hr.out_eq c 5).trans (arr5 m c), (hr.out_eq c 6).trans (arr6 m c),
      (hr.out_eq c 7).trans (arr7 m c), hu c⟩
  · refine θ_run_mono (Reference20Ideal.Value.run (F := Ideal) m' ρ') ?_
    intro r hr c
    obtain ⟨h0, h1, h2, h3, hu⟩ := hr c
    obtain ⟨e0, e1, e2, e3⟩ := hagree c
    refine ⟨h0.trans ?_, h1.trans ?_, h2.trans ?_, h3.trans ?_, hu⟩
    · rw [val_main_v0_eq, e3]
    · rw [val_main_v24_eq, e0, e1, e2, e3]
    · rw [val_main_v5_eq, e1, e3]
    · rw [val_main_v11_eq, e2, e3]

end Cert.Update

end
-- ==== Proof.ParamsMath.lean ====
/-
  Layouts of the scan-parameter backward call: the kernel holds its coefficients as (group, channel, state) and a step size
  as a column, the reference as (group, state, channel) and as a vector. Each operation of one is the other's, read through
  the exchange of axes; nothing here asks an entry to be finite.
-/
module

public import proofs.«01_k».proof.Proof.Rms
public import Idealize.ShloMosaic.Lib.KernelVsHost

@[expose] public section

noncomputable section

namespace Cert.Params

open Idealize.ShloMosaic hiding ix1 ix2 ix3 eq_ix2 eq_ix3
open Idealize.ShloMosaic.ValueIdx
open scoped BigOperators

/-- The shapes of a vector of groups, of a column, of a state matrix and of the coefficients in both orders. -/
abbrev G : Shape := ⟨1, ![32]⟩
abbrev G1 : Shape := ⟨2, ![32, 1]⟩
abbrev GP : Shape := ⟨2, ![32, 64]⟩
abbrev G1P : Shape := ⟨3, ![32, 1, 64]⟩
abbrev GP1 : Shape := ⟨3, ![32, 64, 1]⟩
abbrev GCP : Shape := ⟨3, ![32, 16, 64]⟩
abbrev GPC : Shape := ⟨3, ![32, 64, 16]⟩
abbrev One : Shape := ⟨0, ![]⟩

/-- The axes of a coefficient array exchanged. -/
theorem exchange_exchange (x : GCP.Idx → EReal) (h : GPC.Transposes [0, 2, 1] GCP) (h' : GCP.Transposes [0, 2, 1] GPC) (y : GPC.Idx → EReal)
    (e : x = transpose GCP [0, 2, 1] y h) : transpose GPC [0, 2, 1] x h' = y := by
  subst e
  funext j
  let k : GCP.Idx := fun a => match a with
    | ⟨0, _⟩ => ⟨(j 0).val, (j 0).isLt⟩
    | ⟨1, _⟩ => ⟨(j 2).val, (j 2).isLt⟩
    | ⟨2, _⟩ => ⟨(j 1).val, (j 1).isLt⟩
  refine (transpose_apply [0, 2, 1] _ h' j k fun b => ?_).trans (transpose_apply [0, 2, 1] _ h k j fun b => ?_) <;>
    · match b with
      | ⟨0, _⟩ => rfl
      | ⟨1, _⟩ => rfl
      | ⟨2, _⟩ => rfl

theorem mul_exchange (x y : GPC.Idx → EReal) (h : GPC.Transposes [0, 2, 1] GCP) :
    mulf (F := Ideal) (φ := .f32) (transpose GCP [0, 2, 1] x h) (transpose GCP [0, 2, 1] y h)
      = transpose GCP [0, 2, 1] (mulf (F := Ideal) (φ := .f32) x y) h := rfl
theorem add_exchange (x y : GPC.Idx → EReal) (h : GPC.Transposes [0, 2, 1] GCP) :
    addf (F := Ideal) (φ := .f32) (transpose GCP [0, 2, 1] x h) (transpose GCP [0, 2, 1] y h)
      = transpose GCP [0, 2, 1] (addf (F := Ideal) (φ := .f32) x y) h := rfl
theorem neg_exchange (x : GPC.Idx → EReal) (h : GPC.Transposes [0, 2, 1] GCP) :
    Host.negf (F := Ideal) (φ := .f32) (transpose GCP [0, 2, 1] x h) = transpose GCP [0, 2, 1] (Host.negf (F := Ideal) (φ := .f32) x) h := rfl

/-- The sum over the channels, in either order of the axes. -/
theorem sum_exchange (x : GPC.Idx → EReal) (hT : GPC.Transposes [0, 2, 1] GCP) (h : GCP.Reduces [1] GP) (hφ : FKind.Formats .f32)
    (hacc : (0x00000000#32 : BitVec 32) = 0x00000000#32) (h' : GPC.ReducesTo [2] GP) (hu : 0 < One.numel) :
    multiReduction (F := Ideal) (φ := .f32) .add [1] GP (transpose GCP [0, 2, 1] x hT) (0x00000000#32 : BitVec 32) h hφ hacc
      = Host.reduceAdd (F := Ideal) (φ := .f32) x (constant (F := Ideal) One .f32 0x00000000#32) h' hu := by
  have hr : GPC.Reduces [2] GP := by decide
  refine Eq.trans (funext fun j => ?_) (multiReduction_add_eq_hostReduceAdd x (0x00000000#32 : BitVec 32) hr hφ hacc _ h' hu
    Ideal.ofBits_zero_f32)
  refine (Ideal.multiReduction_add_single _ _ _ _ _ j).trans (Eq.trans ?_ (Ideal.multiReduction_add_single _ _ hr hφ hacc j).symm)
  refine Finset.sum_congr rfl fun k _ => transpose_apply [0, 2, 1] x hT _ _ fun b => ?_
  match b with
  | ⟨0, _⟩ => rfl
  | ⟨1, _⟩ => rfl
  | ⟨2, _⟩ => rfl

/-- A state matrix spread over the channels. -/
theorem spread_exchange (x : GP.Idx → EReal) (h1 : GP.ShapeCasts G1P) (hb : G1P.Broadcasts GCP) (h2 : GP.BroadcastsInDim GP1 ![0, 1])
    (h3 : GP1.BroadcastsInDim GPC ![0, 1, 2]) (hT : GPC.Transposes [0, 2, 1] GCP) :
    broadcastTo GCP (shapeCast G1P x h1) hb
      = transpose GCP [0, 2, 1] (broadcastInDim GPC ![0, 1, 2] h3 (broadcastInDim GP1 ![0, 1] h2 x)) hT := by
  funext j
  let a : G1P.Idx := fun a => match a with
    | ⟨0, _⟩ => ⟨(j 0).val, (j 0).isLt⟩
    | ⟨1, _⟩ => ⟨0, Nat.one_pos⟩
    | ⟨2, _⟩ => ⟨(j 2).val, (j 2).isLt⟩
  let b : GPC.Idx := fun a => match a with
    | ⟨0, _⟩ => ⟨(j 0).val, (j 0).isLt⟩
    | ⟨1, _⟩ => ⟨(j 2).val, (j 2).isLt⟩
    | ⟨2, _⟩ => ⟨(j 1).val, (j 1).isLt⟩
  let d : GP1.Idx := fun a => match a with
    | ⟨0, _⟩ => ⟨(j 0).val, (j 0).isLt⟩
    | ⟨1, _⟩ => ⟨(j 2).val, (j 2).isLt⟩
    | ⟨2, _⟩ => ⟨0, Nat.one_pos⟩
  let e : GP.Idx := fun a => match a with
    | ⟨0, _⟩ => ⟨(j 0).val, (j 0).isLt⟩
    | ⟨1, _⟩ => ⟨(j 2).val, (j 2).isLt⟩
  have l1 : broadcastTo GCP (shapeCast G1P x h1) hb j = shapeCast G1P x h1 a := broadcastTo_apply _ hb j a fun c => by
    match c with
    | ⟨0, _⟩ => rfl
    | ⟨1, _⟩ => rfl
    | ⟨2, _⟩ => rfl
  have l2 : shapeCast G1P x h1 a = x e := shapeCast_apply x h1 a e (by
    rw [Shape.rowMajor_val_two, Shape.rowMajor_val_three]
    show (j 0).val * 64 + (j 2).val = ((j 0).val * 1 + 0) * 64 + (j 2).val
    omega)
  have r1 := transpose_apply [0, 2, 1] (broadcastInDim GPC ![0, 1, 2] h3 (broadcastInDim GP1 ![0, 1] h2 x)) hT j b fun c => by
    match c with
    | ⟨0, _⟩ => rfl
    | ⟨1, _⟩ => rfl
    | ⟨2, _⟩ => rfl
  have r2 := broadcastInDim_apply ![0, 1, 2] h3 (broadcastInDim GP1 ![0, 1] h2 x) b d fun c => by
    match c with
    | ⟨0, _⟩ => rfl
    | ⟨1, _⟩ => rfl
    | ⟨2, _⟩ => rfl
  have r3 := broadcastInDim_apply ![0, 1] h2 x d e fun c => by
    match c with
    | ⟨0, _⟩ => rfl
    | ⟨1, _⟩ => rfl
  exact l1.trans (l2.trans (r1.trans (r2.trans r3)).symm)

/-- Two state matrices added under a channel axis of length one, summed over it, in the kernel's order of the axes. -/
theorem sum_unit (x y : GP.Idx → EReal) (h1 : GP.ShapeCasts G1P) (h : G1P.Reduces [1] GP) (hφ : FKind.Formats .f32)
    (hacc : (0x00000000#32 : BitVec 32) = 0x00000000#32) :
    multiReduction (F := Ideal) (φ := .f32) .add [1] GP (addf (F := Ideal) (φ := .f32) (shapeCast G1P x h1) (shapeCast G1P y h1))
      (0x00000000#32 : BitVec 32) h hφ hacc = addf (F := Ideal) (φ := .f32) x y := by
  funext j
  refine (Ideal.multiReduction_add_single _ _ _ _ _ j).trans ((Fin.sum_univ_one _).trans ?_)
  have e (z : GP.Idx → EReal) : shapeCast G1P z h1 (h.lift j (0 : Fin 1)) = z j := shapeCast_apply z h1 _ j (by
    rw [Shape.rowMajor_val_two, Shape.rowMajor_val_three]
    show (j 0).val * 64 + (j 1).val = ((j 0).val * 1 + 0) * 64 + (j 1).val
    omega)
  exact congrArg₂ (fun p q : EReal => p + q) (e x) (e y)

/-- The same in the reference's order. -/
theorem hostSum_unit (x y : GP.Idx → EReal) (h1 : GP.ShapeCasts GP1) (h' : GP1.ReducesTo [2] GP) (hu : 0 < One.numel) :
    Host.reduceAdd (F := Ideal) (φ := .f32) (addf (F := Ideal) (φ := .f32) (shapeCast GP1 x h1) (shapeCast GP1 y h1))
      (constant (F := Ideal) One .f32 0x00000000#32) h' hu = addf (F := Ideal) (φ := .f32) x y := by
  have h : GP1.Reduces [2] GP := by decide
  refine (multiReduction_add_eq_hostReduceAdd _ (0x00000000#32 : BitVec 32) h (.inl rfl) rfl _ h' hu Ideal.ofBits_zero_f32).symm.trans ?_
  funext j
  refine (Ideal.multiReduction_add_single _ _ _ _ _ j).trans ((Fin.sum_univ_one _).trans ?_)
  have e (z : GP.Idx → EReal) : shapeCast GP1 z h1 (h.lift j (0 : Fin 1)) = z j := shapeCast_apply z h1 _ j (by
    rw [Shape.rowMajor_val_two, Shape.rowMajor_val_three]
    show (j 0).val * 64 + (j 1).val = ((j 0).val * 64 + (j 1).val) * 1 + 0
    omega)
  exact congrArg₂ (fun p q : EReal => p + q) (e x) (e y)

/-- The step size spread over the states: from the kernel's column and from the reference's vector. -/
theorem spread_step (x : G.Idx → EReal) (h1 : G.ShapeCasts G1) (hb : G1.Broadcasts GP) (h2 : G.BroadcastsInDim G1 ![0])
    (h3 : G1.BroadcastsInDim GP ![0, 1]) :
    broadcastTo GP (exp (F := Ideal) (φ := .f32) (shapeCast G1 x h1)) hb
      = broadcastInDim GP ![0, 1] h3 (broadcastInDim G1 ![0] h2 (Host.exp (F := Ideal) (φ := .f32) x)) := by
  funext j
  let a : G1.Idx := ix2 ⟨(j 0).val, (j 0).isLt⟩ (0 : Fin 1)
  let b : G.Idx := ix1 ⟨(j 0).val, (j 0).isLt⟩
  have l1 := broadcastTo_apply (exp (F := Ideal) (φ := .f32) (shapeCast G1 x h1)) hb j a fun c => by
    match c with
    | ⟨0, _⟩ => rfl
    | ⟨1, _⟩ => rfl
  have l2 : shapeCast G1 x h1 a = x b := shapeCast_apply x h1 a b (by
    rw [Shape.rowMajor_val_one, Shape.rowMajor_val_two]
    show (j 0).val = (j 0).val * 1 + 0
    omega)
  have r1 := broadcastInDim_apply ![0, 1] h3 (broadcastInDim G1 ![0] h2 (Host.exp (F := Ideal) (φ := .f32) x)) j a fun c => by
    match c with
    | ⟨0, _⟩ => rfl
    | ⟨1, _⟩ => rfl
  have r2 := broadcastInDim_apply ![0] h2 (Host.exp (F := Ideal) (φ := .f32) x) a b fun c => by
    match c with
    | ⟨0, _⟩ => rfl
  exact l1.trans ((congrArg (FloatOps.exp (F := Ideal) (φ := .f32)) l2).trans (r1.trans r2).symm)

/-- The sum over the states. -/
theorem sum_states (x : GP.Idx → EReal) (h : GP.Reduces [1] G) (hφ : FKind.Formats .f32)
    (hacc : (0x00000000#32 : BitVec 32) = 0x00000000#32) (h' : GP.ReducesTo [1] G) (hu : 0 < One.numel) :
    multiReduction (F := Ideal) (φ := .f32) .add [1] G x (0x00000000#32 : BitVec 32) h hφ hacc
      = Host.reduceAdd (F := Ideal) (φ := .f32) x (constant (F := Ideal) One .f32 0x00000000#32) h' hu :=
  multiReduction_add_eq_hostReduceAdd x _ h hφ hacc _ h' hu Ideal.ofBits_zero_f32

/-- The step size's gradient from its three sums: a column reshaped by the kernel, a column of one summed by the reference. -/
theorem step_gradient (x y z l : G.Idx → EReal) (h1 : G.ShapeCasts G1) (h2 : G1.ShapeCasts G) (h' : G1.ReducesTo [1] G) (hu : 0 < One.numel) :
    shapeCast G (mulf (F := Ideal) (φ := .f32) (addf (F := Ideal) (φ := .f32) (addf (F := Ideal) (φ := .f32) (shapeCast G1 x h1) (shapeCast G1 y h1))
        (shapeCast G1 z h1)) (exp (F := Ideal) (φ := .f32) (shapeCast G1 l h1))) h2
      = mulf (F := Ideal) (φ := .f32) (Host.reduceAdd (F := Ideal) (φ := .f32) (addf (F := Ideal) (φ := .f32)
          (addf (F := Ideal) (φ := .f32) (shapeCast G1 x h1) (shapeCast G1 y h1)) (shapeCast G1 z h1))
          (constant (F := Ideal) One .f32 0x00000000#32) h' hu) (Host.exp (F := Ideal) (φ := .f32) l) := by
  have h : G1.Reduces [1] G := by decide
  rw [← multiReduction_add_eq_hostReduceAdd _ (0x00000000#32 : BitVec 32) h (.inl rfl) rfl _ h' hu Ideal.ofBits_zero_f32]
  funext j
  let a : G1.Idx := ix2 ⟨(j 0).val, (j 0).isLt⟩ (0 : Fin 1)
  have ea : h.lift j (0 : Fin 1) = a := funext fun c => Fin.ext (by
    match c with
    | ⟨0, _⟩ => rfl
    | ⟨1, _⟩ => rfl)
  have e (w : G.Idx → EReal) : shapeCast G1 w h1 a = w j := shapeCast_apply w h1 a j (by
    rw [Shape.rowMajor_val_one, Shape.rowMajor_val_two]
    show (j 0).val = (j 0).val * 1 + 0
    omega)
  refine (shapeCast_apply _ h2 j a (by
    rw [Shape.rowMajor_val_one, Shape.rowMajor_val_two]
    show (j 0).val * 1 + 0 = (j 0).val
    omega)).trans ?_
  refine congrArg₂ (fun p q : EReal => p * q) ?_ (congrArg (FloatOps.exp (F := Ideal) (φ := .f32)) (e l))
  refine Eq.symm ((Ideal.multiReduction_add_single _ _ _ _ _ j).trans ((Fin.sum_univ_one _).trans ?_))
  exact congrArg _ ea

end Cert.Params

end
-- ==== Proof.ParamsKernel.lean ====
/-
  The scan-parameter backward kernel's payloads, each as the stage of the reference that computes the same value: the two
  programs differentiate the same discretisation, one with the coefficients' axes exchanged and the step size as a column.
-/
module

public import proofs.«01_k».proof.Proof.ParamsMath
public import proofs.«01_k».proof.Proof.Gen.Kernel9Ideal.Frame
public import proofs.«01_k».proof.Proof.Gen.Reference9Ideal.Read

@[expose] public section

noncomputable section

namespace Cert.Params

open Idealize.ShloMosaic hiding ix1 ix2 ix3 eq_ix2 eq_ix3
open Idealize.ShloMosaic.ValueIdx
open Cert.Kernel9Ideal Cert.Kernel9Ideal.Gen Cert.Reference9Ideal.Read

/-- The coefficients as the kernel is handed them, the step size as it is, and a state matrix under a channel axis. -/
abbrev ex (x : GPC.Idx → EReal) : GCP.Idx → EReal := transpose GCP [0, 2, 1] x transposes_S32x64x16_S32x16x64_0_2_1
abbrev col (x : G.Idx → EReal) : G1.Idx → EReal := shapeCast G1 x shapeCasts_S32_S32x1
abbrev row1 (x : GP.Idx → EReal) : G1P.Idx → EReal := shapeCast G1P x shapeCasts_S32x64_S32x1x64

theorem spread (x : G.Idx → EReal) : broadcastTo GP (exp (F := Ideal) (φ := .f32) (col x)) broadcasts_S32x1_S32x64
    = val_main_v2 (F := Ideal) x := spread_step x _ _ _ _
theorem spread3 (x : GP.Idx → EReal) : broadcastTo GCP (row1 x) broadcasts_S32x1x64_S32x16x64
    = ex (broadcastInDim GPC ![0, 1, 2] Cert.Reference9Ideal.Facts₀.bcast_S32x64x1_S32x64x16_0_1_2
        (broadcastInDim GP1 ![0, 1] Cert.Reference9Ideal.Facts₀.bcast_S32x64_S32x64x1_0_1 x)) := spread_exchange x _ _ _ _ _
theorem sumC (x : GPC.Idx → EReal) (hφ : FKind.Formats .f32) (hacc : (0x00000000#32 : BitVec 32) = 0x00000000#32) :
    multiReduction (F := Ideal) (φ := .f32) .add [1] GP (ex x) (0x00000000#32 : BitVec 32) reduces_S32x16x64_S32x64 hφ hacc
      = Host.reduceAdd (F := Ideal) (φ := .f32) x (constant (F := Ideal) One .f32 0x00000000#32)
          Cert.Reference9Ideal.Facts₀.reducesTo_S32x64x16_S32x64_d2 Cert.Reference9Ideal.Facts₀.h_S_ := sum_exchange x _ _ _ _ _ _
theorem sumP (x : GP.Idx → EReal) (hφ : FKind.Formats .f32) (hacc : (0x00000000#32 : BitVec 32) = 0x00000000#32) :
    multiReduction (F := Ideal) (φ := .f32) .add [1] G x (0x00000000#32 : BitVec 32) reduces_S32x64_S32 hφ hacc
      = Host.reduceAdd (F := Ideal) (φ := .f32) x (constant (F := Ideal) One .f32 0x00000000#32)
          Cert.Reference9Ideal.Facts₀.reducesTo_S32x64_S32_d1 Cert.Reference9Ideal.Facts₀.h_S_ := sum_states x _ _ _ _ _

variable (a b d e : GP.Idx → EReal) (l : G.Idx → EReal) (r s p q : GPC.Idx → EReal)

/-- The reference's reshapes to the same shape, and its sums over a channel axis of length one. -/
theorem ref46 : val_main_v46 (F := Ideal) q = q := by unfold val_main_v46; exact shapeCast_self _ _
theorem ref47 : val_main_v47 (F := Ideal) q = q := by unfold val_main_v47; exact shapeCast_self _ _
theorem ref58 : val_main_v58 (F := Ideal) p = p := by unfold val_main_v58; exact shapeCast_self _ _
theorem ref74 : (val_main_v74 (F := Ideal) r s p q) = addf (F := Ideal) (φ := .f32) (val_main_v51 (F := Ideal) r q) (val_main_v64 (F := Ideal) s p) := by
  unfold val_main_v74 val_main_v66 val_main_v52 val_main_v65 val_main_cst_6
  exact hostSum_unit _ _ _ _ _
theorem ref86 : (val_main_v86 (F := Ideal) r s p q) = addf (F := Ideal) (φ := .f32) (val_main_v56 (F := Ideal) s q) (val_main_v71 (F := Ideal) r p) := by
  unfold val_main_v86 val_main_v73 val_main_v57 val_main_v72 val_main_cst_7
  exact hostSum_unit _ _ _ _ _

/-- The loaded coefficients. -/
theorem pay3_eq : k0_pay3 (F := Ideal) (ex r)
    = ex r := by
  unfold k0_pay3; dsimp only
  rw [shapeCast_self]

theorem pay4_eq : k0_pay4 (F := Ideal) (ex s)
    = ex s := by
  unfold k0_pay4; dsimp only
  rw [shapeCast_self]

theorem pay22_eq : k0_pay22 (F := Ideal) (ex p)
    = ex p := by
  unfold k0_pay22; dsimp only
  rw [shapeCast_self]

theorem pay23_eq : k0_pay23 (F := Ideal) (ex q)
    = ex q := by
  unfold k0_pay23; dsimp only
  rw [shapeCast_self]

/-- The step size. -/
theorem pay5_eq : k0_pay5 (F := Ideal) (col l)
    = exp (F := Ideal) (φ := .f32) (col l) := by
  unfold k0_pay5; dsimp only
  rw [shapeCast_self]

/-- The discretised eigenvalues. -/
theorem pay6_eq : k0_pay6 (F := Ideal) a (col l)
    = (val_main_v4 (F := Ideal) a l) := by
  unfold k0_pay6; dsimp only
  rw [pay5_eq, spread]; rfl

theorem pay7_eq : k0_pay7 (F := Ideal) b (col l)
    = (val_main_v6 (F := Ideal) b l) := by
  unfold k0_pay7; dsimp only
  rw [pay5_eq, spread]; rfl

theorem pay8_eq : k0_pay8 (F := Ideal) b (col l)
    = (val_main_v7 (F := Ideal) b l) := by
  unfold k0_pay8; dsimp only
  rw [pay7_eq]; rfl

theorem pay9_eq : k0_pay9 (F := Ideal) b (col l)
    = (val_main_v8 (F := Ideal) b l) := by
  unfold k0_pay9; dsimp only
  rw [pay7_eq]; rfl

theorem pay10_eq : k0_pay10 (F := Ideal) b (col l)
    = (val_main_v11 (F := Ideal) b l) := by
  unfold k0_pay10; dsimp only
  rw [pay5_eq, spread]; rfl

theorem pay11_eq : k0_pay11 (F := Ideal) b (col l)
    = (val_main_v12 (F := Ideal) b l) := by
  unfold k0_pay11; dsimp only
  rw [pay10_eq]; rfl

theorem pay12_eq : k0_pay12 (F := Ideal) b (col l)
    = (val_main_v13 (F := Ideal) b l) := by
  unfold k0_pay12; dsimp only
  rw [pay10_eq]; rfl

theorem pay13_eq : k0_pay13 (F := Ideal) a b (col l)
    = (val_main_v14 (F := Ideal) a b l) := by
  unfold k0_pay13; dsimp only
  rw [pay6_eq, pay11_eq]; rfl

theorem pay14_eq : k0_pay14 (F := Ideal) a b
    = (val_main_v17 (F := Ideal) a b) := by
  unfold k0_pay14; dsimp only
  rfl

theorem pay15_eq : k0_pay15 (F := Ideal) a b (col l)
    = (val_main_v19 (F := Ideal) a b l) := by
  unfold k0_pay15; dsimp only
  rw [pay6_eq, pay8_eq]; rfl

/-- The quotient that scales the coefficients, its parts and their inverse squares. -/
theorem pay16_eq : k0_pay16 (F := Ideal) a b (col l)
    = (val_main_v22 (F := Ideal) a b l) := by
  unfold k0_pay16; dsimp only
  rw [pay13_eq, pay15_eq]; rfl

theorem pay17_eq : k0_pay17 (F := Ideal) a b
    = (val_main_v26 (F := Ideal) a b) := by
  unfold k0_pay17; dsimp only
  rw [pay14_eq]; rfl

theorem pay18_eq : k0_pay18 (F := Ideal) a b (col l)
    = row1 (val_main_v23 (F := Ideal) a b l) := by
  unfold k0_pay18; dsimp only
  rw [pay16_eq, pay14_eq]; rfl

theorem pay19_eq : k0_pay19 (F := Ideal) a b (col l)
    = (val_main_v30 (F := Ideal) a b l) := by
  unfold k0_pay19; dsimp only
  rw [pay13_eq, pay15_eq]; rfl

theorem pay20_eq : k0_pay20 (F := Ideal) a b
    = (val_main_v34 (F := Ideal) a b) := by
  unfold k0_pay20; dsimp only
  rw [pay14_eq]; rfl

theorem pay21_eq : k0_pay21 (F := Ideal) a b (col l)
    = row1 (val_main_v31 (F := Ideal) a b l) := by
  unfold k0_pay21; dsimp only
  rw [pay19_eq, pay14_eq]; rfl

/-- The gradients of the coefficients. -/
theorem pay24_eq : k0_pay24 (F := Ideal) (ex p)
    = ex (val_main_v59 (F := Ideal) p) := by
  unfold k0_pay24; dsimp only
  rw [pay22_eq, subf_zero_eq_hostNegf, neg_exchange]; rfl

theorem pay25_eq : k0_pay25 (F := Ideal) (row1 (val_main_v23 (F := Ideal) a b l)) (row1 (val_main_v31 (F := Ideal) a b l)) (ex p) (ex q)
    = ex (val_main_v62 (F := Ideal) a b l p q) := by
  unfold k0_pay25; dsimp only
  rw [pay23_eq, pay24_eq, spread3, spread3, mul_exchange, mul_exchange, add_exchange]; unfold val_main_v62 val_main_v54; rw [ref46]; rfl

theorem pay26_eq : k0_pay26 (F := Ideal) (row1 (val_main_v23 (F := Ideal) a b l)) (row1 (val_main_v31 (F := Ideal) a b l)) (ex p) (ex q)
    = ex (val_main_v69 (F := Ideal) a b l p q) := by
  unfold k0_pay26; dsimp only
  rw [pay22_eq, pay23_eq, spread3, spread3, mul_exchange, mul_exchange, add_exchange]; unfold val_main_v69 val_main_v49 val_main_v68; rw [ref47, ref58]; rfl

/-- The gradients of the two quotients. -/
theorem pay27_eq : k0_pay27 (F := Ideal) (ex r) (ex s) (ex p) (ex q)
    = (addf (F := Ideal) (φ := .f32) (row1 (val_main_v56 (F := Ideal) s q)) (row1 (val_main_v71 (F := Ideal) r p))) := by
  unfold k0_pay27; dsimp only
  rw [pay22_eq, pay23_eq, mul_exchange, mul_exchange, sumC, sumC]; unfold val_main_v56 val_main_v55 val_main_v71 val_main_v70; rw [ref46, ref58]; rfl

theorem pay28_eq : k0_pay28 (F := Ideal) (ex r) (ex s) (ex p) (ex q)
    = (val_main_v74 (F := Ideal) r s p q) := by
  unfold k0_pay28; dsimp only
  rw [pay23_eq, pay24_eq, mul_exchange, mul_exchange, sumC, sumC, sum_unit, ref74]; unfold val_main_v51 val_main_v50; rw [ref47]; rfl

theorem pay29_eq : k0_pay29 (F := Ideal) (ex r) (ex s) (val_main_v30 (F := Ideal) a b l) (val_main_v34 (F := Ideal) a b) (ex p) (ex q)
    = (val_main_v77 (F := Ideal) a b l r s p q) := by
  unfold k0_pay29; dsimp only
  rw [pay28_eq, subf_zero_eq_hostNegf]; rfl

theorem pay30_eq : k0_pay30 (F := Ideal) (ex r) (ex s) (val_main_v17 (F := Ideal) a b) (ex p) (ex q)
    = (val_main_v78 (F := Ideal) a b r s p q) := by
  unfold k0_pay30; dsimp only
  rw [pay28_eq]; rfl

theorem pay31_eq : k0_pay31 (F := Ideal) (ex r) (ex s) (val_main_v17 (F := Ideal) a b) (ex p) (ex q)
    = (val_main_v79 (F := Ideal) a b r s p q) := by
  unfold k0_pay31; dsimp only
  rw [pay30_eq, subf_zero_eq_hostNegf]; rfl

theorem pay32_eq : k0_pay32 (F := Ideal) (ex r) (ex s) (val_main_v17 (F := Ideal) a b) (val_main_v19 (F := Ideal) a b l) (ex p) (ex q)
    = (val_main_v80 (F := Ideal) a b l r s p q) := by
  unfold k0_pay32; dsimp only
  rw [pay31_eq]; rfl

theorem pay33_eq : k0_pay33 (F := Ideal) b (ex r) (ex s) (val_main_v17 (F := Ideal) a b) d (ex p) (ex q)
    = (val_main_v82 (F := Ideal) a b r s d p q) := by
  unfold k0_pay33; dsimp only
  rw [pay31_eq]; rfl

theorem pay34_eq : k0_pay34 (F := Ideal) (ex r) (ex s) (val_main_v14 (F := Ideal) a b l) (val_main_v17 (F := Ideal) a b) (ex p) (ex q)
    = (val_main_v83 (F := Ideal) a b l r s p q) := by
  unfold k0_pay34; dsimp only
  rw [pay30_eq]; rfl

theorem pay35_eq : k0_pay35 (F := Ideal) (addf (F := Ideal) (φ := .f32) (row1 (val_main_v56 (F := Ideal) s q)) (row1 (val_main_v71 (F := Ideal) r p)))
    = (val_main_v86 (F := Ideal) r s p q) := by
  unfold k0_pay35; dsimp only
  rw [sum_unit, ref86]

theorem pay36_eq : k0_pay36 (F := Ideal) (val_main_v22 (F := Ideal) a b l) (val_main_v26 (F := Ideal) a b) (addf (F := Ideal) (φ := .f32) (row1 (val_main_v56 (F := Ideal) s q)) (row1 (val_main_v71 (F := Ideal) r p))) (val_main_v77 (F := Ideal) a b l r s p q)
    = (val_main_v90 (F := Ideal) a b l r s p q) := by
  unfold k0_pay36; dsimp only
  rw [pay35_eq, subf_zero_eq_hostNegf]; rfl

theorem pay37_eq : k0_pay37 (F := Ideal) (val_main_v17 (F := Ideal) a b) (addf (F := Ideal) (φ := .f32) (row1 (val_main_v56 (F := Ideal) s q)) (row1 (val_main_v71 (F := Ideal) r p)))
    = (val_main_v91 (F := Ideal) a b r s p q) := by
  unfold k0_pay37; dsimp only
  rw [pay35_eq]; rfl

theorem pay38_eq : k0_pay38 (F := Ideal) a b (val_main_v17 (F := Ideal) a b) e (addf (F := Ideal) (φ := .f32) (row1 (val_main_v56 (F := Ideal) s q)) (row1 (val_main_v71 (F := Ideal) r p))) (val_main_v78 (F := Ideal) a b r s p q)
    = (val_main_v95 (F := Ideal) a b r s e p q) := by
  unfold k0_pay38; dsimp only
  rw [pay37_eq]; rfl

theorem pay39_eq : k0_pay39 (F := Ideal) a (val_main_v17 (F := Ideal) a b) (addf (F := Ideal) (φ := .f32) (row1 (val_main_v56 (F := Ideal) s q)) (row1 (val_main_v71 (F := Ideal) r p))) (val_main_v82 (F := Ideal) a b r s d p q)
    = (val_main_v99 (F := Ideal) a b r s d p q) := by
  unfold k0_pay39; dsimp only
  rw [pay37_eq]; rfl

/-- The gradients of the eigenvalues. -/
theorem pay40_eq : k0_pay40 (F := Ideal) a (val_main_v17 (F := Ideal) a b) (val_main_v19 (F := Ideal) a b l) (val_main_v22 (F := Ideal) a b l) (val_main_v26 (F := Ideal) a b) (addf (F := Ideal) (φ := .f32) (row1 (val_main_v56 (F := Ideal) s q)) (row1 (val_main_v71 (F := Ideal) r p))) (val_main_v77 (F := Ideal) a b l r s p q) (val_main_v83 (F := Ideal) a b l r s p q)
    = (val_main_v107 (F := Ideal) a b l r s p q) := by
  unfold k0_pay40; dsimp only
  rw [pay37_eq, pay36_eq]; rfl

theorem pay41_eq : k0_pay41 (F := Ideal) a b (val_main_v4 (F := Ideal) a l) (val_main_v13 (F := Ideal) b l) (val_main_v17 (F := Ideal) a b) e (addf (F := Ideal) (φ := .f32) (row1 (val_main_v56 (F := Ideal) s q)) (row1 (val_main_v71 (F := Ideal) r p))) (val_main_v78 (F := Ideal) a b r s p q)
    = (val_main_v110 (F := Ideal) a b l r s e p q) := by
  unfold k0_pay41; dsimp only
  rw [pay38_eq]; rfl

theorem pay42_eq : k0_pay42 (F := Ideal) a (val_main_v4 (F := Ideal) a l) (val_main_v8 (F := Ideal) b l) (val_main_v17 (F := Ideal) a b) (addf (F := Ideal) (φ := .f32) (row1 (val_main_v56 (F := Ideal) s q)) (row1 (val_main_v71 (F := Ideal) r p))) (val_main_v82 (F := Ideal) a b r s d p q)
    = (val_main_v121 (F := Ideal) a b l r s d p q) := by
  unfold k0_pay42; dsimp only
  rw [pay39_eq, subf_zero_eq_hostNegf]; rfl

theorem pay43_eq : k0_pay43 (F := Ideal) a b (k0_pay5 (F := Ideal) (col l)) (val_main_v4 (F := Ideal) a l) (val_main_v8 (F := Ideal) b l) (val_main_v13 (F := Ideal) b l) (val_main_v14 (F := Ideal) a b l) (val_main_v17 (F := Ideal) a b) (val_main_v22 (F := Ideal) a b l) (val_main_v26 (F := Ideal) a b) e (addf (F := Ideal) (φ := .f32) (row1 (val_main_v56 (F := Ideal) s q)) (row1 (val_main_v71 (F := Ideal) r p))) (val_main_v77 (F := Ideal) a b l r s p q) (val_main_v78 (F := Ideal) a b r s p q) (val_main_v80 (F := Ideal) a b l r s p q) (val_main_v82 (F := Ideal) a b r s d p q)
    = (val_main_v128 (F := Ideal) a b l r s d e p q) := by
  unfold k0_pay43; dsimp only
  rw [pay37_eq, pay36_eq, pay41_eq, pay42_eq, pay5_eq, spread]; rfl

theorem pay44_eq : k0_pay44 (F := Ideal) a b (val_main_v4 (F := Ideal) a l) (val_main_v7 (F := Ideal) b l) (val_main_v12 (F := Ideal) b l) (val_main_v17 (F := Ideal) a b) e (addf (F := Ideal) (φ := .f32) (row1 (val_main_v56 (F := Ideal) s q)) (row1 (val_main_v71 (F := Ideal) r p))) (val_main_v78 (F := Ideal) a b r s p q) (val_main_v82 (F := Ideal) a b r s d p q)
    = (val_main_v129 (F := Ideal) a b l r s d e p q) := by
  unfold k0_pay44; dsimp only
  rw [pay38_eq, pay39_eq]; rfl

theorem pay45_eq : k0_pay45 (F := Ideal) a b (val_main_v4 (F := Ideal) a l) (val_main_v7 (F := Ideal) b l) (val_main_v8 (F := Ideal) b l) (val_main_v12 (F := Ideal) b l) (val_main_v13 (F := Ideal) b l) (val_main_v17 (F := Ideal) a b) e (addf (F := Ideal) (φ := .f32) (row1 (val_main_v56 (F := Ideal) s q)) (row1 (val_main_v71 (F := Ideal) r p))) (val_main_v78 (F := Ideal) a b r s p q) (val_main_v82 (F := Ideal) a b r s d p q)
    = (val_main_v133 (F := Ideal) a b l r s d e p q) := by
  unfold k0_pay45; dsimp only
  rw [pay41_eq, pay42_eq, pay44_eq, sumP, sumP, sumP]; rfl

theorem pay46_eq : k0_pay46 (F := Ideal) a b (k0_pay5 (F := Ideal) (col l)) (val_main_v4 (F := Ideal) a l) (val_main_v7 (F := Ideal) b l) (val_main_v12 (F := Ideal) b l) (val_main_v17 (F := Ideal) a b) e (addf (F := Ideal) (φ := .f32) (row1 (val_main_v56 (F := Ideal) s q)) (row1 (val_main_v71 (F := Ideal) r p))) (val_main_v78 (F := Ideal) a b r s p q) (val_main_v82 (F := Ideal) a b r s d p q)
    = (val_main_v135 (F := Ideal) a b l r s d e p q) := by
  unfold k0_pay46; dsimp only
  rw [pay44_eq, pay5_eq, spread]; rfl

theorem pay1_eq : k0_pay1 (F := Ideal) (val_main_v107 (F := Ideal) a b l r s p q) (val_main_v135 (F := Ideal) a b l r s d e p q)
    = (val_main_v136 (F := Ideal) a b l r s d e p q) := by
  unfold k0_pay1; dsimp only
  rfl

/-- The gradient of the step size's logarithm, as the host hands it on. -/
theorem pay2_eq : shapeCast G (k0_pay2 (F := Ideal) (k0_pay5 (F := Ideal) (col l)) (val_main_v133 (F := Ideal) a b l r s d e p q)) shapeCasts_S32x1_S32
    = (val_main_v138 (F := Ideal) a b l r s d e p q) := by
  unfold k0_pay2; dsimp only
  rw [pay5_eq]
  exact step_gradient (val_main_v112 (F := Ideal) a b l r s e p q) (val_main_v123 (F := Ideal) a b l r s d p q) (val_main_v131 (F := Ideal) a b l r s d e p q) l _ _ _ _

end Cert.Params

end
-- ==== Proof.ParamsRun.lean ====
/-
  The scan-parameter backward kernel's one point: the blocks it reads are its whole arrays, as the host lays them out, and its
  five arrays, with the host's reshape and exchanges after it, end as the reference's results.
-/
module

public import proofs.«01_k».proof.Proof.ParamsKernel
public import Idealize.ShloMosaic.Lib.Pipeline.ValueKit

@[expose] public section

noncomputable section

namespace Cert.Params

open Idealize.ShloMosaic hiding ix1 ix2 ix3 eq_ix2 eq_ix3
open Idealize.ShloMosaic.ValueIdx
open Cert.Kernel9Ideal Cert.Kernel9Ideal.Gen Cert.Reference9Ideal.Read

variable (m : (ℓ : Loc nD τ sig) → Buf (Elt Ideal) ℓ) (c : Dev nD) (a b d e : GP.Idx → EReal) (l : G.Idx → EReal)
  (r s p q : GPC.Idx → EReal)

/-- The device's arguments. -/
structure Args : Prop where
  a0 : m ((c.tc : Thread nD τ).loc main_arg0) = a
  a1 : m ((c.tc : Thread nD τ).loc main_arg1) = b
  a2 : m ((c.tc : Thread nD τ).loc main_arg2) = l
  a3 : m ((c.tc : Thread nD τ).loc main_arg3) = r
  a4 : m ((c.tc : Thread nD τ).loc main_arg4) = s
  a5 : m ((c.tc : Thread nD τ).loc main_arg5) = d
  a6 : m ((c.tc : Thread nD τ).loc main_arg6) = e
  a7 : m ((c.tc : Thread nD τ).loc main_arg7) = p
  a8 : m ((c.tc : Thread nD τ).loc main_arg8) = q

variable {m c a b d e l r s p q} (h : Args m c a b d e l r s p q)
include h

theorem entry2 : V m c main_v0 = col l := by
  unfold V V0 hostOps0; simp only [List.flatten_cons, List.flatten_nil, List.append_nil]
  after_results
  exact congrArg (shapeCast G1 · shapeCasts_S32_S32x1) h.a2
theorem entry3 : V m c main_v1 = ex r := by
  unfold V V0 hostOps0; simp only [List.flatten_cons, List.flatten_nil, List.append_nil]
  after_results
  exact congrArg ex h.a3
theorem entry4 : V m c main_v2 = ex s := by
  unfold V V0 hostOps0; simp only [List.flatten_cons, List.flatten_nil, List.append_nil]
  after_results
  exact congrArg ex h.a4
theorem entry7 : V m c main_v3 = ex p := by
  unfold V V0 hostOps0; simp only [List.flatten_cons, List.flatten_nil, List.append_nil]
  after_results
  exact congrArg ex h.a7
theorem entry8 : V m c main_v4 = ex q := by
  unfold V V0 hostOps0; simp only [List.flatten_cons, List.flatten_nil, List.append_nil]
  after_results
  exact congrArg ex h.a8

/-- Each block is its array. -/
theorem iblk0 (t : Fin cfg0.N) : iblk m c 0 t = a := by
  have i0 : ∀ t : Fin cfg0.N, win0_0.index t = ![0, 0] := (by decide +kernel : ∀ t : Fin grid0.N, _)
  funext j
  unfold iblk; rw [View.read_apply]
  refine (congrFun ((V_main_arg0 m c).trans h.a0) _).trans (congrArg (a) (funext fun k => Fin.ext ?_))
  match k with
  | ⟨0, _⟩ => blk_simp [i0]; try rfl
  | ⟨1, _⟩ => blk_simp [i0]; try rfl

theorem iblk1 (t : Fin cfg0.N) : iblk m c 1 t = b := by
  have i0 : ∀ t : Fin cfg0.N, win0_1.index t = ![0, 0] := (by decide +kernel : ∀ t : Fin grid0.N, _)
  funext j
  unfold iblk; rw [View.read_apply]
  refine (congrFun ((V_main_arg1 m c).trans h.a1) _).trans (congrArg (b) (funext fun k => Fin.ext ?_))
  match k with
  | ⟨0, _⟩ => blk_simp [i0]; try rfl
  | ⟨1, _⟩ => blk_simp [i0]; try rfl

theorem iblk2 (t : Fin cfg0.N) : iblk m c 2 t = col l := by
  have i0 : ∀ t : Fin cfg0.N, win0_2.index t = ![0, 0] := (by decide +kernel : ∀ t : Fin grid0.N, _)
  funext j
  unfold iblk; rw [View.read_apply]
  refine (congrFun (entry2 h) _).trans (congrArg (col l) (funext fun k => Fin.ext ?_))
  match k with
  | ⟨0, _⟩ => blk_simp [i0]; try rfl
  | ⟨1, _⟩ => blk_simp [i0]; try rfl

theorem iblk3 (t : Fin cfg0.N) : iblk m c 3 t = ex r := by
  have i0 : ∀ t : Fin cfg0.N, win0_3.index t = ![0, 0, 0] := (by decide +kernel : ∀ t : Fin grid0.N, _)
  funext j
  unfold iblk; rw [View.read_apply]
  refine (congrFun (entry3 h) _).trans (congrArg (ex r) (funext fun k => Fin.ext ?_))
  match k with
  | ⟨0, _⟩ => blk_simp [i0]; try rfl
  | ⟨1, _⟩ => blk_simp [i0]; try rfl
  | ⟨2, _⟩ => blk_simp [i0]; try rfl

theorem iblk4 (t : Fin cfg0.N) : iblk m c 4 t = ex s := by
  have i0 : ∀ t : Fin cfg0.N, win0_4.index t = ![0, 0, 0] := (by decide +kernel : ∀ t : Fin grid0.N, _)
  funext j
  unfold iblk; rw [View.read_apply]
  refine (congrFun (entry4 h) _).trans (congrArg (ex s) (funext fun k => Fin.ext ?_))
  match k with
  | ⟨0, _⟩ => blk_simp [i0]; try rfl
  | ⟨1, _⟩ => blk_simp [i0]; try rfl
  | ⟨2, _⟩ => blk_simp [i0]; try rfl

theorem iblk5 (t : Fin cfg0.N) : iblk m c 5 t = d := by
  have i0 : ∀ t : Fin cfg0.N, win0_5.index t = ![0, 0] := (by decide +kernel : ∀ t : Fin grid0.N, _)
  funext j
  unfold iblk; rw [View.read_apply]
  refine (congrFun ((V_main_arg5 m c).trans h.a5) _).trans (congrArg (d) (funext fun k => Fin.ext ?_))
  match k with
  | ⟨0, _⟩ => blk_simp [i0]; try rfl
  | ⟨1, _⟩ => blk_simp [i0]; try rfl

theorem iblk6 (t : Fin cfg0.N) : iblk m c 6 t = e := by
  have i0 : ∀ t : Fin cfg0.N, win0_6.index t = ![0, 0] := (by decide +kernel : ∀ t : Fin grid0.N, _)
  funext j
  unfold iblk; rw [View.read_apply]
  refine (congrFun ((V_main_arg6 m c).trans h.a6) _).trans (congrArg (e) (funext fun k => Fin.ext ?_))
  match k with
  | ⟨0, _⟩ => blk_simp [i0]; try rfl
  | ⟨1, _⟩ => blk_simp [i0]; try rfl

theorem iblk7 (t : Fin cfg0.N) : iblk m c 7 t = ex p := by
  have i0 : ∀ t : Fin cfg0.N, win0_7.index t = ![0, 0, 0] := (by decide +kernel : ∀ t : Fin grid0.N, _)
  funext j
  unfold iblk; rw [View.read_apply]
  refine (congrFun (entry7 h) _).trans (congrArg (ex p) (funext fun k => Fin.ext ?_))
  match k with
  | ⟨0, _⟩ => blk_simp [i0]; try rfl
  | ⟨1, _⟩ => blk_simp [i0]; try rfl
  | ⟨2, _⟩ => blk_simp [i0]; try rfl

theorem iblk8 (t : Fin cfg0.N) : iblk m c 8 t = ex q := by
  have i0 : ∀ t : Fin cfg0.N, win0_8.index t = ![0, 0, 0] := (by decide +kernel : ∀ t : Fin grid0.N, _)
  funext j
  unfold iblk; rw [View.read_apply]
  refine (congrFun (entry8 h) _).trans (congrArg (ex q) (funext fun k => Fin.ext ?_))
  match k with
  | ⟨0, _⟩ => blk_simp [i0]; try rfl
  | ⟨1, _⟩ => blk_simp [i0]; try rfl
  | ⟨2, _⟩ => blk_simp [i0]; try rfl
/-- What the point leaves in each result's buffer. -/
theorem out9 (t : Fin cfg0.N) : (dats m 0 c).after 9 t = (val_main_v136 (F := Ideal) a b l r s d e p q) := by
  rw [after0_9, iblk0 h, iblk1 h, iblk2 h, iblk3 h, iblk4 h, iblk5 h, iblk6 h, iblk7 h, iblk8 h]
  unfold_out out0_9
  frame_out
  rw [pay3_eq, pay4_eq, pay6_eq, pay8_eq, pay11_eq, pay13_eq, pay14_eq, pay15_eq, pay16_eq, pay17_eq, pay19_eq, pay20_eq, pay27_eq, pay29_eq, pay30_eq, pay33_eq, pay34_eq, pay40_eq, pay46_eq, pay1_eq]

theorem out10 (t : Fin cfg0.N) : (dats m 0 c).after 10 t = (val_main_v128 (F := Ideal) a b l r s d e p q) := by
  rw [after0_10, iblk0 h, iblk1 h, iblk2 h, iblk3 h, iblk4 h, iblk5 h, iblk6 h, iblk7 h, iblk8 h]
  unfold_out out0_10
  frame_out
  rw [pay3_eq, pay4_eq, pay6_eq, pay9_eq, pay12_eq, pay13_eq, pay14_eq, pay15_eq, pay16_eq, pay17_eq, pay19_eq, pay20_eq, pay27_eq, pay29_eq, pay30_eq, pay32_eq, pay33_eq, pay43_eq]

theorem out11 (t : Fin cfg0.N) : (dats m 0 c).after 11 t = k0_pay2 (F := Ideal) (k0_pay5 (F := Ideal) (col l)) (val_main_v133 (F := Ideal) a b l r s d e p q) := by
  rw [after0_11, iblk0 h, iblk1 h, iblk2 h, iblk3 h, iblk4 h, iblk5 h, iblk6 h, iblk7 h, iblk8 h]
  unfold_out out0_11
  frame_out
  rw [pay3_eq, pay4_eq, pay6_eq, pay8_eq, pay9_eq, pay11_eq, pay12_eq, pay14_eq, pay27_eq, pay30_eq, pay33_eq, pay45_eq]

theorem out12 (t : Fin cfg0.N) : (dats m 0 c).after 12 t = ex (val_main_v69 (F := Ideal) a b l p q) := by
  rw [after0_12, iblk0 h, iblk1 h, iblk2 h, iblk3 h, iblk4 h, iblk5 h, iblk6 h, iblk7 h, iblk8 h]
  unfold_out out0_12
  frame_out
  rw [pay18_eq, pay21_eq, pay26_eq]

theorem out13 (t : Fin cfg0.N) : (dats m 0 c).after 13 t = ex (val_main_v62 (F := Ideal) a b l p q) := by
  rw [after0_13, iblk0 h, iblk1 h, iblk2 h, iblk3 h, iblk4 h, iblk5 h, iblk6 h, iblk7 h, iblk8 h]
  unfold_out out0_13
  frame_out
  rw [pay18_eq, pay21_eq, pay25_eq]

/-- The arrays at the end. -/
theorem arr9 : (dats m 0 c).arrAt 9 cfg0.N = (val_main_v136 (F := Ideal) a b l r s d e p q) := by
  refine (dats m 0 c).arrAt_eq_of_after_last 9 ⟨0, by decide⟩ (by decide +kernel) _ fun j => ?_
  blk_simp
  exact congrFun (out9 h ⟨0, by decide⟩) _

theorem arr10 : (dats m 0 c).arrAt 10 cfg0.N = (val_main_v128 (F := Ideal) a b l r s d e p q) := by
  refine (dats m 0 c).arrAt_eq_of_after_last 10 ⟨0, by decide⟩ (by decide +kernel) _ fun j => ?_
  blk_simp
  exact congrFun (out10 h ⟨0, by decide⟩) _

theorem arr11 : (dats m 0 c).arrAt 11 cfg0.N = k0_pay2 (F := Ideal) (k0_pay5 (F := Ideal) (col l)) (val_main_v133 (F := Ideal) a b l r s d e p q) := by
  refine (dats m 0 c).arrAt_eq_of_after_last 11 ⟨0, by decide⟩ (by decide +kernel) _ fun j => ?_
  blk_simp
  exact congrFun (out11 h ⟨0, by decide⟩) _

theorem arr12 : (dats m 0 c).arrAt 12 cfg0.N = ex (val_main_v69 (F := Ideal) a b l p q) := by
  refine (dats m 0 c).arrAt_eq_of_after_last 12 ⟨0, by decide⟩ (by decide +kernel) _ fun j => ?_
  blk_simp
  exact congrFun (out12 h ⟨0, by decide⟩) _

theorem arr13 : (dats m 0 c).arrAt 13 cfg0.N = ex (val_main_v62 (F := Ideal) a b l p q) := by
  refine (dats m 0 c).arrAt_eq_of_after_last 13 ⟨0, by decide⟩ (by decide +kernel) _ fun j => ?_
  blk_simp
  exact congrFun (out13 h ⟨0, by decide⟩) _

/-- The host's reshape and exchanges after the kernel. -/
theorem tail11 : Pipeline.afterTail₀ cfgs (dats m) 0 (V0 m) [hostOps1] c main_v6 = (val_main_v138 (F := Ideal) a b l r s d e p q) := by
  have k : Pipeline.withArrays (cfgs 0).spec c (V0 m c) (fun w => (dats m 0 c).arrAt w (cfgs 0).N) (Proc.devRef .tc main_v5_2) = _ :=
    (Pipeline.withArrays_arr spec0 winFacts0.arr_inj c (V0 m c) (fun w => (dats m 0 c).arrAt w (cfgs 0).N) 11).trans (arr11 h)
  unfold Pipeline.afterTail₀ hostOps1
  simp only [List.flatten_cons, List.flatten_nil, List.cons_append, List.nil_append, List.append_nil]
  after_results
  rw [k]
  exact pay2_eq _ _ _ _ _ _ _ _ _

theorem tail12 : Pipeline.afterTail₀ cfgs (dats m) 0 (V0 m) [hostOps1] c main_v7 = (val_main_v69 (F := Ideal) a b l p q) := by
  have k : Pipeline.withArrays (cfgs 0).spec c (V0 m c) (fun w => (dats m 0 c).arrAt w (cfgs 0).N) (Proc.devRef .tc main_v5_3) = _ :=
    (Pipeline.withArrays_arr spec0 winFacts0.arr_inj c (V0 m c) (fun w => (dats m 0 c).arrAt w (cfgs 0).N) 12).trans (arr12 h)
  unfold Pipeline.afterTail₀ hostOps1
  simp only [List.flatten_cons, List.flatten_nil, List.cons_append, List.nil_append, List.append_nil]
  after_results
  rw [k]
  exact exchange_exchange _ _ _ _ rfl

theorem tail13 : Pipeline.afterTail₀ cfgs (dats m) 0 (V0 m) [hostOps1] c main_v8 = (val_main_v62 (F := Ideal) a b l p q) := by
  have k : Pipeline.withArrays (cfgs 0).spec c (V0 m c) (fun w => (dats m 0 c).arrAt w (cfgs 0).N) (Proc.devRef .tc main_v5_4) = _ :=
    (Pipeline.withArrays_arr spec0 winFacts0.arr_inj c (V0 m c) (fun w => (dats m 0 c).arrAt w (cfgs 0).N) 13).trans (arr13 h)
  unfold Pipeline.afterTail₀ hostOps1
  simp only [List.flatten_cons, List.flatten_nil, List.cons_append, List.nil_append, List.append_nil]
  after_results
  rw [k]
  exact exchange_exchange _ _ _ _ rfl

end Cert.Params

end
-- ==== Proof.ParamsClaim.lean ====
/-
  The scan-parameter backward call: the kernel's five results are the reference's, whatever the arguments.
-/
module

public import proofs.«01_k».proof.Defs
public import proofs.«01_k».proof.Proof.ParamsRun
public import proofs.«01_k».proof.Proof.Gen.Kernel9
public import Idealize.ShloMosaic.Lib.Tactic

@[expose] public section

noncomputable section

namespace Cert.Params

open Idealize.ShloMosaic hiding ix1 ix2 ix3 eq_ix2 eq_ix3
open Idealize.SL.Sem Idealize.ShloMosaic.Tactic

/-- The reference leaves its arguments alone, and declares no semaphore. -/
theorem reference_frame : Cert.quiescent_Reference9Ideal := fun m ρ _ =>
  (θ_run Cert.Reference9Ideal.defs _ _).mono
    (fun r h => ⟨fun c => (h c).2.2.2.2.2, sem_eq_zero_of_no_sems (by decide) r.2⟩) (Reference9Ideal.Value.run (F := Ideal) m ρ)

/-- The kernel's frame at the machine's floats: the printed form differs only in its name. -/
theorem frame_kernel : Cert.quiescent_Kernel9 := fun m ρ _ => Eq.mp (by sl_kernel_rfl) (Kernel9Ideal.Gen.frame (F := Bits) m ρ)

/-- The threads of the kernel's launch. -/
abbrev T := Thread Kernel9Ideal.nD Kernel9Ideal.τ

theorem algebraic : Cert.algebraic_Kernel9Ideal_Reference9Ideal := by
  intro m ρ m' ρ' _ hagree
  have h (c : Dev Kernel9Ideal.nD) : Args m c _ _ _ _ _ _ _ _ _ := ⟨rfl, rfl, rfl, rfl, rfl, rfl, rfl, rfl, rfl⟩
  refine ⟨fun c => Reference9Ideal.Read.val_main_v136 (m ((c.tc : T).loc Kernel9Ideal.main_arg0)) (m ((c.tc : T).loc Kernel9Ideal.main_arg1)) (m ((c.tc : T).loc Kernel9Ideal.main_arg2)) (m ((c.tc : T).loc Kernel9Ideal.main_arg3))
      (m ((c.tc : T).loc Kernel9Ideal.main_arg4)) (m ((c.tc : T).loc Kernel9Ideal.main_arg5)) (m ((c.tc : T).loc Kernel9Ideal.main_arg6)) (m ((c.tc : T).loc Kernel9Ideal.main_arg7)) (m ((c.tc : T).loc Kernel9Ideal.main_arg8)),
    fun c => Reference9Ideal.Read.val_main_v128 (m ((c.tc : T).loc Kernel9Ideal.main_arg0)) (m ((c.tc : T).loc Kernel9Ideal.main_arg1)) (m ((c.tc : T).loc Kernel9Ideal.main_arg2)) (m ((c.tc : T).loc Kernel9Ideal.main_arg3))
      (m ((c.tc : T).loc Kernel9Ideal.main_arg4)) (m ((c.tc : T).loc Kernel9Ideal.main_arg5)) (m ((c.tc : T).loc Kernel9Ideal.main_arg6)) (m ((c.tc : T).loc Kernel9Ideal.main_arg7)) (m ((c.tc : T).loc Kernel9Ideal.main_arg8)),
    fun c => Reference9Ideal.Read.val_main_v138 (m ((c.tc : T).loc Kernel9Ideal.main_arg0)) (m ((c.tc : T).loc Kernel9Ideal.main_arg1)) (m ((c.tc : T).loc Kernel9Ideal.main_arg2)) (m ((c.tc : T).loc Kernel9Ideal.main_arg3))
      (m ((c.tc : T).loc Kernel9Ideal.main_arg4)) (m ((c.tc : T).loc Kernel9Ideal.main_arg5)) (m ((c.tc : T).loc Kernel9Ideal.main_arg6)) (m ((c.tc : T).loc Kernel9Ideal.main_arg7)) (m ((c.tc : T).loc Kernel9Ideal.main_arg8)),
    fun c => Reference9Ideal.Read.val_main_v69 (m ((c.tc : T).loc Kernel9Ideal.main_arg0)) (m ((c.tc : T).loc Kernel9Ideal.main_arg1)) (m ((c.tc : T).loc Kernel9Ideal.main_arg2)) (m ((c.tc : T).loc Kernel9Ideal.main_arg7)) (m ((c.tc : T).loc Kernel9Ideal.main_arg8)),
    fun c => Reference9Ideal.Read.val_main_v62 (m ((c.tc : T).loc Kernel9Ideal.main_arg0)) (m ((c.tc : T).loc Kernel9Ideal.main_arg1)) (m ((c.tc : T).loc Kernel9Ideal.main_arg2)) (m ((c.tc : T).loc Kernel9Ideal.main_arg7)) (m ((c.tc : T).loc Kernel9Ideal.main_arg8)),
    θ_run_mono (θ_run_and (Kernel9Ideal.Gen.run_main m ρ) (Kernel9Ideal.Gen.unchanged m ρ)) ?_, ?_⟩
  · rintro r ⟨hr, hu⟩ c
    exact ⟨(hr.out_eq c 9).trans (arr9 (h c)), (hr.out_eq c 10).trans (arr10 (h c)), (hr.rest_eq c _ (by decide)).trans (tail11 (h c)),
      (hr.rest_eq c _ (by decide)).trans (tail12 (h c)), (hr.rest_eq c _ (by decide)).trans (tail13 (h c)), hu c⟩
  · refine θ_run_mono (Reference9Ideal.Value.run (F := Ideal) m' ρ') ?_
    intro r hr c
    obtain ⟨h0, h1, h2, h3, h4, hu⟩ := hr c
    obtain ⟨e0, e1, e2, e3, e4, e5, e6, e7, e8⟩ := hagree c
    refine ⟨h0.trans ?_, h1.trans ?_, h2.trans ?_, h3.trans ?_, h4.trans ?_, hu⟩
    · rw [Reference9Ideal.Read.val_main_v136_eq, e0, e1, e2, e3, e4, e5, e6, e7, e8]
    · rw [Reference9Ideal.Read.val_main_v128_eq, e0, e1, e2, e3, e4, e5, e6, e7, e8]
    · rw [Reference9Ideal.Read.val_main_v138_eq, e0, e1, e2, e3, e4, e5, e6, e7, e8]
    · rw [Reference9Ideal.Read.val_main_v69_eq, e0, e1, e2, e7, e8]
    · rw [Reference9Ideal.Read.val_main_v62_eq, e0, e1, e2, e7, e8]

end Cert.Params

end
-- ==== Proof.ProjectReference.lean ====
/-
  The mixer's entry in the forward pass: the real functions, and what the reference's host lines hold on real arguments.
-/
module

public import proofs.«01_k».proof.Proof.LossReference
public import proofs.«01_k».proof.Proof.MixReference
public import proofs.«01_k».proof.Proof.Gen.Reference10Ideal.Read

@[expose] public section

noncomputable section

namespace Cert.Project

open Idealize.ShloMosaic hiding ix1 ix2 eq_ix2 sum_idx2
open Idealize.ShloMosaic.ValueIdx
open Cert.Reals Cert.Mix
open Cert.Loss (z)
open scoped BigOperators

/-- One row normed by its root mean square and scaled. -/
def nrm (x g : Fin 1024 → ℝ) (c : Fin 1024) : ℝ := x c * rms x * g c

/-- One row projected into the mixer's two branches. -/
def proj (h : Fin 1024 → ℝ) (P : Fin 1024 → Fin 1536 → ℝ) (k : Fin 1536) : ℝ := ∑ j, h j * P j k

/-- The first 512 columns of a matrix, and the 1024 after them. -/
theorem slice_fst {m : ℕ} (f : Fin m → Fin 1536 → ℝ) (h) :
    extractStridedSlice (⟨2, ![m, 512]⟩ : Shape) ![0, 0] (re2 f) h = re2 fun r k => f r (fst k) := by
  funext i
  refine congrArg₂ (fun p q => ((f p q : ℝ) : EReal)) (Fin.ext ?_) (Fin.ext ?_)
  · exact Nat.zero_add _
  · exact Nat.zero_add _
theorem slice_snd {m : ℕ} (f : Fin m → Fin 1536 → ℝ) (h) :
    extractStridedSlice (⟨2, ![m, 1024]⟩ : Shape) ![0, 512] (re2 f) h = re2 fun r k => f r (snd k) := by
  funext i
  refine congrArg₂ (fun p q => ((f p q : ℝ) : EReal)) (Fin.ext ?_) (Fin.ext ?_)
  · exact Nat.zero_add _
  · rfl

namespace Reference

open Cert.Reference10Ideal Cert.Reference10Ideal.Read

variable (X : Fin 4096 → Fin 1024 → ℝ) (A : Fin 4096 → Fin 2816 → ℝ) (W : Fin 2816 → Fin 1024 → ℝ) (g : Fin 1024 → ℝ)
  (P : Fin 1024 → Fin 1536 → ℝ)

theorem v3_re : val_main_v3 (F := Ideal) (re2 X) (re2 A) (re2 W) = re2 fun r => z (X r) (A r) W := by
  unfold val_main_v3 val_main_v2 val_main_v1 val_main_cst val_main_v0
  rw [show Host.dotGeneral (F := Ideal) (φ₁ := .f32) (φ₂ := .f32) dot_S4096x2816_S2816x1024_S4096x1024_1_0_0_1_n_n none (re2 A) (re2 W) = _
    from hostNN none _ _ _, hostConst2 Read.ofBits_half, mul2, add2]; rfl

theorem v10_re : val_main_v10 (F := Ideal) (re2 X) (re2 A) (re2 W) = re2 fun r _ => msq (z (X r) (A r) W) := by
  unfold val_main_v10 val_main_v9 val_main_cst_2 val_main_v8 val_main_v7 val_main_cst_1 val_main_v6 val_main_v5 val_main_cst_0 val_main_v4
  rw [v3_re, mul2, hostSumCols _ _ (by decide), hostCols, hostConst2 ofBits_1024, hostDiv1024, hostConst2 ofBits_eps, add2]; rfl

theorem v15_re : val_main_v15 (F := Ideal) (re2 X) (re2 A) (re2 W) (row g) = re2 fun r => nrm (z (X r) (A r) W) g := by
  unfold val_main_v15 val_main_v14 val_main_v13 val_main_v12 val_main_v11
  rw [v10_re, v3_re, hostRsqrt_msq, hostBcastCol, mul2, hostBcast2, mul2]; rfl

theorem v16_re : val_main_v16 (F := Ideal) (re2 X) (re2 A) (re2 W) (row g) (re2 P) = re2 fun r => proj (nrm (z (X r) (A r) W) g) P := by
  unfold val_main_v16
  rw [v15_re]
  exact hostNN none _ _ _

theorem v17_re : val_main_v17 (F := Ideal) (re2 X) (re2 A) (re2 W) (row g) (re2 P) = re2 fun r k => proj (nrm (z (X r) (A r) W) g) P (fst k) := by
  unfold val_main_v17
  rw [v16_re]
  exact slice_fst _ _

theorem v18_re : val_main_v18 (F := Ideal) (re2 X) (re2 A) (re2 W) (row g) (re2 P) = re2 fun r k => proj (nrm (z (X r) (A r) W) g) P (snd k) := by
  unfold val_main_v18
  rw [v16_re]
  exact slice_snd _ _

end Reference

end Cert.Project

end
-- ==== Proof.ProjectKernel.lean ====
/-
  The mixer's entry kernel over its eight blocks of 512 rows: what its payloads compute of a block, the input blocks each
  point reads, and what its four arrays hold at the end.
-/
module

public import proofs.«01_k».proof.Proof.ProjectReference
public import proofs.«01_k».proof.Proof.Gen.Kernel10Ideal.Frame
public import Idealize.ShloMosaic.Lib.Pipeline.ValueKit

@[expose] public section

noncomputable section

namespace Cert.Project.Kernel

open Idealize.ShloMosaic hiding ix1 ix2 ix3 eq_ix2 eq_ix3
open Idealize.ShloMosaic.ValueIdx
open Cert.Kernel10Ideal Cert.Kernel10Ideal.Gen Cert.Reals Cert.Mix
open Cert.Loss (z)
open scoped BigOperators

section Payloads

variable (X : Fin 512 → Fin 1024 → ℝ) (A : Fin 512 → Fin 2816 → ℝ) (W : Fin 2816 → Fin 1024 → ℝ) (g : Fin 1024 → ℝ)
  (P : Fin 1024 → Fin 1536 → ℝ)

theorem nn (f : Fin 512 → Fin 2816 → ℝ) (h : Fin 2816 → Fin 1024 → ℝ) :
    matmul (F := Ideal) (φ₁ := .bf16) (φ₂ := .bf16) dot_S512x2816_S2816x1024_S512x1024_1_0_0_1_n_n none
      (re2 f) (re2 h) (constant S512x1024 .f32 0x00000000#32) = re2 fun r c => ∑ k, f r k * h k c := matmulNN none _ _ _

theorem nt (f : Fin 512 → Fin 1024 → ℝ) (h : Fin 1536 → Fin 1024 → ℝ) :
    matmul (F := Ideal) (φ₁ := .bf16) (φ₂ := .bf16) dot_S512x1024_S1536x1024_S512x1536_1_1_0_0_n_n none
      (re2 f) (re2 h) (constant S512x1536 .f32 0x00000000#32) = re2 fun r c => ∑ k, f r k * h c k := matmulNT none _ _ _

theorem pay1_re : k0_pay1 (F := Ideal) (re2 X) (re2 A) (re2 W) = re2 fun r => z (X r) (A r) W := by
  unfold k0_pay1; dsimp only
  rw [shapeCast_self, shapeCast_self, nn, const2 Read.ofBits_half, mul2, add2]; rfl

theorem pay2_re : k0_pay2 (F := Ideal) (re2 X) (re2 A) (re2 W) (row g) = re2 fun r => nrm (z (X r) (A r) W) g := by
  unfold k0_pay2; dsimp only
  rw [pay1_re, mul2, sumCols, colCast, const2 ofBits_1024, const2 ofBits_eps, div1024, add2,
    show rsqrt (F := Ideal) (φ := .f32) (re2 fun (r : Fin 512) (_ : Fin 1) => (∑ c, z (X r) (A r) W c * z (X r) (A r) W c) / 1024 + eps) = _
      from rsqrt_msq fun r => z (X r) (A r) W, bcastCol, mul2, bcast2, mul2]; rfl

theorem pay3_re : k0_pay3 (F := Ideal) (re2 X) (re2 A) (re2 W) (row g) (re2 fun k j => P j k) = re2 fun r => proj (nrm (z (X r) (A r) W) g) P := by
  unfold k0_pay3; dsimp only
  rw [pay2_re, shapeCast_self, nt]; rfl

theorem pay4_re : k0_pay4 (F := Ideal) (re2 X) (re2 A) (re2 W) (row g) (re2 fun k j => P j k)
    = re2 fun r k => proj (nrm (z (X r) (A r) W) g) P (fst k) := by
  unfold k0_pay4; dsimp only
  rw [pay3_re]
  exact slice_fst _ _

theorem pay5_re : k0_pay5 (F := Ideal) (re2 X) (re2 A) (re2 W) (row g) (re2 fun k j => P j k)
    = re2 fun r k => proj (nrm (z (X r) (A r) W) g) P (snd k) := by
  unfold k0_pay5; dsimp only
  rw [pay3_re]
  exact slice_snd _ _

end Payloads

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (X : Fin 4096 → Fin 1024 → ℝ) (A : Fin 4096 → Fin 2816 → ℝ)
  (W : Fin 2816 → Fin 1024 → ℝ) (g : Fin 1024 → ℝ) (P : Fin 1024 → Fin 1536 → ℝ)

/-- The region's input arrays are these reals. -/
structure Inputs : Prop where
  hX : V m c main_arg0 = re2 X
  hA : V m c main_v0 = re2 A
  hW : V m c main_v1 = re2 W
  hg : V m c main_arg3 = row g
  hP : V m c main_v3 = re2 fun k j => P j k

variable {m c X A W g P}

/-- The region's input arrays, as the host prepares them. -/
theorem inputs (h0 : m ((c.tc : Thread nD τ).loc main_arg0) = re2 X) (h1 : m ((c.tc : Thread nD τ).loc main_arg1) = re2 A)
    (h2 : m ((c.tc : Thread nD τ).loc main_arg2) = re2 W) (h3 : m ((c.tc : Thread nD τ).loc main_arg3) = row g)
    (h4 : m ((c.tc : Thread nD τ).loc main_arg4) = re2 P) : Inputs m c X A W g P := by
  refine ⟨(V_main_arg0 m c).trans h0, ?_, ?_, (V_main_arg3 m c).trans h3, ?_⟩
  · unfold V V0 hostOps0
    simp only [List.flatten_cons, List.flatten_nil, List.cons_append, List.nil_append, List.append_nil]
    after_results
    exact congrArg (truncf (F := Ideal) .bf16 · _) h1
  · unfold V V0 hostOps0
    simp only [List.flatten_cons, List.flatten_nil, List.cons_append, List.nil_append, List.append_nil]
    after_results
    exact congrArg (truncf (F := Ideal) .bf16 · _) h2
  · unfold V V0 hostOps0
    simp only [List.flatten_cons, List.flatten_nil, List.cons_append, List.nil_append, List.append_nil]
    after_results
    exact (congrArg (transpose S1536x1024 [1, 0] · _) h4).trans (transpose2 P _)

variable (hin : Inputs m c X A W g P)
include hin

theorem iblk0 (t : Fin cfg0.N) : iblk m c 0 t = re2 fun r => X (brow t r) := by
  have e : ∀ t : Fin cfg0.N, win0_0.index t = ![t.val, 0] := (by decide +kernel : ∀ t : Fin grid0.N, _)
  funext i
  unfold iblk; rw [View.read_apply]
  refine (congrFun hin.hX _).trans ?_
  refine congrArg₂ (fun p q => ((X p q : ℝ) : EReal)) (Fin.ext ?_) (Fin.ext ?_) <;> dsimp only [ax0, ax1, brow] <;> blk_simp [e] <;> rfl

theorem iblk1 (t : Fin cfg0.N) : iblk m c 1 t = re2 fun r => A (brow t r) := by
  have e : ∀ t : Fin cfg0.N, win0_1.index t = ![t.val, 0] := (by decide +kernel : ∀ t : Fin grid0.N, _)
  funext i
  unfold iblk; rw [View.read_apply]
  refine (congrFun hin.hA _).trans ?_
  refine congrArg₂ (fun p q => ((A p q : ℝ) : EReal)) (Fin.ext ?_) (Fin.ext ?_) <;> dsimp only [ax0, ax1, brow] <;> blk_simp [e] <;> rfl

theorem iblk2 (t : Fin cfg0.N) : iblk m c 2 t = re2 W := by
  have e : ∀ t : Fin cfg0.N, win0_2.index t = ![0, 0] := (by decide +kernel : ∀ t : Fin grid0.N, _)
  funext i
  unfold iblk; rw [View.read_apply]
  refine (congrFun hin.hW _).trans ?_
  refine congrArg₂ (fun p q => ((W p q : ℝ) : EReal)) (Fin.ext ?_) (Fin.ext ?_) <;> dsimp only [ax0, ax1] <;> blk_simp [e] <;> rfl

theorem iblk3 (t : Fin cfg0.N) : iblk m c 3 t = row g := by
  have e : ∀ t : Fin cfg0.N, win0_3.index t = ![0, 0] := (by decide +kernel : ∀ t : Fin grid0.N, _)
  funext i
  unfold iblk; rw [View.read_apply]
  refine (congrFun hin.hg _).trans ?_
  refine congrArg (fun p => ((g p : ℝ) : EReal)) (Fin.ext ?_) <;> dsimp only [ax0, ax1] <;> blk_simp [e] <;> rfl

theorem iblk4 (t : Fin cfg0.N) : iblk m c 4 t = re2 fun k j => P j k := by
  have e : ∀ t : Fin cfg0.N, win0_4.index t = ![0, 0] := (by decide +kernel : ∀ t : Fin grid0.N, _)
  funext i
  unfold iblk; rw [View.read_apply]
  refine (congrFun hin.hP _).trans ?_
  refine congrArg₂ (fun p q => ((P q p : ℝ) : EReal)) (Fin.ext ?_) (Fin.ext ?_) <;> dsimp only [ax0, ax1] <;> blk_simp [e] <;> rfl

theorem arr5 : (dats m 0 c).arrAt 5 cfg0.N = re2 fun r => z (X r) (A r) W := by
  have e : ∀ t : Fin cfg0.N, win0_5.index t = ![t.val, 0] := (by decide +kernel : ∀ t : Fin grid0.N, _)
  refine (dats m 0 c).arrAt_eq_of_covers 5 _ (by decide +kernel) fun t _ y => ?_
  blk_simp
  rw [after0_5, iblk0 hin, iblk1 hin, iblk2 hin, iblk3 hin, iblk4 hin]; unfold out0_5; frame_out
  refine (congrFun (pay1_re _ _ _) _).trans ?_
  refine congrArg₂ (fun p q => ((z (X p) (A p) W q : ℝ) : EReal)) (Fin.ext ?_) (Fin.ext ?_) <;> dsimp only [ax0, ax1, brow] <;> blk_simp [e] <;> rfl

theorem arr6 : (dats m 0 c).arrAt 6 cfg0.N = re2 fun r => nrm (z (X r) (A r) W) g := by
  have e : ∀ t : Fin cfg0.N, win0_6.index t = ![t.val, 0] := (by decide +kernel : ∀ t : Fin grid0.N, _)
  refine (dats m 0 c).arrAt_eq_of_covers 6 _ (by decide +kernel) fun t _ y => ?_
  blk_simp
  rw [after0_6, iblk0 hin, iblk1 hin, iblk2 hin, iblk3 hin, iblk4 hin]; unfold out0_6; frame_out
  refine (congrFun (pay2_re _ _ _ _) _).trans ?_
  refine congrArg₂ (fun p q => ((nrm (z (X p) (A p) W) g q : ℝ) : EReal)) (Fin.ext ?_) (Fin.ext ?_) <;> dsimp only [ax0, ax1, brow] <;> blk_simp [e] <;> rfl

theorem arr7 : (dats m 0 c).arrAt 7 cfg0.N = re2 fun r k => proj (nrm (z (X r) (A r) W) g) P (fst k) := by
  have e : ∀ t : Fin cfg0.N, win0_7.index t = ![t.val, 0] := (by decide +kernel : ∀ t : Fin grid0.N, _)
  refine (dats m 0 c).arrAt_eq_of_covers 7 _ (by decide +kernel) fun t _ y => ?_
  blk_simp
  rw [after0_7, iblk0 hin, iblk1 hin, iblk2 hin, iblk3 hin, iblk4 hin]; unfold out0_7; frame_out
  refine (congrFun (pay4_re _ _ _ _ _) _).trans ?_
  refine congrArg₂ (fun p q => ((proj (nrm (z (X p) (A p) W) g) P (fst q) : ℝ) : EReal)) (Fin.ext ?_) (Fin.ext ?_) <;> dsimp only [ax0, ax1, brow] <;> blk_simp [e] <;> rfl

theorem arr8 : (dats m 0 c).arrAt 8 cfg0.N = re2 fun r k => proj (nrm (z (X r) (A r) W) g) P (snd k) := by
  have e : ∀ t : Fin cfg0.N, win0_8.index t = ![t.val, 0] := (by decide +kernel : ∀ t : Fin grid0.N, _)
  refine (dats m 0 c).arrAt_eq_of_covers 8 _ (by decide +kernel) fun t _ y => ?_
  blk_simp
  rw [after0_8, iblk0 hin, iblk1 hin, iblk2 hin, iblk3 hin, iblk4 hin]; unfold out0_8; frame_out
  refine (congrFun (pay5_re _ _ _ _ _) _).trans ?_
  refine congrArg₂ (fun p q => ((proj (nrm (z (X p) (A p) W) g) P (snd q) : ℝ) : EReal)) (Fin.ext ?_) (Fin.ext ?_) <;> dsimp only [ax0, ax1, brow] <;> blk_simp [e] <;> rfl

/-- The host widens the normed rows. -/
theorem tail5 : Pipeline.afterTail₀ cfgs (dats m) 0 (V0 m) [hostOps1] c main_v5 = re2 fun r => nrm (z (X r) (A r) W) g := by
  have e : Pipeline.withArrays (cfgs 0).spec c (V0 m c) (fun w => (dats m 0 c).arrAt w (cfgs 0).N) (Proc.devRef .tc main_v4_1) = _ :=
    (Pipeline.withArrays_arr spec0 winFacts0.arr_inj c (V0 m c) (fun w => (dats m 0 c).arrAt w (cfgs 0).N) 6).trans (arr6 hin)
  unfold Pipeline.afterTail₀ hostOps1
  simp only [List.flatten_cons, List.flatten_nil, List.cons_append, List.nil_append, List.append_nil]
  after_results
  rw [e]; rfl

end Cert.Project.Kernel

end
-- ==== Proof.ProjectClaim.lean ====
/-
  The mixer's entry call: the kernel's rows, normed rows and two branches are the reference's, on finite arguments.
-/
module

public import proofs.«01_k».proof.Defs
public import proofs.«01_k».proof.Proof.ProjectKernel
public import proofs.«01_k».proof.Proof.HostReals
public import proofs.«01_k».proof.Proof.Gen.Kernel10
public import proofs.«01_k».proof.Proof.Gen.Pre_mix_project_finite
public import Idealize.ShloMosaic.Lib.Tactic

@[expose] public section

noncomputable section

namespace Cert.Project

open Idealize.ShloMosaic hiding ix1 ix2 ix3 eq_ix2 eq_ix3
open Idealize.ShloMosaic.ValueIdx
open Idealize.SL.Sem Idealize.ShloMosaic.Tactic Cert.Reals Cert.Mix
open Cert.Loss (z)

section Kernel

open Cert.Kernel10Ideal Cert.Kernel10Ideal.Gen

variable (m : (ℓ : Loc nD τ sig) → Buf (Elt Ideal) ℓ)

/-- The arguments of every device are reals. -/
structure Args (X : Dev nD → Fin 4096 → Fin 1024 → ℝ) (A : Dev nD → Fin 4096 → Fin 2816 → ℝ) (W : Dev nD → Fin 2816 → Fin 1024 → ℝ)
    (g : Dev nD → Fin 1024 → ℝ) (P : Dev nD → Fin 1024 → Fin 1536 → ℝ) : Prop where
  a0 (c : Dev nD) : m ((c.tc : Thread nD τ).loc main_arg0) = re2 (X c)
  a1 (c : Dev nD) : m ((c.tc : Thread nD τ).loc main_arg1) = re2 (A c)
  a2 (c : Dev nD) : m ((c.tc : Thread nD τ).loc main_arg2) = re2 (W c)
  a3 (c : Dev nD) : m ((c.tc : Thread nD τ).loc main_arg3) = row (g c)
  a4 (c : Dev nD) : m ((c.tc : Thread nD τ).loc main_arg4) = re2 (P c)

theorem exists_args (h : Pre_Kernel10Ideal_mix_project_finite m) : ∃ X A W g P, Args m X A W g P := by
  choose X h0 using fun c : Dev nD => exists_re2 (m ((c.tc : Thread nD τ).loc main_arg0)) _ (h c).1
  choose A h1 using fun c : Dev nD => exists_re2 (m ((c.tc : Thread nD τ).loc main_arg1)) _ (h c).2.1
  choose W h2 using fun c : Dev nD => exists_re2 (m ((c.tc : Thread nD τ).loc main_arg2)) _ (h c).2.2.1
  choose g h3 using fun c : Dev nD => exists_row (m ((c.tc : Thread nD τ).loc main_arg3)) _ (h c).2.2.2.1
  choose P h4 using fun c : Dev nD => exists_re2 (m ((c.tc : Thread nD τ).loc main_arg4)) _ (h c).2.2.2.2
  exact ⟨X, A, W, g, P, ⟨h0, h1, h2, h3, h4⟩⟩

end Kernel

/-- The reference leaves its arguments alone, and declares no semaphore. -/
theorem reference_frame : Cert.quiescent_Reference10Ideal := fun m ρ _ =>
  (θ_run Cert.Reference10Ideal.defs _ _).mono
    (fun r h => ⟨fun c => (h c).2.2.2.2, sem_eq_zero_of_no_sems (by decide) r.2⟩) (Reference10Ideal.Value.run (F := Ideal) m ρ)

/-- The kernel's frame at the machine's floats: the printed form differs only in its name. -/
theorem frame_kernel : Cert.quiescent_Kernel10 := fun m ρ _ => Eq.mp (by sl_kernel_rfl) (Kernel10Ideal.Gen.frame (F := Bits) m ρ)

theorem algebraic : Cert.algebraic_Kernel10Ideal_Reference10Ideal_pre_mix_project_finite := by
  intro m ρ m' ρ' hpre hagree
  obtain ⟨X, A, W, g, P, h⟩ := exists_args m hpre
  refine ⟨fun c => re2 fun r => z (X c r) (A c r) (W c), fun c => re2 fun r => nrm (z (X c r) (A c r) (W c)) (g c),
    fun c => re2 fun r k => proj (nrm (z (X c r) (A c r) (W c)) (g c)) (P c) (fst k),
    fun c => re2 fun r k => proj (nrm (z (X c r) (A c r) (W c)) (g c)) (P c) (snd k), ?_, ?_⟩
  · refine θ_run_mono (θ_run_and (Kernel10Ideal.Gen.run_main m ρ) (Kernel10Ideal.Gen.unchanged m ρ)) ?_
    rintro r ⟨hr, hu⟩ c
    have hin := Kernel.inputs (h.a0 c) (h.a1 c) (h.a2 c) (h.a3 c) (h.a4 c)
    exact ⟨(hr.out_eq c 5).trans (Kernel.arr5 hin), (hr.rest_eq c _ (by decide)).trans (Kernel.tail5 hin),
      (hr.out_eq c 7).trans (Kernel.arr7 hin), (hr.out_eq c 8).trans (Kernel.arr8 hin), hu c⟩
  · refine θ_run_mono (Reference10Ideal.Value.run (F := Ideal) m' ρ') ?_
    intro r hr c
    obtain ⟨h0, h1, h2, h3, hu⟩ := hr c
    obtain ⟨e0, e1, e2, e3, e4⟩ := hagree c
    rw [h.a0 c] at e0
    rw [h.a1 c] at e1
    rw [h.a2 c] at e2
    rw [h.a3 c] at e3
    rw [h.a4 c] at e4
    refine ⟨h0.trans ?_, h1.trans ?_, h2.trans ?_, h3.trans ?_, hu⟩
    · rw [Reference10Ideal.Read.val_main_v3_eq, e0, e1, e2]
      exact Reference.v3_re _ _ _
    · rw [Reference10Ideal.Read.val_main_v15_eq, e0, e1, e2, e3]
      exact Reference.v15_re _ _ _ _
    · rw [Reference10Ideal.Read.val_main_v17_eq, e0, e1, e2, e3, e4]
      exact Reference.v17_re _ _ _ _ _
    · rw [Reference10Ideal.Read.val_main_v18_eq, e0, e1, e2, e3, e4]
      exact Reference.v18_re _ _ _ _ _

end Cert.Project

end
-- ==== Proof.GateReference.lean ====
/-
  The S5 mixer's read-out in the forward pass: the gated row, and what the reference's host lines hold on real arguments.
-/
module

public import proofs.«01_k».proof.Proof.ReadMath
public import proofs.«01_k».proof.Proof.Gen.Reference11Ideal.Read

@[expose] public section

noncomputable section

namespace Cert.Read

open Idealize.ShloMosaic hiding ix1 ix2
open Idealize.ShloMosaic.ValueIdx
open Cert.Reals
open scoped BigOperators

/-- The read-out's row: the gelu times its gate. -/
def read (y u d : Fin 512 → ℝ) (W : Fin 512 → Fin 512 → ℝ) (b : Fin 512 → ℝ) (c : Fin 512) : ℝ := ge y u d c * gate y u d W b c

namespace Forward

open Cert.Reference11Ideal Cert.Reference11Ideal.Read

variable (Y U : Fin 4096 → Fin 512 → ℝ) (d : Fin 512 → ℝ) (W : Fin 512 → Fin 512 → ℝ) (b : Fin 512 → ℝ)

theorem v0_re : val_main_v0 (F := Ideal) (row d) = re2 fun _ c => d c := hostBcast2 d _
theorem v17_re : val_main_v17 (F := Ideal) (row b) = re2 fun _ c => b c := hostBcast2 b _

theorem v2_re : val_main_v2 (F := Ideal) (re2 Y) (re2 U) (row d) = re2 fun r c => pre (Y r) (U r) d c := by
  simp only [val_main_v2, val_main_v1, v0_re, mul2, add2]; rfl

theorem v10_re : val_main_v10 (F := Ideal) (re2 Y) (re2 U) (row d) = re2 fun r c => th (pre (Y r) (U r) d c) := by
  simp only [val_main_v10, val_main_v9, val_main_v8, val_main_v7, val_main_v6, val_main_v5, val_main_v4, val_main_v3, val_main_cst,
    val_main_cst_0, v2_re, hostConst2 ofBits_gk, hostConst2 ofBits_gc, mul2, add2, hostTanh2]
  exact re2_congr fun r c => by rw [th, pow_succ, pow_two]

theorem v15_re : val_main_v15 (F := Ideal) (re2 Y) (re2 U) (row d) = re2 fun r c => ge (Y r) (U r) d c := by
  simp only [val_main_v15, val_main_v14, val_main_v13, val_main_v12, val_main_v11, val_main_cst_1, val_main_cst_2, v2_re, v10_re,
    hostConst2 ofBits_half, hostConst2 ofBits_one, mul2, add2]
  exact re2_congr fun r c => by rw [ge, gelu]; ring

theorem v24_re : val_main_v24 (F := Ideal) (re2 Y) (re2 U) (row d) (re2 W) (row b) = re2 fun r c => gate (Y r) (U r) d W b c := by
  simp only [val_main_v24, val_main_v23, val_main_v22, val_main_v21, val_main_v20, val_main_v19, val_main_v18, v17_re, val_main_v16,
    val_main_cst_3, val_main_cst_4, v15_re, hostConst2 ofBits_one]
  rw [show Host.dotGeneral (F := Ideal) dot_S4096x512_S512x512_S4096x512_1_0_0_1_n_n none (re2 fun r c => ge (Y r) (U r) d c) (re2 W) = _ from hostNN none _ _ _]
  simp only [add2, hostNeg2, hostExp2, hostSg2]; rfl

theorem v25_re : val_main_v25 (F := Ideal) (re2 Y) (re2 U) (row d) (re2 W) (row b) = re2 fun r => read (Y r) (U r) d W b := by
  simp only [val_main_v25, v15_re, v24_re, mul2]; rfl

end Forward

end Cert.Read

end
-- ==== Proof.GateKernel.lean ====
/-
  The S5 read-out's forward kernel over its eight blocks of 512 rows, between the host's change to the order of segments
  and back.
-/
module

public import proofs.«01_k».proof.Proof.GateReference
public import proofs.«01_k».proof.Proof.Segments
public import proofs.«01_k».proof.Proof.Gen.Kernel11Ideal.Frame
public import Idealize.ShloMosaic.Lib.Pipeline.ValueKit

@[expose] public section

noncomputable section

namespace Cert.Read.Forward.Kernel

open Idealize.ShloMosaic hiding ix1 ix2 ix3 eq_ix2 eq_ix3
open Idealize.ShloMosaic.ValueIdx
open Cert.Kernel11Ideal Cert.Kernel11Ideal.Gen Cert.Reals
open scoped BigOperators

theorem nn (f g : Fin 512 → Fin 512 → ℝ) : matmul (F := Ideal) (φ₁ := .bf16) (φ₂ := .bf16) dot_S512x512_S512x512_S512x512_1_0_0_1_n_n none
    (re2 f) (re2 g) (constant S512x512 .f32 0x00000000#32) = re2 fun r c => ∑ k, f r k * g k c := matmulNN none _ _ _

/-- What a point computes of its block. -/
theorem pay1_re (Y U : Fin 512 → Fin 512 → ℝ) (d : Fin 512 → ℝ) (W : Fin 512 → Fin 512 → ℝ) (b : Fin 512 → ℝ) :
    k0_pay1 (F := Ideal) (re2 Y) (row d) (re2 U) (re2 W) (row b) = re2 fun r => read (Y r) (U r) d W b := by
  unfold k0_pay1; dsimp only
  rw [shapeCast_self, shapeCast_self, shapeCast_self, bcast2, mul2, add2, const2 ofBits_half, const2 ofBits_gc, const2 ofBits_gk, const2 ofBits_one, const2 ofBits_zero]
  simp only [mul2, add2, tanh2]
  rw [trunc2, nn, bcast2, add2, sub2, exp2, add2, sg2, mul2, trunc2]
  have k (x : ℝ) : 1 / 2 * x * (1 + Real.tanh (gk * (x + gc * x * x * x))) = gelu x := by rw [gelu, th]; ring_nf
  simp only [k]; rfl

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (Y U : Fin 4096 → Fin 512 → ℝ) (d : Fin 512 → ℝ)
  (W : Fin 512 → Fin 512 → ℝ) (b : Fin 512 → ℝ)

/-- The region's input arrays are these reals. -/
structure Inputs : Prop where
  hY : V m c main_v2 = re2 fun r => Y (seg r)
  hU : V m c main_v5 = re2 fun r => U (seg r)
  hd : V m c main_arg2 = row d
  hW : V m c main_v6 = re2 W
  hb : V m c main_arg4 = row b

variable {m c Y U d W b}

/-- The region's input arrays, as the host prepares them. -/
theorem inputs (h0 : m ((c.tc : Thread nD τ).loc main_arg0) = re2 Y) (h1 : m ((c.tc : Thread nD τ).loc main_arg1) = re2 U)
    (h2 : m ((c.tc : Thread nD τ).loc main_arg2) = row d) (h3 : m ((c.tc : Thread nD τ).loc main_arg3) = re2 W)
    (h4 : m ((c.tc : Thread nD τ).loc main_arg4) = row b) : Inputs m c Y U d W b := by
  refine ⟨?_, ?_, (V_main_arg2 m c).trans h2, ?_, (V_main_arg4 m c).trans h4⟩
  · unfold V V0 hostOps0
    simp only [List.flatten_cons, List.flatten_nil, List.cons_append, List.nil_append, List.append_nil]
    after_results
    refine Eq.trans ?_ (regroup (a := 8) (b := 512) Y rfl seg (fun _ => rfl) shapeCasts_S4096x512_S8x512x512 transposes_S8x512x512_S512x8x512_1_0_2 shapeCasts_S512x8x512_S4096x512)
    rw [← h0]; rfl
  · unfold V V0 hostOps0
    simp only [List.flatten_cons, List.flatten_nil, List.cons_append, List.nil_append, List.append_nil]
    after_results
    refine Eq.trans ?_ (regroup (a := 8) (b := 512) U rfl seg (fun _ => rfl) shapeCasts_S4096x512_S8x512x512 transposes_S8x512x512_S512x8x512_1_0_2 shapeCasts_S512x8x512_S4096x512)
    rw [← h1]; rfl
  · unfold V V0 hostOps0
    simp only [List.flatten_cons, List.flatten_nil, List.cons_append, List.nil_append, List.append_nil]
    after_results
    exact congrArg (truncf (F := Ideal) .bf16 · _) h3

variable (hin : Inputs m c Y U d W b)
include hin

theorem iblk0 (t : Fin cfg0.N) : iblk m c 0 t = re2 fun r => Y (seg (brow t r)) := by
  have e : ∀ t : Fin cfg0.N, win0_0.index t = ![t.val, 0] := (by decide +kernel : ∀ t : Fin grid0.N, _)
  funext i
  unfold iblk; rw [View.read_apply]
  refine (congrFun hin.hY _).trans ?_
  refine congrArg₂ (fun p q => ((Y (seg p) q : ℝ) : EReal)) (Fin.ext ?_) (Fin.ext ?_) <;> dsimp only [ax0, ax1, brow] <;> blk_simp [e] <;> rfl

theorem iblk1 (t : Fin cfg0.N) : iblk m c 1 t = re2 fun r => U (seg (brow t r)) := by
  have e : ∀ t : Fin cfg0.N, win0_1.index t = ![t.val, 0] := (by decide +kernel : ∀ t : Fin grid0.N, _)
  funext i
  unfold iblk; rw [View.read_apply]
  refine (congrFun hin.hU _).trans ?_
  refine congrArg₂ (fun p q => ((U (seg p) q : ℝ) : EReal)) (Fin.ext ?_) (Fin.ext ?_) <;> dsimp only [ax0, ax1, brow] <;> blk_simp [e] <;> rfl

theorem iblk2 (t : Fin cfg0.N) : iblk m c 2 t = row d := by
  have e : ∀ t : Fin cfg0.N, win0_2.index t = ![0, 0] := (by decide +kernel : ∀ t : Fin grid0.N, _)
  funext i
  unfold iblk; rw [View.read_apply]
  refine (congrFun hin.hd _).trans ?_
  refine congrArg (fun p => ((d p : ℝ) : EReal)) (Fin.ext ?_) <;> dsimp only [ax0, ax1] <;> blk_simp [e] <;> rfl

theorem iblk3 (t : Fin cfg0.N) : iblk m c 3 t = re2 W := by
  have e : ∀ t : Fin cfg0.N, win0_3.index t = ![0, 0] := (by decide +kernel : ∀ t : Fin grid0.N, _)
  funext i
  unfold iblk; rw [View.read_apply]
  refine (congrFun hin.hW _).trans ?_
  refine congrArg₂ (fun p q => ((W p q : ℝ) : EReal)) (Fin.ext ?_) (Fin.ext ?_) <;> dsimp only [ax0, ax1] <;> blk_simp [e] <;> rfl

theorem iblk4 (t : Fin cfg0.N) : iblk m c 4 t = row b := by
  have e : ∀ t : Fin cfg0.N, win0_4.index t = ![0, 0] := (by decide +kernel : ∀ t : Fin grid0.N, _)
  funext i
  unfold iblk; rw [View.read_apply]
  refine (congrFun hin.hb _).trans ?_
  refine congrArg (fun p => ((b p : ℝ) : EReal)) (Fin.ext ?_) <;> dsimp only [ax0, ax1] <;> blk_simp [e] <;> rfl

theorem arr5 : (dats m 0 c).arrAt 5 cfg0.N = re2 fun r => read (Y (seg r)) (U (seg r)) d W b := by
  have e : ∀ t : Fin cfg0.N, win0_5.index t = ![t.val, 0] := (by decide +kernel : ∀ t : Fin grid0.N, _)
  refine (dats m 0 c).arrAt_eq_of_covers 5 _ (by decide +kernel) fun t _ y => ?_
  blk_simp
  rw [after0_5, iblk0 hin, iblk1 hin, iblk2 hin, iblk3 hin, iblk4 hin]; unfold out0_5; frame_out
  refine (congrFun (pay1_re _ _ _ _ _) _).trans ?_
  refine congrArg₂ (fun p q => ((read (Y (seg p)) (U (seg p)) d W b q : ℝ) : EReal)) (Fin.ext ?_) (Fin.ext ?_) <;> dsimp only [ax0, ax1, brow] <;> blk_simp [e] <;> rfl

/-- The host returns the rows to the sequence's order and widens them. -/
theorem tail11 : Pipeline.afterTail₀ cfgs (dats m) 0 (V0 m) [hostOps1] c main_v11 = re2 fun r => read (Y r) (U r) d W b := by
  have e : Pipeline.withArrays (cfgs 0).spec c (V0 m c) (fun w => (dats m 0 c).arrAt w (cfgs 0).N) (Proc.devRef .tc main_v7) = _ :=
    (Pipeline.withArrays_arr spec0 winFacts0.arr_inj c (V0 m c) (fun w => (dats m 0 c).arrAt w (cfgs 0).N) 5).trans (arr5 hin)
  unfold Pipeline.afterTail₀ hostOps1
  simp only [List.flatten_cons, List.flatten_nil, List.cons_append, List.nil_append, List.append_nil]
  after_results
  rw [e]
  refine (regroup (a := 512) (b := 8) (fun r => read (Y (seg r)) (U (seg r)) d W b) rfl unseg (fun _ => rfl)
    shapeCasts_S4096x512_S512x8x512 transposes_S512x8x512_S8x512x512_1_0_2 shapeCasts_S8x512x512_S4096x512).trans ?_
  exact re2_congr fun r k => by rw [seg_unseg]

end Cert.Read.Forward.Kernel

end
-- ==== Proof.GateClaim.lean ====
/-
  The S5 read-out's forward call: the kernel's gated rows are the reference's, on finite arguments.
-/
module

public import proofs.«01_k».proof.Defs
public import proofs.«01_k».proof.Proof.GateKernel
public import proofs.«01_k».proof.Proof.HostReals
public import proofs.«01_k».proof.Proof.Gen.Kernel11
public import proofs.«01_k».proof.Proof.Gen.Pre_s5_gate_finite
public import Idealize.ShloMosaic.Lib.Tactic

@[expose] public section

noncomputable section

namespace Cert.Read.Forward

open Idealize.ShloMosaic hiding ix1 ix2 ix3 eq_ix2 eq_ix3
open Idealize.ShloMosaic.ValueIdx
open Idealize.SL.Sem Idealize.ShloMosaic.Tactic Cert.Reals

section Kernel

open Cert.Kernel11Ideal Cert.Kernel11Ideal.Gen

variable (m : (ℓ : Loc nD τ sig) → Buf (Elt Ideal) ℓ)

/-- The arguments of every device are reals. -/
structure Args (Y U : Dev nD → Fin 4096 → Fin 512 → ℝ) (d : Dev nD → Fin 512 → ℝ) (W : Dev nD → Fin 512 → Fin 512 → ℝ)
    (b : Dev nD → Fin 512 → ℝ) : Prop where
  a0 (c : Dev nD) : m ((c.tc : Thread nD τ).loc main_arg0) = re2 (Y c)
  a1 (c : Dev nD) : m ((c.tc : Thread nD τ).loc main_arg1) = re2 (U c)
  a2 (c : Dev nD) : m ((c.tc : Thread nD τ).loc main_arg2) = row (d c)
  a3 (c : Dev nD) : m ((c.tc : Thread nD τ).loc main_arg3) = re2 (W c)
  a4 (c : Dev nD) : m ((c.tc : Thread nD τ).loc main_arg4) = row (b c)

theorem exists_args (h : Pre_Kernel11Ideal_s5_gate_finite m) : ∃ Y U d W b, Args m Y U d W b := by
  choose Y h0 using fun c : Dev nD => exists_re2 (m ((c.tc : Thread nD τ).loc main_arg0)) _ (h c).1
  choose U h1 using fun c : Dev nD => exists_re2 (m ((c.tc : Thread nD τ).loc main_arg1)) _ (h c).2.1
  choose d h2 using fun c : Dev nD => exists_row (m ((c.tc : Thread nD τ).loc main_arg2)) _ (h c).2.2.1
  choose W h3 using fun c : Dev nD => exists_re2 (m ((c.tc : Thread nD τ).loc main_arg3)) _ (h c).2.2.2.1
  choose b h4 using fun c : Dev nD => exists_row (m ((c.tc : Thread nD τ).loc main_arg4)) _ (h c).2.2.2.2
  exact ⟨Y, U, d, W, b, ⟨h0, h1, h2, h3, h4⟩⟩

end Kernel

/-- The reference leaves its arguments alone, and declares no semaphore. -/
theorem reference_frame : Cert.quiescent_Reference11Ideal := fun m ρ _ =>
  (θ_run Cert.Reference11Ideal.defs _ _).mono
    (fun r h => ⟨fun c => (h c).2, sem_eq_zero_of_no_sems (by decide) r.2⟩) (Reference11Ideal.Value.run (F := Ideal) m ρ)

/-- The kernel's frame at the machine's floats: the printed form differs only in its name. -/
theorem frame_kernel : Cert.quiescent_Kernel11 := fun m ρ _ => Eq.mp (by sl_kernel_rfl) (Kernel11Ideal.Gen.frame (F := Bits) m ρ)

theorem algebraic : Cert.algebraic_Kernel11Ideal_Reference11Ideal_pre_s5_gate_finite := by
  intro m ρ m' ρ' hpre hagree
  obtain ⟨Y, U, d, W, b, h⟩ := exists_args m hpre
  refine ⟨fun c => re2 fun r => read (Y c r) (U c r) (d c) (W c) (b c), ?_, ?_⟩
  · refine θ_run_mono (θ_run_and (Kernel11Ideal.Gen.run_main m ρ) (Kernel11Ideal.Gen.unchanged m ρ)) ?_
    rintro r ⟨hr, hu⟩ c
    have hin := Kernel.inputs (h.a0 c) (h.a1 c) (h.a2 c) (h.a3 c) (h.a4 c)
    exact ⟨(hr.rest_eq c _ (by decide)).trans (Kernel.tail11 hin), hu c⟩
  · refine θ_run_mono (Reference11Ideal.Value.run (F := Ideal) m' ρ') ?_
    intro r hr c
    obtain ⟨h0, hu⟩ := hr c
    obtain ⟨e0, e1, e2, e3, e4⟩ := hagree c
    rw [h.a0 c] at e0
    rw [h.a1 c] at e1
    rw [h.a2 c] at e2
    rw [h.a3 c] at e3
    rw [h.a4 c] at e4
    refine ⟨h0.trans ?_, hu⟩
    rw [Reference11Ideal.Read.val_main_v25_eq, e0, e1, e2, e3, e4]
    exact v25_re _ _ _ _ _

end Cert.Read.Forward

end
-- ==== Proof.UpReference.lean ====
/-
  The second feed-forward block's entry: the mixers' outputs joined, projected and added to the rows, the sum normed, and
  its gated unit's gate with what its backward pass will read.  The real functions, and what the reference's host lines
  hold on real arguments.
-/
module

public import proofs.«01_k».proof.Proof.ActMath
public import proofs.«01_k».proof.Proof.ProjectReference
public import proofs.«01_k».proof.Proof.Gen.Reference12Ideal.Read

@[expose] public section

noncomputable section

namespace Cert.Up

open Idealize.ShloMosaic hiding ix1 ix2 eq_ix2 sum_idx2
open Idealize.ShloMosaic.ValueIdx
open Cert.Reals Cert.Act
open Cert.Project (nrm)
open scoped BigOperators

/-- One row of 512 beside another. -/
def both (a b : Fin 512 → ℝ) (k : Fin 1024) : ℝ := if h : k.val < 512 then a ⟨k.val, h⟩ else b ⟨k.val - 512, by omega⟩

/-- Column `k` of the first 512, and of the last. -/
abbrev lo (k : Fin 512) : Fin 1024 := ⟨k.val, by omega⟩
abbrev hi (k : Fin 512) : Fin 1024 := ⟨512 + k.val, by omega⟩

theorem both_lo (a b : Fin 512 → ℝ) (k : Fin 512) : both a b (lo k) = a k := dif_pos k.isLt
theorem both_hi (a b : Fin 512 → ℝ) (k : Fin 512) : both a b (hi k) = b k :=
  (dif_neg (by show ¬(512 + k.val < 512); omega)).trans (congrArg b (Fin.ext (by show 512 + k.val - 512 = k.val; omega)))

/-- One row with the mixers' outputs projected and added. -/
def mixed (x : Fin 1024 → ℝ) (a b : Fin 512 → ℝ) (W : Fin 1024 → Fin 1024 → ℝ) (k : Fin 1024) : ℝ := x k + ∑ j, both a b j * W j k

/-- The two mixers projected apart. -/
theorem mixed_parts (x : Fin 1024 → ℝ) (a b : Fin 512 → ℝ) (W : Fin 1024 → Fin 1024 → ℝ) (k : Fin 1024) :
    x k + ∑ j, a j * W (lo j) k + ∑ j, b j * W (hi j) k = mixed x a b W k := by
  refine (add_assoc _ _ _).trans (congrArg (x k + ·) ?_)
  refine Eq.trans ?_ (Fin.sum_univ_add (a := 512) (b := 512) fun j => both a b j * W j k).symm
  exact congrArg₂ (· + ·) (Finset.sum_congr rfl fun j _ => congrArg (· * W (lo j) k) (both_lo a b j).symm)
    (Finset.sum_congr rfl fun j _ => congrArg (· * W (hi j) k) (both_hi a b j).symm)

/-- One entry of a normed row's product with a weight. -/
def lin (h : Fin 1024 → ℝ) (G : Fin 1024 → Fin 2816 → ℝ) (c : Fin 2816) : ℝ := ∑ k, h k * G k c

/-- Two matrices of 512 columns side by side. -/
theorem beside {m : ℕ} (f g : Fin m → Fin 512 → ℝ)
    (h : Shape.Concatenates [(⟨2, ![m, 512]⟩ : Shape), ⟨2, ![m, 512]⟩] ⟨2, ![m, 1024]⟩ 1) :
    concatenate ⟨2, ![m, 1024]⟩ 1 [⟨⟨2, ![m, 512]⟩, re2 f⟩, ⟨⟨2, ![m, 512]⟩, re2 g⟩] h = re2 fun r => both (f r) (g r) := by
  funext i
  obtain ⟨r, c, rfl⟩ : ∃ r c, i = ix2 r c := ⟨_, _, eq_ix2 i⟩
  show _ = ((both (f r) (g r) c : ℝ) : EReal)
  by_cases hc : c.val < 512
  · rw [show both (f r) (g r) c = f r ⟨c.val, hc⟩ from dif_pos hc]
    exact (concatenate_pair_apply_left 1 _ _ h _ rfl (ix2 r ⟨c.val, hc⟩) fun x => match x with | 0 => rfl | 1 => rfl).trans rfl
  · rw [show both (f r) (g r) c = g r ⟨c.val - 512, by omega⟩ from dif_neg hc]
    refine (concatenate_pair_apply_right 1 _ _ h _ rfl rfl (ix2 r ⟨c.val - 512, by omega⟩) ?_ ?_).trans rfl
    · intro x hx
      match x with
      | 0 => rfl
      | 1 => exact absurd rfl hx
    · show c.val - 512 + 512 = c.val
      omega

namespace Reference

open Cert.Reference12Ideal Cert.Reference12Ideal.Read

variable (X : Fin 4096 → Fin 1024 → ℝ) (g : Fin 1024 → ℝ) (G U : Fin 1024 → Fin 2816 → ℝ) (A B : Fin 4096 → Fin 512 → ℝ)
  (W : Fin 1024 → Fin 1024 → ℝ)

theorem v2_re : val_main_v2 (F := Ideal) (re2 X) (re2 A) (re2 B) (re2 W) = re2 fun r => mixed (X r) (A r) (B r) W := by
  unfold val_main_v2 val_main_v1 val_main_v0
  rw [beside, show Host.dotGeneral (F := Ideal) (φ₁ := .f32) (φ₂ := .f32) dot_S4096x1024_S1024x1024_S4096x1024_1_0_0_1_n_n none
    (re2 fun r => both (A r) (B r)) (re2 W) = _ from hostNN none _ _ _, add2]; rfl

theorem v9_re : val_main_v9 (F := Ideal) (re2 X) (re2 A) (re2 B) (re2 W) = re2 fun r _ => msq (mixed (X r) (A r) (B r) W) := by
  unfold val_main_v9 val_main_v8 val_main_cst_1 val_main_v7 val_main_v6 val_main_cst_0 val_main_v5 val_main_v4 val_main_cst val_main_v3
  rw [v2_re, mul2, hostSumCols _ _ (by decide), hostCols, hostConst2 ofBits_1024, hostDiv1024, hostConst2 ofBits_eps, add2]; rfl

theorem v14_re : val_main_v14 (F := Ideal) (re2 X) (row g) (re2 A) (re2 B) (re2 W) = re2 fun r => nrm (mixed (X r) (A r) (B r) W) g := by
  unfold val_main_v14 val_main_v13 val_main_v12 val_main_v11 val_main_v10
  rw [v9_re, v2_re, hostRsqrt_msq, hostBcastCol, mul2, hostBcast2, mul2]; rfl

theorem v15_re : val_main_v15 (F := Ideal) (re2 X) (row g) (re2 G) (re2 A) (re2 B) (re2 W)
    = re2 fun r => lin (nrm (mixed (X r) (A r) (B r) W) g) G := by
  unfold val_main_v15
  rw [v14_re]
  exact hostNN none _ _ _

theorem v16_re : val_main_v16 (F := Ideal) (re2 X) (row g) (re2 U) (re2 A) (re2 B) (re2 W)
    = re2 fun r => lin (nrm (mixed (X r) (A r) (B r) W) g) U := v15_re X g U A B W

/-- The logistic of the gate, its product with one minus it, and the swish. -/
theorem sg_re : val_main_v17_2 (F := Ideal) (re2 X) (row g) (re2 G) (re2 A) (re2 B) (re2 W)
    = re2 fun r c => sg (lin (nrm (mixed (X r) (A r) (B r) W) g) G c) := by
  simp only [val_main_v17_2, val_main_call0_v4, val_main_call0_v3, val_main_call0_v2, val_main_call0_v1, val_main_call0_v0, val_main_call0_cst,
    val_main_call0_cst_0, v15_re, hostConst2 ofBits_one, hostNeg2, hostExp2, add2, hostSg2]

theorem dsg_re : val_main_v17_1 (F := Ideal) (re2 X) (row g) (re2 G) (re2 A) (re2 B) (re2 W)
    = re2 fun r c => sg (lin (nrm (mixed (X r) (A r) (B r) W) g) G c) * (1 - sg (lin (nrm (mixed (X r) (A r) (B r) W) g) G c)) := by
  simp only [val_main_v17_1, val_main_call0_v7, val_main_call0_v6, val_main_call0_cst_1, sg_re, hostConst2 ofBits_one, sub2, mul2]

theorem v20_re : val_main_v20 (F := Ideal) (re2 X) (row g) (re2 G) (re2 A) (re2 B) (re2 W)
    = re2 fun r c => du (lin (nrm (mixed (X r) (A r) (B r) W) g) G c) := by
  simp only [val_main_v20, val_main_v19, val_main_cst_2, val_main_v17_0, v15_re, sg_re, hostConst2 ofBits_one, mul2]
  exact re2_congr fun r c => mul_one _

theorem v22_re : val_main_v22 (F := Ideal) (re2 X) (row g) (re2 G) (re2 U) (re2 A) (re2 B) (re2 W)
    = re2 fun r c => dg (lin (nrm (mixed (X r) (A r) (B r) W) g) G c) (lin (nrm (mixed (X r) (A r) (B r) W) g) U c) := by
  simp only [val_main_v22, val_main_call1_v2, val_main_call1_v1, val_main_call1_v0, val_main_v21, val_main_v19, val_main_cst_2, v15_re, v16_re, sg_re,
    dsg_re, hostConst2 ofBits_one, mul2, add2]
  exact re2_congr fun r c => by rw [dg]; ring

theorem v24_re : val_main_v24 (F := Ideal) (re2 X) (row g) (re2 G) (re2 U) (re2 A) (re2 B) (re2 W)
    = re2 fun r c => du (lin (nrm (mixed (X r) (A r) (B r) W) g) G c) * lin (nrm (mixed (X r) (A r) (B r) W) g) U c := by
  simp only [val_main_v24, val_main_v23, val_main_call2_v5, val_main_call2_v4, val_main_call2_v3, val_main_call2_v2, val_main_call2_v1,
    val_main_call2_v0, val_main_call2_cst, val_main_call2_cst_0, v15_re, v16_re, hostConst2 ofBits_one, hostNeg2, hostExp2, add2, hostSg2, mul2]
  rfl

end Reference

end Cert.Up

end
-- ==== Proof.UpKernel.lean ====
/-
  The second feed-forward block's entry kernel over its eight blocks of 512 rows: what its payloads compute of a block, the
  input blocks each point reads, and what its five arrays hold at the end.
-/
module

public import proofs.«01_k».proof.Proof.UpReference
public import proofs.«01_k».proof.Proof.Gen.Kernel12Ideal.Frame
public import Idealize.ShloMosaic.Lib.Pipeline.ValueKit

@[expose] public section

noncomputable section

namespace Cert.Up.Kernel

open Idealize.ShloMosaic hiding ix1 ix2 ix3 eq_ix2 eq_ix3
open Idealize.ShloMosaic.ValueIdx
open Cert.Kernel12Ideal Cert.Kernel12Ideal.Gen Cert.Reals Cert.Act
open Cert.Project (nrm)
open scoped BigOperators

/-- Column `c` of the `n` columns from column `o`. -/
def part {n : ℕ} (o : ℕ) (ho : o + n ≤ 2816) (c : Fin n) : Fin 2816 := ⟨o + c.val, by omega⟩

/-- A weight, held transposed. -/
abbrev tr (G : Fin 1024 → Fin 2816 → ℝ) : Vec Ideal S2816x1024 .bf16 := re2 fun c k => G k c

/-- Rows `o …` of it. -/
theorem ld_rows (G : Fin 1024 → Fin 2816 → ℝ) {n : ℕ} (o : ℕ) (ho : o + n ≤ 2816)
    (inb : ∀ a, (![o, 0] : Fin 2 → ℕ) a + (![n, 1024] : Fin 2 → ℕ) a ≤ S2816x1024.size a) :
    View.ld (Val := Elt Ideal) (e' := .bf16) (tr G) (Rect.unit (s := S2816x1024) ![o, 0] ![n, 1024] inb) = re2 fun c k => G k (part o ho c) := by
  funext j
  refine congrArg₂ (fun p q => ((G q p : ℝ) : EReal)) (Fin.ext ?_) (Fin.ext ?_) <;> simp [part]
  all_goals rfl

/-- The first and the last 512 rows of the mixers' weight. -/
theorem ld_lo (W : Fin 1024 → Fin 1024 → ℝ) (inb : ∀ a, (![0, 0] : Fin 2 → ℕ) a + (![512, 1024] : Fin 2 → ℕ) a ≤ S1024x1024.size a) :
    View.ld (Val := Elt Ideal) (e' := .bf16) (re2 W) (Rect.unit (s := S1024x1024) ![0, 0] ![512, 1024] inb) = re2 fun j k => W (lo j) k := by
  funext j
  refine congrArg₂ (fun p q => ((W p q : ℝ) : EReal)) (Fin.ext ?_) (Fin.ext ?_) <;> simp
  all_goals rfl
theorem ld_hi (W : Fin 1024 → Fin 1024 → ℝ) (inb : ∀ a, (![512, 0] : Fin 2 → ℕ) a + (![512, 1024] : Fin 2 → ℕ) a ≤ S1024x1024.size a) :
    View.ld (Val := Elt Ideal) (e' := .bf16) (re2 W) (Rect.unit (s := S1024x1024) ![512, 0] ![512, 1024] inb) = re2 fun j k => W (hi j) k := by
  funext j
  refine congrArg₂ (fun p q => ((W p q : ℝ) : EReal)) (Fin.ext ?_) (Fin.ext ?_) <;> simp
  all_goals rfl

section Payloads

variable (X : Fin 512 → Fin 1024 → ℝ) (g : Fin 1024 → ℝ) (A B : Fin 512 → Fin 512 → ℝ) (W : Fin 1024 → Fin 1024 → ℝ)

theorem nn (f : Fin 512 → Fin 512 → ℝ) (h : Fin 512 → Fin 1024 → ℝ) :
    matmul (F := Ideal) (φ₁ := .bf16) (φ₂ := .bf16) dot_S512x512_S512x1024_S512x1024_1_0_0_1_n_n none
      (re2 f) (re2 h) (constant S512x1024 .f32 0x00000000#32) = re2 fun r c => ∑ k, f r k * h k c := matmulNN none _ _ _
theorem nt768 (f : Fin 512 → Fin 1024 → ℝ) (h : Fin 768 → Fin 1024 → ℝ) :
    matmul (F := Ideal) (φ₁ := .bf16) (φ₂ := .bf16) dot_S512x1024_S768x1024_S512x768_1_1_0_0_n_n none
      (re2 f) (re2 h) (constant S512x768 .f32 0x00000000#32) = re2 fun r c => ∑ k, f r k * h c k := matmulNT none _ _ _
theorem nt512 (f : Fin 512 → Fin 1024 → ℝ) (h : Fin 512 → Fin 1024 → ℝ) :
    matmul (F := Ideal) (φ₁ := .bf16) (φ₂ := .bf16) dot_S512x1024_S512x1024_S512x512_1_1_0_0_n_n none
      (re2 f) (re2 h) (constant S512x512 .f32 0x00000000#32) = re2 fun r c => ∑ k, f r k * h c k := matmulNT none _ _ _

theorem pay9_re : k0_pay9 (F := Ideal) (re2 X) (re2 A) (re2 fun j k => W (lo j) k) (re2 B) (re2 fun j k => W (hi j) k)
    = re2 fun r => mixed (X r) (A r) (B r) W := by
  unfold k0_pay9; dsimp only
  rw [shapeCast_self, shapeCast_self, shapeCast_self, shapeCast_self, nn, add2, nn, add2]
  exact re2_congr fun r k => mixed_parts _ _ _ _ _

theorem pay10_re : k0_pay10 (F := Ideal) (re2 X) (re2 A) (re2 fun j k => W (lo j) k) (re2 B) (re2 fun j k => W (hi j) k) (row g)
    = re2 fun r => nrm (mixed (X r) (A r) (B r) W) g := by
  unfold k0_pay10; dsimp only
  rw [pay9_re, mul2, sumCols, colCast, const2 ofBits_1024, const2 ofBits_eps, div1024, add2,
    show rsqrt (F := Ideal) (φ := .f32) (re2 fun (r : Fin 512) (_ : Fin 1) => (∑ c, mixed (X r) (A r) (B r) W c * mixed (X r) (A r) (B r) W c) / 1024 + eps) = _
      from rsqrt_msq fun r => mixed (X r) (A r) (B r) W, bcastCol, mul2, bcast2, mul2, trunc2]; rfl

end Payloads

section Chunk

variable (H : Fin 512 → Fin 1024 → ℝ)

section

variable (w v : Fin 768 → Fin 1024 → ℝ)

theorem gate768 : k0_pay25 (F := Ideal) (re2 H) (re2 w) = re2 fun r c => ∑ k, H r k * w c k := by
  unfold k0_pay25; dsimp only; rw [shapeCast_self, nt768]
theorem up768 : k0_pay26 (F := Ideal) (re2 H) (re2 w) = re2 fun r c => ∑ k, H r k * w c k := gate768 H w

theorem sg768 : k0_pay27 (F := Ideal) (re2 H) (re2 w) = re2 fun r c => sg (∑ k, H r k * w c k) := by
  unfold k0_pay27; dsimp only
  rw [gate768, const2 ofBits_zero, const2 ofBits_one, sub2, exp2, add2, sg2]

theorem silu768 : k0_pay28 (F := Ideal) (re2 H) (re2 w) = re2 fun r c => du (∑ k, H r k * w c k) := by
  unfold k0_pay28; dsimp only
  rw [gate768, sg768, mul2]; rfl

theorem dgate768 : k0_pay29 (F := Ideal) (re2 H) (re2 w) (re2 v) = re2 fun r c => dg (∑ k, H r k * w c k) (∑ k, H r k * v c k) := by
  unfold k0_pay29; dsimp only
  rw [up768, sg768, silu768, const2 ofBits_one, sub2, mul2, add2, mul2, trunc2]; rfl

theorem dup768 : k0_pay30 (F := Ideal) (re2 H) (re2 w) = re2 fun r c => du (∑ k, H r k * w c k) := by
  unfold k0_pay30; dsimp only
  rw [silu768, trunc2]

theorem act768 : k0_pay1 (F := Ideal) (k0_pay26 (re2 H) (re2 v)) (k0_pay28 (re2 H) (re2 w))
    = re2 fun r c => du (∑ k, H r k * w c k) * ∑ k, H r k * v c k := by
  unfold k0_pay1; dsimp only
  rw [up768, silu768, mul2, trunc2]

end

section

variable (w v : Fin 512 → Fin 1024 → ℝ)

theorem gate512 : k0_pay2 (F := Ideal) (re2 H) (re2 w) = re2 fun r c => ∑ k, H r k * w c k := by
  unfold k0_pay2; dsimp only; rw [shapeCast_self, nt512]
theorem up512 : k0_pay3 (F := Ideal) (re2 H) (re2 w) = re2 fun r c => ∑ k, H r k * w c k := gate512 H w

theorem sg512 : k0_pay4 (F := Ideal) (re2 H) (re2 w) = re2 fun r c => sg (∑ k, H r k * w c k) := by
  unfold k0_pay4; dsimp only
  rw [gate512, const2 ofBits_zero, const2 ofBits_one, sub2, exp2, add2, sg2]

theorem silu512 : k0_pay5 (F := Ideal) (re2 H) (re2 w) = re2 fun r c => du (∑ k, H r k * w c k) := by
  unfold k0_pay5; dsimp only
  rw [gate512, sg512, mul2]; rfl

theorem dgate512 : k0_pay6 (F := Ideal) (re2 H) (re2 w) (re2 v) = re2 fun r c => dg (∑ k, H r k * w c k) (∑ k, H r k * v c k) := by
  unfold k0_pay6; dsimp only
  rw [up512, sg512, silu512, const2 ofBits_one, sub2, mul2, add2, mul2, trunc2]; rfl

theorem dup512 : k0_pay7 (F := Ideal) (re2 H) (re2 w) = re2 fun r c => du (∑ k, H r k * w c k) := by
  unfold k0_pay7; dsimp only
  rw [silu512, trunc2]

theorem act512 : k0_pay8 (F := Ideal) (re2 H) (re2 w) (re2 v) = re2 fun r c => du (∑ k, H r k * w c k) * ∑ k, H r k * v c k := by
  unfold k0_pay8; dsimp only
  rw [up512, silu512, mul2, trunc2]

end

/-- The first column block, whose gate the row's norm and its product give together. -/
theorem pay11_re (X : Fin 512 → Fin 1024 → ℝ) (g : Fin 1024 → ℝ) (A B : Fin 512 → Fin 512 → ℝ) (W : Fin 1024 → Fin 1024 → ℝ) (w : Fin 768 → Fin 1024 → ℝ) :
    k0_pay11 (F := Ideal) (re2 X) (re2 A) (re2 fun j k => W (lo j) k) (re2 B) (re2 fun j k => W (hi j) k) (row g) (re2 w)
      = re2 fun r c => ∑ k, nrm (mixed (X r) (A r) (B r) W) g k * w c k := by
  unfold k0_pay11; dsimp only; rw [pay10_re, shapeCast_self, nt768]

variable (Q : Fin 512 → Fin 768 → ℝ) (v : Fin 768 → Fin 1024 → ℝ)

theorem pay13_re : k0_pay13 (F := Ideal) (re2 Q) = re2 fun r c => sg (Q r c) := by
  unfold k0_pay13; dsimp only
  rw [const2 ofBits_zero, const2 ofBits_one, sub2, exp2, add2, sg2]

theorem pay14_re : k0_pay14 (F := Ideal) (re2 Q) = re2 fun r c => du (Q r c) := by
  unfold k0_pay14; dsimp only
  rw [pay13_re, mul2]; rfl

theorem pay15_re : k0_pay15 (F := Ideal) (re2 H) (re2 Q) (re2 v) = re2 fun r c => dg (Q r c) (∑ k, H r k * v c k) := by
  unfold k0_pay15; dsimp only
  rw [show k0_pay12 (F := Ideal) (re2 H) (re2 v) = _ from gate768 H v, pay13_re, pay14_re, const2 ofBits_one, sub2, mul2, add2, mul2, trunc2]; rfl

theorem pay16_re : k0_pay16 (F := Ideal) (re2 Q) = re2 fun r c => du (Q r c) := by
  unfold k0_pay16; dsimp only
  rw [pay14_re, trunc2]

theorem pay17_re : k0_pay17 (F := Ideal) (re2 H) (re2 Q) (re2 v) = re2 fun r c => du (Q r c) * ∑ k, H r k * v c k := by
  unfold k0_pay17; dsimp only
  rw [show k0_pay12 (F := Ideal) (re2 H) (re2 v) = _ from gate768 H v, pay14_re, mul2, trunc2]

end Chunk

/-- The four column blocks lie in the columns. -/
theorem le₀ : 0 + 768 ≤ 2816 := by omega
theorem le₁ : 768 + 768 ≤ 2816 := by omega
theorem le₂ : 1536 + 768 ≤ 2816 := by omega
theorem le₃ : 2304 + 512 ≤ 2816 := by omega

/-- Four column blocks stored of a result, put together. -/
theorem block_re (T : Fin 512 → Fin 2816 → ℝ) (i₀ i₁ i₂ i₃) {p₀ p₁ p₂ : Vec Ideal S512x768 .bf16} {p₃ : Vec Ideal S512x512 .bf16}
    (e₀ : p₀ = re2 fun r c => T r (part 0 le₀ c)) (e₁ : p₁ = re2 fun r c => T r (part 768 le₁ c))
    (e₂ : p₂ = re2 fun r c => T r (part 1536 le₂ c)) (e₃ : p₃ = re2 fun r c => T r (part 2304 le₃ c)) :
    View.canon (Val := Elt Ideal) (s := S512x2816) (e := .bf16)
      [⟨Rect.unit ![0, 2304] ![512, 512] i₃, p₃⟩, ⟨Rect.unit ![0, 1536] ![512, 768] i₂, p₂⟩,
       ⟨Rect.unit ![0, 768] ![512, 768] i₁, p₁⟩, ⟨Rect.unit ![0, 0] ![512, 768] i₀, p₀⟩]
      = re2 T := by
  subst e₀ e₁ e₂ e₃
  funext y
  canon_tiles x h using (View.cover_of_tiledBy _ ![512, 256] (by sl_kernel_rfl) y)
  all_goals exact congrArg₂ (fun p q => ((T p q : ℝ) : EReal)) (Fin.ext h0.symm) (Fin.ext (by first | exact h1.symm | exact (Nat.zero_add _).trans h1.symm))

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (X : Fin 4096 → Fin 1024 → ℝ) (g : Fin 1024 → ℝ)
  (G U : Fin 1024 → Fin 2816 → ℝ) (A B : Fin 4096 → Fin 512 → ℝ) (W : Fin 1024 → Fin 1024 → ℝ)

/-- The normed row that the unit's two products read. -/
def hrow (X : Fin 4096 → Fin 1024 → ℝ) (g : Fin 1024 → ℝ) (A B : Fin 4096 → Fin 512 → ℝ) (W : Fin 1024 → Fin 1024 → ℝ) (r : Fin 4096) :
    Fin 1024 → ℝ := nrm (mixed (X r) (A r) (B r) W) g

/-- The region's input arrays are these reals. -/
structure Inputs : Prop where
  hX : V m c main_arg0 = re2 X
  hg : V m c main_arg1 = row g
  hG : V m c main_v1 = tr G
  hU : V m c main_v3 = tr U
  hA : V m c main_v4 = re2 A
  hB : V m c main_v5 = re2 B
  hW : V m c main_v6 = re2 W

variable {m c X g G U A B W}

/-- The region's input arrays, as the host prepares them. -/
theorem inputs (h0 : m ((c.tc : Thread nD τ).loc main_arg0) = re2 X) (h1 : m ((c.tc : Thread nD τ).loc main_arg1) = row g)
    (h2 : m ((c.tc : Thread nD τ).loc main_arg2) = re2 G) (h3 : m ((c.tc : Thread nD τ).loc main_arg3) = re2 U)
    (h4 : m ((c.tc : Thread nD τ).loc main_arg4) = re2 A) (h5 : m ((c.tc : Thread nD τ).loc main_arg5) = re2 B)
    (h6 : m ((c.tc : Thread nD τ).loc main_arg6) = re2 W) : Inputs m c X g G U A B W := by
  refine ⟨(V_main_arg0 m c).trans h0, (V_main_arg1 m c).trans h1, ?_, ?_, ?_, ?_, ?_⟩
  · unfold V V0 hostOps0
    simp only [List.flatten_cons, List.flatten_nil, List.cons_append, List.nil_append, List.append_nil]
    after_results
    exact congrArg (truncf (F := Ideal) .bf16 · _) ((congrArg (transpose S2816x1024 [1, 0] · _) h2).trans (transpose2 _ _))
  · unfold V V0 hostOps0
    simp only [List.flatten_cons, List.flatten_nil, List.cons_append, List.nil_append, List.append_nil]
    after_results
    exact congrArg (truncf (F := Ideal) .bf16 · _) ((congrArg (transpose S2816x1024 [1, 0] · _) h3).trans (transpose2 _ _))
  · unfold V V0 hostOps0
    simp only [List.flatten_cons, List.flatten_nil, List.cons_append, List.nil_append, List.append_nil]
    after_results
    exact congrArg (truncf (F := Ideal) .bf16 · _) h4
  · unfold V V0 hostOps0
    simp only [List.flatten_cons, List.flatten_nil, List.cons_append, List.nil_append, List.append_nil]
    after_results
    exact congrArg (truncf (F := Ideal) .bf16 · _) h5
  · unfold V V0 hostOps0
    simp only [List.flatten_cons, List.flatten_nil, List.cons_append, List.nil_append, List.append_nil]
    after_results
    exact congrArg (truncf (F := Ideal) .bf16 · _) h6

variable (hin : Inputs m c X g G U A B W)
include hin

theorem iblk0 (t : Fin cfg0.N) : iblk m c 0 t = re2 fun r => X (brow t r) := by
  have e : ∀ t : Fin cfg0.N, win0_0.index t = ![t.val, 0] := (by decide +kernel : ∀ t : Fin grid0.N, _)
  funext i
  unfold iblk; rw [View.read_apply]
  refine (congrFun hin.hX _).trans ?_
  refine congrArg₂ (fun p q => ((X p q : ℝ) : EReal)) (Fin.ext ?_) (Fin.ext ?_) <;> dsimp only [ax0, ax1, brow] <;> blk_simp [e] <;> rfl

theorem iblk1 (t : Fin cfg0.N) : iblk m c 1 t = row g := by
  have e : ∀ t : Fin cfg0.N, win0_1.index t = ![0, 0] := (by decide +kernel : ∀ t : Fin grid0.N, _)
  funext i
  unfold iblk; rw [View.read_apply]
  refine (congrFun hin.hg _).trans ?_
  refine congrArg (fun p => ((g p : ℝ) : EReal)) (Fin.ext ?_) <;> dsimp only [ax0, ax1] <;> blk_simp [e] <;> rfl

theorem iblk2 (t : Fin cfg0.N) : iblk m c 2 t = tr G := by
  have e : ∀ t : Fin cfg0.N, win0_2.index t = ![0, 0] := (by decide +kernel : ∀ t : Fin grid0.N, _)
  funext i
  unfold iblk; rw [View.read_apply]
  refine (congrFun hin.hG _).trans ?_
  refine congrArg₂ (fun p q => ((G q p : ℝ) : EReal)) (Fin.ext ?_) (Fin.ext ?_) <;> dsimp only [ax0, ax1] <;> blk_simp [e] <;> rfl

theorem iblk3 (t : Fin cfg0.N) : iblk m c 3 t = tr U := by
  have e : ∀ t : Fin cfg0.N, win0_3.index t = ![0, 0] := (by decide +kernel : ∀ t : Fin grid0.N, _)
  funext i
  unfold iblk; rw [View.read_apply]
  refine (congrFun hin.hU _).trans ?_
  refine congrArg₂ (fun p q => ((U q p : ℝ) : EReal)) (Fin.ext ?_) (Fin.ext ?_) <;> dsimp only [ax0, ax1] <;> blk_simp [e] <;> rfl

theorem iblk4 (t : Fin cfg0.N) : iblk m c 4 t = re2 fun r => A (brow t r) := by
  have e : ∀ t : Fin cfg0.N, win0_4.index t = ![t.val, 0] := (by decide +kernel : ∀ t : Fin grid0.N, _)
  funext i
  unfold iblk; rw [View.read_apply]
  refine (congrFun hin.hA _).trans ?_
  refine congrArg₂ (fun p q => ((A p q : ℝ) : EReal)) (Fin.ext ?_) (Fin.ext ?_) <;> dsimp only [ax0, ax1, brow] <;> blk_simp [e] <;> rfl

theorem iblk5 (t : Fin cfg0.N) : iblk m c 5 t = re2 fun r => B (brow t r) := by
  have e : ∀ t : Fin cfg0.N, win0_5.index t = ![t.val, 0] := (by decide +kernel : ∀ t : Fin grid0.N, _)
  funext i
  unfold iblk; rw [View.read_apply]
  refine (congrFun hin.hB _).trans ?_
  refine congrArg₂ (fun p q => ((B p q : ℝ) : EReal)) (Fin.ext ?_) (Fin.ext ?_) <;> dsimp only [ax0, ax1, brow] <;> blk_simp [e] <;> rfl

theorem iblk6 (t : Fin cfg0.N) : iblk m c 6 t = re2 W := by
  have e : ∀ t : Fin cfg0.N, win0_6.index t = ![0, 0] := (by decide +kernel : ∀ t : Fin grid0.N, _)
  funext i
  unfold iblk; rw [View.read_apply]
  refine (congrFun hin.hW _).trans ?_
  refine congrArg₂ (fun p q => ((W p q : ℝ) : EReal)) (Fin.ext ?_) (Fin.ext ?_) <;> dsimp only [ax0, ax1] <;> blk_simp [e] <;> rfl

/-- The rows with the mixers added, and their norm: each point leaves its own block's. -/
theorem out11 (t : Fin cfg0.N) : (outsAt0 m c t).2.2.2.2 = re2 fun r => mixed (X (brow t r)) (A (brow t r)) (B (brow t r)) W := by
  unfold outsAt0 out0_A_11; frame_out
  rw [iblk0 hin, iblk4 hin, iblk5 hin, iblk6 hin, ld_lo, ld_hi]; exact pay9_re _ _ _ _

theorem out7 (t : Fin cfg0.N) : (outsAt0 m c t).1 = re2 fun r => hrow X g A B W (brow t r) := by
  unfold outsAt0 out0_A_7; frame_out
  rw [iblk0 hin, iblk1 hin, iblk4 hin, iblk5 hin, iblk6 hin, ld_lo, ld_hi]; exact pay10_re _ _ _ _ _

/-- The gate's gradient, the other factor's, and the gated row: four column blocks each. -/
theorem out8 (t : Fin cfg0.N) : (outsAt0 m c t).2.1
    = re2 fun r k => dg (lin (hrow X g A B W (brow t r)) G k) (lin (hrow X g A B W (brow t r)) U k) := by
  unfold outsAt0 out0_A_8; frame_out
  rw [iblk0 hin, iblk1 hin, iblk2 hin, iblk3 hin, iblk4 hin, iblk5 hin, iblk6 hin, ld_lo, ld_hi, pay10_re]
  refine block_re _ _ _ _ _ ?_ ?_ ?_ ?_
  · rw [ld_rows G 0 le₀, ld_rows U 0 le₀, pay11_re]; exact pay15_re _ _ _
  · rw [ld_rows G 768 le₁, ld_rows U 768 le₁]; exact dgate768 _ _ _
  · rw [ld_rows G 1536 le₂, ld_rows U 1536 le₂]; exact dgate768 _ _ _
  · rw [ld_rows G 2304 le₃, ld_rows U 2304 le₃]; exact dgate512 _ _ _

theorem out9 (t : Fin cfg0.N) : (outsAt0 m c t).2.2.1 = re2 fun r k => du (lin (hrow X g A B W (brow t r)) G k) := by
  unfold outsAt0 out0_A_9; frame_out
  rw [iblk0 hin, iblk1 hin, iblk2 hin, iblk4 hin, iblk5 hin, iblk6 hin, ld_lo, ld_hi, pay10_re]
  refine block_re _ _ _ _ _ ?_ ?_ ?_ ?_
  · rw [ld_rows G 0 le₀, pay11_re]; exact pay16_re _
  · rw [ld_rows G 768 le₁]; exact dup768 _ _
  · rw [ld_rows G 1536 le₂]; exact dup768 _ _
  · rw [ld_rows G 2304 le₃]; exact dup512 _ _

theorem out10 (t : Fin cfg0.N) : (outsAt0 m c t).2.2.2.1
    = re2 fun r k => du (lin (hrow X g A B W (brow t r)) G k) * lin (hrow X g A B W (brow t r)) U k := by
  unfold outsAt0 out0_A_10; frame_out
  rw [iblk0 hin, iblk1 hin, iblk2 hin, iblk3 hin, iblk4 hin, iblk5 hin, iblk6 hin, ld_lo, ld_hi, pay10_re]
  refine block_re _ _ _ _ _ ?_ ?_ ?_ ?_
  · rw [ld_rows G 0 le₀, ld_rows U 0 le₀, pay11_re]; exact pay17_re _ _ _
  · rw [ld_rows G 768 le₁, ld_rows U 768 le₁]; exact act768 _ _ _
  · rw [ld_rows G 1536 le₂, ld_rows U 1536 le₂]; exact act768 _ _ _
  · rw [ld_rows G 2304 le₃, ld_rows U 2304 le₃]; exact act512 _ _ _

theorem arr7 : (dats m 0 c).arrAt 7 cfg0.N = re2 fun p q => hrow X g A B W p q := by
  have e : ∀ t : Fin cfg0.N, win0_7.index t = ![t.val, 0] := (by decide +kernel : ∀ t : Fin grid0.N, _)
  refine (dats m 0 c).arrAt_eq_of_covers 7 _ (by decide +kernel) fun t _ y => ?_
  blk_simp
  rw [after0_7, out7 hin]
  refine congrArg₂ (fun p q => ((hrow X g A B W p q : ℝ) : EReal)) (Fin.ext ?_) (Fin.ext ?_) <;> dsimp only [ax0, ax1, brow] <;> blk_simp [e] <;> rfl

theorem arr8 : (dats m 0 c).arrAt 8 cfg0.N = re2 fun p q => dg (lin (hrow X g A B W p) G q) (lin (hrow X g A B W p) U q) := by
  have e : ∀ t : Fin cfg0.N, win0_8.index t = ![t.val, 0] := (by decide +kernel : ∀ t : Fin grid0.N, _)
  refine (dats m 0 c).arrAt_eq_of_covers 8 _ (by decide +kernel) fun t _ y => ?_
  blk_simp
  rw [after0_8, out8 hin]
  refine congrArg₂ (fun p q => ((dg (lin (hrow X g A B W p) G q) (lin (hrow X g A B W p) U q) : ℝ) : EReal)) (Fin.ext ?_) (Fin.ext ?_) <;> dsimp only [ax0, ax1, brow] <;> blk_simp [e] <;> rfl

theorem arr9 : (dats m 0 c).arrAt 9 cfg0.N = re2 fun p q => du (lin (hrow X g A B W p) G q) := by
  have e : ∀ t : Fin cfg0.N, win0_9.index t = ![t.val, 0] := (by decide +kernel : ∀ t : Fin grid0.N, _)
  refine (dats m 0 c).arrAt_eq_of_covers 9 _ (by decide +kernel) fun t _ y => ?_
  blk_simp
  rw [after0_9, out9 hin]
  refine congrArg₂ (fun p q => ((du (lin (hrow X g A B W p) G q) : ℝ) : EReal)) (Fin.ext ?_) (Fin.ext ?_) <;> dsimp only [ax0, ax1, brow] <;> blk_simp [e] <;> rfl

theorem arr10 : (dats m 0 c).arrAt 10 cfg0.N = re2 fun p q => du (lin (hrow X g A B W p) G q) * lin (hrow X g A B W p) U q := by
  have e : ∀ t : Fin cfg0.N, win0_10.index t = ![t.val, 0] := (by decide +kernel : ∀ t : Fin grid0.N, _)
  refine (dats m 0 c).arrAt_eq_of_covers 10 _ (by decide +kernel) fun t _ y => ?_
  blk_simp
  rw [after0_10, out10 hin]
  refine congrArg₂ (fun p q => ((du (lin (hrow X g A B W p) G q) * lin (hrow X g A B W p) U q : ℝ) : EReal)) (Fin.ext ?_) (Fin.ext ?_) <;> dsimp only [ax0, ax1, brow] <;> blk_simp [e] <;> rfl

theorem arr11 : (dats m 0 c).arrAt 11 cfg0.N = re2 fun p q => mixed (X p) (A p) (B p) W q := by
  have e : ∀ t : Fin cfg0.N, win0_11.index t = ![t.val, 0] := (by decide +kernel : ∀ t : Fin grid0.N, _)
  refine (dats m 0 c).arrAt_eq_of_covers 11 _ (by decide +kernel) fun t _ y => ?_
  blk_simp
  rw [after0_11, out11 hin]
  refine congrArg₂ (fun p q => ((mixed (X p) (A p) (B p) W q : ℝ) : EReal)) (Fin.ext ?_) (Fin.ext ?_) <;> dsimp only [ax0, ax1, brow] <;> blk_simp [e] <;> rfl

/-- The host widens the four narrow results. -/
theorem tail7 : Pipeline.afterTail₀ cfgs (dats m) 0 (V0 m) [hostOps1] c main_v8 = re2 fun p q => hrow X g A B W p q := by
  have e : Pipeline.withArrays (cfgs 0).spec c (V0 m c) (fun w => (dats m 0 c).arrAt w (cfgs 0).N) (Proc.devRef .tc main_v7_0) = _ :=
    (Pipeline.withArrays_arr spec0 winFacts0.arr_inj c (V0 m c) (fun w => (dats m 0 c).arrAt w (cfgs 0).N) 7).trans (arr7 hin)
  unfold Pipeline.afterTail₀ hostOps1
  simp only [List.flatten_cons, List.flatten_nil, List.cons_append, List.nil_append, List.append_nil]
  after_results
  rw [e]; rfl

theorem tail8 : Pipeline.afterTail₀ cfgs (dats m) 0 (V0 m) [hostOps1] c main_v9 = re2 fun p q => dg (lin (hrow X g A B W p) G q) (lin (hrow X g A B W p) U q) := by
  have e : Pipeline.withArrays (cfgs 0).spec c (V0 m c) (fun w => (dats m 0 c).arrAt w (cfgs 0).N) (Proc.devRef .tc main_v7_1) = _ :=
    (Pipeline.withArrays_arr spec0 winFacts0.arr_inj c (V0 m c) (fun w => (dats m 0 c).arrAt w (cfgs 0).N) 8).trans (arr8 hin)
  unfold Pipeline.afterTail₀ hostOps1
  simp only [List.flatten_cons, List.flatten_nil, List.cons_append, List.nil_append, List.append_nil]
  after_results
  rw [e]; rfl

theorem tail9 : Pipeline.afterTail₀ cfgs (dats m) 0 (V0 m) [hostOps1] c main_v10 = re2 fun p q => du (lin (hrow X g A B W p) G q) := by
  have e : Pipeline.withArrays (cfgs 0).spec c (V0 m c) (fun w => (dats m 0 c).arrAt w (cfgs 0).N) (Proc.devRef .tc main_v7_2) = _ :=
    (Pipeline.withArrays_arr spec0 winFacts0.arr_inj c (V0 m c) (fun w => (dats m 0 c).arrAt w (cfgs 0).N) 9).trans (arr9 hin)
  unfold Pipeline.afterTail₀ hostOps1
  simp only [List.flatten_cons, List.flatten_nil, List.cons_append, List.nil_append, List.append_nil]
  after_results
  rw [e]; rfl

theorem tail10 : Pipeline.afterTail₀ cfgs (dats m) 0 (V0 m) [hostOps1] c main_v11 = re2 fun p q => du (lin (hrow X g A B W p) G q) * lin (hrow X g A B W p) U q := by
  have e : Pipeline.withArrays (cfgs 0).spec c (V0 m c) (fun w => (dats m 0 c).arrAt w (cfgs 0).N) (Proc.devRef .tc main_v7_3) = _ :=
    (Pipeline.withArrays_arr spec0 winFacts0.arr_inj c (V0 m c) (fun w => (dats m 0 c).arrAt w (cfgs 0).N) 10).trans (arr10 hin)
  unfold Pipeline.afterTail₀ hostOps1
  simp only [List.flatten_cons, List.flatten_nil, List.cons_append, List.nil_append, List.append_nil]
  after_results
  rw [e]; rfl

end Cert.Up.Kernel

end
-- ==== Proof.UpClaim.lean ====
/-
  The second feed-forward block's entry call: the kernel's five results are the reference's, on finite arguments.
-/
module

public import proofs.«01_k».proof.Defs
public import proofs.«01_k».proof.Proof.UpKernel
public import proofs.«01_k».proof.Proof.HostReals
public import proofs.«01_k».proof.Proof.Gen.Kernel12
public import proofs.«01_k».proof.Proof.Gen.Pre_mix_out_up_finite
public import Idealize.ShloMosaic.Lib.Tactic

@[expose] public section

noncomputable section

namespace Cert.Up

open Idealize.ShloMosaic hiding ix1 ix2 ix3 eq_ix2 eq_ix3
open Idealize.ShloMosaic.ValueIdx
open Idealize.SL.Sem Idealize.ShloMosaic.Tactic Cert.Reals Cert.Act

section Kernel

open Cert.Kernel12Ideal Cert.Kernel12Ideal.Gen

variable (m : (ℓ : Loc nD τ sig) → Buf (Elt Ideal) ℓ)

/-- The arguments of every device are reals. -/
structure Args (X : Dev nD → Fin 4096 → Fin 1024 → ℝ) (g : Dev nD → Fin 1024 → ℝ) (G U : Dev nD → Fin 1024 → Fin 2816 → ℝ)
    (A B : Dev nD → Fin 4096 → Fin 512 → ℝ) (W : Dev nD → Fin 1024 → Fin 1024 → ℝ) : Prop where
  a0 (c : Dev nD) : m ((c.tc : Thread nD τ).loc main_arg0) = re2 (X c)
  a1 (c : Dev nD) : m ((c.tc : Thread nD τ).loc main_arg1) = row (g c)
  a2 (c : Dev nD) : m ((c.tc : Thread nD τ).loc main_arg2) = re2 (G c)
  a3 (c : Dev nD) : m ((c.tc : Thread nD τ).loc main_arg3) = re2 (U c)
  a4 (c : Dev nD) : m ((c.tc : Thread nD τ).loc main_arg4) = re2 (A c)
  a5 (c : Dev nD) : m ((c.tc : Thread nD τ).loc main_arg5) = re2 (B c)
  a6 (c : Dev nD) : m ((c.tc : Thread nD τ).loc main_arg6) = re2 (W c)

theorem exists_args (h : Pre_Kernel12Ideal_mix_out_up_finite m) : ∃ X g G U A B W, Args m X g G U A B W := by
  choose X h0 using fun c : Dev nD => exists_re2 (m ((c.tc : Thread nD τ).loc main_arg0)) _ (h c).1
  choose g h1 using fun c : Dev nD => exists_row (m ((c.tc : Thread nD τ).loc main_arg1)) _ (h c).2.1
  choose G h2 using fun c : Dev nD => exists_re2 (m ((c.tc : Thread nD τ).loc main_arg2)) _ (h c).2.2.1
  choose U h3 using fun c : Dev nD => exists_re2 (m ((c.tc : Thread nD τ).loc main_arg3)) _ (h c).2.2.2.1
  choose A h4 using fun c : Dev nD => exists_re2 (m ((c.tc : Thread nD τ).loc main_arg4)) _ (h c).2.2.2.2.1
  choose B h5 using fun c : Dev nD => exists_re2 (m ((c.tc : Thread nD τ).loc main_arg5)) _ (h c).2.2.2.2.2.1
  choose W h6 using fun c : Dev nD => exists_re2 (m ((c.tc : Thread nD τ).loc main_arg6)) _ (h c).2.2.2.2.2.2
  exact ⟨X, g, G, U, A, B, W, ⟨h0, h1, h2, h3, h4, h5, h6⟩⟩

end Kernel

/-- The reference leaves its arguments alone, and declares no semaphore. -/
theorem reference_frame : Cert.quiescent_Reference12Ideal := fun m ρ _ =>
  (θ_run Cert.Reference12Ideal.defs _ _).mono
    (fun r h => ⟨fun c => (h c).2.2.2.2.2, sem_eq_zero_of_no_sems (by decide) r.2⟩) (Reference12Ideal.Value.run (F := Ideal) m ρ)

/-- The kernel's frame at the machine's floats: the printed form differs only in its name. -/
theorem frame_kernel : Cert.quiescent_Kernel12 := fun m ρ _ => Eq.mp (by sl_kernel_rfl) (Kernel12Ideal.Gen.frame (F := Bits) m ρ)

theorem algebraic : Cert.algebraic_Kernel12Ideal_Reference12Ideal_pre_mix_out_up_finite := by
  intro m ρ m' ρ' hpre hagree
  obtain ⟨X, g, G, U, A, B, W, h⟩ := exists_args m hpre
  refine ⟨fun c => re2 fun p q => Kernel.hrow (X c) (g c) (A c) (B c) (W c) p q,
    fun c => re2 fun p q => dg (lin (Kernel.hrow (X c) (g c) (A c) (B c) (W c) p) (G c) q) (lin (Kernel.hrow (X c) (g c) (A c) (B c) (W c) p) (U c) q),
    fun c => re2 fun p q => du (lin (Kernel.hrow (X c) (g c) (A c) (B c) (W c) p) (G c) q),
    fun c => re2 fun p q => du (lin (Kernel.hrow (X c) (g c) (A c) (B c) (W c) p) (G c) q) * lin (Kernel.hrow (X c) (g c) (A c) (B c) (W c) p) (U c) q,
    fun c => re2 fun p q => mixed (X c p) (A c p) (B c p) (W c) q, ?_, ?_⟩
  · refine θ_run_mono (θ_run_and (Kernel12Ideal.Gen.run_main m ρ) (Kernel12Ideal.Gen.unchanged m ρ)) ?_
    rintro r ⟨hr, hu⟩ c
    have hin := Kernel.inputs (h.a0 c) (h.a1 c) (h.a2 c) (h.a3 c) (h.a4 c) (h.a5 c) (h.a6 c)
    exact ⟨(hr.rest_eq c _ (by decide)).trans (Kernel.tail7 hin), (hr.rest_eq c _ (by decide)).trans (Kernel.tail8 hin),
      (hr.rest_eq c _ (by decide)).trans (Kernel.tail9 hin), (hr.rest_eq c _ (by decide)).trans (Kernel.tail10 hin),
      (hr.out_eq c 11).trans (Kernel.arr11 hin), hu c⟩
  · refine θ_run_mono (Reference12Ideal.Value.run (F := Ideal) m' ρ') ?_
    intro r hr c
    obtain ⟨h0, h1, h2, h3, h4, hu⟩ := hr c
    obtain ⟨e0, e1, e2, e3, e4, e5, e6⟩ := hagree c
    rw [h.a0 c] at e0
    rw [h.a1 c] at e1
    rw [h.a2 c] at e2
    rw [h.a3 c] at e3
    rw [h.a4 c] at e4
    rw [h.a5 c] at e5
    rw [h.a6 c] at e6
    refine ⟨h0.trans ?_, h1.trans ?_, h2.trans ?_, h3.trans ?_, h4.trans ?_, hu⟩
    · rw [Reference12Ideal.Read.val_main_v14_eq, e0, e1, e4, e5, e6]
      exact Reference.v14_re _ _ _ _ _
    · rw [Reference12Ideal.Read.val_main_v22_eq, e0, e1, e2, e3, e4, e5, e6]
      exact Reference.v22_re _ _ _ _ _ _ _
    · rw [Reference12Ideal.Read.val_main_v20_eq, e0, e1, e2, e4, e5, e6]
      exact Reference.v20_re _ _ _ _ _ _
    · rw [Reference12Ideal.Read.val_main_v24_eq, e0, e1, e2, e3, e4, e5, e6]
      exact Reference.v24_re _ _ _ _ _ _ _
    · rw [Reference12Ideal.Read.val_main_v2_eq, e0, e4, e5, e6]
      exact Reference.v2_re _ _ _ _

end Cert.Up

end
-- ==== Proof.ConvReference.lean ====
/-
  The convolution module's reference on arrays of real numbers: the gated convolution with its bias, and the silu of its
  head-wise layer norm. The thirty-one taps' terms are first gathered into one recursion over the taps.
-/
module

public import proofs.«01_k».proof.Proof.TapsReference
public import proofs.«01_k».proof.Proof.NormReference
public import proofs.«01_k».proof.Proof.Gen.Reference13Ideal.Read

@[expose] public section

set_option maxRecDepth 16384

noncomputable section

namespace Cert.Conv

open Idealize.ShloMosaic hiding ix1 ix2 eq_ix2
open Idealize.ShloMosaic.ValueIdx
open Idealize.ShloMosaic.Tactic
open Cert.Reals Cert.Taps Cert.ConvNorm
open scoped BigOperators

/-- The gated convolution: tap `k` of row `t` meets the row `30 - k` before it. -/
def conv (V : Fin 4096 → Fin 1024 → ℝ) (W : Fin 31 → Fin 512 → ℝ) (t : ℕ) (c : Fin 512) : ℝ := ∑ k ∈ Finset.range 31, ext W k c * before V (t + k) c

/-- With its bias. -/
def zc (V : Fin 4096 → Fin 1024 → ℝ) (W : Fin 31 → Fin 512 → ℝ) (bd : Fin 512 → ℝ) (t : Fin 4096) (c : Fin 512) : ℝ := conv V W t.val c + bd c

/-- The silu of the layer norm. -/
def act (x g b : Fin 512 → ℝ) (c : Fin 512) : ℝ := pre x g b c * sg (pre x g b c)

namespace Reference

open Cert.Reference13Ideal Cert.Reference13Ideal.Gen Cert.Reference13Ideal.Read

section Taps
variable (x0 : FVec Ideal S4096x1024 .f32) (x1 : FVec Ideal S31x512 .f32)

/-- What tap `k` adds. -/
def termOf (k : Fin 31) : FVec Ideal S4096x512 .f32 :=
  mulf (broadcastInDim S4096x512 ![0, 1] bcast_S1x512_S4096x512_0_1
      (broadcastInDim S1x512 ![1] bcast_S512_S1x512_1
        (shapeCast S512 (extractStridedSlice S1x512 ![k.val, 0] x1 (Taps.Reference.row_slices k)) shapeCasts_S1x512_S512)))
    (extractStridedSlice S4096x512 ![k.val, 0] (val_main_v10 (F := Ideal) x0) (Taps.Reference.window_slices k))

/-- The terms of the first `n` taps added to zero. -/
def added (g : Fin 31 → FVec Ideal S4096x512 .f32) : (n : ℕ) → n ≤ 31 → FVec Ideal S4096x512 .f32
  | 0, _ => val_main_v17 (F := Ideal)
  | n + 1, h => addf (added g n (Nat.le_of_succ_le h)) (g ⟨n, h⟩)

theorem taps_added : val_main_v228 (F := Ideal) x0 x1 = added (termOf x0 x1) 31 le_rfl := by sl_kernel_rfl

/-- The convolution's input is the one its gradient is taken with, and the norm the one its gradient is of. -/
theorem input_eq : val_main_v10 (F := Ideal) x0 = Cert.Reference4Ideal.Read.val_main_v13 (F := Ideal) x0 := by sl_kernel_rfl
theorem norm_eq (x2 x3 x4 : FVec Ideal S1x512 .f32) : val_main_v254 (F := Ideal) x0 x1 x2 x3 x4
    = Cert.ReferenceIdeal.Read.val_main_v30 (F := Ideal) (val_main_v228 (F := Ideal) x0 x1) x2 x3 x4 := by sl_kernel_rfl

end Taps

variable (V : Fin 4096 → Fin 1024 → ℝ) (W : Fin 31 → Fin 512 → ℝ) (bd g b : Fin 512 → ℝ)

theorem termOf_re (k : Fin 31) : termOf (re2 V) (re2 W) k = re2 fun r c => ext W k.val c * before V (r.val + k.val) c := by
  rw [termOf, show extractStridedSlice S1x512 ![k.val, 0] (re2 W) (Taps.Reference.row_slices k) = row (W k) from
    (slice2 W k.val 0 (Taps.Reference.row_slices k) (by have := k.isLt; omega) (by norm_num)).trans
      (re_congr fun i => congrArg₂ W (Fin.ext (by have := (ax0 i).isLt; show k.val + (ax0 i).val = k.val; omega)) (Fin.ext (Nat.zero_add _))),
    show broadcastInDim S1x512 ![1] bcast_S512_S1x512_1 (shapeCast S512 (row (W k)) shapeCasts_S1x512_S512) = _ from Taps.Reference.row_again (W k),
    input_eq, Taps.Reference.v13_re,
    show extractStridedSlice S4096x512 ![k.val, 0] (re2 fun (r : Fin 4126) c => before V r.val c) (Taps.Reference.window_slices k) = _ from
      slice2 (fun (r : Fin 4126) c => before V r.val c) k.val 0 (Taps.Reference.window_slices k) (by have := k.isLt; omega) (by norm_num),
    show broadcastInDim S4096x512 ![0, 1] bcast_S1x512_S4096x512_0_1 (row (W k)) = _ from hostBcast2 (W k) _, mul2]
  exact re2_congr fun r c => by
    rw [ext_val]
    exact congrArg (W k c * ·) (congrArg₂ (before V) (Nat.add_comm _ _) (Fin.ext (Nat.zero_add _)))

theorem added_re (f : ℕ → Fin 4096 → Fin 512 → ℝ) (t : Fin 31 → FVec Ideal S4096x512 .f32) (h : ∀ k : Fin 31, t k = re2 (f k.val)) : (n : ℕ) → (hn : n ≤ 31) →
    added t n hn = re2 fun r c => ∑ k ∈ Finset.range n, f k r c
  | 0, _ => (show val_main_v17 (F := Ideal) = re2 fun _ _ => (0 : ℝ) from hostConst2 ofBits_zero _).trans (re2_congr fun _ _ => by rw [Finset.range_zero, Finset.sum_empty])
  | n + 1, hn => by
    rw [added, added_re f t h n, h, add2]
    exact re2_congr fun r c => by rw [Finset.sum_range_succ]

theorem v228_re : val_main_v228 (F := Ideal) (re2 V) (re2 W) = re2 fun r c => conv V W r.val c := by
  rw [taps_added, added_re (fun k r c => ext W k c * before V (r.val + k) c) _ (termOf_re V W)]; rfl

/-- The second result: the convolution with its bias. -/
theorem v257_re : val_main_v257 (F := Ideal) (re2 V) (re2 W) (row bd) = re2 (zc V W bd) := by
  rw [val_main_v257, v228_re, val_main_v256, show broadcastInDim S4096x512 ![0, 1] bcast_S1x512_S4096x512_0_1 (row bd) = _ from hostBcast2 bd _, add2]
  rfl

theorem v254_re : val_main_v254 (F := Ideal) (re2 V) (re2 W) (row bd) (row g) (row b) = re2 fun r c => pre (zc V W bd r) g b c := by
  rw [norm_eq, v228_re]
  exact funext fun i => ConvNorm.Reference.v30_re (fun r c => conv V W r.val c) bd g b i

/-- The first result: the silu of the norm. -/
theorem v255_re : val_main_v255 (F := Ideal) (re2 V) (re2 W) (row bd) (row g) (row b) = re2 fun r c => act (zc V W bd r) g b c := by
  simp only [val_main_v255, val_main_call0_v5, val_main_call0_v4, val_main_call0_v3, val_main_call0_v2, val_main_call0_v1, val_main_call0_v0,
    val_main_call0_cst, val_main_call0_cst_0, v254_re, hostConst2 ofBits_one]
  simp only [hostNeg2, hostExp2, add2, hostSg2, mul2]
  rfl

end Reference

end Cert.Conv

end
-- ==== Proof.ConvPoint.lean ====
/-
  The convolution module's kernel at one point: its pieces, gathered into the recursions of the convolution's gradient, and
  what they hold on arrays of reals.
-/
module

public import proofs.«01_k».proof.Proof.TapsWrites
public import proofs.«01_k».proof.Proof.NormKernel
public import proofs.«01_k».proof.Proof.ConvReference
public import proofs.«01_k».proof.Proof.Gen.Kernel13Ideal.Frame

@[expose] public section

set_option maxRecDepth 16384

noncomputable section

namespace Cert.Conv.Kernel

open Idealize.ShloMosaic hiding ix1 ix2 ix3 eq_ix2 eq_ix3
open Idealize.ShloMosaic.ValueIdx Idealize.ShloMosaic.Tactic
open Cert.Kernel13Ideal Cert.Kernel13Ideal.Gen Cert.Reals
open Cert.Taps (ext lo hi tapBox rowsBox shiftBox copyBox copyPieces rowsPieces tapSum re3 readCov_of_pieces mem_box)
open Cert.ConvNorm (avg pre)
open scoped BigOperators

/-! ## The pieces -/

theorem window_in (g : Fin 16) (k : Fin 31) :
    ∀ a, (![(2 + k.val) % 8, 32 * g.val + 8 * ((2 + k.val) / 8), 0] : Fin 3 → ℕ) a + S1x32x512.size a ≤ S8x544x512.size a := fun a => by
  fin_cases a
  · show (2 + k.val) % 8 + 1 ≤ 8; omega
  · show 32 * g.val + 8 * ((2 + k.val) / 8) + 32 ≤ 544; omega
  · show 0 + 512 ≤ 512; omega

/-- The rows tap `k` meets from row `32 g`, in the copy shifted by what is left over eight. -/
abbrev window (g : Fin 16) (k : Fin 31) : Rect S8x544x512 :=
  Rect.unit ![(2 + k.val) % 8, 32 * g.val + 8 * ((2 + k.val) / 8), 0] S1x32x512.size (window_in g k)

variable {F : FTy → Type} [FloatOps F]

/-- The pieces of the padded rows: the thirty-two rows before the block, the block, and eight rows of zeros. -/
def padded (i : grid0.Coords) (v : Vec F S512x1024 .f32) (e : Vec F S32x1024 .f32) : List (View.Piece (Elt F) S552x512 .f32) :=
  [⟨Rect.unit ![544, 0] S8x512.size inb_S552x512_S8x512_544_0, k0_pay4⟩, ⟨Rect.unit ![32, 0] S512x512.size inb_S552x512_S512x512_32_0, k0_pay3 v⟩,
    ⟨Rect.unit ![0, 0] S32x512.size inb_S552x512_S32x512_0_0, k0_pay2 i e⟩]

variable (c : Dev nD) (i : grid0.Coords) (arg1 : Memref sig .tc .vmem S512x1024 .f32) (harg1 : arg1.IsWhole)
  (arg2 : Memref sig .tc .vmem S32x1024 .f32) (harg2 : arg2.IsWhole) (arg3 : Memref sig .tc .vmem S32x512 .f32) (harg3 : arg3.IsWhole)
  (arg4 : Memref sig .tc .vmem S1x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x512 .bf16) (harg7 : arg7.IsWhole)
  (arg8 : Memref sig .tc .vmem S512x512 .bf16) (harg8 : arg8.IsWhole) (arg9 : Memref sig .tc .vmem S512x512 .f32) (harg9 : arg9.IsWhole)
  (arg10 : Memref sig .tc .vmem S552x512 .f32) (harg10 : arg10.IsWhole) (arg11 : Memref sig .tc .vmem S8x544x512 .f32) (harg11 : arg11.IsWhole)
  (x0 : Vec F S512x1024 .f32) (x1 : Vec F S32x1024 .f32) (x2 : Vec F S32x512 .f32) (x3 x4 x5 : Vec F S1x512 .f32) (x6 : Vec F S512x512 .bf16)

/-- What a row read whole is. -/
abbrev theRow (a : Memref sig .tc .vmem S1x512 .f32) (ha : a.IsWhole) (x : Vec F S1x512 .f32) : Vec F S1x512 .f32 :=
  View.readAt (Elt F) a.view (Rect.unit ![0, 0] S1x512.size inb_S1x512_S1x512_0_0).toLoadRect (ha.unread x)

def padPieces : List (View.Piece (Elt F) S552x512 .f32) :=
  padded i (View.readAt (Elt F) arg1.view (Rect.unit ![0, 0] S512x1024.size inb_S512x1024_S512x1024_0_0).toLoadRect (harg1.unread x0))
    (View.readAt (Elt F) arg2.view (Rect.unit ![0, 0] S32x1024.size inb_S32x1024_S32x1024_0_0).toLoadRect (harg2.unread x1))
def copies : List (View.Piece (Elt F) S8x544x512 .f32) :=
  copyPieces (fun b => arg10.view.readCov (padPieces i arg1 harg1 arg2 harg2 x0 x1) (shiftBox b).toLoadRect) 8 le_rfl
/-- The convolution's rows, from the bias on. -/
def rows : List (View.Piece (Elt F) S512x512 .f32) :=
  rowsPieces (fun g => tapSum (addf (broadcast S32x512 (Scalar.ofBits .f32 0x00000000#32)) (broadcastTo S32x512 (theRow arg4 harg4 x3) broadcasts_S1x512_S32x512))
    (fun k => View.readAt (Elt F) arg3.view (tapBox k).toLoadRect (harg3.unread x2))
    (fun k => arg11.view.readCov (copies i arg1 harg1 arg2 harg2 arg10 x0 x1) (window g k).toLoadRect) 31 le_rfl) 16 le_rfl
/-- The silu of the norm of `z`. -/
def normed (z : Vec F S512x512 .f32) (a : Vec F S512x512 .bf16) (g b : Vec F S1x512 .f32) : FVec F S512x512 .bf16 :=
  k0_pay1 (k0_pay194 (k0_pay191 z a) (k0_pay192 a) (k0_pay193 z a) (constant S512x512 .f32 0x00000000#32) g b)

theorem rows_eq :
    (kernelRun0_A c i arg1 harg1 arg2 harg2 arg3 harg3 arg4 harg4 arg5 harg5 arg6 harg6 arg7 harg7 arg8 harg8 arg9 harg9 arg10 harg10 arg11 harg11 x0 x1 x2 x3 x4 x5 x6).2.1
      = rows i arg1 harg1 arg2 harg2 arg3 harg3 arg4 harg4 arg10 arg11 x0 x1 x2 x3 := by sl_kernel_rfl
theorem normed_eq :
    (kernelRun0_A c i arg1 harg1 arg2 harg2 arg3 harg3 arg4 harg4 arg5 harg5 arg6 harg6 arg7 harg7 arg8 harg8 arg9 harg9 arg10 harg10 arg11 harg11 x0 x1 x2 x3 x4 x5 x6).1
      = [⟨Rect.unit ![0, 0] S512x512.size inb_S512x512_S512x512_0_0,
          normed (arg9.view.readCov (rows i arg1 harg1 arg2 harg2 arg3 harg3 arg4 harg4 arg10 arg11 x0 x1 x2 x3)
              (Rect.unit ![0, 0] S512x512.size inb_S512x512_S512x512_0_0).toLoadRect)
            (View.readAt (Elt F) arg7.view (Rect.unit ![0, 0] S512x512.size inb_S512x512_S512x512_0_0).toLoadRect (harg7.unread x6))
            (theRow arg5 harg5 x4) (theRow arg6 harg6 x5)⟩] := by sl_kernel_rfl

end Cert.Conv.Kernel

end
-- ==== Proof.ConvWrites.lean ====
/-
  The convolution module's kernel on arrays of reals: what one point writes, from the blocks it reads.
-/
module

public import proofs.«01_k».proof.Proof.ConvPoint
public import Idealize.ShloMosaic.Lib.Pipeline.ValueKit

@[expose] public section

set_option maxRecDepth 16384

noncomputable section

namespace Cert.Conv.Kernel

open Idealize.ShloMosaic hiding ix1 ix2 ix3 eq_ix2 eq_ix3
open Idealize.ShloMosaic.ValueIdx Idealize.ShloMosaic.Tactic
open Cert.Kernel13Ideal Cert.Kernel13Ideal.Gen Cert.Reals
open Cert.Taps (ext ext_val lo hi tapBox shiftBox re3 readCov_of_pieces mem_box)
open Cert.ConvNorm (avg pre)
open scoped BigOperators

/-! ## The payloads -/

theorem own_re (V : Fin 512 → Fin 1024 → ℝ) : k0_pay3 (F := Ideal) (re2 V) = re2 fun r c => V r (lo c) * sg (V r (hi c)) := Taps.pay7_re V

theorem halo_re (i : grid0.Coords) (U : Fin 32 → Fin 1024 → ℝ) : k0_pay2 (F := Ideal) i (re2 U)
    = Scalar.select (Scalar.cmpi .sgt (BitVec.ofNat 32 (i 0).val) 0#32) (re2 fun r c => U r (lo c) * sg (U r (hi c))) (re2 fun _ _ => 0) := by
  unfold k0_pay2; dsimp only
  rw [show extractStridedSlice S32x512 ![0, 0] (re2 U) slices_S32x1024_o0_0_S32x512 = re2 fun r c => U r (lo c) from
      (Taps.slice2 U 0 0 _ (by norm_num) (by norm_num)).trans (re2_congr fun r c => congrArg₂ U (Fin.ext (Nat.zero_add _)) (Fin.ext (Nat.zero_add _))),
    show extractStridedSlice S32x512 ![0, 512] (re2 U) slices_S32x1024_o0_512_S32x512 = re2 fun r c => U r (hi c) from
      (Taps.slice2 U 0 512 _ (by norm_num) (by norm_num)).trans (re2_congr fun r c => congrArg₂ U (Fin.ext (Nat.zero_add _)) rfl),
    show broadcast S32x512 (Scalar.ofBits (F := Ideal) .f32 0x00000000#32) = _ from const2 ofBits_zero,
    show broadcast S32x512 (Scalar.ofBits (F := Ideal) .f32 0x3F800000#32) = _ from const2 ofBits_one, sub2, Reals.exp2, add2, sg2, mul2, shapeCast_self]

/-- The norm is the one the module's gradient recomputes. -/
theorem norm_eq {F : FTy → Type} [FloatOps F] (z : Vec F S512x512 .f32) (a : Vec F S512x512 .bf16) (g b : Vec F S1x512 .f32) :
    k0_pay194 (k0_pay191 z a) (k0_pay192 a) (k0_pay193 z a) (constant S512x512 .f32 0x00000000#32) g b = Cert.KernelIdeal.Gen.k0_pay8 a z g b := by
  sl_kernel_rfl

theorem normed_re (X : Fin 512 → Fin 512 → ℝ) (g b : Fin 512 → ℝ) : normed (F := Ideal) (re2 X) (re2 avg) (row g) (row b) = re2 fun r c => act (X r) g b c := by
  rw [normed, norm_eq, ConvNorm.Kernel.pay8_re]
  unfold k0_pay1; dsimp only
  rw [show broadcast S512x512 (Scalar.ofBits (F := Ideal) .f32 0x00000000#32) = _ from const2 ofBits_zero,
    show broadcast S512x512 (Scalar.ofBits (F := Ideal) .f32 0x3F800000#32) = _ from const2 ofBits_one, sub2, Reals.exp2, add2, sg2, mul2, trunc2]
  rfl

/-! ## The reads -/

section Reads
variable (i : grid0.Coords) (arg1 : Memref sig .tc .vmem S512x1024 .f32) (harg1 : arg1.IsWhole)
  (arg2 : Memref sig .tc .vmem S32x1024 .f32) (harg2 : arg2.IsWhole) (arg3 : Memref sig .tc .vmem S32x512 .f32) (harg3 : arg3.IsWhole)
  (arg4 : Memref sig .tc .vmem S1x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S512x512 .bf16) (harg7 : arg7.IsWhole)
  (arg9 : Memref sig .tc .vmem S512x512 .f32) (arg10 : Memref sig .tc .vmem S552x512 .f32) (arg11 : Memref sig .tc .vmem S8x544x512 .f32)
  (x0 : Vec Ideal S512x1024 .f32) (x1 : Vec Ideal S32x1024 .f32) (x2 : Vec Ideal S32x512 .f32) (x3 x4 x5 : Vec Ideal S1x512 .f32) (x6 : Vec Ideal S512x512 .bf16)

/-- The blocks a point reads are these reals: `P` the padded rows. -/
structure Blocks (P : ℕ → Fin 512 → ℝ) (W : Fin 31 → Fin 512 → ℝ) (bd g b : Fin 512 → ℝ) : Prop where
  h0 : k0_pay3 x0 = re2 fun r c => P (32 + r.val) c
  h1 : k0_pay2 i x1 = re2 fun r c => P r.val c
  hP : ∀ r c, 544 ≤ r → P r c = 0
  h2 : x2 = re2 fun r c => ext W r.val c
  h3 : x3 = row bd
  h4 : x4 = row g
  h5 : x5 = row b
  h6 : x6 = re2 avg

/-- The convolution with its bias from row `r` of the block. -/
def zAt (P : ℕ → Fin 512 → ℝ) (W : Fin 31 → Fin 512 → ℝ) (bd : Fin 512 → ℝ) (r : ℕ) (c : Fin 512) : ℝ :=
  bd c + ∑ k ∈ Finset.range 31, ext W k c * P (2 + k + r) c

theorem theRow_re (a : Memref sig .tc .vmem S1x512 .f32) (ha : a.IsWhole) (x : Vec Ideal S1x512 .f32) : theRow a ha x = x := by
  rw [theRow, View.readAt_eq_ld, ha.read_unread, View.ld_unit_lit' _ _ (by decide)]

variable {i x0 x1 x2 x3 x4 x5 x6} {P : ℕ → Fin 512 → ℝ} {W : Fin 31 → Fin 512 → ℝ} {bd g b : Fin 512 → ℝ} (hb : Blocks i x0 x1 x2 x3 x4 x5 x6 P W bd g b)
include hb

theorem tap_re (k : Fin 31) : View.readAt (Elt Ideal) arg3.view (tapBox k).toLoadRect (harg3.unread x2) = row (W k) := by
  rw [View.readAt_eq_ld, harg3.read_unread, hb.h2]
  funext x
  have hx : (x 0).val < 1 := (x 0).isLt
  refine (View.ld_unit_apply_of _ _ _ _ x (ix2 ⟨k.val, by omega⟩ (x 1)) fun a => ?_).trans (congrArg _ (ext_val W k _))
  match a with
  | 0 => show k.val = k.val + (x 0).val; omega
  | 1 => exact (Nat.zero_add _).symm

theorem padded_hold : ∀ p ∈ padded i x0 x1, ∀ x : p.1.shape.Idx, p.2 x = ((P (p.1.emb x 0).val (p.1.emb x 1) : ℝ) : EReal) := by
  have h4 : k0_pay4 (F := Ideal) = re2 (m := 8) (n := 512) fun _ _ => 0 := by
    unfold k0_pay4; dsimp only; rw [shapeCast_self]; exact const2 ofBits_zero
  intro p hp x
  simp only [padded, List.mem_cons, List.not_mem_nil, or_false] at hp
  obtain rfl | rfl | rfl := hp
  · refine (congrFun h4 x).trans (congrArg _ (hb.hP _ _ ?_).symm)
    show 544 ≤ 544 + 1 * (x 0).val
    omega
  · refine (congrFun hb.h0 x).trans (congrArg _ (congrArg₂ P ?_ (Fin.ext ?_)))
    · show 32 + (x 0).val = 32 + 1 * (x 0).val; omega
    · show (x 1).val = 0 + 1 * (x 1).val; omega
  · refine (congrFun hb.h1 x).trans (congrArg _ (congrArg₂ P ?_ (Fin.ext ?_)))
    · show (x 0).val = 0 + 1 * (x 0).val; omega
    · show (x 1).val = 0 + 1 * (x 1).val; omega

omit hb in
theorem padded_cover (y : S552x512.Idx) : ∃ p ∈ padded i x0 x1, y ∈ p.1.set := by
  have h0 : (y 0).val < 552 := (y 0).isLt
  have h1 : (y 1).val < 512 := (y 1).isLt
  by_cases ha : (y 0).val < 32
  · refine ⟨_, List.mem_cons_of_mem _ (List.mem_cons_of_mem _ List.mem_cons_self), mem_box inb_S552x512_S32x512_0_0 y fun a => ?_⟩
    match a with
    | 0 => exact ⟨Nat.zero_le _, by show _ < 0 + 32; omega⟩
    | 1 => exact ⟨Nat.zero_le _, by show _ < 0 + 512; omega⟩
  · by_cases hc : (y 0).val < 544
    · refine ⟨_, List.mem_cons_of_mem _ List.mem_cons_self, mem_box inb_S552x512_S512x512_32_0 y fun a => ?_⟩
      match a with
      | 0 => exact ⟨by show 32 ≤ _; omega, by show _ < 32 + 512; omega⟩
      | 1 => exact ⟨Nat.zero_le _, by show _ < 0 + 512; omega⟩
    · refine ⟨_, List.mem_cons_self, mem_box inb_S552x512_S8x512_544_0 y fun a => ?_⟩
      match a with
      | 0 => exact ⟨by show 544 ≤ _; omega, by show _ < 544 + 8; omega⟩
      | 1 => exact ⟨Nat.zero_le _, by show _ < 0 + 512; omega⟩

theorem pads_re (q : Fin 8) : arg10.view.readCov (padPieces i arg1 harg1 arg2 harg2 x0 x1) (shiftBox q).toLoadRect = re2 fun r c => P (q.val + r.val) c := by
  rw [padPieces, View.readAt_eq_ld, View.readAt_eq_ld, harg1.read_unread, harg2.read_unread, View.ld_unit_lit' _ _ (by decide), View.ld_unit_lit' _ _ (by decide)]
  refine (readCov_of_pieces arg10.view (padded i x0 x1) (fun y => ((P (y 0).val (y 1) : ℝ) : EReal)) (padded_hold hb) (shiftBox q) fun x => padded_cover _).trans ?_
  funext x
  refine congrArg _ (congrArg₂ P (?_ : q.val + 1 * (x 0).val = q.val + (x 0).val) (Fin.ext (?_ : 0 + 1 * (x 1).val = (x 1).val))) <;> omega

theorem window_re (q : Fin 16) (k : Fin 31) : arg11.view.readCov (copies i arg1 harg1 arg2 harg2 arg10 x0 x1) (window q k).toLoadRect
    = re3 fun _ r c => P (2 + k.val + (32 * q.val + r)) c := by
  rw [copies]
  refine (readCov_of_pieces arg11.view _ (fun y => ((P ((y 0).val + (y 1).val) (y 2) : ℝ) : EReal))
    (Taps.copies_hold P _ (pads_re arg1 harg1 arg2 harg2 arg10 hb) 8 le_rfl) (window q k) fun x => Taps.copies_cover _ _ 8 le_rfl ((window q k).emb x 0).isLt).trans ?_
  funext x
  have hx : (x 0).val < 1 := (x 0).isLt
  refine congrArg _ (congrArg₂ P (?_ : ((2 + k.val) % 8 + 1 * (x 0).val) + (32 * q.val + 8 * ((2 + k.val) / 8) + 1 * (x 1).val)
    = 2 + k.val + (32 * q.val + (x 1).val)) (Fin.ext (?_ : 0 + 1 * (x 2).val = (x 2).val))) <;> omega

theorem rows_hold : ∀ p ∈ rows i arg1 harg1 arg2 harg2 arg3 harg3 arg4 harg4 arg10 arg11 x0 x1 x2 x3, ∀ x : p.1.shape.Idx,
    p.2 x = ((zAt P W bd (p.1.emb x 0).val (p.1.emb x 1) : ℝ) : EReal) :=
  Taps.rows_hold (zAt P W bd) (fun q => Taps.tapSum_re bd W (fun k r c => P (2 + k + (32 * q.val + r)) c) _ _ _
    (by rw [theRow_re, hb.h3, show broadcast S32x512 (Scalar.ofBits (F := Ideal) .f32 0x00000000#32) = _ from const2 ofBits_zero,
          show broadcastTo S32x512 (row bd) broadcasts_S1x512_S32x512 = _ from bcast2 bd _, add2]
        exact re2_congr fun _ c => zero_add _)
    (tap_re arg3 harg3 hb) (window_re arg1 harg1 arg2 harg2 arg10 arg11 hb q) 31 le_rfl) 16 le_rfl

omit hb in
theorem rows_cover (y : S512x512.Idx) : ∃ p ∈ rows i arg1 harg1 arg2 harg2 arg3 harg3 arg4 harg4 arg10 arg11 x0 x1 x2 x3, y ∈ p.1.set :=
  Taps.rows_cover y 16 le_rfl (y 0).isLt

/-! ## The writes -/

/-- The convolution over the block. -/
theorem rows_out {κ : Kind} {sp : Space} (v : View sig κ sp S512x512 .f32) :
    v.read (Elt Ideal) (v.writes (Elt Ideal) v.junk (rows i arg1 harg1 arg2 harg2 arg3 harg3 arg4 harg4 arg10 arg11 x0 x1 x2 x3))
      = re2 fun r c => zAt P W bd r.val c := by
  rw [View.read_writes_junk_eq_canon]
  exact funext fun y => View.canon_apply_of_pieces (Val := Elt Ideal) (fun y => ((zAt P W bd (y 0).val (y 1) : ℝ) : EReal)) _
    (rows_hold arg1 harg1 arg2 harg2 arg3 harg3 arg4 harg4 arg10 arg11 hb) y (rows_cover arg1 harg1 arg2 harg2 arg3 harg3 arg4 harg4 arg10 arg11 y)

theorem rows_read : arg9.view.readCov (rows i arg1 harg1 arg2 harg2 arg3 harg3 arg4 harg4 arg10 arg11 x0 x1 x2 x3)
      (Rect.unit ![0, 0] S512x512.size inb_S512x512_S512x512_0_0).toLoadRect = re2 fun r c => zAt P W bd r.val c := by
  refine (readCov_of_pieces arg9.view (rows i arg1 harg1 arg2 harg2 arg3 harg3 arg4 harg4 arg10 arg11 x0 x1 x2 x3)
    (fun y => ((zAt P W bd (y 0).val (y 1) : ℝ) : EReal)) (rows_hold arg1 harg1 arg2 harg2 arg3 harg3 arg4 harg4 arg10 arg11 hb)
    (Rect.unit ![0, 0] S512x512.size inb_S512x512_S512x512_0_0) fun x => rows_cover arg1 harg1 arg2 harg2 arg3 harg3 arg4 harg4 arg10 arg11 _).trans ?_
  funext x
  refine congrArg _ (congrArg₂ (zAt P W bd) (?_ : 0 + 1 * (x 0).val = (x 0).val) (Fin.ext (?_ : 0 + 1 * (x 1).val = (x 1).val))) <;> omega

/-- The silu of the norm over the block. -/
theorem normed_out {κ : Kind} {sp : Space} (v : View sig κ sp S512x512 .bf16) :
    v.read (Elt Ideal) (v.writes (Elt Ideal) v.junk [⟨Rect.unit ![0, 0] S512x512.size inb_S512x512_S512x512_0_0,
          normed (arg9.view.readCov (rows i arg1 harg1 arg2 harg2 arg3 harg3 arg4 harg4 arg10 arg11 x0 x1 x2 x3)
              (Rect.unit ![0, 0] S512x512.size inb_S512x512_S512x512_0_0).toLoadRect)
            (View.readAt (Elt Ideal) arg7.view (Rect.unit ![0, 0] S512x512.size inb_S512x512_S512x512_0_0).toLoadRect (harg7.unread x6))
            (theRow arg5 harg5 x4) (theRow arg6 harg6 x5)⟩])
      = re2 fun r c => act (fun c => zAt P W bd r.val c) g b c := by
  rw [View.read_writes_junk_eq_canon, View.canon_cons_unit_lit' _ _ _ (by decide), rows_read arg1 harg1 arg2 harg2 arg3 harg3 arg4 harg4 arg9 arg10 arg11 hb,
    theRow_re, theRow_re, View.readAt_eq_ld, harg7.read_unread, View.ld_unit_lit' _ _ (by decide), hb.h4, hb.h5, hb.h6, normed_re]

end Reads

end Cert.Conv.Kernel

end
-- ==== Proof.ConvRun.lean ====
/-
  The convolution module's kernel over its eight blocks of 512 rows: the region's input arrays, as the host prepares them,
  the blocks each point reads, and what the output arrays hold at the end.
-/
module

public import proofs.«01_k».proof.Proof.ConvWrites
public import proofs.«01_k».proof.Proof.NormEntry
public import proofs.«01_k».proof.Proof.TapsEntry

@[expose] public section

set_option maxRecDepth 16384

noncomputable section

namespace Cert.Conv.Kernel

open Idealize.ShloMosaic hiding ix1 ix2 ix3 eq_ix2 eq_ix3
open Idealize.ShloMosaic.ValueIdx
open Cert.Kernel13Ideal Cert.Kernel13Ideal.Gen Cert.Reals
open Cert.Taps (ext ext_lt ext_ge ext_val lo hi gated padRows2)
open Cert.ConvNorm (avg pre)
open scoped BigOperators

/-- Row `r` of block `t`, and row `r` of the thirty-two before it. -/
def brow (t : Fin cfg0.N) (r : Fin 512) : Fin 4096 :=
  ⟨t.val * 512 + r.val, by have h : t.val < 8 := t.isLt; omega⟩
def hrow (t : Fin cfg0.N) (r : Fin 32) : Fin 4096 :=
  ⟨(t.val * 16 - 1) * 32 + r.val, by have h : t.val < 8 := t.isLt; omega⟩

/-- Only the first block's rows have none before them. -/
theorem first_block : ∀ t : Fin cfg0.N, Scalar.cmpi .sgt (BitVec.ofNat 32 (grid0.coords t 0).val) 0#32 = if 0 < t.val then 1#1 else 0#1 :=
  (by decide +kernel : ∀ t : Fin grid0.N, _)

variable {m : (ℓ : Loc nD τ sig) → Buf (Elt Ideal) ℓ} {c : Dev nD} {V : Fin 4096 → Fin 1024 → ℝ} {W : Fin 31 → Fin 512 → ℝ} {bd g b : Fin 512 → ℝ}

/-- The region's input arrays are these reals. -/
structure Inputs (m : (ℓ : Loc nD τ sig) → Buf (Elt Ideal) ℓ) (c : Dev nD) (V : Fin 4096 → Fin 1024 → ℝ) (W : Fin 31 → Fin 512 → ℝ)
    (bd g b : Fin 512 → ℝ) : Prop where
  hV : Gen.V m c main_arg0 = re2 V
  hW : Gen.V m c main_v11 = re2 fun (r : Fin 32) c => ext W r.val c
  hd : Gen.V m c main_arg2 = row bd
  hg : Gen.V m c main_arg3 = row g
  hb : Gen.V m c main_arg4 = row b
  ha : Gen.V m c main_v10 = re2 avg

theorem entry_avg : Gen.V m c main_v10 = re2 avg := by
  unfold Gen.V V0 hostOps0 hostOps0_1 hostOps0_2 hostOps0_3
  simp only [List.flatten_cons, List.flatten_nil, List.cons_append, List.nil_append, List.append_nil]
  after_results
  exact ConvNorm.Kernel.host_avg

/-- The host's row of zeros below the taps. -/
theorem entry_w (h : m ((c.tc : Thread nD τ).loc main_arg1) = re2 W) : Gen.V m c main_v11 = re2 fun (r : Fin 32) c => ext W r.val c := by
  unfold Gen.V V0 hostOps0 hostOps0_1 hostOps0_2 hostOps0_3
  simp only [List.flatten_cons, List.flatten_nil, List.cons_append, List.nil_append, List.append_nil]
  after_results
  refine Eq.trans ?_ ((padRows2 (m := 31) (p := 32) W 0 1 (by decide) h_S_).trans (re2_congr fun r c => if_pos (Nat.zero_le _)))
  rw [← h, ← Taps.Kernel.zero_word]; rfl

theorem inputs (h0 : m ((c.tc : Thread nD τ).loc main_arg0) = re2 V) (h1 : m ((c.tc : Thread nD τ).loc main_arg1) = re2 W)
    (h2 : m ((c.tc : Thread nD τ).loc main_arg2) = row bd) (h3 : m ((c.tc : Thread nD τ).loc main_arg3) = row g)
    (h4 : m ((c.tc : Thread nD τ).loc main_arg4) = row b) : Inputs m c V W bd g b :=
  ⟨(V_main_arg0 m c).trans h0, entry_w h1, (V_main_arg2 m c).trans h2, (V_main_arg3 m c).trans h3, (V_main_arg4 m c).trans h4, entry_avg⟩

/-- The gated rows from the thirty-two before a block on, as the kernel copies them. -/
def fromBlock (V : Fin 4096 → Fin 1024 → ℝ) (t r : ℕ) (c : Fin 512) : ℝ :=
  if r < 544 ∧ 32 ≤ t * 512 + r then ext (gated V) (t * 512 + r - 32) c else 0

/-- Over a block, the taps' sum is the convolution. -/
theorem zAt_eq (t : Fin cfg0.N) (r : Fin 512) (c : Fin 512) : zAt (fromBlock V t.val) W bd r.val c = zc V W bd (brow t r) c := by
  refine (add_comm _ _).trans (congrArg (· + bd c) (Finset.sum_congr rfl fun k hk => congrArg (ext W k c * ·) ?_))
  have hk : k < 31 := Finset.mem_range.mp hk
  have hr : r.val < 512 := r.isLt
  show (if 2 + k + r.val < 544 ∧ 32 ≤ t.val * 512 + (2 + k + r.val) then ext (gated V) (t.val * 512 + (2 + k + r.val) - 32) c else 0)
    = if 30 ≤ t.val * 512 + r.val + k then ext (gated V) (t.val * 512 + r.val + k - 30) c else 0
  by_cases h : 30 ≤ t.val * 512 + r.val + k
  · rw [if_pos h, if_pos ⟨by omega, by omega⟩]
    exact congrArg (ext (gated V) · c) (by omega)
  · rw [if_neg h, if_neg (by omega)]

variable (hin : Inputs m c V W bd g b)
include hin

theorem iblk0 (t : Fin cfg0.N) : iblk m c 0 t = re2 fun r => V (brow t r) := by
  have e : ∀ t : Fin cfg0.N, win0_0.index t = ![t.val, 0] := (by decide +kernel : ∀ t : Fin grid0.N, _)
  funext i
  unfold iblk; rw [View.read_apply]
  refine (congrFun hin.hV _).trans ?_
  refine congrArg₂ (fun p q => ((V p q : ℝ) : EReal)) (Fin.ext ?_) (Fin.ext ?_) <;> dsimp only [ax0, ax1, brow] <;> blk_simp [e] <;> rfl

theorem iblk1 (t : Fin cfg0.N) : iblk m c 1 t = re2 fun r => V (hrow t r) := by
  have e : ∀ t : Fin cfg0.N, win0_1.index t = ![t.val * 16 - 1, 0] := (by decide +kernel : ∀ t : Fin grid0.N, _)
  funext i
  unfold iblk; rw [View.read_apply]
  refine (congrFun hin.hV _).trans ?_
  refine congrArg₂ (fun p q => ((V p q : ℝ) : EReal)) (Fin.ext ?_) (Fin.ext ?_) <;> dsimp only [ax0, ax1, hrow] <;> blk_simp [e] <;> rfl

theorem iblk2 (t : Fin cfg0.N) : iblk m c 2 t = re2 fun (r : Fin 32) c => ext W r.val c := by
  have e : ∀ t : Fin cfg0.N, win0_2.index t = ![0, 0] := (by decide +kernel : ∀ t : Fin grid0.N, _)
  funext i
  unfold iblk; rw [View.read_apply]
  refine (congrFun hin.hW _).trans ?_
  refine congrArg₂ (fun (p : Fin 32) q => ((ext W p.val q : ℝ) : EReal)) (Fin.ext ?_) (Fin.ext ?_) <;> dsimp only [ax0, ax1] <;> blk_simp [e] <;> rfl

theorem iblk3 (t : Fin cfg0.N) : iblk m c 3 t = row bd := by
  have e : ∀ t : Fin cfg0.N, win0_3.index t = ![0, 0] := (by decide +kernel : ∀ t : Fin grid0.N, _)
  funext i
  unfold iblk; rw [View.read_apply]
  refine (congrFun hin.hd _).trans ?_
  refine congrArg (fun p => ((bd p : ℝ) : EReal)) (Fin.ext ?_) <;> dsimp only [ax0, ax1] <;> blk_simp [e] <;> rfl

theorem iblk4 (t : Fin cfg0.N) : iblk m c 4 t = row g := by
  have e : ∀ t : Fin cfg0.N, win0_4.index t = ![0, 0] := (by decide +kernel : ∀ t : Fin grid0.N, _)
  funext i
  unfold iblk; rw [View.read_apply]
  refine (congrFun hin.hg _).trans ?_
  refine congrArg (fun p => ((g p : ℝ) : EReal)) (Fin.ext ?_) <;> dsimp only [ax0, ax1] <;> blk_simp [e] <;> rfl

theorem iblk5 (t : Fin cfg0.N) : iblk m c 5 t = row b := by
  have e : ∀ t : Fin cfg0.N, win0_5.index t = ![0, 0] := (by decide +kernel : ∀ t : Fin grid0.N, _)
  funext i
  unfold iblk; rw [View.read_apply]
  refine (congrFun hin.hb _).trans ?_
  refine congrArg (fun p => ((b p : ℝ) : EReal)) (Fin.ext ?_) <;> dsimp only [ax0, ax1] <;> blk_simp [e] <;> rfl

theorem iblk6 (t : Fin cfg0.N) : iblk m c 6 t = re2 avg := by
  have e : ∀ t : Fin cfg0.N, win0_6.index t = ![0, 0] := (by decide +kernel : ∀ t : Fin grid0.N, _)
  funext i
  unfold iblk; rw [View.read_apply]
  refine (congrFun hin.ha _).trans ?_
  refine congrArg₂ (fun p q => ((avg p q : ℝ) : EReal)) (Fin.ext ?_) (Fin.ext ?_) <;> dsimp only [ax0, ax1] <;> blk_simp [e] <;> rfl

theorem blocks (t : Fin cfg0.N) : Blocks (grid0.coords t) (iblk m c 0 t) (iblk m c 1 t) (iblk m c 2 t) (iblk m c 3 t) (iblk m c 4 t)
    (iblk m c 5 t) (iblk m c 6 t) (fromBlock V t.val) W bd g b where
  h0 := by
    have ht : t.val < 8 := t.isLt
    rw [iblk0 hin, own_re]
    refine re2_congr fun r c => ?_
    rw [fromBlock, if_pos ⟨by omega, by omega⟩, ext_lt (gated V) (show t.val * 512 + (32 + r.val) - 32 < 4096 by omega)]
    exact congrArg (gated V · c) (Fin.ext (show t.val * 512 + r.val = t.val * 512 + (32 + r.val) - 32 by omega))
  h1 := by
    have ht : t.val < 8 := t.isLt
    rw [iblk1 hin, halo_re, first_block]
    by_cases h : 0 < t.val
    · rw [if_pos h]
      refine (if_pos rfl : Scalar.select 1#1 _ _ = _).trans (re2_congr fun r c => ?_)
      rw [fromBlock, if_pos ⟨by omega, by omega⟩, ext_lt (gated V) (show t.val * 512 + r.val - 32 < 4096 by omega)]
      exact congrArg (gated V · c) (Fin.ext (show (t.val * 16 - 1) * 32 + r.val = t.val * 512 + r.val - 32 by omega))
    · rw [if_neg h]
      refine (if_neg (by decide) : Scalar.select 0#1 _ _ = _).trans (re2_congr fun r c => ?_)
      rw [fromBlock, if_neg (by omega)]
  hP := fun r c h => if_neg (by omega)
  h2 := iblk2 hin t
  h3 := iblk3 hin t
  h4 := iblk4 hin t
  h5 := iblk5 hin t
  h6 := iblk6 hin t

theorem out7 (t : Fin cfg0.N) : (outsAt0 m c t).1 = re2 fun r => act (zc V W bd (brow t r)) g b := by
  unfold outsAt0; dsimp only
  unfold out0_A_7
  rw [normed_eq]
  refine (normed_out _ _ _ _ _ _ _ _ _ _ _ _ _ _ _ _ _ (blocks hin t) _).trans (re2_congr fun r c => congrArg (act · g b c) (funext fun c => zAt_eq t r c))

theorem out8 (t : Fin cfg0.N) : (outsAt0 m c t).2 = re2 fun r => zc V W bd (brow t r) := by
  unfold outsAt0; dsimp only
  unfold out0_A_8
  rw [rows_eq]
  exact (rows_out _ _ _ _ _ _ _ _ _ _ (blocks hin t) _).trans (re2_congr fun r c => zAt_eq t r c)

theorem arr7 : (dats m 0 c).arrAt 7 cfg0.N = re2 fun p q => act (zc V W bd p) g b q := by
  have e : ∀ t : Fin cfg0.N, win0_7.index t = ![t.val, 0] := (by decide +kernel : ∀ t : Fin grid0.N, _)
  refine (dats m 0 c).arrAt_eq_of_covers 7 _ (by decide +kernel) fun t _ y => ?_
  blk_simp
  rw [after0_7, out7 hin]
  refine congrArg₂ (fun p q => ((act (zc V W bd p) g b q : ℝ) : EReal)) (Fin.ext ?_) (Fin.ext ?_) <;> dsimp only [ax0, ax1, brow] <;> blk_simp [e] <;> rfl

theorem arr8 : (dats m 0 c).arrAt 8 cfg0.N = re2 (zc V W bd) := by
  have e : ∀ t : Fin cfg0.N, win0_8.index t = ![t.val, 0] := (by decide +kernel : ∀ t : Fin grid0.N, _)
  refine (dats m 0 c).arrAt_eq_of_covers 8 _ (by decide +kernel) fun t _ y => ?_
  blk_simp
  rw [after0_8, out8 hin]
  refine congrArg₂ (fun p q => ((zc V W bd p q : ℝ) : EReal)) (Fin.ext ?_) (Fin.ext ?_) <;> dsimp only [ax0, ax1, brow] <;> blk_simp [e] <;> rfl

/-- The host widens the narrow result. -/
theorem tail : Pipeline.afterTail₀ cfgs (dats m) 0 (V0 m) [hostOps1] c main_v13 = re2 fun p q => act (zc V W bd p) g b q := by
  have e : Pipeline.withArrays (cfgs 0).spec c (V0 m c) (fun w => (dats m 0 c).arrAt w (cfgs 0).N) (Proc.devRef .tc main_v12_0) = _ :=
    (Pipeline.withArrays_arr_shared spec0 c (V0 m c) (fun w => (dats m 0 c).arrAt w (cfgs 0).N) (fun w w' hne he => by
      have hw : w = 0 ∨ w = 1 := by revert w w'; decide
      rcases hw with rfl | rfl
      · exact ((dats m 0 c).arrAt_in 0 rfl _).trans (A_eq m c 0)
      · exact ((dats m 0 c).arrAt_in 1 rfl _).trans (A_eq m c 1)) 7).trans (arr7 hin)
  unfold Pipeline.afterTail₀ hostOps1
  simp only [List.flatten_cons, List.flatten_nil, List.cons_append, List.nil_append, List.append_nil]
  after_results
  rw [e]; rfl

end Cert.Conv.Kernel

end
-- ==== Proof.ConvClaim.lean ====
/-
  The convolution module's call: the kernel's two results are the reference's, on finite arguments.
-/
module

public import proofs.«01_k».proof.Defs
public import proofs.«01_k».proof.Proof.ConvRun
public import proofs.«01_k».proof.Proof.Gen.Kernel13
public import proofs.«01_k».proof.Proof.Gen.Pre_conv_module_finite
public import Idealize.ShloMosaic.Lib.Tactic

@[expose] public section

noncomputable section

namespace Cert.Conv

open Idealize.ShloMosaic hiding ix1 ix2 ix3 eq_ix2 eq_ix3
open Idealize.ShloMosaic.ValueIdx
open Idealize.SL.Sem Idealize.ShloMosaic.Tactic Cert.Reals

section Kernel

open Cert.Kernel13Ideal Cert.Kernel13Ideal.Gen

variable (m : (ℓ : Loc nD τ sig) → Buf (Elt Ideal) ℓ)

/-- The arguments of every device are reals. -/
structure Args (V : Dev nD → Fin 4096 → Fin 1024 → ℝ) (W : Dev nD → Fin 31 → Fin 512 → ℝ) (bd g b : Dev nD → Fin 512 → ℝ) : Prop where
  a0 (c : Dev nD) : m ((c.tc : Thread nD τ).loc main_arg0) = re2 (V c)
  a1 (c : Dev nD) : m ((c.tc : Thread nD τ).loc main_arg1) = re2 (W c)
  a2 (c : Dev nD) : m ((c.tc : Thread nD τ).loc main_arg2) = row (bd c)
  a3 (c : Dev nD) : m ((c.tc : Thread nD τ).loc main_arg3) = row (g c)
  a4 (c : Dev nD) : m ((c.tc : Thread nD τ).loc main_arg4) = row (b c)

theorem exists_args (h : Pre_Kernel13Ideal_conv_module_finite m) : ∃ V W bd g b, Args m V W bd g b := by
  choose V h0 using fun c : Dev nD => exists_re2 (m ((c.tc : Thread nD τ).loc main_arg0)) _ (h c).1
  choose W h1 using fun c : Dev nD => exists_re2 (m ((c.tc : Thread nD τ).loc main_arg1)) _ (h c).2.1
  choose bd h2 using fun c : Dev nD => exists_row (m ((c.tc : Thread nD τ).loc main_arg2)) _ (h c).2.2.1
  choose g h3 using fun c : Dev nD => exists_row (m ((c.tc : Thread nD τ).loc main_arg3)) _ (h c).2.2.2.1
  choose b h4 using fun c : Dev nD => exists_row (m ((c.tc : Thread nD τ).loc main_arg4)) _ (h c).2.2.2.2
  exact ⟨V, W, bd, g, b, ⟨h0, h1, h2, h3, h4⟩⟩

end Kernel

/-- The reference leaves its arguments alone, and declares no semaphore. -/
theorem reference_frame : Cert.quiescent_Reference13Ideal := fun m ρ _ =>
  (θ_run Cert.Reference13Ideal.defs _ _).mono
    (fun r h => ⟨fun c => (h c).2.2, sem_eq_zero_of_no_sems (by decide) r.2⟩) (Reference13Ideal.Value.run (F := Ideal) m ρ)

/-- The kernel's frame at the machine's floats: the printed form differs only in its name. -/
theorem frame_kernel : Cert.quiescent_Kernel13 := fun m ρ _ => Eq.mp (by sl_kernel_rfl) (Kernel13Ideal.Gen.frame (F := Bits) m ρ)

/-- The threads of the reference's launch. -/
abbrev R := Thread Reference13Ideal.nD Reference13Ideal.τ

theorem algebraic : Cert.algebraic_Kernel13Ideal_Reference13Ideal_pre_conv_module_finite := by
  intro m ρ m' ρ' hpre hagree
  obtain ⟨V, W, bd, g, b, h⟩ := exists_args m hpre
  refine ⟨fun c => re2 fun p q => act (zc (V c) (W c) (bd c) p) (g c) (b c) q, fun c => re2 (zc (V c) (W c) (bd c)), ?_, ?_⟩
  · refine θ_run_mono (θ_run_and (Kernel13Ideal.Gen.run_main m ρ) (Kernel13Ideal.Gen.unchanged m ρ)) ?_
    rintro r ⟨hr, hu⟩ c
    have hin := Kernel.inputs (h.a0 c) (h.a1 c) (h.a2 c) (h.a3 c) (h.a4 c)
    exact ⟨(hr.rest_eq c _ (by decide)).trans (Kernel.tail hin), (hr.out_eq c 8).trans (Kernel.arr8 hin), hu c⟩
  · refine θ_run_mono (Reference13Ideal.Value.run (F := Ideal) m' ρ') ?_
    intro r hr c
    obtain ⟨h0, h1, hu⟩ := hr c
    obtain ⟨e0, e1, e2, e3, e4⟩ := hagree c
    rw [h.a0 c] at e0
    rw [h.a1 c] at e1
    rw [h.a2 c] at e2
    rw [h.a3 c] at e3
    rw [h.a4 c] at e4
    refine ⟨h0.trans ?_, h1.trans ?_, hu⟩
    · refine (Reference13Ideal.Read.val_main_v255_eq _).trans ?_
      show Reference13Ideal.Read.val_main_v255 (m' ((c.tc : R).loc Reference13Ideal.main_arg0)) (m' ((c.tc : R).loc Reference13Ideal.main_arg1)) (m' ((c.tc : R).loc Reference13Ideal.main_arg2)) (m' ((c.tc : R).loc Reference13Ideal.main_arg3)) (m' ((c.tc : R).loc Reference13Ideal.main_arg4)) = _
      rw [e0, e1, e2, e3, e4]
      exact Reference.v255_re _ _ _ _ _
    · refine (Reference13Ideal.Read.val_main_v257_eq _).trans ?_
      show Reference13Ideal.Read.val_main_v257 (m' ((c.tc : R).loc Reference13Ideal.main_arg0)) (m' ((c.tc : R).loc Reference13Ideal.main_arg1)) (m' ((c.tc : R).loc Reference13Ideal.main_arg2)) = _
      rw [e0, e1, e2]
      exact Reference.v257_re _ _ _

end Cert.Conv

end
-- ==== Proof.StepKernel.lean ====
/-
  The scan-parameter forward kernel's payloads, each as the stage of the reference that computes the same value, in the
  layouts of the backward call: the coefficients' axes exchanged and the step size as a column.
-/
module

public import proofs.«01_k».proof.Proof.ParamsKernel
public import proofs.«01_k».proof.Proof.Gen.Kernel14Ideal.Frame
public import proofs.«01_k».proof.Proof.Gen.Reference14Ideal.Read

@[expose] public section

noncomputable section

namespace Cert.Step

open Idealize.ShloMosaic hiding ix1 ix2 ix3 eq_ix2 eq_ix3
open Idealize.ShloMosaic.ValueIdx
open Cert.Kernel14Ideal Cert.Kernel14Ideal.Gen Cert.Reference14Ideal.Read
open Cert.Params (G G1 GP GPC GCP ex col row1 spread3 mul_exchange add_exchange)

variable (a b : GP.Idx → EReal) (l : G.Idx → EReal) (r s : GPC.Idx → EReal)

theorem spread : broadcastTo GP (exp (F := Ideal) (φ := .f32) (col l)) broadcasts_S32x1_S32x64 = val_main_v2 (F := Ideal) l :=
  Params.spread_step l _ _ _ _

theorem pay1_eq : k0_pay1 (F := Ideal) (ex r) = ex r := by
  unfold k0_pay1; dsimp only
  rw [shapeCast_self]
theorem pay2_eq : k0_pay2 (F := Ideal) (ex s) = ex s := by
  unfold k0_pay2; dsimp only
  rw [shapeCast_self]
/-- The step size. -/
theorem pay3_eq : k0_pay3 (F := Ideal) (col l) = exp (F := Ideal) (φ := .f32) (col l) := by
  unfold k0_pay3; dsimp only
  rw [shapeCast_self]
/-- The discretised eigenvalues. -/
theorem pay4_eq : k0_pay4 (F := Ideal) a (col l) = val_main_v4 (F := Ideal) a l := by
  unfold k0_pay4; dsimp only
  rw [pay3_eq, spread]; rfl
theorem pay5_eq : k0_pay5 (F := Ideal) a b (col l) = val_main_v8 (F := Ideal) a b l := by
  unfold k0_pay5; dsimp only
  rw [pay3_eq, pay4_eq, spread]; rfl
theorem pay6_eq : k0_pay6 (F := Ideal) a b (col l) = val_main_v12 (F := Ideal) a b l := by
  unfold k0_pay6; dsimp only
  rw [pay3_eq, pay4_eq, spread]; rfl
/-- The quotient that scales the coefficients, its parts. -/
theorem pay8_eq : k0_pay8 (F := Ideal) a b (col l) = val_main_v17 (F := Ideal) a b l := by
  unfold k0_pay8; dsimp only
  rw [pay5_eq]; rfl
theorem pay9_eq : k0_pay9 (F := Ideal) a b (col l) = row1 (val_main_v21 (F := Ideal) a b l) := by
  unfold k0_pay9; dsimp only
  rw [pay8_eq, pay6_eq]; rfl
theorem pay10_eq : k0_pay10 (F := Ideal) a b (col l) = row1 (val_main_v26 (F := Ideal) a b l) := by
  unfold k0_pay10; dsimp only
  rw [pay8_eq, pay6_eq]; rfl
/-- The scaled coefficients. -/
theorem pay11_eq : k0_pay11 (F := Ideal) a b (col l) (ex r) (ex s) = ex (val_main_v32 (F := Ideal) a b l r s) := by
  unfold k0_pay11; dsimp only
  rw [pay9_eq, pay10_eq, pay1_eq, pay2_eq, spread3, spread3, mul_exchange, mul_exchange]; rfl
theorem pay12_eq : k0_pay12 (F := Ideal) a b (col l) (ex r) (ex s) = ex (val_main_v37 (F := Ideal) a b l r s) := by
  unfold k0_pay12; dsimp only
  rw [pay9_eq, pay10_eq, pay1_eq, pay2_eq, spread3, spread3, mul_exchange, mul_exchange, add_exchange]; rfl

end Cert.Step

end
-- ==== Proof.StepRun.lean ====
/-
  The scan-parameter forward kernel's one point: the blocks it reads are its whole arrays, as the host lays them out, and its
  four arrays, with the host's exchanges after it, end as the reference's results.
-/
module

public import proofs.«01_k».proof.Proof.StepKernel
public import Idealize.ShloMosaic.Lib.Pipeline.ValueKit

@[expose] public section

noncomputable section

namespace Cert.Step

open Idealize.ShloMosaic hiding ix1 ix2 ix3 eq_ix2 eq_ix3
open Idealize.ShloMosaic.ValueIdx
open Cert.Kernel14Ideal Cert.Kernel14Ideal.Gen Cert.Reference14Ideal.Read
open Cert.Params (G G1 GP GPC GCP ex col exchange_exchange)

variable (m : (ℓ : Loc nD τ sig) → Buf (Elt Ideal) ℓ) (c : Dev nD) (a b : GP.Idx → EReal) (l : G.Idx → EReal) (r s : GPC.Idx → EReal)

/-- The device's arguments. -/
structure Args : Prop where
  a0 : m ((c.tc : Thread nD τ).loc main_arg0) = a
  a1 : m ((c.tc : Thread nD τ).loc main_arg1) = b
  a2 : m ((c.tc : Thread nD τ).loc main_arg2) = l
  a3 : m ((c.tc : Thread nD τ).loc main_arg3) = r
  a4 : m ((c.tc : Thread nD τ).loc main_arg4) = s

variable {m c a b l r s} (h : Args m c a b l r s)
include h

theorem entry2 : V m c main_v0 = col l := by
  unfold V V0 hostOps0; simp only [List.flatten_cons, List.flatten_nil, List.append_nil]
  after_results
  exact congrArg (shapeCast G1 · shapeCasts_S32_S32x1) h.a2
theorem entry3 : V m c main_v1 = ex r := by
  unfold V V0 hostOps0; simp only [List.flatten_cons, List.flatten_nil, List.append_nil]
  after_results
  exact congrArg ex h.a3
theorem entry4 : V m c main_v2 = ex s := by
  unfold V V0 hostOps0; simp only [List.flatten_cons, List.flatten_nil, List.append_nil]
  after_results
  exact congrArg ex h.a4

/-- Each block is its array. -/
theorem iblk0 (t : Fin cfg0.N) : iblk m c 0 t = a := by
  have i0 : ∀ t : Fin cfg0.N, win0_0.index t = ![0, 0] := (by decide +kernel : ∀ t : Fin grid0.N, _)
  funext j
  unfold iblk; rw [View.read_apply]
  refine (congrFun ((V_main_arg0 m c).trans h.a0) _).trans (congrArg a (funext fun k => Fin.ext ?_))
  match k with
  | ⟨0, _⟩ => blk_simp [i0]; try rfl
  | ⟨1, _⟩ => blk_simp [i0]; try rfl

theorem iblk1 (t : Fin cfg0.N) : iblk m c 1 t = b := by
  have i0 : ∀ t : Fin cfg0.N, win0_1.index t = ![0, 0] := (by decide +kernel : ∀ t : Fin grid0.N, _)
  funext j
  unfold iblk; rw [View.read_apply]
  refine (congrFun ((V_main_arg1 m c).trans h.a1) _).trans (congrArg b (funext fun k => Fin.ext ?_))
  match k with
  | ⟨0, _⟩ => blk_simp [i0]; try rfl
  | ⟨1, _⟩ => blk_simp [i0]; try rfl

theorem iblk2 (t : Fin cfg0.N) : iblk m c 2 t = col l := by
  have i0 : ∀ t : Fin cfg0.N, win0_2.index t = ![0, 0] := (by decide +kernel : ∀ t : Fin grid0.N, _)
  funext j
  unfold iblk; rw [View.read_apply]
  refine (congrFun (entry2 h) _).trans (congrArg (col l) (funext fun k => Fin.ext ?_))
  match k with
  | ⟨0, _⟩ => blk_simp [i0]; try rfl
  | ⟨1, _⟩ => blk_simp [i0]; try rfl

theorem iblk3 (t : Fin cfg0.N) : iblk m c 3 t = ex r := by
  have i0 : ∀ t : Fin cfg0.N, win0_3.index t = ![0, 0, 0] := (by decide +kernel : ∀ t : Fin grid0.N, _)
  funext j
  unfold iblk; rw [View.read_apply]
  refine (congrFun (entry3 h) _).trans (congrArg (ex r) (funext fun k => Fin.ext ?_))
  match k with
  | ⟨0, _⟩ => blk_simp [i0]; try rfl
  | ⟨1, _⟩ => blk_simp [i0]; try rfl
  | ⟨2, _⟩ => blk_simp [i0]; try rfl

theorem iblk4 (t : Fin cfg0.N) : iblk m c 4 t = ex s := by
  have i0 : ∀ t : Fin cfg0.N, win0_4.index t = ![0, 0, 0] := (by decide +kernel : ∀ t : Fin grid0.N, _)
  funext j
  unfold iblk; rw [View.read_apply]
  refine (congrFun (entry4 h) _).trans (congrArg (ex s) (funext fun k => Fin.ext ?_))
  match k with
  | ⟨0, _⟩ => blk_simp [i0]; try rfl
  | ⟨1, _⟩ => blk_simp [i0]; try rfl
  | ⟨2, _⟩ => blk_simp [i0]; try rfl

/-- What the point leaves in each result's buffer. -/
theorem out5 (t : Fin cfg0.N) : (dats m 0 c).after 5 t = val_main_v8 (F := Ideal) a b l := by
  rw [after0_5, iblk0 h, iblk1 h, iblk2 h, iblk3 h, iblk4 h]
  unfold out0_5
  frame_out
  rw [pay5_eq]

theorem out6 (t : Fin cfg0.N) : (dats m 0 c).after 6 t = val_main_v12 (F := Ideal) a b l := by
  rw [after0_6, iblk0 h, iblk1 h, iblk2 h, iblk3 h, iblk4 h]
  unfold out0_6
  frame_out
  rw [pay6_eq]

theorem out7 (t : Fin cfg0.N) : (dats m 0 c).after 7 t = ex (val_main_v32 (F := Ideal) a b l r s) := by
  rw [after0_7, iblk0 h, iblk1 h, iblk2 h, iblk3 h, iblk4 h]
  unfold out0_7
  frame_out
  rw [pay11_eq]

theorem out8 (t : Fin cfg0.N) : (dats m 0 c).after 8 t = ex (val_main_v37 (F := Ideal) a b l r s) := by
  rw [after0_8, iblk0 h, iblk1 h, iblk2 h, iblk3 h, iblk4 h]
  unfold out0_8
  frame_out
  rw [pay12_eq]

/-- The arrays at the end. -/
theorem arr5 : (dats m 0 c).arrAt 5 cfg0.N = val_main_v8 (F := Ideal) a b l := by
  refine (dats m 0 c).arrAt_eq_of_after_last 5 ⟨0, by decide⟩ (by decide +kernel) _ fun j => ?_
  blk_simp
  exact congrFun (out5 h ⟨0, by decide⟩) _

theorem arr6 : (dats m 0 c).arrAt 6 cfg0.N = val_main_v12 (F := Ideal) a b l := by
  refine (dats m 0 c).arrAt_eq_of_after_last 6 ⟨0, by decide⟩ (by decide +kernel) _ fun j => ?_
  blk_simp
  exact congrFun (out6 h ⟨0, by decide⟩) _

theorem arr7 : (dats m 0 c).arrAt 7 cfg0.N = ex (val_main_v32 (F := Ideal) a b l r s) := by
  refine (dats m 0 c).arrAt_eq_of_after_last 7 ⟨0, by decide⟩ (by decide +kernel) _ fun j => ?_
  blk_simp
  exact congrFun (out7 h ⟨0, by decide⟩) _

theorem arr8 : (dats m 0 c).arrAt 8 cfg0.N = ex (val_main_v37 (F := Ideal) a b l r s) := by
  refine (dats m 0 c).arrAt_eq_of_after_last 8 ⟨0, by decide⟩ (by decide +kernel) _ fun j => ?_
  blk_simp
  exact congrFun (out8 h ⟨0, by decide⟩) _

/-- The host's exchanges after the kernel. -/
theorem tail7 : Pipeline.afterTail₀ cfgs (dats m) 0 (V0 m) [hostOps1] c main_v4 = val_main_v32 (F := Ideal) a b l r s := by
  have k : Pipeline.withArrays (cfgs 0).spec c (V0 m c) (fun w => (dats m 0 c).arrAt w (cfgs 0).N) (Proc.devRef .tc main_v3_2) = _ :=
    (Pipeline.withArrays_arr spec0 winFacts0.arr_inj c (V0 m c) (fun w => (dats m 0 c).arrAt w (cfgs 0).N) 7).trans (arr7 h)
  unfold Pipeline.afterTail₀ hostOps1
  simp only [List.flatten_cons, List.flatten_nil, List.cons_append, List.nil_append, List.append_nil]
  after_results
  rw [k]
  exact exchange_exchange _ _ _ _ rfl

theorem tail8 : Pipeline.afterTail₀ cfgs (dats m) 0 (V0 m) [hostOps1] c main_v5 = val_main_v37 (F := Ideal) a b l r s := by
  have k : Pipeline.withArrays (cfgs 0).spec c (V0 m c) (fun w => (dats m 0 c).arrAt w (cfgs 0).N) (Proc.devRef .tc main_v3_3) = _ :=
    (Pipeline.withArrays_arr spec0 winFacts0.arr_inj c (V0 m c) (fun w => (dats m 0 c).arrAt w (cfgs 0).N) 8).trans (arr8 h)
  unfold Pipeline.afterTail₀ hostOps1
  simp only [List.flatten_cons, List.flatten_nil, List.cons_append, List.nil_append, List.append_nil]
  after_results
  rw [k]
  exact exchange_exchange _ _ _ _ rfl

end Cert.Step

end
-- ==== Proof.StepClaim.lean ====
/-
  The scan-parameter forward call: the kernel's four results are the reference's, whatever the arguments.
-/
module

public import proofs.«01_k».proof.Defs
public import proofs.«01_k».proof.Proof.StepRun
public import proofs.«01_k».proof.Proof.Gen.Kernel14
public import Idealize.ShloMosaic.Lib.Tactic

@[expose] public section

noncomputable section

namespace Cert.Step

open Idealize.ShloMosaic hiding ix1 ix2 ix3 eq_ix2 eq_ix3
open Idealize.SL.Sem Idealize.ShloMosaic.Tactic

/-- The reference leaves its arguments alone, and declares no semaphore. -/
theorem reference_frame : Cert.quiescent_Reference14Ideal := fun m ρ _ =>
  (θ_run Cert.Reference14Ideal.defs _ _).mono
    (fun r h => ⟨fun c => (h c).2.2.2.2, sem_eq_zero_of_no_sems (by decide) r.2⟩) (Reference14Ideal.Value.run (F := Ideal) m ρ)

/-- The kernel's frame at the machine's floats: the printed form differs only in its name. -/
theorem frame_kernel : Cert.quiescent_Kernel14 := fun m ρ _ => Eq.mp (by sl_kernel_rfl) (Kernel14Ideal.Gen.frame (F := Bits) m ρ)

/-- The threads of the kernel's launch. -/
abbrev T := Thread Kernel14Ideal.nD Kernel14Ideal.τ

theorem algebraic : Cert.algebraic_Kernel14Ideal_Reference14Ideal := by
  intro m ρ m' ρ' _ hagree
  have h (c : Dev Kernel14Ideal.nD) : Args m c _ _ _ _ _ := ⟨rfl, rfl, rfl, rfl, rfl⟩
  refine ⟨fun c => Reference14Ideal.Read.val_main_v8 (m ((c.tc : T).loc Kernel14Ideal.main_arg0)) (m ((c.tc : T).loc Kernel14Ideal.main_arg1)) (m ((c.tc : T).loc Kernel14Ideal.main_arg2)),
    fun c => Reference14Ideal.Read.val_main_v12 (m ((c.tc : T).loc Kernel14Ideal.main_arg0)) (m ((c.tc : T).loc Kernel14Ideal.main_arg1)) (m ((c.tc : T).loc Kernel14Ideal.main_arg2)),
    fun c => Reference14Ideal.Read.val_main_v32 (m ((c.tc : T).loc Kernel14Ideal.main_arg0)) (m ((c.tc : T).loc Kernel14Ideal.main_arg1)) (m ((c.tc : T).loc Kernel14Ideal.main_arg2)) (m ((c.tc : T).loc Kernel14Ideal.main_arg3)) (m ((c.tc : T).loc Kernel14Ideal.main_arg4)),
    fun c => Reference14Ideal.Read.val_main_v37 (m ((c.tc : T).loc Kernel14Ideal.main_arg0)) (m ((c.tc : T).loc Kernel14Ideal.main_arg1)) (m ((c.tc : T).loc Kernel14Ideal.main_arg2)) (m ((c.tc : T).loc Kernel14Ideal.main_arg3)) (m ((c.tc : T).loc Kernel14Ideal.main_arg4)),
    θ_run_mono (θ_run_and (Kernel14Ideal.Gen.run_main m ρ) (Kernel14Ideal.Gen.unchanged m ρ)) ?_, ?_⟩
  · rintro r ⟨hr, hu⟩ c
    exact ⟨(hr.out_eq c 5).trans (arr5 (h c)), (hr.out_eq c 6).trans (arr6 (h c)), (hr.rest_eq c _ (by decide)).trans (tail7 (h c)),
      (hr.rest_eq c _ (by decide)).trans (tail8 (h c)), hu c⟩
  · refine θ_run_mono (Reference14Ideal.Value.run (F := Ideal) m' ρ') ?_
    intro r hr c
    obtain ⟨h0, h1, h2, h3, hu⟩ := hr c
    obtain ⟨e0, e1, e2, e3, e4⟩ := hagree c
    refine ⟨h0.trans ?_, h1.trans ?_, h2.trans ?_, h3.trans ?_, hu⟩
    · rw [Reference14Ideal.Read.val_main_v8_eq, e0, e1, e2]
    · rw [Reference14Ideal.Read.val_main_v12_eq, e0, e1, e2]
    · rw [Reference14Ideal.Read.val_main_v32_eq, e0, e1, e2, e3, e4]
    · rw [Reference14Ideal.Read.val_main_v37_eq, e0, e1, e2, e3, e4]

end Cert.Step

end
-- ==== Proof.FirstReference.lean ====
/-
  The first feed-forward block's entry: the rows normed, and the gated unit's gate of them with what its backward pass will
  read.  What the reference's host lines hold on real arguments.
-/
module

public import proofs.«01_k».proof.Proof.UpReference
public import proofs.«01_k».proof.Proof.Gen.Reference15Ideal.Read

@[expose] public section

noncomputable section

namespace Cert.First

open Idealize.ShloMosaic hiding ix1 ix2 eq_ix2 sum_idx2
open Idealize.ShloMosaic.ValueIdx
open Cert.Reals Cert.Act Cert.Up
open Cert.Project (nrm)
open scoped BigOperators

namespace Reference

open Cert.Reference15Ideal Cert.Reference15Ideal.Read

variable (X : Fin 4096 → Fin 1024 → ℝ) (g : Fin 1024 → ℝ) (G U : Fin 1024 → Fin 2816 → ℝ)

theorem v6_re : val_main_v6 (F := Ideal) (re2 X) = re2 fun r _ => msq (X r) := by
  unfold val_main_v6 val_main_v5 val_main_cst_1 val_main_v4 val_main_v3 val_main_cst_0 val_main_v2 val_main_v1 val_main_cst val_main_v0
  rw [mul2, hostSumCols _ _ (by decide), hostCols, hostConst2 ofBits_1024, hostDiv1024, hostConst2 ofBits_eps, add2]; rfl

theorem v11_re : val_main_v11 (F := Ideal) (re2 X) (row g) = re2 fun r => nrm (X r) g := by
  unfold val_main_v11 val_main_v10 val_main_v9 val_main_v8 val_main_v7
  rw [v6_re, hostRsqrt_msq, hostBcastCol, mul2, hostBcast2, mul2]; rfl

theorem v12_re : val_main_v12 (F := Ideal) (re2 X) (row g) (re2 G)
    = re2 fun r => lin (nrm (X r) g) G := by
  unfold val_main_v12
  rw [v11_re]
  exact hostNN none _ _ _

theorem v13_re : val_main_v13 (F := Ideal) (re2 X) (row g) (re2 U)
    = re2 fun r => lin (nrm (X r) g) U := v12_re X g U

/-- The logistic of the gate, its product with one minus it, and the swish. -/
theorem sg_re : val_main_v14_2 (F := Ideal) (re2 X) (row g) (re2 G)
    = re2 fun r c => sg (lin (nrm (X r) g) G c) := by
  simp only [val_main_v14_2, val_main_call0_v4, val_main_call0_v3, val_main_call0_v2, val_main_call0_v1, val_main_call0_v0, val_main_call0_cst,
    val_main_call0_cst_0, v12_re, hostConst2 ofBits_one, hostNeg2, hostExp2, add2, hostSg2]

theorem dsg_re : val_main_v14_1 (F := Ideal) (re2 X) (row g) (re2 G)
    = re2 fun r c => sg (lin (nrm (X r) g) G c) * (1 - sg (lin (nrm (X r) g) G c)) := by
  simp only [val_main_v14_1, val_main_call0_v7, val_main_call0_v6, val_main_call0_cst_1, sg_re, hostConst2 ofBits_one, sub2, mul2]

theorem v17_re : val_main_v17 (F := Ideal) (re2 X) (row g) (re2 G)
    = re2 fun r c => du (lin (nrm (X r) g) G c) := by
  simp only [val_main_v17, val_main_v16, val_main_cst_2, val_main_v14_0, v12_re, sg_re, hostConst2 ofBits_one, mul2]
  exact re2_congr fun r c => mul_one _

theorem v19_re : val_main_v19 (F := Ideal) (re2 X) (row g) (re2 G) (re2 U)
    = re2 fun r c => dg (lin (nrm (X r) g) G c) (lin (nrm (X r) g) U c) := by
  simp only [val_main_v19, val_main_call1_v2, val_main_call1_v1, val_main_call1_v0, val_main_v18, val_main_v16, val_main_cst_2, v12_re, v13_re, sg_re,
    dsg_re, hostConst2 ofBits_one, mul2, add2]
  exact re2_congr fun r c => by rw [dg]; ring

theorem v21_re : val_main_v21 (F := Ideal) (re2 X) (row g) (re2 G) (re2 U)
    = re2 fun r c => du (lin (nrm (X r) g) G c) * lin (nrm (X r) g) U c := by
  simp only [val_main_v21, val_main_v20, val_main_call2_v5, val_main_call2_v4, val_main_call2_v3, val_main_call2_v2, val_main_call2_v1,
    val_main_call2_v0, val_main_call2_cst, val_main_call2_cst_0, v12_re, v13_re, hostConst2 ofBits_one, hostNeg2, hostExp2, add2, hostSg2, mul2]
  rfl

end Reference

end Cert.First

end
-- ==== Proof.FirstKernel.lean ====
/-
  The first feed-forward block's entry kernel over its eight blocks of 512 rows: what its payloads compute of a block, the
  input blocks each point reads, and what its four arrays hold at the end.
-/
module

public import proofs.«01_k».proof.Proof.FirstReference
public import proofs.«01_k».proof.Proof.UpKernel
public import proofs.«01_k».proof.Proof.Gen.Kernel15Ideal.Frame
public import Idealize.ShloMosaic.Lib.Pipeline.ValueKit

@[expose] public section

noncomputable section

namespace Cert.First.Kernel

open Idealize.ShloMosaic hiding ix1 ix2 ix3 eq_ix2 eq_ix3
open Idealize.ShloMosaic.ValueIdx
open Cert.Kernel15Ideal Cert.Kernel15Ideal.Gen Cert.Reals Cert.Act
open Cert.Project (nrm)
open Cert.Up (lin)
open Cert.Up.Kernel (part tr ld_rows le₀ le₁ le₂ le₃ block_re)
open scoped BigOperators

theorem nt768 (f : Fin 512 → Fin 1024 → ℝ) (h : Fin 768 → Fin 1024 → ℝ) :
    matmul (F := Ideal) (φ₁ := .bf16) (φ₂ := .bf16) dot_S512x1024_S768x1024_S512x768_1_1_0_0_n_n none
      (re2 f) (re2 h) (constant S512x768 .f32 0x00000000#32) = re2 fun r c => ∑ k, f r k * h c k := matmulNT none _ _ _
theorem nt512 (f : Fin 512 → Fin 1024 → ℝ) (h : Fin 512 → Fin 1024 → ℝ) :
    matmul (F := Ideal) (φ₁ := .bf16) (φ₂ := .bf16) dot_S512x1024_S512x1024_S512x512_1_1_0_0_n_n none
      (re2 f) (re2 h) (constant S512x512 .f32 0x00000000#32) = re2 fun r c => ∑ k, f r k * h c k := matmulNT none _ _ _

theorem norm_re (X : Fin 512 → Fin 1024 → ℝ) (g : Fin 1024 → ℝ) : k0_pay6 (F := Ideal) (re2 X) (row g) = re2 fun r => nrm (X r) g := by
  unfold k0_pay6; dsimp only
  rw [mul2, sumCols, colCast, const2 ofBits_1024, const2 ofBits_eps, div1024, add2,
    show rsqrt (F := Ideal) (φ := .f32) (re2 fun (r : Fin 512) (_ : Fin 1) => (∑ c, X r c * X r c) / 1024 + eps) = _
      from rsqrt_msq X, bcastCol, mul2, bcast2, mul2, trunc2]; rfl

section Chunk

section

variable (H : Fin 512 → Fin 1024 → ℝ) (w v : Fin 768 → Fin 1024 → ℝ)

theorem gate768 : k0_pay14 (F := Ideal) (re2 H) (re2 w) = re2 fun r c => ∑ k, H r k * w c k := by
  unfold k0_pay14; dsimp only; rw [shapeCast_self, nt768]
theorem up768 : k0_pay15 (F := Ideal) (re2 H) (re2 w) = re2 fun r c => ∑ k, H r k * w c k := gate768 H w

theorem sg768 : k0_pay16 (F := Ideal) (re2 H) (re2 w) = re2 fun r c => sg (∑ k, H r k * w c k) := by
  unfold k0_pay16; dsimp only
  rw [gate768, const2 ofBits_zero, const2 ofBits_one, sub2, exp2, add2, sg2]

theorem silu768 : k0_pay17 (F := Ideal) (re2 H) (re2 w) = re2 fun r c => du (∑ k, H r k * w c k) := by
  unfold k0_pay17; dsimp only
  rw [gate768, sg768, mul2]; rfl

theorem dgate768 : k0_pay18 (F := Ideal) (re2 H) (re2 w) (re2 v) = re2 fun r c => dg (∑ k, H r k * w c k) (∑ k, H r k * v c k) := by
  unfold k0_pay18; dsimp only
  rw [up768, sg768, silu768, const2 ofBits_one, sub2, mul2, add2, mul2, trunc2]; rfl

theorem dup768 : k0_pay19 (F := Ideal) (re2 H) (re2 w) = re2 fun r c => du (∑ k, H r k * w c k) := by
  unfold k0_pay19; dsimp only
  rw [silu768, trunc2]

theorem act768 : k0_pay20 (F := Ideal) (re2 H) (re2 w) (re2 v) = re2 fun r c => du (∑ k, H r k * w c k) * ∑ k, H r k * v c k := by
  unfold k0_pay20; dsimp only
  rw [up768, silu768, mul2, trunc2]

end

section

variable (X : Fin 512 → Fin 1024 → ℝ) (g : Fin 1024 → ℝ) (w v : Fin 768 → Fin 1024 → ℝ)

/-- The first column block, which the rows and the scale give: the others' payloads, of the normed rows. -/
theorem silu_first : k0_pay10 (F := Ideal) (re2 X) (row g) (re2 w) = re2 fun r c => du (∑ k, nrm (X r) g k * w c k) := by
  refine (show _ = k0_pay17 (F := Ideal) (k0_pay6 (re2 X) (row g)) (re2 w) from rfl).trans ?_
  rw [norm_re]; exact silu768 _ w

theorem dgate_first : k0_pay11 (F := Ideal) (re2 X) (row g) (re2 w) (re2 v)
    = re2 fun r c => dg (∑ k, nrm (X r) g k * w c k) (∑ k, nrm (X r) g k * v c k) := by
  refine (show _ = k0_pay18 (F := Ideal) (k0_pay6 (re2 X) (row g)) (re2 w) (re2 v) from rfl).trans ?_
  rw [norm_re]; exact dgate768 _ w v

theorem up_first : k0_pay8 (F := Ideal) (re2 X) (row g) (re2 v) = re2 fun r c => ∑ k, nrm (X r) g k * v c k := by
  refine (show _ = k0_pay15 (F := Ideal) (k0_pay6 (re2 X) (row g)) (re2 v) from rfl).trans ?_
  rw [norm_re]; exact up768 _ v

theorem dup_first : k0_pay12 (F := Ideal) (k0_pay10 (re2 X) (row g) (re2 w)) = re2 fun r c => du (∑ k, nrm (X r) g k * w c k) := by
  unfold k0_pay12; dsimp only
  rw [silu_first, trunc2]

theorem act_first : k0_pay13 (F := Ideal) (k0_pay8 (re2 X) (row g) (re2 v)) (k0_pay10 (re2 X) (row g) (re2 w))
    = re2 fun r c => du (∑ k, nrm (X r) g k * w c k) * ∑ k, nrm (X r) g k * v c k := by
  unfold k0_pay13; dsimp only
  rw [silu_first, up_first, mul2, trunc2]

end

section

variable (H : Fin 512 → Fin 1024 → ℝ) (w v : Fin 512 → Fin 1024 → ℝ)

/-- The last column block, of 512 columns. -/
theorem gate512 : k0_pay28 (F := Ideal) (re2 H) (re2 w) = re2 fun r c => ∑ k, H r k * w c k := by
  unfold k0_pay28; dsimp only; rw [shapeCast_self, nt512]
theorem up512 : k0_pay29 (F := Ideal) (re2 H) (re2 w) = re2 fun r c => ∑ k, H r k * w c k := gate512 H w

theorem sg512 : k0_pay1 (F := Ideal) (k0_pay30 (re2 H) (re2 w)) k0_pay31 = re2 fun r c => sg (∑ k, H r k * w c k) := by
  unfold k0_pay1 k0_pay30 k0_pay31; dsimp only
  rw [gate512, const2 ofBits_zero, const2 ofBits_one, sub2, exp2, add2, sg2]

theorem silu512 : k0_pay2 (F := Ideal) (k0_pay28 (re2 H) (re2 w)) (k0_pay30 (re2 H) (re2 w)) k0_pay31
    = re2 fun r c => du (∑ k, H r k * w c k) := by
  unfold k0_pay2; dsimp only
  rw [sg512, gate512, mul2]; rfl

theorem dgate512 : k0_pay3 (F := Ideal) (k0_pay28 (re2 H) (re2 w)) (k0_pay29 (re2 H) (re2 v)) (k0_pay30 (re2 H) (re2 w)) k0_pay31
    = re2 fun r c => dg (∑ k, H r k * w c k) (∑ k, H r k * v c k) := by
  unfold k0_pay3; dsimp only
  rw [silu512, sg512, up512, const2 ofBits_one, sub2, mul2, add2, mul2, trunc2]; rfl

theorem dup512 : k0_pay4 (F := Ideal) (k0_pay28 (re2 H) (re2 w)) (k0_pay30 (re2 H) (re2 w)) k0_pay31
    = re2 fun r c => du (∑ k, H r k * w c k) := by
  unfold k0_pay4; dsimp only
  rw [silu512, trunc2]

theorem act512 : k0_pay5 (F := Ideal) (k0_pay28 (re2 H) (re2 w)) (k0_pay29 (re2 H) (re2 v)) (k0_pay30 (re2 H) (re2 w)) k0_pay31
    = re2 fun r c => du (∑ k, H r k * w c k) * ∑ k, H r k * v c k := by
  unfold k0_pay5; dsimp only
  rw [silu512, up512, mul2, trunc2]

end

end Chunk

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD) (X : Fin 4096 → Fin 1024 → ℝ) (g : Fin 1024 → ℝ)
  (G U : Fin 1024 → Fin 2816 → ℝ)

/-- The normed row that the unit's two products read. -/
def hrow (X : Fin 4096 → Fin 1024 → ℝ) (g : Fin 1024 → ℝ) (r : Fin 4096) : Fin 1024 → ℝ := nrm (X r) g

/-- The region's input arrays are these reals. -/
structure Inputs : Prop where
  hX : V m c main_arg0 = re2 X
  hg : V m c main_arg1 = row g
  hG : V m c main_v1 = tr G
  hU : V m c main_v3 = tr U

variable {m c X g G U}

/-- The region's input arrays, as the host prepares them. -/
theorem inputs (h0 : m ((c.tc : Thread nD τ).loc main_arg0) = re2 X) (h1 : m ((c.tc : Thread nD τ).loc main_arg1) = row g)
    (h2 : m ((c.tc : Thread nD τ).loc main_arg2) = re2 G) (h3 : m ((c.tc : Thread nD τ).loc main_arg3) = re2 U) : Inputs m c X g G U := by
  refine ⟨(V_main_arg0 m c).trans h0, (V_main_arg1 m c).trans h1, ?_, ?_⟩
  · unfold V V0 hostOps0
    simp only [List.flatten_cons, List.flatten_nil, List.cons_append, List.nil_append, List.append_nil]
    after_results
    exact congrArg (truncf (F := Ideal) .bf16 · _) ((congrArg (transpose S2816x1024 [1, 0] · _) h2).trans (transpose2 _ _))
  · unfold V V0 hostOps0
    simp only [List.flatten_cons, List.flatten_nil, List.cons_append, List.nil_append, List.append_nil]
    after_results
    exact congrArg (truncf (F := Ideal) .bf16 · _) ((congrArg (transpose S2816x1024 [1, 0] · _) h3).trans (transpose2 _ _))

variable (hin : Inputs m c X g G U)
include hin

theorem iblk0 (t : Fin cfg0.N) : iblk m c 0 t = re2 fun r => X (brow t r) := by
  have e : ∀ t : Fin cfg0.N, win0_0.index t = ![t.val, 0] := (by decide +kernel : ∀ t : Fin grid0.N, _)
  funext i
  unfold iblk; rw [View.read_apply]
  refine (congrFun hin.hX _).trans ?_
  refine congrArg₂ (fun p q => ((X p q : ℝ) : EReal)) (Fin.ext ?_) (Fin.ext ?_) <;> dsimp only [ax0, ax1, brow] <;> blk_simp [e] <;> rfl

theorem iblk1 (t : Fin cfg0.N) : iblk m c 1 t = row g := by
  have e : ∀ t : Fin cfg0.N, win0_1.index t = ![0, 0] := (by decide +kernel : ∀ t : Fin grid0.N, _)
  funext i
  unfold iblk; rw [View.read_apply]
  refine (congrFun hin.hg _).trans ?_
  refine congrArg (fun p => ((g p : ℝ) : EReal)) (Fin.ext ?_) <;> dsimp only [ax0, ax1] <;> blk_simp [e] <;> rfl

theorem iblk2 (t : Fin cfg0.N) : iblk m c 2 t = tr G := by
  have e : ∀ t : Fin cfg0.N, win0_2.index t = ![0, 0] := (by decide +kernel : ∀ t : Fin grid0.N, _)
  funext i
  unfold iblk; rw [View.read_apply]
  refine (congrFun hin.hG _).trans ?_
  refine congrArg₂ (fun p q => ((G q p : ℝ) : EReal)) (Fin.ext ?_) (Fin.ext ?_) <;> dsimp only [ax0, ax1] <;> blk_simp [e] <;> rfl

theorem iblk3 (t : Fin cfg0.N) : iblk m c 3 t = tr U := by
  have e : ∀ t : Fin cfg0.N, win0_3.index t = ![0, 0] := (by decide +kernel : ∀ t : Fin grid0.N, _)
  funext i
  unfold iblk; rw [View.read_apply]
  refine (congrFun hin.hU _).trans ?_
  refine congrArg₂ (fun p q => ((U q p : ℝ) : EReal)) (Fin.ext ?_) (Fin.ext ?_) <;> dsimp only [ax0, ax1] <;> blk_simp [e] <;> rfl

theorem out4 (t : Fin cfg0.N) : (outsAt0 m c t).1 = re2 fun r => hrow X g (brow t r) := by
  unfold outsAt0 out0_A_4; frame_out
  rw [iblk0 hin, iblk1 hin]; exact norm_re _ _

/-- The gate's gradient, the other factor's, and the gated row: four column blocks each. -/
theorem out5 (t : Fin cfg0.N) : (outsAt0 m c t).2.1
    = re2 fun r k => dg (lin (hrow X g (brow t r)) G k) (lin (hrow X g (brow t r)) U k) := by
  unfold outsAt0 out0_A_5; frame_out
  rw [iblk0 hin, iblk1 hin, iblk2 hin, iblk3 hin, norm_re]
  refine block_re _ _ _ _ _ ?_ ?_ ?_ ?_
  · rw [ld_rows G 0 le₀, ld_rows U 0 le₀]; exact dgate_first _ _ _ _
  · rw [ld_rows G 768 le₁, ld_rows U 768 le₁]; exact dgate768 _ _ _
  · rw [ld_rows G 1536 le₂, ld_rows U 1536 le₂]; exact dgate768 _ _ _
  · rw [ld_rows G 2304 le₃, ld_rows U 2304 le₃]; exact dgate512 _ _ _

theorem out6 (t : Fin cfg0.N) : (outsAt0 m c t).2.2.1 = re2 fun r k => du (lin (hrow X g (brow t r)) G k) := by
  unfold outsAt0 out0_A_6; frame_out
  rw [iblk0 hin, iblk1 hin, iblk2 hin, norm_re]
  refine block_re _ _ _ _ _ ?_ ?_ ?_ ?_
  · rw [ld_rows G 0 le₀]; exact dup_first _ _ _
  · rw [ld_rows G 768 le₁]; exact dup768 _ _
  · rw [ld_rows G 1536 le₂]; exact dup768 _ _
  · rw [ld_rows G 2304 le₃]; exact dup512 _ _

theorem out7 (t : Fin cfg0.N) : (outsAt0 m c t).2.2.2
    = re2 fun r k => du (lin (hrow X g (brow t r)) G k) * lin (hrow X g (brow t r)) U k := by
  unfold outsAt0 out0_A_7; frame_out
  rw [iblk0 hin, iblk1 hin, iblk2 hin, iblk3 hin, norm_re]
  refine block_re _ _ _ _ _ ?_ ?_ ?_ ?_
  · rw [ld_rows G 0 le₀, ld_rows U 0 le₀]; exact act_first _ _ _ _
  · rw [ld_rows G 768 le₁, ld_rows U 768 le₁]; exact act768 _ _ _
  · rw [ld_rows G 1536 le₂, ld_rows U 1536 le₂]; exact act768 _ _ _
  · rw [ld_rows G 2304 le₃, ld_rows U 2304 le₃]; exact act512 _ _ _

theorem arr4 : (dats m 0 c).arrAt 4 cfg0.N = re2 fun p q => hrow X g p q := by
  have e : ∀ t : Fin cfg0.N, win0_4.index t = ![t.val, 0] := (by decide +kernel : ∀ t : Fin grid0.N, _)
  refine (dats m 0 c).arrAt_eq_of_covers 4 _ (by decide +kernel) fun t _ y => ?_
  blk_simp
  rw [after0_4, out4 hin]
  refine congrArg₂ (fun p q => ((hrow X g p q : ℝ) : EReal)) (Fin.ext ?_) (Fin.ext ?_) <;> dsimp only [ax0, ax1, brow] <;> blk_simp [e] <;> rfl

theorem arr5 : (dats m 0 c).arrAt 5 cfg0.N = re2 fun p q => dg (lin (hrow X g p) G q) (lin (hrow X g p) U q) := by
  have e : ∀ t : Fin cfg0.N, win0_5.index t = ![t.val, 0] := (by decide +kernel : ∀ t : Fin grid0.N, _)
  refine (dats m 0 c).arrAt_eq_of_covers 5 _ (by decide +kernel) fun t _ y => ?_
  blk_simp
  rw [after0_5, out5 hin]
  refine congrArg₂ (fun p q => ((dg (lin (hrow X g p) G q) (lin (hrow X g p) U q) : ℝ) : EReal)) (Fin.ext ?_) (Fin.ext ?_) <;> dsimp only [ax0, ax1, brow] <;> blk_simp [e] <;> rfl

theorem arr6 : (dats m 0 c).arrAt 6 cfg0.N = re2 fun p q => du (lin (hrow X g p) G q) := by
  have e : ∀ t : Fin cfg0.N, win0_6.index t = ![t.val, 0] := (by decide +kernel : ∀ t : Fin grid0.N, _)
  refine (dats m 0 c).arrAt_eq_of_covers 6 _ (by decide +kernel) fun t _ y => ?_
  blk_simp
  rw [after0_6, out6 hin]
  refine congrArg₂ (fun p q => ((du (lin (hrow X g p) G q) : ℝ) : EReal)) (Fin.ext ?_) (Fin.ext ?_) <;> dsimp only [ax0, ax1, brow] <;> blk_simp [e] <;> rfl

theorem arr7 : (dats m 0 c).arrAt 7 cfg0.N = re2 fun p q => du (lin (hrow X g p) G q) * lin (hrow X g p) U q := by
  have e : ∀ t : Fin cfg0.N, win0_7.index t = ![t.val, 0] := (by decide +kernel : ∀ t : Fin grid0.N, _)
  refine (dats m 0 c).arrAt_eq_of_covers 7 _ (by decide +kernel) fun t _ y => ?_
  blk_simp
  rw [after0_7, out7 hin]
  refine congrArg₂ (fun p q => ((du (lin (hrow X g p) G q) * lin (hrow X g p) U q : ℝ) : EReal)) (Fin.ext ?_) (Fin.ext ?_) <;> dsimp only [ax0, ax1, brow] <;> blk_simp [e] <;> rfl

/-- The host widens the four narrow results. -/
theorem tail4 : Pipeline.afterTail₀ cfgs (dats m) 0 (V0 m) [hostOps1] c main_v5 = re2 fun p q => hrow X g p q := by
  have e : Pipeline.withArrays (cfgs 0).spec c (V0 m c) (fun w => (dats m 0 c).arrAt w (cfgs 0).N) (Proc.devRef .tc main_v4_0) = _ :=
    (Pipeline.withArrays_arr spec0 winFacts0.arr_inj c (V0 m c) (fun w => (dats m 0 c).arrAt w (cfgs 0).N) 4).trans (arr4 hin)
  unfold Pipeline.afterTail₀ hostOps1
  simp only [List.flatten_cons, List.flatten_nil, List.cons_append, List.nil_append, List.append_nil]
  after_results
  rw [e]; rfl

theorem tail5 : Pipeline.afterTail₀ cfgs (dats m) 0 (V0 m) [hostOps1] c main_v6 = re2 fun p q => dg (lin (hrow X g p) G q) (lin (hrow X g p) U q) := by
  have e : Pipeline.withArrays (cfgs 0).spec c (V0 m c) (fun w => (dats m 0 c).arrAt w (cfgs 0).N) (Proc.devRef .tc main_v4_1) = _ :=
    (Pipeline.withArrays_arr spec0 winFacts0.arr_inj c (V0 m c) (fun w => (dats m 0 c).arrAt w (cfgs 0).N) 5).trans (arr5 hin)
  unfold Pipeline.afterTail₀ hostOps1
  simp only [List.flatten_cons, List.flatten_nil, List.cons_append, List.nil_append, List.append_nil]
  after_results
  rw [e]; rfl

theorem tail6 : Pipeline.afterTail₀ cfgs (dats m) 0 (V0 m) [hostOps1] c main_v7 = re2 fun p q => du (lin (hrow X g p) G q) := by
  have e : Pipeline.withArrays (cfgs 0).spec c (V0 m c) (fun w => (dats m 0 c).arrAt w (cfgs 0).N) (Proc.devRef .tc main_v4_2) = _ :=
    (Pipeline.withArrays_arr spec0 winFacts0.arr_inj c (V0 m c) (fun w => (dats m 0 c).arrAt w (cfgs 0).N) 6).trans (arr6 hin)
  unfold Pipeline.afterTail₀ hostOps1
  simp only [List.flatten_cons, List.flatten_nil, List.cons_append, List.nil_append, List.append_nil]
  after_results
  rw [e]; rfl

theorem tail7 : Pipeline.afterTail₀ cfgs (dats m) 0 (V0 m) [hostOps1] c main_v8 = re2 fun p q => du (lin (hrow X g p) G q) * lin (hrow X g p) U q := by
  have e : Pipeline.withArrays (cfgs 0).spec c (V0 m c) (fun w => (dats m 0 c).arrAt w (cfgs 0).N) (Proc.devRef .tc main_v4_3) = _ :=
    (Pipeline.withArrays_arr spec0 winFacts0.arr_inj c (V0 m c) (fun w => (dats m 0 c).arrAt w (cfgs 0).N) 7).trans (arr7 hin)
  unfold Pipeline.afterTail₀ hostOps1
  simp only [List.flatten_cons, List.flatten_nil, List.cons_append, List.nil_append, List.append_nil]
  after_results
  rw [e]; rfl

end Cert.First.Kernel

end
-- ==== Proof.FirstClaim.lean ====
/-
  The first feed-forward block's entry call: the kernel's four results are the reference's, on finite arguments.
-/
module

public import proofs.«01_k».proof.Defs
public import proofs.«01_k».proof.Proof.FirstKernel
public import proofs.«01_k».proof.Proof.HostReals
public import proofs.«01_k».proof.Proof.Gen.Kernel15
public import proofs.«01_k».proof.Proof.Gen.Pre_norm_up_finite
public import Idealize.ShloMosaic.Lib.Tactic

@[expose] public section

noncomputable section

namespace Cert.First

open Idealize.ShloMosaic hiding ix1 ix2 ix3 eq_ix2 eq_ix3
open Idealize.ShloMosaic.ValueIdx
open Idealize.SL.Sem Idealize.ShloMosaic.Tactic Cert.Reals Cert.Act
open Cert.Up (lin)

section Kernel

open Cert.Kernel15Ideal Cert.Kernel15Ideal.Gen

variable (m : (ℓ : Loc nD τ sig) → Buf (Elt Ideal) ℓ)

/-- The arguments of every device are reals. -/
structure Args (X : Dev nD → Fin 4096 → Fin 1024 → ℝ) (g : Dev nD → Fin 1024 → ℝ) (G U : Dev nD → Fin 1024 → Fin 2816 → ℝ) : Prop where
  a0 (c : Dev nD) : m ((c.tc : Thread nD τ).loc main_arg0) = re2 (X c)
  a1 (c : Dev nD) : m ((c.tc : Thread nD τ).loc main_arg1) = row (g c)
  a2 (c : Dev nD) : m ((c.tc : Thread nD τ).loc main_arg2) = re2 (G c)
  a3 (c : Dev nD) : m ((c.tc : Thread nD τ).loc main_arg3) = re2 (U c)

theorem exists_args (h : Pre_Kernel15Ideal_norm_up_finite m) : ∃ X g G U, Args m X g G U := by
  choose X h0 using fun c : Dev nD => exists_re2 (m ((c.tc : Thread nD τ).loc main_arg0)) _ (h c).1
  choose g h1 using fun c : Dev nD => exists_row (m ((c.tc : Thread nD τ).loc main_arg1)) _ (h c).2.1
  choose G h2 using fun c : Dev nD => exists_re2 (m ((c.tc : Thread nD τ).loc main_arg2)) _ (h c).2.2.1
  choose U h3 using fun c : Dev nD => exists_re2 (m ((c.tc : Thread nD τ).loc main_arg3)) _ (h c).2.2.2
  exact ⟨X, g, G, U, ⟨h0, h1, h2, h3⟩⟩

end Kernel

/-- The reference leaves its arguments alone, and declares no semaphore. -/
theorem reference_frame : Cert.quiescent_Reference15Ideal := fun m ρ _ =>
  (θ_run Cert.Reference15Ideal.defs _ _).mono
    (fun r h => ⟨fun c => (h c).2.2.2.2, sem_eq_zero_of_no_sems (by decide) r.2⟩) (Reference15Ideal.Value.run (F := Ideal) m ρ)

/-- The kernel's frame at the machine's floats: the printed form differs only in its name. -/
theorem frame_kernel : Cert.quiescent_Kernel15 := fun m ρ _ => Eq.mp (by sl_kernel_rfl) (Kernel15Ideal.Gen.frame (F := Bits) m ρ)

theorem algebraic : Cert.algebraic_Kernel15Ideal_Reference15Ideal_pre_norm_up_finite := by
  intro m ρ m' ρ' hpre hagree
  obtain ⟨X, g, G, U, h⟩ := exists_args m hpre
  refine ⟨fun c => re2 fun p q => Kernel.hrow (X c) (g c) p q,
    fun c => re2 fun p q => dg (lin (Kernel.hrow (X c) (g c) p) (G c) q) (lin (Kernel.hrow (X c) (g c) p) (U c) q),
    fun c => re2 fun p q => du (lin (Kernel.hrow (X c) (g c) p) (G c) q),
    fun c => re2 fun p q => du (lin (Kernel.hrow (X c) (g c) p) (G c) q) * lin (Kernel.hrow (X c) (g c) p) (U c) q, ?_, ?_⟩
  · refine θ_run_mono (θ_run_and (Kernel15Ideal.Gen.run_main m ρ) (Kernel15Ideal.Gen.unchanged m ρ)) ?_
    rintro r ⟨hr, hu⟩ c
    have hin := Kernel.inputs (h.a0 c) (h.a1 c) (h.a2 c) (h.a3 c)
    exact ⟨(hr.rest_eq c _ (by decide)).trans (Kernel.tail4 hin), (hr.rest_eq c _ (by decide)).trans (Kernel.tail5 hin),
      (hr.rest_eq c _ (by decide)).trans (Kernel.tail6 hin), (hr.rest_eq c _ (by decide)).trans (Kernel.tail7 hin), hu c⟩
  · refine θ_run_mono (Reference15Ideal.Value.run (F := Ideal) m' ρ') ?_
    intro r hr c
    obtain ⟨h0, h1, h2, h3, hu⟩ := hr c
    obtain ⟨e0, e1, e2, e3⟩ := hagree c
    rw [h.a0 c] at e0
    rw [h.a1 c] at e1
    rw [h.a2 c] at e2
    rw [h.a3 c] at e3
    refine ⟨h0.trans ?_, h1.trans ?_, h2.trans ?_, h3.trans ?_, hu⟩
    · rw [Reference15Ideal.Read.val_main_v11_eq, e0, e1]
      exact Reference.v11_re _ _
    · rw [Reference15Ideal.Read.val_main_v19_eq, e0, e1, e2, e3]
      exact Reference.v19_re _ _ _ _
    · rw [Reference15Ideal.Read.val_main_v17_eq, e0, e1, e2]
      exact Reference.v17_re _ _ _
    · rw [Reference15Ideal.Read.val_main_v21_eq, e0, e1, e2, e3]
      exact Reference.v21_re _ _ _ _

end Cert.First

end
-- ==== Proof.Plain.lean ====
/-
  Products of matrices of extended reals: with the left or the right transposed, as a kernel and as the host compute
  them, each one is the matrix of the sums over the contracted coordinate, of whatever values.
-/
module

public import proofs.«01_k».proof.Proof.Products

@[expose] public section

noncomputable section

namespace Cert.Plain

open Idealize.ShloMosaic hiding ix1 ix2
open Idealize.ShloMosaic.ValueIdx
open Cert.Reals
open scoped BigOperators

section One

variable {sl sr so : Shape} {φ₁ φ₂ : FTy} (f : FVec Ideal sl φ₁) (g : FVec Ideal sr φ₂) (d : DotDims sl sr so) {a : Fin sl.rank}
  (hc : d.lhsContracting = [a]) {K : ℕ} (hK : sl.size a = K) (L : so.Idx → Fin K → sl.Idx) (R : so.Idx → Fin K → sr.Idx)
  (hL : ∀ j k, d.lhsIdx j (d.contrIdx₁ hc hK k) = L j k) (hR : ∀ j k, d.rhsIdx j (d.contrIdx₁ hc hK k) = R j k)

include hL hR

theorem matmul_one (prec : Option ContractPrecision) :
    matmul (F := Ideal) d prec f g (constant so .f32 0x00000000#32) = fun j => ∑ k, f (L j k) * g (R j k) := by
  funext j
  refine (Ideal.matmul_apply d prec _ _ _ j).trans ?_
  rw [d.sum_contr₁ hc hK]
  exact (congrArg₂ (· + ·) (ofBits_zero.trans EReal.coe_zero) (Finset.sum_congr rfl fun k _ => by rw [hL, hR])).trans (zero_add _)

theorem dot_one (prec : Option ContractPrecision) :
    Host.dotGeneral (F := Ideal) d prec f g = fun j => ∑ k, f (L j k) * g (R j k) := by
  funext j
  simp only [Host.dotGeneral]
  rw [Ideal.dotGeneral_apply, d.sum_contr₁ hc hK]
  exact Finset.sum_congr rfl fun k _ => by rw [hL, hR]

end One

section Forms

variable {M K N : ℕ} {φ₁ φ₂ : FTy} (prec : Option ContractPrecision)

/-- A matrix of extended reals. -/
abbrev Mat (m n : ℕ) := (⟨2, ![m, n]⟩ : Shape).Idx → EReal

/-- The product of the left, transposed, with the right; and of the left with the right, transposed. -/
abbrev tn (f : Mat K M) (g : Mat K N) : Mat M N := fun j => ∑ k, f (ix2 k (j 0)) * g (ix2 k (j 1))
abbrev nt (f : Mat M K) (g : Mat N K) : Mat M N := fun j => ∑ k, f (ix2 (j 0) k) * g (ix2 (j 1) k)

theorem matmulTN (f : Mat K M) (g : Mat K N) (w) :
    matmul (F := Ideal) (φ₁ := φ₁) (φ₂ := φ₂) (dotTN w) prec f g (constant _ .f32 0x00000000#32) = tn f g :=
  matmul_one _ _ (dotTN w) (a := 0) rfl rfl (fun j k => ix2 k (j 0)) (fun j k => ix2 k (j 1))
    (fun _ _ => funext fun a => by fin_cases a <;> rfl) (fun _ _ => funext fun a => by fin_cases a <;> rfl) prec

theorem matmulNT (f : Mat M K) (g : Mat N K) (w) :
    matmul (F := Ideal) (φ₁ := φ₁) (φ₂ := φ₂) (dotNT w) prec f g (constant _ .f32 0x00000000#32) = nt f g :=
  matmul_one _ _ (dotNT w) (a := 1) rfl rfl (fun j k => ix2 (j 0) k) (fun j k => ix2 (j 1) k)
    (fun _ _ => funext fun a => by fin_cases a <;> rfl) (fun _ _ => funext fun a => by fin_cases a <;> rfl) prec

theorem hostNN (f : Mat M K) (g : Mat K N) (w) :
    Host.dotGeneral (F := Ideal) (φ₁ := φ₁) (φ₂ := φ₂) (dotNN w) prec f g = fun j => ∑ k, f (ix2 (j 0) k) * g (ix2 k (j 1)) :=
  dot_one _ _ (dotNN w) (a := 1) rfl rfl (fun j k => ix2 (j 0) k) (fun j k => ix2 k (j 1))
    (fun _ _ => funext fun a => by fin_cases a <;> rfl) (fun _ _ => funext fun a => by fin_cases a <;> rfl) prec

/-- Coordinate `k` of the first 512, and of the last. -/
abbrev lo (k : Fin 512) : Fin 1024 := ⟨k.val, by omega⟩
abbrev hi (k : Fin 512) : Fin 1024 := ⟨512 + k.val, by omega⟩

/-- A matrix transposed. -/
theorem transposed (f : Mat M N) (h : (⟨2, ![M, N]⟩ : Shape).Transposes [1, 0] ⟨2, ![N, M]⟩) :
    transpose ⟨2, ![N, M]⟩ [1, 0] f h = fun i : (⟨2, ![N, M]⟩ : Shape).Idx => f (ix2 (i 1) (i 0)) := by
  funext i
  refine transpose_apply _ _ h i (ix2 (i 1) (i 0)) fun b => ?_
  match b with
  | 0 => rfl
  | 1 => rfl

end Forms

end Cert.Plain

end
-- ==== Proof.WeightClaim.lean ====
/-
  A weight's gradient of the feed-forward blocks: the gradient's transpose times the rows, over eleven blocks of 256 of the
  gradient's columns.  The kernel's array is the reference's product, of any arguments.
-/
module

public import proofs.«01_k».proof.Defs
public import proofs.«01_k».proof.Proof.Plain
public import proofs.«01_k».proof.Proof.Gen.Kernel16
public import proofs.«01_k».proof.Proof.Gen.Kernel16Ideal.Frame
public import proofs.«01_k».proof.Proof.Gen.Reference16Ideal.Read
public import Idealize.ShloMosaic.Lib.Pipeline.ValueKit
public import Idealize.ShloMosaic.Lib.Tactic

@[expose] public section

noncomputable section

namespace Cert.Weight

open Idealize.ShloMosaic hiding ix1 ix2 ix3 eq_ix2 eq_ix3
open Idealize.ShloMosaic.ValueIdx
open Idealize.SL.Sem Idealize.ShloMosaic.Tactic Cert.Plain
open scoped BigOperators

section Kernel

open Cert.Kernel16Ideal Cert.Kernel16Ideal.Gen

theorem pay1 (a : Mat 4096 256) (b : Mat 4096 1024) : k0_pay1 (F := Ideal) a b = tn a b := by
  unfold k0_pay1; dsimp only
  rw [shapeCast_self, shapeCast_self]
  exact matmulTN (φ₁ := .bf16) (φ₂ := .bf16) none _ _ _

/-- Column `r` of block `t`. -/
def bcol (t : Fin cfg0.N) (r : Fin 256) : Fin 2816 :=
  ⟨t.val * 256 + r.val, by have h : t.val < 11 := t.isLt; omega⟩

variable (m : (ℓ : Loc nD τ sig) → Buf (Elt Ideal) ℓ) (c : Dev nD)

/-- The device's arguments. -/
abbrev A : Mat 4096 2816 := m ((c.tc : Thread nD τ).loc main_arg0)
abbrev B : Mat 4096 1024 := m ((c.tc : Thread nD τ).loc main_arg1)

theorem entry0 : V m c main_v0 = A m c := by
  unfold V V0 hostOps0; simp only [List.flatten_cons, List.flatten_nil, List.append_nil]
  after_results; rfl
theorem entry1 : V m c main_v1 = B m c := by
  unfold V V0 hostOps0; simp only [List.flatten_cons, List.flatten_nil, List.append_nil]
  after_results; rfl

theorem iblk0 (t : Fin cfg0.N) : iblk m c 0 t = fun i => A m c (ix2 (i 0) (bcol t (i 1))) := by
  have e : ∀ t : Fin cfg0.N, win0_0.index t = ![0, t.val] := (by decide +kernel : ∀ t : Fin grid0.N, _)
  funext j
  unfold iblk; rw [View.read_apply]
  refine (congrFun (entry0 m c) _).trans (congrArg (A m c) (funext fun k => Fin.ext ?_))
  match k with
  | ⟨0, _⟩ => blk_simp [e]; try rfl
  | ⟨1, _⟩ => blk_simp [e]; try rfl

theorem iblk1 (t : Fin cfg0.N) : iblk m c 1 t = B m c := by
  have e : ∀ t : Fin cfg0.N, win0_1.index t = ![0, 0] := (by decide +kernel : ∀ t : Fin grid0.N, _)
  funext j
  unfold iblk; rw [View.read_apply]
  refine (congrFun (entry1 m c) _).trans (congrArg (B m c) (funext fun k => Fin.ext ?_))
  match k with
  | ⟨0, _⟩ => blk_simp [e]; try rfl
  | ⟨1, _⟩ => blk_simp [e]; try rfl

theorem block2 (t : Fin cfg0.N) : out0_2 (iblk m c 0 t) (iblk m c 1 t)
    = fun y : (⟨2, ![256, 1024]⟩ : Shape).Idx => ∑ k, A m c (ix2 k (bcol t (y 0))) * B m c (ix2 k (y 1)) := by
  unfold out0_2; frame_out
  rw [iblk0, iblk1]; exact pay1 _ _

theorem arr2 : (dats m 0 c).arrAt 2 cfg0.N = tn (A m c) (B m c) := by
  have e : ∀ t : Fin cfg0.N, win0_2.index t = ![t.val, 0] := (by decide +kernel : ∀ t : Fin grid0.N, _)
  refine (dats m 0 c).arrAt_eq_of_covers 2 _ (by decide +kernel) fun t _ y => ?_
  blk_simp
  rw [after0_2, block2]
  refine congrArg₂ (fun (p : Fin 2816) (q : Fin 1024) => ∑ k, A m c (ix2 k p) * B m c (ix2 k q)) (Fin.ext ?_) (Fin.ext ?_) <;> dsimp only [bcol] <;> blk_simp [e] <;> rfl

theorem tail2 : Pipeline.afterTail₀ cfgs (dats m) 0 (V0 m) [hostOps1] c main_v3 = tn (A m c) (B m c) := by
  have e : Pipeline.withArrays (cfgs 0).spec c (V0 m c) (fun w => (dats m 0 c).arrAt w (cfgs 0).N) (Proc.devRef .tc main_v2) = _ :=
    (Pipeline.withArrays_arr spec0 winFacts0.arr_inj c (V0 m c) (fun w => (dats m 0 c).arrAt w (cfgs 0).N) 2).trans (arr2 m c)
  unfold Pipeline.afterTail₀ hostOps1
  simp only [List.flatten_cons, List.flatten_nil, List.append_nil]
  after_results
  rw [e]; rfl

end Kernel

/-- The reference's product. -/
theorem reference_eq (a : Mat 4096 2816) (b : Mat 4096 1024) : Reference16Ideal.Read.val_main_v1 (F := Ideal) a b = tn a b := by
  unfold Reference16Ideal.Read.val_main_v1 Reference16Ideal.Read.val_main_v0
  refine (hostNN none _ _ _).trans ?_
  rw [transposed]

/-- The reference leaves its arguments alone, and declares no semaphore. -/
theorem reference_frame : Cert.quiescent_Reference16Ideal := fun m ρ _ =>
  (θ_run Cert.Reference16Ideal.defs _ _).mono
    (fun r h => ⟨fun c => (h c).2, sem_eq_zero_of_no_sems (by decide) r.2⟩) (Reference16Ideal.Value.run (F := Ideal) m ρ)

/-- The kernel's frame at the machine's floats: the printed form differs only in its name. -/
theorem frame_kernel : Cert.quiescent_Kernel16 := fun m ρ _ => Eq.mp (by sl_kernel_rfl) (Kernel16Ideal.Gen.frame (F := Bits) m ρ)

theorem algebraic : Cert.algebraic_Kernel16Ideal_Reference16Ideal := by
  intro m ρ m' ρ' _ hagree
  refine ⟨fun c => tn (A m c) (B m c), θ_run_mono (θ_run_and (Kernel16Ideal.Gen.run_main m ρ) (Kernel16Ideal.Gen.unchanged m ρ)) ?_, ?_⟩
  · rintro r ⟨hr, hu⟩ c
    exact ⟨(hr.rest_eq c _ (by decide)).trans (tail2 m c), hu c⟩
  · refine θ_run_mono (Reference16Ideal.Value.run (F := Ideal) m' ρ') ?_
    intro r hr c
    obtain ⟨h0, hu⟩ := hr c
    obtain ⟨e0, e1⟩ := hagree c
    refine ⟨h0.trans ?_, hu⟩
    rw [Reference16Ideal.Read.val_main_v1_eq, e0, e1]
    exact reference_eq _ _

end Cert.Weight

end
-- ==== Proof.MixOutClaim.lean ====
/-
  The mixers' output projection, backward: a row block of the gradient times the weight transposed, in its first 512 columns
  and its last, over eight blocks of 512 rows; and the gradient itself, rounded.  The kernel's arrays are the reference's, of
  any arguments.
-/
module

public import proofs.«01_k».proof.Defs
public import proofs.«01_k».proof.Proof.Plain
public import proofs.«01_k».proof.Proof.Gen.Kernel17
public import proofs.«01_k».proof.Proof.Gen.Kernel17Ideal.Frame
public import proofs.«01_k».proof.Proof.Gen.Reference17Ideal.Read
public import Idealize.ShloMosaic.Lib.Pipeline.ValueKit
public import Idealize.ShloMosaic.Lib.Tactic

@[expose] public section

noncomputable section

namespace Cert.MixOut

open Idealize.ShloMosaic hiding ix1 ix2 ix3 eq_ix2 eq_ix3
open Idealize.ShloMosaic.ValueIdx
open Idealize.SL.Sem Idealize.ShloMosaic.Tactic Cert.Plain
open scoped BigOperators

/-- The rows times the first 512 rows of the weight, and times the last, each transposed. -/
abbrev fst (x : Mat 4096 1024) (w : Mat 1024 1024) : Mat 4096 512 := fun j => ∑ k, x (ix2 (j 0) k) * w (ix2 (lo (j 1)) k)
abbrev snd (x : Mat 4096 1024) (w : Mat 1024 1024) : Mat 4096 512 := fun j => ∑ k, x (ix2 (j 0) k) * w (ix2 (hi (j 1)) k)

section Kernel

open Cert.Kernel17Ideal Cert.Kernel17Ideal.Gen

theorem pay2 (a b : Mat 512 1024) : k0_pay2 (F := Ideal) a b = nt a b := by
  unfold k0_pay2; dsimp only
  rw [shapeCast_self]
  exact matmulNT (φ₁ := .bf16) (φ₂ := .bf16) none _ _ _
theorem pay3 (a b : Mat 512 1024) : k0_pay3 (F := Ideal) a b = nt a b := by
  unfold k0_pay3; dsimp only
  rw [shapeCast_self]
  exact matmulNT (φ₁ := .bf16) (φ₂ := .bf16) none _ _ _

/-- The weight's first 512 rows, loaded, and its last. -/
theorem ld_fst (w : Mat 1024 1024) (inb : ∀ a, (![0, 0] : Fin 2 → ℕ) a + (![512, 1024] : Fin 2 → ℕ) a ≤ S1024x1024.size a) :
    View.ld (Val := Elt Ideal) (e' := .bf16) w (Rect.unit (s := S1024x1024) ![0, 0] ![512, 1024] inb)
      = fun i : (⟨2, ![512, 1024]⟩ : Shape).Idx => w (ix2 (lo (i 0)) (i 1)) := by
  funext j
  refine congrArg₂ (fun (p q : Fin 1024) => w (ix2 p q)) (Fin.ext ?_) (Fin.ext ?_) |> (congrArg w (eq_ix2 _)).trans <;> simp
theorem ld_snd (w : Mat 1024 1024) (inb : ∀ a, (![512, 0] : Fin 2 → ℕ) a + (![512, 1024] : Fin 2 → ℕ) a ≤ S1024x1024.size a) :
    View.ld (Val := Elt Ideal) (e' := .bf16) w (Rect.unit (s := S1024x1024) ![512, 0] ![512, 1024] inb)
      = fun i : (⟨2, ![512, 1024]⟩ : Shape).Idx => w (ix2 (hi (i 0)) (i 1)) := by
  funext j
  refine congrArg₂ (fun (p q : Fin 1024) => w (ix2 p q)) (Fin.ext ?_) (Fin.ext ?_) |> (congrArg w (eq_ix2 _)).trans <;> simp

/-- Row `r` of block `t`. -/
def brow (t : Fin cfg0.N) (r : Fin 512) : Fin 4096 :=
  ⟨t.val * 512 + r.val, by have h : t.val < 8 := t.isLt; omega⟩

variable (m : (ℓ : Loc nD τ sig) → Buf (Elt Ideal) ℓ) (c : Dev nD)

/-- The device's arguments. -/
abbrev X : Mat 4096 1024 := m ((c.tc : Thread nD τ).loc main_arg0)
abbrev W : Mat 1024 1024 := m ((c.tc : Thread nD τ).loc main_arg1)

theorem entry0 : V m c main_arg0 = X m c := V_main_arg0 m c
theorem entry1 : V m c main_v0 = W m c := by
  unfold V V0 hostOps0; simp only [List.flatten_cons, List.flatten_nil, List.append_nil]
  after_results; rfl

theorem iblk0 (t : Fin cfg0.N) : iblk m c 0 t = fun i => X m c (ix2 (brow t (i 0)) (i 1)) := by
  have e : ∀ t : Fin cfg0.N, win0_0.index t = ![t.val, 0] := (by decide +kernel : ∀ t : Fin grid0.N, _)
  funext j
  unfold iblk; rw [View.read_apply]
  refine (congrFun (entry0 m c) _).trans (congrArg (X m c) (funext fun k => Fin.ext ?_))
  match k with
  | ⟨0, _⟩ => blk_simp [e]; try rfl
  | ⟨1, _⟩ => blk_simp [e]; try rfl

theorem iblk1 (t : Fin cfg0.N) : iblk m c 1 t = W m c := by
  have e : ∀ t : Fin cfg0.N, win0_1.index t = ![0, 0] := (by decide +kernel : ∀ t : Fin grid0.N, _)
  funext j
  unfold iblk; rw [View.read_apply]
  refine (congrFun (entry1 m c) _).trans (congrArg (W m c) (funext fun k => Fin.ext ?_))
  match k with
  | ⟨0, _⟩ => blk_simp [e]; try rfl
  | ⟨1, _⟩ => blk_simp [e]; try rfl

theorem block2 (t : Fin cfg0.N) : out0_2 (iblk m c 0 t) (iblk m c 1 t)
    = fun y : (⟨2, ![512, 512]⟩ : Shape).Idx => ∑ k, X m c (ix2 (brow t (y 0)) k) * W m c (ix2 (lo (y 1)) k) := by
  unfold out0_2; frame_out
  rw [iblk0, iblk1, ld_fst]; exact pay2 _ _
theorem block3 (t : Fin cfg0.N) : out0_3 (iblk m c 0 t) (iblk m c 1 t)
    = fun y : (⟨2, ![512, 512]⟩ : Shape).Idx => ∑ k, X m c (ix2 (brow t (y 0)) k) * W m c (ix2 (hi (y 1)) k) := by
  unfold out0_3; frame_out
  rw [iblk0, iblk1, ld_snd]; exact pay3 _ _
theorem block4 (t : Fin cfg0.N) : out0_4 (iblk m c 0 t) (iblk m c 1 t)
    = fun y : (⟨2, ![512, 1024]⟩ : Shape).Idx => X m c (ix2 (brow t (y 0)) (y 1)) := by
  unfold out0_4; frame_out
  rw [iblk0]; rfl

theorem arr2 : (dats m 0 c).arrAt 2 cfg0.N = fst (X m c) (W m c) := by
  have e : ∀ t : Fin cfg0.N, win0_2.index t = ![t.val, 0] := (by decide +kernel : ∀ t : Fin grid0.N, _)
  refine (dats m 0 c).arrAt_eq_of_covers 2 _ (by decide +kernel) fun t _ y => ?_
  blk_simp
  rw [after0_2, block2]
  refine congrArg₂ (fun (p : Fin 4096) (q : Fin 512) => ∑ k, X m c (ix2 p k) * W m c (ix2 (lo q) k)) (Fin.ext ?_) (Fin.ext ?_) <;> dsimp only [brow] <;> blk_simp [e] <;> rfl
theorem arr3 : (dats m 0 c).arrAt 3 cfg0.N = snd (X m c) (W m c) := by
  have e : ∀ t : Fin cfg0.N, win0_3.index t = ![t.val, 0] := (by decide +kernel : ∀ t : Fin grid0.N, _)
  refine (dats m 0 c).arrAt_eq_of_covers 3 _ (by decide +kernel) fun t _ y => ?_
  blk_simp
  rw [after0_3, block3]
  refine congrArg₂ (fun (p : Fin 4096) (q : Fin 512) => ∑ k, X m c (ix2 p k) * W m c (ix2 (hi q) k)) (Fin.ext ?_) (Fin.ext ?_) <;> dsimp only [brow] <;> blk_simp [e] <;> rfl
theorem arr4 : (dats m 0 c).arrAt 4 cfg0.N = X m c := by
  have e : ∀ t : Fin cfg0.N, win0_4.index t = ![t.val, 0] := (by decide +kernel : ∀ t : Fin grid0.N, _)
  refine ((dats m 0 c).arrAt_eq_of_covers 4 (fun j => X m c (ix2 (j 0) (j 1))) (by decide +kernel) fun t _ y => ?_).trans
    (funext fun j => congrArg (X m c) (eq_ix2 j).symm)
  blk_simp
  rw [after0_4, block4]
  refine congrArg₂ (fun (p : Fin 4096) (q : Fin 1024) => X m c (ix2 p q)) (Fin.ext ?_) (Fin.ext ?_) <;> dsimp only [brow] <;> blk_simp [e] <;> rfl

theorem tail4 : Pipeline.afterTail₀ cfgs (dats m) 0 (V0 m) [hostOps1] c main_v2 = X m c := by
  have e : Pipeline.withArrays (cfgs 0).spec c (V0 m c) (fun w => (dats m 0 c).arrAt w (cfgs 0).N) (Proc.devRef .tc main_v1_2) = _ :=
    (Pipeline.withArrays_arr spec0 winFacts0.arr_inj c (V0 m c) (fun w => (dats m 0 c).arrAt w (cfgs 0).N) 4).trans (arr4 m c)
  unfold Pipeline.afterTail₀ hostOps1
  simp only [List.flatten_cons, List.flatten_nil, List.append_nil]
  after_results
  rw [e]; rfl

end Kernel

section Reference

open Cert.Reference17Ideal Cert.Reference17Ideal.Read

theorem v1_eq (x : Mat 4096 1024) (w : Mat 1024 1024) : val_main_v1 (F := Ideal) x w = nt x w := by
  unfold val_main_v1 val_main_v0
  refine (hostNN none _ _ _).trans ?_
  rw [transposed]
theorem v2_eq (x : Mat 4096 1024) (w : Mat 1024 1024) : val_main_v2 (F := Ideal) x w = fst x w := by
  unfold val_main_v2; rw [v1_eq]
  funext j
  refine (extractStridedSlice_apply _ _ _ j (ix2 (j 0) (lo (j 1))) fun a => ?_).trans rfl
  match a with
  | 0 => exact (Nat.zero_add _).symm
  | 1 => exact (Nat.zero_add _).symm
theorem v3_eq (x : Mat 4096 1024) (w : Mat 1024 1024) : val_main_v3 (F := Ideal) x w = snd x w := by
  unfold val_main_v3; rw [v1_eq]
  funext j
  refine (extractStridedSlice_apply _ _ _ j (ix2 (j 0) (hi (j 1))) fun a => ?_).trans rfl
  match a with
  | 0 => exact (Nat.zero_add _).symm
  | 1 => rfl

end Reference

/-- The reference leaves its arguments alone, and declares no semaphore. -/
theorem reference_frame : Cert.quiescent_Reference17Ideal := fun m ρ _ =>
  (θ_run Cert.Reference17Ideal.defs _ _).mono
    (fun r h => ⟨fun c => ⟨(h c).2.2.2.1, (h c).2.2.2.2⟩, sem_eq_zero_of_no_sems (by decide) r.2⟩) (Reference17Ideal.Value.run (F := Ideal) m ρ)

/-- The kernel's frame at the machine's floats: the printed form differs only in its name. -/
theorem frame_kernel : Cert.quiescent_Kernel17 := fun m ρ _ => Eq.mp (by sl_kernel_rfl) (Kernel17Ideal.Gen.frame (F := Bits) m ρ)

theorem algebraic : Cert.algebraic_Kernel17Ideal_Reference17Ideal := by
  intro m ρ m' ρ' _ hagree
  refine ⟨fun c => fst (X m c) (W m c), fun c => snd (X m c) (W m c), fun c => X m c,
    θ_run_mono (θ_run_and (Kernel17Ideal.Gen.run_main m ρ) (Kernel17Ideal.Gen.unchanged m ρ)) ?_, ?_⟩
  · rintro r ⟨hr, hu⟩ c
    exact ⟨(hr.out_eq c 2).trans (arr2 m c), (hr.out_eq c 3).trans (arr3 m c), (hr.rest_eq c _ (by decide)).trans (tail4 m c), hu c⟩
  · refine θ_run_mono (Reference17Ideal.Value.run (F := Ideal) m' ρ') ?_
    intro r hr c
    obtain ⟨h0, h1, h2, hu⟩ := hr c
    obtain ⟨e0, e1⟩ := hagree c
    refine ⟨h0.trans ?_, h1.trans ?_, h2.trans e0, hu⟩
    · rw [Reference17Ideal.Read.val_main_v2_eq, e0, e1]
      exact v2_eq _ _
    · rw [Reference17Ideal.Read.val_main_v3_eq, e0, e1]
      exact v3_eq _ _

end Cert.MixOut

end
-- ==== Proof.OutWeightClaim.lean ====
/-
  The gradient of the mixers' output weight: the two mixers' outputs, each transposed, times the gradient, one above the
  other, over two blocks of 512 of the gradient's columns.  The kernel's array is the reference's product of the outputs side
  by side, of any arguments.
-/
module

public import proofs.«01_k».proof.Defs
public import proofs.«01_k».proof.Proof.Plain
public import proofs.«01_k».proof.Proof.Gen.Kernel18
public import proofs.«01_k».proof.Proof.Gen.Kernel18Ideal.Frame
public import proofs.«01_k».proof.Proof.Gen.Reference18Ideal.Read
public import Idealize.ShloMosaic.Lib.Pipeline.ValueKit
public import Idealize.ShloMosaic.Lib.Tactic

@[expose] public section

noncomputable section

namespace Cert.OutWeight

open Idealize.ShloMosaic hiding ix1 ix2 ix3 eq_ix2 eq_ix3
open Idealize.ShloMosaic.ValueIdx
open Idealize.SL.Sem Idealize.ShloMosaic.Tactic Cert.Plain
open scoped BigOperators

section Kernel

open Cert.Kernel18Ideal Cert.Kernel18Ideal.Gen

/-- Two products over the rows, one of 512 columns above the other. -/
abbrev above (a b : Mat 4096 512) {n : ℕ} (d : Mat 4096 n) : Mat 1024 n := fun j =>
  if h : (j 0).val < 512 then ∑ k, a (ix2 k ⟨(j 0).val, h⟩) * d (ix2 k (j 1)) else ∑ k, b (ix2 k ⟨(j 0).val - 512, by have h : (j 0).val < 1024 := (j 0).isLt; omega⟩) * d (ix2 k (j 1))

theorem above_lo (a b : Mat 4096 512) {n : ℕ} (d : Mat 4096 n) (p : Fin 512) (q : Fin n) :
    above a b d (ix2 (lo p) q) = ∑ k, a (ix2 k p) * d (ix2 k q) := dif_pos p.isLt
theorem above_hi (a b : Mat 4096 512) {n : ℕ} (d : Mat 4096 n) (p : Fin 512) (q : Fin n) :
    above a b d (ix2 (hi p) q) = ∑ k, b (ix2 k p) * d (ix2 k q) :=
  (dif_neg (by show ¬(512 + p.val < 512); omega)).trans
    (congrArg (fun p : Fin 512 => ∑ k, b (ix2 k p) * d (ix2 k q)) (Fin.ext (by show 512 + p.val - 512 = p.val; omega)))

theorem pay2 (a b : Mat 4096 512) : k0_pay2 (F := Ideal) b a = tn a b := by
  unfold k0_pay2 k0_pay1; dsimp only
  rw [shapeCast_self, shapeCast_self]
  exact matmulTN (φ₁ := .bf16) (φ₂ := .bf16) none _ _ _
theorem pay3 (a b : Mat 4096 512) : k0_pay3 (F := Ideal) b a = tn a b := by
  unfold k0_pay3 k0_pay1; dsimp only
  rw [shapeCast_self, shapeCast_self]
  exact matmulTN (φ₁ := .bf16) (φ₂ := .bf16) none _ _ _

/-- The two row blocks stored, put together. -/
theorem stored (a b d : Mat 4096 512) (i₀ i₁) :
    View.canon (Val := Elt Ideal) (s := S1024x512) (e := .bf16)
      [⟨Rect.unit ![512, 0] ![512, 512] i₁, k0_pay3 (F := Ideal) d b⟩, ⟨Rect.unit ![0, 0] ![512, 512] i₀, k0_pay2 (F := Ideal) d a⟩]
      = above a b d := by
  rw [pay2, pay3]
  funext y
  refine View.canon_apply_of_pieces (Val := Elt Ideal) (S := S1024x512) (e := .bf16) (above a b d) _ (fun p hp => ?_) y (View.cover_of_tiledBy _ ![512, 512] (by sl_kernel_rfl) y)
  rcases List.mem_pair.mp hp with rfl | rfl
  · intro x
    refine (above_hi a b d (x 0) (x 1)).symm.trans ?_
    refine congrArg (above a b d) (((eq_ix2 _).trans (congrArg₂ (ix2 (n0 := 1024) (n1 := 512)) (Fin.ext ?_) (Fin.ext ?_))).symm) <;> simp
    all_goals rfl
  · intro x
    refine (above_lo a b d (x 0) (x 1)).symm.trans ?_
    refine congrArg (above a b d) (((eq_ix2 _).trans (congrArg₂ (ix2 (n0 := 1024) (n1 := 512)) (Fin.ext ?_) (Fin.ext ?_))).symm) <;> simp
    all_goals rfl

/-- Column `r` of block `t`. -/
def bcol (t : Fin cfg0.N) (r : Fin 512) : Fin 1024 :=
  ⟨t.val * 512 + r.val, by have h : t.val < 2 := t.isLt; omega⟩

variable (m : (ℓ : Loc nD τ sig) → Buf (Elt Ideal) ℓ) (c : Dev nD)

/-- The device's arguments. -/
abbrev A : Mat 4096 512 := m ((c.tc : Thread nD τ).loc main_arg0)
abbrev B : Mat 4096 512 := m ((c.tc : Thread nD τ).loc main_arg1)
abbrev D : Mat 4096 1024 := m ((c.tc : Thread nD τ).loc main_arg2)

theorem entry0 : V m c main_v0 = A m c := by
  unfold V V0 hostOps0; simp only [List.flatten_cons, List.flatten_nil, List.append_nil]
  after_results; rfl
theorem entry1 : V m c main_v1 = B m c := by
  unfold V V0 hostOps0; simp only [List.flatten_cons, List.flatten_nil, List.append_nil]
  after_results; rfl
theorem entry2 : V m c main_v2 = D m c := by
  unfold V V0 hostOps0; simp only [List.flatten_cons, List.flatten_nil, List.append_nil]
  after_results; rfl

theorem iblk0 (t : Fin cfg0.N) : iblk m c 0 t = A m c := by
  have e : ∀ t : Fin cfg0.N, win0_0.index t = ![0, 0] := (by decide +kernel : ∀ t : Fin grid0.N, _)
  funext j
  unfold iblk; rw [View.read_apply]
  refine (congrFun (entry0 m c) _).trans (congrArg (A m c) (funext fun k => Fin.ext ?_))
  match k with
  | ⟨0, _⟩ => blk_simp [e]; try rfl
  | ⟨1, _⟩ => blk_simp [e]; try rfl
theorem iblk1 (t : Fin cfg0.N) : iblk m c 1 t = B m c := by
  have e : ∀ t : Fin cfg0.N, win0_1.index t = ![0, 0] := (by decide +kernel : ∀ t : Fin grid0.N, _)
  funext j
  unfold iblk; rw [View.read_apply]
  refine (congrFun (entry1 m c) _).trans (congrArg (B m c) (funext fun k => Fin.ext ?_))
  match k with
  | ⟨0, _⟩ => blk_simp [e]; try rfl
  | ⟨1, _⟩ => blk_simp [e]; try rfl
theorem iblk2 (t : Fin cfg0.N) : iblk m c 2 t = fun i => D m c (ix2 (i 0) (bcol t (i 1))) := by
  have e : ∀ t : Fin cfg0.N, win0_2.index t = ![0, t.val] := (by decide +kernel : ∀ t : Fin grid0.N, _)
  funext j
  unfold iblk; rw [View.read_apply]
  refine (congrFun (entry2 m c) _).trans (congrArg (D m c) (funext fun k => Fin.ext ?_))
  match k with
  | ⟨0, _⟩ => blk_simp [e]; try rfl
  | ⟨1, _⟩ => blk_simp [e]; try rfl

theorem block3 (t : Fin cfg0.N) : out0_3 (iblk m c 0 t) (iblk m c 1 t) (iblk m c 2 t)
    = fun y : (⟨2, ![1024, 512]⟩ : Shape).Idx => above (A m c) (B m c) (D m c) (ix2 (y 0) (bcol t (y 1))) := by
  unfold out0_3; frame_out
  rw [iblk0, iblk1, iblk2]; exact stored _ _ _ _ _

theorem arr3 : (dats m 0 c).arrAt 3 cfg0.N = above (A m c) (B m c) (D m c) := by
  have e : ∀ t : Fin cfg0.N, win0_3.index t = ![0, t.val] := (by decide +kernel : ∀ t : Fin grid0.N, _)
  refine (dats m 0 c).arrAt_eq_of_covers 3 _ (by decide +kernel) fun t _ y => ?_
  blk_simp
  rw [after0_3, block3]
  refine congrArg (above (A m c) (B m c) (D m c)) (((eq_ix2 _).trans (congrArg₂ (ix2 (n0 := 1024) (n1 := 1024)) (Fin.ext ?_) (Fin.ext ?_))).symm) <;> dsimp only [bcol] <;> blk_simp [e] <;> rfl

theorem tail3 : Pipeline.afterTail₀ cfgs (dats m) 0 (V0 m) [hostOps1] c main_v4 = above (A m c) (B m c) (D m c) := by
  have e : Pipeline.withArrays (cfgs 0).spec c (V0 m c) (fun w => (dats m 0 c).arrAt w (cfgs 0).N) (Proc.devRef .tc main_v3) = _ :=
    (Pipeline.withArrays_arr spec0 winFacts0.arr_inj c (V0 m c) (fun w => (dats m 0 c).arrAt w (cfgs 0).N) 3).trans (arr3 m c)
  unfold Pipeline.afterTail₀ hostOps1
  simp only [List.flatten_cons, List.flatten_nil, List.append_nil]
  after_results
  rw [e]; rfl

end Kernel

section Reference

open Cert.Reference18Ideal Cert.Reference18Ideal.Read

/-- Two matrices of 512 columns side by side. -/
abbrev beside (a b : Mat 4096 512) : Mat 4096 1024 := fun i =>
  if h : (i 1).val < 512 then a (ix2 (i 0) ⟨(i 1).val, h⟩) else b (ix2 (i 0) ⟨(i 1).val - 512, by have h : (i 1).val < 1024 := (i 1).isLt; omega⟩)

theorem v0_eq (a b : Mat 4096 512) : val_main_v0 (F := Ideal) a b = beside a b := by
  unfold val_main_v0
  funext i
  obtain ⟨r, c, rfl⟩ : ∃ r c, i = ix2 r c := ⟨_, _, eq_ix2 i⟩
  by_cases hc : c.val < 512
  · rw [show beside a b (ix2 r c) = a (ix2 r ⟨c.val, hc⟩) from dif_pos hc]
    exact concatenate_pair_apply_left (t := S4096x1024) 1 a b Gen.concatenates_S4096x512_S4096x512_S4096x1024_d1 (ix2 r c) rfl (ix2 r ⟨c.val, hc⟩) fun x => match x with | 0 => rfl | 1 => rfl
  · rw [show beside a b (ix2 r c) = b (ix2 r ⟨c.val - 512, by omega⟩) from dif_neg hc]
    refine concatenate_pair_apply_right (t := S4096x1024) 1 a b Gen.concatenates_S4096x512_S4096x512_S4096x1024_d1 (ix2 r c) rfl rfl (ix2 r ⟨c.val - 512, by omega⟩) ?_ ?_
    · intro x hx
      match x with
      | 0 => rfl
      | 1 => exact absurd rfl hx
    · show c.val - 512 + 512 = c.val; omega

theorem reference_eq (a b : Mat 4096 512) (d : Mat 4096 1024) : val_main_v2 (F := Ideal) a b d = above a b d := by
  unfold val_main_v2 val_main_v1
  refine (hostNN none _ _ _).trans ?_
  rw [v0_eq, transposed]
  funext j
  show ∑ k, beside a b (ix2 k (j 0)) * d (ix2 k (j 1)) = above a b d j
  by_cases h : (j 0).val < 512
  · rw [show above a b d j = _ from dif_pos h]
    exact Finset.sum_congr rfl fun k _ => congrArg (· * d (ix2 k (j 1))) (dif_pos h)
  · rw [show above a b d j = _ from dif_neg h]
    exact Finset.sum_congr rfl fun k _ => congrArg (· * d (ix2 k (j 1))) (dif_neg h)

end Reference

/-- The reference leaves its arguments alone, and declares no semaphore. -/
theorem reference_frame : Cert.quiescent_Reference18Ideal := fun m ρ _ =>
  (θ_run Cert.Reference18Ideal.defs _ _).mono
    (fun r h => ⟨fun c => (h c).2, sem_eq_zero_of_no_sems (by decide) r.2⟩) (Reference18Ideal.Value.run (F := Ideal) m ρ)

/-- The kernel's frame at the machine's floats: the printed form differs only in its name. -/
theorem frame_kernel : Cert.quiescent_Kernel18 := fun m ρ _ => Eq.mp (by sl_kernel_rfl) (Kernel18Ideal.Gen.frame (F := Bits) m ρ)

theorem algebraic : Cert.algebraic_Kernel18Ideal_Reference18Ideal := by
  intro m ρ m' ρ' _ hagree
  refine ⟨fun c => above (A m c) (B m c) (D m c), θ_run_mono (θ_run_and (Kernel18Ideal.Gen.run_main m ρ) (Kernel18Ideal.Gen.unchanged m ρ)) ?_, ?_⟩
  · rintro r ⟨hr, hu⟩ c
    exact ⟨(hr.rest_eq c _ (by decide)).trans (tail3 m c), hu c⟩
  · refine θ_run_mono (Reference18Ideal.Value.run (F := Ideal) m' ρ') ?_
    intro r hr c
    obtain ⟨h0, hu⟩ := hr c
    obtain ⟨e0, e1, e2⟩ := hagree c
    refine ⟨h0.trans ?_, hu⟩
    rw [Reference18Ideal.Read.val_main_v2_eq, e0, e1, e2]
    exact reference_eq _ _ _

end Cert.OutWeight

end
-- ==== Proof.lean ====
module

public import proofs.«01_k».proof.Proof.Gen.ReferenceIdeal.Read
public import proofs.«01_k».proof.Defs
public import proofs.«01_k».proof.Proof.NormClaim
public import proofs.«01_k».proof.Proof.ReadClaim
public import proofs.«01_k».proof.Proof.ActClaim
public import proofs.«01_k».proof.Proof.TapsClaim
public import proofs.«01_k».proof.Proof.InClaim
public import proofs.«01_k».proof.Proof.MixClaim
public import proofs.«01_k».proof.Proof.LossClaim
public import proofs.«01_k».proof.Proof.RecurClaim
public import proofs.«01_k».proof.Proof.ScanClaim
public import proofs.«01_k».proof.Proof.UpdateClaim
public import proofs.«01_k».proof.Proof.ParamsClaim
public import proofs.«01_k».proof.Proof.ProjectClaim
public import proofs.«01_k».proof.Proof.GateClaim
public import proofs.«01_k».proof.Proof.UpClaim
public import proofs.«01_k».proof.Proof.ConvClaim
public import proofs.«01_k».proof.Proof.StepClaim
public import proofs.«01_k».proof.Proof.FirstClaim
public import proofs.«01_k».proof.Proof.WeightClaim
public import proofs.«01_k».proof.Proof.MixOutClaim
public import proofs.«01_k».proof.Proof.OutWeightClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Pre_s5_read_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.RunC
public import proofs.«01_k».proof.Proof.Gen.Reference3Ideal
public import proofs.«01_k».proof.Proof.Gen.Reference3Ideal.Read
public import proofs.«01_k».proof.Proof.Gen.Pre_ffn_act_finite
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Pre_conv_taps_finite
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Pre_ffn_in_finite
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Pre_mix_in_finite
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Pre_norm_loss_finite
public import proofs.«01_k».proof.Proof.Gen.Kernel8
public import proofs.«01_k».proof.Proof.Gen.Kernel19
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Read
public import proofs.«01_k».proof.Proof.Gen.Pre_mix_project_finite
public import proofs.«01_k».proof.Proof.Gen.Pre_s5_gate_finite
public import proofs.«01_k».proof.Proof.Gen.Pre_mix_out_up_finite
public import proofs.«01_k».proof.Proof.Gen.Pre_conv_module_finite
public import proofs.«01_k».proof.Proof.Gen.Kernel15
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Read
public import proofs.«01_k».proof.Proof.Gen.Pre_norm_up_finite
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel20
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_conv_norm_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts,
  Cert.Kernel20.Gen.facts, Cert.Kernel20Ideal.Gen.facts, Cert.Reference20Ideal.Gen.facts,
  Cert.Pre_conv_norm_finite.Gen.facts, Cert.Pre_s5_read_finite.Gen.facts, Cert.Pre_ffn_act_finite.Gen.facts, Cert.Pre_conv_taps_finite.Gen.facts,
  Cert.Pre_ffn_in_finite.Gen.facts, Cert.Pre_mix_in_finite.Gen.facts, Cert.Pre_norm_loss_finite.Gen.facts,
  Cert.Pre_mix_project_finite.Gen.facts, Cert.Pre_s5_gate_finite.Gen.facts, Cert.Pre_mix_out_up_finite.Gen.facts, Cert.Pre_conv_module_finite.Gen.facts, Cert.Pre_norm_up_finite.Gen.facts,
  fun m ρ _ => Cert.Kernel.Gen.frame m ρ, fun m ρ _ => Cert.KernelIdeal.Gen.frame m ρ, fun m ρ _ => Cert.KernelIdeal.Gen.frame m ρ,
  Cert.ConvNorm.reference_frame, fun m ρ _ => Cert.ConvNorm.reference_frame m ρ trivial,
  fun m ρ _ => Cert.Kernel2.Gen.frame m ρ, fun m ρ _ => Cert.Kernel2Ideal.Gen.frame m ρ, fun m ρ _ => Cert.Kernel2Ideal.Gen.frame m ρ,
  Cert.Read.reference_frame, fun m ρ _ => Cert.Read.reference_frame m ρ trivial,
  Cert.Act.frame_kernel, Cert.Act.frame_kernel_ideal, fun m ρ _ => Cert.Act.frame_kernel_ideal m ρ trivial,
  Cert.Act.reference_frame, fun m ρ _ => Cert.Act.reference_frame m ρ trivial,
  Cert.Taps.frame_kernel, fun m ρ _ => Cert.Kernel4Ideal.Gen.frame m ρ, fun m ρ _ => Cert.Kernel4Ideal.Gen.frame m ρ,
  Cert.Taps.reference_frame, fun m ρ _ => Cert.Taps.reference_frame m ρ trivial,
  Cert.In.frame_kernel, fun m ρ _ => Cert.Kernel5Ideal.Gen.frame m ρ, fun m ρ _ => Cert.Kernel5Ideal.Gen.frame m ρ,
  Cert.In.reference_frame, fun m ρ _ => Cert.In.reference_frame m ρ trivial,
  Cert.Mix.frame_kernel, fun m ρ _ => Cert.Kernel6Ideal.Gen.frame m ρ, fun m ρ _ => Cert.Kernel6Ideal.Gen.frame m ρ,
  Cert.Mix.reference_frame, fun m ρ _ => Cert.Mix.reference_frame m ρ trivial,
  Cert.Loss.frame_kernel, fun m ρ _ => Cert.Kernel7Ideal.Gen.frame m ρ, fun m ρ _ => Cert.Kernel7Ideal.Gen.frame m ρ,
  Cert.Loss.reference_frame, fun m ρ _ => Cert.Loss.reference_frame m ρ trivial,
  Cert.Recur.frame_kernel, Cert.Recur.frame_ideal,
  Cert.Params.frame_kernel, fun m ρ _ => Cert.Kernel9Ideal.Gen.frame m ρ, Cert.Params.reference_frame,
  Cert.Project.frame_kernel, fun m ρ _ => Cert.Kernel10Ideal.Gen.frame m ρ, fun m ρ _ => Cert.Kernel10Ideal.Gen.frame m ρ,
  Cert.Project.reference_frame, fun m ρ _ => Cert.Project.reference_frame m ρ trivial,
  Cert.Read.Forward.frame_kernel, fun m ρ _ => Cert.Kernel11Ideal.Gen.frame m ρ, fun m ρ _ => Cert.Kernel11Ideal.Gen.frame m ρ,
  Cert.Read.Forward.reference_frame, fun m ρ _ => Cert.Read.Forward.reference_frame m ρ trivial,
  Cert.Up.frame_kernel, fun m ρ _ => Cert.Kernel12Ideal.Gen.frame m ρ, fun m ρ _ => Cert.Kernel12Ideal.Gen.frame m ρ,
  Cert.Up.reference_frame, fun m ρ _ => Cert.Up.reference_frame m ρ trivial,
  Cert.Conv.frame_kernel, fun m ρ _ => Cert.Kernel13Ideal.Gen.frame m ρ, fun m ρ _ => Cert.Kernel13Ideal.Gen.frame m ρ,
  Cert.Conv.reference_frame, fun m ρ _ => Cert.Conv.reference_frame m ρ trivial,
  Cert.Step.frame_kernel, fun m ρ _ => Cert.Kernel14Ideal.Gen.frame m ρ, Cert.Step.reference_frame,
  Cert.First.frame_kernel, fun m ρ _ => Cert.Kernel15Ideal.Gen.frame m ρ, fun m ρ _ => Cert.Kernel15Ideal.Gen.frame m ρ,
  Cert.First.reference_frame, fun m ρ _ => Cert.First.reference_frame m ρ trivial,
  Cert.Weight.frame_kernel, fun m ρ _ => Cert.Kernel16Ideal.Gen.frame m ρ, Cert.Weight.reference_frame,
  Cert.MixOut.frame_kernel, fun m ρ _ => Cert.Kernel17Ideal.Gen.frame m ρ, Cert.MixOut.reference_frame,
  Cert.OutWeight.frame_kernel, fun m ρ _ => Cert.Kernel18Ideal.Gen.frame m ρ, Cert.OutWeight.reference_frame,
  Cert.Scan.frame_kernel, Cert.Scan.frame_ideal,
  Cert.Update.frame_kernel, fun m ρ _ => Cert.Kernel20Ideal.Gen.frame m ρ, Cert.Update.reference_frame,
  trivial, Cert.ConvNorm.algebraic, trivial, Cert.Read.algebraic, trivial, Cert.Act.algebraic, trivial, Cert.Taps.algebraic,
  trivial, Cert.In.algebraic, trivial, Cert.Mix.algebraic, trivial, Cert.Loss.algebraic, trivial,
  trivial, Cert.Params.algebraic, trivial, Cert.Project.algebraic, trivial, Cert.Read.Forward.algebraic, trivial, Cert.Up.algebraic,
  trivial, Cert.Conv.algebraic, trivial, Cert.Step.algebraic, trivial, Cert.First.algebraic, trivial, Cert.Weight.algebraic,
  trivial, Cert.MixOut.algebraic, trivial, Cert.OutWeight.algebraic, trivial,
  trivial, Cert.Update.algebraic⟩

end Cert.Proof

end
